-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownGradRefIdeal (m : (ℓ : Loc Cert.DownGradRefIdeal.nD Cert.DownGradRefIdeal.τ Cert.DownGradRefIdeal.sig) → Buf (Elt Ideal) ℓ) : Prop :=
  True

def Pre_DownBack (m : (ℓ : Loc Cert.DownBack.nD Cert.DownBack.τ Cert.DownBack.sig) → Buf (Elt Bits) ℓ) : Prop :=
  True

def Pre_DownBackIdeal (m : (ℓ : Loc Cert.DownBackIdeal.nD Cert.DownBackIdeal.τ Cert.DownBackIdeal.sig) → Buf (Elt Ideal) ℓ) : Prop :=
  True

def Pre_DownBackRefIdeal (m : (ℓ : Loc Cert.DownBackRefIdeal.nD Cert.DownBackRefIdeal.τ Cert.DownBackRefIdeal.sig) → Buf (Elt Ideal) ℓ) : Prop :=
  True

def Pre_UpGrad (m : (ℓ : Loc Cert.UpGrad.nD Cert.UpGrad.τ Cert.UpGrad.sig) → Buf (Elt Bits) ℓ) : Prop :=
  True

def Pre_UpGradIdeal (m : (ℓ : Loc Cert.UpGradIdeal.nD Cert.UpGradIdeal.τ Cert.UpGradIdeal.sig) → Buf (Elt Ideal) ℓ) : Prop :=
  True

def Pre_UpGradRefIdeal (m : (ℓ : Loc Cert.UpGradRefIdeal.nD Cert.UpGradRefIdeal.τ Cert.UpGradRefIdeal.sig) → Buf (Elt Ideal) ℓ) : Prop :=
  True

def Pre_UpBackG (m : (ℓ : Loc Cert.UpBackG.nD Cert.UpBackG.τ Cert.UpBackG.sig) → Buf (Elt Bits) ℓ) : Prop :=
  True

def Pre_UpBackGIdeal (m : (ℓ : Loc Cert.UpBackGIdeal.nD Cert.UpBackGIdeal.τ Cert.UpBackGIdeal.sig) → Buf (Elt Ideal) ℓ) : Prop :=
  True

def Pre_UpBackGRefIdeal (m : (ℓ : Loc Cert.UpBackGRefIdeal.nD Cert.UpBackGRefIdeal.τ Cert.UpBackGRefIdeal.sig) → Buf (Elt Ideal) ℓ) : Prop :=
  True

def Pre_UpBackV (m : (ℓ : Loc Cert.UpBackV.nD Cert.UpBackV.τ Cert.UpBackV.sig) → Buf (Elt Bits) ℓ) : Prop :=
  True

def Pre_UpBackVIdeal (m : (ℓ : Loc Cert.UpBackVIdeal.nD Cert.UpBackVIdeal.τ Cert.UpBackVIdeal.sig) → Buf (Elt Ideal) ℓ) : Prop :=
  True

def Pre_UpBackVRefIdeal (m : (ℓ : Loc Cert.UpBackVRefIdeal.nD Cert.UpBackVRefIdeal.τ Cert.UpBackVRefIdeal.sig) → Buf (Elt Ideal) ℓ) : Prop :=
  True

def Pre_OddXGrad (m : (ℓ : Loc Cert.OddXGrad.nD Cert.OddXGrad.τ Cert.OddXGrad.sig) → Buf (Elt Bits) ℓ) : Prop :=
  True

def Pre_OddXGradIdeal (m : (ℓ : Loc Cert.OddXGradIdeal.nD Cert.OddXGradIdeal.τ Cert.OddXGradIdeal.sig) → Buf (Elt Ideal) ℓ) : Prop :=
  True

def Pre_OddXGradRefIdeal (m : (ℓ : Loc Cert.OddXGradRefIdeal.nD Cert.OddXGradRefIdeal.τ Cert.OddXGradRefIdeal.sig) → Buf (Elt Ideal) ℓ) : Prop :=
  True

def Pre_OddXBack (m : (ℓ : Loc Cert.OddXBack.nD Cert.OddXBack.τ Cert.OddXBack.sig) → Buf (Elt Bits) ℓ) : Prop :=
  True

def Pre_OddXBackIdeal (m : (ℓ : Loc Cert.OddXBackIdeal.nD Cert.OddXBackIdeal.τ Cert.OddXBackIdeal.sig) → Buf (Elt Ideal) ℓ) : Prop :=
  True

def Pre_OddXBackRefIdeal (m : (ℓ : Loc Cert.OddXBackRefIdeal.nD Cert.OddXBackRefIdeal.τ Cert.OddXBackRefIdeal.sig) → Buf (Elt Ideal) ℓ) : Prop :=
  True

def Pre_OddOutGrad (m : (ℓ : Loc Cert.OddOutGrad.nD Cert.OddOutGrad.τ Cert.OddOutGrad.sig) → Buf (Elt Bits) ℓ) : Prop :=
  True

def Pre_OddOutGradIdeal (m : (ℓ : Loc Cert.OddOutGradIdeal.nD Cert.OddOutGradIdeal.τ Cert.OddOutGradIdeal.sig) → Buf (Elt Ideal) ℓ) : Prop :=
  True

def Pre_OddOutGradRefIdeal (m : (ℓ : Loc Cert.OddOutGradRefIdeal.nD Cert.OddOutGradRefIdeal.τ Cert.OddOutGradRefIdeal.sig) → Buf (Elt Ideal) ℓ) : Prop :=
  True

def Pre_OddOutBack (m : (ℓ : Loc Cert.OddOutBack.nD Cert.OddOutBack.τ Cert.OddOutBack.sig) → Buf (Elt Bits) ℓ) : Prop :=
  True

def Pre_OddOutBackIdeal (m : (ℓ : Loc Cert.OddOutBackIdeal.nD Cert.OddOutBackIdeal.τ Cert.OddOutBackIdeal.sig) → Buf (Elt Ideal) ℓ) : Prop :=
  True

def Pre_OddOutBackRefIdeal (m : (ℓ : Loc Cert.OddOutBackRefIdeal.nD Cert.OddOutBackRefIdeal.τ Cert.OddOutBackRefIdeal.sig) → Buf (Elt Ideal) ℓ) : Prop :=
  True

def Pre_OddZGrad (m : (ℓ : Loc Cert.OddZGrad.nD Cert.OddZGrad.τ Cert.OddZGrad.sig) → Buf (Elt Bits) ℓ) : Prop :=
  True

def Pre_OddZGradIdeal (m : (ℓ : Loc Cert.OddZGradIdeal.nD Cert.OddZGradIdeal.τ Cert.OddZGradIdeal.sig) → Buf (Elt Ideal) ℓ) : Prop :=
  True

def Pre_OddZGradRefIdeal (m : (ℓ : Loc Cert.OddZGradRefIdeal.nD Cert.OddZGradRefIdeal.τ Cert.OddZGradRefIdeal.sig) → Buf (Elt Ideal) ℓ) : Prop :=
  True

def Pre_OddZBack (m : (ℓ : Loc Cert.OddZBack.nD Cert.OddZBack.τ Cert.OddZBack.sig) → Buf (Elt Bits) ℓ) : Prop :=
  True

def Pre_OddZBackIdeal (m : (ℓ : Loc Cert.OddZBackIdeal.nD Cert.OddZBackIdeal.τ Cert.OddZBackIdeal.sig) → Buf (Elt Ideal) ℓ) : Prop :=
  True

def Pre_OddZBackRefIdeal (m : (ℓ : Loc Cert.OddZBackRefIdeal.nD Cert.OddZBackRefIdeal.τ Cert.OddZBackRefIdeal.sig) → Buf (Elt Ideal) ℓ) : Prop :=
  True

def Pre_EvenInGrad (m : (ℓ : Loc Cert.EvenInGrad.nD Cert.EvenInGrad.τ Cert.EvenInGrad.sig) → Buf (Elt Bits) ℓ) : Prop :=
  True

def Pre_EvenInGradIdeal (m : (ℓ : Loc Cert.EvenInGradIdeal.nD Cert.EvenInGradIdeal.τ Cert.EvenInGradIdeal.sig) → Buf (Elt Ideal) ℓ) : Prop :=
  True

def Pre_EvenInGradRefIdeal (m : (ℓ : Loc Cert.EvenInGradRefIdeal.nD Cert.EvenInGradRefIdeal.τ Cert.EvenInGradRefIdeal.sig) → Buf (Elt Ideal) ℓ) : Prop :=
  True

def Pre_ConvBack (m : (ℓ : Loc Cert.ConvBack.nD Cert.ConvBack.τ Cert.ConvBack.sig) → Buf (Elt Bits) ℓ) : Prop :=
  True

def Pre_ConvBackIdeal (m : (ℓ : Loc Cert.ConvBackIdeal.nD Cert.ConvBackIdeal.τ Cert.ConvBackIdeal.sig) → Buf (Elt Ideal) ℓ) : Prop :=
  True

def Pre_ConvBackRefIdeal (m : (ℓ : Loc Cert.ConvBackRefIdeal.nD Cert.ConvBackRefIdeal.τ Cert.ConvBackRefIdeal.sig) → Buf (Elt Ideal) ℓ) : Prop :=
  True

def Pre_QkvBack (m : (ℓ : Loc Cert.QkvBack.nD Cert.QkvBack.τ Cert.QkvBack.sig) → Buf (Elt Bits) ℓ) : Prop :=
  True

def Pre_QkvBackIdeal (m : (ℓ : Loc Cert.QkvBackIdeal.nD Cert.QkvBackIdeal.τ Cert.QkvBackIdeal.sig) → Buf (Elt Ideal) ℓ) : Prop :=
  True

def Pre_QkvBackRefIdeal (m : (ℓ : Loc Cert.QkvBackRefIdeal.nD Cert.QkvBackRefIdeal.τ Cert.QkvBackRefIdeal.sig) → Buf (Elt Ideal) ℓ) : Prop :=
  True

def Pre_GateGrad (m : (ℓ : Loc Cert.GateGrad.nD Cert.GateGrad.τ Cert.GateGrad.sig) → Buf (Elt Bits) ℓ) : Prop :=
  True

def Pre_GateGradIdeal (m : (ℓ : Loc Cert.GateGradIdeal.nD Cert.GateGradIdeal.τ Cert.GateGradIdeal.sig) → Buf (Elt Ideal) ℓ) : Prop :=
  True

def Pre_GateGradRefIdeal (m : (ℓ : Loc Cert.GateGradRefIdeal.nD Cert.GateGradRefIdeal.τ Cert.GateGradRefIdeal.sig) → Buf (Elt Ideal) ℓ) : Prop :=
  True

def Pre_GateBack (m : (ℓ : Loc Cert.GateBack.nD Cert.GateBack.τ Cert.GateBack.sig) → Buf (Elt Bits) ℓ) : Prop :=
  True

def Pre_GateBackIdeal (m : (ℓ : Loc Cert.GateBackIdeal.nD Cert.GateBackIdeal.τ Cert.GateBackIdeal.sig) → Buf (Elt Ideal) ℓ) : Prop :=
  True

def Pre_GateBackRefIdeal (m : (ℓ : Loc Cert.GateBackRefIdeal.nD Cert.GateBackRefIdeal.τ Cert.GateBackRefIdeal.sig) → Buf (Elt Ideal) ℓ) : Prop :=
  True

def Pre_ProjGrad (m : (ℓ : Loc Cert.ProjGrad.nD Cert.ProjGrad.τ Cert.ProjGrad.sig) → Buf (Elt Bits) ℓ) : Prop :=
  True

def Pre_ProjGradIdeal (m : (ℓ : Loc Cert.ProjGradIdeal.nD Cert.ProjGradIdeal.τ Cert.ProjGradIdeal.sig) → Buf (Elt Ideal) ℓ) : Prop :=
  True

def Pre_ProjGradRefIdeal (m : (ℓ : Loc Cert.ProjGradRefIdeal.nD Cert.ProjGradRefIdeal.τ Cert.ProjGradRefIdeal.sig) → Buf (Elt Ideal) ℓ) : Prop :=
  True

def Pre_EvenOutBack (m : (ℓ : Loc Cert.EvenOutBack.nD Cert.EvenOutBack.τ Cert.EvenOutBack.sig) → Buf (Elt Bits) ℓ) : Prop :=
  True

def Pre_EvenOutBackIdeal (m : (ℓ : Loc Cert.EvenOutBackIdeal.nD Cert.EvenOutBackIdeal.τ Cert.EvenOutBackIdeal.sig) → Buf (Elt Ideal) ℓ) : Prop :=
  True

def Pre_EvenOutBackRefIdeal (m : (ℓ : Loc Cert.EvenOutBackRefIdeal.nD Cert.EvenOutBackRefIdeal.τ Cert.EvenOutBackRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_OddX (m : (ℓ : Loc Cert.OddX.nD Cert.OddX.τ Cert.OddX.sig) → Buf (Elt Bits) ℓ) : Prop :=
  True

def Pre_OddXIdeal (m : (ℓ : Loc Cert.OddXIdeal.nD Cert.OddXIdeal.τ Cert.OddXIdeal.sig) → Buf (Elt Ideal) ℓ) : Prop :=
  True

def Pre_OddXRefIdeal (m : (ℓ : Loc Cert.OddXRefIdeal.nD Cert.OddXRefIdeal.τ Cert.OddXRefIdeal.sig) → Buf (Elt Ideal) ℓ) : Prop :=
  True

def Pre_OddZ (m : (ℓ : Loc Cert.OddZ.nD Cert.OddZ.τ Cert.OddZ.sig) → Buf (Elt Bits) ℓ) : Prop :=
  True

def Pre_OddZIdeal (m : (ℓ : Loc Cert.OddZIdeal.nD Cert.OddZIdeal.τ Cert.OddZIdeal.sig) → Buf (Elt Ideal) ℓ) : Prop :=
  True

def Pre_OddZRefIdeal (m : (ℓ : Loc Cert.OddZRefIdeal.nD Cert.OddZRefIdeal.τ Cert.OddZRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_EvenConv (m : (ℓ : Loc Cert.EvenConv.nD Cert.EvenConv.τ Cert.EvenConv.sig) → Buf (Elt Bits) ℓ) : Prop :=
  True

def Pre_EvenConvIdeal (m : (ℓ : Loc Cert.EvenConvIdeal.nD Cert.EvenConvIdeal.τ Cert.EvenConvIdeal.sig) → Buf (Elt Ideal) ℓ) : Prop :=
  True

def Pre_EvenConvRefIdeal (m : (ℓ : Loc Cert.EvenConvRefIdeal.nD Cert.EvenConvRefIdeal.τ Cert.EvenConvRefIdeal.sig) → Buf (Elt Ideal) ℓ) : Prop :=
  True

def Pre_EvenQkv (m : (ℓ : Loc Cert.EvenQkv.nD Cert.EvenQkv.τ Cert.EvenQkv.sig) → Buf (Elt Bits) ℓ) : Prop :=
  True

def Pre_EvenQkvIdeal (m : (ℓ : Loc Cert.EvenQkvIdeal.nD Cert.EvenQkvIdeal.τ Cert.EvenQkvIdeal.sig) → Buf (Elt Ideal) ℓ) : Prop :=
  True

def Pre_EvenQkvRefIdeal (m : (ℓ : Loc Cert.EvenQkvRefIdeal.nD Cert.EvenQkvRefIdeal.τ Cert.EvenQkvRefIdeal.sig) → Buf (Elt Ideal) ℓ) : Prop :=
  True

def Pre_PleGate (m : (ℓ : Loc Cert.PleGate.nD Cert.PleGate.τ Cert.PleGate.sig) → Buf (Elt Bits) ℓ) : Prop :=
  True

def Pre_PleGateIdeal (m : (ℓ : Loc Cert.PleGateIdeal.nD Cert.PleGateIdeal.τ Cert.PleGateIdeal.sig) → Buf (Elt Ideal) ℓ) : Prop :=
  True

def Pre_PleGateRefIdeal (m : (ℓ : Loc Cert.PleGateRefIdeal.nD Cert.PleGateRefIdeal.τ Cert.PleGateRefIdeal.sig) → Buf (Elt Ideal) ℓ) : Prop :=
  True

def Pre_PleProj (m : (ℓ : Loc Cert.PleProj.nD Cert.PleProj.τ Cert.PleProj.sig) → Buf (Elt Bits) ℓ) : Prop :=
  True

def Pre_PleProjIdeal (m : (ℓ : Loc Cert.PleProjIdeal.nD Cert.PleProjIdeal.τ Cert.PleProjIdeal.sig) → Buf (Elt Ideal) ℓ) : Prop :=
  True

def Pre_PleProjRefIdeal (m : (ℓ : Loc Cert.PleProjRefIdeal.nD Cert.PleProjRefIdeal.τ Cert.PleProjRefIdeal.sig) → Buf (Elt Ideal) ℓ) : Prop :=
  True

def Pre_AdamEvenIn (m : (ℓ : Loc Cert.AdamEvenIn.nD Cert.AdamEvenIn.τ Cert.AdamEvenIn.sig) → Buf (Elt Bits) ℓ) : Prop :=
  True

def Pre_AdamEvenInIdeal (m : (ℓ : Loc Cert.AdamEvenInIdeal.nD Cert.AdamEvenInIdeal.τ Cert.AdamEvenInIdeal.sig) → Buf (Elt Ideal) ℓ) : Prop :=
  True

def Pre_AdamEvenInRefIdeal (m : (ℓ : Loc Cert.AdamEvenInRefIdeal.nD Cert.AdamEvenInRefIdeal.τ Cert.AdamEvenInRefIdeal.sig) → Buf (Elt Ideal) ℓ) : Prop :=
  True

def Pre_AdamEvenOut (m : (ℓ : Loc Cert.AdamEvenOut.nD Cert.AdamEvenOut.τ Cert.AdamEvenOut.sig) → Buf (Elt Bits) ℓ) : Prop :=
  True

def Pre_AdamEvenOutIdeal (m : (ℓ : Loc Cert.AdamEvenOutIdeal.nD Cert.AdamEvenOutIdeal.τ Cert.AdamEvenOutIdeal.sig) → Buf (Elt Ideal) ℓ) : Prop :=
  True

def Pre_AdamEvenOutRefIdeal (m : (ℓ : Loc Cert.AdamEvenOutRefIdeal.nD Cert.AdamEvenOutRefIdeal.τ Cert.AdamEvenOutRefIdeal.sig) → Buf (Elt Ideal) ℓ) : Prop :=
  True

def Pre_AdamOddIn (m : (ℓ : Loc Cert.AdamOddIn.nD Cert.AdamOddIn.τ Cert.AdamOddIn.sig) → Buf (Elt Bits) ℓ) : Prop :=
  True

def Pre_AdamOddInIdeal (m : (ℓ : Loc Cert.AdamOddInIdeal.nD Cert.AdamOddInIdeal.τ Cert.AdamOddInIdeal.sig) → Buf (Elt Ideal) ℓ) : Prop :=
  True

def Pre_AdamOddInRefIdeal (m : (ℓ : Loc Cert.AdamOddInRefIdeal.nD Cert.AdamOddInRefIdeal.τ Cert.AdamOddInRefIdeal.sig) → Buf (Elt Ideal) ℓ) : Prop :=
  True

def Pre_AdamOddOut (m : (ℓ : Loc Cert.AdamOddOut.nD Cert.AdamOddOut.τ Cert.AdamOddOut.sig) → Buf (Elt Bits) ℓ) : Prop :=
  True

def Pre_AdamOddOutIdeal (m : (ℓ : Loc Cert.AdamOddOutIdeal.nD Cert.AdamOddOutIdeal.τ Cert.AdamOddOutIdeal.sig) → Buf (Elt Ideal) ℓ) : Prop :=
  True

def Pre_AdamOddOutRefIdeal (m : (ℓ : Loc Cert.AdamOddOutRefIdeal.nD Cert.AdamOddOutRefIdeal.τ Cert.AdamOddOutRefIdeal.sig) → Buf (Elt Ideal) ℓ) : Prop :=
  True

def Pre_AdamFfnUp (m : (ℓ : Loc Cert.AdamFfnUp.nD Cert.AdamFfnUp.τ Cert.AdamFfnUp.sig) → Buf (Elt Bits) ℓ) : Prop :=
  True

def Pre_AdamFfnUpIdeal (m : (ℓ : Loc Cert.AdamFfnUpIdeal.nD Cert.AdamFfnUpIdeal.τ Cert.AdamFfnUpIdeal.sig) → Buf (Elt Ideal) ℓ) : Prop :=
  True

def Pre_AdamFfnUpRefIdeal (m : (ℓ : Loc Cert.AdamFfnUpRefIdeal.nD Cert.AdamFfnUpRefIdeal.τ Cert.AdamFfnUpRefIdeal.sig) → Buf (Elt Ideal) ℓ) : Prop :=
  True

def Pre_AdamFfnDown (m : (ℓ : Loc Cert.AdamFfnDown.nD Cert.AdamFfnDown.τ Cert.AdamFfnDown.sig) → Buf (Elt Bits) ℓ) : Prop :=
  True

def Pre_AdamFfnDownIdeal (m : (ℓ : Loc Cert.AdamFfnDownIdeal.nD Cert.AdamFfnDownIdeal.τ Cert.AdamFfnDownIdeal.sig) → Buf (Elt Ideal) ℓ) : Prop :=
  True

def Pre_AdamFfnDownRefIdeal (m : (ℓ : Loc Cert.AdamFfnDownRefIdeal.nD Cert.AdamFfnDownRefIdeal.τ Cert.AdamFfnDownRefIdeal.sig) → Buf (Elt Ideal) ℓ) : Prop :=
  True

def Pre_AdamPleProj (m : (ℓ : Loc Cert.AdamPleProj.nD Cert.AdamPleProj.τ Cert.AdamPleProj.sig) → Buf (Elt Bits) ℓ) : Prop :=
  True

def Pre_AdamPleProjIdeal (m : (ℓ : Loc Cert.AdamPleProjIdeal.nD Cert.AdamPleProjIdeal.τ Cert.AdamPleProjIdeal.sig) → Buf (Elt Ideal) ℓ) : Prop :=
  True

def Pre_AdamPleProjRefIdeal (m : (ℓ : Loc Cert.AdamPleProjRefIdeal.nD Cert.AdamPleProjRefIdeal.τ Cert.AdamPleProjRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ r.2.sem = fun _ => 0)

def quiescent_DownGradRefIdeal [hDownGradRefIdeal : Cert.DownGradRefIdeal.Facts] : Prop :=
  ∀ (m : (ℓ : Loc Cert.DownGradRefIdeal.nD Cert.DownGradRefIdeal.τ Cert.DownGradRefIdeal.sig) → Buf (Elt Ideal) ℓ) (g : Dev Cert.DownGradRefIdeal.nD → PrngReg), Pre_DownGradRefIdeal m →
    θ_run (Cert.DownGradRefIdeal.defs (F := Ideal)) (onTc (τ := Cert.DownGradRefIdeal.τ) (Cert.DownGradRefIdeal.main (F := Ideal))) ⟨m, fun _ => 0, g⟩ (fun r => (∀ c : Dev Cert.DownGradRefIdeal.nD,
      r.2.mem ((c.tc : Thread Cert.DownGradRefIdeal.nD Cert.DownGradRefIdeal.τ).loc Cert.DownGradRefIdeal.main_arg0) = m ((c.tc : Thread Cert.DownGradRefIdeal.nD Cert.DownGradRefIdeal.τ).loc Cert.DownGradRefIdeal.main_arg0)
      ∧ r.2.mem ((c.tc : Thread Cert.DownGradRefIdeal.nD Cert.DownGradRefIdeal.τ).loc Cert.DownGradRefIdeal.main_arg1) = m ((c.tc : Thread Cert.DownGradRefIdeal.nD Cert.DownGradRefIdeal.τ).loc Cert.DownGradRefIdeal.main_arg1))
      ∧ r.2.sem = fun _ => 0)

def quiescent_DownBack [hDownBack : Cert.DownBack.Facts] : Prop :=
  ∀ (m : (ℓ : Loc Cert.DownBack.nD Cert.DownBack.τ Cert.DownBack.sig) → Buf (Elt Bits) ℓ) (g : Dev Cert.DownBack.nD → PrngReg), Pre_DownBack m →
    θ_run (Cert.DownBack.defs (F := Bits)) (onTc (τ := Cert.DownBack.τ) (Cert.DownBack.main (F := Bits))) ⟨m, fun _ => 0, g⟩ (fun r => (∀ c : Dev Cert.DownBack.nD,
      r.2.mem ((c.tc : Thread Cert.DownBack.nD Cert.DownBack.τ).loc Cert.DownBack.main_arg0) = m ((c.tc : Thread Cert.DownBack.nD Cert.DownBack.τ).loc Cert.DownBack.main_arg0)
      ∧ r.2.mem ((c.tc : Thread Cert.DownBack.nD Cert.DownBack.τ).loc Cert.DownBack.main_arg1) = m ((c.tc : Thread Cert.DownBack.nD Cert.DownBack.τ).loc Cert.DownBack.main_arg1))
      ∧ r.2.sem = fun _ => 0)

def quiescent_DownBackIdeal [hDownBackIdeal : Cert.DownBackIdeal.Facts] : Prop :=
  ∀ (m : (ℓ : Loc Cert.DownBackIdeal.nD Cert.DownBackIdeal.τ Cert.DownBackIdeal.sig) → Buf (Elt Ideal) ℓ) (g : Dev Cert.DownBackIdeal.nD → PrngReg), Pre_DownBackIdeal m →
    θ_run (Cert.DownBackIdeal.defs (F := Ideal)) (onTc (τ := Cert.DownBackIdeal.τ) (Cert.DownBackIdeal.main (F := Ideal))) ⟨m, fun _ => 0, g⟩ (fun r => (∀ c : Dev Cert.DownBackIdeal.nD,
      r.2.mem ((c.tc : Thread Cert.DownBackIdeal.nD Cert.DownBackIdeal.τ).loc Cert.DownBackIdeal.main_arg0) = m ((c.tc : Thread Cert.DownBackIdeal.nD Cert.DownBackIdeal.τ).loc Cert.DownBackIdeal.main_arg0)
      ∧ r.2.mem ((c.tc : Thread Cert.DownBackIdeal.nD Cert.DownBackIdeal.τ).loc Cert.DownBackIdeal.main_arg1) = m ((c.tc : Thread Cert.DownBackIdeal.nD Cert.DownBackIdeal.τ).loc Cert.DownBackIdeal.main_arg1))
      ∧ r.2.sem = fun _ => 0)

def quiescent_DownBackRefIdeal [hDownBackRefIdeal : Cert.DownBackRefIdeal.Facts] : Prop :=
  ∀ (m : (ℓ : Loc Cert.DownBackRefIdeal.nD Cert.DownBackRefIdeal.τ Cert.DownBackRefIdeal.sig) → Buf (Elt Ideal) ℓ) (g : Dev Cert.DownBackRefIdeal.nD → PrngReg), Pre_DownBackRefIdeal m →
    θ_run (Cert.DownBackRefIdeal.defs (F := Ideal)) (onTc (τ := Cert.DownBackRefIdeal.τ) (Cert.DownBackRefIdeal.main (F := Ideal))) ⟨m, fun _ => 0, g⟩ (fun r => (∀ c : Dev Cert.DownBackRefIdeal.nD,
      r.2.mem ((c.tc : Thread Cert.DownBackRefIdeal.nD Cert.DownBackRefIdeal.τ).loc Cert.DownBackRefIdeal.main_arg0) = m ((c.tc : Thread Cert.DownBackRefIdeal.nD Cert.DownBackRefIdeal.τ).loc Cert.DownBackRefIdeal.main_arg0)
      ∧ r.2.mem ((c.tc : Thread Cert.DownBackRefIdeal.nD Cert.DownBackRefIdeal.τ).loc Cert.DownBackRefIdeal.main_arg1) = m ((c.tc : Thread Cert.DownBackRefIdeal.nD Cert.DownBackRefIdeal.τ).loc Cert.DownBackRefIdeal.main_arg1))
      ∧ r.2.sem = fun _ => 0)

def quiescent_UpGrad [hUpGrad : Cert.UpGrad.Facts] : Prop :=
  ∀ (m : (ℓ : Loc Cert.UpGrad.nD Cert.UpGrad.τ Cert.UpGrad.sig) → Buf (Elt Bits) ℓ) (g : Dev Cert.UpGrad.nD → PrngReg), Pre_UpGrad m →
    θ_run (Cert.UpGrad.defs (F := Bits)) (onTc (τ := Cert.UpGrad.τ) (Cert.UpGrad.main (F := Bits))) ⟨m, fun _ => 0, g⟩ (fun r => (∀ c : Dev Cert.UpGrad.nD,
      r.2.mem ((c.tc : Thread Cert.UpGrad.nD Cert.UpGrad.τ).loc Cert.UpGrad.main_arg0) = m ((c.tc : Thread Cert.UpGrad.nD Cert.UpGrad.τ).loc Cert.UpGrad.main_arg0)
      ∧ r.2.mem ((c.tc : Thread Cert.UpGrad.nD Cert.UpGrad.τ).loc Cert.UpGrad.main_arg1) = m ((c.tc : Thread Cert.UpGrad.nD Cert.UpGrad.τ).loc Cert.UpGrad.main_arg1))
      ∧ r.2.sem = fun _ => 0)

def quiescent_UpGradIdeal [hUpGradIdeal : Cert.UpGradIdeal.Facts] : Prop :=
  ∀ (m : (ℓ : Loc Cert.UpGradIdeal.nD Cert.UpGradIdeal.τ Cert.UpGradIdeal.sig) → Buf (Elt Ideal) ℓ) (g : Dev Cert.UpGradIdeal.nD → PrngReg), Pre_UpGradIdeal m →
    θ_run (Cert.UpGradIdeal.defs (F := Ideal)) (onTc (τ := Cert.UpGradIdeal.τ) (Cert.UpGradIdeal.main (F := Ideal))) ⟨m, fun _ => 0, g⟩ (fun r => (∀ c : Dev Cert.UpGradIdeal.nD,
      r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
      ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ r.2.sem = fun _ => 0)

def quiescent_UpGradRefIdeal [hUpGradRefIdeal : Cert.UpGradRefIdeal.Facts] : Prop :=
  ∀ (m : (ℓ : Loc Cert.UpGradRefIdeal.nD Cert.UpGradRefIdeal.τ Cert.UpGradRefIdeal.sig) → Buf (Elt Ideal) ℓ) (g : Dev Cert.UpGradRefIdeal.nD → PrngReg), Pre_UpGradRefIdeal m →
    θ_run (Cert.UpGradRefIdeal.defs (F := Ideal)) (onTc (τ := Cert.UpGradRefIdeal.τ) (Cert.UpGradRefIdeal.main (F := Ideal))) ⟨m, fun _ => 0, g⟩ (fun r => (∀ c : Dev Cert.UpGradRefIdeal.nD,
      r.2.mem ((c.tc : Thread Cert.UpGradRefIdeal.nD Cert.UpGradRefIdeal.τ).loc Cert.UpGradRefIdeal.main_arg0) = m ((c.tc : Thread Cert.UpGradRefIdeal.nD Cert.UpGradRefIdeal.τ).loc Cert.UpGradRefIdeal.main_arg0)
      ∧ r.2.mem ((c.tc : Thread Cert.UpGradRefIdeal.nD Cert.UpGradRefIdeal.τ).loc Cert.UpGradRefIdeal.main_arg1) = m ((c.tc : Thread Cert.UpGradRefIdeal.nD Cert.UpGradRefIdeal.τ).loc Cert.UpGradRefIdeal.main_arg1))
      ∧ r.2.sem = fun _ => 0)

def quiescent_UpBackG [hUpBackG : Cert.UpBackG.Facts] : Prop :=
  ∀ (m : (ℓ : Loc Cert.UpBackG.nD Cert.UpBackG.τ Cert.UpBackG.sig) → Buf (Elt Bits) ℓ) (g : Dev Cert.UpBackG.nD → PrngReg), Pre_UpBackG m →
    θ_run (Cert.UpBackG.defs (F := Bits)) (onTc (τ := Cert.UpBackG.τ) (Cert.UpBackG.main (F := Bits))) ⟨m, fun _ => 0, g⟩ (fun r => (∀ c : Dev Cert.UpBackG.nD,
      r.2.mem ((c.tc : Thread Cert.UpBackG.nD Cert.UpBackG.τ).loc Cert.UpBackG.main_arg0) = m ((c.tc : Thread Cert.UpBackG.nD Cert.UpBackG.τ).loc Cert.UpBackG.main_arg0)
      ∧ r.2.mem ((c.tc : Thread Cert.UpBackG.nD Cert.UpBackG.τ).loc Cert.UpBackG.main_arg1) = m ((c.tc : Thread Cert.UpBackG.nD Cert.UpBackG.τ).loc Cert.UpBackG.main_arg1)
      ∧ r.2.mem ((c.tc : Thread Cert.UpBackG.nD Cert.UpBackG.τ).loc Cert.UpBackG.main_arg2) = m ((c.tc : Thread Cert.UpBackG.nD Cert.UpBackG.τ).loc Cert.UpBackG.main_arg2))
      ∧ r.2.sem = fun _ => 0)

def quiescent_UpBackGIdeal [hUpBackGIdeal : Cert.UpBackGIdeal.Facts] : Prop :=
  ∀ (m : (ℓ : Loc Cert.UpBackGIdeal.nD Cert.UpBackGIdeal.τ Cert.UpBackGIdeal.sig) → Buf (Elt Ideal) ℓ) (g : Dev Cert.UpBackGIdeal.nD → PrngReg), Pre_UpBackGIdeal m →
    θ_run (Cert.UpBackGIdeal.defs (F := Ideal)) (onTc (τ := Cert.UpBackGIdeal.τ) (Cert.UpBackGIdeal.main (F := Ideal))) ⟨m, fun _ => 0, g⟩ (fun r => (∀ c : Dev Cert.UpBackGIdeal.nD,
      r.2.mem ((c.tc : Thread Cert.UpBackGIdeal.nD Cert.UpBackGIdeal.τ).loc Cert.UpBackGIdeal.main_arg0) = m ((c.tc : Thread Cert.UpBackGIdeal.nD Cert.UpBackGIdeal.τ).loc Cert.UpBackGIdeal.main_arg0)
      ∧ r.2.mem ((c.tc : Thread Cert.UpBackGIdeal.nD Cert.UpBackGIdeal.τ).loc Cert.UpBackGIdeal.main_arg1) = m ((c.tc : Thread Cert.UpBackGIdeal.nD Cert.UpBackGIdeal.τ).loc Cert.UpBackGIdeal.main_arg1)
      ∧ r.2.mem ((c.tc : Thread Cert.UpBackGIdeal.nD Cert.UpBackGIdeal.τ).loc Cert.UpBackGIdeal.main_arg2) = m ((c.tc : Thread Cert.UpBackGIdeal.nD Cert.UpBackGIdeal.τ).loc Cert.UpBackGIdeal.main_arg2))
      ∧ r.2.sem = fun _ => 0)

def quiescent_UpBackGRefIdeal [hUpBackGRefIdeal : Cert.UpBackGRefIdeal.Facts] : Prop :=
  ∀ (m : (ℓ : Loc Cert.UpBackGRefIdeal.nD Cert.UpBackGRefIdeal.τ Cert.UpBackGRefIdeal.sig) → Buf (Elt Ideal) ℓ) (g : Dev Cert.UpBackGRefIdeal.nD → PrngReg), Pre_UpBackGRefIdeal m →
    θ_run (Cert.UpBackGRefIdeal.defs (F := Ideal)) (onTc (τ := Cert.UpBackGRefIdeal.τ) (Cert.UpBackGRefIdeal.main (F := Ideal))) ⟨m, fun _ => 0, g⟩ (fun r => (∀ c : Dev Cert.UpBackGRefIdeal.nD,
      r.2.mem ((c.tc : Thread Cert.UpBackGRefIdeal.nD Cert.UpBackGRefIdeal.τ).loc Cert.UpBackGRefIdeal.main_arg0) = m ((c.tc : Thread Cert.UpBackGRefIdeal.nD Cert.UpBackGRefIdeal.τ).loc Cert.UpBackGRefIdeal.main_arg0)
      ∧ r.2.mem ((c.tc : Thread Cert.UpBackGRefIdeal.nD Cert.UpBackGRefIdeal.τ).loc Cert.UpBackGRefIdeal.main_arg1) = m ((c.tc : Thread Cert.UpBackGRefIdeal.nD Cert.UpBackGRefIdeal.τ).loc Cert.UpBackGRefIdeal.main_arg1)
      ∧ r.2.mem ((c.tc : Thread Cert.UpBackGRefIdeal.nD Cert.UpBackGRefIdeal.τ).loc Cert.UpBackGRefIdeal.main_arg2) = m ((c.tc : Thread Cert.UpBackGRefIdeal.nD Cert.UpBackGRefIdeal.τ).loc Cert.UpBackGRefIdeal.main_arg2))
      ∧ r.2.sem = fun _ => 0)

def quiescent_UpBackV [hUpBackV : Cert.UpBackV.Facts] : Prop :=
  ∀ (m : (ℓ : Loc Cert.UpBackV.nD Cert.UpBackV.τ Cert.UpBackV.sig) → Buf (Elt Bits) ℓ) (g : Dev Cert.UpBackV.nD → PrngReg), Pre_UpBackV m →
    θ_run (Cert.UpBackV.defs (F := Bits)) (onTc (τ := Cert.UpBackV.τ) (Cert.UpBackV.main (F := Bits))) ⟨m, fun _ => 0, g⟩ (fun r => (∀ c : Dev Cert.UpBackV.nD,
      r.2.mem ((c.tc : Thread Cert.UpBackV.nD Cert.UpBackV.τ).loc Cert.UpBackV.main_arg0) = m ((c.tc : Thread Cert.UpBackV.nD Cert.UpBackV.τ).loc Cert.UpBackV.main_arg0)
      ∧ r.2.mem ((c.tc : Thread Cert.UpBackV.nD Cert.UpBackV.τ).loc Cert.UpBackV.main_arg1) = m ((c.tc : Thread Cert.UpBackV.nD Cert.UpBackV.τ).loc Cert.UpBackV.main_arg1)
      ∧ r.2.mem ((c.tc : Thread Cert.UpBackV.nD Cert.UpBackV.τ).loc Cert.UpBackV.main_arg2) = m ((c.tc : Thread Cert.UpBackV.nD Cert.UpBackV.τ).loc Cert.UpBackV.main_arg2))
      ∧ r.2.sem = fun _ => 0)

def quiescent_UpBackVIdeal [hUpBackVIdeal : Cert.UpBackVIdeal.Facts] : Prop :=
  ∀ (m : (ℓ : Loc Cert.UpBackVIdeal.nD Cert.UpBackVIdeal.τ Cert.UpBackVIdeal.sig) → Buf (Elt Ideal) ℓ) (g : Dev Cert.UpBackVIdeal.nD → PrngReg), Pre_UpBackVIdeal m →
    θ_run (Cert.UpBackVIdeal.defs (F := Ideal)) (onTc (τ := Cert.UpBackVIdeal.τ) (Cert.UpBackVIdeal.main (F := Ideal))) ⟨m, fun _ => 0, g⟩ (fun r => (∀ c : Dev Cert.UpBackVIdeal.nD,
      r.2.mem ((c.tc : Thread Cert.UpBackVIdeal.nD Cert.UpBackVIdeal.τ).loc Cert.UpBackVIdeal.main_arg0) = m ((c.tc : Thread Cert.UpBackVIdeal.nD Cert.UpBackVIdeal.τ).loc Cert.UpBackVIdeal.main_arg0)
      ∧ r.2.mem ((c.tc : Thread Cert.UpBackVIdeal.nD Cert.UpBackVIdeal.τ).loc Cert.UpBackVIdeal.main_arg1) = m ((c.tc : Thread Cert.UpBackVIdeal.nD Cert.UpBackVIdeal.τ).loc Cert.UpBackVIdeal.main_arg1)
      ∧ r.2.mem ((c.tc : Thread Cert.UpBackVIdeal.nD Cert.UpBackVIdeal.τ).loc Cert.UpBackVIdeal.main_arg2) = m ((c.tc : Thread Cert.UpBackVIdeal.nD Cert.UpBackVIdeal.τ).loc Cert.UpBackVIdeal.main_arg2))
      ∧ r.2.sem = fun _ => 0)

def quiescent_UpBackVRefIdeal [hUpBackVRefIdeal : Cert.UpBackVRefIdeal.Facts] : Prop :=
  ∀ (m : (ℓ : Loc Cert.UpBackVRefIdeal.nD Cert.UpBackVRefIdeal.τ Cert.UpBackVRefIdeal.sig) → Buf (Elt Ideal) ℓ) (g : Dev Cert.UpBackVRefIdeal.nD → PrngReg), Pre_UpBackVRefIdeal m →
    θ_run (Cert.UpBackVRefIdeal.defs (F := Ideal)) (onTc (τ := Cert.UpBackVRefIdeal.τ) (Cert.UpBackVRefIdeal.main (F := Ideal))) ⟨m, fun _ => 0, g⟩ (fun r => (∀ c : Dev Cert.UpBackVRefIdeal.nD,
      r.2.mem ((c.tc : Thread Cert.UpBackVRefIdeal.nD Cert.UpBackVRefIdeal.τ).loc Cert.UpBackVRefIdeal.main_arg0) = m ((c.tc : Thread Cert.UpBackVRefIdeal.nD Cert.UpBackVRefIdeal.τ).loc Cert.UpBackVRefIdeal.main_arg0)
      ∧ r.2.mem ((c.tc : Thread Cert.UpBackVRefIdeal.nD Cert.UpBackVRefIdeal.τ).loc Cert.UpBackVRefIdeal.main_arg1) = m ((c.tc : Thread Cert.UpBackVRefIdeal.nD Cert.UpBackVRefIdeal.τ).loc Cert.UpBackVRefIdeal.main_arg1)
      ∧ r.2.mem ((c.tc : Thread Cert.UpBackVRefIdeal.nD Cert.UpBackVRefIdeal.τ).loc Cert.UpBackVRefIdeal.main_arg2) = m ((c.tc : Thread Cert.UpBackVRefIdeal.nD Cert.UpBackVRefIdeal.τ).loc Cert.UpBackVRefIdeal.main_arg2))
      ∧ r.2.sem = fun _ => 0)

def quiescent_OddXGrad [hOddXGrad : Cert.OddXGrad.Facts] : Prop :=
  ∀ (m : (ℓ : Loc Cert.OddXGrad.nD Cert.OddXGrad.τ Cert.OddXGrad.sig) → Buf (Elt Bits) ℓ) (g : Dev Cert.OddXGrad.nD → PrngReg), Pre_OddXGrad m →
    θ_run (Cert.OddXGrad.defs (F := Bits)) (onTc (τ := Cert.OddXGrad.τ) (Cert.OddXGrad.main (F := Bits))) ⟨m, fun _ => 0, g⟩ (fun r => (∀ c : Dev Cert.OddXGrad.nD,
      r.2.mem ((c.tc : Thread Cert.OddXGrad.nD Cert.OddXGrad.τ).loc Cert.OddXGrad.main_arg0) = m ((c.tc : Thread Cert.OddXGrad.nD Cert.OddXGrad.τ).loc Cert.OddXGrad.main_arg0)
      ∧ r.2.mem ((c.tc : Thread Cert.OddXGrad.nD Cert.OddXGrad.τ).loc Cert.OddXGrad.main_arg1) = m ((c.tc : Thread Cert.OddXGrad.nD Cert.OddXGrad.τ).loc Cert.OddXGrad.main_arg1))
      ∧ r.2.sem = fun _ => 0)

def quiescent_OddXGradIdeal [hOddXGradIdeal : Cert.OddXGradIdeal.Facts] : Prop :=
  ∀ (m : (ℓ : Loc Cert.OddXGradIdeal.nD Cert.OddXGradIdeal.τ Cert.OddXGradIdeal.sig) → Buf (Elt Ideal) ℓ) (g : Dev Cert.OddXGradIdeal.nD → PrngReg), Pre_OddXGradIdeal m →
    θ_run (Cert.OddXGradIdeal.defs (F := Ideal)) (onTc (τ := Cert.OddXGradIdeal.τ) (Cert.OddXGradIdeal.main (F := Ideal))) ⟨m, fun _ => 0, g⟩ (fun r => (∀ c : Dev Cert.OddXGradIdeal.nD,
      r.2.mem ((c.tc : Thread Cert.OddXGradIdeal.nD Cert.OddXGradIdeal.τ).loc Cert.OddXGradIdeal.main_arg0) = m ((c.tc : Thread Cert.OddXGradIdeal.nD Cert.OddXGradIdeal.τ).loc Cert.OddXGradIdeal.main_arg0)
      ∧ r.2.mem ((c.tc : Thread Cert.OddXGradIdeal.nD Cert.OddXGradIdeal.τ).loc Cert.OddXGradIdeal.main_arg1) = m ((c.tc : Thread Cert.OddXGradIdeal.nD Cert.OddXGradIdeal.τ).loc Cert.OddXGradIdeal.main_arg1))
      ∧ r.2.sem = fun _ => 0)

def quiescent_OddXGradRefIdeal [hOddXGradRefIdeal : Cert.OddXGradRefIdeal.Facts] : Prop :=
  ∀ (m : (ℓ : Loc Cert.OddXGradRefIdeal.nD Cert.OddXGradRefIdeal.τ Cert.OddXGradRefIdeal.sig) → Buf (Elt Ideal) ℓ) (g : Dev Cert.OddXGradRefIdeal.nD → PrngReg), Pre_OddXGradRefIdeal m →
    θ_run (Cert.OddXGradRefIdeal.defs (F := Ideal)) (onTc (τ := Cert.OddXGradRefIdeal.τ) (Cert.OddXGradRefIdeal.main (F := Ideal))) ⟨m, fun _ => 0, g⟩ (fun r => (∀ c : Dev Cert.OddXGradRefIdeal.nD,
      r.2.mem ((c.tc : Thread Cert.OddXGradRefIdeal.nD Cert.OddXGradRefIdeal.τ).loc Cert.OddXGradRefIdeal.main_arg0) = m ((c.tc : Thread Cert.OddXGradRefIdeal.nD Cert.OddXGradRefIdeal.τ).loc Cert.OddXGradRefIdeal.main_arg0)
      ∧ r.2.mem ((c.tc : Thread Cert.OddXGradRefIdeal.nD Cert.OddXGradRefIdeal.τ).loc Cert.OddXGradRefIdeal.main_arg1) = m ((c.tc : Thread Cert.OddXGradRefIdeal.nD Cert.OddXGradRefIdeal.τ).loc Cert.OddXGradRefIdeal.main_arg1))
      ∧ r.2.sem = fun _ => 0)

def quiescent_OddXBack [hOddXBack : Cert.OddXBack.Facts] : Prop :=
  ∀ (m : (ℓ : Loc Cert.OddXBack.nD Cert.OddXBack.τ Cert.OddXBack.sig) → Buf (Elt Bits) ℓ) (g : Dev Cert.OddXBack.nD → PrngReg), Pre_OddXBack m →
    θ_run (Cert.OddXBack.defs (F := Bits)) (onTc (τ := Cert.OddXBack.τ) (Cert.OddXBack.main (F := Bits))) ⟨m, fun _ => 0, g⟩ (fun r => (∀ c : Dev Cert.OddXBack.nD,
      r.2.mem ((c.tc : Thread Cert.OddXBack.nD Cert.OddXBack.τ).loc Cert.OddXBack.main_arg0) = m ((c.tc : Thread Cert.OddXBack.nD Cert.OddXBack.τ).loc Cert.OddXBack.main_arg0)
      ∧ r.2.mem ((c.tc : Thread Cert.OddXBack.nD Cert.OddXBack.τ).loc Cert.OddXBack.main_arg1) = m ((c.tc : Thread Cert.OddXBack.nD Cert.OddXBack.τ).loc Cert.OddXBack.main_arg1)
      ∧ r.2.mem ((c.tc : Thread Cert.OddXBack.nD Cert.OddXBack.τ).loc Cert.OddXBack.main_arg2) = m ((c.tc : Thread Cert.OddXBack.nD Cert.OddXBack.τ).loc Cert.OddXBack.main_arg2))
      ∧ r.2.sem = fun _ => 0)

def quiescent_OddXBackIdeal [hOddXBackIdeal : Cert.OddXBackIdeal.Facts] : Prop :=
  ∀ (m : (ℓ : Loc Cert.OddXBackIdeal.nD Cert.OddXBackIdeal.τ Cert.OddXBackIdeal.sig) → Buf (Elt Ideal) ℓ) (g : Dev Cert.OddXBackIdeal.nD → PrngReg), Pre_OddXBackIdeal m →
    θ_run (Cert.OddXBackIdeal.defs (F := Ideal)) (onTc (τ := Cert.OddXBackIdeal.τ) (Cert.OddXBackIdeal.main (F := Ideal))) ⟨m, fun _ => 0, g⟩ (fun r => (∀ c : Dev Cert.OddXBackIdeal.nD,
      r.2.mem ((c.tc : Thread Cert.OddXBackIdeal.nD Cert.OddXBackIdeal.τ).loc Cert.OddXBackIdeal.main_arg0) = m ((c.tc : Thread Cert.OddXBackIdeal.nD Cert.OddXBackIdeal.τ).loc Cert.OddXBackIdeal.main_arg0)
      ∧ r.2.mem ((c.tc : Thread Cert.OddXBackIdeal.nD Cert.OddXBackIdeal.τ).loc Cert.OddXBackIdeal.main_arg1) = m ((c.tc : Thread Cert.OddXBackIdeal.nD Cert.OddXBackIdeal.τ).loc Cert.OddXBackIdeal.main_arg1)
      ∧ r.2.mem ((c.tc : Thread Cert.OddXBackIdeal.nD Cert.OddXBackIdeal.τ).loc Cert.OddXBackIdeal.main_arg2) = m ((c.tc : Thread Cert.OddXBackIdeal.nD Cert.OddXBackIdeal.τ).loc Cert.OddXBackIdeal.main_arg2))
      ∧ r.2.sem = fun _ => 0)

def quiescent_OddXBackRefIdeal [hOddXBackRefIdeal : Cert.OddXBackRefIdeal.Facts] : Prop :=
  ∀ (m : (ℓ : Loc Cert.OddXBackRefIdeal.nD Cert.OddXBackRefIdeal.τ Cert.OddXBackRefIdeal.sig) → Buf (Elt Ideal) ℓ) (g : Dev Cert.OddXBackRefIdeal.nD → PrngReg), Pre_OddXBackRefIdeal m →
    θ_run (Cert.OddXBackRefIdeal.defs (F := Ideal)) (onTc (τ := Cert.OddXBackRefIdeal.τ) (Cert.OddXBackRefIdeal.main (F := Ideal))) ⟨m, fun _ => 0, g⟩ (fun r => (∀ c : Dev Cert.OddXBackRefIdeal.nD,
      r.2.mem ((c.tc : Thread Cert.OddXBackRefIdeal.nD Cert.OddXBackRefIdeal.τ).loc Cert.OddXBackRefIdeal.main_arg0) = m ((c.tc : Thread Cert.OddXBackRefIdeal.nD Cert.OddXBackRefIdeal.τ).loc Cert.OddXBackRefIdeal.main_arg0)
      ∧ r.2.mem ((c.tc : Thread Cert.OddXBackRefIdeal.nD Cert.OddXBackRefIdeal.τ).loc Cert.OddXBackRefIdeal.main_arg1) = m ((c.tc : Thread Cert.OddXBackRefIdeal.nD Cert.OddXBackRefIdeal.τ).loc Cert.OddXBackRefIdeal.main_arg1)
      ∧ r.2.mem ((c.tc : Thread Cert.OddXBackRefIdeal.nD Cert.OddXBackRefIdeal.τ).loc Cert.OddXBackRefIdeal.main_arg2) = m ((c.tc : Thread Cert.OddXBackRefIdeal.nD Cert.OddXBackRefIdeal.τ).loc Cert.OddXBackRefIdeal.main_arg2))
      ∧ r.2.sem = fun _ => 0)

def quiescent_OddOutGrad [hOddOutGrad : Cert.OddOutGrad.Facts] : Prop :=
  ∀ (m : (ℓ : Loc Cert.OddOutGrad.nD Cert.OddOutGrad.τ Cert.OddOutGrad.sig) → Buf (Elt Bits) ℓ) (g : Dev Cert.OddOutGrad.nD → PrngReg), Pre_OddOutGrad m →
    θ_run (Cert.OddOutGrad.defs (F := Bits)) (onTc (τ := Cert.OddOutGrad.τ) (Cert.OddOutGrad.main (F := Bits))) ⟨m, fun _ => 0, g⟩ (fun r => (∀ c : Dev Cert.OddOutGrad.nD,
      r.2.mem ((c.tc : Thread Cert.OddOutGrad.nD Cert.OddOutGrad.τ).loc Cert.OddOutGrad.main_arg0) = m ((c.tc : Thread Cert.OddOutGrad.nD Cert.OddOutGrad.τ).loc Cert.OddOutGrad.main_arg0)
      ∧ r.2.mem ((c.tc : Thread Cert.OddOutGrad.nD Cert.OddOutGrad.τ).loc Cert.OddOutGrad.main_arg1) = m ((c.tc : Thread Cert.OddOutGrad.nD Cert.OddOutGrad.τ).loc Cert.OddOutGrad.main_arg1))
      ∧ r.2.sem = fun _ => 0)

def quiescent_OddOutGradIdeal [hOddOutGradIdeal : Cert.OddOutGradIdeal.Facts] : Prop :=
  ∀ (m : (ℓ : Loc Cert.OddOutGradIdeal.nD Cert.OddOutGradIdeal.τ Cert.OddOutGradIdeal.sig) → Buf (Elt Ideal) ℓ) (g : Dev Cert.OddOutGradIdeal.nD → PrngReg), Pre_OddOutGradIdeal m →
    θ_run (Cert.OddOutGradIdeal.defs (F := Ideal)) (onTc (τ := Cert.OddOutGradIdeal.τ) (Cert.OddOutGradIdeal.main (F := Ideal))) ⟨m, fun _ => 0, g⟩ (fun r => (∀ c : Dev Cert.OddOutGradIdeal.nD,
      r.2.mem ((c.tc : Thread Cert.OddOutGradIdeal.nD Cert.OddOutGradIdeal.τ).loc Cert.OddOutGradIdeal.main_arg0) = m ((c.tc : Thread Cert.OddOutGradIdeal.nD Cert.OddOutGradIdeal.τ).loc Cert.OddOutGradIdeal.main_arg0)
      ∧ r.2.mem ((c.tc : Thread Cert.OddOutGradIdeal.nD Cert.OddOutGradIdeal.τ).loc Cert.OddOutGradIdeal.main_arg1) = m ((c.tc : Thread Cert.OddOutGradIdeal.nD Cert.OddOutGradIdeal.τ).loc Cert.OddOutGradIdeal.main_arg1))
      ∧ r.2.sem = fun _ => 0)

def quiescent_OddOutGradRefIdeal [hOddOutGradRefIdeal : Cert.OddOutGradRefIdeal.Facts] : Prop :=
  ∀ (m : (ℓ : Loc Cert.OddOutGradRefIdeal.nD Cert.OddOutGradRefIdeal.τ Cert.OddOutGradRefIdeal.sig) → Buf (Elt Ideal) ℓ) (g : Dev Cert.OddOutGradRefIdeal.nD → PrngReg), Pre_OddOutGradRefIdeal m →
    θ_run (Cert.OddOutGradRefIdeal.defs (F := Ideal)) (onTc (τ := Cert.OddOutGradRefIdeal.τ) (Cert.OddOutGradRefIdeal.main (F := Ideal))) ⟨m, fun _ => 0, g⟩ (fun r => (∀ c : Dev Cert.OddOutGradRefIdeal.nD,
      r.2.mem ((c.tc : Thread Cert.OddOutGradRefIdeal.nD Cert.OddOutGradRefIdeal.τ).loc Cert.OddOutGradRefIdeal.main_arg0) = m ((c.tc : Thread Cert.OddOutGradRefIdeal.nD Cert.OddOutGradRefIdeal.τ).loc Cert.OddOutGradRefIdeal.main_arg0)
      ∧ r.2.mem ((c.tc : Thread Cert.OddOutGradRefIdeal.nD Cert.OddOutGradRefIdeal.τ).loc Cert.OddOutGradRefIdeal.main_arg1) = m ((c.tc : Thread Cert.OddOutGradRefIdeal.nD Cert.OddOutGradRefIdeal.τ).loc Cert.OddOutGradRefIdeal.main_arg1))
      ∧ r.2.sem = fun _ => 0)

def quiescent_OddOutBack [hOddOutBack : Cert.OddOutBack.Facts] : Prop :=
  ∀ (m : (ℓ : Loc Cert.OddOutBack.nD Cert.OddOutBack.τ Cert.OddOutBack.sig) → Buf (Elt Bits) ℓ) (g : Dev Cert.OddOutBack.nD → PrngReg), Pre_OddOutBack m →
    θ_run (Cert.OddOutBack.defs (F := Bits)) (onTc (τ := Cert.OddOutBack.τ) (Cert.OddOutBack.main (F := Bits))) ⟨m, fun _ => 0, g⟩ (fun r => (∀ c : Dev Cert.OddOutBack.nD,
      r.2.mem ((c.tc : Thread Cert.OddOutBack.nD Cert.OddOutBack.τ).loc Cert.OddOutBack.main_arg0) = m ((c.tc : Thread Cert.OddOutBack.nD Cert.OddOutBack.τ).loc Cert.OddOutBack.main_arg0)
      ∧ r.2.mem ((c.tc : Thread Cert.OddOutBack.nD Cert.OddOutBack.τ).loc Cert.OddOutBack.main_arg1) = m ((c.tc : Thread Cert.OddOutBack.nD Cert.OddOutBack.τ).loc Cert.OddOutBack.main_arg1))
      ∧ r.2.sem = fun _ => 0)

def quiescent_OddOutBackIdeal [hOddOutBackIdeal : Cert.OddOutBackIdeal.Facts] : Prop :=
  ∀ (m : (ℓ : Loc Cert.OddOutBackIdeal.nD Cert.OddOutBackIdeal.τ Cert.OddOutBackIdeal.sig) → Buf (Elt Ideal) ℓ) (g : Dev Cert.OddOutBackIdeal.nD → PrngReg), Pre_OddOutBackIdeal m →
    θ_run (Cert.OddOutBackIdeal.defs (F := Ideal)) (onTc (τ := Cert.OddOutBackIdeal.τ) (Cert.OddOutBackIdeal.main (F := Ideal))) ⟨m, fun _ => 0, g⟩ (fun r => (∀ c : Dev Cert.OddOutBackIdeal.nD,
      r.2.mem ((c.tc : Thread Cert.OddOutBackIdeal.nD Cert.OddOutBackIdeal.τ).loc Cert.OddOutBackIdeal.main_arg0) = m ((c.tc : Thread Cert.OddOutBackIdeal.nD Cert.OddOutBackIdeal.τ).loc Cert.OddOutBackIdeal.main_arg0)
      ∧ r.2.mem ((c.tc : Thread Cert.OddOutBackIdeal.nD Cert.OddOutBackIdeal.τ).loc Cert.OddOutBackIdeal.main_arg1) = m ((c.tc : Thread Cert.OddOutBackIdeal.nD Cert.OddOutBackIdeal.τ).loc Cert.OddOutBackIdeal.main_arg1))
      ∧ r.2.sem = fun _ => 0)

def quiescent_OddOutBackRefIdeal [hOddOutBackRefIdeal : Cert.OddOutBackRefIdeal.Facts] : Prop :=
  ∀ (m : (ℓ : Loc Cert.OddOutBackRefIdeal.nD Cert.OddOutBackRefIdeal.τ Cert.OddOutBackRefIdeal.sig) → Buf (Elt Ideal) ℓ) (g : Dev Cert.OddOutBackRefIdeal.nD → PrngReg), Pre_OddOutBackRefIdeal m →
    θ_run (Cert.OddOutBackRefIdeal.defs (F := Ideal)) (onTc (τ := Cert.OddOutBackRefIdeal.τ) (Cert.OddOutBackRefIdeal.main (F := Ideal))) ⟨m, fun _ => 0, g⟩ (fun r => (∀ c : Dev Cert.OddOutBackRefIdeal.nD,
      r.2.mem ((c.tc : Thread Cert.OddOutBackRefIdeal.nD Cert.OddOutBackRefIdeal.τ).loc Cert.OddOutBackRefIdeal.main_arg0) = m ((c.tc : Thread Cert.OddOutBackRefIdeal.nD Cert.OddOutBackRefIdeal.τ).loc Cert.OddOutBackRefIdeal.main_arg0)
      ∧ r.2.mem ((c.tc : Thread Cert.OddOutBackRefIdeal.nD Cert.OddOutBackRefIdeal.τ).loc Cert.OddOutBackRefIdeal.main_arg1) = m ((c.tc : Thread Cert.OddOutBackRefIdeal.nD Cert.OddOutBackRefIdeal.τ).loc Cert.OddOutBackRefIdeal.main_arg1))
      ∧ r.2.sem = fun _ => 0)

def quiescent_OddZGrad [hOddZGrad : Cert.OddZGrad.Facts] : Prop :=
  ∀ (m : (ℓ : Loc Cert.OddZGrad.nD Cert.OddZGrad.τ Cert.OddZGrad.sig) → Buf (Elt Bits) ℓ) (g : Dev Cert.OddZGrad.nD → PrngReg), Pre_OddZGrad m →
    θ_run (Cert.OddZGrad.defs (F := Bits)) (onTc (τ := Cert.OddZGrad.τ) (Cert.OddZGrad.main (F := Bits))) ⟨m, fun _ => 0, g⟩ (fun r => (∀ c : Dev Cert.OddZGrad.nD,
      r.2.mem ((c.tc : Thread Cert.OddZGrad.nD Cert.OddZGrad.τ).loc Cert.OddZGrad.main_arg0) = m ((c.tc : Thread Cert.OddZGrad.nD Cert.OddZGrad.τ).loc Cert.OddZGrad.main_arg0)
      ∧ r.2.mem ((c.tc : Thread Cert.OddZGrad.nD Cert.OddZGrad.τ).loc Cert.OddZGrad.main_arg1) = m ((c.tc : Thread Cert.OddZGrad.nD Cert.OddZGrad.τ).loc Cert.OddZGrad.main_arg1))
      ∧ r.2.sem = fun _ => 0)

def quiescent_OddZGradIdeal [hOddZGradIdeal : Cert.OddZGradIdeal.Facts] : Prop :=
  ∀ (m : (ℓ : Loc Cert.OddZGradIdeal.nD Cert.OddZGradIdeal.τ Cert.OddZGradIdeal.sig) → Buf (Elt Ideal) ℓ) (g : Dev Cert.OddZGradIdeal.nD → PrngReg), Pre_OddZGradIdeal m →
    θ_run (Cert.OddZGradIdeal.defs (F := Ideal)) (onTc (τ := Cert.OddZGradIdeal.τ) (Cert.OddZGradIdeal.main (F := Ideal))) ⟨m, fun _ => 0, g⟩ (fun r => (∀ c : Dev Cert.OddZGradIdeal.nD,
      r.2.mem ((c.tc : Thread Cert.OddZGradIdeal.nD Cert.OddZGradIdeal.τ).loc Cert.OddZGradIdeal.main_arg0) = m ((c.tc : Thread Cert.OddZGradIdeal.nD Cert.OddZGradIdeal.τ).loc Cert.OddZGradIdeal.main_arg0)
      ∧ r.2.mem ((c.tc : Thread Cert.OddZGradIdeal.nD Cert.OddZGradIdeal.τ).loc Cert.OddZGradIdeal.main_arg1) = m ((c.tc : Thread Cert.OddZGradIdeal.nD Cert.OddZGradIdeal.τ).loc Cert.OddZGradIdeal.main_arg1))
      ∧ r.2.sem = fun _ => 0)

def quiescent_OddZGradRefIdeal [hOddZGradRefIdeal : Cert.OddZGradRefIdeal.Facts] : Prop :=
  ∀ (m : (ℓ : Loc Cert.OddZGradRefIdeal.nD Cert.OddZGradRefIdeal.τ Cert.OddZGradRefIdeal.sig) → Buf (Elt Ideal) ℓ) (g : Dev Cert.OddZGradRefIdeal.nD → PrngReg), Pre_OddZGradRefIdeal m →
    θ_run (Cert.OddZGradRefIdeal.defs (F := Ideal)) (onTc (τ := Cert.OddZGradRefIdeal.τ) (Cert.OddZGradRefIdeal.main (F := Ideal))) ⟨m, fun _ => 0, g⟩ (fun r => (∀ c : Dev Cert.OddZGradRefIdeal.nD,
      r.2.mem ((c.tc : Thread Cert.OddZGradRefIdeal.nD Cert.OddZGradRefIdeal.τ).loc Cert.OddZGradRefIdeal.main_arg0) = m ((c.tc : Thread Cert.OddZGradRefIdeal.nD Cert.OddZGradRefIdeal.τ).loc Cert.OddZGradRefIdeal.main_arg0)
      ∧ r.2.mem ((c.tc : Thread Cert.OddZGradRefIdeal.nD Cert.OddZGradRefIdeal.τ).loc Cert.OddZGradRefIdeal.main_arg1) = m ((c.tc : Thread Cert.OddZGradRefIdeal.nD Cert.OddZGradRefIdeal.τ).loc Cert.OddZGradRefIdeal.main_arg1))
      ∧ r.2.sem = fun _ => 0)

def quiescent_OddZBack [hOddZBack : Cert.OddZBack.Facts] : Prop :=
  ∀ (m : (ℓ : Loc Cert.OddZBack.nD Cert.OddZBack.τ Cert.OddZBack.sig) → Buf (Elt Bits) ℓ) (g : Dev Cert.OddZBack.nD → PrngReg), Pre_OddZBack m →
    θ_run (Cert.OddZBack.defs (F := Bits)) (onTc (τ := Cert.OddZBack.τ) (Cert.OddZBack.main (F := Bits))) ⟨m, fun _ => 0, g⟩ (fun r => (∀ c : Dev Cert.OddZBack.nD,
      r.2.mem ((c.tc : Thread Cert.OddZBack.nD Cert.OddZBack.τ).loc Cert.OddZBack.main_arg0) = m ((c.tc : Thread Cert.OddZBack.nD Cert.OddZBack.τ).loc Cert.OddZBack.main_arg0)
      ∧ r.2.mem ((c.tc : Thread Cert.OddZBack.nD Cert.OddZBack.τ).loc Cert.OddZBack.main_arg1) = m ((c.tc : Thread Cert.OddZBack.nD Cert.OddZBack.τ).loc Cert.OddZBack.main_arg1)
      ∧ r.2.mem ((c.tc : Thread Cert.OddZBack.nD Cert.OddZBack.τ).loc Cert.OddZBack.main_arg2) = m ((c.tc : Thread Cert.OddZBack.nD Cert.OddZBack.τ).loc Cert.OddZBack.main_arg2))
      ∧ r.2.sem = fun _ => 0)

def quiescent_OddZBackIdeal [hOddZBackIdeal : Cert.OddZBackIdeal.Facts] : Prop :=
  ∀ (m : (ℓ : Loc Cert.OddZBackIdeal.nD Cert.OddZBackIdeal.τ Cert.OddZBackIdeal.sig) → Buf (Elt Ideal) ℓ) (g : Dev Cert.OddZBackIdeal.nD → PrngReg), Pre_OddZBackIdeal m →
    θ_run (Cert.OddZBackIdeal.defs (F := Ideal)) (onTc (τ := Cert.OddZBackIdeal.τ) (Cert.OddZBackIdeal.main (F := Ideal))) ⟨m, fun _ => 0, g⟩ (fun r => (∀ c : Dev Cert.OddZBackIdeal.nD,
      r.2.mem ((c.tc : Thread Cert.OddZBackIdeal.nD Cert.OddZBackIdeal.τ).loc Cert.OddZBackIdeal.main_arg0) = m ((c.tc : Thread Cert.OddZBackIdeal.nD Cert.OddZBackIdeal.τ).loc Cert.OddZBackIdeal.main_arg0)
      ∧ r.2.mem ((c.tc : Thread Cert.OddZBackIdeal.nD Cert.OddZBackIdeal.τ).loc Cert.OddZBackIdeal.main_arg1) = m ((c.tc : Thread Cert.OddZBackIdeal.nD Cert.OddZBackIdeal.τ).loc Cert.OddZBackIdeal.main_arg1)
      ∧ r.2.mem ((c.tc : Thread Cert.OddZBackIdeal.nD Cert.OddZBackIdeal.τ).loc Cert.OddZBackIdeal.main_arg2) = m ((c.tc : Thread Cert.OddZBackIdeal.nD Cert.OddZBackIdeal.τ).loc Cert.OddZBackIdeal.main_arg2))
      ∧ r.2.sem = fun _ => 0)

def quiescent_OddZBackRefIdeal [hOddZBackRefIdeal : Cert.OddZBackRefIdeal.Facts] : Prop :=
  ∀ (m : (ℓ : Loc Cert.OddZBackRefIdeal.nD Cert.OddZBackRefIdeal.τ Cert.OddZBackRefIdeal.sig) → Buf (Elt Ideal) ℓ) (g : Dev Cert.OddZBackRefIdeal.nD → PrngReg), Pre_OddZBackRefIdeal m →
    θ_run (Cert.OddZBackRefIdeal.defs (F := Ideal)) (onTc (τ := Cert.OddZBackRefIdeal.τ) (Cert.OddZBackRefIdeal.main (F := Ideal))) ⟨m, fun _ => 0, g⟩ (fun r => (∀ c : Dev Cert.OddZBackRefIdeal.nD,
      r.2.mem ((c.tc : Thread Cert.OddZBackRefIdeal.nD Cert.OddZBackRefIdeal.τ).loc Cert.OddZBackRefIdeal.main_arg0) = m ((c.tc : Thread Cert.OddZBackRefIdeal.nD Cert.OddZBackRefIdeal.τ).loc Cert.OddZBackRefIdeal.main_arg0)
      ∧ r.2.mem ((c.tc : Thread Cert.OddZBackRefIdeal.nD Cert.OddZBackRefIdeal.τ).loc Cert.OddZBackRefIdeal.main_arg1) = m ((c.tc : Thread Cert.OddZBackRefIdeal.nD Cert.OddZBackRefIdeal.τ).loc Cert.OddZBackRefIdeal.main_arg1)
      ∧ r.2.mem ((c.tc : Thread Cert.OddZBackRefIdeal.nD Cert.OddZBackRefIdeal.τ).loc Cert.OddZBackRefIdeal.main_arg2) = m ((c.tc : Thread Cert.OddZBackRefIdeal.nD Cert.OddZBackRefIdeal.τ).loc Cert.OddZBackRefIdeal.main_arg2))
      ∧ r.2.sem = fun _ => 0)

def quiescent_EvenInGrad [hEvenInGrad : Cert.EvenInGrad.Facts] : Prop :=
  ∀ (m : (ℓ : Loc Cert.EvenInGrad.nD Cert.EvenInGrad.τ Cert.EvenInGrad.sig) → Buf (Elt Bits) ℓ) (g : Dev Cert.EvenInGrad.nD → PrngReg), Pre_EvenInGrad m →
    θ_run (Cert.EvenInGrad.defs (F := Bits)) (onTc (τ := Cert.EvenInGrad.τ) (Cert.EvenInGrad.main (F := Bits))) ⟨m, fun _ => 0, g⟩ (fun r => (∀ c : Dev Cert.EvenInGrad.nD,
      r.2.mem ((c.tc : Thread Cert.EvenInGrad.nD Cert.EvenInGrad.τ).loc Cert.EvenInGrad.main_arg0) = m ((c.tc : Thread Cert.EvenInGrad.nD Cert.EvenInGrad.τ).loc Cert.EvenInGrad.main_arg0)
      ∧ r.2.mem ((c.tc : Thread Cert.EvenInGrad.nD Cert.EvenInGrad.τ).loc Cert.EvenInGrad.main_arg1) = m ((c.tc : Thread Cert.EvenInGrad.nD Cert.EvenInGrad.τ).loc Cert.EvenInGrad.main_arg1))
      ∧ r.2.sem = fun _ => 0)

def quiescent_EvenInGradIdeal [hEvenInGradIdeal : Cert.EvenInGradIdeal.Facts] : Prop :=
  ∀ (m : (ℓ : Loc Cert.EvenInGradIdeal.nD Cert.EvenInGradIdeal.τ Cert.EvenInGradIdeal.sig) → Buf (Elt Ideal) ℓ) (g : Dev Cert.EvenInGradIdeal.nD → PrngReg), Pre_EvenInGradIdeal m →
    θ_run (Cert.EvenInGradIdeal.defs (F := Ideal)) (onTc (τ := Cert.EvenInGradIdeal.τ) (Cert.EvenInGradIdeal.main (F := Ideal))) ⟨m, fun _ => 0, g⟩ (fun r => (∀ c : Dev Cert.EvenInGradIdeal.nD,
      r.2.mem ((c.tc : Thread Cert.EvenInGradIdeal.nD Cert.EvenInGradIdeal.τ).loc Cert.EvenInGradIdeal.main_arg0) = m ((c.tc : Thread Cert.EvenInGradIdeal.nD Cert.EvenInGradIdeal.τ).loc Cert.EvenInGradIdeal.main_arg0)
      ∧ r.2.mem ((c.tc : Thread Cert.EvenInGradIdeal.nD Cert.EvenInGradIdeal.τ).loc Cert.EvenInGradIdeal.main_arg1) = m ((c.tc : Thread Cert.EvenInGradIdeal.nD Cert.EvenInGradIdeal.τ).loc Cert.EvenInGradIdeal.main_arg1))
      ∧ r.2.sem = fun _ => 0)

def quiescent_EvenInGradRefIdeal [hEvenInGradRefIdeal : Cert.EvenInGradRefIdeal.Facts] : Prop :=
  ∀ (m : (ℓ : Loc Cert.EvenInGradRefIdeal.nD Cert.EvenInGradRefIdeal.τ Cert.EvenInGradRefIdeal.sig) → Buf (Elt Ideal) ℓ) (g : Dev Cert.EvenInGradRefIdeal.nD → PrngReg), Pre_EvenInGradRefIdeal m →
    θ_run (Cert.EvenInGradRefIdeal.defs (F := Ideal)) (onTc (τ := Cert.EvenInGradRefIdeal.τ) (Cert.EvenInGradRefIdeal.main (F := Ideal))) ⟨m, fun _ => 0, g⟩ (fun r => (∀ c : Dev Cert.EvenInGradRefIdeal.nD,
      r.2.mem ((c.tc : Thread Cert.EvenInGradRefIdeal.nD Cert.EvenInGradRefIdeal.τ).loc Cert.EvenInGradRefIdeal.main_arg0) = m ((c.tc : Thread Cert.EvenInGradRefIdeal.nD Cert.EvenInGradRefIdeal.τ).loc Cert.EvenInGradRefIdeal.main_arg0)
      ∧ r.2.mem ((c.tc : Thread Cert.EvenInGradRefIdeal.nD Cert.EvenInGradRefIdeal.τ).loc Cert.EvenInGradRefIdeal.main_arg1) = m ((c.tc : Thread Cert.EvenInGradRefIdeal.nD Cert.EvenInGradRefIdeal.τ).loc Cert.EvenInGradRefIdeal.main_arg1))
      ∧ r.2.sem = fun _ => 0)

def quiescent_ConvBack [hConvBack : Cert.ConvBack.Facts] : Prop :=
  ∀ (m : (ℓ : Loc Cert.ConvBack.nD Cert.ConvBack.τ Cert.ConvBack.sig) → Buf (Elt Bits) ℓ) (g : Dev Cert.ConvBack.nD → PrngReg), Pre_ConvBack m →
    θ_run (Cert.ConvBack.defs (F := Bits)) (onTc (τ := Cert.ConvBack.τ) (Cert.ConvBack.main (F := Bits))) ⟨m, fun _ => 0, g⟩ (fun r => (∀ c : Dev Cert.ConvBack.nD,
      r.2.mem ((c.tc : Thread Cert.ConvBack.nD Cert.ConvBack.τ).loc Cert.ConvBack.main_arg0) = m ((c.tc : Thread Cert.ConvBack.nD Cert.ConvBack.τ).loc Cert.ConvBack.main_arg0)
      ∧ r.2.mem ((c.tc : Thread Cert.ConvBack.nD Cert.ConvBack.τ).loc Cert.ConvBack.main_arg1) = m ((c.tc : Thread Cert.ConvBack.nD Cert.ConvBack.τ).loc Cert.ConvBack.main_arg1)
      ∧ r.2.mem ((c.tc : Thread Cert.ConvBack.nD Cert.ConvBack.τ).loc Cert.ConvBack.main_arg2) = m ((c.tc : Thread Cert.ConvBack.nD Cert.ConvBack.τ).loc Cert.ConvBack.main_arg2))
      ∧ r.2.sem = fun _ => 0)

def quiescent_ConvBackIdeal [hConvBackIdeal : Cert.ConvBackIdeal.Facts] : Prop :=
  ∀ (m : (ℓ : Loc Cert.ConvBackIdeal.nD Cert.ConvBackIdeal.τ Cert.ConvBackIdeal.sig) → Buf (Elt Ideal) ℓ) (g : Dev Cert.ConvBackIdeal.nD → PrngReg), Pre_ConvBackIdeal m →
    θ_run (Cert.ConvBackIdeal.defs (F := Ideal)) (onTc (τ := Cert.ConvBackIdeal.τ) (Cert.ConvBackIdeal.main (F := Ideal))) ⟨m, fun _ => 0, g⟩ (fun r => (∀ c : Dev Cert.ConvBackIdeal.nD,
      r.2.mem ((c.tc : Thread Cert.ConvBackIdeal.nD Cert.ConvBackIdeal.τ).loc Cert.ConvBackIdeal.main_arg0) = m ((c.tc : Thread Cert.ConvBackIdeal.nD Cert.ConvBackIdeal.τ).loc Cert.ConvBackIdeal.main_arg0)
      ∧ r.2.mem ((c.tc : Thread Cert.ConvBackIdeal.nD Cert.ConvBackIdeal.τ).loc Cert.ConvBackIdeal.main_arg1) = m ((c.tc : Thread Cert.ConvBackIdeal.nD Cert.ConvBackIdeal.τ).loc Cert.ConvBackIdeal.main_arg1)
      ∧ r.2.mem ((c.tc : Thread Cert.ConvBackIdeal.nD Cert.ConvBackIdeal.τ).loc Cert.ConvBackIdeal.main_arg2) = m ((c.tc : Thread Cert.ConvBackIdeal.nD Cert.ConvBackIdeal.τ).loc Cert.ConvBackIdeal.main_arg2))
      ∧ r.2.sem = fun _ => 0)

def quiescent_ConvBackRefIdeal [hConvBackRefIdeal : Cert.ConvBackRefIdeal.Facts] : Prop :=
  ∀ (m : (ℓ : Loc Cert.ConvBackRefIdeal.nD Cert.ConvBackRefIdeal.τ Cert.ConvBackRefIdeal.sig) → Buf (Elt Ideal) ℓ) (g : Dev Cert.ConvBackRefIdeal.nD → PrngReg), Pre_ConvBackRefIdeal m →
    θ_run (Cert.ConvBackRefIdeal.defs (F := Ideal)) (onTc (τ := Cert.ConvBackRefIdeal.τ) (Cert.ConvBackRefIdeal.main (F := Ideal))) ⟨m, fun _ => 0, g⟩ (fun r => (∀ c : Dev Cert.ConvBackRefIdeal.nD,
      r.2.mem ((c.tc : Thread Cert.ConvBackRefIdeal.nD Cert.ConvBackRefIdeal.τ).loc Cert.ConvBackRefIdeal.main_arg0) = m ((c.tc : Thread Cert.ConvBackRefIdeal.nD Cert.ConvBackRefIdeal.τ).loc Cert.ConvBackRefIdeal.main_arg0)
      ∧ r.2.mem ((c.tc : Thread Cert.ConvBackRefIdeal.nD Cert.ConvBackRefIdeal.τ).loc Cert.ConvBackRefIdeal.main_arg1) = m ((c.tc : Thread Cert.ConvBackRefIdeal.nD Cert.ConvBackRefIdeal.τ).loc Cert.ConvBackRefIdeal.main_arg1)
      ∧ r.2.mem ((c.tc : Thread Cert.ConvBackRefIdeal.nD Cert.ConvBackRefIdeal.τ).loc Cert.ConvBackRefIdeal.main_arg2) = m ((c.tc : Thread Cert.ConvBackRefIdeal.nD Cert.ConvBackRefIdeal.τ).loc Cert.ConvBackRefIdeal.main_arg2))
      ∧ r.2.sem = fun _ => 0)

def quiescent_QkvBack [hQkvBack : Cert.QkvBack.Facts] : Prop :=
  ∀ (m : (ℓ : Loc Cert.QkvBack.nD Cert.QkvBack.τ Cert.QkvBack.sig) → Buf (Elt Bits) ℓ) (g : Dev Cert.QkvBack.nD → PrngReg), Pre_QkvBack m →
    θ_run (Cert.QkvBack.defs (F := Bits)) (onTc (τ := Cert.QkvBack.τ) (Cert.QkvBack.main (F := Bits))) ⟨m, fun _ => 0, g⟩ (fun r => (∀ c : Dev Cert.QkvBack.nD,
      r.2.mem ((c.tc : Thread Cert.QkvBack.nD Cert.QkvBack.τ).loc Cert.QkvBack.main_arg0) = m ((c.tc : Thread Cert.QkvBack.nD Cert.QkvBack.τ).loc Cert.QkvBack.main_arg0)
      ∧ r.2.mem ((c.tc : Thread Cert.QkvBack.nD Cert.QkvBack.τ).loc Cert.QkvBack.main_arg1) = m ((c.tc : Thread Cert.QkvBack.nD Cert.QkvBack.τ).loc Cert.QkvBack.main_arg1)
      ∧ r.2.mem ((c.tc : Thread Cert.QkvBack.nD Cert.QkvBack.τ).loc Cert.QkvBack.main_arg2) = m ((c.tc : Thread Cert.QkvBack.nD Cert.QkvBack.τ).loc Cert.QkvBack.main_arg2))
      ∧ r.2.sem = fun _ => 0)

def quiescent_QkvBackIdeal [hQkvBackIdeal : Cert.QkvBackIdeal.Facts] : Prop :=
  ∀ (m : (ℓ : Loc Cert.QkvBackIdeal.nD Cert.QkvBackIdeal.τ Cert.QkvBackIdeal.sig) → Buf (Elt Ideal) ℓ) (g : Dev Cert.QkvBackIdeal.nD → PrngReg), Pre_QkvBackIdeal m →
    θ_run (Cert.QkvBackIdeal.defs (F := Ideal)) (onTc (τ := Cert.QkvBackIdeal.τ) (Cert.QkvBackIdeal.main (F := Ideal))) ⟨m, fun _ => 0, g⟩ (fun r => (∀ c : Dev Cert.QkvBackIdeal.nD,
      r.2.mem ((c.tc : Thread Cert.QkvBackIdeal.nD Cert.QkvBackIdeal.τ).loc Cert.QkvBackIdeal.main_arg0) = m ((c.tc : Thread Cert.QkvBackIdeal.nD Cert.QkvBackIdeal.τ).loc Cert.QkvBackIdeal.main_arg0)
      ∧ r.2.mem ((c.tc : Thread Cert.QkvBackIdeal.nD Cert.QkvBackIdeal.τ).loc Cert.QkvBackIdeal.main_arg1) = m ((c.tc : Thread Cert.QkvBackIdeal.nD Cert.QkvBackIdeal.τ).loc Cert.QkvBackIdeal.main_arg1)
      ∧ r.2.mem ((c.tc : Thread Cert.QkvBackIdeal.nD Cert.QkvBackIdeal.τ).loc Cert.QkvBackIdeal.main_arg2) = m ((c.tc : Thread Cert.QkvBackIdeal.nD Cert.QkvBackIdeal.τ).loc Cert.QkvBackIdeal.main_arg2))
      ∧ r.2.sem = fun _ => 0)

def quiescent_QkvBackRefIdeal [hQkvBackRefIdeal : Cert.QkvBackRefIdeal.Facts] : Prop :=
  ∀ (m : (ℓ : Loc Cert.QkvBackRefIdeal.nD Cert.QkvBackRefIdeal.τ Cert.QkvBackRefIdeal.sig) → Buf (Elt Ideal) ℓ) (g : Dev Cert.QkvBackRefIdeal.nD → PrngReg), Pre_QkvBackRefIdeal m →
    θ_run (Cert.QkvBackRefIdeal.defs (F := Ideal)) (onTc (τ := Cert.QkvBackRefIdeal.τ) (Cert.QkvBackRefIdeal.main (F := Ideal))) ⟨m, fun _ => 0, g⟩ (fun r => (∀ c : Dev Cert.QkvBackRefIdeal.nD,
      r.2.mem ((c.tc : Thread Cert.QkvBackRefIdeal.nD Cert.QkvBackRefIdeal.τ).loc Cert.QkvBackRefIdeal.main_arg0) = m ((c.tc : Thread Cert.QkvBackRefIdeal.nD Cert.QkvBackRefIdeal.τ).loc Cert.QkvBackRefIdeal.main_arg0)
      ∧ r.2.mem ((c.tc : Thread Cert.QkvBackRefIdeal.nD Cert.QkvBackRefIdeal.τ).loc Cert.QkvBackRefIdeal.main_arg1) = m ((c.tc : Thread Cert.QkvBackRefIdeal.nD Cert.QkvBackRefIdeal.τ).loc Cert.QkvBackRefIdeal.main_arg1)
      ∧ r.2.mem ((c.tc : Thread Cert.QkvBackRefIdeal.nD Cert.QkvBackRefIdeal.τ).loc Cert.QkvBackRefIdeal.main_arg2) = m ((c.tc : Thread Cert.QkvBackRefIdeal.nD Cert.QkvBackRefIdeal.τ).loc Cert.QkvBackRefIdeal.main_arg2))
      ∧ r.2.sem = fun _ => 0)

def quiescent_GateGrad [hGateGrad : Cert.GateGrad.Facts] : Prop :=
  ∀ (m : (ℓ : Loc Cert.GateGrad.nD Cert.GateGrad.τ Cert.GateGrad.sig) → Buf (Elt Bits) ℓ) (g : Dev Cert.GateGrad.nD → PrngReg), Pre_GateGrad m →
    θ_run (Cert.GateGrad.defs (F := Bits)) (onTc (τ := Cert.GateGrad.τ) (Cert.GateGrad.main (F := Bits))) ⟨m, fun _ => 0, g⟩ (fun r => (∀ c : Dev Cert.GateGrad.nD,
      r.2.mem ((c.tc : Thread Cert.GateGrad.nD Cert.GateGrad.τ).loc Cert.GateGrad.main_arg0) = m ((c.tc : Thread Cert.GateGrad.nD Cert.GateGrad.τ).loc Cert.GateGrad.main_arg0)
      ∧ r.2.mem ((c.tc : Thread Cert.GateGrad.nD Cert.GateGrad.τ).loc Cert.GateGrad.main_arg1) = m ((c.tc : Thread Cert.GateGrad.nD Cert.GateGrad.τ).loc Cert.GateGrad.main_arg1))
      ∧ r.2.sem = fun _ => 0)

def quiescent_GateGradIdeal [hGateGradIdeal : Cert.GateGradIdeal.Facts] : Prop :=
  ∀ (m : (ℓ : Loc Cert.GateGradIdeal.nD Cert.GateGradIdeal.τ Cert.GateGradIdeal.sig) → Buf (Elt Ideal) ℓ) (g : Dev Cert.GateGradIdeal.nD → PrngReg), Pre_GateGradIdeal m →
    θ_run (Cert.GateGradIdeal.defs (F := Ideal)) (onTc (τ := Cert.GateGradIdeal.τ) (Cert.GateGradIdeal.main (F := Ideal))) ⟨m, fun _ => 0, g⟩ (fun r => (∀ c : Dev Cert.GateGradIdeal.nD,
      r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
      ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1))
      ∧ r.2.sem = fun _ => 0)

def quiescent_GateGradRefIdeal [hGateGradRefIdeal : Cert.GateGradRefIdeal.Facts] : Prop :=
  ∀ (m : (ℓ : Loc Cert.GateGradRefIdeal.nD Cert.GateGradRefIdeal.τ Cert.GateGradRefIdeal.sig) → Buf (Elt Ideal) ℓ) (g : Dev Cert.GateGradRefIdeal.nD → PrngReg), Pre_GateGradRefIdeal m →
    θ_run (Cert.GateGradRefIdeal.defs (F := Ideal)) (onTc (τ := Cert.GateGradRefIdeal.τ) (Cert.GateGradRefIdeal.main (F := Ideal))) ⟨m, fun _ => 0, g⟩ (fun r => (∀ c : Dev Cert.GateGradRefIdeal.nD,
      r.2.mem ((c.tc : Thread Cert.GateGradRefIdeal.nD Cert.GateGradRefIdeal.τ).loc Cert.GateGradRefIdeal.main_arg0) = m ((c.tc : Thread Cert.GateGradRefIdeal.nD Cert.GateGradRefIdeal.τ).loc Cert.GateGradRefIdeal.main_arg0)
      ∧ r.2.mem ((c.tc : Thread Cert.GateGradRefIdeal.nD Cert.GateGradRefIdeal.τ).loc Cert.GateGradRefIdeal.main_arg1) = m ((c.tc : Thread Cert.GateGradRefIdeal.nD Cert.GateGradRefIdeal.τ).loc Cert.GateGradRefIdeal.main_arg1))
      ∧ r.2.sem = fun _ => 0)

def quiescent_GateBack [hGateBack : Cert.GateBack.Facts] : Prop :=
  ∀ (m : (ℓ : Loc Cert.GateBack.nD Cert.GateBack.τ Cert.GateBack.sig) → Buf (Elt Bits) ℓ) (g : Dev Cert.GateBack.nD → PrngReg), Pre_GateBack m →
    θ_run (Cert.GateBack.defs (F := Bits)) (onTc (τ := Cert.GateBack.τ) (Cert.GateBack.main (F := Bits))) ⟨m, fun _ => 0, g⟩ (fun r => (∀ c : Dev Cert.GateBack.nD,
      r.2.mem ((c.tc : Thread Cert.GateBack.nD Cert.GateBack.τ).loc Cert.GateBack.main_arg0) = m ((c.tc : Thread Cert.GateBack.nD Cert.GateBack.τ).loc Cert.GateBack.main_arg0)
      ∧ r.2.mem ((c.tc : Thread Cert.GateBack.nD Cert.GateBack.τ).loc Cert.GateBack.main_arg1) = m ((c.tc : Thread Cert.GateBack.nD Cert.GateBack.τ).loc Cert.GateBack.main_arg1)
      ∧ r.2.mem ((c.tc : Thread Cert.GateBack.nD Cert.GateBack.τ).loc Cert.GateBack.main_arg2) = m ((c.tc : Thread Cert.GateBack.nD Cert.GateBack.τ).loc Cert.GateBack.main_arg2))
      ∧ r.2.sem = fun _ => 0)

def quiescent_GateBackIdeal [hGateBackIdeal : Cert.GateBackIdeal.Facts] : Prop :=
  ∀ (m : (ℓ : Loc Cert.GateBackIdeal.nD Cert.GateBackIdeal.τ Cert.GateBackIdeal.sig) → Buf (Elt Ideal) ℓ) (g : Dev Cert.GateBackIdeal.nD → PrngReg), Pre_GateBackIdeal m →
    θ_run (Cert.GateBackIdeal.defs (F := Ideal)) (onTc (τ := Cert.GateBackIdeal.τ) (Cert.GateBackIdeal.main (F := Ideal))) ⟨m, fun _ => 0, g⟩ (fun r => (∀ c : Dev Cert.GateBackIdeal.nD,
      r.2.mem ((c.tc : Thread Cert.GateBackIdeal.nD Cert.GateBackIdeal.τ).loc Cert.GateBackIdeal.main_arg0) = m ((c.tc : Thread Cert.GateBackIdeal.nD Cert.GateBackIdeal.τ).loc Cert.GateBackIdeal.main_arg0)
      ∧ r.2.mem ((c.tc : Thread Cert.GateBackIdeal.nD Cert.GateBackIdeal.τ).loc Cert.GateBackIdeal.main_arg1) = m ((c.tc : Thread Cert.GateBackIdeal.nD Cert.GateBackIdeal.τ).loc Cert.GateBackIdeal.main_arg1)
      ∧ r.2.mem ((c.tc : Thread Cert.GateBackIdeal.nD Cert.GateBackIdeal.τ).loc Cert.GateBackIdeal.main_arg2) = m ((c.tc : Thread Cert.GateBackIdeal.nD Cert.GateBackIdeal.τ).loc Cert.GateBackIdeal.main_arg2))
      ∧ r.2.sem = fun _ => 0)

def quiescent_GateBackRefIdeal [hGateBackRefIdeal : Cert.GateBackRefIdeal.Facts] : Prop :=
  ∀ (m : (ℓ : Loc Cert.GateBackRefIdeal.nD Cert.GateBackRefIdeal.τ Cert.GateBackRefIdeal.sig) → Buf (Elt Ideal) ℓ) (g : Dev Cert.GateBackRefIdeal.nD → PrngReg), Pre_GateBackRefIdeal m →
    θ_run (Cert.GateBackRefIdeal.defs (F := Ideal)) (onTc (τ := Cert.GateBackRefIdeal.τ) (Cert.GateBackRefIdeal.main (F := Ideal))) ⟨m, fun _ => 0, g⟩ (fun r => (∀ c : Dev Cert.GateBackRefIdeal.nD,
      r.2.mem ((c.tc : Thread Cert.GateBackRefIdeal.nD Cert.GateBackRefIdeal.τ).loc Cert.GateBackRefIdeal.main_arg0) = m ((c.tc : Thread Cert.GateBackRefIdeal.nD Cert.GateBackRefIdeal.τ).loc Cert.GateBackRefIdeal.main_arg0)
      ∧ r.2.mem ((c.tc : Thread Cert.GateBackRefIdeal.nD Cert.GateBackRefIdeal.τ).loc Cert.GateBackRefIdeal.main_arg1) = m ((c.tc : Thread Cert.GateBackRefIdeal.nD Cert.GateBackRefIdeal.τ).loc Cert.GateBackRefIdeal.main_arg1)
      ∧ r.2.mem ((c.tc : Thread Cert.GateBackRefIdeal.nD Cert.GateBackRefIdeal.τ).loc Cert.GateBackRefIdeal.main_arg2) = m ((c.tc : Thread Cert.GateBackRefIdeal.nD Cert.GateBackRefIdeal.τ).loc Cert.GateBackRefIdeal.main_arg2))
      ∧ r.2.sem = fun _ => 0)

def quiescent_ProjGrad [hProjGrad : Cert.ProjGrad.Facts] : Prop :=
  ∀ (m : (ℓ : Loc Cert.ProjGrad.nD Cert.ProjGrad.τ Cert.ProjGrad.sig) → Buf (Elt Bits) ℓ) (g : Dev Cert.ProjGrad.nD → PrngReg), Pre_ProjGrad m →
    θ_run (Cert.ProjGrad.defs (F := Bits)) (onTc (τ := Cert.ProjGrad.τ) (Cert.ProjGrad.main (F := Bits))) ⟨m, fun _ => 0, g⟩ (fun r => (∀ c : Dev Cert.ProjGrad.nD,
      r.2.mem ((c.tc : Thread Cert.ProjGrad.nD Cert.ProjGrad.τ).loc Cert.ProjGrad.main_arg0) = m ((c.tc : Thread Cert.ProjGrad.nD Cert.ProjGrad.τ).loc Cert.ProjGrad.main_arg0)
      ∧ r.2.mem ((c.tc : Thread Cert.ProjGrad.nD Cert.ProjGrad.τ).loc Cert.ProjGrad.main_arg1) = m ((c.tc : Thread Cert.ProjGrad.nD Cert.ProjGrad.τ).loc Cert.ProjGrad.main_arg1))
      ∧ r.2.sem = fun _ => 0)

def quiescent_ProjGradIdeal [hProjGradIdeal : Cert.ProjGradIdeal.Facts] : Prop :=
  ∀ (m : (ℓ : Loc Cert.ProjGradIdeal.nD Cert.ProjGradIdeal.τ Cert.ProjGradIdeal.sig) → Buf (Elt Ideal) ℓ) (g : Dev Cert.ProjGradIdeal.nD → PrngReg), Pre_ProjGradIdeal m →
    θ_run (Cert.ProjGradIdeal.defs (F := Ideal)) (onTc (τ := Cert.ProjGradIdeal.τ) (Cert.ProjGradIdeal.main (F := Ideal))) ⟨m, fun _ => 0, g⟩ (fun r => (∀ c : Dev Cert.ProjGradIdeal.nD,
      r.2.mem ((c.tc : Thread Cert.ProjGradIdeal.nD Cert.ProjGradIdeal.τ).loc Cert.ProjGradIdeal.main_arg0) = m ((c.tc : Thread Cert.ProjGradIdeal.nD Cert.ProjGradIdeal.τ).loc Cert.ProjGradIdeal.main_arg0)
      ∧ r.2.mem ((c.tc : Thread Cert.ProjGradIdeal.nD Cert.ProjGradIdeal.τ).loc Cert.ProjGradIdeal.main_arg1) = m ((c.tc : Thread Cert.ProjGradIdeal.nD Cert.ProjGradIdeal.τ).loc Cert.ProjGradIdeal.main_arg1))
      ∧ r.2.sem = fun _ => 0)

def quiescent_ProjGradRefIdeal [hProjGradRefIdeal : Cert.ProjGradRefIdeal.Facts] : Prop :=
  ∀ (m : (ℓ : Loc Cert.ProjGradRefIdeal.nD Cert.ProjGradRefIdeal.τ Cert.ProjGradRefIdeal.sig) → Buf (Elt Ideal) ℓ) (g : Dev Cert.ProjGradRefIdeal.nD → PrngReg), Pre_ProjGradRefIdeal m →
    θ_run (Cert.ProjGradRefIdeal.defs (F := Ideal)) (onTc (τ := Cert.ProjGradRefIdeal.τ) (Cert.ProjGradRefIdeal.main (F := Ideal))) ⟨m, fun _ => 0, g⟩ (fun r => (∀ c : Dev Cert.ProjGradRefIdeal.nD,
      r.2.mem ((c.tc : Thread Cert.ProjGradRefIdeal.nD Cert.ProjGradRefIdeal.τ).loc Cert.ProjGradRefIdeal.main_arg0) = m ((c.tc : Thread Cert.ProjGradRefIdeal.nD Cert.ProjGradRefIdeal.τ).loc Cert.ProjGradRefIdeal.main_arg0)
      ∧ r.2.mem ((c.tc : Thread Cert.ProjGradRefIdeal.nD Cert.ProjGradRefIdeal.τ).loc Cert.ProjGradRefIdeal.main_arg1) = m ((c.tc : Thread Cert.ProjGradRefIdeal.nD Cert.ProjGradRefIdeal.τ).loc Cert.ProjGradRefIdeal.main_arg1))
      ∧ r.2.sem = fun _ => 0)

def quiescent_EvenOutBack [hEvenOutBack : Cert.EvenOutBack.Facts] : Prop :=
  ∀ (m : (ℓ : Loc Cert.EvenOutBack.nD Cert.EvenOutBack.τ Cert.EvenOutBack.sig) → Buf (Elt Bits) ℓ) (g : Dev Cert.EvenOutBack.nD → PrngReg), Pre_EvenOutBack m →
    θ_run (Cert.EvenOutBack.defs (F := Bits)) (onTc (τ := Cert.EvenOutBack.τ) (Cert.EvenOutBack.main (F := Bits))) ⟨m, fun _ => 0, g⟩ (fun r => (∀ c : Dev Cert.EvenOutBack.nD,
      r.2.mem ((c.tc : Thread Cert.EvenOutBack.nD Cert.EvenOutBack.τ).loc Cert.EvenOutBack.main_arg0) = m ((c.tc : Thread Cert.EvenOutBack.nD Cert.EvenOutBack.τ).loc Cert.EvenOutBack.main_arg0)
      ∧ r.2.mem ((c.tc : Thread Cert.EvenOutBack.nD Cert.EvenOutBack.τ).loc Cert.EvenOutBack.main_arg1) = m ((c.tc : Thread Cert.EvenOutBack.nD Cert.EvenOutBack.τ).loc Cert.EvenOutBack.main_arg1))
      ∧ r.2.sem = fun _ => 0)

def quiescent_EvenOutBackIdeal [hEvenOutBackIdeal : Cert.EvenOutBackIdeal.Facts] : Prop :=
  ∀ (m : (ℓ : Loc Cert.EvenOutBackIdeal.nD Cert.EvenOutBackIdeal.τ Cert.EvenOutBackIdeal.sig) → Buf (Elt Ideal) ℓ) (g : Dev Cert.EvenOutBackIdeal.nD → PrngReg), Pre_EvenOutBackIdeal m →
    θ_run (Cert.EvenOutBackIdeal.defs (F := Ideal)) (onTc (τ := Cert.EvenOutBackIdeal.τ) (Cert.EvenOutBackIdeal.main (F := Ideal))) ⟨m, fun _ => 0, g⟩ (fun r => (∀ c : Dev Cert.EvenOutBackIdeal.nD,
      r.2.mem ((c.tc : Thread Cert.EvenOutBackIdeal.nD Cert.EvenOutBackIdeal.τ).loc Cert.EvenOutBackIdeal.main_arg0) = m ((c.tc : Thread Cert.EvenOutBackIdeal.nD Cert.EvenOutBackIdeal.τ).loc Cert.EvenOutBackIdeal.main_arg0)
      ∧ r.2.mem ((c.tc : Thread Cert.EvenOutBackIdeal.nD Cert.EvenOutBackIdeal.τ).loc Cert.EvenOutBackIdeal.main_arg1) = m ((c.tc : Thread Cert.EvenOutBackIdeal.nD Cert.EvenOutBackIdeal.τ).loc Cert.EvenOutBackIdeal.main_arg1))
      ∧ r.2.sem = fun _ => 0)

def quiescent_EvenOutBackRefIdeal [hEvenOutBackRefIdeal : Cert.EvenOutBackRefIdeal.Facts] : Prop :=
  ∀ (m : (ℓ : Loc Cert.EvenOutBackRefIdeal.nD Cert.EvenOutBackRefIdeal.τ Cert.EvenOutBackRefIdeal.sig) → Buf (Elt Ideal) ℓ) (g : Dev Cert.EvenOutBackRefIdeal.nD → PrngReg), Pre_EvenOutBackRefIdeal m →
    θ_run (Cert.EvenOutBackRefIdeal.defs (F := Ideal)) (onTc (τ := Cert.EvenOutBackRefIdeal.τ) (Cert.EvenOutBackRefIdeal.main (F := Ideal))) ⟨m, fun _ => 0, g⟩ (fun r => (∀ c : Dev Cert.EvenOutBackRefIdeal.nD,
      r.2.mem ((c.tc : Thread Cert.EvenOutBackRefIdeal.nD Cert.EvenOutBackRefIdeal.τ).loc Cert.EvenOutBackRefIdeal.main_arg0) = m ((c.tc : Thread Cert.EvenOutBackRefIdeal.nD Cert.EvenOutBackRefIdeal.τ).loc Cert.EvenOutBackRefIdeal.main_arg0)
      ∧ r.2.mem ((c.tc : Thread Cert.EvenOutBackRefIdeal.nD Cert.EvenOutBackRefIdeal.τ).loc Cert.EvenOutBackRefIdeal.main_arg1) = m ((c.tc : Thread Cert.EvenOutBackRefIdeal.nD Cert.EvenOutBackRefIdeal.τ).loc Cert.EvenOutBackRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_OddX [hOddX : Cert.OddX.Facts] : Prop :=
  ∀ (m : (ℓ : Loc Cert.OddX.nD Cert.OddX.τ Cert.OddX.sig) → Buf (Elt Bits) ℓ) (g : Dev Cert.OddX.nD → PrngReg), Pre_OddX m →
    θ_run (Cert.OddX.defs (F := Bits)) (onTc (τ := Cert.OddX.τ) (Cert.OddX.main (F := Bits))) ⟨m, fun _ => 0, g⟩ (fun r => (∀ c : Dev Cert.OddX.nD,
      r.2.mem ((c.tc : Thread Cert.OddX.nD Cert.OddX.τ).loc Cert.OddX.main_arg0) = m ((c.tc : Thread Cert.OddX.nD Cert.OddX.τ).loc Cert.OddX.main_arg0)
      ∧ r.2.mem ((c.tc : Thread Cert.OddX.nD Cert.OddX.τ).loc Cert.OddX.main_arg1) = m ((c.tc : Thread Cert.OddX.nD Cert.OddX.τ).loc Cert.OddX.main_arg1))
      ∧ r.2.sem = fun _ => 0)

def quiescent_OddXIdeal [hOddXIdeal : Cert.OddXIdeal.Facts] : Prop :=
  ∀ (m : (ℓ : Loc Cert.OddXIdeal.nD Cert.OddXIdeal.τ Cert.OddXIdeal.sig) → Buf (Elt Ideal) ℓ) (g : Dev Cert.OddXIdeal.nD → PrngReg), Pre_OddXIdeal m →
    θ_run (Cert.OddXIdeal.defs (F := Ideal)) (onTc (τ := Cert.OddXIdeal.τ) (Cert.OddXIdeal.main (F := Ideal))) ⟨m, fun _ => 0, g⟩ (fun r => (∀ c : Dev Cert.OddXIdeal.nD,
      r.2.mem ((c.tc : Thread Cert.OddXIdeal.nD Cert.OddXIdeal.τ).loc Cert.OddXIdeal.main_arg0) = m ((c.tc : Thread Cert.OddXIdeal.nD Cert.OddXIdeal.τ).loc Cert.OddXIdeal.main_arg0)
      ∧ r.2.mem ((c.tc : Thread Cert.OddXIdeal.nD Cert.OddXIdeal.τ).loc Cert.OddXIdeal.main_arg1) = m ((c.tc : Thread Cert.OddXIdeal.nD Cert.OddXIdeal.τ).loc Cert.OddXIdeal.main_arg1))
      ∧ r.2.sem = fun _ => 0)

def quiescent_OddXRefIdeal [hOddXRefIdeal : Cert.OddXRefIdeal.Facts] : Prop :=
  ∀ (m : (ℓ : Loc Cert.OddXRefIdeal.nD Cert.OddXRefIdeal.τ Cert.OddXRefIdeal.sig) → Buf (Elt Ideal) ℓ) (g : Dev Cert.OddXRefIdeal.nD → PrngReg), Pre_OddXRefIdeal m →
    θ_run (Cert.OddXRefIdeal.defs (F := Ideal)) (onTc (τ := Cert.OddXRefIdeal.τ) (Cert.OddXRefIdeal.main (F := Ideal))) ⟨m, fun _ => 0, g⟩ (fun r => (∀ c : Dev Cert.OddXRefIdeal.nD,
      r.2.mem ((c.tc : Thread Cert.OddXRefIdeal.nD Cert.OddXRefIdeal.τ).loc Cert.OddXRefIdeal.main_arg0) = m ((c.tc : Thread Cert.OddXRefIdeal.nD Cert.OddXRefIdeal.τ).loc Cert.OddXRefIdeal.main_arg0)
      ∧ r.2.mem ((c.tc : Thread Cert.OddXRefIdeal.nD Cert.OddXRefIdeal.τ).loc Cert.OddXRefIdeal.main_arg1) = m ((c.tc : Thread Cert.OddXRefIdeal.nD Cert.OddXRefIdeal.τ).loc Cert.OddXRefIdeal.main_arg1))
      ∧ r.2.sem = fun _ => 0)

def quiescent_OddZ [hOddZ : Cert.OddZ.Facts] : Prop :=
  ∀ (m : (ℓ : Loc Cert.OddZ.nD Cert.OddZ.τ Cert.OddZ.sig) → Buf (Elt Bits) ℓ) (g : Dev Cert.OddZ.nD → PrngReg), Pre_OddZ m →
    θ_run (Cert.OddZ.defs (F := Bits)) (onTc (τ := Cert.OddZ.τ) (Cert.OddZ.main (F := Bits))) ⟨m, fun _ => 0, g⟩ (fun r => (∀ c : Dev Cert.OddZ.nD,
      r.2.mem ((c.tc : Thread Cert.OddZ.nD Cert.OddZ.τ).loc Cert.OddZ.main_arg0) = m ((c.tc : Thread Cert.OddZ.nD Cert.OddZ.τ).loc Cert.OddZ.main_arg0)
      ∧ r.2.mem ((c.tc : Thread Cert.OddZ.nD Cert.OddZ.τ).loc Cert.OddZ.main_arg1) = m ((c.tc : Thread Cert.OddZ.nD Cert.OddZ.τ).loc Cert.OddZ.main_arg1))
      ∧ r.2.sem = fun _ => 0)

def quiescent_OddZIdeal [hOddZIdeal : Cert.OddZIdeal.Facts] : Prop :=
  ∀ (m : (ℓ : Loc Cert.OddZIdeal.nD Cert.OddZIdeal.τ Cert.OddZIdeal.sig) → Buf (Elt Ideal) ℓ) (g : Dev Cert.OddZIdeal.nD → PrngReg), Pre_OddZIdeal m →
    θ_run (Cert.OddZIdeal.defs (F := Ideal)) (onTc (τ := Cert.OddZIdeal.τ) (Cert.OddZIdeal.main (F := Ideal))) ⟨m, fun _ => 0, g⟩ (fun r => (∀ c : Dev Cert.OddZIdeal.nD,
      r.2.mem ((c.tc : Thread Cert.OddZIdeal.nD Cert.OddZIdeal.τ).loc Cert.OddZIdeal.main_arg0) = m ((c.tc : Thread Cert.OddZIdeal.nD Cert.OddZIdeal.τ).loc Cert.OddZIdeal.main_arg0)
      ∧ r.2.mem ((c.tc : Thread Cert.OddZIdeal.nD Cert.OddZIdeal.τ).loc Cert.OddZIdeal.main_arg1) = m ((c.tc : Thread Cert.OddZIdeal.nD Cert.OddZIdeal.τ).loc Cert.OddZIdeal.main_arg1))
      ∧ r.2.sem = fun _ => 0)

def quiescent_OddZRefIdeal [hOddZRefIdeal : Cert.OddZRefIdeal.Facts] : Prop :=
  ∀ (m : (ℓ : Loc Cert.OddZRefIdeal.nD Cert.OddZRefIdeal.τ Cert.OddZRefIdeal.sig) → Buf (Elt Ideal) ℓ) (g : Dev Cert.OddZRefIdeal.nD → PrngReg), Pre_OddZRefIdeal m →
    θ_run (Cert.OddZRefIdeal.defs (F := Ideal)) (onTc (τ := Cert.OddZRefIdeal.τ) (Cert.OddZRefIdeal.main (F := Ideal))) ⟨m, fun _ => 0, g⟩ (fun r => (∀ c : Dev Cert.OddZRefIdeal.nD,
      r.2.mem ((c.tc : Thread Cert.OddZRefIdeal.nD Cert.OddZRefIdeal.τ).loc Cert.OddZRefIdeal.main_arg0) = m ((c.tc : Thread Cert.OddZRefIdeal.nD Cert.OddZRefIdeal.τ).loc Cert.OddZRefIdeal.main_arg0)
      ∧ r.2.mem ((c.tc : Thread Cert.OddZRefIdeal.nD Cert.OddZRefIdeal.τ).loc Cert.OddZRefIdeal.main_arg1) = m ((c.tc : Thread Cert.OddZRefIdeal.nD Cert.OddZRefIdeal.τ).loc Cert.OddZRefIdeal.main_arg1))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1))
      ∧ r.2.sem = fun _ => 0)

def quiescent_EvenConv [hEvenConv : Cert.EvenConv.Facts] : Prop :=
  ∀ (m : (ℓ : Loc Cert.EvenConv.nD Cert.EvenConv.τ Cert.EvenConv.sig) → Buf (Elt Bits) ℓ) (g : Dev Cert.EvenConv.nD → PrngReg), Pre_EvenConv m →
    θ_run (Cert.EvenConv.defs (F := Bits)) (onTc (τ := Cert.EvenConv.τ) (Cert.EvenConv.main (F := Bits))) ⟨m, fun _ => 0, g⟩ (fun r => (∀ c : Dev Cert.EvenConv.nD,
      r.2.mem ((c.tc : Thread Cert.EvenConv.nD Cert.EvenConv.τ).loc Cert.EvenConv.main_arg0) = m ((c.tc : Thread Cert.EvenConv.nD Cert.EvenConv.τ).loc Cert.EvenConv.main_arg0)
      ∧ r.2.mem ((c.tc : Thread Cert.EvenConv.nD Cert.EvenConv.τ).loc Cert.EvenConv.main_arg1) = m ((c.tc : Thread Cert.EvenConv.nD Cert.EvenConv.τ).loc Cert.EvenConv.main_arg1))
      ∧ r.2.sem = fun _ => 0)

def quiescent_EvenConvIdeal [hEvenConvIdeal : Cert.EvenConvIdeal.Facts] : Prop :=
  ∀ (m : (ℓ : Loc Cert.EvenConvIdeal.nD Cert.EvenConvIdeal.τ Cert.EvenConvIdeal.sig) → Buf (Elt Ideal) ℓ) (g : Dev Cert.EvenConvIdeal.nD → PrngReg), Pre_EvenConvIdeal m →
    θ_run (Cert.EvenConvIdeal.defs (F := Ideal)) (onTc (τ := Cert.EvenConvIdeal.τ) (Cert.EvenConvIdeal.main (F := Ideal))) ⟨m, fun _ => 0, g⟩ (fun r => (∀ c : Dev Cert.EvenConvIdeal.nD,
      r.2.mem ((c.tc : Thread Cert.EvenConvIdeal.nD Cert.EvenConvIdeal.τ).loc Cert.EvenConvIdeal.main_arg0) = m ((c.tc : Thread Cert.EvenConvIdeal.nD Cert.EvenConvIdeal.τ).loc Cert.EvenConvIdeal.main_arg0)
      ∧ r.2.mem ((c.tc : Thread Cert.EvenConvIdeal.nD Cert.EvenConvIdeal.τ).loc Cert.EvenConvIdeal.main_arg1) = m ((c.tc : Thread Cert.EvenConvIdeal.nD Cert.EvenConvIdeal.τ).loc Cert.EvenConvIdeal.main_arg1))
      ∧ r.2.sem = fun _ => 0)

def quiescent_EvenConvRefIdeal [hEvenConvRefIdeal : Cert.EvenConvRefIdeal.Facts] : Prop :=
  ∀ (m : (ℓ : Loc Cert.EvenConvRefIdeal.nD Cert.EvenConvRefIdeal.τ Cert.EvenConvRefIdeal.sig) → Buf (Elt Ideal) ℓ) (g : Dev Cert.EvenConvRefIdeal.nD → PrngReg), Pre_EvenConvRefIdeal m →
    θ_run (Cert.EvenConvRefIdeal.defs (F := Ideal)) (onTc (τ := Cert.EvenConvRefIdeal.τ) (Cert.EvenConvRefIdeal.main (F := Ideal))) ⟨m, fun _ => 0, g⟩ (fun r => (∀ c : Dev Cert.EvenConvRefIdeal.nD,
      r.2.mem ((c.tc : Thread Cert.EvenConvRefIdeal.nD Cert.EvenConvRefIdeal.τ).loc Cert.EvenConvRefIdeal.main_arg0) = m ((c.tc : Thread Cert.EvenConvRefIdeal.nD Cert.EvenConvRefIdeal.τ).loc Cert.EvenConvRefIdeal.main_arg0)
      ∧ r.2.mem ((c.tc : Thread Cert.EvenConvRefIdeal.nD Cert.EvenConvRefIdeal.τ).loc Cert.EvenConvRefIdeal.main_arg1) = m ((c.tc : Thread Cert.EvenConvRefIdeal.nD Cert.EvenConvRefIdeal.τ).loc Cert.EvenConvRefIdeal.main_arg1))
      ∧ r.2.sem = fun _ => 0)

def quiescent_EvenQkv [hEvenQkv : Cert.EvenQkv.Facts] : Prop :=
  ∀ (m : (ℓ : Loc Cert.EvenQkv.nD Cert.EvenQkv.τ Cert.EvenQkv.sig) → Buf (Elt Bits) ℓ) (g : Dev Cert.EvenQkv.nD → PrngReg), Pre_EvenQkv m →
    θ_run (Cert.EvenQkv.defs (F := Bits)) (onTc (τ := Cert.EvenQkv.τ) (Cert.EvenQkv.main (F := Bits))) ⟨m, fun _ => 0, g⟩ (fun r => (∀ c : Dev Cert.EvenQkv.nD,
      r.2.mem ((c.tc : Thread Cert.EvenQkv.nD Cert.EvenQkv.τ).loc Cert.EvenQkv.main_arg0) = m ((c.tc : Thread Cert.EvenQkv.nD Cert.EvenQkv.τ).loc Cert.EvenQkv.main_arg0)
      ∧ r.2.mem ((c.tc : Thread Cert.EvenQkv.nD Cert.EvenQkv.τ).loc Cert.EvenQkv.main_arg1) = m ((c.tc : Thread Cert.EvenQkv.nD Cert.EvenQkv.τ).loc Cert.EvenQkv.main_arg1))
      ∧ r.2.sem = fun _ => 0)

def quiescent_EvenQkvIdeal [hEvenQkvIdeal : Cert.EvenQkvIdeal.Facts] : Prop :=
  ∀ (m : (ℓ : Loc Cert.EvenQkvIdeal.nD Cert.EvenQkvIdeal.τ Cert.EvenQkvIdeal.sig) → Buf (Elt Ideal) ℓ) (g : Dev Cert.EvenQkvIdeal.nD → PrngReg), Pre_EvenQkvIdeal m →
    θ_run (Cert.EvenQkvIdeal.defs (F := Ideal)) (onTc (τ := Cert.EvenQkvIdeal.τ) (Cert.EvenQkvIdeal.main (F := Ideal))) ⟨m, fun _ => 0, g⟩ (fun r => (∀ c : Dev Cert.EvenQkvIdeal.nD,
      r.2.mem ((c.tc : Thread Cert.EvenQkvIdeal.nD Cert.EvenQkvIdeal.τ).loc Cert.EvenQkvIdeal.main_arg0) = m ((c.tc : Thread Cert.EvenQkvIdeal.nD Cert.EvenQkvIdeal.τ).loc Cert.EvenQkvIdeal.main_arg0)
      ∧ r.2.mem ((c.tc : Thread Cert.EvenQkvIdeal.nD Cert.EvenQkvIdeal.τ).loc Cert.EvenQkvIdeal.main_arg1) = m ((c.tc : Thread Cert.EvenQkvIdeal.nD Cert.EvenQkvIdeal.τ).loc Cert.EvenQkvIdeal.main_arg1))
      ∧ r.2.sem = fun _ => 0)

def quiescent_EvenQkvRefIdeal [hEvenQkvRefIdeal : Cert.EvenQkvRefIdeal.Facts] : Prop :=
  ∀ (m : (ℓ : Loc Cert.EvenQkvRefIdeal.nD Cert.EvenQkvRefIdeal.τ Cert.EvenQkvRefIdeal.sig) → Buf (Elt Ideal) ℓ) (g : Dev Cert.EvenQkvRefIdeal.nD → PrngReg), Pre_EvenQkvRefIdeal m →
    θ_run (Cert.EvenQkvRefIdeal.defs (F := Ideal)) (onTc (τ := Cert.EvenQkvRefIdeal.τ) (Cert.EvenQkvRefIdeal.main (F := Ideal))) ⟨m, fun _ => 0, g⟩ (fun r => (∀ c : Dev Cert.EvenQkvRefIdeal.nD,
      r.2.mem ((c.tc : Thread Cert.EvenQkvRefIdeal.nD Cert.EvenQkvRefIdeal.τ).loc Cert.EvenQkvRefIdeal.main_arg0) = m ((c.tc : Thread Cert.EvenQkvRefIdeal.nD Cert.EvenQkvRefIdeal.τ).loc Cert.EvenQkvRefIdeal.main_arg0)
      ∧ r.2.mem ((c.tc : Thread Cert.EvenQkvRefIdeal.nD Cert.EvenQkvRefIdeal.τ).loc Cert.EvenQkvRefIdeal.main_arg1) = m ((c.tc : Thread Cert.EvenQkvRefIdeal.nD Cert.EvenQkvRefIdeal.τ).loc Cert.EvenQkvRefIdeal.main_arg1))
      ∧ r.2.sem = fun _ => 0)

def quiescent_PleGate [hPleGate : Cert.PleGate.Facts] : Prop :=
  ∀ (m : (ℓ : Loc Cert.PleGate.nD Cert.PleGate.τ Cert.PleGate.sig) → Buf (Elt Bits) ℓ) (g : Dev Cert.PleGate.nD → PrngReg), Pre_PleGate m →
    θ_run (Cert.PleGate.defs (F := Bits)) (onTc (τ := Cert.PleGate.τ) (Cert.PleGate.main (F := Bits))) ⟨m, fun _ => 0, g⟩ (fun r => (∀ c : Dev Cert.PleGate.nD,
      r.2.mem ((c.tc : Thread Cert.PleGate.nD Cert.PleGate.τ).loc Cert.PleGate.main_arg0) = m ((c.tc : Thread Cert.PleGate.nD Cert.PleGate.τ).loc Cert.PleGate.main_arg0)
      ∧ r.2.mem ((c.tc : Thread Cert.PleGate.nD Cert.PleGate.τ).loc Cert.PleGate.main_arg1) = m ((c.tc : Thread Cert.PleGate.nD Cert.PleGate.τ).loc Cert.PleGate.main_arg1))
      ∧ r.2.sem = fun _ => 0)

def quiescent_PleGateIdeal [hPleGateIdeal : Cert.PleGateIdeal.Facts] : Prop :=
  ∀ (m : (ℓ : Loc Cert.PleGateIdeal.nD Cert.PleGateIdeal.τ Cert.PleGateIdeal.sig) → Buf (Elt Ideal) ℓ) (g : Dev Cert.PleGateIdeal.nD → PrngReg), Pre_PleGateIdeal m →
    θ_run (Cert.PleGateIdeal.defs (F := Ideal)) (onTc (τ := Cert.PleGateIdeal.τ) (Cert.PleGateIdeal.main (F := Ideal))) ⟨m, fun _ => 0, g⟩ (fun r => (∀ c : Dev Cert.PleGateIdeal.nD,
      r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
      ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1))
      ∧ r.2.sem = fun _ => 0)

def quiescent_PleGateRefIdeal [hPleGateRefIdeal : Cert.PleGateRefIdeal.Facts] : Prop :=
  ∀ (m : (ℓ : Loc Cert.PleGateRefIdeal.nD Cert.PleGateRefIdeal.τ Cert.PleGateRefIdeal.sig) → Buf (Elt Ideal) ℓ) (g : Dev Cert.PleGateRefIdeal.nD → PrngReg), Pre_PleGateRefIdeal m →
    θ_run (Cert.PleGateRefIdeal.defs (F := Ideal)) (onTc (τ := Cert.PleGateRefIdeal.τ) (Cert.PleGateRefIdeal.main (F := Ideal))) ⟨m, fun _ => 0, g⟩ (fun r => (∀ c : Dev Cert.PleGateRefIdeal.nD,
      r.2.mem ((c.tc : Thread Cert.PleGateRefIdeal.nD Cert.PleGateRefIdeal.τ).loc Cert.PleGateRefIdeal.main_arg0) = m ((c.tc : Thread Cert.PleGateRefIdeal.nD Cert.PleGateRefIdeal.τ).loc Cert.PleGateRefIdeal.main_arg0)
      ∧ r.2.mem ((c.tc : Thread Cert.PleGateRefIdeal.nD Cert.PleGateRefIdeal.τ).loc Cert.PleGateRefIdeal.main_arg1) = m ((c.tc : Thread Cert.PleGateRefIdeal.nD Cert.PleGateRefIdeal.τ).loc Cert.PleGateRefIdeal.main_arg1))
      ∧ r.2.sem = fun _ => 0)

def quiescent_PleProj [hPleProj : Cert.PleProj.Facts] : Prop :=
  ∀ (m : (ℓ : Loc Cert.PleProj.nD Cert.PleProj.τ Cert.PleProj.sig) → Buf (Elt Bits) ℓ) (g : Dev Cert.PleProj.nD → PrngReg), Pre_PleProj m →
    θ_run (Cert.PleProj.defs (F := Bits)) (onTc (τ := Cert.PleProj.τ) (Cert.PleProj.main (F := Bits))) ⟨m, fun _ => 0, g⟩ (fun r => (∀ c : Dev Cert.PleProj.nD,
      r.2.mem ((c.tc : Thread Cert.PleProj.nD Cert.PleProj.τ).loc Cert.PleProj.main_arg0) = m ((c.tc : Thread Cert.PleProj.nD Cert.PleProj.τ).loc Cert.PleProj.main_arg0)
      ∧ r.2.mem ((c.tc : Thread Cert.PleProj.nD Cert.PleProj.τ).loc Cert.PleProj.main_arg1) = m ((c.tc : Thread Cert.PleProj.nD Cert.PleProj.τ).loc Cert.PleProj.main_arg1))
      ∧ r.2.sem = fun _ => 0)

def quiescent_PleProjIdeal [hPleProjIdeal : Cert.PleProjIdeal.Facts] : Prop :=
  ∀ (m : (ℓ : Loc Cert.PleProjIdeal.nD Cert.PleProjIdeal.τ Cert.PleProjIdeal.sig) → Buf (Elt Ideal) ℓ) (g : Dev Cert.PleProjIdeal.nD → PrngReg), Pre_PleProjIdeal m →
    θ_run (Cert.PleProjIdeal.defs (F := Ideal)) (onTc (τ := Cert.PleProjIdeal.τ) (Cert.PleProjIdeal.main (F := Ideal))) ⟨m, fun _ => 0, g⟩ (fun r => (∀ c : Dev Cert.PleProjIdeal.nD,
      r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
      ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ r.2.sem = fun _ => 0)

def quiescent_PleProjRefIdeal [hPleProjRefIdeal : Cert.PleProjRefIdeal.Facts] : Prop :=
  ∀ (m : (ℓ : Loc Cert.PleProjRefIdeal.nD Cert.PleProjRefIdeal.τ Cert.PleProjRefIdeal.sig) → Buf (Elt Ideal) ℓ) (g : Dev Cert.PleProjRefIdeal.nD → PrngReg), Pre_PleProjRefIdeal m →
    θ_run (Cert.PleProjRefIdeal.defs (F := Ideal)) (onTc (τ := Cert.PleProjRefIdeal.τ) (Cert.PleProjRefIdeal.main (F := Ideal))) ⟨m, fun _ => 0, g⟩ (fun r => (∀ c : Dev Cert.PleProjRefIdeal.nD,
      r.2.mem ((c.tc : Thread Cert.PleProjRefIdeal.nD Cert.PleProjRefIdeal.τ).loc Cert.PleProjRefIdeal.main_arg0) = m ((c.tc : Thread Cert.PleProjRefIdeal.nD Cert.PleProjRefIdeal.τ).loc Cert.PleProjRefIdeal.main_arg0)
      ∧ r.2.mem ((c.tc : Thread Cert.PleProjRefIdeal.nD Cert.PleProjRefIdeal.τ).loc Cert.PleProjRefIdeal.main_arg1) = m ((c.tc : Thread Cert.PleProjRefIdeal.nD Cert.PleProjRefIdeal.τ).loc Cert.PleProjRefIdeal.main_arg1))
      ∧ r.2.sem = fun _ => 0)

def quiescent_AdamEvenIn [hAdamEvenIn : Cert.AdamEvenIn.Facts] : Prop :=
  ∀ (m : (ℓ : Loc Cert.AdamEvenIn.nD Cert.AdamEvenIn.τ Cert.AdamEvenIn.sig) → Buf (Elt Bits) ℓ) (g : Dev Cert.AdamEvenIn.nD → PrngReg), Pre_AdamEvenIn m →
    θ_run (Cert.AdamEvenIn.defs (F := Bits)) (onTc (τ := Cert.AdamEvenIn.τ) (Cert.AdamEvenIn.main (F := Bits))) ⟨m, fun _ => 0, g⟩ (fun r => (∀ c : Dev Cert.AdamEvenIn.nD,
      r.2.mem ((c.tc : Thread Cert.AdamEvenIn.nD Cert.AdamEvenIn.τ).loc Cert.AdamEvenIn.main_arg0) = m ((c.tc : Thread Cert.AdamEvenIn.nD Cert.AdamEvenIn.τ).loc Cert.AdamEvenIn.main_arg0)
      ∧ r.2.mem ((c.tc : Thread Cert.AdamEvenIn.nD Cert.AdamEvenIn.τ).loc Cert.AdamEvenIn.main_arg1) = m ((c.tc : Thread Cert.AdamEvenIn.nD Cert.AdamEvenIn.τ).loc Cert.AdamEvenIn.main_arg1)
      ∧ r.2.mem ((c.tc : Thread Cert.AdamEvenIn.nD Cert.AdamEvenIn.τ).loc Cert.AdamEvenIn.main_arg2) = m ((c.tc : Thread Cert.AdamEvenIn.nD Cert.AdamEvenIn.τ).loc Cert.AdamEvenIn.main_arg2)
      ∧ r.2.mem ((c.tc : Thread Cert.AdamEvenIn.nD Cert.AdamEvenIn.τ).loc Cert.AdamEvenIn.main_arg3) = m ((c.tc : Thread Cert.AdamEvenIn.nD Cert.AdamEvenIn.τ).loc Cert.AdamEvenIn.main_arg3))
      ∧ r.2.sem = fun _ => 0)

def quiescent_AdamEvenInIdeal [hAdamEvenInIdeal : Cert.AdamEvenInIdeal.Facts] : Prop :=
  ∀ (m : (ℓ : Loc Cert.AdamEvenInIdeal.nD Cert.AdamEvenInIdeal.τ Cert.AdamEvenInIdeal.sig) → Buf (Elt Ideal) ℓ) (g : Dev Cert.AdamEvenInIdeal.nD → PrngReg), Pre_AdamEvenInIdeal m →
    θ_run (Cert.AdamEvenInIdeal.defs (F := Ideal)) (onTc (τ := Cert.AdamEvenInIdeal.τ) (Cert.AdamEvenInIdeal.main (F := Ideal))) ⟨m, fun _ => 0, g⟩ (fun r => (∀ c : Dev Cert.AdamEvenInIdeal.nD,
      r.2.mem ((c.tc : Thread Cert.AdamEvenInIdeal.nD Cert.AdamEvenInIdeal.τ).loc Cert.AdamEvenInIdeal.main_arg0) = m ((c.tc : Thread Cert.AdamEvenInIdeal.nD Cert.AdamEvenInIdeal.τ).loc Cert.AdamEvenInIdeal.main_arg0)
      ∧ r.2.mem ((c.tc : Thread Cert.AdamEvenInIdeal.nD Cert.AdamEvenInIdeal.τ).loc Cert.AdamEvenInIdeal.main_arg1) = m ((c.tc : Thread Cert.AdamEvenInIdeal.nD Cert.AdamEvenInIdeal.τ).loc Cert.AdamEvenInIdeal.main_arg1)
      ∧ r.2.mem ((c.tc : Thread Cert.AdamEvenInIdeal.nD Cert.AdamEvenInIdeal.τ).loc Cert.AdamEvenInIdeal.main_arg2) = m ((c.tc : Thread Cert.AdamEvenInIdeal.nD Cert.AdamEvenInIdeal.τ).loc Cert.AdamEvenInIdeal.main_arg2)
      ∧ r.2.mem ((c.tc : Thread Cert.AdamEvenInIdeal.nD Cert.AdamEvenInIdeal.τ).loc Cert.AdamEvenInIdeal.main_arg3) = m ((c.tc : Thread Cert.AdamEvenInIdeal.nD Cert.AdamEvenInIdeal.τ).loc Cert.AdamEvenInIdeal.main_arg3))
      ∧ r.2.sem = fun _ => 0)

def quiescent_AdamEvenInRefIdeal [hAdamEvenInRefIdeal : Cert.AdamEvenInRefIdeal.Facts] : Prop :=
  ∀ (m : (ℓ : Loc Cert.AdamEvenInRefIdeal.nD Cert.AdamEvenInRefIdeal.τ Cert.AdamEvenInRefIdeal.sig) → Buf (Elt Ideal) ℓ) (g : Dev Cert.AdamEvenInRefIdeal.nD → PrngReg), Pre_AdamEvenInRefIdeal m →
    θ_run (Cert.AdamEvenInRefIdeal.defs (F := Ideal)) (onTc (τ := Cert.AdamEvenInRefIdeal.τ) (Cert.AdamEvenInRefIdeal.main (F := Ideal))) ⟨m, fun _ => 0, g⟩ (fun r => (∀ c : Dev Cert.AdamEvenInRefIdeal.nD,
      r.2.mem ((c.tc : Thread Cert.AdamEvenInRefIdeal.nD Cert.AdamEvenInRefIdeal.τ).loc Cert.AdamEvenInRefIdeal.main_arg0) = m ((c.tc : Thread Cert.AdamEvenInRefIdeal.nD Cert.AdamEvenInRefIdeal.τ).loc Cert.AdamEvenInRefIdeal.main_arg0)
      ∧ r.2.mem ((c.tc : Thread Cert.AdamEvenInRefIdeal.nD Cert.AdamEvenInRefIdeal.τ).loc Cert.AdamEvenInRefIdeal.main_arg1) = m ((c.tc : Thread Cert.AdamEvenInRefIdeal.nD Cert.AdamEvenInRefIdeal.τ).loc Cert.AdamEvenInRefIdeal.main_arg1)
      ∧ r.2.mem ((c.tc : Thread Cert.AdamEvenInRefIdeal.nD Cert.AdamEvenInRefIdeal.τ).loc Cert.AdamEvenInRefIdeal.main_arg2) = m ((c.tc : Thread Cert.AdamEvenInRefIdeal.nD Cert.AdamEvenInRefIdeal.τ).loc Cert.AdamEvenInRefIdeal.main_arg2)
      ∧ r.2.mem ((c.tc : Thread Cert.AdamEvenInRefIdeal.nD Cert.AdamEvenInRefIdeal.τ).loc Cert.AdamEvenInRefIdeal.main_arg3) = m ((c.tc : Thread Cert.AdamEvenInRefIdeal.nD Cert.AdamEvenInRefIdeal.τ).loc Cert.AdamEvenInRefIdeal.main_arg3))
      ∧ r.2.sem = fun _ => 0)

def quiescent_AdamEvenOut [hAdamEvenOut : Cert.AdamEvenOut.Facts] : Prop :=
  ∀ (m : (ℓ : Loc Cert.AdamEvenOut.nD Cert.AdamEvenOut.τ Cert.AdamEvenOut.sig) → Buf (Elt Bits) ℓ) (g : Dev Cert.AdamEvenOut.nD → PrngReg), Pre_AdamEvenOut m →
    θ_run (Cert.AdamEvenOut.defs (F := Bits)) (onTc (τ := Cert.AdamEvenOut.τ) (Cert.AdamEvenOut.main (F := Bits))) ⟨m, fun _ => 0, g⟩ (fun r => (∀ c : Dev Cert.AdamEvenOut.nD,
      r.2.mem ((c.tc : Thread Cert.AdamEvenOut.nD Cert.AdamEvenOut.τ).loc Cert.AdamEvenOut.main_arg0) = m ((c.tc : Thread Cert.AdamEvenOut.nD Cert.AdamEvenOut.τ).loc Cert.AdamEvenOut.main_arg0)
      ∧ r.2.mem ((c.tc : Thread Cert.AdamEvenOut.nD Cert.AdamEvenOut.τ).loc Cert.AdamEvenOut.main_arg1) = m ((c.tc : Thread Cert.AdamEvenOut.nD Cert.AdamEvenOut.τ).loc Cert.AdamEvenOut.main_arg1)
      ∧ r.2.mem ((c.tc : Thread Cert.AdamEvenOut.nD Cert.AdamEvenOut.τ).loc Cert.AdamEvenOut.main_arg2) = m ((c.tc : Thread Cert.AdamEvenOut.nD Cert.AdamEvenOut.τ).loc Cert.AdamEvenOut.main_arg2)
      ∧ r.2.mem ((c.tc : Thread Cert.AdamEvenOut.nD Cert.AdamEvenOut.τ).loc Cert.AdamEvenOut.main_arg3) = m ((c.tc : Thread Cert.AdamEvenOut.nD Cert.AdamEvenOut.τ).loc Cert.AdamEvenOut.main_arg3))
      ∧ r.2.sem = fun _ => 0)

def quiescent_AdamEvenOutIdeal [hAdamEvenOutIdeal : Cert.AdamEvenOutIdeal.Facts] : Prop :=
  ∀ (m : (ℓ : Loc Cert.AdamEvenOutIdeal.nD Cert.AdamEvenOutIdeal.τ Cert.AdamEvenOutIdeal.sig) → Buf (Elt Ideal) ℓ) (g : Dev Cert.AdamEvenOutIdeal.nD → PrngReg), Pre_AdamEvenOutIdeal m →
    θ_run (Cert.AdamEvenOutIdeal.defs (F := Ideal)) (onTc (τ := Cert.AdamEvenOutIdeal.τ) (Cert.AdamEvenOutIdeal.main (F := Ideal))) ⟨m, fun _ => 0, g⟩ (fun r => (∀ c : Dev Cert.AdamEvenOutIdeal.nD,
      r.2.mem ((c.tc : Thread Cert.AdamEvenOutIdeal.nD Cert.AdamEvenOutIdeal.τ).loc Cert.AdamEvenOutIdeal.main_arg0) = m ((c.tc : Thread Cert.AdamEvenOutIdeal.nD Cert.AdamEvenOutIdeal.τ).loc Cert.AdamEvenOutIdeal.main_arg0)
      ∧ r.2.mem ((c.tc : Thread Cert.AdamEvenOutIdeal.nD Cert.AdamEvenOutIdeal.τ).loc Cert.AdamEvenOutIdeal.main_arg1) = m ((c.tc : Thread Cert.AdamEvenOutIdeal.nD Cert.AdamEvenOutIdeal.τ).loc Cert.AdamEvenOutIdeal.main_arg1)
      ∧ r.2.mem ((c.tc : Thread Cert.AdamEvenOutIdeal.nD Cert.AdamEvenOutIdeal.τ).loc Cert.AdamEvenOutIdeal.main_arg2) = m ((c.tc : Thread Cert.AdamEvenOutIdeal.nD Cert.AdamEvenOutIdeal.τ).loc Cert.AdamEvenOutIdeal.main_arg2)
      ∧ r.2.mem ((c.tc : Thread Cert.AdamEvenOutIdeal.nD Cert.AdamEvenOutIdeal.τ).loc Cert.AdamEvenOutIdeal.main_arg3) = m ((c.tc : Thread Cert.AdamEvenOutIdeal.nD Cert.AdamEvenOutIdeal.τ).loc Cert.AdamEvenOutIdeal.main_arg3))
      ∧ r.2.sem = fun _ => 0)

def quiescent_AdamEvenOutRefIdeal [hAdamEvenOutRefIdeal : Cert.AdamEvenOutRefIdeal.Facts] : Prop :=
  ∀ (m : (ℓ : Loc Cert.AdamEvenOutRefIdeal.nD Cert.AdamEvenOutRefIdeal.τ Cert.AdamEvenOutRefIdeal.sig) → Buf (Elt Ideal) ℓ) (g : Dev Cert.AdamEvenOutRefIdeal.nD → PrngReg), Pre_AdamEvenOutRefIdeal m →
    θ_run (Cert.AdamEvenOutRefIdeal.defs (F := Ideal)) (onTc (τ := Cert.AdamEvenOutRefIdeal.τ) (Cert.AdamEvenOutRefIdeal.main (F := Ideal))) ⟨m, fun _ => 0, g⟩ (fun r => (∀ c : Dev Cert.AdamEvenOutRefIdeal.nD,
      r.2.mem ((c.tc : Thread Cert.AdamEvenOutRefIdeal.nD Cert.AdamEvenOutRefIdeal.τ).loc Cert.AdamEvenOutRefIdeal.main_arg0) = m ((c.tc : Thread Cert.AdamEvenOutRefIdeal.nD Cert.AdamEvenOutRefIdeal.τ).loc Cert.AdamEvenOutRefIdeal.main_arg0)
      ∧ r.2.mem ((c.tc : Thread Cert.AdamEvenOutRefIdeal.nD Cert.AdamEvenOutRefIdeal.τ).loc Cert.AdamEvenOutRefIdeal.main_arg1) = m ((c.tc : Thread Cert.AdamEvenOutRefIdeal.nD Cert.AdamEvenOutRefIdeal.τ).loc Cert.AdamEvenOutRefIdeal.main_arg1)
      ∧ r.2.mem ((c.tc : Thread Cert.AdamEvenOutRefIdeal.nD Cert.AdamEvenOutRefIdeal.τ).loc Cert.AdamEvenOutRefIdeal.main_arg2) = m ((c.tc : Thread Cert.AdamEvenOutRefIdeal.nD Cert.AdamEvenOutRefIdeal.τ).loc Cert.AdamEvenOutRefIdeal.main_arg2)
      ∧ r.2.mem ((c.tc : Thread Cert.AdamEvenOutRefIdeal.nD Cert.AdamEvenOutRefIdeal.τ).loc Cert.AdamEvenOutRefIdeal.main_arg3) = m ((c.tc : Thread Cert.AdamEvenOutRefIdeal.nD Cert.AdamEvenOutRefIdeal.τ).loc Cert.AdamEvenOutRefIdeal.main_arg3))
      ∧ r.2.sem = fun _ => 0)

def quiescent_AdamOddIn [hAdamOddIn : Cert.AdamOddIn.Facts] : Prop :=
  ∀ (m : (ℓ : Loc Cert.AdamOddIn.nD Cert.AdamOddIn.τ Cert.AdamOddIn.sig) → Buf (Elt Bits) ℓ) (g : Dev Cert.AdamOddIn.nD → PrngReg), Pre_AdamOddIn m →
    θ_run (Cert.AdamOddIn.defs (F := Bits)) (onTc (τ := Cert.AdamOddIn.τ) (Cert.AdamOddIn.main (F := Bits))) ⟨m, fun _ => 0, g⟩ (fun r => (∀ c : Dev Cert.AdamOddIn.nD,
      r.2.mem ((c.tc : Thread Cert.AdamOddIn.nD Cert.AdamOddIn.τ).loc Cert.AdamOddIn.main_arg0) = m ((c.tc : Thread Cert.AdamOddIn.nD Cert.AdamOddIn.τ).loc Cert.AdamOddIn.main_arg0)
      ∧ r.2.mem ((c.tc : Thread Cert.AdamOddIn.nD Cert.AdamOddIn.τ).loc Cert.AdamOddIn.main_arg1) = m ((c.tc : Thread Cert.AdamOddIn.nD Cert.AdamOddIn.τ).loc Cert.AdamOddIn.main_arg1)
      ∧ r.2.mem ((c.tc : Thread Cert.AdamOddIn.nD Cert.AdamOddIn.τ).loc Cert.AdamOddIn.main_arg2) = m ((c.tc : Thread Cert.AdamOddIn.nD Cert.AdamOddIn.τ).loc Cert.AdamOddIn.main_arg2)
      ∧ r.2.mem ((c.tc : Thread Cert.AdamOddIn.nD Cert.AdamOddIn.τ).loc Cert.AdamOddIn.main_arg3) = m ((c.tc : Thread Cert.AdamOddIn.nD Cert.AdamOddIn.τ).loc Cert.AdamOddIn.main_arg3))
      ∧ r.2.sem = fun _ => 0)

def quiescent_AdamOddInIdeal [hAdamOddInIdeal : Cert.AdamOddInIdeal.Facts] : Prop :=
  ∀ (m : (ℓ : Loc Cert.AdamOddInIdeal.nD Cert.AdamOddInIdeal.τ Cert.AdamOddInIdeal.sig) → Buf (Elt Ideal) ℓ) (g : Dev Cert.AdamOddInIdeal.nD → PrngReg), Pre_AdamOddInIdeal m →
    θ_run (Cert.AdamOddInIdeal.defs (F := Ideal)) (onTc (τ := Cert.AdamOddInIdeal.τ) (Cert.AdamOddInIdeal.main (F := Ideal))) ⟨m, fun _ => 0, g⟩ (fun r => (∀ c : Dev Cert.AdamOddInIdeal.nD,
      r.2.mem ((c.tc : Thread Cert.AdamOddInIdeal.nD Cert.AdamOddInIdeal.τ).loc Cert.AdamOddInIdeal.main_arg0) = m ((c.tc : Thread Cert.AdamOddInIdeal.nD Cert.AdamOddInIdeal.τ).loc Cert.AdamOddInIdeal.main_arg0)
      ∧ r.2.mem ((c.tc : Thread Cert.AdamOddInIdeal.nD Cert.AdamOddInIdeal.τ).loc Cert.AdamOddInIdeal.main_arg1) = m ((c.tc : Thread Cert.AdamOddInIdeal.nD Cert.AdamOddInIdeal.τ).loc Cert.AdamOddInIdeal.main_arg1)
      ∧ r.2.mem ((c.tc : Thread Cert.AdamOddInIdeal.nD Cert.AdamOddInIdeal.τ).loc Cert.AdamOddInIdeal.main_arg2) = m ((c.tc : Thread Cert.AdamOddInIdeal.nD Cert.AdamOddInIdeal.τ).loc Cert.AdamOddInIdeal.main_arg2)
      ∧ r.2.mem ((c.tc : Thread Cert.AdamOddInIdeal.nD Cert.AdamOddInIdeal.τ).loc Cert.AdamOddInIdeal.main_arg3) = m ((c.tc : Thread Cert.AdamOddInIdeal.nD Cert.AdamOddInIdeal.τ).loc Cert.AdamOddInIdeal.main_arg3))
      ∧ r.2.sem = fun _ => 0)

def quiescent_AdamOddInRefIdeal [hAdamOddInRefIdeal : Cert.AdamOddInRefIdeal.Facts] : Prop :=
  ∀ (m : (ℓ : Loc Cert.AdamOddInRefIdeal.nD Cert.AdamOddInRefIdeal.τ Cert.AdamOddInRefIdeal.sig) → Buf (Elt Ideal) ℓ) (g : Dev Cert.AdamOddInRefIdeal.nD → PrngReg), Pre_AdamOddInRefIdeal m →
    θ_run (Cert.AdamOddInRefIdeal.defs (F := Ideal)) (onTc (τ := Cert.AdamOddInRefIdeal.τ) (Cert.AdamOddInRefIdeal.main (F := Ideal))) ⟨m, fun _ => 0, g⟩ (fun r => (∀ c : Dev Cert.AdamOddInRefIdeal.nD,
      r.2.mem ((c.tc : Thread Cert.AdamOddInRefIdeal.nD Cert.AdamOddInRefIdeal.τ).loc Cert.AdamOddInRefIdeal.main_arg0) = m ((c.tc : Thread Cert.AdamOddInRefIdeal.nD Cert.AdamOddInRefIdeal.τ).loc Cert.AdamOddInRefIdeal.main_arg0)
      ∧ r.2.mem ((c.tc : Thread Cert.AdamOddInRefIdeal.nD Cert.AdamOddInRefIdeal.τ).loc Cert.AdamOddInRefIdeal.main_arg1) = m ((c.tc : Thread Cert.AdamOddInRefIdeal.nD Cert.AdamOddInRefIdeal.τ).loc Cert.AdamOddInRefIdeal.main_arg1)
      ∧ r.2.mem ((c.tc : Thread Cert.AdamOddInRefIdeal.nD Cert.AdamOddInRefIdeal.τ).loc Cert.AdamOddInRefIdeal.main_arg2) = m ((c.tc : Thread Cert.AdamOddInRefIdeal.nD Cert.AdamOddInRefIdeal.τ).loc Cert.AdamOddInRefIdeal.main_arg2)
      ∧ r.2.mem ((c.tc : Thread Cert.AdamOddInRefIdeal.nD Cert.AdamOddInRefIdeal.τ).loc Cert.AdamOddInRefIdeal.main_arg3) = m ((c.tc : Thread Cert.AdamOddInRefIdeal.nD Cert.AdamOddInRefIdeal.τ).loc Cert.AdamOddInRefIdeal.main_arg3))
      ∧ r.2.sem = fun _ => 0)

def quiescent_AdamOddOut [hAdamOddOut : Cert.AdamOddOut.Facts] : Prop :=
  ∀ (m : (ℓ : Loc Cert.AdamOddOut.nD Cert.AdamOddOut.τ Cert.AdamOddOut.sig) → Buf (Elt Bits) ℓ) (g : Dev Cert.AdamOddOut.nD → PrngReg), Pre_AdamOddOut m →
    θ_run (Cert.AdamOddOut.defs (F := Bits)) (onTc (τ := Cert.AdamOddOut.τ) (Cert.AdamOddOut.main (F := Bits))) ⟨m, fun _ => 0, g⟩ (fun r => (∀ c : Dev Cert.AdamOddOut.nD,
      r.2.mem ((c.tc : Thread Cert.AdamOddOut.nD Cert.AdamOddOut.τ).loc Cert.AdamOddOut.main_arg0) = m ((c.tc : Thread Cert.AdamOddOut.nD Cert.AdamOddOut.τ).loc Cert.AdamOddOut.main_arg0)
      ∧ r.2.mem ((c.tc : Thread Cert.AdamOddOut.nD Cert.AdamOddOut.τ).loc Cert.AdamOddOut.main_arg1) = m ((c.tc : Thread Cert.AdamOddOut.nD Cert.AdamOddOut.τ).loc Cert.AdamOddOut.main_arg1)
      ∧ r.2.mem ((c.tc : Thread Cert.AdamOddOut.nD Cert.AdamOddOut.τ).loc Cert.AdamOddOut.main_arg2) = m ((c.tc : Thread Cert.AdamOddOut.nD Cert.AdamOddOut.τ).loc Cert.AdamOddOut.main_arg2)
      ∧ r.2.mem ((c.tc : Thread Cert.AdamOddOut.nD Cert.AdamOddOut.τ).loc Cert.AdamOddOut.main_arg3) = m ((c.tc : Thread Cert.AdamOddOut.nD Cert.AdamOddOut.τ).loc Cert.AdamOddOut.main_arg3))
      ∧ r.2.sem = fun _ => 0)

def quiescent_AdamOddOutIdeal [hAdamOddOutIdeal : Cert.AdamOddOutIdeal.Facts] : Prop :=
  ∀ (m : (ℓ : Loc Cert.AdamOddOutIdeal.nD Cert.AdamOddOutIdeal.τ Cert.AdamOddOutIdeal.sig) → Buf (Elt Ideal) ℓ) (g : Dev Cert.AdamOddOutIdeal.nD → PrngReg), Pre_AdamOddOutIdeal m →
    θ_run (Cert.AdamOddOutIdeal.defs (F := Ideal)) (onTc (τ := Cert.AdamOddOutIdeal.τ) (Cert.AdamOddOutIdeal.main (F := Ideal))) ⟨m, fun _ => 0, g⟩ (fun r => (∀ c : Dev Cert.AdamOddOutIdeal.nD,
      r.2.mem ((c.tc : Thread Cert.AdamOddOutIdeal.nD Cert.AdamOddOutIdeal.τ).loc Cert.AdamOddOutIdeal.main_arg0) = m ((c.tc : Thread Cert.AdamOddOutIdeal.nD Cert.AdamOddOutIdeal.τ).loc Cert.AdamOddOutIdeal.main_arg0)
      ∧ r.2.mem ((c.tc : Thread Cert.AdamOddOutIdeal.nD Cert.AdamOddOutIdeal.τ).loc Cert.AdamOddOutIdeal.main_arg1) = m ((c.tc : Thread Cert.AdamOddOutIdeal.nD Cert.AdamOddOutIdeal.τ).loc Cert.AdamOddOutIdeal.main_arg1)
      ∧ r.2.mem ((c.tc : Thread Cert.AdamOddOutIdeal.nD Cert.AdamOddOutIdeal.τ).loc Cert.AdamOddOutIdeal.main_arg2) = m ((c.tc : Thread Cert.AdamOddOutIdeal.nD Cert.AdamOddOutIdeal.τ).loc Cert.AdamOddOutIdeal.main_arg2)
      ∧ r.2.mem ((c.tc : Thread Cert.AdamOddOutIdeal.nD Cert.AdamOddOutIdeal.τ).loc Cert.AdamOddOutIdeal.main_arg3) = m ((c.tc : Thread Cert.AdamOddOutIdeal.nD Cert.AdamOddOutIdeal.τ).loc Cert.AdamOddOutIdeal.main_arg3))
      ∧ r.2.sem = fun _ => 0)

def quiescent_AdamOddOutRefIdeal [hAdamOddOutRefIdeal : Cert.AdamOddOutRefIdeal.Facts] : Prop :=
  ∀ (m : (ℓ : Loc Cert.AdamOddOutRefIdeal.nD Cert.AdamOddOutRefIdeal.τ Cert.AdamOddOutRefIdeal.sig) → Buf (Elt Ideal) ℓ) (g : Dev Cert.AdamOddOutRefIdeal.nD → PrngReg), Pre_AdamOddOutRefIdeal m →
    θ_run (Cert.AdamOddOutRefIdeal.defs (F := Ideal)) (onTc (τ := Cert.AdamOddOutRefIdeal.τ) (Cert.AdamOddOutRefIdeal.main (F := Ideal))) ⟨m, fun _ => 0, g⟩ (fun r => (∀ c : Dev Cert.AdamOddOutRefIdeal.nD,
      r.2.mem ((c.tc : Thread Cert.AdamOddOutRefIdeal.nD Cert.AdamOddOutRefIdeal.τ).loc Cert.AdamOddOutRefIdeal.main_arg0) = m ((c.tc : Thread Cert.AdamOddOutRefIdeal.nD Cert.AdamOddOutRefIdeal.τ).loc Cert.AdamOddOutRefIdeal.main_arg0)
      ∧ r.2.mem ((c.tc : Thread Cert.AdamOddOutRefIdeal.nD Cert.AdamOddOutRefIdeal.τ).loc Cert.AdamOddOutRefIdeal.main_arg1) = m ((c.tc : Thread Cert.AdamOddOutRefIdeal.nD Cert.AdamOddOutRefIdeal.τ).loc Cert.AdamOddOutRefIdeal.main_arg1)
      ∧ r.2.mem ((c.tc : Thread Cert.AdamOddOutRefIdeal.nD Cert.AdamOddOutRefIdeal.τ).loc Cert.AdamOddOutRefIdeal.main_arg2) = m ((c.tc : Thread Cert.AdamOddOutRefIdeal.nD Cert.AdamOddOutRefIdeal.τ).loc Cert.AdamOddOutRefIdeal.main_arg2)
      ∧ r.2.mem ((c.tc : Thread Cert.AdamOddOutRefIdeal.nD Cert.AdamOddOutRefIdeal.τ).loc Cert.AdamOddOutRefIdeal.main_arg3) = m ((c.tc : Thread Cert.AdamOddOutRefIdeal.nD Cert.AdamOddOutRefIdeal.τ).loc Cert.AdamOddOutRefIdeal.main_arg3))
      ∧ r.2.sem = fun _ => 0)

def quiescent_AdamFfnUp [hAdamFfnUp : Cert.AdamFfnUp.Facts] : Prop :=
  ∀ (m : (ℓ : Loc Cert.AdamFfnUp.nD Cert.AdamFfnUp.τ Cert.AdamFfnUp.sig) → Buf (Elt Bits) ℓ) (g : Dev Cert.AdamFfnUp.nD → PrngReg), Pre_AdamFfnUp m →
    θ_run (Cert.AdamFfnUp.defs (F := Bits)) (onTc (τ := Cert.AdamFfnUp.τ) (Cert.AdamFfnUp.main (F := Bits))) ⟨m, fun _ => 0, g⟩ (fun r => (∀ c : Dev Cert.AdamFfnUp.nD,
      r.2.mem ((c.tc : Thread Cert.AdamFfnUp.nD Cert.AdamFfnUp.τ).loc Cert.AdamFfnUp.main_arg0) = m ((c.tc : Thread Cert.AdamFfnUp.nD Cert.AdamFfnUp.τ).loc Cert.AdamFfnUp.main_arg0)
      ∧ r.2.mem ((c.tc : Thread Cert.AdamFfnUp.nD Cert.AdamFfnUp.τ).loc Cert.AdamFfnUp.main_arg1) = m ((c.tc : Thread Cert.AdamFfnUp.nD Cert.AdamFfnUp.τ).loc Cert.AdamFfnUp.main_arg1)
      ∧ r.2.mem ((c.tc : Thread Cert.AdamFfnUp.nD Cert.AdamFfnUp.τ).loc Cert.AdamFfnUp.main_arg2) = m ((c.tc : Thread Cert.AdamFfnUp.nD Cert.AdamFfnUp.τ).loc Cert.AdamFfnUp.main_arg2)
      ∧ r.2.mem ((c.tc : Thread Cert.AdamFfnUp.nD Cert.AdamFfnUp.τ).loc Cert.AdamFfnUp.main_arg3) = m ((c.tc : Thread Cert.AdamFfnUp.nD Cert.AdamFfnUp.τ).loc Cert.AdamFfnUp.main_arg3))
      ∧ r.2.sem = fun _ => 0)

def quiescent_AdamFfnUpIdeal [hAdamFfnUpIdeal : Cert.AdamFfnUpIdeal.Facts] : Prop :=
  ∀ (m : (ℓ : Loc Cert.AdamFfnUpIdeal.nD Cert.AdamFfnUpIdeal.τ Cert.AdamFfnUpIdeal.sig) → Buf (Elt Ideal) ℓ) (g : Dev Cert.AdamFfnUpIdeal.nD → PrngReg), Pre_AdamFfnUpIdeal m →
    θ_run (Cert.AdamFfnUpIdeal.defs (F := Ideal)) (onTc (τ := Cert.AdamFfnUpIdeal.τ) (Cert.AdamFfnUpIdeal.main (F := Ideal))) ⟨m, fun _ => 0, g⟩ (fun r => (∀ c : Dev Cert.AdamFfnUpIdeal.nD,
      r.2.mem ((c.tc : Thread Cert.AdamFfnUpIdeal.nD Cert.AdamFfnUpIdeal.τ).loc Cert.AdamFfnUpIdeal.main_arg0) = m ((c.tc : Thread Cert.AdamFfnUpIdeal.nD Cert.AdamFfnUpIdeal.τ).loc Cert.AdamFfnUpIdeal.main_arg0)
      ∧ r.2.mem ((c.tc : Thread Cert.AdamFfnUpIdeal.nD Cert.AdamFfnUpIdeal.τ).loc Cert.AdamFfnUpIdeal.main_arg1) = m ((c.tc : Thread Cert.AdamFfnUpIdeal.nD Cert.AdamFfnUpIdeal.τ).loc Cert.AdamFfnUpIdeal.main_arg1)
      ∧ r.2.mem ((c.tc : Thread Cert.AdamFfnUpIdeal.nD Cert.AdamFfnUpIdeal.τ).loc Cert.AdamFfnUpIdeal.main_arg2) = m ((c.tc : Thread Cert.AdamFfnUpIdeal.nD Cert.AdamFfnUpIdeal.τ).loc Cert.AdamFfnUpIdeal.main_arg2)
      ∧ r.2.mem ((c.tc : Thread Cert.AdamFfnUpIdeal.nD Cert.AdamFfnUpIdeal.τ).loc Cert.AdamFfnUpIdeal.main_arg3) = m ((c.tc : Thread Cert.AdamFfnUpIdeal.nD Cert.AdamFfnUpIdeal.τ).loc Cert.AdamFfnUpIdeal.main_arg3))
      ∧ r.2.sem = fun _ => 0)

def quiescent_AdamFfnUpRefIdeal [hAdamFfnUpRefIdeal : Cert.AdamFfnUpRefIdeal.Facts] : Prop :=
  ∀ (m : (ℓ : Loc Cert.AdamFfnUpRefIdeal.nD Cert.AdamFfnUpRefIdeal.τ Cert.AdamFfnUpRefIdeal.sig) → Buf (Elt Ideal) ℓ) (g : Dev Cert.AdamFfnUpRefIdeal.nD → PrngReg), Pre_AdamFfnUpRefIdeal m →
    θ_run (Cert.AdamFfnUpRefIdeal.defs (F := Ideal)) (onTc (τ := Cert.AdamFfnUpRefIdeal.τ) (Cert.AdamFfnUpRefIdeal.main (F := Ideal))) ⟨m, fun _ => 0, g⟩ (fun r => (∀ c : Dev Cert.AdamFfnUpRefIdeal.nD,
      r.2.mem ((c.tc : Thread Cert.AdamFfnUpRefIdeal.nD Cert.AdamFfnUpRefIdeal.τ).loc Cert.AdamFfnUpRefIdeal.main_arg0) = m ((c.tc : Thread Cert.AdamFfnUpRefIdeal.nD Cert.AdamFfnUpRefIdeal.τ).loc Cert.AdamFfnUpRefIdeal.main_arg0)
      ∧ r.2.mem ((c.tc : Thread Cert.AdamFfnUpRefIdeal.nD Cert.AdamFfnUpRefIdeal.τ).loc Cert.AdamFfnUpRefIdeal.main_arg1) = m ((c.tc : Thread Cert.AdamFfnUpRefIdeal.nD Cert.AdamFfnUpRefIdeal.τ).loc Cert.AdamFfnUpRefIdeal.main_arg1)
      ∧ r.2.mem ((c.tc : Thread Cert.AdamFfnUpRefIdeal.nD Cert.AdamFfnUpRefIdeal.τ).loc Cert.AdamFfnUpRefIdeal.main_arg2) = m ((c.tc : Thread Cert.AdamFfnUpRefIdeal.nD Cert.AdamFfnUpRefIdeal.τ).loc Cert.AdamFfnUpRefIdeal.main_arg2)
      ∧ r.2.mem ((c.tc : Thread Cert.AdamFfnUpRefIdeal.nD Cert.AdamFfnUpRefIdeal.τ).loc Cert.AdamFfnUpRefIdeal.main_arg3) = m ((c.tc : Thread Cert.AdamFfnUpRefIdeal.nD Cert.AdamFfnUpRefIdeal.τ).loc Cert.AdamFfnUpRefIdeal.main_arg3))
      ∧ r.2.sem = fun _ => 0)

def quiescent_AdamFfnDown [hAdamFfnDown : Cert.AdamFfnDown.Facts] : Prop :=
  ∀ (m : (ℓ : Loc Cert.AdamFfnDown.nD Cert.AdamFfnDown.τ Cert.AdamFfnDown.sig) → Buf (Elt Bits) ℓ) (g : Dev Cert.AdamFfnDown.nD → PrngReg), Pre_AdamFfnDown m →
    θ_run (Cert.AdamFfnDown.defs (F := Bits)) (onTc (τ := Cert.AdamFfnDown.τ) (Cert.AdamFfnDown.main (F := Bits))) ⟨m, fun _ => 0, g⟩ (fun r => (∀ c : Dev Cert.AdamFfnDown.nD,
      r.2.mem ((c.tc : Thread Cert.AdamFfnDown.nD Cert.AdamFfnDown.τ).loc Cert.AdamFfnDown.main_arg0) = m ((c.tc : Thread Cert.AdamFfnDown.nD Cert.AdamFfnDown.τ).loc Cert.AdamFfnDown.main_arg0)
      ∧ r.2.mem ((c.tc : Thread Cert.AdamFfnDown.nD Cert.AdamFfnDown.τ).loc Cert.AdamFfnDown.main_arg1) = m ((c.tc : Thread Cert.AdamFfnDown.nD Cert.AdamFfnDown.τ).loc Cert.AdamFfnDown.main_arg1)
      ∧ r.2.mem ((c.tc : Thread Cert.AdamFfnDown.nD Cert.AdamFfnDown.τ).loc Cert.AdamFfnDown.main_arg2) = m ((c.tc : Thread Cert.AdamFfnDown.nD Cert.AdamFfnDown.τ).loc Cert.AdamFfnDown.main_arg2)
      ∧ r.2.mem ((c.tc : Thread Cert.AdamFfnDown.nD Cert.AdamFfnDown.τ).loc Cert.AdamFfnDown.main_arg3) = m ((c.tc : Thread Cert.AdamFfnDown.nD Cert.AdamFfnDown.τ).loc Cert.AdamFfnDown.main_arg3))
      ∧ r.2.sem = fun _ => 0)

def quiescent_AdamFfnDownIdeal [hAdamFfnDownIdeal : Cert.AdamFfnDownIdeal.Facts] : Prop :=
  ∀ (m : (ℓ : Loc Cert.AdamFfnDownIdeal.nD Cert.AdamFfnDownIdeal.τ Cert.AdamFfnDownIdeal.sig) → Buf (Elt Ideal) ℓ) (g : Dev Cert.AdamFfnDownIdeal.nD → PrngReg), Pre_AdamFfnDownIdeal m →
    θ_run (Cert.AdamFfnDownIdeal.defs (F := Ideal)) (onTc (τ := Cert.AdamFfnDownIdeal.τ) (Cert.AdamFfnDownIdeal.main (F := Ideal))) ⟨m, fun _ => 0, g⟩ (fun r => (∀ c : Dev Cert.AdamFfnDownIdeal.nD,
      r.2.mem ((c.tc : Thread Cert.AdamFfnDownIdeal.nD Cert.AdamFfnDownIdeal.τ).loc Cert.AdamFfnDownIdeal.main_arg0) = m ((c.tc : Thread Cert.AdamFfnDownIdeal.nD Cert.AdamFfnDownIdeal.τ).loc Cert.AdamFfnDownIdeal.main_arg0)
      ∧ r.2.mem ((c.tc : Thread Cert.AdamFfnDownIdeal.nD Cert.AdamFfnDownIdeal.τ).loc Cert.AdamFfnDownIdeal.main_arg1) = m ((c.tc : Thread Cert.AdamFfnDownIdeal.nD Cert.AdamFfnDownIdeal.τ).loc Cert.AdamFfnDownIdeal.main_arg1)
      ∧ r.2.mem ((c.tc : Thread Cert.AdamFfnDownIdeal.nD Cert.AdamFfnDownIdeal.τ).loc Cert.AdamFfnDownIdeal.main_arg2) = m ((c.tc : Thread Cert.AdamFfnDownIdeal.nD Cert.AdamFfnDownIdeal.τ).loc Cert.AdamFfnDownIdeal.main_arg2)
      ∧ r.2.mem ((c.tc : Thread Cert.AdamFfnDownIdeal.nD Cert.AdamFfnDownIdeal.τ).loc Cert.AdamFfnDownIdeal.main_arg3) = m ((c.tc : Thread Cert.AdamFfnDownIdeal.nD Cert.AdamFfnDownIdeal.τ).loc Cert.AdamFfnDownIdeal.main_arg3))
      ∧ r.2.sem = fun _ => 0)

def quiescent_AdamFfnDownRefIdeal [hAdamFfnDownRefIdeal : Cert.AdamFfnDownRefIdeal.Facts] : Prop :=
  ∀ (m : (ℓ : Loc Cert.AdamFfnDownRefIdeal.nD Cert.AdamFfnDownRefIdeal.τ Cert.AdamFfnDownRefIdeal.sig) → Buf (Elt Ideal) ℓ) (g : Dev Cert.AdamFfnDownRefIdeal.nD → PrngReg), Pre_AdamFfnDownRefIdeal m →
    θ_run (Cert.AdamFfnDownRefIdeal.defs (F := Ideal)) (onTc (τ := Cert.AdamFfnDownRefIdeal.τ) (Cert.AdamFfnDownRefIdeal.main (F := Ideal))) ⟨m, fun _ => 0, g⟩ (fun r => (∀ c : Dev Cert.AdamFfnDownRefIdeal.nD,
      r.2.mem ((c.tc : Thread Cert.AdamFfnDownRefIdeal.nD Cert.AdamFfnDownRefIdeal.τ).loc Cert.AdamFfnDownRefIdeal.main_arg0) = m ((c.tc : Thread Cert.AdamFfnDownRefIdeal.nD Cert.AdamFfnDownRefIdeal.τ).loc Cert.AdamFfnDownRefIdeal.main_arg0)
      ∧ r.2.mem ((c.tc : Thread Cert.AdamFfnDownRefIdeal.nD Cert.AdamFfnDownRefIdeal.τ).loc Cert.AdamFfnDownRefIdeal.main_arg1) = m ((c.tc : Thread Cert.AdamFfnDownRefIdeal.nD Cert.AdamFfnDownRefIdeal.τ).loc Cert.AdamFfnDownRefIdeal.main_arg1)
      ∧ r.2.mem ((c.tc : Thread Cert.AdamFfnDownRefIdeal.nD Cert.AdamFfnDownRefIdeal.τ).loc Cert.AdamFfnDownRefIdeal.main_arg2) = m ((c.tc : Thread Cert.AdamFfnDownRefIdeal.nD Cert.AdamFfnDownRefIdeal.τ).loc Cert.AdamFfnDownRefIdeal.main_arg2)
      ∧ r.2.mem ((c.tc : Thread Cert.AdamFfnDownRefIdeal.nD Cert.AdamFfnDownRefIdeal.τ).loc Cert.AdamFfnDownRefIdeal.main_arg3) = m ((c.tc : Thread Cert.AdamFfnDownRefIdeal.nD Cert.AdamFfnDownRefIdeal.τ).loc Cert.AdamFfnDownRefIdeal.main_arg3))
      ∧ r.2.sem = fun _ => 0)

def quiescent_AdamPleProj [hAdamPleProj : Cert.AdamPleProj.Facts] : Prop :=
  ∀ (m : (ℓ : Loc Cert.AdamPleProj.nD Cert.AdamPleProj.τ Cert.AdamPleProj.sig) → Buf (Elt Bits) ℓ) (g : Dev Cert.AdamPleProj.nD → PrngReg), Pre_AdamPleProj m →
    θ_run (Cert.AdamPleProj.defs (F := Bits)) (onTc (τ := Cert.AdamPleProj.τ) (Cert.AdamPleProj.main (F := Bits))) ⟨m, fun _ => 0, g⟩ (fun r => (∀ c : Dev Cert.AdamPleProj.nD,
      r.2.mem ((c.tc : Thread Cert.AdamPleProj.nD Cert.AdamPleProj.τ).loc Cert.AdamPleProj.main_arg0) = m ((c.tc : Thread Cert.AdamPleProj.nD Cert.AdamPleProj.τ).loc Cert.AdamPleProj.main_arg0)
      ∧ r.2.mem ((c.tc : Thread Cert.AdamPleProj.nD Cert.AdamPleProj.τ).loc Cert.AdamPleProj.main_arg1) = m ((c.tc : Thread Cert.AdamPleProj.nD Cert.AdamPleProj.τ).loc Cert.AdamPleProj.main_arg1)
      ∧ r.2.mem ((c.tc : Thread Cert.AdamPleProj.nD Cert.AdamPleProj.τ).loc Cert.AdamPleProj.main_arg2) = m ((c.tc : Thread Cert.AdamPleProj.nD Cert.AdamPleProj.τ).loc Cert.AdamPleProj.main_arg2)
      ∧ r.2.mem ((c.tc : Thread Cert.AdamPleProj.nD Cert.AdamPleProj.τ).loc Cert.AdamPleProj.main_arg3) = m ((c.tc : Thread Cert.AdamPleProj.nD Cert.AdamPleProj.τ).loc Cert.AdamPleProj.main_arg3))
      ∧ r.2.sem = fun _ => 0)

def quiescent_AdamPleProjIdeal [hAdamPleProjIdeal : Cert.AdamPleProjIdeal.Facts] : Prop :=
  ∀ (m : (ℓ : Loc Cert.AdamPleProjIdeal.nD Cert.AdamPleProjIdeal.τ Cert.AdamPleProjIdeal.sig) → Buf (Elt Ideal) ℓ) (g : Dev Cert.AdamPleProjIdeal.nD → PrngReg), Pre_AdamPleProjIdeal m →
    θ_run (Cert.AdamPleProjIdeal.defs (F := Ideal)) (onTc (τ := Cert.AdamPleProjIdeal.τ) (Cert.AdamPleProjIdeal.main (F := Ideal))) ⟨m, fun _ => 0, g⟩ (fun r => (∀ c : Dev Cert.AdamPleProjIdeal.nD,
      r.2.mem ((c.tc : Thread Cert.AdamPleProjIdeal.nD Cert.AdamPleProjIdeal.τ).loc Cert.AdamPleProjIdeal.main_arg0) = m ((c.tc : Thread Cert.AdamPleProjIdeal.nD Cert.AdamPleProjIdeal.τ).loc Cert.AdamPleProjIdeal.main_arg0)
      ∧ r.2.mem ((c.tc : Thread Cert.AdamPleProjIdeal.nD Cert.AdamPleProjIdeal.τ).loc Cert.AdamPleProjIdeal.main_arg1) = m ((c.tc : Thread Cert.AdamPleProjIdeal.nD Cert.AdamPleProjIdeal.τ).loc Cert.AdamPleProjIdeal.main_arg1)
      ∧ r.2.mem ((c.tc : Thread Cert.AdamPleProjIdeal.nD Cert.AdamPleProjIdeal.τ).loc Cert.AdamPleProjIdeal.main_arg2) = m ((c.tc : Thread Cert.AdamPleProjIdeal.nD Cert.AdamPleProjIdeal.τ).loc Cert.AdamPleProjIdeal.main_arg2)
      ∧ r.2.mem ((c.tc : Thread Cert.AdamPleProjIdeal.nD Cert.AdamPleProjIdeal.τ).loc Cert.AdamPleProjIdeal.main_arg3) = m ((c.tc : Thread Cert.AdamPleProjIdeal.nD Cert.AdamPleProjIdeal.τ).loc Cert.AdamPleProjIdeal.main_arg3))
      ∧ r.2.sem = fun _ => 0)

def quiescent_AdamPleProjRefIdeal [hAdamPleProjRefIdeal : Cert.AdamPleProjRefIdeal.Facts] : Prop :=
  ∀ (m : (ℓ : Loc Cert.AdamPleProjRefIdeal.nD Cert.AdamPleProjRefIdeal.τ Cert.AdamPleProjRefIdeal.sig) → Buf (Elt Ideal) ℓ) (g : Dev Cert.AdamPleProjRefIdeal.nD → PrngReg), Pre_AdamPleProjRefIdeal m →
    θ_run (Cert.AdamPleProjRefIdeal.defs (F := Ideal)) (onTc (τ := Cert.AdamPleProjRefIdeal.τ) (Cert.AdamPleProjRefIdeal.main (F := Ideal))) ⟨m, fun _ => 0, g⟩ (fun r => (∀ c : Dev Cert.AdamPleProjRefIdeal.nD,
      r.2.mem ((c.tc : Thread Cert.AdamPleProjRefIdeal.nD Cert.AdamPleProjRefIdeal.τ).loc Cert.AdamPleProjRefIdeal.main_arg0) = m ((c.tc : Thread Cert.AdamPleProjRefIdeal.nD Cert.AdamPleProjRefIdeal.τ).loc Cert.AdamPleProjRefIdeal.main_arg0)
      ∧ r.2.mem ((c.tc : Thread Cert.AdamPleProjRefIdeal.nD Cert.AdamPleProjRefIdeal.τ).loc Cert.AdamPleProjRefIdeal.main_arg1) = m ((c.tc : Thread Cert.AdamPleProjRefIdeal.nD Cert.AdamPleProjRefIdeal.τ).loc Cert.AdamPleProjRefIdeal.main_arg1)
      ∧ r.2.mem ((c.tc : Thread Cert.AdamPleProjRefIdeal.nD Cert.AdamPleProjRefIdeal.τ).loc Cert.AdamPleProjRefIdeal.main_arg2) = m ((c.tc : Thread Cert.AdamPleProjRefIdeal.nD Cert.AdamPleProjRefIdeal.τ).loc Cert.AdamPleProjRefIdeal.main_arg2)
      ∧ r.2.mem ((c.tc : Thread Cert.AdamPleProjRefIdeal.nD Cert.AdamPleProjRefIdeal.τ).loc Cert.AdamPleProjRefIdeal.main_arg3) = m ((c.tc : Thread Cert.AdamPleProjRefIdeal.nD Cert.AdamPleProjRefIdeal.τ).loc Cert.AdamPleProjRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)) (v2 : (c : Dev Cert.KernelIdeal.nD) → Buf (Elt Ideal) ((c.tc : Thread Cert.KernelIdeal.nD Cert.KernelIdeal.τ).loc Cert.KernelIdeal.main_v34_2)) (v3 : (c : Dev Cert.KernelIdeal.nD) → Buf (Elt Ideal) ((c.tc : Thread Cert.KernelIdeal.nD Cert.KernelIdeal.τ).loc Cert.KernelIdeal.main_v34_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_v34_2) = v2 c
          ∧ r.2.mem ((c.tc : Thread Cert.KernelIdeal.nD Cert.KernelIdeal.τ).loc Cert.KernelIdeal.main_v34_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_v90) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DownGrad_DownGradIdeal : Prop :=
  True

def algebraic_DownGradIdeal_DownGradRefIdeal [hDownGradIdeal : Cert.DownGradIdeal.Facts] [hDownGradRefIdeal : Cert.DownGradRefIdeal.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownGradRefIdeal.nD Cert.DownGradRefIdeal.τ Cert.DownGradRefIdeal.sig) → Buf (Elt Ideal) ℓ) (g' : Dev Cert.DownGradRefIdeal.nD → PrngReg), Pre_DownGradIdeal m →
    (∀ c : Dev Cert.DownGradIdeal.nD,
      m' ((c.tc : Thread Cert.DownGradRefIdeal.nD Cert.DownGradRefIdeal.τ).loc Cert.DownGradRefIdeal.main_arg0) = m ((c.tc : Thread Cert.DownGradIdeal.nD Cert.DownGradIdeal.τ).loc Cert.DownGradIdeal.main_arg0)
      ∧ m' ((c.tc : Thread Cert.DownGradRefIdeal.nD Cert.DownGradRefIdeal.τ).loc Cert.DownGradRefIdeal.main_arg1) = m ((c.tc : Thread Cert.DownGradIdeal.nD Cert.DownGradIdeal.τ).loc Cert.DownGradIdeal.main_arg1)) →
    ∃ (v0 : (c : Dev Cert.DownGradIdeal.nD) → Buf (Elt Ideal) ((c.tc : Thread Cert.DownGradIdeal.nD Cert.DownGradIdeal.τ).loc Cert.DownGradIdeal.main_v0)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v0) = v0 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ θ_run (Cert.DownGradRefIdeal.defs (F := Ideal)) (onTc (τ := Cert.DownGradRefIdeal.τ) (Cert.DownGradRefIdeal.main (F := Ideal))) ⟨m', fun _ => 0, g'⟩ (fun r => ∀ c : Dev Cert.DownGradRefIdeal.nD,
          r.2.mem ((c.tc : Thread Cert.DownGradRefIdeal.nD Cert.DownGradRefIdeal.τ).loc Cert.DownGradRefIdeal.main_v5) = v0 c
          ∧ r.2.mem ((c.tc : Thread Cert.DownGradRefIdeal.nD Cert.DownGradRefIdeal.τ).loc Cert.DownGradRefIdeal.main_arg0) = m' ((c.tc : Thread Cert.DownGradRefIdeal.nD Cert.DownGradRefIdeal.τ).loc Cert.DownGradRefIdeal.main_arg0)
          ∧ r.2.mem ((c.tc : Thread Cert.DownGradRefIdeal.nD Cert.DownGradRefIdeal.τ).loc Cert.DownGradRefIdeal.main_arg1) = m' ((c.tc : Thread Cert.DownGradRefIdeal.nD Cert.DownGradRefIdeal.τ).loc Cert.DownGradRefIdeal.main_arg1))

def preserves_DownBack_DownBackIdeal : Prop :=
  True

def algebraic_DownBackIdeal_DownBackRefIdeal [hDownBackIdeal : Cert.DownBackIdeal.Facts] [hDownBackRefIdeal : Cert.DownBackRefIdeal.Facts] : Prop :=
  ∀ (m : (ℓ : Loc Cert.DownBackIdeal.nD Cert.DownBackIdeal.τ Cert.DownBackIdeal.sig) → Buf (Elt Ideal) ℓ) (g : Dev Cert.DownBackIdeal.nD → PrngReg)
    (m' : (ℓ : Loc Cert.DownBackRefIdeal.nD Cert.DownBackRefIdeal.τ Cert.DownBackRefIdeal.sig) → Buf (Elt Ideal) ℓ) (g' : Dev Cert.DownBackRefIdeal.nD → PrngReg), Pre_DownBackIdeal m →
    (∀ c : Dev Cert.DownBackIdeal.nD,
      m' ((c.tc : Thread Cert.DownBackRefIdeal.nD Cert.DownBackRefIdeal.τ).loc Cert.DownBackRefIdeal.main_arg0) = m ((c.tc : Thread Cert.DownBackIdeal.nD Cert.DownBackIdeal.τ).loc Cert.DownBackIdeal.main_arg0)
      ∧ m' ((c.tc : Thread Cert.DownBackRefIdeal.nD Cert.DownBackRefIdeal.τ).loc Cert.DownBackRefIdeal.main_arg1) = m ((c.tc : Thread Cert.DownBackIdeal.nD Cert.DownBackIdeal.τ).loc Cert.DownBackIdeal.main_arg1)) →
    ∃ (v0 : (c : Dev Cert.DownBackIdeal.nD) → Buf (Elt Ideal) ((c.tc : Thread Cert.DownBackIdeal.nD Cert.DownBackIdeal.τ).loc Cert.DownBackIdeal.main_v0)),
      θ_run (Cert.DownBackIdeal.defs (F := Ideal)) (onTc (τ := Cert.DownBackIdeal.τ) (Cert.DownBackIdeal.main (F := Ideal))) ⟨m, fun _ => 0, g⟩ (fun r => ∀ c : Dev Cert.DownBackIdeal.nD,
          r.2.mem ((c.tc : Thread Cert.DownBackIdeal.nD Cert.DownBackIdeal.τ).loc Cert.DownBackIdeal.main_v0) = v0 c
          ∧ r.2.mem ((c.tc : Thread Cert.DownBackIdeal.nD Cert.DownBackIdeal.τ).loc Cert.DownBackIdeal.main_arg0) = m ((c.tc : Thread Cert.DownBackIdeal.nD Cert.DownBackIdeal.τ).loc Cert.DownBackIdeal.main_arg0)
          ∧ r.2.mem ((c.tc : Thread Cert.DownBackIdeal.nD Cert.DownBackIdeal.τ).loc Cert.DownBackIdeal.main_arg1) = m ((c.tc : Thread Cert.DownBackIdeal.nD Cert.DownBackIdeal.τ).loc Cert.DownBackIdeal.main_arg1))
      ∧ θ_run (Cert.DownBackRefIdeal.defs (F := Ideal)) (onTc (τ := Cert.DownBackRefIdeal.τ) (Cert.DownBackRefIdeal.main (F := Ideal))) ⟨m', fun _ => 0, g'⟩ (fun r => ∀ c : Dev Cert.DownBackRefIdeal.nD,
          r.2.mem ((c.tc : Thread Cert.DownBackRefIdeal.nD Cert.DownBackRefIdeal.τ).loc Cert.DownBackRefIdeal.main_v5) = v0 c
          ∧ r.2.mem ((c.tc : Thread Cert.DownBackRefIdeal.nD Cert.DownBackRefIdeal.τ).loc Cert.DownBackRefIdeal.main_arg0) = m' ((c.tc : Thread Cert.DownBackRefIdeal.nD Cert.DownBackRefIdeal.τ).loc Cert.DownBackRefIdeal.main_arg0)
          ∧ r.2.mem ((c.tc : Thread Cert.DownBackRefIdeal.nD Cert.DownBackRefIdeal.τ).loc Cert.DownBackRefIdeal.main_arg1) = m' ((c.tc : Thread Cert.DownBackRefIdeal.nD Cert.DownBackRefIdeal.τ).loc Cert.DownBackRefIdeal.main_arg1))

def preserves_UpGrad_UpGradIdeal : Prop :=
  True

def algebraic_UpGradIdeal_UpGradRefIdeal [hUpGradIdeal : Cert.UpGradIdeal.Facts] [hUpGradRefIdeal : Cert.UpGradRefIdeal.Facts] : Prop :=
  ∀ (m : (ℓ : Loc Cert.UpGradIdeal.nD Cert.UpGradIdeal.τ Cert.UpGradIdeal.sig) → Buf (Elt Ideal) ℓ) (g : Dev Cert.UpGradIdeal.nD → PrngReg)
    (m' : (ℓ : Loc Cert.UpGradRefIdeal.nD Cert.UpGradRefIdeal.τ Cert.UpGradRefIdeal.sig) → Buf (Elt Ideal) ℓ) (g' : Dev Cert.UpGradRefIdeal.nD → PrngReg), Pre_UpGradIdeal m →
    (∀ c : Dev Cert.UpGradIdeal.nD,
      m' ((c.tc : Thread Cert.UpGradRefIdeal.nD Cert.UpGradRefIdeal.τ).loc Cert.UpGradRefIdeal.main_arg0) = m ((c.tc : Thread Cert.UpGradIdeal.nD Cert.UpGradIdeal.τ).loc Cert.UpGradIdeal.main_arg0)
      ∧ m' ((c.tc : Thread Cert.UpGradRefIdeal.nD Cert.UpGradRefIdeal.τ).loc Cert.UpGradRefIdeal.main_arg1) = m ((c.tc : Thread Cert.UpGradIdeal.nD Cert.UpGradIdeal.τ).loc Cert.UpGradIdeal.main_arg1)) →
    ∃ (v0 : (c : Dev Cert.UpGradIdeal.nD) → Buf (Elt Ideal) ((c.tc : Thread Cert.UpGradIdeal.nD Cert.UpGradIdeal.τ).loc Cert.UpGradIdeal.main_v0)),
      θ_run (Cert.UpGradIdeal.defs (F := Ideal)) (onTc (τ := Cert.UpGradIdeal.τ) (Cert.UpGradIdeal.main (F := Ideal))) ⟨m, fun _ => 0, g⟩ (fun r => ∀ c : Dev Cert.UpGradIdeal.nD,
          r.2.mem ((c.tc : Thread Cert.UpGradIdeal.nD Cert.UpGradIdeal.τ).loc Cert.UpGradIdeal.main_v0) = v0 c
          ∧ r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
          ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ θ_run (Cert.UpGradRefIdeal.defs (F := Ideal)) (onTc (τ := Cert.UpGradRefIdeal.τ) (Cert.UpGradRefIdeal.main (F := Ideal))) ⟨m', fun _ => 0, g'⟩ (fun r => ∀ c : Dev Cert.UpGradRefIdeal.nD,
          r.2.mem ((c.tc : Thread Cert.UpGradRefIdeal.nD Cert.UpGradRefIdeal.τ).loc Cert.UpGradRefIdeal.main_v5) = v0 c
          ∧ r.2.mem ((c.tc : Thread Cert.UpGradRefIdeal.nD Cert.UpGradRefIdeal.τ).loc Cert.UpGradRefIdeal.main_arg0) = m' ((c.tc : Thread Cert.UpGradRefIdeal.nD Cert.UpGradRefIdeal.τ).loc Cert.UpGradRefIdeal.main_arg0)
          ∧ r.2.mem ((c.tc : Thread Cert.UpGradRefIdeal.nD Cert.UpGradRefIdeal.τ).loc Cert.UpGradRefIdeal.main_arg1) = m' ((c.tc : Thread Cert.UpGradRefIdeal.nD Cert.UpGradRefIdeal.τ).loc Cert.UpGradRefIdeal.main_arg1))

def preserves_UpBackG_UpBackGIdeal : Prop :=
  True

def algebraic_UpBackGIdeal_UpBackGRefIdeal [hUpBackGIdeal : Cert.UpBackGIdeal.Facts] [hUpBackGRefIdeal : Cert.UpBackGRefIdeal.Facts] : Prop :=
  ∀ (m : (ℓ : Loc Cert.UpBackGIdeal.nD Cert.UpBackGIdeal.τ Cert.UpBackGIdeal.sig) → Buf (Elt Ideal) ℓ) (g : Dev Cert.UpBackGIdeal.nD → PrngReg)
    (m' : (ℓ : Loc Cert.UpBackGRefIdeal.nD Cert.UpBackGRefIdeal.τ Cert.UpBackGRefIdeal.sig) → Buf (Elt Ideal) ℓ) (g' : Dev Cert.UpBackGRefIdeal.nD → PrngReg), Pre_UpBackGIdeal m →
    (∀ c : Dev Cert.UpBackGIdeal.nD,
      m' ((c.tc : Thread Cert.UpBackGRefIdeal.nD Cert.UpBackGRefIdeal.τ).loc Cert.UpBackGRefIdeal.main_arg0) = m ((c.tc : Thread Cert.UpBackGIdeal.nD Cert.UpBackGIdeal.τ).loc Cert.UpBackGIdeal.main_arg0)
      ∧ m' ((c.tc : Thread Cert.UpBackGRefIdeal.nD Cert.UpBackGRefIdeal.τ).loc Cert.UpBackGRefIdeal.main_arg1) = m ((c.tc : Thread Cert.UpBackGIdeal.nD Cert.UpBackGIdeal.τ).loc Cert.UpBackGIdeal.main_arg1)
      ∧ m' ((c.tc : Thread Cert.UpBackGRefIdeal.nD Cert.UpBackGRefIdeal.τ).loc Cert.UpBackGRefIdeal.main_arg2) = m ((c.tc : Thread Cert.UpBackGIdeal.nD Cert.UpBackGIdeal.τ).loc Cert.UpBackGIdeal.main_arg2)) →
    ∃ (v0 : (c : Dev Cert.UpBackGIdeal.nD) → Buf (Elt Ideal) ((c.tc : Thread Cert.UpBackGIdeal.nD Cert.UpBackGIdeal.τ).loc Cert.UpBackGIdeal.main_v0)),
      θ_run (Cert.UpBackGIdeal.defs (F := Ideal)) (onTc (τ := Cert.UpBackGIdeal.τ) (Cert.UpBackGIdeal.main (F := Ideal))) ⟨m, fun _ => 0, g⟩ (fun r => ∀ c : Dev Cert.UpBackGIdeal.nD,
          r.2.mem ((c.tc : Thread Cert.UpBackGIdeal.nD Cert.UpBackGIdeal.τ).loc Cert.UpBackGIdeal.main_v0) = v0 c
          ∧ r.2.mem ((c.tc : Thread Cert.UpBackGIdeal.nD Cert.UpBackGIdeal.τ).loc Cert.UpBackGIdeal.main_arg0) = m ((c.tc : Thread Cert.UpBackGIdeal.nD Cert.UpBackGIdeal.τ).loc Cert.UpBackGIdeal.main_arg0)
          ∧ r.2.mem ((c.tc : Thread Cert.UpBackGIdeal.nD Cert.UpBackGIdeal.τ).loc Cert.UpBackGIdeal.main_arg1) = m ((c.tc : Thread Cert.UpBackGIdeal.nD Cert.UpBackGIdeal.τ).loc Cert.UpBackGIdeal.main_arg1)
          ∧ r.2.mem ((c.tc : Thread Cert.UpBackGIdeal.nD Cert.UpBackGIdeal.τ).loc Cert.UpBackGIdeal.main_arg2) = m ((c.tc : Thread Cert.UpBackGIdeal.nD Cert.UpBackGIdeal.τ).loc Cert.UpBackGIdeal.main_arg2))
      ∧ θ_run (Cert.UpBackGRefIdeal.defs (F := Ideal)) (onTc (τ := Cert.UpBackGRefIdeal.τ) (Cert.UpBackGRefIdeal.main (F := Ideal))) ⟨m', fun _ => 0, g'⟩ (fun r => ∀ c : Dev Cert.UpBackGRefIdeal.nD,
          r.2.mem ((c.tc : Thread Cert.UpBackGRefIdeal.nD Cert.UpBackGRefIdeal.τ).loc Cert.UpBackGRefIdeal.main_v10) = v0 c
          ∧ r.2.mem ((c.tc : Thread Cert.UpBackGRefIdeal.nD Cert.UpBackGRefIdeal.τ).loc Cert.UpBackGRefIdeal.main_arg0) = m' ((c.tc : Thread Cert.UpBackGRefIdeal.nD Cert.UpBackGRefIdeal.τ).loc Cert.UpBackGRefIdeal.main_arg0)
          ∧ r.2.mem ((c.tc : Thread Cert.UpBackGRefIdeal.nD Cert.UpBackGRefIdeal.τ).loc Cert.UpBackGRefIdeal.main_arg1) = m' ((c.tc : Thread Cert.UpBackGRefIdeal.nD Cert.UpBackGRefIdeal.τ).loc Cert.UpBackGRefIdeal.main_arg1)
          ∧ r.2.mem ((c.tc : Thread Cert.UpBackGRefIdeal.nD Cert.UpBackGRefIdeal.τ).loc Cert.UpBackGRefIdeal.main_arg2) = m' ((c.tc : Thread Cert.UpBackGRefIdeal.nD Cert.UpBackGRefIdeal.τ).loc Cert.UpBackGRefIdeal.main_arg2))

def preserves_UpBackV_UpBackVIdeal : Prop :=
  True

def algebraic_UpBackVIdeal_UpBackVRefIdeal [hUpBackVIdeal : Cert.UpBackVIdeal.Facts] [hUpBackVRefIdeal : Cert.UpBackVRefIdeal.Facts] : Prop :=
  ∀ (m : (ℓ : Loc Cert.UpBackVIdeal.nD Cert.UpBackVIdeal.τ Cert.UpBackVIdeal.sig) → Buf (Elt Ideal) ℓ) (g : Dev Cert.UpBackVIdeal.nD → PrngReg)
    (m' : (ℓ : Loc Cert.UpBackVRefIdeal.nD Cert.UpBackVRefIdeal.τ Cert.UpBackVRefIdeal.sig) → Buf (Elt Ideal) ℓ) (g' : Dev Cert.UpBackVRefIdeal.nD → PrngReg), Pre_UpBackVIdeal m →
    (∀ c : Dev Cert.UpBackVIdeal.nD,
      m' ((c.tc : Thread Cert.UpBackVRefIdeal.nD Cert.UpBackVRefIdeal.τ).loc Cert.UpBackVRefIdeal.main_arg0) = m ((c.tc : Thread Cert.UpBackVIdeal.nD Cert.UpBackVIdeal.τ).loc Cert.UpBackVIdeal.main_arg0)
      ∧ m' ((c.tc : Thread Cert.UpBackVRefIdeal.nD Cert.UpBackVRefIdeal.τ).loc Cert.UpBackVRefIdeal.main_arg1) = m ((c.tc : Thread Cert.UpBackVIdeal.nD Cert.UpBackVIdeal.τ).loc Cert.UpBackVIdeal.main_arg1)
      ∧ m' ((c.tc : Thread Cert.UpBackVRefIdeal.nD Cert.UpBackVRefIdeal.τ).loc Cert.UpBackVRefIdeal.main_arg2) = m ((c.tc : Thread Cert.UpBackVIdeal.nD Cert.UpBackVIdeal.τ).loc Cert.UpBackVIdeal.main_arg2)) →
    ∃ (v0 : (c : Dev Cert.UpBackVIdeal.nD) → Buf (Elt Ideal) ((c.tc : Thread Cert.UpBackVIdeal.nD Cert.UpBackVIdeal.τ).loc Cert.UpBackVIdeal.main_v0)),
      θ_run (Cert.UpBackVIdeal.defs (F := Ideal)) (onTc (τ := Cert.UpBackVIdeal.τ) (Cert.UpBackVIdeal.main (F := Ideal))) ⟨m, fun _ => 0, g⟩ (fun r => ∀ c : Dev Cert.UpBackVIdeal.nD,
          r.2.mem ((c.tc : Thread Cert.UpBackVIdeal.nD Cert.UpBackVIdeal.τ).loc Cert.UpBackVIdeal.main_v0) = v0 c
          ∧ r.2.mem ((c.tc : Thread Cert.UpBackVIdeal.nD Cert.UpBackVIdeal.τ).loc Cert.UpBackVIdeal.main_arg0) = m ((c.tc : Thread Cert.UpBackVIdeal.nD Cert.UpBackVIdeal.τ).loc Cert.UpBackVIdeal.main_arg0)
          ∧ r.2.mem ((c.tc : Thread Cert.UpBackVIdeal.nD Cert.UpBackVIdeal.τ).loc Cert.UpBackVIdeal.main_arg1) = m ((c.tc : Thread Cert.UpBackVIdeal.nD Cert.UpBackVIdeal.τ).loc Cert.UpBackVIdeal.main_arg1)
          ∧ r.2.mem ((c.tc : Thread Cert.UpBackVIdeal.nD Cert.UpBackVIdeal.τ).loc Cert.UpBackVIdeal.main_arg2) = m ((c.tc : Thread Cert.UpBackVIdeal.nD Cert.UpBackVIdeal.τ).loc Cert.UpBackVIdeal.main_arg2))
      ∧ θ_run (Cert.UpBackVRefIdeal.defs (F := Ideal)) (onTc (τ := Cert.UpBackVRefIdeal.τ) (Cert.UpBackVRefIdeal.main (F := Ideal))) ⟨m', fun _ => 0, g'⟩ (fun r => ∀ c : Dev Cert.UpBackVRefIdeal.nD,
          r.2.mem ((c.tc : Thread Cert.UpBackVRefIdeal.nD Cert.UpBackVRefIdeal.τ).loc Cert.UpBackVRefIdeal.main_v6) = v0 c
          ∧ r.2.mem ((c.tc : Thread Cert.UpBackVRefIdeal.nD Cert.UpBackVRefIdeal.τ).loc Cert.UpBackVRefIdeal.main_arg0) = m' ((c.tc : Thread Cert.UpBackVRefIdeal.nD Cert.UpBackVRefIdeal.τ).loc Cert.UpBackVRefIdeal.main_arg0)
          ∧ r.2.mem ((c.tc : Thread Cert.UpBackVRefIdeal.nD Cert.UpBackVRefIdeal.τ).loc Cert.UpBackVRefIdeal.main_arg1) = m' ((c.tc : Thread Cert.UpBackVRefIdeal.nD Cert.UpBackVRefIdeal.τ).loc Cert.UpBackVRefIdeal.main_arg1)
          ∧ r.2.mem ((c.tc : Thread Cert.UpBackVRefIdeal.nD Cert.UpBackVRefIdeal.τ).loc Cert.UpBackVRefIdeal.main_arg2) = m' ((c.tc : Thread Cert.UpBackVRefIdeal.nD Cert.UpBackVRefIdeal.τ).loc Cert.UpBackVRefIdeal.main_arg2))

def preserves_OddXGrad_OddXGradIdeal : Prop :=
  True

def algebraic_OddXGradIdeal_OddXGradRefIdeal [hOddXGradIdeal : Cert.OddXGradIdeal.Facts] [hOddXGradRefIdeal : Cert.OddXGradRefIdeal.Facts] : Prop :=
  ∀ (m : (ℓ : Loc Cert.OddXGradIdeal.nD Cert.OddXGradIdeal.τ Cert.OddXGradIdeal.sig) → Buf (Elt Ideal) ℓ) (g : Dev Cert.OddXGradIdeal.nD → PrngReg)
    (m' : (ℓ : Loc Cert.OddXGradRefIdeal.nD Cert.OddXGradRefIdeal.τ Cert.OddXGradRefIdeal.sig) → Buf (Elt Ideal) ℓ) (g' : Dev Cert.OddXGradRefIdeal.nD → PrngReg), Pre_OddXGradIdeal m →
    (∀ c : Dev Cert.OddXGradIdeal.nD,
      m' ((c.tc : Thread Cert.OddXGradRefIdeal.nD Cert.OddXGradRefIdeal.τ).loc Cert.OddXGradRefIdeal.main_arg0) = m ((c.tc : Thread Cert.OddXGradIdeal.nD Cert.OddXGradIdeal.τ).loc Cert.OddXGradIdeal.main_arg0)
      ∧ m' ((c.tc : Thread Cert.OddXGradRefIdeal.nD Cert.OddXGradRefIdeal.τ).loc Cert.OddXGradRefIdeal.main_arg1) = m ((c.tc : Thread Cert.OddXGradIdeal.nD Cert.OddXGradIdeal.τ).loc Cert.OddXGradIdeal.main_arg1)) →
    ∃ (v0 : (c : Dev Cert.OddXGradIdeal.nD) → Buf (Elt Ideal) ((c.tc : Thread Cert.OddXGradIdeal.nD Cert.OddXGradIdeal.τ).loc Cert.OddXGradIdeal.main_v0)),
      θ_run (Cert.OddXGradIdeal.defs (F := Ideal)) (onTc (τ := Cert.OddXGradIdeal.τ) (Cert.OddXGradIdeal.main (F := Ideal))) ⟨m, fun _ => 0, g⟩ (fun r => ∀ c : Dev Cert.OddXGradIdeal.nD,
          r.2.mem ((c.tc : Thread Cert.OddXGradIdeal.nD Cert.OddXGradIdeal.τ).loc Cert.OddXGradIdeal.main_v0) = v0 c
          ∧ r.2.mem ((c.tc : Thread Cert.OddXGradIdeal.nD Cert.OddXGradIdeal.τ).loc Cert.OddXGradIdeal.main_arg0) = m ((c.tc : Thread Cert.OddXGradIdeal.nD Cert.OddXGradIdeal.τ).loc Cert.OddXGradIdeal.main_arg0)
          ∧ r.2.mem ((c.tc : Thread Cert.OddXGradIdeal.nD Cert.OddXGradIdeal.τ).loc Cert.OddXGradIdeal.main_arg1) = m ((c.tc : Thread Cert.OddXGradIdeal.nD Cert.OddXGradIdeal.τ).loc Cert.OddXGradIdeal.main_arg1))
      ∧ θ_run (Cert.OddXGradRefIdeal.defs (F := Ideal)) (onTc (τ := Cert.OddXGradRefIdeal.τ) (Cert.OddXGradRefIdeal.main (F := Ideal))) ⟨m', fun _ => 0, g'⟩ (fun r => ∀ c : Dev Cert.OddXGradRefIdeal.nD,
          r.2.mem ((c.tc : Thread Cert.OddXGradRefIdeal.nD Cert.OddXGradRefIdeal.τ).loc Cert.OddXGradRefIdeal.main_v5) = v0 c
          ∧ r.2.mem ((c.tc : Thread Cert.OddXGradRefIdeal.nD Cert.OddXGradRefIdeal.τ).loc Cert.OddXGradRefIdeal.main_arg0) = m' ((c.tc : Thread Cert.OddXGradRefIdeal.nD Cert.OddXGradRefIdeal.τ).loc Cert.OddXGradRefIdeal.main_arg0)
          ∧ r.2.mem ((c.tc : Thread Cert.OddXGradRefIdeal.nD Cert.OddXGradRefIdeal.τ).loc Cert.OddXGradRefIdeal.main_arg1) = m' ((c.tc : Thread Cert.OddXGradRefIdeal.nD Cert.OddXGradRefIdeal.τ).loc Cert.OddXGradRefIdeal.main_arg1))

def preserves_OddXBack_OddXBackIdeal : Prop :=
  True

def algebraic_OddXBackIdeal_OddXBackRefIdeal [hOddXBackIdeal : Cert.OddXBackIdeal.Facts] [hOddXBackRefIdeal : Cert.OddXBackRefIdeal.Facts] : Prop :=
  ∀ (m : (ℓ : Loc Cert.OddXBackIdeal.nD Cert.OddXBackIdeal.τ Cert.OddXBackIdeal.sig) → Buf (Elt Ideal) ℓ) (g : Dev Cert.OddXBackIdeal.nD → PrngReg)
    (m' : (ℓ : Loc Cert.OddXBackRefIdeal.nD Cert.OddXBackRefIdeal.τ Cert.OddXBackRefIdeal.sig) → Buf (Elt Ideal) ℓ) (g' : Dev Cert.OddXBackRefIdeal.nD → PrngReg), Pre_OddXBackIdeal m →
    (∀ c : Dev Cert.OddXBackIdeal.nD,
      m' ((c.tc : Thread Cert.OddXBackRefIdeal.nD Cert.OddXBackRefIdeal.τ).loc Cert.OddXBackRefIdeal.main_arg0) = m ((c.tc : Thread Cert.OddXBackIdeal.nD Cert.OddXBackIdeal.τ).loc Cert.OddXBackIdeal.main_arg0)
      ∧ m' ((c.tc : Thread Cert.OddXBackRefIdeal.nD Cert.OddXBackRefIdeal.τ).loc Cert.OddXBackRefIdeal.main_arg1) = m ((c.tc : Thread Cert.OddXBackIdeal.nD Cert.OddXBackIdeal.τ).loc Cert.OddXBackIdeal.main_arg1)
      ∧ m' ((c.tc : Thread Cert.OddXBackRefIdeal.nD Cert.OddXBackRefIdeal.τ).loc Cert.OddXBackRefIdeal.main_arg2) = m ((c.tc : Thread Cert.OddXBackIdeal.nD Cert.OddXBackIdeal.τ).loc Cert.OddXBackIdeal.main_arg2)) →
    ∃ (v0 : (c : Dev Cert.OddXBackIdeal.nD) → Buf (Elt Ideal) ((c.tc : Thread Cert.OddXBackIdeal.nD Cert.OddXBackIdeal.τ).loc Cert.OddXBackIdeal.main_v0)),
      θ_run (Cert.OddXBackIdeal.defs (F := Ideal)) (onTc (τ := Cert.OddXBackIdeal.τ) (Cert.OddXBackIdeal.main (F := Ideal))) ⟨m, fun _ => 0, g⟩ (fun r => ∀ c : Dev Cert.OddXBackIdeal.nD,
          r.2.mem ((c.tc : Thread Cert.OddXBackIdeal.nD Cert.OddXBackIdeal.τ).loc Cert.OddXBackIdeal.main_v0) = v0 c
          ∧ r.2.mem ((c.tc : Thread Cert.OddXBackIdeal.nD Cert.OddXBackIdeal.τ).loc Cert.OddXBackIdeal.main_arg0) = m ((c.tc : Thread Cert.OddXBackIdeal.nD Cert.OddXBackIdeal.τ).loc Cert.OddXBackIdeal.main_arg0)
          ∧ r.2.mem ((c.tc : Thread Cert.OddXBackIdeal.nD Cert.OddXBackIdeal.τ).loc Cert.OddXBackIdeal.main_arg1) = m ((c.tc : Thread Cert.OddXBackIdeal.nD Cert.OddXBackIdeal.τ).loc Cert.OddXBackIdeal.main_arg1)
          ∧ r.2.mem ((c.tc : Thread Cert.OddXBackIdeal.nD Cert.OddXBackIdeal.τ).loc Cert.OddXBackIdeal.main_arg2) = m ((c.tc : Thread Cert.OddXBackIdeal.nD Cert.OddXBackIdeal.τ).loc Cert.OddXBackIdeal.main_arg2))
      ∧ θ_run (Cert.OddXBackRefIdeal.defs (F := Ideal)) (onTc (τ := Cert.OddXBackRefIdeal.τ) (Cert.OddXBackRefIdeal.main (F := Ideal))) ⟨m', fun _ => 0, g'⟩ (fun r => ∀ c : Dev Cert.OddXBackRefIdeal.nD,
          r.2.mem ((c.tc : Thread Cert.OddXBackRefIdeal.nD Cert.OddXBackRefIdeal.τ).loc Cert.OddXBackRefIdeal.main_v5) = v0 c
          ∧ r.2.mem ((c.tc : Thread Cert.OddXBackRefIdeal.nD Cert.OddXBackRefIdeal.τ).loc Cert.OddXBackRefIdeal.main_arg0) = m' ((c.tc : Thread Cert.OddXBackRefIdeal.nD Cert.OddXBackRefIdeal.τ).loc Cert.OddXBackRefIdeal.main_arg0)
          ∧ r.2.mem ((c.tc : Thread Cert.OddXBackRefIdeal.nD Cert.OddXBackRefIdeal.τ).loc Cert.OddXBackRefIdeal.main_arg1) = m' ((c.tc : Thread Cert.OddXBackRefIdeal.nD Cert.OddXBackRefIdeal.τ).loc Cert.OddXBackRefIdeal.main_arg1)
          ∧ r.2.mem ((c.tc : Thread Cert.OddXBackRefIdeal.nD Cert.OddXBackRefIdeal.τ).loc Cert.OddXBackRefIdeal.main_arg2) = m' ((c.tc : Thread Cert.OddXBackRefIdeal.nD Cert.OddXBackRefIdeal.τ).loc Cert.OddXBackRefIdeal.main_arg2))

def preserves_OddOutGrad_OddOutGradIdeal : Prop :=
  True

def algebraic_OddOutGradIdeal_OddOutGradRefIdeal [hOddOutGradIdeal : Cert.OddOutGradIdeal.Facts] [hOddOutGradRefIdeal : Cert.OddOutGradRefIdeal.Facts] : Prop :=
  ∀ (m : (ℓ : Loc Cert.OddOutGradIdeal.nD Cert.OddOutGradIdeal.τ Cert.OddOutGradIdeal.sig) → Buf (Elt Ideal) ℓ) (g : Dev Cert.OddOutGradIdeal.nD → PrngReg)
    (m' : (ℓ : Loc Cert.OddOutGradRefIdeal.nD Cert.OddOutGradRefIdeal.τ Cert.OddOutGradRefIdeal.sig) → Buf (Elt Ideal) ℓ) (g' : Dev Cert.OddOutGradRefIdeal.nD → PrngReg), Pre_OddOutGradIdeal m →
    (∀ c : Dev Cert.OddOutGradIdeal.nD,
      m' ((c.tc : Thread Cert.OddOutGradRefIdeal.nD Cert.OddOutGradRefIdeal.τ).loc Cert.OddOutGradRefIdeal.main_arg0) = m ((c.tc : Thread Cert.OddOutGradIdeal.nD Cert.OddOutGradIdeal.τ).loc Cert.OddOutGradIdeal.main_arg0)
      ∧ m' ((c.tc : Thread Cert.OddOutGradRefIdeal.nD Cert.OddOutGradRefIdeal.τ).loc Cert.OddOutGradRefIdeal.main_arg1) = m ((c.tc : Thread Cert.OddOutGradIdeal.nD Cert.OddOutGradIdeal.τ).loc Cert.OddOutGradIdeal.main_arg1)) →
    ∃ (v0 : (c : Dev Cert.OddOutGradIdeal.nD) → Buf (Elt Ideal) ((c.tc : Thread Cert.OddOutGradIdeal.nD Cert.OddOutGradIdeal.τ).loc Cert.OddOutGradIdeal.main_v0)),
      θ_run (Cert.OddOutGradIdeal.defs (F := Ideal)) (onTc (τ := Cert.OddOutGradIdeal.τ) (Cert.OddOutGradIdeal.main (F := Ideal))) ⟨m, fun _ => 0, g⟩ (fun r => ∀ c : Dev Cert.OddOutGradIdeal.nD,
          r.2.mem ((c.tc : Thread Cert.OddOutGradIdeal.nD Cert.OddOutGradIdeal.τ).loc Cert.OddOutGradIdeal.main_v0) = v0 c
          ∧ r.2.mem ((c.tc : Thread Cert.OddOutGradIdeal.nD Cert.OddOutGradIdeal.τ).loc Cert.OddOutGradIdeal.main_arg0) = m ((c.tc : Thread Cert.OddOutGradIdeal.nD Cert.OddOutGradIdeal.τ).loc Cert.OddOutGradIdeal.main_arg0)
          ∧ r.2.mem ((c.tc : Thread Cert.OddOutGradIdeal.nD Cert.OddOutGradIdeal.τ).loc Cert.OddOutGradIdeal.main_arg1) = m ((c.tc : Thread Cert.OddOutGradIdeal.nD Cert.OddOutGradIdeal.τ).loc Cert.OddOutGradIdeal.main_arg1))
      ∧ θ_run (Cert.OddOutGradRefIdeal.defs (F := Ideal)) (onTc (τ := Cert.OddOutGradRefIdeal.τ) (Cert.OddOutGradRefIdeal.main (F := Ideal))) ⟨m', fun _ => 0, g'⟩ (fun r => ∀ c : Dev Cert.OddOutGradRefIdeal.nD,
          r.2.mem ((c.tc : Thread Cert.OddOutGradRefIdeal.nD Cert.OddOutGradRefIdeal.τ).loc Cert.OddOutGradRefIdeal.main_v5) = v0 c
          ∧ r.2.mem ((c.tc : Thread Cert.OddOutGradRefIdeal.nD Cert.OddOutGradRefIdeal.τ).loc Cert.OddOutGradRefIdeal.main_arg0) = m' ((c.tc : Thread Cert.OddOutGradRefIdeal.nD Cert.OddOutGradRefIdeal.τ).loc Cert.OddOutGradRefIdeal.main_arg0)
          ∧ r.2.mem ((c.tc : Thread Cert.OddOutGradRefIdeal.nD Cert.OddOutGradRefIdeal.τ).loc Cert.OddOutGradRefIdeal.main_arg1) = m' ((c.tc : Thread Cert.OddOutGradRefIdeal.nD Cert.OddOutGradRefIdeal.τ).loc Cert.OddOutGradRefIdeal.main_arg1))

def preserves_OddOutBack_OddOutBackIdeal : Prop :=
  True

def algebraic_OddOutBackIdeal_OddOutBackRefIdeal [hOddOutBackIdeal : Cert.OddOutBackIdeal.Facts] [hOddOutBackRefIdeal : Cert.OddOutBackRefIdeal.Facts] : Prop :=
  ∀ (m : (ℓ : Loc Cert.OddOutBackIdeal.nD Cert.OddOutBackIdeal.τ Cert.OddOutBackIdeal.sig) → Buf (Elt Ideal) ℓ) (g : Dev Cert.OddOutBackIdeal.nD → PrngReg)
    (m' : (ℓ : Loc Cert.OddOutBackRefIdeal.nD Cert.OddOutBackRefIdeal.τ Cert.OddOutBackRefIdeal.sig) → Buf (Elt Ideal) ℓ) (g' : Dev Cert.OddOutBackRefIdeal.nD → PrngReg), Pre_OddOutBackIdeal m →
    (∀ c : Dev Cert.OddOutBackIdeal.nD,
      m' ((c.tc : Thread Cert.OddOutBackRefIdeal.nD Cert.OddOutBackRefIdeal.τ).loc Cert.OddOutBackRefIdeal.main_arg0) = m ((c.tc : Thread Cert.OddOutBackIdeal.nD Cert.OddOutBackIdeal.τ).loc Cert.OddOutBackIdeal.main_arg0)
      ∧ m' ((c.tc : Thread Cert.OddOutBackRefIdeal.nD Cert.OddOutBackRefIdeal.τ).loc Cert.OddOutBackRefIdeal.main_arg1) = m ((c.tc : Thread Cert.OddOutBackIdeal.nD Cert.OddOutBackIdeal.τ).loc Cert.OddOutBackIdeal.main_arg1)) →
    ∃ (v0 : (c : Dev Cert.OddOutBackIdeal.nD) → Buf (Elt Ideal) ((c.tc : Thread Cert.OddOutBackIdeal.nD Cert.OddOutBackIdeal.τ).loc Cert.OddOutBackIdeal.main_v0)),
      θ_run (Cert.OddOutBackIdeal.defs (F := Ideal)) (onTc (τ := Cert.OddOutBackIdeal.τ) (Cert.OddOutBackIdeal.main (F := Ideal))) ⟨m, fun _ => 0, g⟩ (fun r => ∀ c : Dev Cert.OddOutBackIdeal.nD,
          r.2.mem ((c.tc : Thread Cert.OddOutBackIdeal.nD Cert.OddOutBackIdeal.τ).loc Cert.OddOutBackIdeal.main_v0) = v0 c
          ∧ r.2.mem ((c.tc : Thread Cert.OddOutBackIdeal.nD Cert.OddOutBackIdeal.τ).loc Cert.OddOutBackIdeal.main_arg0) = m ((c.tc : Thread Cert.OddOutBackIdeal.nD Cert.OddOutBackIdeal.τ).loc Cert.OddOutBackIdeal.main_arg0)
          ∧ r.2.mem ((c.tc : Thread Cert.OddOutBackIdeal.nD Cert.OddOutBackIdeal.τ).loc Cert.OddOutBackIdeal.main_arg1) = m ((c.tc : Thread Cert.OddOutBackIdeal.nD Cert.OddOutBackIdeal.τ).loc Cert.OddOutBackIdeal.main_arg1))
      ∧ θ_run (Cert.OddOutBackRefIdeal.defs (F := Ideal)) (onTc (τ := Cert.OddOutBackRefIdeal.τ) (Cert.OddOutBackRefIdeal.main (F := Ideal))) ⟨m', fun _ => 0, g'⟩ (fun r => ∀ c : Dev Cert.OddOutBackRefIdeal.nD,
          r.2.mem ((c.tc : Thread Cert.OddOutBackRefIdeal.nD Cert.OddOutBackRefIdeal.τ).loc Cert.OddOutBackRefIdeal.main_v5) = v0 c
          ∧ r.2.mem ((c.tc : Thread Cert.OddOutBackRefIdeal.nD Cert.OddOutBackRefIdeal.τ).loc Cert.OddOutBackRefIdeal.main_arg0) = m' ((c.tc : Thread Cert.OddOutBackRefIdeal.nD Cert.OddOutBackRefIdeal.τ).loc Cert.OddOutBackRefIdeal.main_arg0)
          ∧ r.2.mem ((c.tc : Thread Cert.OddOutBackRefIdeal.nD Cert.OddOutBackRefIdeal.τ).loc Cert.OddOutBackRefIdeal.main_arg1) = m' ((c.tc : Thread Cert.OddOutBackRefIdeal.nD Cert.OddOutBackRefIdeal.τ).loc Cert.OddOutBackRefIdeal.main_arg1))

def preserves_OddZGrad_OddZGradIdeal : Prop :=
  True

def algebraic_OddZGradIdeal_OddZGradRefIdeal [hOddZGradIdeal : Cert.OddZGradIdeal.Facts] [hOddZGradRefIdeal : Cert.OddZGradRefIdeal.Facts] : Prop :=
  ∀ (m : (ℓ : Loc Cert.OddZGradIdeal.nD Cert.OddZGradIdeal.τ Cert.OddZGradIdeal.sig) → Buf (Elt Ideal) ℓ) (g : Dev Cert.OddZGradIdeal.nD → PrngReg)
    (m' : (ℓ : Loc Cert.OddZGradRefIdeal.nD Cert.OddZGradRefIdeal.τ Cert.OddZGradRefIdeal.sig) → Buf (Elt Ideal) ℓ) (g' : Dev Cert.OddZGradRefIdeal.nD → PrngReg), Pre_OddZGradIdeal m →
    (∀ c : Dev Cert.OddZGradIdeal.nD,
      m' ((c.tc : Thread Cert.OddZGradRefIdeal.nD Cert.OddZGradRefIdeal.τ).loc Cert.OddZGradRefIdeal.main_arg0) = m ((c.tc : Thread Cert.OddZGradIdeal.nD Cert.OddZGradIdeal.τ).loc Cert.OddZGradIdeal.main_arg0)
      ∧ m' ((c.tc : Thread Cert.OddZGradRefIdeal.nD Cert.OddZGradRefIdeal.τ).loc Cert.OddZGradRefIdeal.main_arg1) = m ((c.tc : Thread Cert.OddZGradIdeal.nD Cert.OddZGradIdeal.τ).loc Cert.OddZGradIdeal.main_arg1)) →
    ∃ (v0 : (c : Dev Cert.OddZGradIdeal.nD) → Buf (Elt Ideal) ((c.tc : Thread Cert.OddZGradIdeal.nD Cert.OddZGradIdeal.τ).loc Cert.OddZGradIdeal.main_v0)),
      θ_run (Cert.OddZGradIdeal.defs (F := Ideal)) (onTc (τ := Cert.OddZGradIdeal.τ) (Cert.OddZGradIdeal.main (F := Ideal))) ⟨m, fun _ => 0, g⟩ (fun r => ∀ c : Dev Cert.OddZGradIdeal.nD,
          r.2.mem ((c.tc : Thread Cert.OddZGradIdeal.nD Cert.OddZGradIdeal.τ).loc Cert.OddZGradIdeal.main_v0) = v0 c
          ∧ r.2.mem ((c.tc : Thread Cert.OddZGradIdeal.nD Cert.OddZGradIdeal.τ).loc Cert.OddZGradIdeal.main_arg0) = m ((c.tc : Thread Cert.OddZGradIdeal.nD Cert.OddZGradIdeal.τ).loc Cert.OddZGradIdeal.main_arg0)
          ∧ r.2.mem ((c.tc : Thread Cert.OddZGradIdeal.nD Cert.OddZGradIdeal.τ).loc Cert.OddZGradIdeal.main_arg1) = m ((c.tc : Thread Cert.OddZGradIdeal.nD Cert.OddZGradIdeal.τ).loc Cert.OddZGradIdeal.main_arg1))
      ∧ θ_run (Cert.OddZGradRefIdeal.defs (F := Ideal)) (onTc (τ := Cert.OddZGradRefIdeal.τ) (Cert.OddZGradRefIdeal.main (F := Ideal))) ⟨m', fun _ => 0, g'⟩ (fun r => ∀ c : Dev Cert.OddZGradRefIdeal.nD,
          r.2.mem ((c.tc : Thread Cert.OddZGradRefIdeal.nD Cert.OddZGradRefIdeal.τ).loc Cert.OddZGradRefIdeal.main_v5) = v0 c
          ∧ r.2.mem ((c.tc : Thread Cert.OddZGradRefIdeal.nD Cert.OddZGradRefIdeal.τ).loc Cert.OddZGradRefIdeal.main_arg0) = m' ((c.tc : Thread Cert.OddZGradRefIdeal.nD Cert.OddZGradRefIdeal.τ).loc Cert.OddZGradRefIdeal.main_arg0)
          ∧ r.2.mem ((c.tc : Thread Cert.OddZGradRefIdeal.nD Cert.OddZGradRefIdeal.τ).loc Cert.OddZGradRefIdeal.main_arg1) = m' ((c.tc : Thread Cert.OddZGradRefIdeal.nD Cert.OddZGradRefIdeal.τ).loc Cert.OddZGradRefIdeal.main_arg1))

def preserves_OddZBack_OddZBackIdeal : Prop :=
  True

def algebraic_OddZBackIdeal_OddZBackRefIdeal [hOddZBackIdeal : Cert.OddZBackIdeal.Facts] [hOddZBackRefIdeal : Cert.OddZBackRefIdeal.Facts] : Prop :=
  ∀ (m : (ℓ : Loc Cert.OddZBackIdeal.nD Cert.OddZBackIdeal.τ Cert.OddZBackIdeal.sig) → Buf (Elt Ideal) ℓ) (g : Dev Cert.OddZBackIdeal.nD → PrngReg)
    (m' : (ℓ : Loc Cert.OddZBackRefIdeal.nD Cert.OddZBackRefIdeal.τ Cert.OddZBackRefIdeal.sig) → Buf (Elt Ideal) ℓ) (g' : Dev Cert.OddZBackRefIdeal.nD → PrngReg), Pre_OddZBackIdeal m →
    (∀ c : Dev Cert.OddZBackIdeal.nD,
      m' ((c.tc : Thread Cert.OddZBackRefIdeal.nD Cert.OddZBackRefIdeal.τ).loc Cert.OddZBackRefIdeal.main_arg0) = m ((c.tc : Thread Cert.OddZBackIdeal.nD Cert.OddZBackIdeal.τ).loc Cert.OddZBackIdeal.main_arg0)
      ∧ m' ((c.tc : Thread Cert.OddZBackRefIdeal.nD Cert.OddZBackRefIdeal.τ).loc Cert.OddZBackRefIdeal.main_arg1) = m ((c.tc : Thread Cert.OddZBackIdeal.nD Cert.OddZBackIdeal.τ).loc Cert.OddZBackIdeal.main_arg1)
      ∧ m' ((c.tc : Thread Cert.OddZBackRefIdeal.nD Cert.OddZBackRefIdeal.τ).loc Cert.OddZBackRefIdeal.main_arg2) = m ((c.tc : Thread Cert.OddZBackIdeal.nD Cert.OddZBackIdeal.τ).loc Cert.OddZBackIdeal.main_arg2)) →
    ∃ (v0 : (c : Dev Cert.OddZBackIdeal.nD) → Buf (Elt Ideal) ((c.tc : Thread Cert.OddZBackIdeal.nD Cert.OddZBackIdeal.τ).loc Cert.OddZBackIdeal.main_v0)),
      θ_run (Cert.OddZBackIdeal.defs (F := Ideal)) (onTc (τ := Cert.OddZBackIdeal.τ) (Cert.OddZBackIdeal.main (F := Ideal))) ⟨m, fun _ => 0, g⟩ (fun r => ∀ c : Dev Cert.OddZBackIdeal.nD,
          r.2.mem ((c.tc : Thread Cert.OddZBackIdeal.nD Cert.OddZBackIdeal.τ).loc Cert.OddZBackIdeal.main_v0) = v0 c
          ∧ r.2.mem ((c.tc : Thread Cert.OddZBackIdeal.nD Cert.OddZBackIdeal.τ).loc Cert.OddZBackIdeal.main_arg0) = m ((c.tc : Thread Cert.OddZBackIdeal.nD Cert.OddZBackIdeal.τ).loc Cert.OddZBackIdeal.main_arg0)
          ∧ r.2.mem ((c.tc : Thread Cert.OddZBackIdeal.nD Cert.OddZBackIdeal.τ).loc Cert.OddZBackIdeal.main_arg1) = m ((c.tc : Thread Cert.OddZBackIdeal.nD Cert.OddZBackIdeal.τ).loc Cert.OddZBackIdeal.main_arg1)
          ∧ r.2.mem ((c.tc : Thread Cert.OddZBackIdeal.nD Cert.OddZBackIdeal.τ).loc Cert.OddZBackIdeal.main_arg2) = m ((c.tc : Thread Cert.OddZBackIdeal.nD Cert.OddZBackIdeal.τ).loc Cert.OddZBackIdeal.main_arg2))
      ∧ θ_run (Cert.OddZBackRefIdeal.defs (F := Ideal)) (onTc (τ := Cert.OddZBackRefIdeal.τ) (Cert.OddZBackRefIdeal.main (F := Ideal))) ⟨m', fun _ => 0, g'⟩ (fun r => ∀ c : Dev Cert.OddZBackRefIdeal.nD,
          r.2.mem ((c.tc : Thread Cert.OddZBackRefIdeal.nD Cert.OddZBackRefIdeal.τ).loc Cert.OddZBackRefIdeal.main_v9) = v0 c
          ∧ r.2.mem ((c.tc : Thread Cert.OddZBackRefIdeal.nD Cert.OddZBackRefIdeal.τ).loc Cert.OddZBackRefIdeal.main_arg0) = m' ((c.tc : Thread Cert.OddZBackRefIdeal.nD Cert.OddZBackRefIdeal.τ).loc Cert.OddZBackRefIdeal.main_arg0)
          ∧ r.2.mem ((c.tc : Thread Cert.OddZBackRefIdeal.nD Cert.OddZBackRefIdeal.τ).loc Cert.OddZBackRefIdeal.main_arg1) = m' ((c.tc : Thread Cert.OddZBackRefIdeal.nD Cert.OddZBackRefIdeal.τ).loc Cert.OddZBackRefIdeal.main_arg1)
          ∧ r.2.mem ((c.tc : Thread Cert.OddZBackRefIdeal.nD Cert.OddZBackRefIdeal.τ).loc Cert.OddZBackRefIdeal.main_arg2) = m' ((c.tc : Thread Cert.OddZBackRefIdeal.nD Cert.OddZBackRefIdeal.τ).loc Cert.OddZBackRefIdeal.main_arg2))

def preserves_EvenInGrad_EvenInGradIdeal : Prop :=
  True

def algebraic_EvenInGradIdeal_EvenInGradRefIdeal [hEvenInGradIdeal : Cert.EvenInGradIdeal.Facts] [hEvenInGradRefIdeal : Cert.EvenInGradRefIdeal.Facts] : Prop :=
  ∀ (m : (ℓ : Loc Cert.EvenInGradIdeal.nD Cert.EvenInGradIdeal.τ Cert.EvenInGradIdeal.sig) → Buf (Elt Ideal) ℓ) (g : Dev Cert.EvenInGradIdeal.nD → PrngReg)
    (m' : (ℓ : Loc Cert.EvenInGradRefIdeal.nD Cert.EvenInGradRefIdeal.τ Cert.EvenInGradRefIdeal.sig) → Buf (Elt Ideal) ℓ) (g' : Dev Cert.EvenInGradRefIdeal.nD → PrngReg), Pre_EvenInGradIdeal m →
    (∀ c : Dev Cert.EvenInGradIdeal.nD,
      m' ((c.tc : Thread Cert.EvenInGradRefIdeal.nD Cert.EvenInGradRefIdeal.τ).loc Cert.EvenInGradRefIdeal.main_arg0) = m ((c.tc : Thread Cert.EvenInGradIdeal.nD Cert.EvenInGradIdeal.τ).loc Cert.EvenInGradIdeal.main_arg0)
      ∧ m' ((c.tc : Thread Cert.EvenInGradRefIdeal.nD Cert.EvenInGradRefIdeal.τ).loc Cert.EvenInGradRefIdeal.main_arg1) = m ((c.tc : Thread Cert.EvenInGradIdeal.nD Cert.EvenInGradIdeal.τ).loc Cert.EvenInGradIdeal.main_arg1)) →
    ∃ (v0 : (c : Dev Cert.EvenInGradIdeal.nD) → Buf (Elt Ideal) ((c.tc : Thread Cert.EvenInGradIdeal.nD Cert.EvenInGradIdeal.τ).loc Cert.EvenInGradIdeal.main_v0)),
      θ_run (Cert.EvenInGradIdeal.defs (F := Ideal)) (onTc (τ := Cert.EvenInGradIdeal.τ) (Cert.EvenInGradIdeal.main (F := Ideal))) ⟨m, fun _ => 0, g⟩ (fun r => ∀ c : Dev Cert.EvenInGradIdeal.nD,
          r.2.mem ((c.tc : Thread Cert.EvenInGradIdeal.nD Cert.EvenInGradIdeal.τ).loc Cert.EvenInGradIdeal.main_v0) = v0 c
          ∧ r.2.mem ((c.tc : Thread Cert.EvenInGradIdeal.nD Cert.EvenInGradIdeal.τ).loc Cert.EvenInGradIdeal.main_arg0) = m ((c.tc : Thread Cert.EvenInGradIdeal.nD Cert.EvenInGradIdeal.τ).loc Cert.EvenInGradIdeal.main_arg0)
          ∧ r.2.mem ((c.tc : Thread Cert.EvenInGradIdeal.nD Cert.EvenInGradIdeal.τ).loc Cert.EvenInGradIdeal.main_arg1) = m ((c.tc : Thread Cert.EvenInGradIdeal.nD Cert.EvenInGradIdeal.τ).loc Cert.EvenInGradIdeal.main_arg1))
      ∧ θ_run (Cert.EvenInGradRefIdeal.defs (F := Ideal)) (onTc (τ := Cert.EvenInGradRefIdeal.τ) (Cert.EvenInGradRefIdeal.main (F := Ideal))) ⟨m', fun _ => 0, g'⟩ (fun r => ∀ c : Dev Cert.EvenInGradRefIdeal.nD,
          r.2.mem ((c.tc : Thread Cert.EvenInGradRefIdeal.nD Cert.EvenInGradRefIdeal.τ).loc Cert.EvenInGradRefIdeal.main_v5) = v0 c
          ∧ r.2.mem ((c.tc : Thread Cert.EvenInGradRefIdeal.nD Cert.EvenInGradRefIdeal.τ).loc Cert.EvenInGradRefIdeal.main_arg0) = m' ((c.tc : Thread Cert.EvenInGradRefIdeal.nD Cert.EvenInGradRefIdeal.τ).loc Cert.EvenInGradRefIdeal.main_arg0)
          ∧ r.2.mem ((c.tc : Thread Cert.EvenInGradRefIdeal.nD Cert.EvenInGradRefIdeal.τ).loc Cert.EvenInGradRefIdeal.main_arg1) = m' ((c.tc : Thread Cert.EvenInGradRefIdeal.nD Cert.EvenInGradRefIdeal.τ).loc Cert.EvenInGradRefIdeal.main_arg1))

def preserves_ConvBack_ConvBackIdeal : Prop :=
  True

def algebraic_ConvBackIdeal_ConvBackRefIdeal [hConvBackIdeal : Cert.ConvBackIdeal.Facts] [hConvBackRefIdeal : Cert.ConvBackRefIdeal.Facts] : Prop :=
  ∀ (m : (ℓ : Loc Cert.ConvBackIdeal.nD Cert.ConvBackIdeal.τ Cert.ConvBackIdeal.sig) → Buf (Elt Ideal) ℓ) (g : Dev Cert.ConvBackIdeal.nD → PrngReg)
    (m' : (ℓ : Loc Cert.ConvBackRefIdeal.nD Cert.ConvBackRefIdeal.τ Cert.ConvBackRefIdeal.sig) → Buf (Elt Ideal) ℓ) (g' : Dev Cert.ConvBackRefIdeal.nD → PrngReg), Pre_ConvBackIdeal m →
    (∀ c : Dev Cert.ConvBackIdeal.nD,
      m' ((c.tc : Thread Cert.ConvBackRefIdeal.nD Cert.ConvBackRefIdeal.τ).loc Cert.ConvBackRefIdeal.main_arg0) = m ((c.tc : Thread Cert.ConvBackIdeal.nD Cert.ConvBackIdeal.τ).loc Cert.ConvBackIdeal.main_arg0)
      ∧ m' ((c.tc : Thread Cert.ConvBackRefIdeal.nD Cert.ConvBackRefIdeal.τ).loc Cert.ConvBackRefIdeal.main_arg1) = m ((c.tc : Thread Cert.ConvBackIdeal.nD Cert.ConvBackIdeal.τ).loc Cert.ConvBackIdeal.main_arg1)
      ∧ m' ((c.tc : Thread Cert.ConvBackRefIdeal.nD Cert.ConvBackRefIdeal.τ).loc Cert.ConvBackRefIdeal.main_arg2) = m ((c.tc : Thread Cert.ConvBackIdeal.nD Cert.ConvBackIdeal.τ).loc Cert.ConvBackIdeal.main_arg2)) →
    ∃ (v0 : (c : Dev Cert.ConvBackIdeal.nD) → Buf (Elt Ideal) ((c.tc : Thread Cert.ConvBackIdeal.nD Cert.ConvBackIdeal.τ).loc Cert.ConvBackIdeal.main_v0)),
      θ_run (Cert.ConvBackIdeal.defs (F := Ideal)) (onTc (τ := Cert.ConvBackIdeal.τ) (Cert.ConvBackIdeal.main (F := Ideal))) ⟨m, fun _ => 0, g⟩ (fun r => ∀ c : Dev Cert.ConvBackIdeal.nD,
          r.2.mem ((c.tc : Thread Cert.ConvBackIdeal.nD Cert.ConvBackIdeal.τ).loc Cert.ConvBackIdeal.main_v0) = v0 c
          ∧ r.2.mem ((c.tc : Thread Cert.ConvBackIdeal.nD Cert.ConvBackIdeal.τ).loc Cert.ConvBackIdeal.main_arg0) = m ((c.tc : Thread Cert.ConvBackIdeal.nD Cert.ConvBackIdeal.τ).loc Cert.ConvBackIdeal.main_arg0)
          ∧ r.2.mem ((c.tc : Thread Cert.ConvBackIdeal.nD Cert.ConvBackIdeal.τ).loc Cert.ConvBackIdeal.main_arg1) = m ((c.tc : Thread Cert.ConvBackIdeal.nD Cert.ConvBackIdeal.τ).loc Cert.ConvBackIdeal.main_arg1)
          ∧ r.2.mem ((c.tc : Thread Cert.ConvBackIdeal.nD Cert.ConvBackIdeal.τ).loc Cert.ConvBackIdeal.main_arg2) = m ((c.tc : Thread Cert.ConvBackIdeal.nD Cert.ConvBackIdeal.τ).loc Cert.ConvBackIdeal.main_arg2))
      ∧ θ_run (Cert.ConvBackRefIdeal.defs (F := Ideal)) (onTc (τ := Cert.ConvBackRefIdeal.τ) (Cert.ConvBackRefIdeal.main (F := Ideal))) ⟨m', fun _ => 0, g'⟩ (fun r => ∀ c : Dev Cert.ConvBackRefIdeal.nD,
          r.2.mem ((c.tc : Thread Cert.ConvBackRefIdeal.nD Cert.ConvBackRefIdeal.τ).loc Cert.ConvBackRefIdeal.main_v9) = v0 c
          ∧ r.2.mem ((c.tc : Thread Cert.ConvBackRefIdeal.nD Cert.ConvBackRefIdeal.τ).loc Cert.ConvBackRefIdeal.main_arg0) = m' ((c.tc : Thread Cert.ConvBackRefIdeal.nD Cert.ConvBackRefIdeal.τ).loc Cert.ConvBackRefIdeal.main_arg0)
          ∧ r.2.mem ((c.tc : Thread Cert.ConvBackRefIdeal.nD Cert.ConvBackRefIdeal.τ).loc Cert.ConvBackRefIdeal.main_arg1) = m' ((c.tc : Thread Cert.ConvBackRefIdeal.nD Cert.ConvBackRefIdeal.τ).loc Cert.ConvBackRefIdeal.main_arg1)
          ∧ r.2.mem ((c.tc : Thread Cert.ConvBackRefIdeal.nD Cert.ConvBackRefIdeal.τ).loc Cert.ConvBackRefIdeal.main_arg2) = m' ((c.tc : Thread Cert.ConvBackRefIdeal.nD Cert.ConvBackRefIdeal.τ).loc Cert.ConvBackRefIdeal.main_arg2))

def preserves_QkvBack_QkvBackIdeal : Prop :=
  True

def algebraic_QkvBackIdeal_QkvBackRefIdeal [hQkvBackIdeal : Cert.QkvBackIdeal.Facts] [hQkvBackRefIdeal : Cert.QkvBackRefIdeal.Facts] : Prop :=
  ∀ (m : (ℓ : Loc Cert.QkvBackIdeal.nD Cert.QkvBackIdeal.τ Cert.QkvBackIdeal.sig) → Buf (Elt Ideal) ℓ) (g : Dev Cert.QkvBackIdeal.nD → PrngReg)
    (m' : (ℓ : Loc Cert.QkvBackRefIdeal.nD Cert.QkvBackRefIdeal.τ Cert.QkvBackRefIdeal.sig) → Buf (Elt Ideal) ℓ) (g' : Dev Cert.QkvBackRefIdeal.nD → PrngReg), Pre_QkvBackIdeal m →
    (∀ c : Dev Cert.QkvBackIdeal.nD,
      m' ((c.tc : Thread Cert.QkvBackRefIdeal.nD Cert.QkvBackRefIdeal.τ).loc Cert.QkvBackRefIdeal.main_arg0) = m ((c.tc : Thread Cert.QkvBackIdeal.nD Cert.QkvBackIdeal.τ).loc Cert.QkvBackIdeal.main_arg0)
      ∧ m' ((c.tc : Thread Cert.QkvBackRefIdeal.nD Cert.QkvBackRefIdeal.τ).loc Cert.QkvBackRefIdeal.main_arg1) = m ((c.tc : Thread Cert.QkvBackIdeal.nD Cert.QkvBackIdeal.τ).loc Cert.QkvBackIdeal.main_arg1)
      ∧ m' ((c.tc : Thread Cert.QkvBackRefIdeal.nD Cert.QkvBackRefIdeal.τ).loc Cert.QkvBackRefIdeal.main_arg2) = m ((c.tc : Thread Cert.QkvBackIdeal.nD Cert.QkvBackIdeal.τ).loc Cert.QkvBackIdeal.main_arg2)) →
    ∃ (v0 : (c : Dev Cert.QkvBackIdeal.nD) → Buf (Elt Ideal) ((c.tc : Thread Cert.QkvBackIdeal.nD Cert.QkvBackIdeal.τ).loc Cert.QkvBackIdeal.main_v0)),
      θ_run (Cert.QkvBackIdeal.defs (F := Ideal)) (onTc (τ := Cert.QkvBackIdeal.τ) (Cert.QkvBackIdeal.main (F := Ideal))) ⟨m, fun _ => 0, g⟩ (fun r => ∀ c : Dev Cert.QkvBackIdeal.nD,
          r.2.mem ((c.tc : Thread Cert.QkvBackIdeal.nD Cert.QkvBackIdeal.τ).loc Cert.QkvBackIdeal.main_v0) = v0 c
          ∧ r.2.mem ((c.tc : Thread Cert.QkvBackIdeal.nD Cert.QkvBackIdeal.τ).loc Cert.QkvBackIdeal.main_arg0) = m ((c.tc : Thread Cert.QkvBackIdeal.nD Cert.QkvBackIdeal.τ).loc Cert.QkvBackIdeal.main_arg0)
          ∧ r.2.mem ((c.tc : Thread Cert.QkvBackIdeal.nD Cert.QkvBackIdeal.τ).loc Cert.QkvBackIdeal.main_arg1) = m ((c.tc : Thread Cert.QkvBackIdeal.nD Cert.QkvBackIdeal.τ).loc Cert.QkvBackIdeal.main_arg1)
          ∧ r.2.mem ((c.tc : Thread Cert.QkvBackIdeal.nD Cert.QkvBackIdeal.τ).loc Cert.QkvBackIdeal.main_arg2) = m ((c.tc : Thread Cert.QkvBackIdeal.nD Cert.QkvBackIdeal.τ).loc Cert.QkvBackIdeal.main_arg2))
      ∧ θ_run (Cert.QkvBackRefIdeal.defs (F := Ideal)) (onTc (τ := Cert.QkvBackRefIdeal.τ) (Cert.QkvBackRefIdeal.main (F := Ideal))) ⟨m', fun _ => 0, g'⟩ (fun r => ∀ c : Dev Cert.QkvBackRefIdeal.nD,
          r.2.mem ((c.tc : Thread Cert.QkvBackRefIdeal.nD Cert.QkvBackRefIdeal.τ).loc Cert.QkvBackRefIdeal.main_v5) = v0 c
          ∧ r.2.mem ((c.tc : Thread Cert.QkvBackRefIdeal.nD Cert.QkvBackRefIdeal.τ).loc Cert.QkvBackRefIdeal.main_arg0) = m' ((c.tc : Thread Cert.QkvBackRefIdeal.nD Cert.QkvBackRefIdeal.τ).loc Cert.QkvBackRefIdeal.main_arg0)
          ∧ r.2.mem ((c.tc : Thread Cert.QkvBackRefIdeal.nD Cert.QkvBackRefIdeal.τ).loc Cert.QkvBackRefIdeal.main_arg1) = m' ((c.tc : Thread Cert.QkvBackRefIdeal.nD Cert.QkvBackRefIdeal.τ).loc Cert.QkvBackRefIdeal.main_arg1)
          ∧ r.2.mem ((c.tc : Thread Cert.QkvBackRefIdeal.nD Cert.QkvBackRefIdeal.τ).loc Cert.QkvBackRefIdeal.main_arg2) = m' ((c.tc : Thread Cert.QkvBackRefIdeal.nD Cert.QkvBackRefIdeal.τ).loc Cert.QkvBackRefIdeal.main_arg2))

def preserves_GateGrad_GateGradIdeal : Prop :=
  True

def algebraic_GateGradIdeal_GateGradRefIdeal [hGateGradIdeal : Cert.GateGradIdeal.Facts] [hGateGradRefIdeal : Cert.GateGradRefIdeal.Facts] : Prop :=
  ∀ (m : (ℓ : Loc Cert.GateGradIdeal.nD Cert.GateGradIdeal.τ Cert.GateGradIdeal.sig) → Buf (Elt Ideal) ℓ) (g : Dev Cert.GateGradIdeal.nD → PrngReg)
    (m' : (ℓ : Loc Cert.GateGradRefIdeal.nD Cert.GateGradRefIdeal.τ Cert.GateGradRefIdeal.sig) → Buf (Elt Ideal) ℓ) (g' : Dev Cert.GateGradRefIdeal.nD → PrngReg), Pre_GateGradIdeal m →
    (∀ c : Dev Cert.GateGradIdeal.nD,
      m' ((c.tc : Thread Cert.GateGradRefIdeal.nD Cert.GateGradRefIdeal.τ).loc Cert.GateGradRefIdeal.main_arg0) = m ((c.tc : Thread Cert.GateGradIdeal.nD Cert.GateGradIdeal.τ).loc Cert.GateGradIdeal.main_arg0)
      ∧ m' ((c.tc : Thread Cert.GateGradRefIdeal.nD Cert.GateGradRefIdeal.τ).loc Cert.GateGradRefIdeal.main_arg1) = m ((c.tc : Thread Cert.GateGradIdeal.nD Cert.GateGradIdeal.τ).loc Cert.GateGradIdeal.main_arg1)) →
    ∃ (v0 : (c : Dev Cert.GateGradIdeal.nD) → Buf (Elt Ideal) ((c.tc : Thread Cert.GateGradIdeal.nD Cert.GateGradIdeal.τ).loc Cert.GateGradIdeal.main_v0)),
      θ_run (Cert.GateGradIdeal.defs (F := Ideal)) (onTc (τ := Cert.GateGradIdeal.τ) (Cert.GateGradIdeal.main (F := Ideal))) ⟨m, fun _ => 0, g⟩ (fun r => ∀ c : Dev Cert.GateGradIdeal.nD,
          r.2.mem ((c.tc : Thread Cert.GateGradIdeal.nD Cert.GateGradIdeal.τ).loc Cert.GateGradIdeal.main_v0) = v0 c
          ∧ r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
          ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1))
      ∧ θ_run (Cert.GateGradRefIdeal.defs (F := Ideal)) (onTc (τ := Cert.GateGradRefIdeal.τ) (Cert.GateGradRefIdeal.main (F := Ideal))) ⟨m', fun _ => 0, g'⟩ (fun r => ∀ c : Dev Cert.GateGradRefIdeal.nD,
          r.2.mem ((c.tc : Thread Cert.GateGradRefIdeal.nD Cert.GateGradRefIdeal.τ).loc Cert.GateGradRefIdeal.main_v5) = v0 c
          ∧ r.2.mem ((c.tc : Thread Cert.GateGradRefIdeal.nD Cert.GateGradRefIdeal.τ).loc Cert.GateGradRefIdeal.main_arg0) = m' ((c.tc : Thread Cert.GateGradRefIdeal.nD Cert.GateGradRefIdeal.τ).loc Cert.GateGradRefIdeal.main_arg0)
          ∧ r.2.mem ((c.tc : Thread Cert.GateGradRefIdeal.nD Cert.GateGradRefIdeal.τ).loc Cert.GateGradRefIdeal.main_arg1) = m' ((c.tc : Thread Cert.GateGradRefIdeal.nD Cert.GateGradRefIdeal.τ).loc Cert.GateGradRefIdeal.main_arg1))

def preserves_GateBack_GateBackIdeal : Prop :=
  True

def algebraic_GateBackIdeal_GateBackRefIdeal [hGateBackIdeal : Cert.GateBackIdeal.Facts] [hGateBackRefIdeal : Cert.GateBackRefIdeal.Facts] : Prop :=
  ∀ (m : (ℓ : Loc Cert.GateBackIdeal.nD Cert.GateBackIdeal.τ Cert.GateBackIdeal.sig) → Buf (Elt Ideal) ℓ) (g : Dev Cert.GateBackIdeal.nD → PrngReg)
    (m' : (ℓ : Loc Cert.GateBackRefIdeal.nD Cert.GateBackRefIdeal.τ Cert.GateBackRefIdeal.sig) → Buf (Elt Ideal) ℓ) (g' : Dev Cert.GateBackRefIdeal.nD → PrngReg), Pre_GateBackIdeal m →
    (∀ c : Dev Cert.GateBackIdeal.nD,
      m' ((c.tc : Thread Cert.GateBackRefIdeal.nD Cert.GateBackRefIdeal.τ).loc Cert.GateBackRefIdeal.main_arg0) = m ((c.tc : Thread Cert.GateBackIdeal.nD Cert.GateBackIdeal.τ).loc Cert.GateBackIdeal.main_arg0)
      ∧ m' ((c.tc : Thread Cert.GateBackRefIdeal.nD Cert.GateBackRefIdeal.τ).loc Cert.GateBackRefIdeal.main_arg1) = m ((c.tc : Thread Cert.GateBackIdeal.nD Cert.GateBackIdeal.τ).loc Cert.GateBackIdeal.main_arg1)
      ∧ m' ((c.tc : Thread Cert.GateBackRefIdeal.nD Cert.GateBackRefIdeal.τ).loc Cert.GateBackRefIdeal.main_arg2) = m ((c.tc : Thread Cert.GateBackIdeal.nD Cert.GateBackIdeal.τ).loc Cert.GateBackIdeal.main_arg2)) →
    ∃ (v0 : (c : Dev Cert.GateBackIdeal.nD) → Buf (Elt Ideal) ((c.tc : Thread Cert.GateBackIdeal.nD Cert.GateBackIdeal.τ).loc Cert.GateBackIdeal.main_v0)),
      θ_run (Cert.GateBackIdeal.defs (F := Ideal)) (onTc (τ := Cert.GateBackIdeal.τ) (Cert.GateBackIdeal.main (F := Ideal))) ⟨m, fun _ => 0, g⟩ (fun r => ∀ c : Dev Cert.GateBackIdeal.nD,
          r.2.mem ((c.tc : Thread Cert.GateBackIdeal.nD Cert.GateBackIdeal.τ).loc Cert.GateBackIdeal.main_v0) = v0 c
          ∧ r.2.mem ((c.tc : Thread Cert.GateBackIdeal.nD Cert.GateBackIdeal.τ).loc Cert.GateBackIdeal.main_arg0) = m ((c.tc : Thread Cert.GateBackIdeal.nD Cert.GateBackIdeal.τ).loc Cert.GateBackIdeal.main_arg0)
          ∧ r.2.mem ((c.tc : Thread Cert.GateBackIdeal.nD Cert.GateBackIdeal.τ).loc Cert.GateBackIdeal.main_arg1) = m ((c.tc : Thread Cert.GateBackIdeal.nD Cert.GateBackIdeal.τ).loc Cert.GateBackIdeal.main_arg1)
          ∧ r.2.mem ((c.tc : Thread Cert.GateBackIdeal.nD Cert.GateBackIdeal.τ).loc Cert.GateBackIdeal.main_arg2) = m ((c.tc : Thread Cert.GateBackIdeal.nD Cert.GateBackIdeal.τ).loc Cert.GateBackIdeal.main_arg2))
      ∧ θ_run (Cert.GateBackRefIdeal.defs (F := Ideal)) (onTc (τ := Cert.GateBackRefIdeal.τ) (Cert.GateBackRefIdeal.main (F := Ideal))) ⟨m', fun _ => 0, g'⟩ (fun r => ∀ c : Dev Cert.GateBackRefIdeal.nD,
          r.2.mem ((c.tc : Thread Cert.GateBackRefIdeal.nD Cert.GateBackRefIdeal.τ).loc Cert.GateBackRefIdeal.main_v5) = v0 c
          ∧ r.2.mem ((c.tc : Thread Cert.GateBackRefIdeal.nD Cert.GateBackRefIdeal.τ).loc Cert.GateBackRefIdeal.main_arg0) = m' ((c.tc : Thread Cert.GateBackRefIdeal.nD Cert.GateBackRefIdeal.τ).loc Cert.GateBackRefIdeal.main_arg0)
          ∧ r.2.mem ((c.tc : Thread Cert.GateBackRefIdeal.nD Cert.GateBackRefIdeal.τ).loc Cert.GateBackRefIdeal.main_arg1) = m' ((c.tc : Thread Cert.GateBackRefIdeal.nD Cert.GateBackRefIdeal.τ).loc Cert.GateBackRefIdeal.main_arg1)
          ∧ r.2.mem ((c.tc : Thread Cert.GateBackRefIdeal.nD Cert.GateBackRefIdeal.τ).loc Cert.GateBackRefIdeal.main_arg2) = m' ((c.tc : Thread Cert.GateBackRefIdeal.nD Cert.GateBackRefIdeal.τ).loc Cert.GateBackRefIdeal.main_arg2))

def preserves_ProjGrad_ProjGradIdeal : Prop :=
  True

def algebraic_ProjGradIdeal_ProjGradRefIdeal [hProjGradIdeal : Cert.ProjGradIdeal.Facts] [hProjGradRefIdeal : Cert.ProjGradRefIdeal.Facts] : Prop :=
  ∀ (m : (ℓ : Loc Cert.ProjGradIdeal.nD Cert.ProjGradIdeal.τ Cert.ProjGradIdeal.sig) → Buf (Elt Ideal) ℓ) (g : Dev Cert.ProjGradIdeal.nD → PrngReg)
    (m' : (ℓ : Loc Cert.ProjGradRefIdeal.nD Cert.ProjGradRefIdeal.τ Cert.ProjGradRefIdeal.sig) → Buf (Elt Ideal) ℓ) (g' : Dev Cert.ProjGradRefIdeal.nD → PrngReg), Pre_ProjGradIdeal m →
    (∀ c : Dev Cert.ProjGradIdeal.nD,
      m' ((c.tc : Thread Cert.ProjGradRefIdeal.nD Cert.ProjGradRefIdeal.τ).loc Cert.ProjGradRefIdeal.main_arg0) = m ((c.tc : Thread Cert.ProjGradIdeal.nD Cert.ProjGradIdeal.τ).loc Cert.ProjGradIdeal.main_arg0)
      ∧ m' ((c.tc : Thread Cert.ProjGradRefIdeal.nD Cert.ProjGradRefIdeal.τ).loc Cert.ProjGradRefIdeal.main_arg1) = m ((c.tc : Thread Cert.ProjGradIdeal.nD Cert.ProjGradIdeal.τ).loc Cert.ProjGradIdeal.main_arg1)) →
    ∃ (v0 : (c : Dev Cert.ProjGradIdeal.nD) → Buf (Elt Ideal) ((c.tc : Thread Cert.ProjGradIdeal.nD Cert.ProjGradIdeal.τ).loc Cert.ProjGradIdeal.main_v0)),
      θ_run (Cert.ProjGradIdeal.defs (F := Ideal)) (onTc (τ := Cert.ProjGradIdeal.τ) (Cert.ProjGradIdeal.main (F := Ideal))) ⟨m, fun _ => 0, g⟩ (fun r => ∀ c : Dev Cert.ProjGradIdeal.nD,
          r.2.mem ((c.tc : Thread Cert.ProjGradIdeal.nD Cert.ProjGradIdeal.τ).loc Cert.ProjGradIdeal.main_v0) = v0 c
          ∧ r.2.mem ((c.tc : Thread Cert.ProjGradIdeal.nD Cert.ProjGradIdeal.τ).loc Cert.ProjGradIdeal.main_arg0) = m ((c.tc : Thread Cert.ProjGradIdeal.nD Cert.ProjGradIdeal.τ).loc Cert.ProjGradIdeal.main_arg0)
          ∧ r.2.mem ((c.tc : Thread Cert.ProjGradIdeal.nD Cert.ProjGradIdeal.τ).loc Cert.ProjGradIdeal.main_arg1) = m ((c.tc : Thread Cert.ProjGradIdeal.nD Cert.ProjGradIdeal.τ).loc Cert.ProjGradIdeal.main_arg1))
      ∧ θ_run (Cert.ProjGradRefIdeal.defs (F := Ideal)) (onTc (τ := Cert.ProjGradRefIdeal.τ) (Cert.ProjGradRefIdeal.main (F := Ideal))) ⟨m', fun _ => 0, g'⟩ (fun r => ∀ c : Dev Cert.ProjGradRefIdeal.nD,
          r.2.mem ((c.tc : Thread Cert.ProjGradRefIdeal.nD Cert.ProjGradRefIdeal.τ).loc Cert.ProjGradRefIdeal.main_v5) = v0 c
          ∧ r.2.mem ((c.tc : Thread Cert.ProjGradRefIdeal.nD Cert.ProjGradRefIdeal.τ).loc Cert.ProjGradRefIdeal.main_arg0) = m' ((c.tc : Thread Cert.ProjGradRefIdeal.nD Cert.ProjGradRefIdeal.τ).loc Cert.ProjGradRefIdeal.main_arg0)
          ∧ r.2.mem ((c.tc : Thread Cert.ProjGradRefIdeal.nD Cert.ProjGradRefIdeal.τ).loc Cert.ProjGradRefIdeal.main_arg1) = m' ((c.tc : Thread Cert.ProjGradRefIdeal.nD Cert.ProjGradRefIdeal.τ).loc Cert.ProjGradRefIdeal.main_arg1))

def preserves_EvenOutBack_EvenOutBackIdeal : Prop :=
  True

def algebraic_EvenOutBackIdeal_EvenOutBackRefIdeal [hEvenOutBackIdeal : Cert.EvenOutBackIdeal.Facts] [hEvenOutBackRefIdeal : Cert.EvenOutBackRefIdeal.Facts] : Prop :=
  ∀ (m : (ℓ : Loc Cert.EvenOutBackIdeal.nD Cert.EvenOutBackIdeal.τ Cert.EvenOutBackIdeal.sig) → Buf (Elt Ideal) ℓ) (g : Dev Cert.EvenOutBackIdeal.nD → PrngReg)
    (m' : (ℓ : Loc Cert.EvenOutBackRefIdeal.nD Cert.EvenOutBackRefIdeal.τ Cert.EvenOutBackRefIdeal.sig) → Buf (Elt Ideal) ℓ) (g' : Dev Cert.EvenOutBackRefIdeal.nD → PrngReg), Pre_EvenOutBackIdeal m →
    (∀ c : Dev Cert.EvenOutBackIdeal.nD,
      m' ((c.tc : Thread Cert.EvenOutBackRefIdeal.nD Cert.EvenOutBackRefIdeal.τ).loc Cert.EvenOutBackRefIdeal.main_arg0) = m ((c.tc : Thread Cert.EvenOutBackIdeal.nD Cert.EvenOutBackIdeal.τ).loc Cert.EvenOutBackIdeal.main_arg0)
      ∧ m' ((c.tc : Thread Cert.EvenOutBackRefIdeal.nD Cert.EvenOutBackRefIdeal.τ).loc Cert.EvenOutBackRefIdeal.main_arg1) = m ((c.tc : Thread Cert.EvenOutBackIdeal.nD Cert.EvenOutBackIdeal.τ).loc Cert.EvenOutBackIdeal.main_arg1)) →
    ∃ (v0 : (c : Dev Cert.EvenOutBackIdeal.nD) → Buf (Elt Ideal) ((c.tc : Thread Cert.EvenOutBackIdeal.nD Cert.EvenOutBackIdeal.τ).loc Cert.EvenOutBackIdeal.main_v0)),
      θ_run (Cert.EvenOutBackIdeal.defs (F := Ideal)) (onTc (τ := Cert.EvenOutBackIdeal.τ) (Cert.EvenOutBackIdeal.main (F := Ideal))) ⟨m, fun _ => 0, g⟩ (fun r => ∀ c : Dev Cert.EvenOutBackIdeal.nD,
          r.2.mem ((c.tc : Thread Cert.EvenOutBackIdeal.nD Cert.EvenOutBackIdeal.τ).loc Cert.EvenOutBackIdeal.main_v0) = v0 c
          ∧ r.2.mem ((c.tc : Thread Cert.EvenOutBackIdeal.nD Cert.EvenOutBackIdeal.τ).loc Cert.EvenOutBackIdeal.main_arg0) = m ((c.tc : Thread Cert.EvenOutBackIdeal.nD Cert.EvenOutBackIdeal.τ).loc Cert.EvenOutBackIdeal.main_arg0)
          ∧ r.2.mem ((c.tc : Thread Cert.EvenOutBackIdeal.nD Cert.EvenOutBackIdeal.τ).loc Cert.EvenOutBackIdeal.main_arg1) = m ((c.tc : Thread Cert.EvenOutBackIdeal.nD Cert.EvenOutBackIdeal.τ).loc Cert.EvenOutBackIdeal.main_arg1))
      ∧ θ_run (Cert.EvenOutBackRefIdeal.defs (F := Ideal)) (onTc (τ := Cert.EvenOutBackRefIdeal.τ) (Cert.EvenOutBackRefIdeal.main (F := Ideal))) ⟨m', fun _ => 0, g'⟩ (fun r => ∀ c : Dev Cert.EvenOutBackRefIdeal.nD,
          r.2.mem ((c.tc : Thread Cert.EvenOutBackRefIdeal.nD Cert.EvenOutBackRefIdeal.τ).loc Cert.EvenOutBackRefIdeal.main_v4) = v0 c
          ∧ r.2.mem ((c.tc : Thread Cert.EvenOutBackRefIdeal.nD Cert.EvenOutBackRefIdeal.τ).loc Cert.EvenOutBackRefIdeal.main_arg0) = m' ((c.tc : Thread Cert.EvenOutBackRefIdeal.nD Cert.EvenOutBackRefIdeal.τ).loc Cert.EvenOutBackRefIdeal.main_arg0)
          ∧ r.2.mem ((c.tc : Thread Cert.EvenOutBackRefIdeal.nD Cert.EvenOutBackRefIdeal.τ).loc Cert.EvenOutBackRefIdeal.main_arg1) = m' ((c.tc : Thread Cert.EvenOutBackRefIdeal.nD Cert.EvenOutBackRefIdeal.τ).loc Cert.EvenOutBackRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v2) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v2) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_OddX_OddXIdeal : Prop :=
  True

def algebraic_OddXIdeal_OddXRefIdeal [hOddXIdeal : Cert.OddXIdeal.Facts] [hOddXRefIdeal : Cert.OddXRefIdeal.Facts] : Prop :=
  ∀ (m : (ℓ : Loc Cert.OddXIdeal.nD Cert.OddXIdeal.τ Cert.OddXIdeal.sig) → Buf (Elt Ideal) ℓ) (g : Dev Cert.OddXIdeal.nD → PrngReg)
    (m' : (ℓ : Loc Cert.OddXRefIdeal.nD Cert.OddXRefIdeal.τ Cert.OddXRefIdeal.sig) → Buf (Elt Ideal) ℓ) (g' : Dev Cert.OddXRefIdeal.nD → PrngReg), Pre_OddXIdeal m →
    (∀ c : Dev Cert.OddXIdeal.nD,
      m' ((c.tc : Thread Cert.OddXRefIdeal.nD Cert.OddXRefIdeal.τ).loc Cert.OddXRefIdeal.main_arg0) = m ((c.tc : Thread Cert.OddXIdeal.nD Cert.OddXIdeal.τ).loc Cert.OddXIdeal.main_arg0)
      ∧ m' ((c.tc : Thread Cert.OddXRefIdeal.nD Cert.OddXRefIdeal.τ).loc Cert.OddXRefIdeal.main_arg1) = m ((c.tc : Thread Cert.OddXIdeal.nD Cert.OddXIdeal.τ).loc Cert.OddXIdeal.main_arg1)) →
    ∃ (v0 : (c : Dev Cert.OddXIdeal.nD) → Buf (Elt Ideal) ((c.tc : Thread Cert.OddXIdeal.nD Cert.OddXIdeal.τ).loc Cert.OddXIdeal.main_v0)),
      θ_run (Cert.OddXIdeal.defs (F := Ideal)) (onTc (τ := Cert.OddXIdeal.τ) (Cert.OddXIdeal.main (F := Ideal))) ⟨m, fun _ => 0, g⟩ (fun r => ∀ c : Dev Cert.OddXIdeal.nD,
          r.2.mem ((c.tc : Thread Cert.OddXIdeal.nD Cert.OddXIdeal.τ).loc Cert.OddXIdeal.main_v0) = v0 c
          ∧ r.2.mem ((c.tc : Thread Cert.OddXIdeal.nD Cert.OddXIdeal.τ).loc Cert.OddXIdeal.main_arg0) = m ((c.tc : Thread Cert.OddXIdeal.nD Cert.OddXIdeal.τ).loc Cert.OddXIdeal.main_arg0)
          ∧ r.2.mem ((c.tc : Thread Cert.OddXIdeal.nD Cert.OddXIdeal.τ).loc Cert.OddXIdeal.main_arg1) = m ((c.tc : Thread Cert.OddXIdeal.nD Cert.OddXIdeal.τ).loc Cert.OddXIdeal.main_arg1))
      ∧ θ_run (Cert.OddXRefIdeal.defs (F := Ideal)) (onTc (τ := Cert.OddXRefIdeal.τ) (Cert.OddXRefIdeal.main (F := Ideal))) ⟨m', fun _ => 0, g'⟩ (fun r => ∀ c : Dev Cert.OddXRefIdeal.nD,
          r.2.mem ((c.tc : Thread Cert.OddXRefIdeal.nD Cert.OddXRefIdeal.τ).loc Cert.OddXRefIdeal.main_v2) = v0 c
          ∧ r.2.mem ((c.tc : Thread Cert.OddXRefIdeal.nD Cert.OddXRefIdeal.τ).loc Cert.OddXRefIdeal.main_arg0) = m' ((c.tc : Thread Cert.OddXRefIdeal.nD Cert.OddXRefIdeal.τ).loc Cert.OddXRefIdeal.main_arg0)
          ∧ r.2.mem ((c.tc : Thread Cert.OddXRefIdeal.nD Cert.OddXRefIdeal.τ).loc Cert.OddXRefIdeal.main_arg1) = m' ((c.tc : Thread Cert.OddXRefIdeal.nD Cert.OddXRefIdeal.τ).loc Cert.OddXRefIdeal.main_arg1))

def preserves_OddZ_OddZIdeal : Prop :=
  True

def algebraic_OddZIdeal_OddZRefIdeal [hOddZIdeal : Cert.OddZIdeal.Facts] [hOddZRefIdeal : Cert.OddZRefIdeal.Facts] : Prop :=
  ∀ (m : (ℓ : Loc Cert.OddZIdeal.nD Cert.OddZIdeal.τ Cert.OddZIdeal.sig) → Buf (Elt Ideal) ℓ) (g : Dev Cert.OddZIdeal.nD → PrngReg)
    (m' : (ℓ : Loc Cert.OddZRefIdeal.nD Cert.OddZRefIdeal.τ Cert.OddZRefIdeal.sig) → Buf (Elt Ideal) ℓ) (g' : Dev Cert.OddZRefIdeal.nD → PrngReg), Pre_OddZIdeal m →
    (∀ c : Dev Cert.OddZIdeal.nD,
      m' ((c.tc : Thread Cert.OddZRefIdeal.nD Cert.OddZRefIdeal.τ).loc Cert.OddZRefIdeal.main_arg0) = m ((c.tc : Thread Cert.OddZIdeal.nD Cert.OddZIdeal.τ).loc Cert.OddZIdeal.main_arg0)
      ∧ m' ((c.tc : Thread Cert.OddZRefIdeal.nD Cert.OddZRefIdeal.τ).loc Cert.OddZRefIdeal.main_arg1) = m ((c.tc : Thread Cert.OddZIdeal.nD Cert.OddZIdeal.τ).loc Cert.OddZIdeal.main_arg1)) →
    ∃ (v0 : (c : Dev Cert.OddZIdeal.nD) → Buf (Elt Ideal) ((c.tc : Thread Cert.OddZIdeal.nD Cert.OddZIdeal.τ).loc Cert.OddZIdeal.main_v0)),
      θ_run (Cert.OddZIdeal.defs (F := Ideal)) (onTc (τ := Cert.OddZIdeal.τ) (Cert.OddZIdeal.main (F := Ideal))) ⟨m, fun _ => 0, g⟩ (fun r => ∀ c : Dev Cert.OddZIdeal.nD,
          r.2.mem ((c.tc : Thread Cert.OddZIdeal.nD Cert.OddZIdeal.τ).loc Cert.OddZIdeal.main_v0) = v0 c
          ∧ r.2.mem ((c.tc : Thread Cert.OddZIdeal.nD Cert.OddZIdeal.τ).loc Cert.OddZIdeal.main_arg0) = m ((c.tc : Thread Cert.OddZIdeal.nD Cert.OddZIdeal.τ).loc Cert.OddZIdeal.main_arg0)
          ∧ r.2.mem ((c.tc : Thread Cert.OddZIdeal.nD Cert.OddZIdeal.τ).loc Cert.OddZIdeal.main_arg1) = m ((c.tc : Thread Cert.OddZIdeal.nD Cert.OddZIdeal.τ).loc Cert.OddZIdeal.main_arg1))
      ∧ θ_run (Cert.OddZRefIdeal.defs (F := Ideal)) (onTc (τ := Cert.OddZRefIdeal.τ) (Cert.OddZRefIdeal.main (F := Ideal))) ⟨m', fun _ => 0, g'⟩ (fun r => ∀ c : Dev Cert.OddZRefIdeal.nD,
          r.2.mem ((c.tc : Thread Cert.OddZRefIdeal.nD Cert.OddZRefIdeal.τ).loc Cert.OddZRefIdeal.main_v2) = v0 c
          ∧ r.2.mem ((c.tc : Thread Cert.OddZRefIdeal.nD Cert.OddZRefIdeal.τ).loc Cert.OddZRefIdeal.main_arg0) = m' ((c.tc : Thread Cert.OddZRefIdeal.nD Cert.OddZRefIdeal.τ).loc Cert.OddZRefIdeal.main_arg0)
          ∧ r.2.mem ((c.tc : Thread Cert.OddZRefIdeal.nD Cert.OddZRefIdeal.τ).loc Cert.OddZRefIdeal.main_arg1) = m' ((c.tc : Thread Cert.OddZRefIdeal.nD Cert.OddZRefIdeal.τ).loc Cert.OddZRefIdeal.main_arg1))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)) →
    ∃ (v0 : (c : Dev Cert.OddOutIdeal.nD) → Buf (Elt Ideal) ((c.tc : Thread Cert.OddOutIdeal.nD Cert.OddOutIdeal.τ).loc Cert.OddOutIdeal.main_v0)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v0) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v2) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1))

def preserves_EvenConv_EvenConvIdeal : Prop :=
  True

def algebraic_EvenConvIdeal_EvenConvRefIdeal [hEvenConvIdeal : Cert.EvenConvIdeal.Facts] [hEvenConvRefIdeal : Cert.EvenConvRefIdeal.Facts] : Prop :=
  ∀ (m : (ℓ : Loc Cert.EvenConvIdeal.nD Cert.EvenConvIdeal.τ Cert.EvenConvIdeal.sig) → Buf (Elt Ideal) ℓ) (g : Dev Cert.EvenConvIdeal.nD → PrngReg)
    (m' : (ℓ : Loc Cert.EvenConvRefIdeal.nD Cert.EvenConvRefIdeal.τ Cert.EvenConvRefIdeal.sig) → Buf (Elt Ideal) ℓ) (g' : Dev Cert.EvenConvRefIdeal.nD → PrngReg), Pre_EvenConvIdeal m →
    (∀ c : Dev Cert.EvenConvIdeal.nD,
      m' ((c.tc : Thread Cert.EvenConvRefIdeal.nD Cert.EvenConvRefIdeal.τ).loc Cert.EvenConvRefIdeal.main_arg0) = m ((c.tc : Thread Cert.EvenConvIdeal.nD Cert.EvenConvIdeal.τ).loc Cert.EvenConvIdeal.main_arg0)
      ∧ m' ((c.tc : Thread Cert.EvenConvRefIdeal.nD Cert.EvenConvRefIdeal.τ).loc Cert.EvenConvRefIdeal.main_arg1) = m ((c.tc : Thread Cert.EvenConvIdeal.nD Cert.EvenConvIdeal.τ).loc Cert.EvenConvIdeal.main_arg1)) →
    ∃ (v0 : (c : Dev Cert.EvenConvIdeal.nD) → Buf (Elt Ideal) ((c.tc : Thread Cert.EvenConvIdeal.nD Cert.EvenConvIdeal.τ).loc Cert.EvenConvIdeal.main_v0)),
      θ_run (Cert.EvenConvIdeal.defs (F := Ideal)) (onTc (τ := Cert.EvenConvIdeal.τ) (Cert.EvenConvIdeal.main (F := Ideal))) ⟨m, fun _ => 0, g⟩ (fun r => ∀ c : Dev Cert.EvenConvIdeal.nD,
          r.2.mem ((c.tc : Thread Cert.EvenConvIdeal.nD Cert.EvenConvIdeal.τ).loc Cert.EvenConvIdeal.main_v0) = v0 c
          ∧ r.2.mem ((c.tc : Thread Cert.EvenConvIdeal.nD Cert.EvenConvIdeal.τ).loc Cert.EvenConvIdeal.main_arg0) = m ((c.tc : Thread Cert.EvenConvIdeal.nD Cert.EvenConvIdeal.τ).loc Cert.EvenConvIdeal.main_arg0)
          ∧ r.2.mem ((c.tc : Thread Cert.EvenConvIdeal.nD Cert.EvenConvIdeal.τ).loc Cert.EvenConvIdeal.main_arg1) = m ((c.tc : Thread Cert.EvenConvIdeal.nD Cert.EvenConvIdeal.τ).loc Cert.EvenConvIdeal.main_arg1))
      ∧ θ_run (Cert.EvenConvRefIdeal.defs (F := Ideal)) (onTc (τ := Cert.EvenConvRefIdeal.τ) (Cert.EvenConvRefIdeal.main (F := Ideal))) ⟨m', fun _ => 0, g'⟩ (fun r => ∀ c : Dev Cert.EvenConvRefIdeal.nD,
          r.2.mem ((c.tc : Thread Cert.EvenConvRefIdeal.nD Cert.EvenConvRefIdeal.τ).loc Cert.EvenConvRefIdeal.main_v2) = v0 c
          ∧ r.2.mem ((c.tc : Thread Cert.EvenConvRefIdeal.nD Cert.EvenConvRefIdeal.τ).loc Cert.EvenConvRefIdeal.main_arg0) = m' ((c.tc : Thread Cert.EvenConvRefIdeal.nD Cert.EvenConvRefIdeal.τ).loc Cert.EvenConvRefIdeal.main_arg0)
          ∧ r.2.mem ((c.tc : Thread Cert.EvenConvRefIdeal.nD Cert.EvenConvRefIdeal.τ).loc Cert.EvenConvRefIdeal.main_arg1) = m' ((c.tc : Thread Cert.EvenConvRefIdeal.nD Cert.EvenConvRefIdeal.τ).loc Cert.EvenConvRefIdeal.main_arg1))

def preserves_EvenQkv_EvenQkvIdeal : Prop :=
  True

def algebraic_EvenQkvIdeal_EvenQkvRefIdeal [hEvenQkvIdeal : Cert.EvenQkvIdeal.Facts] [hEvenQkvRefIdeal : Cert.EvenQkvRefIdeal.Facts] : Prop :=
  ∀ (m : (ℓ : Loc Cert.EvenQkvIdeal.nD Cert.EvenQkvIdeal.τ Cert.EvenQkvIdeal.sig) → Buf (Elt Ideal) ℓ) (g : Dev Cert.EvenQkvIdeal.nD → PrngReg)
    (m' : (ℓ : Loc Cert.EvenQkvRefIdeal.nD Cert.EvenQkvRefIdeal.τ Cert.EvenQkvRefIdeal.sig) → Buf (Elt Ideal) ℓ) (g' : Dev Cert.EvenQkvRefIdeal.nD → PrngReg), Pre_EvenQkvIdeal m →
    (∀ c : Dev Cert.EvenQkvIdeal.nD,
      m' ((c.tc : Thread Cert.EvenQkvRefIdeal.nD Cert.EvenQkvRefIdeal.τ).loc Cert.EvenQkvRefIdeal.main_arg0) = m ((c.tc : Thread Cert.EvenQkvIdeal.nD Cert.EvenQkvIdeal.τ).loc Cert.EvenQkvIdeal.main_arg0)
      ∧ m' ((c.tc : Thread Cert.EvenQkvRefIdeal.nD Cert.EvenQkvRefIdeal.τ).loc Cert.EvenQkvRefIdeal.main_arg1) = m ((c.tc : Thread Cert.EvenQkvIdeal.nD Cert.EvenQkvIdeal.τ).loc Cert.EvenQkvIdeal.main_arg1)) →
    ∃ (v0 : (c : Dev Cert.EvenQkvIdeal.nD) → Buf (Elt Ideal) ((c.tc : Thread Cert.EvenQkvIdeal.nD Cert.EvenQkvIdeal.τ).loc Cert.EvenQkvIdeal.main_v0)),
      θ_run (Cert.EvenQkvIdeal.defs (F := Ideal)) (onTc (τ := Cert.EvenQkvIdeal.τ) (Cert.EvenQkvIdeal.main (F := Ideal))) ⟨m, fun _ => 0, g⟩ (fun r => ∀ c : Dev Cert.EvenQkvIdeal.nD,
          r.2.mem ((c.tc : Thread Cert.EvenQkvIdeal.nD Cert.EvenQkvIdeal.τ).loc Cert.EvenQkvIdeal.main_v0) = v0 c
          ∧ r.2.mem ((c.tc : Thread Cert.EvenQkvIdeal.nD Cert.EvenQkvIdeal.τ).loc Cert.EvenQkvIdeal.main_arg0) = m ((c.tc : Thread Cert.EvenQkvIdeal.nD Cert.EvenQkvIdeal.τ).loc Cert.EvenQkvIdeal.main_arg0)
          ∧ r.2.mem ((c.tc : Thread Cert.EvenQkvIdeal.nD Cert.EvenQkvIdeal.τ).loc Cert.EvenQkvIdeal.main_arg1) = m ((c.tc : Thread Cert.EvenQkvIdeal.nD Cert.EvenQkvIdeal.τ).loc Cert.EvenQkvIdeal.main_arg1))
      ∧ θ_run (Cert.EvenQkvRefIdeal.defs (F := Ideal)) (onTc (τ := Cert.EvenQkvRefIdeal.τ) (Cert.EvenQkvRefIdeal.main (F := Ideal))) ⟨m', fun _ => 0, g'⟩ (fun r => ∀ c : Dev Cert.EvenQkvRefIdeal.nD,
          r.2.mem ((c.tc : Thread Cert.EvenQkvRefIdeal.nD Cert.EvenQkvRefIdeal.τ).loc Cert.EvenQkvRefIdeal.main_v3) = v0 c
          ∧ r.2.mem ((c.tc : Thread Cert.EvenQkvRefIdeal.nD Cert.EvenQkvRefIdeal.τ).loc Cert.EvenQkvRefIdeal.main_arg0) = m' ((c.tc : Thread Cert.EvenQkvRefIdeal.nD Cert.EvenQkvRefIdeal.τ).loc Cert.EvenQkvRefIdeal.main_arg0)
          ∧ r.2.mem ((c.tc : Thread Cert.EvenQkvRefIdeal.nD Cert.EvenQkvRefIdeal.τ).loc Cert.EvenQkvRefIdeal.main_arg1) = m' ((c.tc : Thread Cert.EvenQkvRefIdeal.nD Cert.EvenQkvRefIdeal.τ).loc Cert.EvenQkvRefIdeal.main_arg1))

def preserves_PleGate_PleGateIdeal : Prop :=
  True

def algebraic_PleGateIdeal_PleGateRefIdeal [hPleGateIdeal : Cert.PleGateIdeal.Facts] [hPleGateRefIdeal : Cert.PleGateRefIdeal.Facts] : Prop :=
  ∀ (m : (ℓ : Loc Cert.PleGateIdeal.nD Cert.PleGateIdeal.τ Cert.PleGateIdeal.sig) → Buf (Elt Ideal) ℓ) (g : Dev Cert.PleGateIdeal.nD → PrngReg)
    (m' : (ℓ : Loc Cert.PleGateRefIdeal.nD Cert.PleGateRefIdeal.τ Cert.PleGateRefIdeal.sig) → Buf (Elt Ideal) ℓ) (g' : Dev Cert.PleGateRefIdeal.nD → PrngReg), Pre_PleGateIdeal m →
    (∀ c : Dev Cert.PleGateIdeal.nD,
      m' ((c.tc : Thread Cert.PleGateRefIdeal.nD Cert.PleGateRefIdeal.τ).loc Cert.PleGateRefIdeal.main_arg0) = m ((c.tc : Thread Cert.PleGateIdeal.nD Cert.PleGateIdeal.τ).loc Cert.PleGateIdeal.main_arg0)
      ∧ m' ((c.tc : Thread Cert.PleGateRefIdeal.nD Cert.PleGateRefIdeal.τ).loc Cert.PleGateRefIdeal.main_arg1) = m ((c.tc : Thread Cert.PleGateIdeal.nD Cert.PleGateIdeal.τ).loc Cert.PleGateIdeal.main_arg1)) →
    ∃ (v0 : (c : Dev Cert.PleGateIdeal.nD) → Buf (Elt Ideal) ((c.tc : Thread Cert.PleGateIdeal.nD Cert.PleGateIdeal.τ).loc Cert.PleGateIdeal.main_v0)),
      θ_run (Cert.PleGateIdeal.defs (F := Ideal)) (onTc (τ := Cert.PleGateIdeal.τ) (Cert.PleGateIdeal.main (F := Ideal))) ⟨m, fun _ => 0, g⟩ (fun r => ∀ c : Dev Cert.PleGateIdeal.nD,
          r.2.mem ((c.tc : Thread Cert.PleGateIdeal.nD Cert.PleGateIdeal.τ).loc Cert.PleGateIdeal.main_v0) = v0 c
          ∧ r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
          ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1))
      ∧ θ_run (Cert.PleGateRefIdeal.defs (F := Ideal)) (onTc (τ := Cert.PleGateRefIdeal.τ) (Cert.PleGateRefIdeal.main (F := Ideal))) ⟨m', fun _ => 0, g'⟩ (fun r => ∀ c : Dev Cert.PleGateRefIdeal.nD,
          r.2.mem ((c.tc : Thread Cert.PleGateRefIdeal.nD Cert.PleGateRefIdeal.τ).loc Cert.PleGateRefIdeal.main_v2) = v0 c
          ∧ r.2.mem ((c.tc : Thread Cert.PleGateRefIdeal.nD Cert.PleGateRefIdeal.τ).loc Cert.PleGateRefIdeal.main_arg0) = m' ((c.tc : Thread Cert.PleGateRefIdeal.nD Cert.PleGateRefIdeal.τ).loc Cert.PleGateRefIdeal.main_arg0)
          ∧ r.2.mem ((c.tc : Thread Cert.PleGateRefIdeal.nD Cert.PleGateRefIdeal.τ).loc Cert.PleGateRefIdeal.main_arg1) = m' ((c.tc : Thread Cert.PleGateRefIdeal.nD Cert.PleGateRefIdeal.τ).loc Cert.PleGateRefIdeal.main_arg1))

def preserves_PleProj_PleProjIdeal : Prop :=
  True

def algebraic_PleProjIdeal_PleProjRefIdeal [hPleProjIdeal : Cert.PleProjIdeal.Facts] [hPleProjRefIdeal : Cert.PleProjRefIdeal.Facts] : Prop :=
  ∀ (m : (ℓ : Loc Cert.PleProjIdeal.nD Cert.PleProjIdeal.τ Cert.PleProjIdeal.sig) → Buf (Elt Ideal) ℓ) (g : Dev Cert.PleProjIdeal.nD → PrngReg)
    (m' : (ℓ : Loc Cert.PleProjRefIdeal.nD Cert.PleProjRefIdeal.τ Cert.PleProjRefIdeal.sig) → Buf (Elt Ideal) ℓ) (g' : Dev Cert.PleProjRefIdeal.nD → PrngReg), Pre_PleProjIdeal m →
    (∀ c : Dev Cert.PleProjIdeal.nD,
      m' ((c.tc : Thread Cert.PleProjRefIdeal.nD Cert.PleProjRefIdeal.τ).loc Cert.PleProjRefIdeal.main_arg0) = m ((c.tc : Thread Cert.PleProjIdeal.nD Cert.PleProjIdeal.τ).loc Cert.PleProjIdeal.main_arg0)
      ∧ m' ((c.tc : Thread Cert.PleProjRefIdeal.nD Cert.PleProjRefIdeal.τ).loc Cert.PleProjRefIdeal.main_arg1) = m ((c.tc : Thread Cert.PleProjIdeal.nD Cert.PleProjIdeal.τ).loc Cert.PleProjIdeal.main_arg1)) →
    ∃ (v0 : (c : Dev Cert.PleProjIdeal.nD) → Buf (Elt Ideal) ((c.tc : Thread Cert.PleProjIdeal.nD Cert.PleProjIdeal.τ).loc Cert.PleProjIdeal.main_v0)),
      θ_run (Cert.PleProjIdeal.defs (F := Ideal)) (onTc (τ := Cert.PleProjIdeal.τ) (Cert.PleProjIdeal.main (F := Ideal))) ⟨m, fun _ => 0, g⟩ (fun r => ∀ c : Dev Cert.PleProjIdeal.nD,
          r.2.mem ((c.tc : Thread Cert.PleProjIdeal.nD Cert.PleProjIdeal.τ).loc Cert.PleProjIdeal.main_v0) = v0 c
          ∧ r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
          ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ θ_run (Cert.PleProjRefIdeal.defs (F := Ideal)) (onTc (τ := Cert.PleProjRefIdeal.τ) (Cert.PleProjRefIdeal.main (F := Ideal))) ⟨m', fun _ => 0, g'⟩ (fun r => ∀ c : Dev Cert.PleProjRefIdeal.nD,
          r.2.mem ((c.tc : Thread Cert.PleProjRefIdeal.nD Cert.PleProjRefIdeal.τ).loc Cert.PleProjRefIdeal.main_v2) = v0 c
          ∧ r.2.mem ((c.tc : Thread Cert.PleProjRefIdeal.nD Cert.PleProjRefIdeal.τ).loc Cert.PleProjRefIdeal.main_arg0) = m' ((c.tc : Thread Cert.PleProjRefIdeal.nD Cert.PleProjRefIdeal.τ).loc Cert.PleProjRefIdeal.main_arg0)
          ∧ r.2.mem ((c.tc : Thread Cert.PleProjRefIdeal.nD Cert.PleProjRefIdeal.τ).loc Cert.PleProjRefIdeal.main_arg1) = m' ((c.tc : Thread Cert.PleProjRefIdeal.nD Cert.PleProjRefIdeal.τ).loc Cert.PleProjRefIdeal.main_arg1))

def preserves_AdamEvenIn_AdamEvenInIdeal : Prop :=
  IdealRules.named_const.Statement Cert.AdamEvenInIdeal.κ "c1" .f32 0x3FC48605#32 (((5463681 / 8388608)⁻¹ : ℝ) : EReal)
  ∧ IdealRules.named_const.Statement Cert.AdamEvenInIdeal.κ "c2" .f32 0x42C8E6D3#32 (((2672307 / 268435456)⁻¹ : ℝ) : EReal)

def algebraic_AdamEvenInIdeal_AdamEvenInRefIdeal [hAdamEvenInIdeal : Cert.AdamEvenInIdeal.Facts] [hAdamEvenInRefIdeal : Cert.AdamEvenInRefIdeal.Facts] : Prop :=
  ∀ (m : (ℓ : Loc Cert.AdamEvenInIdeal.nD Cert.AdamEvenInIdeal.τ Cert.AdamEvenInIdeal.sig) → Buf (Elt Ideal) ℓ) (g : Dev Cert.AdamEvenInIdeal.nD → PrngReg)
    (m' : (ℓ : Loc Cert.AdamEvenInRefIdeal.nD Cert.AdamEvenInRefIdeal.τ Cert.AdamEvenInRefIdeal.sig) → Buf (Elt Ideal) ℓ) (g' : Dev Cert.AdamEvenInRefIdeal.nD → PrngReg), Pre_AdamEvenInIdeal m →
    (∀ c : Dev Cert.AdamEvenInIdeal.nD,
      m' ((c.tc : Thread Cert.AdamEvenInRefIdeal.nD Cert.AdamEvenInRefIdeal.τ).loc Cert.AdamEvenInRefIdeal.main_arg0) = m ((c.tc : Thread Cert.AdamEvenInIdeal.nD Cert.AdamEvenInIdeal.τ).loc Cert.AdamEvenInIdeal.main_arg0)
      ∧ m' ((c.tc : Thread Cert.AdamEvenInRefIdeal.nD Cert.AdamEvenInRefIdeal.τ).loc Cert.AdamEvenInRefIdeal.main_arg1) = m ((c.tc : Thread Cert.AdamEvenInIdeal.nD Cert.AdamEvenInIdeal.τ).loc Cert.AdamEvenInIdeal.main_arg1)
      ∧ m' ((c.tc : Thread Cert.AdamEvenInRefIdeal.nD Cert.AdamEvenInRefIdeal.τ).loc Cert.AdamEvenInRefIdeal.main_arg2) = m ((c.tc : Thread Cert.AdamEvenInIdeal.nD Cert.AdamEvenInIdeal.τ).loc Cert.AdamEvenInIdeal.main_arg2)
      ∧ m' ((c.tc : Thread Cert.AdamEvenInRefIdeal.nD Cert.AdamEvenInRefIdeal.τ).loc Cert.AdamEvenInRefIdeal.main_arg3) = m ((c.tc : Thread Cert.AdamEvenInIdeal.nD Cert.AdamEvenInIdeal.τ).loc Cert.AdamEvenInIdeal.main_arg3)) →
    ∃ (v0 : (c : Dev Cert.AdamEvenInIdeal.nD) → Buf (Elt Ideal) ((c.tc : Thread Cert.AdamEvenInIdeal.nD Cert.AdamEvenInIdeal.τ).loc Cert.AdamEvenInIdeal.main_v0_0)) (v1 : (c : Dev Cert.AdamEvenInIdeal.nD) → Buf (Elt Ideal) ((c.tc : Thread Cert.AdamEvenInIdeal.nD Cert.AdamEvenInIdeal.τ).loc Cert.AdamEvenInIdeal.main_v0_1)) (v2 : (c : Dev Cert.AdamEvenInIdeal.nD) → Buf (Elt Ideal) ((c.tc : Thread Cert.AdamEvenInIdeal.nD Cert.AdamEvenInIdeal.τ).loc Cert.AdamEvenInIdeal.main_v0_2)),
      θ_run (Cert.AdamEvenInIdeal.defs (F := Ideal)) (onTc (τ := Cert.AdamEvenInIdeal.τ) (Cert.AdamEvenInIdeal.main (F := Ideal))) ⟨m, fun _ => 0, g⟩ (fun r => ∀ c : Dev Cert.AdamEvenInIdeal.nD,
          r.2.mem ((c.tc : Thread Cert.AdamEvenInIdeal.nD Cert.AdamEvenInIdeal.τ).loc Cert.AdamEvenInIdeal.main_v0_0) = v0 c
          ∧ r.2.mem ((c.tc : Thread Cert.AdamEvenInIdeal.nD Cert.AdamEvenInIdeal.τ).loc Cert.AdamEvenInIdeal.main_v0_1) = v1 c
          ∧ r.2.mem ((c.tc : Thread Cert.AdamEvenInIdeal.nD Cert.AdamEvenInIdeal.τ).loc Cert.AdamEvenInIdeal.main_v0_2) = v2 c
          ∧ r.2.mem ((c.tc : Thread Cert.AdamEvenInIdeal.nD Cert.AdamEvenInIdeal.τ).loc Cert.AdamEvenInIdeal.main_arg0) = m ((c.tc : Thread Cert.AdamEvenInIdeal.nD Cert.AdamEvenInIdeal.τ).loc Cert.AdamEvenInIdeal.main_arg0)
          ∧ r.2.mem ((c.tc : Thread Cert.AdamEvenInIdeal.nD Cert.AdamEvenInIdeal.τ).loc Cert.AdamEvenInIdeal.main_arg1) = m ((c.tc : Thread Cert.AdamEvenInIdeal.nD Cert.AdamEvenInIdeal.τ).loc Cert.AdamEvenInIdeal.main_arg1)
          ∧ r.2.mem ((c.tc : Thread Cert.AdamEvenInIdeal.nD Cert.AdamEvenInIdeal.τ).loc Cert.AdamEvenInIdeal.main_arg2) = m ((c.tc : Thread Cert.AdamEvenInIdeal.nD Cert.AdamEvenInIdeal.τ).loc Cert.AdamEvenInIdeal.main_arg2)
          ∧ r.2.mem ((c.tc : Thread Cert.AdamEvenInIdeal.nD Cert.AdamEvenInIdeal.τ).loc Cert.AdamEvenInIdeal.main_arg3) = m ((c.tc : Thread Cert.AdamEvenInIdeal.nD Cert.AdamEvenInIdeal.τ).loc Cert.AdamEvenInIdeal.main_arg3))
      ∧ θ_run (Cert.AdamEvenInRefIdeal.defs (F := Ideal)) (onTc (τ := Cert.AdamEvenInRefIdeal.τ) (Cert.AdamEvenInRefIdeal.main (F := Ideal))) ⟨m', fun _ => 0, g'⟩ (fun r => ∀ c : Dev Cert.AdamEvenInRefIdeal.nD,
          r.2.mem ((c.tc : Thread Cert.AdamEvenInRefIdeal.nD Cert.AdamEvenInRefIdeal.τ).loc Cert.AdamEvenInRefIdeal.main_v23) = v0 c
          ∧ r.2.mem ((c.tc : Thread Cert.AdamEvenInRefIdeal.nD Cert.AdamEvenInRefIdeal.τ).loc Cert.AdamEvenInRefIdeal.main_v4) = v1 c
          ∧ r.2.mem ((c.tc : Thread Cert.AdamEvenInRefIdeal.nD Cert.AdamEvenInRefIdeal.τ).loc Cert.AdamEvenInRefIdeal.main_v10) = v2 c
          ∧ r.2.mem ((c.tc : Thread Cert.AdamEvenInRefIdeal.nD Cert.AdamEvenInRefIdeal.τ).loc Cert.AdamEvenInRefIdeal.main_arg0) = m' ((c.tc : Thread Cert.AdamEvenInRefIdeal.nD Cert.AdamEvenInRefIdeal.τ).loc Cert.AdamEvenInRefIdeal.main_arg0)
          ∧ r.2.mem ((c.tc : Thread Cert.AdamEvenInRefIdeal.nD Cert.AdamEvenInRefIdeal.τ).loc Cert.AdamEvenInRefIdeal.main_arg1) = m' ((c.tc : Thread Cert.AdamEvenInRefIdeal.nD Cert.AdamEvenInRefIdeal.τ).loc Cert.AdamEvenInRefIdeal.main_arg1)
          ∧ r.2.mem ((c.tc : Thread Cert.AdamEvenInRefIdeal.nD Cert.AdamEvenInRefIdeal.τ).loc Cert.AdamEvenInRefIdeal.main_arg2) = m' ((c.tc : Thread Cert.AdamEvenInRefIdeal.nD Cert.AdamEvenInRefIdeal.τ).loc Cert.AdamEvenInRefIdeal.main_arg2)
          ∧ r.2.mem ((c.tc : Thread Cert.AdamEvenInRefIdeal.nD Cert.AdamEvenInRefIdeal.τ).loc Cert.AdamEvenInRefIdeal.main_arg3) = m' ((c.tc : Thread Cert.AdamEvenInRefIdeal.nD Cert.AdamEvenInRefIdeal.τ).loc Cert.AdamEvenInRefIdeal.main_arg3))

def preserves_AdamEvenOut_AdamEvenOutIdeal : Prop :=
  IdealRules.named_const.Statement Cert.AdamEvenOutIdeal.κ "c1" .f32 0x3FC48605#32 (((5463681 / 8388608)⁻¹ : ℝ) : EReal)
  ∧ IdealRules.named_const.Statement Cert.AdamEvenOutIdeal.κ "c2" .f32 0x42C8E6D3#32 (((2672307 / 268435456)⁻¹ : ℝ) : EReal)

def algebraic_AdamEvenOutIdeal_AdamEvenOutRefIdeal [hAdamEvenOutIdeal : Cert.AdamEvenOutIdeal.Facts] [hAdamEvenOutRefIdeal : Cert.AdamEvenOutRefIdeal.Facts] : Prop :=
  ∀ (m : (ℓ : Loc Cert.AdamEvenOutIdeal.nD Cert.AdamEvenOutIdeal.τ Cert.AdamEvenOutIdeal.sig) → Buf (Elt Ideal) ℓ) (g : Dev Cert.AdamEvenOutIdeal.nD → PrngReg)
    (m' : (ℓ : Loc Cert.AdamEvenOutRefIdeal.nD Cert.AdamEvenOutRefIdeal.τ Cert.AdamEvenOutRefIdeal.sig) → Buf (Elt Ideal) ℓ) (g' : Dev Cert.AdamEvenOutRefIdeal.nD → PrngReg), Pre_AdamEvenOutIdeal m →
    (∀ c : Dev Cert.AdamEvenOutIdeal.nD,
      m' ((c.tc : Thread Cert.AdamEvenOutRefIdeal.nD Cert.AdamEvenOutRefIdeal.τ).loc Cert.AdamEvenOutRefIdeal.main_arg0) = m ((c.tc : Thread Cert.AdamEvenOutIdeal.nD Cert.AdamEvenOutIdeal.τ).loc Cert.AdamEvenOutIdeal.main_arg0)
      ∧ m' ((c.tc : Thread Cert.AdamEvenOutRefIdeal.nD Cert.AdamEvenOutRefIdeal.τ).loc Cert.AdamEvenOutRefIdeal.main_arg1) = m ((c.tc : Thread Cert.AdamEvenOutIdeal.nD Cert.AdamEvenOutIdeal.τ).loc Cert.AdamEvenOutIdeal.main_arg1)
      ∧ m' ((c.tc : Thread Cert.AdamEvenOutRefIdeal.nD Cert.AdamEvenOutRefIdeal.τ).loc Cert.AdamEvenOutRefIdeal.main_arg2) = m ((c.tc : Thread Cert.AdamEvenOutIdeal.nD Cert.AdamEvenOutIdeal.τ).loc Cert.AdamEvenOutIdeal.main_arg2)
      ∧ m' ((c.tc : Thread Cert.AdamEvenOutRefIdeal.nD Cert.AdamEvenOutRefIdeal.τ).loc Cert.AdamEvenOutRefIdeal.main_arg3) = m ((c.tc : Thread Cert.AdamEvenOutIdeal.nD Cert.AdamEvenOutIdeal.τ).loc Cert.AdamEvenOutIdeal.main_arg3)) →
    ∃ (v0 : (c : Dev Cert.AdamEvenOutIdeal.nD) → Buf (Elt Ideal) ((c.tc : Thread Cert.AdamEvenOutIdeal.nD Cert.AdamEvenOutIdeal.τ).loc Cert.AdamEvenOutIdeal.main_v0_0)) (v1 : (c : Dev Cert.AdamEvenOutIdeal.nD) → Buf (Elt Ideal) ((c.tc : Thread Cert.AdamEvenOutIdeal.nD Cert.AdamEvenOutIdeal.τ).loc Cert.AdamEvenOutIdeal.main_v0_1)) (v2 : (c : Dev Cert.AdamEvenOutIdeal.nD) → Buf (Elt Ideal) ((c.tc : Thread Cert.AdamEvenOutIdeal.nD Cert.AdamEvenOutIdeal.τ).loc Cert.AdamEvenOutIdeal.main_v0_2)),
      θ_run (Cert.AdamEvenOutIdeal.defs (F := Ideal)) (onTc (τ := Cert.AdamEvenOutIdeal.τ) (Cert.AdamEvenOutIdeal.main (F := Ideal))) ⟨m, fun _ => 0, g⟩ (fun r => ∀ c : Dev Cert.AdamEvenOutIdeal.nD,
          r.2.mem ((c.tc : Thread Cert.AdamEvenOutIdeal.nD Cert.AdamEvenOutIdeal.τ).loc Cert.AdamEvenOutIdeal.main_v0_0) = v0 c
          ∧ r.2.mem ((c.tc : Thread Cert.AdamEvenOutIdeal.nD Cert.AdamEvenOutIdeal.τ).loc Cert.AdamEvenOutIdeal.main_v0_1) = v1 c
          ∧ r.2.mem ((c.tc : Thread Cert.AdamEvenOutIdeal.nD Cert.AdamEvenOutIdeal.τ).loc Cert.AdamEvenOutIdeal.main_v0_2) = v2 c
          ∧ r.2.mem ((c.tc : Thread Cert.AdamEvenOutIdeal.nD Cert.AdamEvenOutIdeal.τ).loc Cert.AdamEvenOutIdeal.main_arg0) = m ((c.tc : Thread Cert.AdamEvenOutIdeal.nD Cert.AdamEvenOutIdeal.τ).loc Cert.AdamEvenOutIdeal.main_arg0)
          ∧ r.2.mem ((c.tc : Thread Cert.AdamEvenOutIdeal.nD Cert.AdamEvenOutIdeal.τ).loc Cert.AdamEvenOutIdeal.main_arg1) = m ((c.tc : Thread Cert.AdamEvenOutIdeal.nD Cert.AdamEvenOutIdeal.τ).loc Cert.AdamEvenOutIdeal.main_arg1)
          ∧ r.2.mem ((c.tc : Thread Cert.AdamEvenOutIdeal.nD Cert.AdamEvenOutIdeal.τ).loc Cert.AdamEvenOutIdeal.main_arg2) = m ((c.tc : Thread Cert.AdamEvenOutIdeal.nD Cert.AdamEvenOutIdeal.τ).loc Cert.AdamEvenOutIdeal.main_arg2)
          ∧ r.2.mem ((c.tc : Thread Cert.AdamEvenOutIdeal.nD Cert.AdamEvenOutIdeal.τ).loc Cert.AdamEvenOutIdeal.main_arg3) = m ((c.tc : Thread Cert.AdamEvenOutIdeal.nD Cert.AdamEvenOutIdeal.τ).loc Cert.AdamEvenOutIdeal.main_arg3))
      ∧ θ_run (Cert.AdamEvenOutRefIdeal.defs (F := Ideal)) (onTc (τ := Cert.AdamEvenOutRefIdeal.τ) (Cert.AdamEvenOutRefIdeal.main (F := Ideal))) ⟨m', fun _ => 0, g'⟩ (fun r => ∀ c : Dev Cert.AdamEvenOutRefIdeal.nD,
          r.2.mem ((c.tc : Thread Cert.AdamEvenOutRefIdeal.nD Cert.AdamEvenOutRefIdeal.τ).loc Cert.AdamEvenOutRefIdeal.main_v23) = v0 c
          ∧ r.2.mem ((c.tc : Thread Cert.AdamEvenOutRefIdeal.nD Cert.AdamEvenOutRefIdeal.τ).loc Cert.AdamEvenOutRefIdeal.main_v4) = v1 c
          ∧ r.2.mem ((c.tc : Thread Cert.AdamEvenOutRefIdeal.nD Cert.AdamEvenOutRefIdeal.τ).loc Cert.AdamEvenOutRefIdeal.main_v10) = v2 c
          ∧ r.2.mem ((c.tc : Thread Cert.AdamEvenOutRefIdeal.nD Cert.AdamEvenOutRefIdeal.τ).loc Cert.AdamEvenOutRefIdeal.main_arg0) = m' ((c.tc : Thread Cert.AdamEvenOutRefIdeal.nD Cert.AdamEvenOutRefIdeal.τ).loc Cert.AdamEvenOutRefIdeal.main_arg0)
          ∧ r.2.mem ((c.tc : Thread Cert.AdamEvenOutRefIdeal.nD Cert.AdamEvenOutRefIdeal.τ).loc Cert.AdamEvenOutRefIdeal.main_arg1) = m' ((c.tc : Thread Cert.AdamEvenOutRefIdeal.nD Cert.AdamEvenOutRefIdeal.τ).loc Cert.AdamEvenOutRefIdeal.main_arg1)
          ∧ r.2.mem ((c.tc : Thread Cert.AdamEvenOutRefIdeal.nD Cert.AdamEvenOutRefIdeal.τ).loc Cert.AdamEvenOutRefIdeal.main_arg2) = m' ((c.tc : Thread Cert.AdamEvenOutRefIdeal.nD Cert.AdamEvenOutRefIdeal.τ).loc Cert.AdamEvenOutRefIdeal.main_arg2)
          ∧ r.2.mem ((c.tc : Thread Cert.AdamEvenOutRefIdeal.nD Cert.AdamEvenOutRefIdeal.τ).loc Cert.AdamEvenOutRefIdeal.main_arg3) = m' ((c.tc : Thread Cert.AdamEvenOutRefIdeal.nD Cert.AdamEvenOutRefIdeal.τ).loc Cert.AdamEvenOutRefIdeal.main_arg3))

def preserves_AdamOddIn_AdamOddInIdeal : Prop :=
  IdealRules.named_const.Statement Cert.AdamOddInIdeal.κ "c1" .f32 0x3FC48605#32 (((5463681 / 8388608)⁻¹ : ℝ) : EReal)
  ∧ IdealRules.named_const.Statement Cert.AdamOddInIdeal.κ "c2" .f32 0x42C8E6D3#32 (((2672307 / 268435456)⁻¹ : ℝ) : EReal)

def algebraic_AdamOddInIdeal_AdamOddInRefIdeal [hAdamOddInIdeal : Cert.AdamOddInIdeal.Facts] [hAdamOddInRefIdeal : Cert.AdamOddInRefIdeal.Facts] : Prop :=
  ∀ (m : (ℓ : Loc Cert.AdamOddInIdeal.nD Cert.AdamOddInIdeal.τ Cert.AdamOddInIdeal.sig) → Buf (Elt Ideal) ℓ) (g : Dev Cert.AdamOddInIdeal.nD → PrngReg)
    (m' : (ℓ : Loc Cert.AdamOddInRefIdeal.nD Cert.AdamOddInRefIdeal.τ Cert.AdamOddInRefIdeal.sig) → Buf (Elt Ideal) ℓ) (g' : Dev Cert.AdamOddInRefIdeal.nD → PrngReg), Pre_AdamOddInIdeal m →
    (∀ c : Dev Cert.AdamOddInIdeal.nD,
      m' ((c.tc : Thread Cert.AdamOddInRefIdeal.nD Cert.AdamOddInRefIdeal.τ).loc Cert.AdamOddInRefIdeal.main_arg0) = m ((c.tc : Thread Cert.AdamOddInIdeal.nD Cert.AdamOddInIdeal.τ).loc Cert.AdamOddInIdeal.main_arg0)
      ∧ m' ((c.tc : Thread Cert.AdamOddInRefIdeal.nD Cert.AdamOddInRefIdeal.τ).loc Cert.AdamOddInRefIdeal.main_arg1) = m ((c.tc : Thread Cert.AdamOddInIdeal.nD Cert.AdamOddInIdeal.τ).loc Cert.AdamOddInIdeal.main_arg1)
      ∧ m' ((c.tc : Thread Cert.AdamOddInRefIdeal.nD Cert.AdamOddInRefIdeal.τ).loc Cert.AdamOddInRefIdeal.main_arg2) = m ((c.tc : Thread Cert.AdamOddInIdeal.nD Cert.AdamOddInIdeal.τ).loc Cert.AdamOddInIdeal.main_arg2)
      ∧ m' ((c.tc : Thread Cert.AdamOddInRefIdeal.nD Cert.AdamOddInRefIdeal.τ).loc Cert.AdamOddInRefIdeal.main_arg3) = m ((c.tc : Thread Cert.AdamOddInIdeal.nD Cert.AdamOddInIdeal.τ).loc Cert.AdamOddInIdeal.main_arg3)) →
    ∃ (v0 : (c : Dev Cert.AdamOddInIdeal.nD) → Buf (Elt Ideal) ((c.tc : Thread Cert.AdamOddInIdeal.nD Cert.AdamOddInIdeal.τ).loc Cert.AdamOddInIdeal.main_v0_0)) (v1 : (c : Dev Cert.AdamOddInIdeal.nD) → Buf (Elt Ideal) ((c.tc : Thread Cert.AdamOddInIdeal.nD Cert.AdamOddInIdeal.τ).loc Cert.AdamOddInIdeal.main_v0_1)) (v2 : (c : Dev Cert.AdamOddInIdeal.nD) → Buf (Elt Ideal) ((c.tc : Thread Cert.AdamOddInIdeal.nD Cert.AdamOddInIdeal.τ).loc Cert.AdamOddInIdeal.main_v0_2)),
      θ_run (Cert.AdamOddInIdeal.defs (F := Ideal)) (onTc (τ := Cert.AdamOddInIdeal.τ) (Cert.AdamOddInIdeal.main (F := Ideal))) ⟨m, fun _ => 0, g⟩ (fun r => ∀ c : Dev Cert.AdamOddInIdeal.nD,
          r.2.mem ((c.tc : Thread Cert.AdamOddInIdeal.nD Cert.AdamOddInIdeal.τ).loc Cert.AdamOddInIdeal.main_v0_0) = v0 c
          ∧ r.2.mem ((c.tc : Thread Cert.AdamOddInIdeal.nD Cert.AdamOddInIdeal.τ).loc Cert.AdamOddInIdeal.main_v0_1) = v1 c
          ∧ r.2.mem ((c.tc : Thread Cert.AdamOddInIdeal.nD Cert.AdamOddInIdeal.τ).loc Cert.AdamOddInIdeal.main_v0_2) = v2 c
          ∧ r.2.mem ((c.tc : Thread Cert.AdamOddInIdeal.nD Cert.AdamOddInIdeal.τ).loc Cert.AdamOddInIdeal.main_arg0) = m ((c.tc : Thread Cert.AdamOddInIdeal.nD Cert.AdamOddInIdeal.τ).loc Cert.AdamOddInIdeal.main_arg0)
          ∧ r.2.mem ((c.tc : Thread Cert.AdamOddInIdeal.nD Cert.AdamOddInIdeal.τ).loc Cert.AdamOddInIdeal.main_arg1) = m ((c.tc : Thread Cert.AdamOddInIdeal.nD Cert.AdamOddInIdeal.τ).loc Cert.AdamOddInIdeal.main_arg1)
          ∧ r.2.mem ((c.tc : Thread Cert.AdamOddInIdeal.nD Cert.AdamOddInIdeal.τ).loc Cert.AdamOddInIdeal.main_arg2) = m ((c.tc : Thread Cert.AdamOddInIdeal.nD Cert.AdamOddInIdeal.τ).loc Cert.AdamOddInIdeal.main_arg2)
          ∧ r.2.mem ((c.tc : Thread Cert.AdamOddInIdeal.nD Cert.AdamOddInIdeal.τ).loc Cert.AdamOddInIdeal.main_arg3) = m ((c.tc : Thread Cert.AdamOddInIdeal.nD Cert.AdamOddInIdeal.τ).loc Cert.AdamOddInIdeal.main_arg3))
      ∧ θ_run (Cert.AdamOddInRefIdeal.defs (F := Ideal)) (onTc (τ := Cert.AdamOddInRefIdeal.τ) (Cert.AdamOddInRefIdeal.main (F := Ideal))) ⟨m', fun _ => 0, g'⟩ (fun r => ∀ c : Dev Cert.AdamOddInRefIdeal.nD,
          r.2.mem ((c.tc : Thread Cert.AdamOddInRefIdeal.nD Cert.AdamOddInRefIdeal.τ).loc Cert.AdamOddInRefIdeal.main_v23) = v0 c
          ∧ r.2.mem ((c.tc : Thread Cert.AdamOddInRefIdeal.nD Cert.AdamOddInRefIdeal.τ).loc Cert.AdamOddInRefIdeal.main_v4) = v1 c
          ∧ r.2.mem ((c.tc : Thread Cert.AdamOddInRefIdeal.nD Cert.AdamOddInRefIdeal.τ).loc Cert.AdamOddInRefIdeal.main_v10) = v2 c
          ∧ r.2.mem ((c.tc : Thread Cert.AdamOddInRefIdeal.nD Cert.AdamOddInRefIdeal.τ).loc Cert.AdamOddInRefIdeal.main_arg0) = m' ((c.tc : Thread Cert.AdamOddInRefIdeal.nD Cert.AdamOddInRefIdeal.τ).loc Cert.AdamOddInRefIdeal.main_arg0)
          ∧ r.2.mem ((c.tc : Thread Cert.AdamOddInRefIdeal.nD Cert.AdamOddInRefIdeal.τ).loc Cert.AdamOddInRefIdeal.main_arg1) = m' ((c.tc : Thread Cert.AdamOddInRefIdeal.nD Cert.AdamOddInRefIdeal.τ).loc Cert.AdamOddInRefIdeal.main_arg1)
          ∧ r.2.mem ((c.tc : Thread Cert.AdamOddInRefIdeal.nD Cert.AdamOddInRefIdeal.τ).loc Cert.AdamOddInRefIdeal.main_arg2) = m' ((c.tc : Thread Cert.AdamOddInRefIdeal.nD Cert.AdamOddInRefIdeal.τ).loc Cert.AdamOddInRefIdeal.main_arg2)
          ∧ r.2.mem ((c.tc : Thread Cert.AdamOddInRefIdeal.nD Cert.AdamOddInRefIdeal.τ).loc Cert.AdamOddInRefIdeal.main_arg3) = m' ((c.tc : Thread Cert.AdamOddInRefIdeal.nD Cert.AdamOddInRefIdeal.τ).loc Cert.AdamOddInRefIdeal.main_arg3))

def preserves_AdamOddOut_AdamOddOutIdeal : Prop :=
  IdealRules.named_const.Statement Cert.AdamOddOutIdeal.κ "c1" .f32 0x3FC48605#32 (((5463681 / 8388608)⁻¹ : ℝ) : EReal)
  ∧ IdealRules.named_const.Statement Cert.AdamOddOutIdeal.κ "c2" .f32 0x42C8E6D3#32 (((2672307 / 268435456)⁻¹ : ℝ) : EReal)

def algebraic_AdamOddOutIdeal_AdamOddOutRefIdeal [hAdamOddOutIdeal : Cert.AdamOddOutIdeal.Facts] [hAdamOddOutRefIdeal : Cert.AdamOddOutRefIdeal.Facts] : Prop :=
  ∀ (m : (ℓ : Loc Cert.AdamOddOutIdeal.nD Cert.AdamOddOutIdeal.τ Cert.AdamOddOutIdeal.sig) → Buf (Elt Ideal) ℓ) (g : Dev Cert.AdamOddOutIdeal.nD → PrngReg)
    (m' : (ℓ : Loc Cert.AdamOddOutRefIdeal.nD Cert.AdamOddOutRefIdeal.τ Cert.AdamOddOutRefIdeal.sig) → Buf (Elt Ideal) ℓ) (g' : Dev Cert.AdamOddOutRefIdeal.nD → PrngReg), Pre_AdamOddOutIdeal m →
    (∀ c : Dev Cert.AdamOddOutIdeal.nD,
      m' ((c.tc : Thread Cert.AdamOddOutRefIdeal.nD Cert.AdamOddOutRefIdeal.τ).loc Cert.AdamOddOutRefIdeal.main_arg0) = m ((c.tc : Thread Cert.AdamOddOutIdeal.nD Cert.AdamOddOutIdeal.τ).loc Cert.AdamOddOutIdeal.main_arg0)
      ∧ m' ((c.tc : Thread Cert.AdamOddOutRefIdeal.nD Cert.AdamOddOutRefIdeal.τ).loc Cert.AdamOddOutRefIdeal.main_arg1) = m ((c.tc : Thread Cert.AdamOddOutIdeal.nD Cert.AdamOddOutIdeal.τ).loc Cert.AdamOddOutIdeal.main_arg1)
      ∧ m' ((c.tc : Thread Cert.AdamOddOutRefIdeal.nD Cert.AdamOddOutRefIdeal.τ).loc Cert.AdamOddOutRefIdeal.main_arg2) = m ((c.tc : Thread Cert.AdamOddOutIdeal.nD Cert.AdamOddOutIdeal.τ).loc Cert.AdamOddOutIdeal.main_arg2)
      ∧ m' ((c.tc : Thread Cert.AdamOddOutRefIdeal.nD Cert.AdamOddOutRefIdeal.τ).loc Cert.AdamOddOutRefIdeal.main_arg3) = m ((c.tc : Thread Cert.AdamOddOutIdeal.nD Cert.AdamOddOutIdeal.τ).loc Cert.AdamOddOutIdeal.main_arg3)) →
    ∃ (v0 : (c : Dev Cert.AdamOddOutIdeal.nD) → Buf (Elt Ideal) ((c.tc : Thread Cert.AdamOddOutIdeal.nD Cert.AdamOddOutIdeal.τ).loc Cert.AdamOddOutIdeal.main_v0_0)) (v1 : (c : Dev Cert.AdamOddOutIdeal.nD) → Buf (Elt Ideal) ((c.tc : Thread Cert.AdamOddOutIdeal.nD Cert.AdamOddOutIdeal.τ).loc Cert.AdamOddOutIdeal.main_v0_1)) (v2 : (c : Dev Cert.AdamOddOutIdeal.nD) → Buf (Elt Ideal) ((c.tc : Thread Cert.AdamOddOutIdeal.nD Cert.AdamOddOutIdeal.τ).loc Cert.AdamOddOutIdeal.main_v0_2)),
      θ_run (Cert.AdamOddOutIdeal.defs (F := Ideal)) (onTc (τ := Cert.AdamOddOutIdeal.τ) (Cert.AdamOddOutIdeal.main (F := Ideal))) ⟨m, fun _ => 0, g⟩ (fun r => ∀ c : Dev Cert.AdamOddOutIdeal.nD,
          r.2.mem ((c.tc : Thread Cert.AdamOddOutIdeal.nD Cert.AdamOddOutIdeal.τ).loc Cert.AdamOddOutIdeal.main_v0_0) = v0 c
          ∧ r.2.mem ((c.tc : Thread Cert.AdamOddOutIdeal.nD Cert.AdamOddOutIdeal.τ).loc Cert.AdamOddOutIdeal.main_v0_1) = v1 c
          ∧ r.2.mem ((c.tc : Thread Cert.AdamOddOutIdeal.nD Cert.AdamOddOutIdeal.τ).loc Cert.AdamOddOutIdeal.main_v0_2) = v2 c
          ∧ r.2.mem ((c.tc : Thread Cert.AdamOddOutIdeal.nD Cert.AdamOddOutIdeal.τ).loc Cert.AdamOddOutIdeal.main_arg0) = m ((c.tc : Thread Cert.AdamOddOutIdeal.nD Cert.AdamOddOutIdeal.τ).loc Cert.AdamOddOutIdeal.main_arg0)
          ∧ r.2.mem ((c.tc : Thread Cert.AdamOddOutIdeal.nD Cert.AdamOddOutIdeal.τ).loc Cert.AdamOddOutIdeal.main_arg1) = m ((c.tc : Thread Cert.AdamOddOutIdeal.nD Cert.AdamOddOutIdeal.τ).loc Cert.AdamOddOutIdeal.main_arg1)
          ∧ r.2.mem ((c.tc : Thread Cert.AdamOddOutIdeal.nD Cert.AdamOddOutIdeal.τ).loc Cert.AdamOddOutIdeal.main_arg2) = m ((c.tc : Thread Cert.AdamOddOutIdeal.nD Cert.AdamOddOutIdeal.τ).loc Cert.AdamOddOutIdeal.main_arg2)
          ∧ r.2.mem ((c.tc : Thread Cert.AdamOddOutIdeal.nD Cert.AdamOddOutIdeal.τ).loc Cert.AdamOddOutIdeal.main_arg3) = m ((c.tc : Thread Cert.AdamOddOutIdeal.nD Cert.AdamOddOutIdeal.τ).loc Cert.AdamOddOutIdeal.main_arg3))
      ∧ θ_run (Cert.AdamOddOutRefIdeal.defs (F := Ideal)) (onTc (τ := Cert.AdamOddOutRefIdeal.τ) (Cert.AdamOddOutRefIdeal.main (F := Ideal))) ⟨m', fun _ => 0, g'⟩ (fun r => ∀ c : Dev Cert.AdamOddOutRefIdeal.nD,
          r.2.mem ((c.tc : Thread Cert.AdamOddOutRefIdeal.nD Cert.AdamOddOutRefIdeal.τ).loc Cert.AdamOddOutRefIdeal.main_v23) = v0 c
          ∧ r.2.mem ((c.tc : Thread Cert.AdamOddOutRefIdeal.nD Cert.AdamOddOutRefIdeal.τ).loc Cert.AdamOddOutRefIdeal.main_v4) = v1 c
          ∧ r.2.mem ((c.tc : Thread Cert.AdamOddOutRefIdeal.nD Cert.AdamOddOutRefIdeal.τ).loc Cert.AdamOddOutRefIdeal.main_v10) = v2 c
          ∧ r.2.mem ((c.tc : Thread Cert.AdamOddOutRefIdeal.nD Cert.AdamOddOutRefIdeal.τ).loc Cert.AdamOddOutRefIdeal.main_arg0) = m' ((c.tc : Thread Cert.AdamOddOutRefIdeal.nD Cert.AdamOddOutRefIdeal.τ).loc Cert.AdamOddOutRefIdeal.main_arg0)
          ∧ r.2.mem ((c.tc : Thread Cert.AdamOddOutRefIdeal.nD Cert.AdamOddOutRefIdeal.τ).loc Cert.AdamOddOutRefIdeal.main_arg1) = m' ((c.tc : Thread Cert.AdamOddOutRefIdeal.nD Cert.AdamOddOutRefIdeal.τ).loc Cert.AdamOddOutRefIdeal.main_arg1)
          ∧ r.2.mem ((c.tc : Thread Cert.AdamOddOutRefIdeal.nD Cert.AdamOddOutRefIdeal.τ).loc Cert.AdamOddOutRefIdeal.main_arg2) = m' ((c.tc : Thread Cert.AdamOddOutRefIdeal.nD Cert.AdamOddOutRefIdeal.τ).loc Cert.AdamOddOutRefIdeal.main_arg2)
          ∧ r.2.mem ((c.tc : Thread Cert.AdamOddOutRefIdeal.nD Cert.AdamOddOutRefIdeal.τ).loc Cert.AdamOddOutRefIdeal.main_arg3) = m' ((c.tc : Thread Cert.AdamOddOutRefIdeal.nD Cert.AdamOddOutRefIdeal.τ).loc Cert.AdamOddOutRefIdeal.main_arg3))

def preserves_AdamFfnUp_AdamFfnUpIdeal : Prop :=
  IdealRules.named_const.Statement Cert.AdamFfnUpIdeal.κ "c1" .f32 0x3FC48605#32 (((5463681 / 8388608)⁻¹ : ℝ) : EReal)
  ∧ IdealRules.named_const.Statement Cert.AdamFfnUpIdeal.κ "c2" .f32 0x42C8E6D3#32 (((2672307 / 268435456)⁻¹ : ℝ) : EReal)

def algebraic_AdamFfnUpIdeal_AdamFfnUpRefIdeal [hAdamFfnUpIdeal : Cert.AdamFfnUpIdeal.Facts] [hAdamFfnUpRefIdeal : Cert.AdamFfnUpRefIdeal.Facts] : Prop :=
  ∀ (m : (ℓ : Loc Cert.AdamFfnUpIdeal.nD Cert.AdamFfnUpIdeal.τ Cert.AdamFfnUpIdeal.sig) → Buf (Elt Ideal) ℓ) (g : Dev Cert.AdamFfnUpIdeal.nD → PrngReg)
    (m' : (ℓ : Loc Cert.AdamFfnUpRefIdeal.nD Cert.AdamFfnUpRefIdeal.τ Cert.AdamFfnUpRefIdeal.sig) → Buf (Elt Ideal) ℓ) (g' : Dev Cert.AdamFfnUpRefIdeal.nD → PrngReg), Pre_AdamFfnUpIdeal m →
    (∀ c : Dev Cert.AdamFfnUpIdeal.nD,
      m' ((c.tc : Thread Cert.AdamFfnUpRefIdeal.nD Cert.AdamFfnUpRefIdeal.τ).loc Cert.AdamFfnUpRefIdeal.main_arg0) = m ((c.tc : Thread Cert.AdamFfnUpIdeal.nD Cert.AdamFfnUpIdeal.τ).loc Cert.AdamFfnUpIdeal.main_arg0)
      ∧ m' ((c.tc : Thread Cert.AdamFfnUpRefIdeal.nD Cert.AdamFfnUpRefIdeal.τ).loc Cert.AdamFfnUpRefIdeal.main_arg1) = m ((c.tc : Thread Cert.AdamFfnUpIdeal.nD Cert.AdamFfnUpIdeal.τ).loc Cert.AdamFfnUpIdeal.main_arg1)
      ∧ m' ((c.tc : Thread Cert.AdamFfnUpRefIdeal.nD Cert.AdamFfnUpRefIdeal.τ).loc Cert.AdamFfnUpRefIdeal.main_arg2) = m ((c.tc : Thread Cert.AdamFfnUpIdeal.nD Cert.AdamFfnUpIdeal.τ).loc Cert.AdamFfnUpIdeal.main_arg2)
      ∧ m' ((c.tc : Thread Cert.AdamFfnUpRefIdeal.nD Cert.AdamFfnUpRefIdeal.τ).loc Cert.AdamFfnUpRefIdeal.main_arg3) = m ((c.tc : Thread Cert.AdamFfnUpIdeal.nD Cert.AdamFfnUpIdeal.τ).loc Cert.AdamFfnUpIdeal.main_arg3)) →
    ∃ (v0 : (c : Dev Cert.AdamFfnUpIdeal.nD) → Buf (Elt Ideal) ((c.tc : Thread Cert.AdamFfnUpIdeal.nD Cert.AdamFfnUpIdeal.τ).loc Cert.AdamFfnUpIdeal.main_v0_0)) (v1 : (c : Dev Cert.AdamFfnUpIdeal.nD) → Buf (Elt Ideal) ((c.tc : Thread Cert.AdamFfnUpIdeal.nD Cert.AdamFfnUpIdeal.τ).loc Cert.AdamFfnUpIdeal.main_v0_1)) (v2 : (c : Dev Cert.AdamFfnUpIdeal.nD) → Buf (Elt Ideal) ((c.tc : Thread Cert.AdamFfnUpIdeal.nD Cert.AdamFfnUpIdeal.τ).loc Cert.AdamFfnUpIdeal.main_v0_2)),
      θ_run (Cert.AdamFfnUpIdeal.defs (F := Ideal)) (onTc (τ := Cert.AdamFfnUpIdeal.τ) (Cert.AdamFfnUpIdeal.main (F := Ideal))) ⟨m, fun _ => 0, g⟩ (fun r => ∀ c : Dev Cert.AdamFfnUpIdeal.nD,
          r.2.mem ((c.tc : Thread Cert.AdamFfnUpIdeal.nD Cert.AdamFfnUpIdeal.τ).loc Cert.AdamFfnUpIdeal.main_v0_0) = v0 c
          ∧ r.2.mem ((c.tc : Thread Cert.AdamFfnUpIdeal.nD Cert.AdamFfnUpIdeal.τ).loc Cert.AdamFfnUpIdeal.main_v0_1) = v1 c
          ∧ r.2.mem ((c.tc : Thread Cert.AdamFfnUpIdeal.nD Cert.AdamFfnUpIdeal.τ).loc Cert.AdamFfnUpIdeal.main_v0_2) = v2 c
          ∧ r.2.mem ((c.tc : Thread Cert.AdamFfnUpIdeal.nD Cert.AdamFfnUpIdeal.τ).loc Cert.AdamFfnUpIdeal.main_arg0) = m ((c.tc : Thread Cert.AdamFfnUpIdeal.nD Cert.AdamFfnUpIdeal.τ).loc Cert.AdamFfnUpIdeal.main_arg0)
          ∧ r.2.mem ((c.tc : Thread Cert.AdamFfnUpIdeal.nD Cert.AdamFfnUpIdeal.τ).loc Cert.AdamFfnUpIdeal.main_arg1) = m ((c.tc : Thread Cert.AdamFfnUpIdeal.nD Cert.AdamFfnUpIdeal.τ).loc Cert.AdamFfnUpIdeal.main_arg1)
          ∧ r.2.mem ((c.tc : Thread Cert.AdamFfnUpIdeal.nD Cert.AdamFfnUpIdeal.τ).loc Cert.AdamFfnUpIdeal.main_arg2) = m ((c.tc : Thread Cert.AdamFfnUpIdeal.nD Cert.AdamFfnUpIdeal.τ).loc Cert.AdamFfnUpIdeal.main_arg2)
          ∧ r.2.mem ((c.tc : Thread Cert.AdamFfnUpIdeal.nD Cert.AdamFfnUpIdeal.τ).loc Cert.AdamFfnUpIdeal.main_arg3) = m ((c.tc : Thread Cert.AdamFfnUpIdeal.nD Cert.AdamFfnUpIdeal.τ).loc Cert.AdamFfnUpIdeal.main_arg3))
      ∧ θ_run (Cert.AdamFfnUpRefIdeal.defs (F := Ideal)) (onTc (τ := Cert.AdamFfnUpRefIdeal.τ) (Cert.AdamFfnUpRefIdeal.main (F := Ideal))) ⟨m', fun _ => 0, g'⟩ (fun r => ∀ c : Dev Cert.AdamFfnUpRefIdeal.nD,
          r.2.mem ((c.tc : Thread Cert.AdamFfnUpRefIdeal.nD Cert.AdamFfnUpRefIdeal.τ).loc Cert.AdamFfnUpRefIdeal.main_v23) = v0 c
          ∧ r.2.mem ((c.tc : Thread Cert.AdamFfnUpRefIdeal.nD Cert.AdamFfnUpRefIdeal.τ).loc Cert.AdamFfnUpRefIdeal.main_v4) = v1 c
          ∧ r.2.mem ((c.tc : Thread Cert.AdamFfnUpRefIdeal.nD Cert.AdamFfnUpRefIdeal.τ).loc Cert.AdamFfnUpRefIdeal.main_v10) = v2 c
          ∧ r.2.mem ((c.tc : Thread Cert.AdamFfnUpRefIdeal.nD Cert.AdamFfnUpRefIdeal.τ).loc Cert.AdamFfnUpRefIdeal.main_arg0) = m' ((c.tc : Thread Cert.AdamFfnUpRefIdeal.nD Cert.AdamFfnUpRefIdeal.τ).loc Cert.AdamFfnUpRefIdeal.main_arg0)
          ∧ r.2.mem ((c.tc : Thread Cert.AdamFfnUpRefIdeal.nD Cert.AdamFfnUpRefIdeal.τ).loc Cert.AdamFfnUpRefIdeal.main_arg1) = m' ((c.tc : Thread Cert.AdamFfnUpRefIdeal.nD Cert.AdamFfnUpRefIdeal.τ).loc Cert.AdamFfnUpRefIdeal.main_arg1)
          ∧ r.2.mem ((c.tc : Thread Cert.AdamFfnUpRefIdeal.nD Cert.AdamFfnUpRefIdeal.τ).loc Cert.AdamFfnUpRefIdeal.main_arg2) = m' ((c.tc : Thread Cert.AdamFfnUpRefIdeal.nD Cert.AdamFfnUpRefIdeal.τ).loc Cert.AdamFfnUpRefIdeal.main_arg2)
          ∧ r.2.mem ((c.tc : Thread Cert.AdamFfnUpRefIdeal.nD Cert.AdamFfnUpRefIdeal.τ).loc Cert.AdamFfnUpRefIdeal.main_arg3) = m' ((c.tc : Thread Cert.AdamFfnUpRefIdeal.nD Cert.AdamFfnUpRefIdeal.τ).loc Cert.AdamFfnUpRefIdeal.main_arg3))

def preserves_AdamFfnDown_AdamFfnDownIdeal : Prop :=
  IdealRules.named_const.Statement Cert.AdamFfnDownIdeal.κ "c1" .f32 0x3FC48605#32 (((5463681 / 8388608)⁻¹ : ℝ) : EReal)
  ∧ IdealRules.named_const.Statement Cert.AdamFfnDownIdeal.κ "c2" .f32 0x42C8E6D3#32 (((2672307 / 268435456)⁻¹ : ℝ) : EReal)

def algebraic_AdamFfnDownIdeal_AdamFfnDownRefIdeal [hAdamFfnDownIdeal : Cert.AdamFfnDownIdeal.Facts] [hAdamFfnDownRefIdeal : Cert.AdamFfnDownRefIdeal.Facts] : Prop :=
  ∀ (m : (ℓ : Loc Cert.AdamFfnDownIdeal.nD Cert.AdamFfnDownIdeal.τ Cert.AdamFfnDownIdeal.sig) → Buf (Elt Ideal) ℓ) (g : Dev Cert.AdamFfnDownIdeal.nD → PrngReg)
    (m' : (ℓ : Loc Cert.AdamFfnDownRefIdeal.nD Cert.AdamFfnDownRefIdeal.τ Cert.AdamFfnDownRefIdeal.sig) → Buf (Elt Ideal) ℓ) (g' : Dev Cert.AdamFfnDownRefIdeal.nD → PrngReg), Pre_AdamFfnDownIdeal m →
    (∀ c : Dev Cert.AdamFfnDownIdeal.nD,
      m' ((c.tc : Thread Cert.AdamFfnDownRefIdeal.nD Cert.AdamFfnDownRefIdeal.τ).loc Cert.AdamFfnDownRefIdeal.main_arg0) = m ((c.tc : Thread Cert.AdamFfnDownIdeal.nD Cert.AdamFfnDownIdeal.τ).loc Cert.AdamFfnDownIdeal.main_arg0)
      ∧ m' ((c.tc : Thread Cert.AdamFfnDownRefIdeal.nD Cert.AdamFfnDownRefIdeal.τ).loc Cert.AdamFfnDownRefIdeal.main_arg1) = m ((c.tc : Thread Cert.AdamFfnDownIdeal.nD Cert.AdamFfnDownIdeal.τ).loc Cert.AdamFfnDownIdeal.main_arg1)
      ∧ m' ((c.tc : Thread Cert.AdamFfnDownRefIdeal.nD Cert.AdamFfnDownRefIdeal.τ).loc Cert.AdamFfnDownRefIdeal.main_arg2) = m ((c.tc : Thread Cert.AdamFfnDownIdeal.nD Cert.AdamFfnDownIdeal.τ).loc Cert.AdamFfnDownIdeal.main_arg2)
      ∧ m' ((c.tc : Thread Cert.AdamFfnDownRefIdeal.nD Cert.AdamFfnDownRefIdeal.τ).loc Cert.AdamFfnDownRefIdeal.main_arg3) = m ((c.tc : Thread Cert.AdamFfnDownIdeal.nD Cert.AdamFfnDownIdeal.τ).loc Cert.AdamFfnDownIdeal.main_arg3)) →
    ∃ (v0 : (c : Dev Cert.AdamFfnDownIdeal.nD) → Buf (Elt Ideal) ((c.tc : Thread Cert.AdamFfnDownIdeal.nD Cert.AdamFfnDownIdeal.τ).loc Cert.AdamFfnDownIdeal.main_v0_0)) (v1 : (c : Dev Cert.AdamFfnDownIdeal.nD) → Buf (Elt Ideal) ((c.tc : Thread Cert.AdamFfnDownIdeal.nD Cert.AdamFfnDownIdeal.τ).loc Cert.AdamFfnDownIdeal.main_v0_1)) (v2 : (c : Dev Cert.AdamFfnDownIdeal.nD) → Buf (Elt Ideal) ((c.tc : Thread Cert.AdamFfnDownIdeal.nD Cert.AdamFfnDownIdeal.τ).loc Cert.AdamFfnDownIdeal.main_v0_2)),
      θ_run (Cert.AdamFfnDownIdeal.defs (F := Ideal)) (onTc (τ := Cert.AdamFfnDownIdeal.τ) (Cert.AdamFfnDownIdeal.main (F := Ideal))) ⟨m, fun _ => 0, g⟩ (fun r => ∀ c : Dev Cert.AdamFfnDownIdeal.nD,
          r.2.mem ((c.tc : Thread Cert.AdamFfnDownIdeal.nD Cert.AdamFfnDownIdeal.τ).loc Cert.AdamFfnDownIdeal.main_v0_0) = v0 c
          ∧ r.2.mem ((c.tc : Thread Cert.AdamFfnDownIdeal.nD Cert.AdamFfnDownIdeal.τ).loc Cert.AdamFfnDownIdeal.main_v0_1) = v1 c
          ∧ r.2.mem ((c.tc : Thread Cert.AdamFfnDownIdeal.nD Cert.AdamFfnDownIdeal.τ).loc Cert.AdamFfnDownIdeal.main_v0_2) = v2 c
          ∧ r.2.mem ((c.tc : Thread Cert.AdamFfnDownIdeal.nD Cert.AdamFfnDownIdeal.τ).loc Cert.AdamFfnDownIdeal.main_arg0) = m ((c.tc : Thread Cert.AdamFfnDownIdeal.nD Cert.AdamFfnDownIdeal.τ).loc Cert.AdamFfnDownIdeal.main_arg0)
          ∧ r.2.mem ((c.tc : Thread Cert.AdamFfnDownIdeal.nD Cert.AdamFfnDownIdeal.τ).loc Cert.AdamFfnDownIdeal.main_arg1) = m ((c.tc : Thread Cert.AdamFfnDownIdeal.nD Cert.AdamFfnDownIdeal.τ).loc Cert.AdamFfnDownIdeal.main_arg1)
          ∧ r.2.mem ((c.tc : Thread Cert.AdamFfnDownIdeal.nD Cert.AdamFfnDownIdeal.τ).loc Cert.AdamFfnDownIdeal.main_arg2) = m ((c.tc : Thread Cert.AdamFfnDownIdeal.nD Cert.AdamFfnDownIdeal.τ).loc Cert.AdamFfnDownIdeal.main_arg2)
          ∧ r.2.mem ((c.tc : Thread Cert.AdamFfnDownIdeal.nD Cert.AdamFfnDownIdeal.τ).loc Cert.AdamFfnDownIdeal.main_arg3) = m ((c.tc : Thread Cert.AdamFfnDownIdeal.nD Cert.AdamFfnDownIdeal.τ).loc Cert.AdamFfnDownIdeal.main_arg3))
      ∧ θ_run (Cert.AdamFfnDownRefIdeal.defs (F := Ideal)) (onTc (τ := Cert.AdamFfnDownRefIdeal.τ) (Cert.AdamFfnDownRefIdeal.main (F := Ideal))) ⟨m', fun _ => 0, g'⟩ (fun r => ∀ c : Dev Cert.AdamFfnDownRefIdeal.nD,
          r.2.mem ((c.tc : Thread Cert.AdamFfnDownRefIdeal.nD Cert.AdamFfnDownRefIdeal.τ).loc Cert.AdamFfnDownRefIdeal.main_v23) = v0 c
          ∧ r.2.mem ((c.tc : Thread Cert.AdamFfnDownRefIdeal.nD Cert.AdamFfnDownRefIdeal.τ).loc Cert.AdamFfnDownRefIdeal.main_v4) = v1 c
          ∧ r.2.mem ((c.tc : Thread Cert.AdamFfnDownRefIdeal.nD Cert.AdamFfnDownRefIdeal.τ).loc Cert.AdamFfnDownRefIdeal.main_v10) = v2 c
          ∧ r.2.mem ((c.tc : Thread Cert.AdamFfnDownRefIdeal.nD Cert.AdamFfnDownRefIdeal.τ).loc Cert.AdamFfnDownRefIdeal.main_arg0) = m' ((c.tc : Thread Cert.AdamFfnDownRefIdeal.nD Cert.AdamFfnDownRefIdeal.τ).loc Cert.AdamFfnDownRefIdeal.main_arg0)
          ∧ r.2.mem ((c.tc : Thread Cert.AdamFfnDownRefIdeal.nD Cert.AdamFfnDownRefIdeal.τ).loc Cert.AdamFfnDownRefIdeal.main_arg1) = m' ((c.tc : Thread Cert.AdamFfnDownRefIdeal.nD Cert.AdamFfnDownRefIdeal.τ).loc Cert.AdamFfnDownRefIdeal.main_arg1)
          ∧ r.2.mem ((c.tc : Thread Cert.AdamFfnDownRefIdeal.nD Cert.AdamFfnDownRefIdeal.τ).loc Cert.AdamFfnDownRefIdeal.main_arg2) = m' ((c.tc : Thread Cert.AdamFfnDownRefIdeal.nD Cert.AdamFfnDownRefIdeal.τ).loc Cert.AdamFfnDownRefIdeal.main_arg2)
          ∧ r.2.mem ((c.tc : Thread Cert.AdamFfnDownRefIdeal.nD Cert.AdamFfnDownRefIdeal.τ).loc Cert.AdamFfnDownRefIdeal.main_arg3) = m' ((c.tc : Thread Cert.AdamFfnDownRefIdeal.nD Cert.AdamFfnDownRefIdeal.τ).loc Cert.AdamFfnDownRefIdeal.main_arg3))

def preserves_AdamPleProj_AdamPleProjIdeal : Prop :=
  IdealRules.named_const.Statement Cert.AdamPleProjIdeal.κ "c1" .f32 0x3FC48605#32 (((5463681 / 8388608)⁻¹ : ℝ) : EReal)
  ∧ IdealRules.named_const.Statement Cert.AdamPleProjIdeal.κ "c2" .f32 0x42C8E6D3#32 (((2672307 / 268435456)⁻¹ : ℝ) : EReal)

def algebraic_AdamPleProjIdeal_AdamPleProjRefIdeal [hAdamPleProjIdeal : Cert.AdamPleProjIdeal.Facts] [hAdamPleProjRefIdeal : Cert.AdamPleProjRefIdeal.Facts] : Prop :=
  ∀ (m : (ℓ : Loc Cert.AdamPleProjIdeal.nD Cert.AdamPleProjIdeal.τ Cert.AdamPleProjIdeal.sig) → Buf (Elt Ideal) ℓ) (g : Dev Cert.AdamPleProjIdeal.nD → PrngReg)
    (m' : (ℓ : Loc Cert.AdamPleProjRefIdeal.nD Cert.AdamPleProjRefIdeal.τ Cert.AdamPleProjRefIdeal.sig) → Buf (Elt Ideal) ℓ) (g' : Dev Cert.AdamPleProjRefIdeal.nD → PrngReg), Pre_AdamPleProjIdeal m →
    (∀ c : Dev Cert.AdamPleProjIdeal.nD,
      m' ((c.tc : Thread Cert.AdamPleProjRefIdeal.nD Cert.AdamPleProjRefIdeal.τ).loc Cert.AdamPleProjRefIdeal.main_arg0) = m ((c.tc : Thread Cert.AdamPleProjIdeal.nD Cert.AdamPleProjIdeal.τ).loc Cert.AdamPleProjIdeal.main_arg0)
      ∧ m' ((c.tc : Thread Cert.AdamPleProjRefIdeal.nD Cert.AdamPleProjRefIdeal.τ).loc Cert.AdamPleProjRefIdeal.main_arg1) = m ((c.tc : Thread Cert.AdamPleProjIdeal.nD Cert.AdamPleProjIdeal.τ).loc Cert.AdamPleProjIdeal.main_arg1)
      ∧ m' ((c.tc : Thread Cert.AdamPleProjRefIdeal.nD Cert.AdamPleProjRefIdeal.τ).loc Cert.AdamPleProjRefIdeal.main_arg2) = m ((c.tc : Thread Cert.AdamPleProjIdeal.nD Cert.AdamPleProjIdeal.τ).loc Cert.AdamPleProjIdeal.main_arg2)
      ∧ m' ((c.tc : Thread Cert.AdamPleProjRefIdeal.nD Cert.AdamPleProjRefIdeal.τ).loc Cert.AdamPleProjRefIdeal.main_arg3) = m ((c.tc : Thread Cert.AdamPleProjIdeal.nD Cert.AdamPleProjIdeal.τ).loc Cert.AdamPleProjIdeal.main_arg3)) →
    ∃ (v0 : (c : Dev Cert.AdamPleProjIdeal.nD) → Buf (Elt Ideal) ((c.tc : Thread Cert.AdamPleProjIdeal.nD Cert.AdamPleProjIdeal.τ).loc Cert.AdamPleProjIdeal.main_v0_0)) (v1 : (c : Dev Cert.AdamPleProjIdeal.nD) → Buf (Elt Ideal) ((c.tc : Thread Cert.AdamPleProjIdeal.nD Cert.AdamPleProjIdeal.τ).loc Cert.AdamPleProjIdeal.main_v0_1)) (v2 : (c : Dev Cert.AdamPleProjIdeal.nD) → Buf (Elt Ideal) ((c.tc : Thread Cert.AdamPleProjIdeal.nD Cert.AdamPleProjIdeal.τ).loc Cert.AdamPleProjIdeal.main_v0_2)),
      θ_run (Cert.AdamPleProjIdeal.defs (F := Ideal)) (onTc (τ := Cert.AdamPleProjIdeal.τ) (Cert.AdamPleProjIdeal.main (F := Ideal))) ⟨m, fun _ => 0, g⟩ (fun r => ∀ c : Dev Cert.AdamPleProjIdeal.nD,
          r.2.mem ((c.tc : Thread Cert.AdamPleProjIdeal.nD Cert.AdamPleProjIdeal.τ).loc Cert.AdamPleProjIdeal.main_v0_0) = v0 c
          ∧ r.2.mem ((c.tc : Thread Cert.AdamPleProjIdeal.nD Cert.AdamPleProjIdeal.τ).loc Cert.AdamPleProjIdeal.main_v0_1) = v1 c
          ∧ r.2.mem ((c.tc : Thread Cert.AdamPleProjIdeal.nD Cert.AdamPleProjIdeal.τ).loc Cert.AdamPleProjIdeal.main_v0_2) = v2 c
          ∧ r.2.mem ((c.tc : Thread Cert.AdamPleProjIdeal.nD Cert.AdamPleProjIdeal.τ).loc Cert.AdamPleProjIdeal.main_arg0) = m ((c.tc : Thread Cert.AdamPleProjIdeal.nD Cert.AdamPleProjIdeal.τ).loc Cert.AdamPleProjIdeal.main_arg0)
          ∧ r.2.mem ((c.tc : Thread Cert.AdamPleProjIdeal.nD Cert.AdamPleProjIdeal.τ).loc Cert.AdamPleProjIdeal.main_arg1) = m ((c.tc : Thread Cert.AdamPleProjIdeal.nD Cert.AdamPleProjIdeal.τ).loc Cert.AdamPleProjIdeal.main_arg1)
          ∧ r.2.mem ((c.tc : Thread Cert.AdamPleProjIdeal.nD Cert.AdamPleProjIdeal.τ).loc Cert.AdamPleProjIdeal.main_arg2) = m ((c.tc : Thread Cert.AdamPleProjIdeal.nD Cert.AdamPleProjIdeal.τ).loc Cert.AdamPleProjIdeal.main_arg2)
          ∧ r.2.mem ((c.tc : Thread Cert.AdamPleProjIdeal.nD Cert.AdamPleProjIdeal.τ).loc Cert.AdamPleProjIdeal.main_arg3) = m ((c.tc : Thread Cert.AdamPleProjIdeal.nD Cert.AdamPleProjIdeal.τ).loc Cert.AdamPleProjIdeal.main_arg3))
      ∧ θ_run (Cert.AdamPleProjRefIdeal.defs (F := Ideal)) (onTc (τ := Cert.AdamPleProjRefIdeal.τ) (Cert.AdamPleProjRefIdeal.main (F := Ideal))) ⟨m', fun _ => 0, g'⟩ (fun r => ∀ c : Dev Cert.AdamPleProjRefIdeal.nD,
          r.2.mem ((c.tc : Thread Cert.AdamPleProjRefIdeal.nD Cert.AdamPleProjRefIdeal.τ).loc Cert.AdamPleProjRefIdeal.main_v23) = v0 c
          ∧ r.2.mem ((c.tc : Thread Cert.AdamPleProjRefIdeal.nD Cert.AdamPleProjRefIdeal.τ).loc Cert.AdamPleProjRefIdeal.main_v4) = v1 c
          ∧ r.2.mem ((c.tc : Thread Cert.AdamPleProjRefIdeal.nD Cert.AdamPleProjRefIdeal.τ).loc Cert.AdamPleProjRefIdeal.main_v10) = v2 c
          ∧ r.2.mem ((c.tc : Thread Cert.AdamPleProjRefIdeal.nD Cert.AdamPleProjRefIdeal.τ).loc Cert.AdamPleProjRefIdeal.main_arg0) = m' ((c.tc : Thread Cert.AdamPleProjRefIdeal.nD Cert.AdamPleProjRefIdeal.τ).loc Cert.AdamPleProjRefIdeal.main_arg0)
          ∧ r.2.mem ((c.tc : Thread Cert.AdamPleProjRefIdeal.nD Cert.AdamPleProjRefIdeal.τ).loc Cert.AdamPleProjRefIdeal.main_arg1) = m' ((c.tc : Thread Cert.AdamPleProjRefIdeal.nD Cert.AdamPleProjRefIdeal.τ).loc Cert.AdamPleProjRefIdeal.main_arg1)
          ∧ r.2.mem ((c.tc : Thread Cert.AdamPleProjRefIdeal.nD Cert.AdamPleProjRefIdeal.τ).loc Cert.AdamPleProjRefIdeal.main_arg2) = m' ((c.tc : Thread Cert.AdamPleProjRefIdeal.nD Cert.AdamPleProjRefIdeal.τ).loc Cert.AdamPleProjRefIdeal.main_arg2)
          ∧ r.2.mem ((c.tc : Thread Cert.AdamPleProjRefIdeal.nD Cert.AdamPleProjRefIdeal.τ).loc Cert.AdamPleProjRefIdeal.main_arg3) = m' ((c.tc : Thread Cert.AdamPleProjRefIdeal.nD Cert.AdamPleProjRefIdeal.τ).loc Cert.AdamPleProjRefIdeal.main_arg3))

def preserves_AdamSmall_AdamSmallIdeal : Prop :=
  IdealRules.named_const.Statement Cert.AdamSmallIdeal.κ "c1" .f32 0x3FC48605#32 (((5463681 / 8388608)⁻¹ : ℝ) : EReal)
  ∧ IdealRules.named_const.Statement Cert.AdamSmallIdeal.κ "c2" .f32 0x42C8E6D3#32 (((2672307 / 268435456)⁻¹ : ℝ) : EReal)

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def Claim : Prop :=
  ∃ (hKernel : Cert.Kernel.Facts) (hKernelIdeal : Cert.KernelIdeal.Facts) (hReferenceIdeal : Cert.ReferenceIdeal.Facts) (hDownGrad : Cert.DownGrad.Facts) (hDownGradIdeal : Cert.DownGradIdeal.Facts) (hDownGradRefIdeal : Cert.DownGradRefIdeal.Facts) (hDownBack : Cert.DownBack.Facts) (hDownBackIdeal : Cert.DownBackIdeal.Facts) (hDownBackRefIdeal : Cert.DownBackRefIdeal.Facts) (hUpGrad : Cert.UpGrad.Facts) (hUpGradIdeal : Cert.UpGradIdeal.Facts) (hUpGradRefIdeal : Cert.UpGradRefIdeal.Facts) (hUpBackG : Cert.UpBackG.Facts) (hUpBackGIdeal : Cert.UpBackGIdeal.Facts) (hUpBackGRefIdeal : Cert.UpBackGRefIdeal.Facts) (hUpBackV : Cert.UpBackV.Facts) (hUpBackVIdeal : Cert.UpBackVIdeal.Facts) (hUpBackVRefIdeal : Cert.UpBackVRefIdeal.Facts) (hOddXGrad : Cert.OddXGrad.Facts) (hOddXGradIdeal : Cert.OddXGradIdeal.Facts) (hOddXGradRefIdeal : Cert.OddXGradRefIdeal.Facts) (hOddXBack : Cert.OddXBack.Facts) (hOddXBackIdeal : Cert.OddXBackIdeal.Facts) (hOddXBackRefIdeal : Cert.OddXBackRefIdeal.Facts) (hOddOutGrad : Cert.OddOutGrad.Facts) (hOddOutGradIdeal : Cert.OddOutGradIdeal.Facts) (hOddOutGradRefIdeal : Cert.OddOutGradRefIdeal.Facts) (hOddOutBack : Cert.OddOutBack.Facts) (hOddOutBackIdeal : Cert.OddOutBackIdeal.Facts) (hOddOutBackRefIdeal : Cert.OddOutBackRefIdeal.Facts) (hOddZGrad : Cert.OddZGrad.Facts) (hOddZGradIdeal : Cert.OddZGradIdeal.Facts) (hOddZGradRefIdeal : Cert.OddZGradRefIdeal.Facts) (hOddZBack : Cert.OddZBack.Facts) (hOddZBackIdeal : Cert.OddZBackIdeal.Facts) (hOddZBackRefIdeal : Cert.OddZBackRefIdeal.Facts) (hEvenInGrad : Cert.EvenInGrad.Facts) (hEvenInGradIdeal : Cert.EvenInGradIdeal.Facts) (hEvenInGradRefIdeal : Cert.EvenInGradRefIdeal.Facts) (hConvBack : Cert.ConvBack.Facts) (hConvBackIdeal : Cert.ConvBackIdeal.Facts) (hConvBackRefIdeal : Cert.ConvBackRefIdeal.Facts) (hQkvBack : Cert.QkvBack.Facts) (hQkvBackIdeal : Cert.QkvBackIdeal.Facts) (hQkvBackRefIdeal : Cert.QkvBackRefIdeal.Facts) (hGateGrad : Cert.GateGrad.Facts) (hGateGradIdeal : Cert.GateGradIdeal.Facts) (hGateGradRefIdeal : Cert.GateGradRefIdeal.Facts) (hGateBack : Cert.GateBack.Facts) (hGateBackIdeal : Cert.GateBackIdeal.Facts) (hGateBackRefIdeal : Cert.GateBackRefIdeal.Facts) (hProjGrad : Cert.ProjGrad.Facts) (hProjGradIdeal : Cert.ProjGradIdeal.Facts) (hProjGradRefIdeal : Cert.ProjGradRefIdeal.Facts) (hEvenOutBack : Cert.EvenOutBack.Facts) (hEvenOutBackIdeal : Cert.EvenOutBackIdeal.Facts) (hEvenOutBackRefIdeal : Cert.EvenOutBackRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hOddX : Cert.OddX.Facts) (hOddXIdeal : Cert.OddXIdeal.Facts) (hOddXRefIdeal : Cert.OddXRefIdeal.Facts) (hOddZ : Cert.OddZ.Facts) (hOddZIdeal : Cert.OddZIdeal.Facts) (hOddZRefIdeal : Cert.OddZRefIdeal.Facts) (hOddOut : Cert.OddOut.Facts) (hOddOutIdeal : Cert.OddOutIdeal.Facts) (hOddOutRefIdeal : Cert.OddOutRefIdeal.Facts) (hEvenConv : Cert.EvenConv.Facts) (hEvenConvIdeal : Cert.EvenConvIdeal.Facts) (hEvenConvRefIdeal : Cert.EvenConvRefIdeal.Facts) (hEvenQkv : Cert.EvenQkv.Facts) (hEvenQkvIdeal : Cert.EvenQkvIdeal.Facts) (hEvenQkvRefIdeal : Cert.EvenQkvRefIdeal.Facts) (hPleGate : Cert.PleGate.Facts) (hPleGateIdeal : Cert.PleGateIdeal.Facts) (hPleGateRefIdeal : Cert.PleGateRefIdeal.Facts) (hPleProj : Cert.PleProj.Facts) (hPleProjIdeal : Cert.PleProjIdeal.Facts) (hPleProjRefIdeal : Cert.PleProjRefIdeal.Facts) (hAdamEvenIn : Cert.AdamEvenIn.Facts) (hAdamEvenInIdeal : Cert.AdamEvenInIdeal.Facts) (hAdamEvenInRefIdeal : Cert.AdamEvenInRefIdeal.Facts) (hAdamEvenOut : Cert.AdamEvenOut.Facts) (hAdamEvenOutIdeal : Cert.AdamEvenOutIdeal.Facts) (hAdamEvenOutRefIdeal : Cert.AdamEvenOutRefIdeal.Facts) (hAdamOddIn : Cert.AdamOddIn.Facts) (hAdamOddInIdeal : Cert.AdamOddInIdeal.Facts) (hAdamOddInRefIdeal : Cert.AdamOddInRefIdeal.Facts) (hAdamOddOut : Cert.AdamOddOut.Facts) (hAdamOddOutIdeal : Cert.AdamOddOutIdeal.Facts) (hAdamOddOutRefIdeal : Cert.AdamOddOutRefIdeal.Facts) (hAdamFfnUp : Cert.AdamFfnUp.Facts) (hAdamFfnUpIdeal : Cert.AdamFfnUpIdeal.Facts) (hAdamFfnUpRefIdeal : Cert.AdamFfnUpRefIdeal.Facts) (hAdamFfnDown : Cert.AdamFfnDown.Facts) (hAdamFfnDownIdeal : Cert.AdamFfnDownIdeal.Facts) (hAdamFfnDownRefIdeal : Cert.AdamFfnDownRefIdeal.Facts) (hAdamPleProj : Cert.AdamPleProj.Facts) (hAdamPleProjIdeal : Cert.AdamPleProjIdeal.Facts) (hAdamPleProjRefIdeal : Cert.AdamPleProjRefIdeal.Facts) (hAdamSmall : Cert.AdamSmall.Facts) (hAdamSmallIdeal : Cert.AdamSmallIdeal.Facts) (hAdamSmallRefIdeal : Cert.AdamSmallRefIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ quiescent_DownGrad (hDownGrad := hDownGrad)
    ∧ quiescent_DownGradIdeal (hDownGradIdeal := hDownGradIdeal)
    ∧ quiescent_DownGradRefIdeal (hDownGradRefIdeal := hDownGradRefIdeal)
    ∧ quiescent_DownBack (hDownBack := hDownBack)
    ∧ quiescent_DownBackIdeal (hDownBackIdeal := hDownBackIdeal)
    ∧ quiescent_DownBackRefIdeal (hDownBackRefIdeal := hDownBackRefIdeal)
    ∧ quiescent_UpGrad (hUpGrad := hUpGrad)
    ∧ quiescent_UpGradIdeal (hUpGradIdeal := hUpGradIdeal)
    ∧ quiescent_UpGradRefIdeal (hUpGradRefIdeal := hUpGradRefIdeal)
    ∧ quiescent_UpBackG (hUpBackG := hUpBackG)
    ∧ quiescent_UpBackGIdeal (hUpBackGIdeal := hUpBackGIdeal)
    ∧ quiescent_UpBackGRefIdeal (hUpBackGRefIdeal := hUpBackGRefIdeal)
    ∧ quiescent_UpBackV (hUpBackV := hUpBackV)
    ∧ quiescent_UpBackVIdeal (hUpBackVIdeal := hUpBackVIdeal)
    ∧ quiescent_UpBackVRefIdeal (hUpBackVRefIdeal := hUpBackVRefIdeal)
    ∧ quiescent_OddXGrad (hOddXGrad := hOddXGrad)
    ∧ quiescent_OddXGradIdeal (hOddXGradIdeal := hOddXGradIdeal)
    ∧ quiescent_OddXGradRefIdeal (hOddXGradRefIdeal := hOddXGradRefIdeal)
    ∧ quiescent_OddXBack (hOddXBack := hOddXBack)
    ∧ quiescent_OddXBackIdeal (hOddXBackIdeal := hOddXBackIdeal)
    ∧ quiescent_OddXBackRefIdeal (hOddXBackRefIdeal := hOddXBackRefIdeal)
    ∧ quiescent_OddOutGrad (hOddOutGrad := hOddOutGrad)
    ∧ quiescent_OddOutGradIdeal (hOddOutGradIdeal := hOddOutGradIdeal)
    ∧ quiescent_OddOutGradRefIdeal (hOddOutGradRefIdeal := hOddOutGradRefIdeal)
    ∧ quiescent_OddOutBack (hOddOutBack := hOddOutBack)
    ∧ quiescent_OddOutBackIdeal (hOddOutBackIdeal := hOddOutBackIdeal)
    ∧ quiescent_OddOutBackRefIdeal (hOddOutBackRefIdeal := hOddOutBackRefIdeal)
    ∧ quiescent_OddZGrad (hOddZGrad := hOddZGrad)
    ∧ quiescent_OddZGradIdeal (hOddZGradIdeal := hOddZGradIdeal)
    ∧ quiescent_OddZGradRefIdeal (hOddZGradRefIdeal := hOddZGradRefIdeal)
    ∧ quiescent_OddZBack (hOddZBack := hOddZBack)
    ∧ quiescent_OddZBackIdeal (hOddZBackIdeal := hOddZBackIdeal)
    ∧ quiescent_OddZBackRefIdeal (hOddZBackRefIdeal := hOddZBackRefIdeal)
    ∧ quiescent_EvenInGrad (hEvenInGrad := hEvenInGrad)
    ∧ quiescent_EvenInGradIdeal (hEvenInGradIdeal := hEvenInGradIdeal)
    ∧ quiescent_EvenInGradRefIdeal (hEvenInGradRefIdeal := hEvenInGradRefIdeal)
    ∧ quiescent_ConvBack (hConvBack := hConvBack)
    ∧ quiescent_ConvBackIdeal (hConvBackIdeal := hConvBackIdeal)
    ∧ quiescent_ConvBackRefIdeal (hConvBackRefIdeal := hConvBackRefIdeal)
    ∧ quiescent_QkvBack (hQkvBack := hQkvBack)
    ∧ quiescent_QkvBackIdeal (hQkvBackIdeal := hQkvBackIdeal)
    ∧ quiescent_QkvBackRefIdeal (hQkvBackRefIdeal := hQkvBackRefIdeal)
    ∧ quiescent_GateGrad (hGateGrad := hGateGrad)
    ∧ quiescent_GateGradIdeal (hGateGradIdeal := hGateGradIdeal)
    ∧ quiescent_GateGradRefIdeal (hGateGradRefIdeal := hGateGradRefIdeal)
    ∧ quiescent_GateBack (hGateBack := hGateBack)
    ∧ quiescent_GateBackIdeal (hGateBackIdeal := hGateBackIdeal)
    ∧ quiescent_GateBackRefIdeal (hGateBackRefIdeal := hGateBackRefIdeal)
    ∧ quiescent_ProjGrad (hProjGrad := hProjGrad)
    ∧ quiescent_ProjGradIdeal (hProjGradIdeal := hProjGradIdeal)
    ∧ quiescent_ProjGradRefIdeal (hProjGradRefIdeal := hProjGradRefIdeal)
    ∧ quiescent_EvenOutBack (hEvenOutBack := hEvenOutBack)
    ∧ quiescent_EvenOutBackIdeal (hEvenOutBackIdeal := hEvenOutBackIdeal)
    ∧ quiescent_EvenOutBackRefIdeal (hEvenOutBackRefIdeal := hEvenOutBackRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_OddX (hOddX := hOddX)
    ∧ quiescent_OddXIdeal (hOddXIdeal := hOddXIdeal)
    ∧ quiescent_OddXRefIdeal (hOddXRefIdeal := hOddXRefIdeal)
    ∧ quiescent_OddZ (hOddZ := hOddZ)
    ∧ quiescent_OddZIdeal (hOddZIdeal := hOddZIdeal)
    ∧ quiescent_OddZRefIdeal (hOddZRefIdeal := hOddZRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_EvenConv (hEvenConv := hEvenConv)
    ∧ quiescent_EvenConvIdeal (hEvenConvIdeal := hEvenConvIdeal)
    ∧ quiescent_EvenConvRefIdeal (hEvenConvRefIdeal := hEvenConvRefIdeal)
    ∧ quiescent_EvenQkv (hEvenQkv := hEvenQkv)
    ∧ quiescent_EvenQkvIdeal (hEvenQkvIdeal := hEvenQkvIdeal)
    ∧ quiescent_EvenQkvRefIdeal (hEvenQkvRefIdeal := hEvenQkvRefIdeal)
    ∧ quiescent_PleGate (hPleGate := hPleGate)
    ∧ quiescent_PleGateIdeal (hPleGateIdeal := hPleGateIdeal)
    ∧ quiescent_PleGateRefIdeal (hPleGateRefIdeal := hPleGateRefIdeal)
    ∧ quiescent_PleProj (hPleProj := hPleProj)
    ∧ quiescent_PleProjIdeal (hPleProjIdeal := hPleProjIdeal)
    ∧ quiescent_PleProjRefIdeal (hPleProjRefIdeal := hPleProjRefIdeal)
    ∧ quiescent_AdamEvenIn (hAdamEvenIn := hAdamEvenIn)
    ∧ quiescent_AdamEvenInIdeal (hAdamEvenInIdeal := hAdamEvenInIdeal)
    ∧ quiescent_AdamEvenInRefIdeal (hAdamEvenInRefIdeal := hAdamEvenInRefIdeal)
    ∧ quiescent_AdamEvenOut (hAdamEvenOut := hAdamEvenOut)
    ∧ quiescent_AdamEvenOutIdeal (hAdamEvenOutIdeal := hAdamEvenOutIdeal)
    ∧ quiescent_AdamEvenOutRefIdeal (hAdamEvenOutRefIdeal := hAdamEvenOutRefIdeal)
    ∧ quiescent_AdamOddIn (hAdamOddIn := hAdamOddIn)
    ∧ quiescent_AdamOddInIdeal (hAdamOddInIdeal := hAdamOddInIdeal)
    ∧ quiescent_AdamOddInRefIdeal (hAdamOddInRefIdeal := hAdamOddInRefIdeal)
    ∧ quiescent_AdamOddOut (hAdamOddOut := hAdamOddOut)
    ∧ quiescent_AdamOddOutIdeal (hAdamOddOutIdeal := hAdamOddOutIdeal)
    ∧ quiescent_AdamOddOutRefIdeal (hAdamOddOutRefIdeal := hAdamOddOutRefIdeal)
    ∧ quiescent_AdamFfnUp (hAdamFfnUp := hAdamFfnUp)
    ∧ quiescent_AdamFfnUpIdeal (hAdamFfnUpIdeal := hAdamFfnUpIdeal)
    ∧ quiescent_AdamFfnUpRefIdeal (hAdamFfnUpRefIdeal := hAdamFfnUpRefIdeal)
    ∧ quiescent_AdamFfnDown (hAdamFfnDown := hAdamFfnDown)
    ∧ quiescent_AdamFfnDownIdeal (hAdamFfnDownIdeal := hAdamFfnDownIdeal)
    ∧ quiescent_AdamFfnDownRefIdeal (hAdamFfnDownRefIdeal := hAdamFfnDownRefIdeal)
    ∧ quiescent_AdamPleProj (hAdamPleProj := hAdamPleProj)
    ∧ quiescent_AdamPleProjIdeal (hAdamPleProjIdeal := hAdamPleProjIdeal)
    ∧ quiescent_AdamPleProjRefIdeal (hAdamPleProjRefIdeal := hAdamPleProjRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
    ∧ preserves_DownGrad_DownGradIdeal
    ∧ algebraic_DownGradIdeal_DownGradRefIdeal (hDownGradIdeal := hDownGradIdeal) (hDownGradRefIdeal := hDownGradRefIdeal)
    ∧ preserves_DownBack_DownBackIdeal
    ∧ algebraic_DownBackIdeal_DownBackRefIdeal (hDownBackIdeal := hDownBackIdeal) (hDownBackRefIdeal := hDownBackRefIdeal)
    ∧ preserves_UpGrad_UpGradIdeal
    ∧ algebraic_UpGradIdeal_UpGradRefIdeal (hUpGradIdeal := hUpGradIdeal) (hUpGradRefIdeal := hUpGradRefIdeal)
    ∧ preserves_UpBackG_UpBackGIdeal
    ∧ algebraic_UpBackGIdeal_UpBackGRefIdeal (hUpBackGIdeal := hUpBackGIdeal) (hUpBackGRefIdeal := hUpBackGRefIdeal)
    ∧ preserves_UpBackV_UpBackVIdeal
    ∧ algebraic_UpBackVIdeal_UpBackVRefIdeal (hUpBackVIdeal := hUpBackVIdeal) (hUpBackVRefIdeal := hUpBackVRefIdeal)
    ∧ preserves_OddXGrad_OddXGradIdeal
    ∧ algebraic_OddXGradIdeal_OddXGradRefIdeal (hOddXGradIdeal := hOddXGradIdeal) (hOddXGradRefIdeal := hOddXGradRefIdeal)
    ∧ preserves_OddXBack_OddXBackIdeal
    ∧ algebraic_OddXBackIdeal_OddXBackRefIdeal (hOddXBackIdeal := hOddXBackIdeal) (hOddXBackRefIdeal := hOddXBackRefIdeal)
    ∧ preserves_OddOutGrad_OddOutGradIdeal
    ∧ algebraic_OddOutGradIdeal_OddOutGradRefIdeal (hOddOutGradIdeal := hOddOutGradIdeal) (hOddOutGradRefIdeal := hOddOutGradRefIdeal)
    ∧ preserves_OddOutBack_OddOutBackIdeal
    ∧ algebraic_OddOutBackIdeal_OddOutBackRefIdeal (hOddOutBackIdeal := hOddOutBackIdeal) (hOddOutBackRefIdeal := hOddOutBackRefIdeal)
    ∧ preserves_OddZGrad_OddZGradIdeal
    ∧ algebraic_OddZGradIdeal_OddZGradRefIdeal (hOddZGradIdeal := hOddZGradIdeal) (hOddZGradRefIdeal := hOddZGradRefIdeal)
    ∧ preserves_OddZBack_OddZBackIdeal
    ∧ algebraic_OddZBackIdeal_OddZBackRefIdeal (hOddZBackIdeal := hOddZBackIdeal) (hOddZBackRefIdeal := hOddZBackRefIdeal)
    ∧ preserves_EvenInGrad_EvenInGradIdeal
    ∧ algebraic_EvenInGradIdeal_EvenInGradRefIdeal (hEvenInGradIdeal := hEvenInGradIdeal) (hEvenInGradRefIdeal := hEvenInGradRefIdeal)
    ∧ preserves_ConvBack_ConvBackIdeal
    ∧ algebraic_ConvBackIdeal_ConvBackRefIdeal (hConvBackIdeal := hConvBackIdeal) (hConvBackRefIdeal := hConvBackRefIdeal)
    ∧ preserves_QkvBack_QkvBackIdeal
    ∧ algebraic_QkvBackIdeal_QkvBackRefIdeal (hQkvBackIdeal := hQkvBackIdeal) (hQkvBackRefIdeal := hQkvBackRefIdeal)
    ∧ preserves_GateGrad_GateGradIdeal
    ∧ algebraic_GateGradIdeal_GateGradRefIdeal (hGateGradIdeal := hGateGradIdeal) (hGateGradRefIdeal := hGateGradRefIdeal)
    ∧ preserves_GateBack_GateBackIdeal
    ∧ algebraic_GateBackIdeal_GateBackRefIdeal (hGateBackIdeal := hGateBackIdeal) (hGateBackRefIdeal := hGateBackRefIdeal)
    ∧ preserves_ProjGrad_ProjGradIdeal
    ∧ algebraic_ProjGradIdeal_ProjGradRefIdeal (hProjGradIdeal := hProjGradIdeal) (hProjGradRefIdeal := hProjGradRefIdeal)
    ∧ preserves_EvenOutBack_EvenOutBackIdeal
    ∧ algebraic_EvenOutBackIdeal_EvenOutBackRefIdeal (hEvenOutBackIdeal := hEvenOutBackIdeal) (hEvenOutBackRefIdeal := hEvenOutBackRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_OddX_OddXIdeal
    ∧ algebraic_OddXIdeal_OddXRefIdeal (hOddXIdeal := hOddXIdeal) (hOddXRefIdeal := hOddXRefIdeal)
    ∧ preserves_OddZ_OddZIdeal
    ∧ algebraic_OddZIdeal_OddZRefIdeal (hOddZIdeal := hOddZIdeal) (hOddZRefIdeal := hOddZRefIdeal)
    ∧ preserves_OddOut_OddOutIdeal
    ∧ algebraic_OddOutIdeal_OddOutRefIdeal (hOddOutIdeal := hOddOutIdeal) (hOddOutRefIdeal := hOddOutRefIdeal)
    ∧ preserves_EvenConv_EvenConvIdeal
    ∧ algebraic_EvenConvIdeal_EvenConvRefIdeal (hEvenConvIdeal := hEvenConvIdeal) (hEvenConvRefIdeal := hEvenConvRefIdeal)
    ∧ preserves_EvenQkv_EvenQkvIdeal
    ∧ algebraic_EvenQkvIdeal_EvenQkvRefIdeal (hEvenQkvIdeal := hEvenQkvIdeal) (hEvenQkvRefIdeal := hEvenQkvRefIdeal)
    ∧ preserves_PleGate_PleGateIdeal
    ∧ algebraic_PleGateIdeal_PleGateRefIdeal (hPleGateIdeal := hPleGateIdeal) (hPleGateRefIdeal := hPleGateRefIdeal)
    ∧ preserves_PleProj_PleProjIdeal
    ∧ algebraic_PleProjIdeal_PleProjRefIdeal (hPleProjIdeal := hPleProjIdeal) (hPleProjRefIdeal := hPleProjRefIdeal)
    ∧ preserves_AdamEvenIn_AdamEvenInIdeal
    ∧ algebraic_AdamEvenInIdeal_AdamEvenInRefIdeal (hAdamEvenInIdeal := hAdamEvenInIdeal) (hAdamEvenInRefIdeal := hAdamEvenInRefIdeal)
    ∧ preserves_AdamEvenOut_AdamEvenOutIdeal
    ∧ algebraic_AdamEvenOutIdeal_AdamEvenOutRefIdeal (hAdamEvenOutIdeal := hAdamEvenOutIdeal) (hAdamEvenOutRefIdeal := hAdamEvenOutRefIdeal)
    ∧ preserves_AdamOddIn_AdamOddInIdeal
    ∧ algebraic_AdamOddInIdeal_AdamOddInRefIdeal (hAdamOddInIdeal := hAdamOddInIdeal) (hAdamOddInRefIdeal := hAdamOddInRefIdeal)
    ∧ preserves_AdamOddOut_AdamOddOutIdeal
    ∧ algebraic_AdamOddOutIdeal_AdamOddOutRefIdeal (hAdamOddOutIdeal := hAdamOddOutIdeal) (hAdamOddOutRefIdeal := hAdamOddOutRefIdeal)
    ∧ preserves_AdamFfnUp_AdamFfnUpIdeal
    ∧ algebraic_AdamFfnUpIdeal_AdamFfnUpRefIdeal (hAdamFfnUpIdeal := hAdamFfnUpIdeal) (hAdamFfnUpRefIdeal := hAdamFfnUpRefIdeal)
    ∧ preserves_AdamFfnDown_AdamFfnDownIdeal
    ∧ algebraic_AdamFfnDownIdeal_AdamFfnDownRefIdeal (hAdamFfnDownIdeal := hAdamFfnDownIdeal) (hAdamFfnDownRefIdeal := hAdamFfnDownRefIdeal)
    ∧ preserves_AdamPleProj_AdamPleProjIdeal
    ∧ algebraic_AdamPleProjIdeal_AdamPleProjRefIdeal (hAdamPleProjIdeal := hAdamPleProjIdeal) (hAdamPleProjRefIdeal := hAdamPleProjRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_finite_arguments.lean ====
abbrev S8192x512 : Shape := ⟨2, ![8192, 512]⟩
abbrev S8x8192 : Shape := ⟨2, ![8, 8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8x8192 : S_.BroadcastsInDim S8x8192 (![] : Fin 0 → Fin S8x8192.rank)
  reducesTo_S8x8192_S_d0_1 : S8x8192.ReducesTo [0, 1] S_

variable [Facts]

def fn_part1 {F : FTy → Type} [FloatOps F] (main_arg4 : FVec F S8192x512 .f32) (main_v3 : IVec S_ 1) (main_v7 : IVec S_ 1) (main_v11 : IVec S_ 1) (main_v15 : IVec S_ 1) : IVec S_ 1 :=
  let main_v16 : FVec F S8192x512 .f32 := Host.absf main_arg4
  let main_cst_6 : FVec F S_ .f32 := constant S_ .f32 0x7F800000#32
  let main_v17 : FVec F S8192x512 .f32 := broadcastInDim S8192x512 ![] bcast_S_S8192x512 main_cst_6
  let main_v18 : IVec S8192x512 1 := cmpf .olt main_v16 main_v17
  let main_c_7 : IVec S_ 1 := constantI S_ 1 1#1
  let main_v19 : IVec S_ 1 := (fun x v => Host.reduce IntOp.andi x v reducesTo_S8192x512_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8192x512 .f32) (main_arg1 : FVec F S8192x512 .f32) (main_arg2 : FVec F S8192x512 .f32) (main_arg3 : FVec F S8x8192 .f32) (main_arg4 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : FVec F S8192x512 .f32 := Host.absf main_arg2
  let main_cst_2 : FVec F S_ .f32 := constant S_ .f32 0x7F800000#32
  let main_v9 : FVec F S8192x512 .f32 := broadcastInDim S8192x512 ![] bcast_S_S8192x512 main_cst_2
  let main_v10 : IVec S8192x512 1 := cmpf .olt main_v8 main_v9
  let main_c_3 : IVec S_ 1 := constantI S_ 1 1#1
  let main_v11 : IVec S_ 1 := (fun x v => Host.reduce IntOp.andi x v reducesTo_S8192x512_S_d0_1 h_S_) main_v10 main_c_3
  let main_v12 : FVec F S8x8192 .f32 := Host.absf main_arg3
  let main_cst_4 : FVec F S_ .f32 := constant S_ .f32 0x7F800000#32
  let main_v13 : FVec F S8x8192 .f32 := broadcastInDim S8x8192 ![] bcast_S_S8x8192 main_cst_4
  let main_v14 : IVec S8x8192 1 := cmpf .olt main_v12 main_v13
  let main_c_5 : IVec S_ 1 := constantI S_ 1 1#1
  let main_v15 : IVec S_ 1 := (fun x v => Host.reduce IntOp.andi x v reducesTo_S8x8192_S_d0_1 h_S_) main_v14 main_c_5
  fn_part1 (F := F) main_arg4 main_v3 main_v7 main_v11 main_v15
-- ==== Kernel.lean ====
abbrev S8192x512 : Shape := ⟨2, ![8192, 512]⟩
abbrev S8x8192 : Shape := ⟨2, ![8, 8192]⟩
abbrev S8192x1536 : Shape := ⟨2, ![8192, 1536]⟩
abbrev S8192x8x64 : Shape := ⟨3, ![8192, 8, 64]⟩
abbrev S8x8192x64 : Shape := ⟨3, ![8, 8192, 64]⟩
abbrev S8x8192x8192 : Shape := ⟨3, ![8, 8192, 8192]⟩
abbrev S_ : Shape := ⟨0, ![]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S256x128 : Shape := ⟨2, ![256, 128]⟩
abbrev S8192x128 : Shape := ⟨2, ![8192, 128]⟩
abbrev S2x256x1 : Shape := ⟨3, ![2, 256, 1]⟩
abbrev S2x1x8192 : Shape := ⟨3, ![2, 1, 8192]⟩
abbrev S16x256x512 : Shape := ⟨3, ![16, 256, 512]⟩
abbrev S1x256x1 : Shape := ⟨3, ![1, 256, 1]⟩
abbrev S256x1 : Shape := ⟨2, ![256, 1]⟩
abbrev S512x128 : Shape := ⟨2, ![512, 128]⟩
abbrev S256x512 : Shape := ⟨2, ![256, 512]⟩
abbrev S1x1x512 : Shape := ⟨3, ![1, 1, 512]⟩
abbrev S1x512 : Shape := ⟨2, ![1, 512]⟩
abbrev S1x256x512 : Shape := ⟨3, ![1, 256, 512]⟩
abbrev S256 : Shape := ⟨1, ![256]⟩
abbrev S512 : Shape := ⟨1, ![512]⟩

abbrev nBuf : Space → Nat
  | .hbm => 50
  | .vmem => 24
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8x8192, .f32⟩
  | .hbm, ⟨4, _⟩ => ⟨S8192x512, .f32⟩
  | .hbm, ⟨5, _⟩ => ⟨S8192x1536, .f32⟩
  | .hbm, ⟨6, _⟩ => ⟨S8192x1536, .bf16⟩
  | .hbm, ⟨7, _⟩ => ⟨S8192x8x64, .f32⟩
  | .hbm, ⟨8, _⟩ => ⟨S8x8192x64, .f32⟩
  | .hbm, ⟨9, _⟩ => ⟨S8192x8x64, .f32⟩
  | .hbm, ⟨10, _⟩ => ⟨S8x8192x64, .f32⟩
  | .hbm, ⟨11, _⟩ => ⟨S8x8192x8192, .f32⟩
  | .hbm, ⟨12, _⟩ => ⟨S_, .f32⟩
  | .hbm, ⟨13, _⟩ => ⟨S8x8192x8192, .f32⟩
  | .hbm, ⟨14, _⟩ => ⟨S8x8192x8192, .f32⟩
  | .hbm, ⟨15, _⟩ => ⟨S8x8192x1, .f32⟩
  | .hbm, ⟨16, _⟩ => ⟨S8x8192x8192, .f32⟩
  | .hbm, ⟨17, _⟩ => ⟨S8x8192x8192, .f32⟩
  | .hbm, ⟨18, _⟩ => ⟨S8x1x8192, .f32⟩
  | .hbm, ⟨19, _⟩ => ⟨S8x8192x8192, .f32⟩
  | .hbm, ⟨20, _⟩ => ⟨S8x8192x8192, .f32⟩
  | .hbm, ⟨21, _⟩ => ⟨S8192, .i32⟩
  | .hbm, ⟨22, _⟩ => ⟨S1x8192, .i32⟩
  | .hbm, ⟨23, _⟩ => ⟨S8192x1, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S_, .f32⟩
  | .hbm, ⟨28, _⟩ => ⟨S_, .f32⟩
  | .hbm, ⟨29, _⟩ => ⟨S8x8192x8192, .i1⟩
  | .hbm, ⟨30, _⟩ => ⟨S8x8192x8192, .f32⟩
  | .hbm, ⟨31, _⟩ => ⟨S8x8192x8192, .f32⟩
  | .hbm, ⟨32, _⟩ => ⟨S_, .f32⟩
  | .hbm, ⟨33, _⟩ => ⟨S8x8192, .f32⟩
  | .hbm, ⟨34, _⟩ => ⟨S8x8192x1, .f32⟩
  | .hbm, ⟨35, _⟩ => ⟨S8x8192x8192, .f32⟩
  | .hbm, ⟨36, _⟩ => ⟨S8x8192x8192, .f32⟩
  | .hbm, ⟨37, _⟩ => ⟨S8x8192x8192, .f32⟩
  | .hbm, ⟨38, _⟩ => ⟨S_, .f32⟩
  | .hbm, ⟨39, _⟩ => ⟨S8x8192, .f32⟩
  | .hbm, ⟨40, _⟩ => ⟨S8x8192x1, .f32⟩
  | .hbm, ⟨41, _⟩ => ⟨S8x8192x1, .f32⟩
  | .hbm, ⟨42, _⟩ => ⟨S8x8192x1, .f32⟩
  | .hbm, ⟨43, _⟩ => ⟨S8x8192x1, .f32⟩
  | .hbm, ⟨44, _⟩ => ⟨S8x1x8192, .f32⟩
  | .hbm, ⟨45, _⟩ => ⟨S8192x512, .bf16⟩
  | .hbm, ⟨46, _⟩ => ⟨S8192x512, .bf16⟩
  | .hbm, ⟨47, _⟩ => ⟨S8192x512, .f32⟩
  | .hbm, ⟨48, _⟩ => ⟨S8192x512, .f32⟩
  | .hbm, ⟨49, _⟩ => ⟨S8x1x8192, .f32⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S2x256x1, .f32⟩
  | .local _ .vmem, ⟨7, _⟩ => ⟨S2x256x1, .f32⟩
  | .local _ .vmem, ⟨8, _⟩ => ⟨S2x1x8192, .f32⟩
  | .local _ .vmem, ⟨9, _⟩ => ⟨S2x1x8192, .f32⟩
  | .local _ .vmem, ⟨10, _⟩ => ⟨S2x256x1, .f32⟩
  | .local _ .vmem, ⟨11, _⟩ => ⟨S2x256x1, .f32⟩
  | .local _ .vmem, ⟨12, _⟩ => ⟨S256x128, .bf16⟩
  | .local _ .vmem, ⟨13, _⟩ => ⟨S256x128, .bf16⟩
  | .local _ .vmem, ⟨14, _⟩ => ⟨S256x128, .bf16⟩
  | .local _ .vmem, ⟨15, _⟩ => ⟨S256x128, .bf16⟩
  | .local _ .vmem, ⟨16, _⟩ => ⟨S8192x128, .f32⟩
  | .local _ .vmem, ⟨17, _⟩ => ⟨S8192x128, .f32⟩
  | .local _ .vmem, ⟨18, _⟩ => ⟨S8192x128, .f32⟩
  | .local _ .vmem, ⟨19, _⟩ => ⟨S8192x128, .f32⟩
  | .local _ .vmem, ⟨20, _⟩ => ⟨S2x1x8192, .f32⟩
  | .local _ .vmem, ⟨21, _⟩ => ⟨S2x1x8192, .f32⟩
  | .local _ .vmem, ⟨22, _⟩ => ⟨S16x256x512, .f32⟩
  | .local _ .vmem, ⟨23, _⟩ => ⟨S16x256x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34_0 : Ref sig .tc := ⟨.hbm, 46, rfl⟩
abbrev main_v34_1 : Ref sig .tc := ⟨.hbm, 47, rfl⟩
abbrev main_v34_2 : Ref sig .tc := ⟨.hbm, 48, rfl⟩
abbrev main_v34_3 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 32], ![false, false]⟩

@[reducible] def k0_t1_loop (i : grid0.Coords) : Scf.Loop 32 :=
  let c0_i32_22 : BitVec 32 := 0#32
  let arg1 : BitVec 32 := BitVec.ofNat 32 (i 1).val
  let c256_i32 : BitVec 32 := 256#32
  let v18 : BitVec 32 := Scalar.muli arg1 c256_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c512_i32 : BitVec 32 := 512#32
  let c0_i32_8 : BitVec 32 := 0#32
  let v25 : BitVec 1 := Scalar.cmpi .sgt c512_i32 c0_i32_8
  let v26 : BitVec 32 := Scalar.extui v25
  let c0_i32_9 : BitVec 32 := 0#32
  let v27 : BitVec 1 := Scalar.cmpi .slt c512_i32 c0_i32_9
  let v28 : BitVec 32 := Scalar.extui v27
  let v29 : BitVec 32 := Scalar.subi v26 v28
  let v30 : BitVec 1 := Scalar.cmpi .ne v24 v29
  let v31 : BitVec 32 := Scalar.remsi v18 c512_i32
  let c0_i32_10 : BitVec 32 := 0#32
  let v32 : BitVec 1 := Scalar.cmpi .ne v31 c0_i32_10
  let v33 : BitVec 1 := Scalar.andi v30 v32
  let v19 : BitVec 32 := Scalar.divsi v18 c512_i32
  let c1_i32 : BitVec 32 := 1#32
  let v34 : BitVec 32 := Scalar.subi v19 c1_i32
  let v35 : BitVec 32 := Scalar.select v33 v34 v19
  let v51 : BitVec 32 := Scalar.subi v35 c0_i32_22
  let c1_i32_23 : BitVec 32 := 1#32
  let v53 : BitVec 32 := Scalar.divsi v51 c1_i32_23
  let v54 : BitVec 32 := Scalar.muli v53 c1_i32_23
  let v55 : BitVec 32 := Scalar.addi c0_i32_22 v54
  let c1_i32_24 : BitVec 32 := 1#32
  ⟨c0_i32_22, v55, c1_i32_24⟩
def k0_mult1 (i : grid0.Coords) (k0_t1 : Fin (k0_t1_loop i).trips) : BitVec 32 :=
  let c0_i32_22 : BitVec 32 := 0#32
  let c1_i32_24 : BitVec 32 := 1#32
  let arg15 : BitVec 32 := Scf.iv c0_i32_22 c1_i32_24 k0_t1
  let c512_i32_82 : BitVec 32 := 512#32
  let v185 : BitVec 32 := Scalar.muli arg15 c512_i32_82
  v185
def k0_off1 (i : grid0.Coords) (k0_t1 : Fin (k0_t1_loop i).trips) : Fin 2 → Nat :=
  let c0_i32_22 : BitVec 32 := 0#32
  let c1_i32_24 : BitVec 32 := 1#32
  let arg15 : BitVec 32 := Scf.iv c0_i32_22 c1_i32_24 k0_t1
  let c512_i32_82 : BitVec 32 := 512#32
  let v185 : BitVec 32 := Scalar.muli arg15 c512_i32_82
  let v186 : BitVec 32 := v185
  let v187 : Index := Scalar.indexCast v186
  let c0_83 : Index := 0#32
  ![v187.toNat, 0]
def k0_off2 (i : grid0.Coords) (k0_t1 : Fin (k0_t1_loop i).trips) : Fin 3 → Nat :=
  let c0_86 : Index := 0#32
  let c0_87 : Index := 0#32
  let c0_i32_22 : BitVec 32 := 0#32
  let c1_i32_24 : BitVec 32 := 1#32
  let arg15 : BitVec 32 := Scf.iv c0_i32_22 c1_i32_24 k0_t1
  let c512_i32_82 : BitVec 32 := 512#32
  let v185 : BitVec 32 := Scalar.muli arg15 c512_i32_82
  let v186 : BitVec 32 := v185
  let v193 : Index := Scalar.indexCast v186
  ![0, 0, v193.toNat]
def k0_off3 (i : grid0.Coords) (k0_t1 : Fin (k0_t1_loop i).trips) : Fin 3 → Nat :=
  let c0_i32_22 : BitVec 32 := 0#32
  let c1_i32_24 : BitVec 32 := 1#32
  let arg15 : BitVec 32 := Scf.iv c0_i32_22 c1_i32_24 k0_t1
  let v207 : Index := Scalar.indexCast arg15
  let c0_90 : Index := 0#32
  let c0_91 : Index := 0#32
  ![v207.toNat, 0, 0]
@[reducible] def k0_t2_loop (i : grid0.Coords) : Scf.Loop 32 :=
  let c0_i32_22 : BitVec 32 := 0#32
  let arg1 : BitVec 32 := BitVec.ofNat 32 (i 1).val
  let c256_i32 : BitVec 32 := 256#32
  let v18 : BitVec 32 := Scalar.muli arg1 c256_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c512_i32 : BitVec 32 := 512#32
  let c0_i32_8 : BitVec 32 := 0#32
  let v25 : BitVec 1 := Scalar.cmpi .sgt c512_i32 c0_i32_8
  let v26 : BitVec 32 := Scalar.extui v25
  let c0_i32_9 : BitVec 32 := 0#32
  let v27 : BitVec 1 := Scalar.cmpi .slt c512_i32 c0_i32_9
  let v28 : BitVec 32 := Scalar.extui v27
  let v29 : BitVec 32 := Scalar.subi v26 v28
  let v30 : BitVec 1 := Scalar.cmpi .ne v24 v29
  let v31 : BitVec 32 := Scalar.remsi v18 c512_i32
  let c0_i32_10 : BitVec 32 := 0#32
  let v32 : BitVec 1 := Scalar.cmpi .ne v31 c0_i32_10
  let v33 : BitVec 1 := Scalar.andi v30 v32
  let v19 : BitVec 32 := Scalar.divsi v18 c512_i32
  let c1_i32 : BitVec 32 := 1#32
  let v34 : BitVec 32 := Scalar.subi v19 c1_i32
  let v35 : BitVec 32 := Scalar.select v33 v34 v19
  let v51 : BitVec 32 := Scalar.subi v35 c0_i32_22
  let c1_i32_23 : BitVec 32 := 1#32
  let v53 : BitVec 32 := Scalar.divsi v51 c1_i32_23
  let v54 : BitVec 32 := Scalar.muli v53 c1_i32_23
  let v55 : BitVec 32 := Scalar.addi c0_i32_22 v54
  let v52 : BitVec 32 := Scalar.addi c0_i32_22 v51
  let c1_i32_25 : BitVec 32 := 1#32
  ⟨v55, v52, c1_i32_25⟩
def k0_mult2 (i : grid0.Coords) (k0_t2 : Fin (k0_t2_loop i).trips) : BitVec 32 :=
  let c0_i32_22 : BitVec 32 := 0#32
  let arg1 : BitVec 32 := BitVec.ofNat 32 (i 1).val
  let c256_i32 : BitVec 32 := 256#32
  let v18 : BitVec 32 := Scalar.muli arg1 c256_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c512_i32 : BitVec 32 := 512#32
  let c0_i32_8 : BitVec 32 := 0#32
  let v25 : BitVec 1 := Scalar.cmpi .sgt c512_i32 c0_i32_8
  let v26 : BitVec 32 := Scalar.extui v25
  let c0_i32_9 : BitVec 32 := 0#32
  let v27 : BitVec 1 := Scalar.cmpi .slt c512_i32 c0_i32_9
  let v28 : BitVec 32 := Scalar.extui v27
  let v29 : BitVec 32 := Scalar.subi v26 v28
  let v30 : BitVec 1 := Scalar.cmpi .ne v24 v29
  let v31 : BitVec 32 := Scalar.remsi v18 c512_i32
  let c0_i32_10 : BitVec 32 := 0#32
  let v32 : BitVec 1 := Scalar.cmpi .ne v31 c0_i32_10
  let v33 : BitVec 1 := Scalar.andi v30 v32
  let v19 : BitVec 32 := Scalar.divsi v18 c512_i32
  let c1_i32 : BitVec 32 := 1#32
  let v34 : BitVec 32 := Scalar.subi v19 c1_i32
  let v35 : BitVec 32 := Scalar.select v33 v34 v19
  let v51 : BitVec 32 := Scalar.subi v35 c0_i32_22
  let c1_i32_23 : BitVec 32 := 1#32
  let v53 : BitVec 32 := Scalar.divsi v51 c1_i32_23
  let v54 : BitVec 32 := Scalar.muli v53 c1_i32_23
  let v55 : BitVec 32 := Scalar.addi c0_i32_22 v54
  let c1_i32_25 : BitVec 32 := 1#32
  let arg15 : BitVec 32 := Scf.iv v55 c1_i32_25 k0_t2
  let c512_i32_82 : BitVec 32 := 512#32
  let v185 : BitVec 32 := Scalar.muli arg15 c512_i32_82
  v185
def k0_off4 (i : grid0.Coords) (k0_t2 : Fin (k0_t2_loop i).trips) : Fin 2 → Nat :=
  let c0_i32_22 : BitVec 32 := 0#32
  let arg1 : BitVec 32 := BitVec.ofNat 32 (i 1).val
  let c256_i32 : BitVec 32 := 256#32
  let v18 : BitVec 32 := Scalar.muli arg1 c256_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c512_i32 : BitVec 32 := 512#32
  let c0_i32_8 : BitVec 32 := 0#32
  let v25 : BitVec 1 := Scalar.cmpi .sgt c512_i32 c0_i32_8
  let v26 : BitVec 32 := Scalar.extui v25
  let c0_i32_9 : BitVec 32 := 0#32
  let v27 : BitVec 1 := Scalar.cmpi .slt c512_i32 c0_i32_9
  let v28 : BitVec 32 := Scalar.extui v27
  let v29 : BitVec 32 := Scalar.subi v26 v28
  let v30 : BitVec 1 := Scalar.cmpi .ne v24 v29
  let v31 : BitVec 32 := Scalar.remsi v18 c512_i32
  let c0_i32_10 : BitVec 32 := 0#32
  let v32 : BitVec 1 := Scalar.cmpi .ne v31 c0_i32_10
  let v33 : BitVec 1 := Scalar.andi v30 v32
  let v19 : BitVec 32 := Scalar.divsi v18 c512_i32
  let c1_i32 : BitVec 32 := 1#32
  let v34 : BitVec 32 := Scalar.subi v19 c1_i32
  let v35 : BitVec 32 := Scalar.select v33 v34 v19
  let v51 : BitVec 32 := Scalar.subi v35 c0_i32_22
  let c1_i32_23 : BitVec 32 := 1#32
  let v53 : BitVec 32 := Scalar.divsi v51 c1_i32_23
  let v54 : BitVec 32 := Scalar.muli v53 c1_i32_23
  let v55 : BitVec 32 := Scalar.addi c0_i32_22 v54
  let c1_i32_25 : BitVec 32 := 1#32
  let arg15 : BitVec 32 := Scf.iv v55 c1_i32_25 k0_t2
  let c512_i32_82 : BitVec 32 := 512#32
  let v185 : BitVec 32 := Scalar.muli arg15 c512_i32_82
  let v186 : BitVec 32 := v185
  let v187 : Index := Scalar.indexCast v186
  let c0_83 : Index := 0#32
  ![v187.toNat, 0]
def k0_off5 (i : grid0.Coords) (k0_t2 : Fin (k0_t2_loop i).trips) : Fin 3 → Nat :=
  let c0_86 : Index := 0#32
  let c0_87 : Index := 0#32
  let c0_i32_22 : BitVec 32 := 0#32
  let arg1 : BitVec 32 := BitVec.ofNat 32 (i 1).val
  let c256_i32 : BitVec 32 := 256#32
  let v18 : BitVec 32 := Scalar.muli arg1 c256_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c512_i32 : BitVec 32 := 512#32
  let c0_i32_8 : BitVec 32 := 0#32
  let v25 : BitVec 1 := Scalar.cmpi .sgt c512_i32 c0_i32_8
  let v26 : BitVec 32 := Scalar.extui v25
  let c0_i32_9 : BitVec 32 := 0#32
  let v27 : BitVec 1 := Scalar.cmpi .slt c512_i32 c0_i32_9
  let v28 : BitVec 32 := Scalar.extui v27
  let v29 : BitVec 32 := Scalar.subi v26 v28
  let v30 : BitVec 1 := Scalar.cmpi .ne v24 v29
  let v31 : BitVec 32 := Scalar.remsi v18 c512_i32
  let c0_i32_10 : BitVec 32 := 0#32
  let v32 : BitVec 1 := Scalar.cmpi .ne v31 c0_i32_10
  let v33 : BitVec 1 := Scalar.andi v30 v32
  let v19 : BitVec 32 := Scalar.divsi v18 c512_i32
  let c1_i32 : BitVec 32 := 1#32
  let v34 : BitVec 32 := Scalar.subi v19 c1_i32
  let v35 : BitVec 32 := Scalar.select v33 v34 v19
  let v51 : BitVec 32 := Scalar.subi v35 c0_i32_22
  let c1_i32_23 : BitVec 32 := 1#32
  let v53 : BitVec 32 := Scalar.divsi v51 c1_i32_23
  let v54 : BitVec 32 := Scalar.muli v53 c1_i32_23
  let v55 : BitVec 32 := Scalar.addi c0_i32_22 v54
  let c1_i32_25 : BitVec 32 := 1#32
  let arg15 : BitVec 32 := Scf.iv v55 c1_i32_25 k0_t2
  let c512_i32_82 : BitVec 32 := 512#32
  let v185 : BitVec 32 := Scalar.muli arg15 c512_i32_82
  let v186 : BitVec 32 := v185
  let v193 : Index := Scalar.indexCast v186
  ![0, 0, v193.toNat]
def k0_off6 (i : grid0.Coords) (k0_t2 : Fin (k0_t2_loop i).trips) : Fin 3 → Nat :=
  let c0_i32_22 : BitVec 32 := 0#32
  let arg1 : BitVec 32 := BitVec.ofNat 32 (i 1).val
  let c256_i32 : BitVec 32 := 256#32
  let v18 : BitVec 32 := Scalar.muli arg1 c256_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c512_i32 : BitVec 32 := 512#32
  let c0_i32_8 : BitVec 32 := 0#32
  let v25 : BitVec 1 := Scalar.cmpi .sgt c512_i32 c0_i32_8
  let v26 : BitVec 32 := Scalar.extui v25
  let c0_i32_9 : BitVec 32 := 0#32
  let v27 : BitVec 1 := Scalar.cmpi .slt c512_i32 c0_i32_9
  let v28 : BitVec 32 := Scalar.extui v27
  let v29 : BitVec 32 := Scalar.subi v26 v28
  let v30 : BitVec 1 := Scalar.cmpi .ne v24 v29
  let v31 : BitVec 32 := Scalar.remsi v18 c512_i32
  let c0_i32_10 : BitVec 32 := 0#32
  let v32 : BitVec 1 := Scalar.cmpi .ne v31 c0_i32_10
  let v33 : BitVec 1 := Scalar.andi v30 v32
  let v19 : BitVec 32 := Scalar.divsi v18 c512_i32
  let c1_i32 : BitVec 32 := 1#32
  let v34 : BitVec 32 := Scalar.subi v19 c1_i32
  let v35 : BitVec 32 := Scalar.select v33 v34 v19
  let v51 : BitVec 32 := Scalar.subi v35 c0_i32_22
  let c1_i32_23 : BitVec 32 := 1#32
  let v53 : BitVec 32 := Scalar.divsi v51 c1_i32_23
  let v54 : BitVec 32 := Scalar.muli v53 c1_i32_23
  let v55 : BitVec 32 := Scalar.addi c0_i32_22 v54
  let c1_i32_25 : BitVec 32 := 1#32
  let arg15 : BitVec 32 := Scf.iv v55 c1_i32_25 k0_t2
  let v207 : Index := Scalar.indexCast arg15
  let c0_90 : Index := 0#32
  let c0_91 : Index := 0#32
  ![v207.toNat, 0, 0]
def k0_mult3 (i : grid0.Coords) : BitVec 32 :=
  let arg1 : BitVec 32 := BitVec.ofNat 32 (i 1).val
  let c256_i32 : BitVec 32 := 256#32
  let v18 : BitVec 32 := Scalar.muli arg1 c256_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c512_i32 : BitVec 32 := 512#32
  let c0_i32_8 : BitVec 32 := 0#32
  let v25 : BitVec 1 := Scalar.cmpi .sgt c512_i32 c0_i32_8
  let v26 : BitVec 32 := Scalar.extui v25
  let c0_i32_9 : BitVec 32 := 0#32
  let v27 : BitVec 1 := Scalar.cmpi .slt c512_i32 c0_i32_9
  let v28 : BitVec 32 := Scalar.extui v27
  let v29 : BitVec 32 := Scalar.subi v26 v28
  let v30 : BitVec 1 := Scalar.cmpi .ne v24 v29
  let v31 : BitVec 32 := Scalar.remsi v18 c512_i32
  let c0_i32_10 : BitVec 32 := 0#32
  let v32 : BitVec 1 := Scalar.cmpi .ne v31 c0_i32_10
  let v33 : BitVec 1 := Scalar.andi v30 v32
  let v19 : BitVec 32 := Scalar.divsi v18 c512_i32
  let c1_i32 : BitVec 32 := 1#32
  let v34 : BitVec 32 := Scalar.subi v19 c1_i32
  let v35 : BitVec 32 := Scalar.select v33 v34 v19
  let c512_i32_26 : BitVec 32 := 512#32
  let v58 : BitVec 32 := Scalar.muli v35 c512_i32_26
  v58
def k0_off7 (i : grid0.Coords) : Fin 2 → Nat :=
  let arg1 : BitVec 32 := BitVec.ofNat 32 (i 1).val
  let c256_i32 : BitVec 32 := 256#32
  let v18 : BitVec 32 := Scalar.muli arg1 c256_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c512_i32 : BitVec 32 := 512#32
  let c0_i32_8 : BitVec 32 := 0#32
  let v25 : BitVec 1 := Scalar.cmpi .sgt c512_i32 c0_i32_8
  let v26 : BitVec 32 := Scalar.extui v25
  let c0_i32_9 : BitVec 32 := 0#32
  let v27 : BitVec 1 := Scalar.cmpi .slt c512_i32 c0_i32_9
  let v28 : BitVec 32 := Scalar.extui v27
  let v29 : BitVec 32 := Scalar.subi v26 v28
  let v30 : BitVec 1 := Scalar.cmpi .ne v24 v29
  let v31 : BitVec 32 := Scalar.remsi v18 c512_i32
  let c0_i32_10 : BitVec 32 := 0#32
  let v32 : BitVec 1 := Scalar.cmpi .ne v31 c0_i32_10
  let v33 : BitVec 1 := Scalar.andi v30 v32
  let v19 : BitVec 32 := Scalar.divsi v18 c512_i32
  let c1_i32 : BitVec 32 := 1#32
  let v34 : BitVec 32 := Scalar.subi v19 c1_i32
  let v35 : BitVec 32 := Scalar.select v33 v34 v19
  let c512_i32_26 : BitVec 32 := 512#32
  let v58 : BitVec 32 := Scalar.muli v35 c512_i32_26
  let v59 : BitVec 32 := v58
  let v60 : Index := Scalar.indexCast v59
  let c0_27 : Index := 0#32
  ![v60.toNat, 0]
def k0_off8 (i : grid0.Coords) : Fin 3 → Nat :=
  let c0_30 : Index := 0#32
  let c0_31 : Index := 0#32
  let arg1 : BitVec 32 := BitVec.ofNat 32 (i 1).val
  let c256_i32 : BitVec 32 := 256#32
  let v18 : BitVec 32 := Scalar.muli arg1 c256_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c512_i32 : BitVec 32 := 512#32
  let c0_i32_8 : BitVec 32 := 0#32
  let v25 : BitVec 1 := Scalar.cmpi .sgt c512_i32 c0_i32_8
  let v26 : BitVec 32 := Scalar.extui v25
  let c0_i32_9 : BitVec 32 := 0#32
  let v27 : BitVec 1 := Scalar.cmpi .slt c512_i32 c0_i32_9
  let v28 : BitVec 32 := Scalar.extui v27
  let v29 : BitVec 32 := Scalar.subi v26 v28
  let v30 : BitVec 1 := Scalar.cmpi .ne v24 v29
  let v31 : BitVec 32 := Scalar.remsi v18 c512_i32
  let c0_i32_10 : BitVec 32 := 0#32
  let v32 : BitVec 1 := Scalar.cmpi .ne v31 c0_i32_10
  let v33 : BitVec 1 := Scalar.andi v30 v32
  let v19 : BitVec 32 := Scalar.divsi v18 c512_i32
  let c1_i32 : BitVec 32 := 1#32
  let v34 : BitVec 32 := Scalar.subi v19 c1_i32
  let v35 : BitVec 32 := Scalar.select v33 v34 v19
  let c512_i32_26 : BitVec 32 := 512#32
  let v58 : BitVec 32 := Scalar.muli v35 c512_i32_26
  let v59 : BitVec 32 := v58
  let v66 : Index := Scalar.indexCast v59
  ![0, 0, v66.toNat]
def k0_off9 (i : grid0.Coords) : Fin 3 → Nat :=
  let arg1 : BitVec 32 := BitVec.ofNat 32 (i 1).val
  let c256_i32 : BitVec 32 := 256#32
  let v18 : BitVec 32 := Scalar.muli arg1 c256_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c512_i32 : BitVec 32 := 512#32
  let c0_i32_8 : BitVec 32 := 0#32
  let v25 : BitVec 1 := Scalar.cmpi .sgt c512_i32 c0_i32_8
  let v26 : BitVec 32 := Scalar.extui v25
  let c0_i32_9 : BitVec 32 := 0#32
  let v27 : BitVec 1 := Scalar.cmpi .slt c512_i32 c0_i32_9
  let v28 : BitVec 32 := Scalar.extui v27
  let v29 : BitVec 32 := Scalar.subi v26 v28
  let v30 : BitVec 1 := Scalar.cmpi .ne v24 v29
  let v31 : BitVec 32 := Scalar.remsi v18 c512_i32
  let c0_i32_10 : BitVec 32 := 0#32
  let v32 : BitVec 1 := Scalar.cmpi .ne v31 c0_i32_10
  let v33 : BitVec 1 := Scalar.andi v30 v32
  let v19 : BitVec 32 := Scalar.divsi v18 c512_i32
  let c1_i32 : BitVec 32 := 1#32
  let v34 : BitVec 32 := Scalar.subi v19 c1_i32
  let v35 : BitVec 32 := Scalar.select v33 v34 v19
  let v87 : Index := Scalar.indexCast v35
  let c0_35 : Index := 0#32
  let c0_36 : Index := 0#32
  ![v87.toNat, 0, 0]
@[reducible] def k0_t3_loop (i : grid0.Coords) : Scf.Loop 32 :=
  let c0_i32_42 : BitVec 32 := 0#32
  let arg1 : BitVec 32 := BitVec.ofNat 32 (i 1).val
  let c256_i32 : BitVec 32 := 256#32
  let v18 : BitVec 32 := Scalar.muli arg1 c256_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c512_i32 : BitVec 32 := 512#32
  let c0_i32_8 : BitVec 32 := 0#32
  let v25 : BitVec 1 := Scalar.cmpi .sgt c512_i32 c0_i32_8
  let v26 : BitVec 32 := Scalar.extui v25
  let c0_i32_9 : BitVec 32 := 0#32
  let v27 : BitVec 1 := Scalar.cmpi .slt c512_i32 c0_i32_9
  let v28 : BitVec 32 := Scalar.extui v27
  let v29 : BitVec 32 := Scalar.subi v26 v28
  let v30 : BitVec 1 := Scalar.cmpi .ne v24 v29
  let v31 : BitVec 32 := Scalar.remsi v18 c512_i32
  let c0_i32_10 : BitVec 32 := 0#32
  let v32 : BitVec 1 := Scalar.cmpi .ne v31 c0_i32_10
  let v33 : BitVec 1 := Scalar.andi v30 v32
  let v19 : BitVec 32 := Scalar.divsi v18 c512_i32
  let c1_i32 : BitVec 32 := 1#32
  let v34 : BitVec 32 := Scalar.subi v19 c1_i32
  let v35 : BitVec 32 := Scalar.select v33 v34 v19
  let c1_i32_40 : BitVec 32 := 1#32
  let v99 : BitVec 32 := Scalar.addi v35 c1_i32_40
  let v101 : BitVec 32 := Scalar.subi v99 c0_i32_42
  let c1_i32_43 : BitVec 32 := 1#32
  let v103 : BitVec 32 := Scalar.divsi v101 c1_i32_43
  let v104 : BitVec 32 := Scalar.muli v103 c1_i32_43
  let v105 : BitVec 32 := Scalar.addi c0_i32_42 v104
  let c1_i32_44 : BitVec 32 := 1#32
  ⟨c0_i32_42, v105, c1_i32_44⟩
def k0_mult4 (i : grid0.Coords) (k0_t3 : Fin (k0_t3_loop i).trips) : BitVec 32 :=
  let c0_i32_42 : BitVec 32 := 0#32
  let c1_i32_44 : BitVec 32 := 1#32
  let arg15 : BitVec 32 := Scf.iv c0_i32_42 c1_i32_44 k0_t3
  let c512_i32_82 : BitVec 32 := 512#32
  let v185 : BitVec 32 := Scalar.muli arg15 c512_i32_82
  v185
def k0_off10 (i : grid0.Coords) (k0_t3 : Fin (k0_t3_loop i).trips) : Fin 3 → Nat :=
  let c0_i32_42 : BitVec 32 := 0#32
  let c1_i32_44 : BitVec 32 := 1#32
  let arg15 : BitVec 32 := Scf.iv c0_i32_42 c1_i32_44 k0_t3
  let v187 : Index := Scalar.indexCast arg15
  let c0_83 : Index := 0#32
  let c0_84 : Index := 0#32
  ![v187.toNat, 0, 0]
def k0_off11 (i : grid0.Coords) (k0_t3 : Fin (k0_t3_loop i).trips) : Fin 2 → Nat :=
  let c0_i32_42 : BitVec 32 := 0#32
  let c1_i32_44 : BitVec 32 := 1#32
  let arg15 : BitVec 32 := Scf.iv c0_i32_42 c1_i32_44 k0_t3
  let c512_i32_82 : BitVec 32 := 512#32
  let v185 : BitVec 32 := Scalar.muli arg15 c512_i32_82
  let v186 : BitVec 32 := v185
  let v197 : Index := Scalar.indexCast v186
  let c0_87 : Index := 0#32
  ![v197.toNat, 0]
def k0_off12 (i : grid0.Coords) (k0_t3 : Fin (k0_t3_loop i).trips) : Fin 3 → Nat :=
  let c0_93 : Index := 0#32
  let c0_94 : Index := 0#32
  let c0_i32_42 : BitVec 32 := 0#32
  let c1_i32_44 : BitVec 32 := 1#32
  let arg15 : BitVec 32 := Scf.iv c0_i32_42 c1_i32_44 k0_t3
  let c512_i32_82 : BitVec 32 := 512#32
  let v185 : BitVec 32 := Scalar.muli arg15 c512_i32_82
  let v186 : BitVec 32 := v185
  let v212 : Index := Scalar.indexCast v186
  ![0, 0, v212.toNat]
@[reducible] def k0_t4_loop (i : grid0.Coords) : Scf.Loop 32 :=
  let c0_i32_42 : BitVec 32 := 0#32
  let arg1 : BitVec 32 := BitVec.ofNat 32 (i 1).val
  let c256_i32 : BitVec 32 := 256#32
  let v18 : BitVec 32 := Scalar.muli arg1 c256_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c512_i32 : BitVec 32 := 512#32
  let c0_i32_8 : BitVec 32 := 0#32
  let v25 : BitVec 1 := Scalar.cmpi .sgt c512_i32 c0_i32_8
  let v26 : BitVec 32 := Scalar.extui v25
  let c0_i32_9 : BitVec 32 := 0#32
  let v27 : BitVec 1 := Scalar.cmpi .slt c512_i32 c0_i32_9
  let v28 : BitVec 32 := Scalar.extui v27
  let v29 : BitVec 32 := Scalar.subi v26 v28
  let v30 : BitVec 1 := Scalar.cmpi .ne v24 v29
  let v31 : BitVec 32 := Scalar.remsi v18 c512_i32
  let c0_i32_10 : BitVec 32 := 0#32
  let v32 : BitVec 1 := Scalar.cmpi .ne v31 c0_i32_10
  let v33 : BitVec 1 := Scalar.andi v30 v32
  let v19 : BitVec 32 := Scalar.divsi v18 c512_i32
  let c1_i32 : BitVec 32 := 1#32
  let v34 : BitVec 32 := Scalar.subi v19 c1_i32
  let v35 : BitVec 32 := Scalar.select v33 v34 v19
  let c1_i32_40 : BitVec 32 := 1#32
  let v99 : BitVec 32 := Scalar.addi v35 c1_i32_40
  let v101 : BitVec 32 := Scalar.subi v99 c0_i32_42
  let c1_i32_43 : BitVec 32 := 1#32
  let v103 : BitVec 32 := Scalar.divsi v101 c1_i32_43
  let v104 : BitVec 32 := Scalar.muli v103 c1_i32_43
  let v105 : BitVec 32 := Scalar.addi c0_i32_42 v104
  let v102 : BitVec 32 := Scalar.addi c0_i32_42 v101
  let c1_i32_45 : BitVec 32 := 1#32
  ⟨v105, v102, c1_i32_45⟩
def k0_mult5 (i : grid0.Coords) (k0_t4 : Fin (k0_t4_loop i).trips) : BitVec 32 :=
  let c0_i32_42 : BitVec 32 := 0#32
  let arg1 : BitVec 32 := BitVec.ofNat 32 (i 1).val
  let c256_i32 : BitVec 32 := 256#32
  let v18 : BitVec 32 := Scalar.muli arg1 c256_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c512_i32 : BitVec 32 := 512#32
  let c0_i32_8 : BitVec 32 := 0#32
  let v25 : BitVec 1 := Scalar.cmpi .sgt c512_i32 c0_i32_8
  let v26 : BitVec 32 := Scalar.extui v25
  let c0_i32_9 : BitVec 32 := 0#32
  let v27 : BitVec 1 := Scalar.cmpi .slt c512_i32 c0_i32_9
  let v28 : BitVec 32 := Scalar.extui v27
  let v29 : BitVec 32 := Scalar.subi v26 v28
  let v30 : BitVec 1 := Scalar.cmpi .ne v24 v29
  let v31 : BitVec 32 := Scalar.remsi v18 c512_i32
  let c0_i32_10 : BitVec 32 := 0#32
  let v32 : BitVec 1 := Scalar.cmpi .ne v31 c0_i32_10
  let v33 : BitVec 1 := Scalar.andi v30 v32
  let v19 : BitVec 32 := Scalar.divsi v18 c512_i32
  let c1_i32 : BitVec 32 := 1#32
  let v34 : BitVec 32 := Scalar.subi v19 c1_i32
  let v35 : BitVec 32 := Scalar.select v33 v34 v19
  let c1_i32_40 : BitVec 32 := 1#32
  let v99 : BitVec 32 := Scalar.addi v35 c1_i32_40
  let v101 : BitVec 32 := Scalar.subi v99 c0_i32_42
  let c1_i32_43 : BitVec 32 := 1#32
  let v103 : BitVec 32 := Scalar.divsi v101 c1_i32_43
  let v104 : BitVec 32 := Scalar.muli v103 c1_i32_43
  let v105 : BitVec 32 := Scalar.addi c0_i32_42 v104
  let c1_i32_45 : BitVec 32 := 1#32
  let arg15 : BitVec 32 := Scf.iv v105 c1_i32_45 k0_t4
  let c512_i32_82 : BitVec 32 := 512#32
  let v185 : BitVec 32 := Scalar.muli arg15 c512_i32_82
  v185
def k0_off13 (i : grid0.Coords) (k0_t4 : Fin (k0_t4_loop i).trips) : Fin 3 → Nat :=
  let c0_i32_42 : BitVec 32 := 0#32
  let arg1 : BitVec 32 := BitVec.ofNat 32 (i 1).val
  let c256_i32 : BitVec 32 := 256#32
  let v18 : BitVec 32 := Scalar.muli arg1 c256_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c512_i32 : BitVec 32 := 512#32
  let c0_i32_8 : BitVec 32 := 0#32
  let v25 : BitVec 1 := Scalar.cmpi .sgt c512_i32 c0_i32_8
  let v26 : BitVec 32 := Scalar.extui v25
  let c0_i32_9 : BitVec 32 := 0#32
  let v27 : BitVec 1 := Scalar.cmpi .slt c512_i32 c0_i32_9
  let v28 : BitVec 32 := Scalar.extui v27
  let v29 : BitVec 32 := Scalar.subi v26 v28
  let v30 : BitVec 1 := Scalar.cmpi .ne v24 v29
  let v31 : BitVec 32 := Scalar.remsi v18 c512_i32
  let c0_i32_10 : BitVec 32 := 0#32
  let v32 : BitVec 1 := Scalar.cmpi .ne v31 c0_i32_10
  let v33 : BitVec 1 := Scalar.andi v30 v32
  let v19 : BitVec 32 := Scalar.divsi v18 c512_i32
  let c1_i32 : BitVec 32 := 1#32
  let v34 : BitVec 32 := Scalar.subi v19 c1_i32
  let v35 : BitVec 32 := Scalar.select v33 v34 v19
  let c1_i32_40 : BitVec 32 := 1#32
  let v99 : BitVec 32 := Scalar.addi v35 c1_i32_40
  let v101 : BitVec 32 := Scalar.subi v99 c0_i32_42
  let c1_i32_43 : BitVec 32 := 1#32
  let v103 : BitVec 32 := Scalar.divsi v101 c1_i32_43
  let v104 : BitVec 32 := Scalar.muli v103 c1_i32_43
  let v105 : BitVec 32 := Scalar.addi c0_i32_42 v104
  let c1_i32_45 : BitVec 32 := 1#32
  let arg15 : BitVec 32 := Scf.iv v105 c1_i32_45 k0_t4
  let v187 : Index := Scalar.indexCast arg15
  let c0_83 : Index := 0#32
  let c0_84 : Index := 0#32
  ![v187.toNat, 0, 0]
def k0_off14 (i : grid0.Coords) (k0_t4 : Fin (k0_t4_loop i).trips) : Fin 2 → Nat :=
  let c0_i32_42 : BitVec 32 := 0#32
  let arg1 : BitVec 32 := BitVec.ofNat 32 (i 1).val
  let c256_i32 : BitVec 32 := 256#32
  let v18 : BitVec 32 := Scalar.muli arg1 c256_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c512_i32 : BitVec 32 := 512#32
  let c0_i32_8 : BitVec 32 := 0#32
  let v25 : BitVec 1 := Scalar.cmpi .sgt c512_i32 c0_i32_8
  let v26 : BitVec 32 := Scalar.extui v25
  let c0_i32_9 : BitVec 32 := 0#32
  let v27 : BitVec 1 := Scalar.cmpi .slt c512_i32 c0_i32_9
  let v28 : BitVec 32 := Scalar.extui v27
  let v29 : BitVec 32 := Scalar.subi v26 v28
  let v30 : BitVec 1 := Scalar.cmpi .ne v24 v29
  let v31 : BitVec 32 := Scalar.remsi v18 c512_i32
  let c0_i32_10 : BitVec 32 := 0#32
  let v32 : BitVec 1 := Scalar.cmpi .ne v31 c0_i32_10
  let v33 : BitVec 1 := Scalar.andi v30 v32
  let v19 : BitVec 32 := Scalar.divsi v18 c512_i32
  let c1_i32 : BitVec 32 := 1#32
  let v34 : BitVec 32 := Scalar.subi v19 c1_i32
  let v35 : BitVec 32 := Scalar.select v33 v34 v19
  let c1_i32_40 : BitVec 32 := 1#32
  let v99 : BitVec 32 := Scalar.addi v35 c1_i32_40
  let v101 : BitVec 32 := Scalar.subi v99 c0_i32_42
  let c1_i32_43 : BitVec 32 := 1#32
  let v103 : BitVec 32 := Scalar.divsi v101 c1_i32_43
  let v104 : BitVec 32 := Scalar.muli v103 c1_i32_43
  let v105 : BitVec 32 := Scalar.addi c0_i32_42 v104
  let c1_i32_45 : BitVec 32 := 1#32
  let arg15 : BitVec 32 := Scf.iv v105 c1_i32_45 k0_t4
  let c512_i32_82 : BitVec 32 := 512#32
  let v185 : BitVec 32 := Scalar.muli arg15 c512_i32_82
  let v186 : BitVec 32 := v185
  let v197 : Index := Scalar.indexCast v186
  let c0_87 : Index := 0#32
  ![v197.toNat, 0]
def k0_off15 (i : grid0.Coords) (k0_t4 : Fin (k0_t4_loop i).trips) : Fin 3 → Nat :=
  let c0_93 : Index := 0#32
  let c0_94 : Index := 0#32
  let c0_i32_42 : BitVec 32 := 0#32
  let arg1 : BitVec 32 := BitVec.ofNat 32 (i 1).val
  let c256_i32 : BitVec 32 := 256#32
  let v18 : BitVec 32 := Scalar.muli arg1 c256_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c512_i32 : BitVec 32 := 512#32
  let c0_i32_8 : BitVec 32 := 0#32
  let v25 : BitVec 1 := Scalar.cmpi .sgt c512_i32 c0_i32_8
  let v26 : BitVec 32 := Scalar.extui v25
  let c0_i32_9 : BitVec 32 := 0#32
  let v27 : BitVec 1 := Scalar.cmpi .slt c512_i32 c0_i32_9
  let v28 : BitVec 32 := Scalar.extui v27
  let v29 : BitVec 32 := Scalar.subi v26 v28
  let v30 : BitVec 1 := Scalar.cmpi .ne v24 v29
  let v31 : BitVec 32 := Scalar.remsi v18 c512_i32
  let c0_i32_10 : BitVec 32 := 0#32
  let v32 : BitVec 1 := Scalar.cmpi .ne v31 c0_i32_10
  let v33 : BitVec 1 := Scalar.andi v30 v32
  let v19 : BitVec 32 := Scalar.divsi v18 c512_i32
  let c1_i32 : BitVec 32 := 1#32
  let v34 : BitVec 32 := Scalar.subi v19 c1_i32
  let v35 : BitVec 32 := Scalar.select v33 v34 v19
  let c1_i32_40 : BitVec 32 := 1#32
  let v99 : BitVec 32 := Scalar.addi v35 c1_i32_40
  let v101 : BitVec 32 := Scalar.subi v99 c0_i32_42
  let c1_i32_43 : BitVec 32 := 1#32
  let v103 : BitVec 32 := Scalar.divsi v101 c1_i32_43
  let v104 : BitVec 32 := Scalar.muli v103 c1_i32_43
  let v105 : BitVec 32 := Scalar.addi c0_i32_42 v104
  let c1_i32_45 : BitVec 32 := 1#32
  let arg15 : BitVec 32 := Scf.iv v105 c1_i32_45 k0_t4
  let c512_i32_82 : BitVec 32 := 512#32
  let v185 : BitVec 32 := Scalar.muli arg15 c512_i32_82
  let v186 : BitVec 32 := v185
  let v212 : Index := Scalar.indexCast v186
  ![0, 0, v212.toNat]
@[reducible] def k0_t5_loop (i : grid0.Coords) : Scf.Loop 32 :=
  let c0_i32_54 : BitVec 32 := 0#32
  let arg1 : BitVec 32 := BitVec.ofNat 32 (i 1).val
  let c256_i32 : BitVec 32 := 256#32
  let v18 : BitVec 32 := Scalar.muli arg1 c256_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c512_i32 : BitVec 32 := 512#32
  let c0_i32_8 : BitVec 32 := 0#32
  let v25 : BitVec 1 := Scalar.cmpi .sgt c512_i32 c0_i32_8
  let v26 : BitVec 32 := Scalar.extui v25
  let c0_i32_9 : BitVec 32 := 0#32
  let v27 : BitVec 1 := Scalar.cmpi .slt c512_i32 c0_i32_9
  let v28 : BitVec 32 := Scalar.extui v27
  let v29 : BitVec 32 := Scalar.subi v26 v28
  let v30 : BitVec 1 := Scalar.cmpi .ne v24 v29
  let v31 : BitVec 32 := Scalar.remsi v18 c512_i32
  let c0_i32_10 : BitVec 32 := 0#32
  let v32 : BitVec 1 := Scalar.cmpi .ne v31 c0_i32_10
  let v33 : BitVec 1 := Scalar.andi v30 v32
  let v19 : BitVec 32 := Scalar.divsi v18 c512_i32
  let c1_i32 : BitVec 32 := 1#32
  let v34 : BitVec 32 := Scalar.subi v19 c1_i32
  let v35 : BitVec 32 := Scalar.select v33 v34 v19
  let v120 : BitVec 32 := Scalar.subi v35 c0_i32_54
  let c1_i32_55 : BitVec 32 := 1#32
  let v122 : BitVec 32 := Scalar.divsi v120 c1_i32_55
  let v123 : BitVec 32 := Scalar.muli v122 c1_i32_55
  let v124 : BitVec 32 := Scalar.addi c0_i32_54 v123
  let c1_i32_56 : BitVec 32 := 1#32
  ⟨c0_i32_54, v124, c1_i32_56⟩
def k0_mult6 (i : grid0.Coords) (k0_t5 : Fin (k0_t5_loop i).trips) : BitVec 32 :=
  let c0_i32_54 : BitVec 32 := 0#32
  let c1_i32_56 : BitVec 32 := 1#32
  let arg15 : BitVec 32 := Scf.iv c0_i32_54 c1_i32_56 k0_t5
  let c512_i32_82 : BitVec 32 := 512#32
  let v185 : BitVec 32 := Scalar.muli arg15 c512_i32_82
  v185
def k0_off16 (i : grid0.Coords) (k0_t5 : Fin (k0_t5_loop i).trips) : Fin 2 → Nat :=
  let c0_i32_54 : BitVec 32 := 0#32
  let c1_i32_56 : BitVec 32 := 1#32
  let arg15 : BitVec 32 := Scf.iv c0_i32_54 c1_i32_56 k0_t5
  let c512_i32_82 : BitVec 32 := 512#32
  let v185 : BitVec 32 := Scalar.muli arg15 c512_i32_82
  let v186 : BitVec 32 := v185
  let v187 : Index := Scalar.indexCast v186
  let c0_83 : Index := 0#32
  ![v187.toNat, 0]
def k0_off17 (i : grid0.Coords) (k0_t5 : Fin (k0_t5_loop i).trips) : Fin 3 → Nat :=
  let c1_86 : Index := 1#32
  let c0_87 : Index := 0#32
  let c0_i32_54 : BitVec 32 := 0#32
  let c1_i32_56 : BitVec 32 := 1#32
  let arg15 : BitVec 32 := Scf.iv c0_i32_54 c1_i32_56 k0_t5
  let c512_i32_82 : BitVec 32 := 512#32
  let v185 : BitVec 32 := Scalar.muli arg15 c512_i32_82
  let v186 : BitVec 32 := v185
  let v193 : Index := Scalar.indexCast v186
  ![1, 0, v193.toNat]
def k0_off18 (i : grid0.Coords) (k0_t5 : Fin (k0_t5_loop i).trips) : Fin 3 → Nat :=
  let c0_i32_54 : BitVec 32 := 0#32
  let c1_i32_56 : BitVec 32 := 1#32
  let arg15 : BitVec 32 := Scf.iv c0_i32_54 c1_i32_56 k0_t5
  let v207 : Index := Scalar.indexCast arg15
  let c0_90 : Index := 0#32
  let c0_91 : Index := 0#32
  ![v207.toNat, 0, 0]
@[reducible] def k0_t6_loop (i : grid0.Coords) : Scf.Loop 32 :=
  let c0_i32_54 : BitVec 32 := 0#32
  let arg1 : BitVec 32 := BitVec.ofNat 32 (i 1).val
  let c256_i32 : BitVec 32 := 256#32
  let v18 : BitVec 32 := Scalar.muli arg1 c256_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c512_i32 : BitVec 32 := 512#32
  let c0_i32_8 : BitVec 32 := 0#32
  let v25 : BitVec 1 := Scalar.cmpi .sgt c512_i32 c0_i32_8
  let v26 : BitVec 32 := Scalar.extui v25
  let c0_i32_9 : BitVec 32 := 0#32
  let v27 : BitVec 1 := Scalar.cmpi .slt c512_i32 c0_i32_9
  let v28 : BitVec 32 := Scalar.extui v27
  let v29 : BitVec 32 := Scalar.subi v26 v28
  let v30 : BitVec 1 := Scalar.cmpi .ne v24 v29
  let v31 : BitVec 32 := Scalar.remsi v18 c512_i32
  let c0_i32_10 : BitVec 32 := 0#32
  let v32 : BitVec 1 := Scalar.cmpi .ne v31 c0_i32_10
  let v33 : BitVec 1 := Scalar.andi v30 v32
  let v19 : BitVec 32 := Scalar.divsi v18 c512_i32
  let c1_i32 : BitVec 32 := 1#32
  let v34 : BitVec 32 := Scalar.subi v19 c1_i32
  let v35 : BitVec 32 := Scalar.select v33 v34 v19
  let v120 : BitVec 32 := Scalar.subi v35 c0_i32_54
  let c1_i32_55 : BitVec 32 := 1#32
  let v122 : BitVec 32 := Scalar.divsi v120 c1_i32_55
  let v123 : BitVec 32 := Scalar.muli v122 c1_i32_55
  let v124 : BitVec 32 := Scalar.addi c0_i32_54 v123
  let v121 : BitVec 32 := Scalar.addi c0_i32_54 v120
  let c1_i32_57 : BitVec 32 := 1#32
  ⟨v124, v121, c1_i32_57⟩
def k0_mult7 (i : grid0.Coords) (k0_t6 : Fin (k0_t6_loop i).trips) : BitVec 32 :=
  let c0_i32_54 : BitVec 32 := 0#32
  let arg1 : BitVec 32 := BitVec.ofNat 32 (i 1).val
  let c256_i32 : BitVec 32 := 256#32
  let v18 : BitVec 32 := Scalar.muli arg1 c256_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c512_i32 : BitVec 32 := 512#32
  let c0_i32_8 : BitVec 32 := 0#32
  let v25 : BitVec 1 := Scalar.cmpi .sgt c512_i32 c0_i32_8
  let v26 : BitVec 32 := Scalar.extui v25
  let c0_i32_9 : BitVec 32 := 0#32
  let v27 : BitVec 1 := Scalar.cmpi .slt c512_i32 c0_i32_9
  let v28 : BitVec 32 := Scalar.extui v27
  let v29 : BitVec 32 := Scalar.subi v26 v28
  let v30 : BitVec 1 := Scalar.cmpi .ne v24 v29
  let v31 : BitVec 32 := Scalar.remsi v18 c512_i32
  let c0_i32_10 : BitVec 32 := 0#32
  let v32 : BitVec 1 := Scalar.cmpi .ne v31 c0_i32_10
  let v33 : BitVec 1 := Scalar.andi v30 v32
  let v19 : BitVec 32 := Scalar.divsi v18 c512_i32
  let c1_i32 : BitVec 32 := 1#32
  let v34 : BitVec 32 := Scalar.subi v19 c1_i32
  let v35 : BitVec 32 := Scalar.select v33 v34 v19
  let v120 : BitVec 32 := Scalar.subi v35 c0_i32_54
  let c1_i32_55 : BitVec 32 := 1#32
  let v122 : BitVec 32 := Scalar.divsi v120 c1_i32_55
  let v123 : BitVec 32 := Scalar.muli v122 c1_i32_55
  let v124 : BitVec 32 := Scalar.addi c0_i32_54 v123
  let c1_i32_57 : BitVec 32 := 1#32
  let arg15 : BitVec 32 := Scf.iv v124 c1_i32_57 k0_t6
  let c512_i32_82 : BitVec 32 := 512#32
  let v185 : BitVec 32 := Scalar.muli arg15 c512_i32_82
  v185
def k0_off19 (i : grid0.Coords) (k0_t6 : Fin (k0_t6_loop i).trips) : Fin 2 → Nat :=
  let c0_i32_54 : BitVec 32 := 0#32
  let arg1 : BitVec 32 := BitVec.ofNat 32 (i 1).val
  let c256_i32 : BitVec 32 := 256#32
  let v18 : BitVec 32 := Scalar.muli arg1 c256_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c512_i32 : BitVec 32 := 512#32
  let c0_i32_8 : BitVec 32 := 0#32
  let v25 : BitVec 1 := Scalar.cmpi .sgt c512_i32 c0_i32_8
  let v26 : BitVec 32 := Scalar.extui v25
  let c0_i32_9 : BitVec 32 := 0#32
  let v27 : BitVec 1 := Scalar.cmpi .slt c512_i32 c0_i32_9
  let v28 : BitVec 32 := Scalar.extui v27
  let v29 : BitVec 32 := Scalar.subi v26 v28
  let v30 : BitVec 1 := Scalar.cmpi .ne v24 v29
  let v31 : BitVec 32 := Scalar.remsi v18 c512_i32
  let c0_i32_10 : BitVec 32 := 0#32
  let v32 : BitVec 1 := Scalar.cmpi .ne v31 c0_i32_10
  let v33 : BitVec 1 := Scalar.andi v30 v32
  let v19 : BitVec 32 := Scalar.divsi v18 c512_i32
  let c1_i32 : BitVec 32 := 1#32
  let v34 : BitVec 32 := Scalar.subi v19 c1_i32
  let v35 : BitVec 32 := Scalar.select v33 v34 v19
  let v120 : BitVec 32 := Scalar.subi v35 c0_i32_54
  let c1_i32_55 : BitVec 32 := 1#32
  let v122 : BitVec 32 := Scalar.divsi v120 c1_i32_55
  let v123 : BitVec 32 := Scalar.muli v122 c1_i32_55
  let v124 : BitVec 32 := Scalar.addi c0_i32_54 v123
  let c1_i32_57 : BitVec 32 := 1#32
  let arg15 : BitVec 32 := Scf.iv v124 c1_i32_57 k0_t6
  let c512_i32_82 : BitVec 32 := 512#32
  let v185 : BitVec 32 := Scalar.muli arg15 c512_i32_82
  let v186 : BitVec 32 := v185
  let v187 : Index := Scalar.indexCast v186
  let c0_83 : Index := 0#32
  ![v187.toNat, 0]
def k0_off20 (i : grid0.Coords) (k0_t6 : Fin (k0_t6_loop i).trips) : Fin 3 → Nat :=
  let c1_86 : Index := 1#32
  let c0_87 : Index := 0#32
  let c0_i32_54 : BitVec 32 := 0#32
  let arg1 : BitVec 32 := BitVec.ofNat 32 (i 1).val
  let c256_i32 : BitVec 32 := 256#32
  let v18 : BitVec 32 := Scalar.muli arg1 c256_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c512_i32 : BitVec 32 := 512#32
  let c0_i32_8 : BitVec 32 := 0#32
  let v25 : BitVec 1 := Scalar.cmpi .sgt c512_i32 c0_i32_8
  let v26 : BitVec 32 := Scalar.extui v25
  let c0_i32_9 : BitVec 32 := 0#32
  let v27 : BitVec 1 := Scalar.cmpi .slt c512_i32 c0_i32_9
  let v28 : BitVec 32 := Scalar.extui v27
  let v29 : BitVec 32 := Scalar.subi v26 v28
  let v30 : BitVec 1 := Scalar.cmpi .ne v24 v29
  let v31 : BitVec 32 := Scalar.remsi v18 c512_i32
  let c0_i32_10 : BitVec 32 := 0#32
  let v32 : BitVec 1 := Scalar.cmpi .ne v31 c0_i32_10
  let v33 : BitVec 1 := Scalar.andi v30 v32
  let v19 : BitVec 32 := Scalar.divsi v18 c512_i32
  let c1_i32 : BitVec 32 := 1#32
  let v34 : BitVec 32 := Scalar.subi v19 c1_i32
  let v35 : BitVec 32 := Scalar.select v33 v34 v19
  let v120 : BitVec 32 := Scalar.subi v35 c0_i32_54
  let c1_i32_55 : BitVec 32 := 1#32
  let v122 : BitVec 32 := Scalar.divsi v120 c1_i32_55
  let v123 : BitVec 32 := Scalar.muli v122 c1_i32_55
  let v124 : BitVec 32 := Scalar.addi c0_i32_54 v123
  let c1_i32_57 : BitVec 32 := 1#32
  let arg15 : BitVec 32 := Scf.iv v124 c1_i32_57 k0_t6
  let c512_i32_82 : BitVec 32 := 512#32
  let v185 : BitVec 32 := Scalar.muli arg15 c512_i32_82
  let v186 : BitVec 32 := v185
  let v193 : Index := Scalar.indexCast v186
  ![1, 0, v193.toNat]
def k0_off21 (i : grid0.Coords) (k0_t6 : Fin (k0_t6_loop i).trips) : Fin 3 → Nat :=
  let c0_i32_54 : BitVec 32 := 0#32
  let arg1 : BitVec 32 := BitVec.ofNat 32 (i 1).val
  let c256_i32 : BitVec 32 := 256#32
  let v18 : BitVec 32 := Scalar.muli arg1 c256_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c512_i32 : BitVec 32 := 512#32
  let c0_i32_8 : BitVec 32 := 0#32
  let v25 : BitVec 1 := Scalar.cmpi .sgt c512_i32 c0_i32_8
  let v26 : BitVec 32 := Scalar.extui v25
  let c0_i32_9 : BitVec 32 := 0#32
  let v27 : BitVec 1 := Scalar.cmpi .slt c512_i32 c0_i32_9
  let v28 : BitVec 32 := Scalar.extui v27
  let v29 : BitVec 32 := Scalar.subi v26 v28
  let v30 : BitVec 1 := Scalar.cmpi .ne v24 v29
  let v31 : BitVec 32 := Scalar.remsi v18 c512_i32
  let c0_i32_10 : BitVec 32 := 0#32
  let v32 : BitVec 1 := Scalar.cmpi .ne v31 c0_i32_10
  let v33 : BitVec 1 := Scalar.andi v30 v32
  let v19 : BitVec 32 := Scalar.divsi v18 c512_i32
  let c1_i32 : BitVec 32 := 1#32
  let v34 : BitVec 32 := Scalar.subi v19 c1_i32
  let v35 : BitVec 32 := Scalar.select v33 v34 v19
  let v120 : BitVec 32 := Scalar.subi v35 c0_i32_54
  let c1_i32_55 : BitVec 32 := 1#32
  let v122 : BitVec 32 := Scalar.divsi v120 c1_i32_55
  let v123 : BitVec 32 := Scalar.muli v122 c1_i32_55
  let v124 : BitVec 32 := Scalar.addi c0_i32_54 v123
  let c1_i32_57 : BitVec 32 := 1#32
  let arg15 : BitVec 32 := Scf.iv v124 c1_i32_57 k0_t6
  let v207 : Index := Scalar.indexCast arg15
  let c0_90 : Index := 0#32
  let c0_91 : Index := 0#32
  ![v207.toNat, 0, 0]
def k0_mult8 (i : grid0.Coords) : BitVec 32 :=
  let arg1 : BitVec 32 := BitVec.ofNat 32 (i 1).val
  let c256_i32 : BitVec 32 := 256#32
  let v18 : BitVec 32 := Scalar.muli arg1 c256_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c512_i32 : BitVec 32 := 512#32
  let c0_i32_8 : BitVec 32 := 0#32
  let v25 : BitVec 1 := Scalar.cmpi .sgt c512_i32 c0_i32_8
  let v26 : BitVec 32 := Scalar.extui v25
  let c0_i32_9 : BitVec 32 := 0#32
  let v27 : BitVec 1 := Scalar.cmpi .slt c512_i32 c0_i32_9
  let v28 : BitVec 32 := Scalar.extui v27
  let v29 : BitVec 32 := Scalar.subi v26 v28
  let v30 : BitVec 1 := Scalar.cmpi .ne v24 v29
  let v31 : BitVec 32 := Scalar.remsi v18 c512_i32
  let c0_i32_10 : BitVec 32 := 0#32
  let v32 : BitVec 1 := Scalar.cmpi .ne v31 c0_i32_10
  let v33 : BitVec 1 := Scalar.andi v30 v32
  let v19 : BitVec 32 := Scalar.divsi v18 c512_i32
  let c1_i32 : BitVec 32 := 1#32
  let v34 : BitVec 32 := Scalar.subi v19 c1_i32
  let v35 : BitVec 32 := Scalar.select v33 v34 v19
  let c512_i32_58 : BitVec 32 := 512#32
  let v127 : BitVec 32 := Scalar.muli v35 c512_i32_58
  v127
def k0_off22 (i : grid0.Coords) : Fin 3 → Nat :=
  let c1_62 : Index := 1#32
  let c0_63 : Index := 0#32
  let arg1 : BitVec 32 := BitVec.ofNat 32 (i 1).val
  let c256_i32 : BitVec 32 := 256#32
  let v18 : BitVec 32 := Scalar.muli arg1 c256_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c512_i32 : BitVec 32 := 512#32
  let c0_i32_8 : BitVec 32 := 0#32
  let v25 : BitVec 1 := Scalar.cmpi .sgt c512_i32 c0_i32_8
  let v26 : BitVec 32 := Scalar.extui v25
  let c0_i32_9 : BitVec 32 := 0#32
  let v27 : BitVec 1 := Scalar.cmpi .slt c512_i32 c0_i32_9
  let v28 : BitVec 32 := Scalar.extui v27
  let v29 : BitVec 32 := Scalar.subi v26 v28
  let v30 : BitVec 1 := Scalar.cmpi .ne v24 v29
  let v31 : BitVec 32 := Scalar.remsi v18 c512_i32
  let c0_i32_10 : BitVec 32 := 0#32
  let v32 : BitVec 1 := Scalar.cmpi .ne v31 c0_i32_10
  let v33 : BitVec 1 := Scalar.andi v30 v32
  let v19 : BitVec 32 := Scalar.divsi v18 c512_i32
  let c1_i32 : BitVec 32 := 1#32
  let v34 : BitVec 32 := Scalar.subi v19 c1_i32
  let v35 : BitVec 32 := Scalar.select v33 v34 v19
  let c512_i32_58 : BitVec 32 := 512#32
  let v127 : BitVec 32 := Scalar.muli v35 c512_i32_58
  let v128 : BitVec 32 := v127
  let v135 : Index := Scalar.indexCast v128
  ![1, 0, v135.toNat]
@[reducible] def k0_t7_loop (i : grid0.Coords) : Scf.Loop 32 :=
  let c0_i32_74 : BitVec 32 := 0#32
  let arg1 : BitVec 32 := BitVec.ofNat 32 (i 1).val
  let c256_i32 : BitVec 32 := 256#32
  let v18 : BitVec 32 := Scalar.muli arg1 c256_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c512_i32 : BitVec 32 := 512#32
  let c0_i32_8 : BitVec 32 := 0#32
  let v25 : BitVec 1 := Scalar.cmpi .sgt c512_i32 c0_i32_8
  let v26 : BitVec 32 := Scalar.extui v25
  let c0_i32_9 : BitVec 32 := 0#32
  let v27 : BitVec 1 := Scalar.cmpi .slt c512_i32 c0_i32_9
  let v28 : BitVec 32 := Scalar.extui v27
  let v29 : BitVec 32 := Scalar.subi v26 v28
  let v30 : BitVec 1 := Scalar.cmpi .ne v24 v29
  let v31 : BitVec 32 := Scalar.remsi v18 c512_i32
  let c0_i32_10 : BitVec 32 := 0#32
  let v32 : BitVec 1 := Scalar.cmpi .ne v31 c0_i32_10
  let v33 : BitVec 1 := Scalar.andi v30 v32
  let v19 : BitVec 32 := Scalar.divsi v18 c512_i32
  let c1_i32 : BitVec 32 := 1#32
  let v34 : BitVec 32 := Scalar.subi v19 c1_i32
  let v35 : BitVec 32 := Scalar.select v33 v34 v19
  let c1_i32_72 : BitVec 32 := 1#32
  let v168 : BitVec 32 := Scalar.addi v35 c1_i32_72
  let v170 : BitVec 32 := Scalar.subi v168 c0_i32_74
  let c1_i32_75 : BitVec 32 := 1#32
  let v172 : BitVec 32 := Scalar.divsi v170 c1_i32_75
  let v173 : BitVec 32 := Scalar.muli v172 c1_i32_75
  let v174 : BitVec 32 := Scalar.addi c0_i32_74 v173
  let c1_i32_76 : BitVec 32 := 1#32
  ⟨c0_i32_74, v174, c1_i32_76⟩
def k0_mult9 (i : grid0.Coords) (k0_t7 : Fin (k0_t7_loop i).trips) : BitVec 32 :=
  let c0_i32_74 : BitVec 32 := 0#32
  let c1_i32_76 : BitVec 32 := 1#32
  let arg15 : BitVec 32 := Scf.iv c0_i32_74 c1_i32_76 k0_t7
  let c512_i32_82 : BitVec 32 := 512#32
  let v185 : BitVec 32 := Scalar.muli arg15 c512_i32_82
  v185
def k0_off23 (i : grid0.Coords) (k0_t7 : Fin (k0_t7_loop i).trips) : Fin 3 → Nat :=
  let c0_i32_74 : BitVec 32 := 0#32
  let c1_i32_76 : BitVec 32 := 1#32
  let arg15 : BitVec 32 := Scf.iv c0_i32_74 c1_i32_76 k0_t7
  let v187 : Index := Scalar.indexCast arg15
  let c0_83 : Index := 0#32
  let c0_84 : Index := 0#32
  ![v187.toNat, 0, 0]
def k0_off24 (i : grid0.Coords) (k0_t7 : Fin (k0_t7_loop i).trips) : Fin 2 → Nat :=
  let c0_i32_74 : BitVec 32 := 0#32
  let c1_i32_76 : BitVec 32 := 1#32
  let arg15 : BitVec 32 := Scf.iv c0_i32_74 c1_i32_76 k0_t7
  let c512_i32_82 : BitVec 32 := 512#32
  let v185 : BitVec 32 := Scalar.muli arg15 c512_i32_82
  let v186 : BitVec 32 := v185
  let v197 : Index := Scalar.indexCast v186
  let c0_87 : Index := 0#32
  ![v197.toNat, 0]
def k0_off25 (i : grid0.Coords) (k0_t7 : Fin (k0_t7_loop i).trips) : Fin 3 → Nat :=
  let c1_93 : Index := 1#32
  let c0_94 : Index := 0#32
  let c0_i32_74 : BitVec 32 := 0#32
  let c1_i32_76 : BitVec 32 := 1#32
  let arg15 : BitVec 32 := Scf.iv c0_i32_74 c1_i32_76 k0_t7
  let c512_i32_82 : BitVec 32 := 512#32
  let v185 : BitVec 32 := Scalar.muli arg15 c512_i32_82
  let v186 : BitVec 32 := v185
  let v212 : Index := Scalar.indexCast v186
  ![1, 0, v212.toNat]
@[reducible] def k0_t8_loop (i : grid0.Coords) : Scf.Loop 32 :=
  let c0_i32_74 : BitVec 32 := 0#32
  let arg1 : BitVec 32 := BitVec.ofNat 32 (i 1).val
  let c256_i32 : BitVec 32 := 256#32
  let v18 : BitVec 32 := Scalar.muli arg1 c256_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c512_i32 : BitVec 32 := 512#32
  let c0_i32_8 : BitVec 32 := 0#32
  let v25 : BitVec 1 := Scalar.cmpi .sgt c512_i32 c0_i32_8
  let v26 : BitVec 32 := Scalar.extui v25
  let c0_i32_9 : BitVec 32 := 0#32
  let v27 : BitVec 1 := Scalar.cmpi .slt c512_i32 c0_i32_9
  let v28 : BitVec 32 := Scalar.extui v27
  let v29 : BitVec 32 := Scalar.subi v26 v28
  let v30 : BitVec 1 := Scalar.cmpi .ne v24 v29
  let v31 : BitVec 32 := Scalar.remsi v18 c512_i32
  let c0_i32_10 : BitVec 32 := 0#32
  let v32 : BitVec 1 := Scalar.cmpi .ne v31 c0_i32_10
  let v33 : BitVec 1 := Scalar.andi v30 v32
  let v19 : BitVec 32 := Scalar.divsi v18 c512_i32
  let c1_i32 : BitVec 32 := 1#32
  let v34 : BitVec 32 := Scalar.subi v19 c1_i32
  let v35 : BitVec 32 := Scalar.select v33 v34 v19
  let c1_i32_72 : BitVec 32 := 1#32
  let v168 : BitVec 32 := Scalar.addi v35 c1_i32_72
  let v170 : BitVec 32 := Scalar.subi v168 c0_i32_74
  let c1_i32_75 : BitVec 32 := 1#32
  let v172 : BitVec 32 := Scalar.divsi v170 c1_i32_75
  let v173 : BitVec 32 := Scalar.muli v172 c1_i32_75
  let v174 : BitVec 32 := Scalar.addi c0_i32_74 v173
  let v171 : BitVec 32 := Scalar.addi c0_i32_74 v170
  let c1_i32_77 : BitVec 32 := 1#32
  ⟨v174, v171, c1_i32_77⟩
def k0_mult10 (i : grid0.Coords) (k0_t8 : Fin (k0_t8_loop i).trips) : BitVec 32 :=
  let c0_i32_74 : BitVec 32 := 0#32
  let arg1 : BitVec 32 := BitVec.ofNat 32 (i 1).val
  let c256_i32 : BitVec 32 := 256#32
  let v18 : BitVec 32 := Scalar.muli arg1 c256_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c512_i32 : BitVec 32 := 512#32
  let c0_i32_8 : BitVec 32 := 0#32
  let v25 : BitVec 1 := Scalar.cmpi .sgt c512_i32 c0_i32_8
  let v26 : BitVec 32 := Scalar.extui v25
  let c0_i32_9 : BitVec 32 := 0#32
  let v27 : BitVec 1 := Scalar.cmpi .slt c512_i32 c0_i32_9
  let v28 : BitVec 32 := Scalar.extui v27
  let v29 : BitVec 32 := Scalar.subi v26 v28
  let v30 : BitVec 1 := Scalar.cmpi .ne v24 v29
  let v31 : BitVec 32 := Scalar.remsi v18 c512_i32
  let c0_i32_10 : BitVec 32 := 0#32
  let v32 : BitVec 1 := Scalar.cmpi .ne v31 c0_i32_10
  let v33 : BitVec 1 := Scalar.andi v30 v32
  let v19 : BitVec 32 := Scalar.divsi v18 c512_i32
  let c1_i32 : BitVec 32 := 1#32
  let v34 : BitVec 32 := Scalar.subi v19 c1_i32
  let v35 : BitVec 32 := Scalar.select v33 v34 v19
  let c1_i32_72 : BitVec 32 := 1#32
  let v168 : BitVec 32 := Scalar.addi v35 c1_i32_72
  let v170 : BitVec 32 := Scalar.subi v168 c0_i32_74
  let c1_i32_75 : BitVec 32 := 1#32
  let v172 : BitVec 32 := Scalar.divsi v170 c1_i32_75
  let v173 : BitVec 32 := Scalar.muli v172 c1_i32_75
  let v174 : BitVec 32 := Scalar.addi c0_i32_74 v173
  let c1_i32_77 : BitVec 32 := 1#32
  let arg15 : BitVec 32 := Scf.iv v174 c1_i32_77 k0_t8
  let c512_i32_82 : BitVec 32 := 512#32
  let v185 : BitVec 32 := Scalar.muli arg15 c512_i32_82
  v185
def k0_off26 (i : grid0.Coords) (k0_t8 : Fin (k0_t8_loop i).trips) : Fin 3 → Nat :=
  let c0_i32_74 : BitVec 32 := 0#32
  let arg1 : BitVec 32 := BitVec.ofNat 32 (i 1).val
  let c256_i32 : BitVec 32 := 256#32
  let v18 : BitVec 32 := Scalar.muli arg1 c256_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c512_i32 : BitVec 32 := 512#32
  let c0_i32_8 : BitVec 32 := 0#32
  let v25 : BitVec 1 := Scalar.cmpi .sgt c512_i32 c0_i32_8
  let v26 : BitVec 32 := Scalar.extui v25
  let c0_i32_9 : BitVec 32 := 0#32
  let v27 : BitVec 1 := Scalar.cmpi .slt c512_i32 c0_i32_9
  let v28 : BitVec 32 := Scalar.extui v27
  let v29 : BitVec 32 := Scalar.subi v26 v28
  let v30 : BitVec 1 := Scalar.cmpi .ne v24 v29
  let v31 : BitVec 32 := Scalar.remsi v18 c512_i32
  let c0_i32_10 : BitVec 32 := 0#32
  let v32 : BitVec 1 := Scalar.cmpi .ne v31 c0_i32_10
  let v33 : BitVec 1 := Scalar.andi v30 v32
  let v19 : BitVec 32 := Scalar.divsi v18 c512_i32
  let c1_i32 : BitVec 32 := 1#32
  let v34 : BitVec 32 := Scalar.subi v19 c1_i32
  let v35 : BitVec 32 := Scalar.select v33 v34 v19
  let c1_i32_72 : BitVec 32 := 1#32
  let v168 : BitVec 32 := Scalar.addi v35 c1_i32_72
  let v170 : BitVec 32 := Scalar.subi v168 c0_i32_74
  let c1_i32_75 : BitVec 32 := 1#32
  let v172 : BitVec 32 := Scalar.divsi v170 c1_i32_75
  let v173 : BitVec 32 := Scalar.muli v172 c1_i32_75
  let v174 : BitVec 32 := Scalar.addi c0_i32_74 v173
  let c1_i32_77 : BitVec 32 := 1#32
  let arg15 : BitVec 32 := Scf.iv v174 c1_i32_77 k0_t8
  let v187 : Index := Scalar.indexCast arg15
  let c0_83 : Index := 0#32
  let c0_84 : Index := 0#32
  ![v187.toNat, 0, 0]
def k0_off27 (i : grid0.Coords) (k0_t8 : Fin (k0_t8_loop i).trips) : Fin 2 → Nat :=
  let c0_i32_74 : BitVec 32 := 0#32
  let arg1 : BitVec 32 := BitVec.ofNat 32 (i 1).val
  let c256_i32 : BitVec 32 := 256#32
  let v18 : BitVec 32 := Scalar.muli arg1 c256_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c512_i32 : BitVec 32 := 512#32
  let c0_i32_8 : BitVec 32 := 0#32
  let v25 : BitVec 1 := Scalar.cmpi .sgt c512_i32 c0_i32_8
  let v26 : BitVec 32 := Scalar.extui v25
  let c0_i32_9 : BitVec 32 := 0#32
  let v27 : BitVec 1 := Scalar.cmpi .slt c512_i32 c0_i32_9
  let v28 : BitVec 32 := Scalar.extui v27
  let v29 : BitVec 32 := Scalar.subi v26 v28
  let v30 : BitVec 1 := Scalar.cmpi .ne v24 v29
  let v31 : BitVec 32 := Scalar.remsi v18 c512_i32
  let c0_i32_10 : BitVec 32 := 0#32
  let v32 : BitVec 1 := Scalar.cmpi .ne v31 c0_i32_10
  let v33 : BitVec 1 := Scalar.andi v30 v32
  let v19 : BitVec 32 := Scalar.divsi v18 c512_i32
  let c1_i32 : BitVec 32 := 1#32
  let v34 : BitVec 32 := Scalar.subi v19 c1_i32
  let v35 : BitVec 32 := Scalar.select v33 v34 v19
  let c1_i32_72 : BitVec 32 := 1#32
  let v168 : BitVec 32 := Scalar.addi v35 c1_i32_72
  let v170 : BitVec 32 := Scalar.subi v168 c0_i32_74
  let c1_i32_75 : BitVec 32 := 1#32
  let v172 : BitVec 32 := Scalar.divsi v170 c1_i32_75
  let v173 : BitVec 32 := Scalar.muli v172 c1_i32_75
  let v174 : BitVec 32 := Scalar.addi c0_i32_74 v173
  let c1_i32_77 : BitVec 32 := 1#32
  let arg15 : BitVec 32 := Scf.iv v174 c1_i32_77 k0_t8
  let c512_i32_82 : BitVec 32 := 512#32
  let v185 : BitVec 32 := Scalar.muli arg15 c512_i32_82
  let v186 : BitVec 32 := v185
  let v197 : Index := Scalar.indexCast v186
  let c0_87 : Index := 0#32
  ![v197.toNat, 0]
def k0_off28 (i : grid0.Coords) (k0_t8 : Fin (k0_t8_loop i).trips) : Fin 3 → Nat :=
  let c1_93 : Index := 1#32
  let c0_94 : Index := 0#32
  let c0_i32_74 : BitVec 32 := 0#32
  let arg1 : BitVec 32 := BitVec.ofNat 32 (i 1).val
  let c256_i32 : BitVec 32 := 256#32
  let v18 : BitVec 32 := Scalar.muli arg1 c256_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c512_i32 : BitVec 32 := 512#32
  let c0_i32_8 : BitVec 32 := 0#32
  let v25 : BitVec 1 := Scalar.cmpi .sgt c512_i32 c0_i32_8
  let v26 : BitVec 32 := Scalar.extui v25
  let c0_i32_9 : BitVec 32 := 0#32
  let v27 : BitVec 1 := Scalar.cmpi .slt c512_i32 c0_i32_9
  let v28 : BitVec 32 := Scalar.extui v27
  let v29 : BitVec 32 := Scalar.subi v26 v28
  let v30 : BitVec 1 := Scalar.cmpi .ne v24 v29
  let v31 : BitVec 32 := Scalar.remsi v18 c512_i32
  let c0_i32_10 : BitVec 32 := 0#32
  let v32 : BitVec 1 := Scalar.cmpi .ne v31 c0_i32_10
  let v33 : BitVec 1 := Scalar.andi v30 v32
  let v19 : BitVec 32 := Scalar.divsi v18 c512_i32
  let c1_i32 : BitVec 32 := 1#32
  let v34 : BitVec 32 := Scalar.subi v19 c1_i32
  let v35 : BitVec 32 := Scalar.select v33 v34 v19
  let c1_i32_72 : BitVec 32 := 1#32
  let v168 : BitVec 32 := Scalar.addi v35 c1_i32_72
  let v170 : BitVec 32 := Scalar.subi v168 c0_i32_74
  let c1_i32_75 : BitVec 32 := 1#32
  let v172 : BitVec 32 := Scalar.divsi v170 c1_i32_75
  let v173 : BitVec 32 := Scalar.muli v172 c1_i32_75
  let v174 : BitVec 32 := Scalar.addi c0_i32_74 v173
  let c1_i32_77 : BitVec 32 := 1#32
  let arg15 : BitVec 32 := Scf.iv v174 c1_i32_77 k0_t8
  let c512_i32_82 : BitVec 32 := 512#32
  let v185 : BitVec 32 := Scalar.muli arg15 c512_i32_82
  let v186 : BitVec 32 := v185
  let v212 : Index := Scalar.indexCast v186
  ![1, 0, v212.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2x1x8192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8192x512 : Shape := ⟨2, ![8192, 512]⟩
abbrev S8x8192 : Shape := ⟨2, ![8, 8192]⟩
abbrev S8192x8x64 : Shape := ⟨3, ![8192, 8, 64]⟩
abbrev S8x8192x64 : Shape := ⟨3, ![8, 8192, 64]⟩
abbrev S8x8192x8192 : Shape := ⟨3, ![8, 8192, 8192]⟩
abbrev S_ : Shape := ⟨0, ![]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩

abbrev nBuf : Space → Nat
  | .hbm => 122
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8x8192, .f32⟩
  | .hbm, ⟨4, _⟩ => ⟨S8192x512, .f32⟩
  | .hbm, ⟨5, _⟩ => ⟨S8192x8x64, .f32⟩
  | .hbm, ⟨6, _⟩ => ⟨S8x8192x64, .f32⟩
  | .hbm, ⟨7, _⟩ => ⟨S8192x8x64, .f32⟩
  | .hbm, ⟨8, _⟩ => ⟨S8x8192x64, .f32⟩
  | .hbm, ⟨9, _⟩ => ⟨S8192x8x64, .f32⟩
  | .hbm, ⟨10, _⟩ => ⟨S8x8192x64, .f32⟩
  | .hbm, ⟨11, _⟩ => ⟨S8x8192x8192, .f32⟩
  | .hbm, ⟨12, _⟩ => ⟨S_, .f32⟩
  | .hbm, ⟨13, _⟩ => ⟨S8x8192x8192, .f32⟩
  | .hbm, ⟨14, _⟩ => ⟨S8x8192x8192, .f32⟩
  | .hbm, ⟨15, _⟩ => ⟨S8x8192x1, .f32⟩
  | .hbm, ⟨16, _⟩ => ⟨S8x8192x8192, .f32⟩
  | .hbm, ⟨17, _⟩ => ⟨S8x8192x8192, .f32⟩
  | .hbm, ⟨18, _⟩ => ⟨S8x1x8192, .f32⟩
  | .hbm, ⟨19, _⟩ => ⟨S8x8192x8192, .f32⟩
  | .hbm, ⟨20, _⟩ => ⟨S8x8192x8192, .f32⟩
  | .hbm, ⟨21, _⟩ => ⟨S8192, .i32⟩
  | .hbm, ⟨22, _⟩ => ⟨S1x8192, .i32⟩
  | .hbm, ⟨23, _⟩ => ⟨S8192x1, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S_, .f32⟩
  | .hbm, ⟨28, _⟩ => ⟨S_, .f32⟩
  | .hbm, ⟨29, _⟩ => ⟨S8x8192x8192, .i1⟩
  | .hbm, ⟨30, _⟩ => ⟨S8x8192x8192, .f32⟩
  | .hbm, ⟨31, _⟩ => ⟨S8x8192x8192, .f32⟩
  | .hbm, ⟨32, _⟩ => ⟨S_, .f32⟩
  | .hbm, ⟨33, _⟩ => ⟨S8x8192x8192, .f32⟩
  | .hbm, ⟨34, _⟩ => ⟨S_, .f32⟩
  | .hbm, ⟨35, _⟩ => ⟨S8x8192, .f32⟩
  | .hbm, ⟨36, _⟩ => ⟨S8x8192x1, .f32⟩
  | .hbm, ⟨37, _⟩ => ⟨S8x8192x8192, .f32⟩
  | .hbm, ⟨38, _⟩ => ⟨S8x8192x8192, .i1⟩
  | .hbm, ⟨39, _⟩ => ⟨S8x8192x8192, .f32⟩
  | .hbm, ⟨40, _⟩ => ⟨S_, .f32⟩
  | .hbm, ⟨41, _⟩ => ⟨S8x8192, .f32⟩
  | .hbm, ⟨42, _⟩ => ⟨S_, .f32⟩
  | .hbm, ⟨43, _⟩ => ⟨S8x8192, .f32⟩
  | .hbm, ⟨44, _⟩ => ⟨S8x8192, .f32⟩
  | .hbm, ⟨45, _⟩ => ⟨S_, .f32⟩
  | .hbm, ⟨46, _⟩ => ⟨S8x8192, .f32⟩
  | .hbm, ⟨47, _⟩ => ⟨S8x8192, .i1⟩
  | .hbm, ⟨48, _⟩ => ⟨S_, .f32⟩
  | .hbm, ⟨49, _⟩ => ⟨S8x8192, .f32⟩
  | .hbm, ⟨50, _⟩ => ⟨S8x8192, .i1⟩
  | .hbm, ⟨51, _⟩ => ⟨S_, .f32⟩
  | .hbm, ⟨52, _⟩ => ⟨S8x8192, .f32⟩
  | .hbm, ⟨53, _⟩ => ⟨S_, .f32⟩
  | .hbm, ⟨54, _⟩ => ⟨S8x8192, .f32⟩
  | .hbm, ⟨55, _⟩ => ⟨S_, .f32⟩
  | .hbm, ⟨56, _⟩ => ⟨S8x8192, .f32⟩
  | .hbm, ⟨57, _⟩ => ⟨S8x8192, .f32⟩
  | .hbm, ⟨58, _⟩ => ⟨S8x8192, .f32⟩
  | .hbm, ⟨59, _⟩ => ⟨S8x8192x1, .f32⟩
  | .hbm, ⟨60, _⟩ => ⟨S8x8192x8192, .f32⟩
  | .hbm, ⟨61, _⟩ => ⟨S8x8192x8192, .f32⟩
  | .hbm, ⟨62, _⟩ => ⟨S8x8192x8192, .f32⟩
  | .hbm, ⟨63, _⟩ => ⟨S_, .f32⟩
  | .hbm, ⟨64, _⟩ => ⟨S8x8192, .f32⟩
  | .hbm, ⟨65, _⟩ => ⟨S8x8192x1, .f32⟩
  | .hbm, ⟨66, _⟩ => ⟨S8x8192x8192, .f32⟩
  | .hbm, ⟨67, _⟩ => ⟨S8x8192x8192, .f32⟩
  | .hbm, ⟨68, _⟩ => ⟨S8x8192x1, .f32⟩
  | .hbm, ⟨69, _⟩ => ⟨S_, .f32⟩
  | .hbm, ⟨70, _⟩ => ⟨S8x8192x1, .f32⟩
  | .hbm, ⟨71, _⟩ => ⟨S8x8192x1, .f32⟩
  | .hbm, ⟨72, _⟩ => ⟨S8x8192x64, .f32⟩
  | .hbm, ⟨73, _⟩ => ⟨S8192x8x64, .f32⟩
  | .hbm, ⟨74, _⟩ => ⟨S8192x512, .f32⟩
  | .hbm, ⟨75, _⟩ => ⟨S8192x8x64, .f32⟩
  | .hbm, ⟨76, _⟩ => ⟨S8x8192x64, .f32⟩
  | .hbm, ⟨77, _⟩ => ⟨S8x64x8192, .f32⟩
  | .hbm, ⟨78, _⟩ => ⟨S8x8192x64, .f32⟩
  | .hbm, ⟨79, _⟩ => ⟨S8x8192x8192, .f32⟩
  | .hbm, ⟨80, _⟩ => ⟨S8x8192x8192, .f32⟩
  | .hbm, ⟨81, _⟩ => ⟨S8x8192x8192, .f32⟩
  | .hbm, ⟨82, _⟩ => ⟨S8x8192x8192, .f32⟩
  | .hbm, ⟨83, _⟩ => ⟨S_, .f32⟩
  | .hbm, ⟨84, _⟩ => ⟨S8x8192, .f32⟩
  | .hbm, ⟨85, _⟩ => ⟨S8x8192x1, .f32⟩
  | .hbm, ⟨86, _⟩ => ⟨S8x8192x1, .f32⟩
  | .hbm, ⟨87, _⟩ => ⟨S8x8192x8192, .f32⟩
  | .hbm, ⟨88, _⟩ => ⟨S8x8192x8192, .f32⟩
  | .hbm, ⟨89, _⟩ => ⟨S_, .f32⟩
  | .hbm, ⟨90, _⟩ => ⟨S8x8192, .f32⟩
  | .hbm, ⟨91, _⟩ => ⟨S8x8192x8192, .f32⟩
  | .hbm, ⟨92, _⟩ => ⟨S8x8192x8192, .f32⟩
  | .hbm, ⟨93, _⟩ => ⟨S8x8192x8192, .f32⟩
  | .hbm, ⟨94, _⟩ => ⟨S_, .f32⟩
  | .hbm, ⟨95, _⟩ => ⟨S8x8192x8192, .f32⟩
  | .hbm, ⟨96, _⟩ => ⟨S8x8192x8192, .f32⟩
  | .hbm, ⟨97, _⟩ => ⟨S8x8192x8192, .f32⟩
  | .hbm, ⟨98, _⟩ => ⟨S_, .f32⟩
  | .hbm, ⟨99, _⟩ => ⟨S8x8192, .f32⟩
  | .hbm, ⟨100, _⟩ => ⟨S8x1x8192, .f32⟩
  | .hbm, ⟨101, _⟩ => ⟨S_, .f32⟩
  | .hbm, ⟨102, _⟩ => ⟨S8x8192, .f32⟩
  | .hbm, ⟨103, _⟩ => ⟨S_, .f32⟩
  | .hbm, ⟨104, _⟩ => ⟨S8x8192, .f32⟩
  | .hbm, ⟨105, _⟩ => ⟨S8x8192x1, .f32⟩
  | .hbm, ⟨106, _⟩ => ⟨S_, .f32⟩
  | .hbm, ⟨107, _⟩ => ⟨S8x8192, .f32⟩
  | .hbm, ⟨108, _⟩ => ⟨S8x8192, .f32⟩
  | .hbm, ⟨109, _⟩ => ⟨S_, .f32⟩
  | .hbm, ⟨110, _⟩ => ⟨S8x8192x8192, .f32⟩
  | .hbm, ⟨111, _⟩ => ⟨S8x8192x8192, .f32⟩
  | .hbm, ⟨112, _⟩ => ⟨S8x8192x64, .f32⟩
  | .hbm, ⟨113, _⟩ => ⟨S8x8192x64, .f32⟩
  | .hbm, ⟨114, _⟩ => ⟨S8192x8x64, .f32⟩
  | .hbm, ⟨115, _⟩ => ⟨S8192x512, .f32⟩
  | .hbm, ⟨116, _⟩ => ⟨S8192x8x64, .f32⟩
  | .hbm, ⟨117, _⟩ => ⟨S8192x512, .f32⟩
  | .hbm, ⟨118, _⟩ => ⟨S8192x8x64, .f32⟩
  | .hbm, ⟨119, _⟩ => ⟨S8192x512, .f32⟩
  | .hbm, ⟨120, _⟩ => ⟨S8192x512, .bf16⟩
  | .hbm, ⟨121, _⟩ => ⟨S8x1x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_call0_v0 : Ref sig .tc := ⟨.hbm, 28, rfl⟩
abbrev main_v21_1 : Ref sig .tc := ⟨.hbm, 29, rfl⟩
abbrev main_call0_v2 : Ref sig .tc := ⟨.hbm, 30, rfl⟩
abbrev main_v21_0 : Ref sig .tc := ⟨.hbm, 31, rfl⟩
abbrev main_call0_cst : Ref sig .tc := ⟨.hbm, 32, rfl⟩
abbrev main_v21_2 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_call1_cst : Ref sig .tc := ⟨.hbm, 94, rfl⟩
abbrev main_call1_v0 : Ref sig .tc := ⟨.hbm, 95, rfl⟩
abbrev main_v70 : Ref sig .tc := ⟨.hbm, 96, rfl⟩
abbrev main_v71 : Ref sig .tc := ⟨.hbm, 97, rfl⟩
abbrev main_cst_13 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_v76 : Ref sig .tc := ⟨.hbm, 105, rfl⟩
abbrev main_cst_16 : Ref sig .tc := ⟨.hbm, 106, rfl⟩
abbrev main_v77 : Ref sig .tc := ⟨.hbm, 107, rfl⟩
abbrev main_v78 : Ref sig .tc := ⟨.hbm, 108, rfl⟩
abbrev main_cst_17 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩

abbrev nD : Nat := 1
abbrev τ : Topo := Topo.v7x

variable {F : FTy → Type} [FloatOps F]
-- ==== DownGrad.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownGradRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownBack.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownBackRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x1024, .f32⟩
  | .hbm, ⟨3, _⟩ => ⟨S2816x1024, .f32⟩
  | .hbm, ⟨4, _⟩ => ⟨S_, .f32⟩
  | .hbm, ⟨5, _⟩ => ⟨S8192x2816, .f32⟩
  | .hbm, ⟨6, _⟩ => ⟨S8192x1024, .f32⟩
  | .hbm, ⟨7, _⟩ => ⟨S8192x2816, .f32⟩
  | .hbm, ⟨8, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpGrad.lean ====
abbrev S8192x1024 : Shape := ⟨2, ![8192, 1024]⟩
abbrev S8192x2816 : Shape := ⟨2, ![8192, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpGradRefIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x1024, .f32⟩
  | .hbm, ⟨3, _⟩ => ⟨S8192x2816, .f32⟩
  | .hbm, ⟨4, _⟩ => ⟨S_, .f32⟩
  | .hbm, ⟨5, _⟩ => ⟨S1024x2816, .f32⟩
  | .hbm, ⟨6, _⟩ => ⟨S8192x2816, .f32⟩
  | .hbm, ⟨7, _⟩ => ⟨S2816x1024, .f32⟩
  | .hbm, ⟨8, _⟩ => ⟨S1024x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpBackG.lean ====
abbrev S8192x2816 : Shape := ⟨2, ![8192, 2816]⟩
abbrev S1024x5632 : Shape := ⟨2, ![1024, 5632]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S1024x5632, .bf16⟩
  | .hbm, ⟨2, _⟩ => ⟨S8192x1024, .f32⟩
  | .hbm, ⟨3, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpBackGRefIdeal.lean ====
abbrev S8192x2816 : Shape := ⟨2, ![8192, 2816]⟩
abbrev S1024x5632 : Shape := ⟨2, ![1024, 5632]⟩
abbrev S8192x1024 : Shape := ⟨2, ![8192, 1024]⟩
abbrev S_ : Shape := ⟨0, ![]⟩
abbrev S1024x2816 : Shape := ⟨2, ![1024, 2816]⟩

abbrev nBuf : Space → Nat
  | .hbm => 17
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1024x5632, .bf16⟩
  | .hbm, ⟨2, _⟩ => ⟨S8192x1024, .f32⟩
  | .hbm, ⟨3, _⟩ => ⟨S8192x2816, .f32⟩
  | .hbm, ⟨4, _⟩ => ⟨S1024x5632, .f32⟩
  | .hbm, ⟨5, _⟩ => ⟨S_, .f32⟩
  | .hbm, ⟨6, _⟩ => ⟨S8192x1024, .f32⟩
  | .hbm, ⟨7, _⟩ => ⟨S1024x2816, .f32⟩
  | .hbm, ⟨8, _⟩ => ⟨S8192x2816, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== UpBackV.lean ====
abbrev S8192x2816 : Shape := ⟨2, ![8192, 2816]⟩
abbrev S1024x5632 : Shape := ⟨2, ![1024, 5632]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S1024x5632, .bf16⟩
  | .hbm, ⟨2, _⟩ => ⟨S8192x1024, .f32⟩
  | .hbm, ⟨3, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpBackVRefIdeal.lean ====
abbrev S8192x2816 : Shape := ⟨2, ![8192, 2816]⟩
abbrev S1024x5632 : Shape := ⟨2, ![1024, 5632]⟩
abbrev S8192x1024 : Shape := ⟨2, ![8192, 1024]⟩
abbrev S_ : Shape := ⟨0, ![]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1024x5632, .bf16⟩
  | .hbm, ⟨2, _⟩ => ⟨S8192x1024, .f32⟩
  | .hbm, ⟨3, _⟩ => ⟨S8192x2816, .f32⟩
  | .hbm, ⟨4, _⟩ => ⟨S1024x5632, .f32⟩
  | .hbm, ⟨5, _⟩ => ⟨S_, .f32⟩
  | .hbm, ⟨6, _⟩ => ⟨S8192x1024, .f32⟩
  | .hbm, ⟨7, _⟩ => ⟨S1024x2816, .f32⟩
  | .hbm, ⟨8, _⟩ => ⟨S8192x2816, .f32⟩
  | .hbm, ⟨9, _⟩ => ⟨S8192x1024, .f32⟩
  | .hbm, ⟨10, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== OddXGrad.lean ====
abbrev S8192x1024 : Shape := ⟨2, ![8192, 1024]⟩
abbrev S8192x3072 : Shape := ⟨2, ![8192, 3072]⟩
abbrev S1024x3072 : Shape := ⟨2, ![1024, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddXGradRefIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8192x1024, .f32⟩
  | .hbm, ⟨3, _⟩ => ⟨S8192x3072, .f32⟩
  | .hbm, ⟨4, _⟩ => ⟨S_, .f32⟩
  | .hbm, ⟨5, _⟩ => ⟨S1024x3072, .f32⟩
  | .hbm, ⟨6, _⟩ => ⟨S8192x3072, .f32⟩
  | .hbm, ⟨7, _⟩ => ⟨S3072x1024, .f32⟩
  | .hbm, ⟨8, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OddXBack.lean ====
abbrev S8192x3072 : Shape := ⟨2, ![8192, 3072]⟩
abbrev S1024x3072 : Shape := ⟨2, ![1024, 3072]⟩
abbrev S8192x1024 : Shape := ⟨2, ![8192, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OddXBackRefIdeal.lean ====
abbrev S8192x3072 : Shape := ⟨2, ![8192, 3072]⟩
abbrev S1024x3072 : Shape := ⟨2, ![1024, 3072]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S8192x3072, .f32⟩
  | .hbm, ⟨4, _⟩ => ⟨S1024x3072, .f32⟩
  | .hbm, ⟨5, _⟩ => ⟨S_, .f32⟩
  | .hbm, ⟨6, _⟩ => ⟨S8192x1024, .f32⟩
  | .hbm, ⟨7, _⟩ => ⟨S8192x3072, .f32⟩
  | .hbm, ⟨8, _⟩ => ⟨S8192x1024, .f32⟩
  | .hbm, ⟨9, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== OddOutGrad.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddOutGradRefIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .f32⟩
  | .hbm, ⟨3, _⟩ => ⟨S8192x1024, .f32⟩
  | .hbm, ⟨4, _⟩ => ⟨S_, .f32⟩
  | .hbm, ⟨5, _⟩ => ⟨S2048x1024, .f32⟩
  | .hbm, ⟨6, _⟩ => ⟨S8192x1024, .f32⟩
  | .hbm, ⟨7, _⟩ => ⟨S1024x2048, .f32⟩
  | .hbm, ⟨8, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OddOutBack.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddOutBackRefIdeal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x1024, .f32⟩
  | .hbm, ⟨3, _⟩ => ⟨S2048x1024, .f32⟩
  | .hbm, ⟨4, _⟩ => ⟨S_, .f32⟩
  | .hbm, ⟨5, _⟩ => ⟨S8192x2048, .f32⟩
  | .hbm, ⟨6, _⟩ => ⟨S8192x1024, .f32⟩
  | .hbm, ⟨7, _⟩ => ⟨S8192x2048, .f32⟩
  | .hbm, ⟨8, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OddZGrad.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddZGradRefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .f32⟩
  | .hbm, ⟨3, _⟩ => ⟨S8192x2048, .f32⟩
  | .hbm, ⟨4, _⟩ => ⟨S_, .f32⟩
  | .hbm, ⟨5, _⟩ => ⟨S1024x2048, .f32⟩
  | .hbm, ⟨6, _⟩ => ⟨S8192x2048, .f32⟩
  | .hbm, ⟨7, _⟩ => ⟨S2048x1024, .f32⟩
  | .hbm, ⟨8, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OddZBack.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .hbm, ⟨3, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OddZBackRefIdeal.lean ====
abbrev S8192x2048 : Shape := ⟨2, ![8192, 2048]⟩
abbrev S1024x2048 : Shape := ⟨2, ![1024, 2048]⟩
abbrev S8192x1024 : Shape := ⟨2, ![8192, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .hbm, ⟨3, _⟩ => ⟨S8192x2048, .f32⟩
  | .hbm, ⟨4, _⟩ => ⟨S1024x2048, .f32⟩
  | .hbm, ⟨5, _⟩ => ⟨S_, .f32⟩
  | .hbm, ⟨6, _⟩ => ⟨S8192x1024, .f32⟩
  | .hbm, ⟨7, _⟩ => ⟨S8192x2048, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== EvenInGrad.lean ====
abbrev S8192x1024 : Shape := ⟨2, ![8192, 1024]⟩
abbrev S8192x1536 : Shape := ⟨2, ![8192, 1536]⟩
abbrev S1024x1536 : Shape := ⟨2, ![1024, 1536]⟩
abbrev S1024x1024 : Shape := ⟨2, ![1024, 1024]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1024x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenInGradRefIdeal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S8192x1024, .f32⟩
  | .hbm, ⟨3, _⟩ => ⟨S8192x1536, .f32⟩
  | .hbm, ⟨4, _⟩ => ⟨S_, .f32⟩
  | .hbm, ⟨5, _⟩ => ⟨S1024x1536, .f32⟩
  | .hbm, ⟨6, _⟩ => ⟨S8192x1536, .f32⟩
  | .hbm, ⟨7, _⟩ => ⟨S1536x1024, .f32⟩
  | .hbm, ⟨8, _⟩ => ⟨S1024x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ConvBack.lean ====
abbrev S8192x1536 : Shape := ⟨2, ![8192, 1536]⟩
abbrev S1024x1536 : Shape := ⟨2, ![1024, 1536]⟩
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1536, .bf16⟩
  | .hbm, ⟨1, _⟩ => ⟨S1024x1536, .bf16⟩
  | .hbm, ⟨2, _⟩ => ⟨S8192x1024, .f32⟩
  | .hbm, ⟨3, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ConvBackRefIdeal.lean ====
abbrev S8192x1536 : Shape := ⟨2, ![8192, 1536]⟩
abbrev S1024x1536 : Shape := ⟨2, ![1024, 1536]⟩
abbrev S8192x1024 : Shape := ⟨2, ![8192, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S1024x1536, .bf16⟩
  | .hbm, ⟨2, _⟩ => ⟨S8192x1024, .f32⟩
  | .hbm, ⟨3, _⟩ => ⟨S8192x1536, .f32⟩
  | .hbm, ⟨4, _⟩ => ⟨S1024x1536, .f32⟩
  | .hbm, ⟨5, _⟩ => ⟨S_, .f32⟩
  | .hbm, ⟨6, _⟩ => ⟨S8192x1024, .f32⟩
  | .hbm, ⟨7, _⟩ => ⟨S8192x1536, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== QkvBack.lean ====
abbrev S8192x1536 : Shape := ⟨2, ![8192, 1536]⟩
abbrev S1024x1536 : Shape := ⟨2, ![1024, 1536]⟩
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1536, .bf16⟩
  | .hbm, ⟨1, _⟩ => ⟨S1024x1536, .bf16⟩
  | .hbm, ⟨2, _⟩ => ⟨S8192x1024, .f32⟩
  | .hbm, ⟨3, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== QkvBackRefIdeal.lean ====
abbrev S8192x1536 : Shape := ⟨2, ![8192, 1536]⟩
abbrev S1024x1536 : Shape := ⟨2, ![1024, 1536]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S1024x1536, .bf16⟩
  | .hbm, ⟨2, _⟩ => ⟨S8192x1024, .f32⟩
  | .hbm, ⟨3, _⟩ => ⟨S8192x1536, .f32⟩
  | .hbm, ⟨4, _⟩ => ⟨S1024x1536, .f32⟩
  | .hbm, ⟨5, _⟩ => ⟨S_, .f32⟩
  | .hbm, ⟨6, _⟩ => ⟨S8192x1024, .f32⟩
  | .hbm, ⟨7, _⟩ => ⟨S8192x1536, .f32⟩
  | .hbm, ⟨8, _⟩ => ⟨S8192x1024, .f32⟩
  | .hbm, ⟨9, _⟩ => ⟨S8192x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== GateGrad.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GateGradRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GateBack.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GateBackRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== ProjGrad.lean ====
abbrev S8192x256 : Shape := ⟨2, ![8192, 256]⟩
abbrev S8192x1024 : Shape := ⟨2, ![8192, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S256x1024, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProjGradRefIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S8192x256, .f32⟩
  | .hbm, ⟨3, _⟩ => ⟨S8192x1024, .f32⟩
  | .hbm, ⟨4, _⟩ => ⟨S_, .f32⟩
  | .hbm, ⟨5, _⟩ => ⟨S256x1024, .f32⟩
  | .hbm, ⟨6, _⟩ => ⟨S8192x1024, .f32⟩
  | .hbm, ⟨7, _⟩ => ⟨S1024x256, .f32⟩
  | .hbm, ⟨8, _⟩ => ⟨S256x1024, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== EvenOutBack.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenOutBackRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnUp.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpRefIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnDown.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OddX.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddXRefIdeal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OddZ.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddZRefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OddOut.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddOutRefIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x2048, .f32⟩
  | .hbm, ⟨3, _⟩ => ⟨S2048x1024, .f32⟩
  | .hbm, ⟨4, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== EvenConv.lean ====
abbrev S8192x1024 : Shape := ⟨2, ![8192, 1024]⟩
abbrev S1024x1536 : Shape := ⟨2, ![1024, 1536]⟩
abbrev S8192x1536 : Shape := ⟨2, ![8192, 1536]⟩
abbrev S1024x1024 : Shape := ⟨2, ![1024, 1024]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenConvRefIdeal.lean ====
abbrev S8192x1024 : Shape := ⟨2, ![8192, 1024]⟩
abbrev S1024x1536 : Shape := ⟨2, ![1024, 1536]⟩
abbrev S8192x1536 : Shape := ⟨2, ![8192, 1536]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1024, .f32⟩
  | .hbm, ⟨3, _⟩ => ⟨S1024x1536, .f32⟩
  | .hbm, ⟨4, _⟩ => ⟨S8192x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== EvenQkv.lean ====
abbrev S8192x1024 : Shape := ⟨2, ![8192, 1024]⟩
abbrev S1024x1536 : Shape := ⟨2, ![1024, 1536]⟩
abbrev S8192x1536 : Shape := ⟨2, ![8192, 1536]⟩
abbrev S1024x1024 : Shape := ⟨2, ![1024, 1024]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenQkvRefIdeal.lean ====
abbrev S8192x1024 : Shape := ⟨2, ![8192, 1024]⟩
abbrev S1024x1536 : Shape := ⟨2, ![1024, 1536]⟩
abbrev S8192x1536 : Shape := ⟨2, ![8192, 1536]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1024, .f32⟩
  | .hbm, ⟨3, _⟩ => ⟨S1024x1536, .f32⟩
  | .hbm, ⟨4, _⟩ => ⟨S8192x1536, .f32⟩
  | .hbm, ⟨5, _⟩ => ⟨S8192x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PleGate.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleGateRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== PleProj.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S256x1024, .bf16⟩
  | .hbm, ⟨2, _⟩ => ⟨S8192x1024, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleProjRefIdeal.lean ====
abbrev S8192x256 : Shape := ⟨2, ![8192, 256]⟩
abbrev S256x1024 : Shape := ⟨2, ![256, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x1024, .bf16⟩
  | .hbm, ⟨2, _⟩ => ⟨S8192x256, .f32⟩
  | .hbm, ⟨3, _⟩ => ⟨S256x1024, .f32⟩
  | .hbm, ⟨4, _⟩ => ⟨S8192x1024, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AdamEvenIn.lean ====
abbrev S1024x385 : Shape := ⟨2, ![1024, 385]⟩
abbrev S512x385 : Shape := ⟨2, ![512, 385]⟩

abbrev nBuf : Space → Nat
  | .hbm => 7
  | .vmem => 14
  | .smem => 0
  | _ => 0

abbrev bufTy : (tb : Table) → Fin (tcTables nBuf tb) → BufTy
  | .hbm, ⟨0, _⟩ => ⟨S1024x385, .f32⟩
  | .hbm, ⟨1, _⟩ => ⟨S1024x385, .f32⟩
  | .hbm, ⟨2, _⟩ => ⟨S1024x385, .f32⟩
  | .hbm, ⟨3, _⟩ => ⟨S1024x385, .f32⟩
  | .hbm, ⟨4, _⟩ => ⟨S1024x385, .f32⟩
  | .hbm, ⟨5, _⟩ => ⟨S1024x385, .f32⟩
  | .hbm, ⟨6, _⟩ => ⟨S1024x385, .f32⟩
  | .local _ .vmem, ⟨0, _⟩ => ⟨S512x385, .f32⟩
  | .local _ .vmem, ⟨1, _⟩ => ⟨S512x385, .f32⟩
  | .local _ .vmem, ⟨2, _⟩ => ⟨S512x385, .f32⟩
  | .local _ .vmem, ⟨3, _⟩ => ⟨S512x385, .f32⟩
  | .local _ .vmem, ⟨4, _⟩ => ⟨S512x385, .f32⟩
  | .local _ .vmem, ⟨5, _⟩ => ⟨S512x385, .f32⟩
  | .local _ .vmem, ⟨6, _⟩ => ⟨S512x385, .f32⟩
  | .local _ .vmem, ⟨7, _⟩ => ⟨S512x385, .f32⟩
  | .local _ .vmem, ⟨8, _⟩ => ⟨S512x385, .f32⟩
  | .local _ .vmem, ⟨9, _⟩ => ⟨S512x385, .f32⟩
  | .local _ .vmem, ⟨10, _⟩ => ⟨S512x385, .f32⟩
  | .local _ .vmem, ⟨11, _⟩ => ⟨S512x385, .f32⟩
  | .local _ .vmem, ⟨12, _⟩ => ⟨S512x385, .f32⟩
  | .local _ .vmem, ⟨13, _⟩ => ⟨S512x385, .f32⟩
  | _, _ => ⟨S1024x385, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x385 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x385 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x385 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x385 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x385 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x385 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x385 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamEvenInIdeal.lean ====
abbrev S1024x385 : Shape := ⟨2, ![1024, 385]⟩
abbrev S512x385 : Shape := ⟨2, ![512, 385]⟩

abbrev nBuf : Space → Nat
  | .hbm => 7
  | .vmem => 14
  | .smem => 0
  | _ => 0

abbrev bufTy : (tb : Table) → Fin (tcTables nBuf tb) → BufTy
  | .hbm, ⟨0, _⟩ => ⟨S1024x385, .f32⟩
  | .hbm, ⟨1, _⟩ => ⟨S1024x385, .f32⟩
  | .hbm, ⟨2, _⟩ => ⟨S1024x385, .f32⟩
  | .hbm, ⟨3, _⟩ => ⟨S1024x385, .f32⟩
  | .hbm, ⟨4, _⟩ => ⟨S1024x385, .f32⟩
  | .hbm, ⟨5, _⟩ => ⟨S1024x385, .f32⟩
  | .hbm, ⟨6, _⟩ => ⟨S1024x385, .f32⟩
  | .local _ .vmem, ⟨0, _⟩ => ⟨S512x385, .f32⟩
  | .local _ .vmem, ⟨1, _⟩ => ⟨S512x385, .f32⟩
  | .local _ .vmem, ⟨2, _⟩ => ⟨S512x385, .f32⟩
  | .local _ .vmem, ⟨3, _⟩ => ⟨S512x385, .f32⟩
  | .local _ .vmem, ⟨4, _⟩ => ⟨S512x385, .f32⟩
  | .local _ .vmem, ⟨5, _⟩ => ⟨S512x385, .f32⟩
  | .local _ .vmem, ⟨6, _⟩ => ⟨S512x385, .f32⟩
  | .local _ .vmem, ⟨7, _⟩ => ⟨S512x385, .f32⟩
  | .local _ .vmem, ⟨8, _⟩ => ⟨S512x385, .f32⟩
  | .local _ .vmem, ⟨9, _⟩ => ⟨S512x385, .f32⟩
  | .local _ .vmem, ⟨10, _⟩ => ⟨S512x385, .f32⟩
  | .local _ .vmem, ⟨11, _⟩ => ⟨S512x385, .f32⟩
  | .local _ .vmem, ⟨12, _⟩ => ⟨S512x385, .f32⟩
  | .local _ .vmem, ⟨13, _⟩ => ⟨S512x385, .f32⟩
  | _, _ => ⟨S1024x385, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "c1" => some (((5463681 / 8388608)⁻¹ : ℝ) : EReal)
  | "c2" => some (((2672307 / 268435456)⁻¹ : ℝ) : EReal)
  | _ => none

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x385 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x385 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x385 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x385 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x385 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x385 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x385 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamEvenInRefIdeal.lean ====
abbrev S1024x385 : Shape := ⟨2, ![1024, 385]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x385, .f32⟩
  | .hbm, ⟨1, _⟩ => ⟨S1024x385, .f32⟩
  | .hbm, ⟨2, _⟩ => ⟨S1024x385, .f32⟩
  | .hbm, ⟨3, _⟩ => ⟨S1024x385, .f32⟩
  | .hbm, ⟨4, _⟩ => ⟨S_, .f32⟩
  | .hbm, ⟨5, _⟩ => ⟨S1024x385, .f32⟩
  | .hbm, ⟨6, _⟩ => ⟨S1024x385, .f32⟩
  | .hbm, ⟨7, _⟩ => ⟨S_, .f32⟩
  | .hbm, ⟨8, _⟩ => ⟨S1024x385, .f32⟩
  | .hbm, ⟨9, _⟩ => ⟨S1024x385, .f32⟩
  | .hbm, ⟨10, _⟩ => ⟨S1024x385, .f32⟩
  | .hbm, ⟨11, _⟩ => ⟨S_, .f32⟩
  | .hbm, ⟨12, _⟩ => ⟨S1024x385, .f32⟩
  | .hbm, ⟨13, _⟩ => ⟨S1024x385, .f32⟩
  | .hbm, ⟨14, _⟩ => ⟨S1024x385, .f32⟩
  | .hbm, ⟨15, _⟩ => ⟨S_, .f32⟩
  | .hbm, ⟨16, _⟩ => ⟨S1024x385, .f32⟩
  | .hbm, ⟨17, _⟩ => ⟨S1024x385, .f32⟩
  | .hbm, ⟨18, _⟩ => ⟨S1024x385, .f32⟩
  | .hbm, ⟨19, _⟩ => ⟨S_, .f32⟩
  | .hbm, ⟨20, _⟩ => ⟨S1024x385, .f32⟩
  | .hbm, ⟨21, _⟩ => ⟨S1024x385, .f32⟩
  | .hbm, ⟨22, _⟩ => ⟨S_, .f32⟩
  | .hbm, ⟨23, _⟩ => ⟨S1024x385, .f32⟩
  | .hbm, ⟨24, _⟩ => ⟨S1024x385, .f32⟩
  | .hbm, ⟨25, _⟩ => ⟨S1024x385, .f32⟩
  | .hbm, ⟨26, _⟩ => ⟨S_, .f32⟩
  | .hbm, ⟨27, _⟩ => ⟨S1024x385, .f32⟩
  | .hbm, ⟨28, _⟩ => ⟨S1024x385, .f32⟩
  | .hbm, ⟨29, _⟩ => ⟨S1024x385, .f32⟩
  | .hbm, ⟨30, _⟩ => ⟨S_, .f32⟩
  | .hbm, ⟨31, _⟩ => ⟨S1024x385, .f32⟩
  | .hbm, ⟨32, _⟩ => ⟨S1024x385, .f32⟩
  | .hbm, ⟨33, _⟩ => ⟨S1024x385, .f32⟩
  | .hbm, ⟨34, _⟩ => ⟨S_, .f32⟩
  | .hbm, ⟨35, _⟩ => ⟨S1024x385, .f32⟩
  | .hbm, ⟨36, _⟩ => ⟨S1024x385, .f32⟩
  | _, _ => ⟨S1024x385, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamEvenOut.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamEvenOutIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== AdamEvenOutRefIdeal.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOddIn.lean ====
abbrev S1024x644 : Shape := ⟨2, ![1024, 644]⟩
abbrev S512x644 : Shape := ⟨2, ![512, 644]⟩

abbrev nBuf : Space → Nat
  | .hbm => 7
  | .vmem => 14
  | .smem => 0
  | _ => 0

abbrev bufTy : (tb : Table) → Fin (tcTables nBuf tb) → BufTy
  | .hbm, ⟨0, _⟩ => ⟨S1024x644, .f32⟩
  | .hbm, ⟨1, _⟩ => ⟨S1024x644, .f32⟩
  | .hbm, ⟨2, _⟩ => ⟨S1024x644, .f32⟩
  | .hbm, ⟨3, _⟩ => ⟨S1024x644, .f32⟩
  | .hbm, ⟨4, _⟩ => ⟨S1024x644, .f32⟩
  | .hbm, ⟨5, _⟩ => ⟨S1024x644, .f32⟩
  | .hbm, ⟨6, _⟩ => ⟨S1024x644, .f32⟩
  | .local _ .vmem, ⟨0, _⟩ => ⟨S512x644, .f32⟩
  | .local _ .vmem, ⟨1, _⟩ => ⟨S512x644, .f32⟩
  | .local _ .vmem, ⟨2, _⟩ => ⟨S512x644, .f32⟩
  | .local _ .vmem, ⟨3, _⟩ => ⟨S512x644, .f32⟩
  | .local _ .vmem, ⟨4, _⟩ => ⟨S512x644, .f32⟩
  | .local _ .vmem, ⟨5, _⟩ => ⟨S512x644, .f32⟩
  | .local _ .vmem, ⟨6, _⟩ => ⟨S512x644, .f32⟩
  | .local _ .vmem, ⟨7, _⟩ => ⟨S512x644, .f32⟩
  | .local _ .vmem, ⟨8, _⟩ => ⟨S512x644, .f32⟩
  | .local _ .vmem, ⟨9, _⟩ => ⟨S512x644, .f32⟩
  | .local _ .vmem, ⟨10, _⟩ => ⟨S512x644, .f32⟩
  | .local _ .vmem, ⟨11, _⟩ => ⟨S512x644, .f32⟩
  | .local _ .vmem, ⟨12, _⟩ => ⟨S512x644, .f32⟩
  | .local _ .vmem, ⟨13, _⟩ => ⟨S512x644, .f32⟩
  | _, _ => ⟨S1024x644, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x644 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x644 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x644 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x644 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x644 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x644 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x644 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOddInIdeal.lean ====
abbrev S1024x644 : Shape := ⟨2, ![1024, 644]⟩
abbrev S512x644 : Shape := ⟨2, ![512, 644]⟩

abbrev nBuf : Space → Nat
  | .hbm => 7
  | .vmem => 14
  | .smem => 0
  | _ => 0

abbrev bufTy : (tb : Table) → Fin (tcTables nBuf tb) → BufTy
  | .hbm, ⟨0, _⟩ => ⟨S1024x644, .f32⟩
  | .hbm, ⟨1, _⟩ => ⟨S1024x644, .f32⟩
  | .hbm, ⟨2, _⟩ => ⟨S1024x644, .f32⟩
  | .hbm, ⟨3, _⟩ => ⟨S1024x644, .f32⟩
  | .hbm, ⟨4, _⟩ => ⟨S1024x644, .f32⟩
  | .hbm, ⟨5, _⟩ => ⟨S1024x644, .f32⟩
  | .hbm, ⟨6, _⟩ => ⟨S1024x644, .f32⟩
  | .local _ .vmem, ⟨0, _⟩ => ⟨S512x644, .f32⟩
  | .local _ .vmem, ⟨1, _⟩ => ⟨S512x644, .f32⟩
  | .local _ .vmem, ⟨2, _⟩ => ⟨S512x644, .f32⟩
  | .local _ .vmem, ⟨3, _⟩ => ⟨S512x644, .f32⟩
  | .local _ .vmem, ⟨4, _⟩ => ⟨S512x644, .f32⟩
  | .local _ .vmem, ⟨5, _⟩ => ⟨S512x644, .f32⟩
  | .local _ .vmem, ⟨6, _⟩ => ⟨S512x644, .f32⟩
  | .local _ .vmem, ⟨7, _⟩ => ⟨S512x644, .f32⟩
  | .local _ .vmem, ⟨8, _⟩ => ⟨S512x644, .f32⟩
  | .local _ .vmem, ⟨9, _⟩ => ⟨S512x644, .f32⟩
  | .local _ .vmem, ⟨10, _⟩ => ⟨S512x644, .f32⟩
  | .local _ .vmem, ⟨11, _⟩ => ⟨S512x644, .f32⟩
  | .local _ .vmem, ⟨12, _⟩ => ⟨S512x644, .f32⟩
  | .local _ .vmem, ⟨13, _⟩ => ⟨S512x644, .f32⟩
  | _, _ => ⟨S1024x644, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "c1" => some (((5463681 / 8388608)⁻¹ : ℝ) : EReal)
  | "c2" => some (((2672307 / 268435456)⁻¹ : ℝ) : EReal)
  | _ => none

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x644 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x644 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x644 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x644 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x644 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x644 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x644 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOddInRefIdeal.lean ====
abbrev S1024x644 : Shape := ⟨2, ![1024, 644]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x644, .f32⟩
  | .hbm, ⟨1, _⟩ => ⟨S1024x644, .f32⟩
  | .hbm, ⟨2, _⟩ => ⟨S1024x644, .f32⟩
  | .hbm, ⟨3, _⟩ => ⟨S1024x644, .f32⟩
  | .hbm, ⟨4, _⟩ => ⟨S_, .f32⟩
  | .hbm, ⟨5, _⟩ => ⟨S1024x644, .f32⟩
  | .hbm, ⟨6, _⟩ => ⟨S1024x644, .f32⟩
  | .hbm, ⟨7, _⟩ => ⟨S_, .f32⟩
  | .hbm, ⟨8, _⟩ => ⟨S1024x644, .f32⟩
  | .hbm, ⟨9, _⟩ => ⟨S1024x644, .f32⟩
  | .hbm, ⟨10, _⟩ => ⟨S1024x644, .f32⟩
  | .hbm, ⟨11, _⟩ => ⟨S_, .f32⟩
  | .hbm, ⟨12, _⟩ => ⟨S1024x644, .f32⟩
  | .hbm, ⟨13, _⟩ => ⟨S1024x644, .f32⟩
  | .hbm, ⟨14, _⟩ => ⟨S1024x644, .f32⟩
  | .hbm, ⟨15, _⟩ => ⟨S_, .f32⟩
  | .hbm, ⟨16, _⟩ => ⟨S1024x644, .f32⟩
  | .hbm, ⟨17, _⟩ => ⟨S1024x644, .f32⟩
  | .hbm, ⟨18, _⟩ => ⟨S1024x644, .f32⟩
  | .hbm, ⟨19, _⟩ => ⟨S_, .f32⟩
  | .hbm, ⟨20, _⟩ => ⟨S1024x644, .f32⟩
  | .hbm, ⟨21, _⟩ => ⟨S1024x644, .f32⟩
  | .hbm, ⟨22, _⟩ => ⟨S_, .f32⟩
  | .hbm, ⟨23, _⟩ => ⟨S1024x644, .f32⟩
  | .hbm, ⟨24, _⟩ => ⟨S1024x644, .f32⟩
  | .hbm, ⟨25, _⟩ => ⟨S1024x644, .f32⟩
  | .hbm, ⟨26, _⟩ => ⟨S_, .f32⟩
  | .hbm, ⟨27, _⟩ => ⟨S1024x644, .f32⟩
  | .hbm, ⟨28, _⟩ => ⟨S1024x644, .f32⟩
  | .hbm, ⟨29, _⟩ => ⟨S1024x644, .f32⟩
  | .hbm, ⟨30, _⟩ => ⟨S_, .f32⟩
  | .hbm, ⟨31, _⟩ => ⟨S1024x644, .f32⟩
  | .hbm, ⟨32, _⟩ => ⟨S1024x644, .f32⟩
  | .hbm, ⟨33, _⟩ => ⟨S1024x644, .f32⟩
  | .hbm, ⟨34, _⟩ => ⟨S_, .f32⟩
  | .hbm, ⟨35, _⟩ => ⟨S1024x644, .f32⟩
  | .hbm, ⟨36, _⟩ => ⟨S1024x644, .f32⟩
  | _, _ => ⟨S1024x644, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOddOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOddOutIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c1" => some (((5463681 / 8388608)⁻¹ : ℝ) : EReal)
  | "c2" => some (((2672307 / 268435456)⁻¹ : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOddOutRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfnUp.lean ====
abbrev S2048x704 : Shape := ⟨2, ![2048, 704]⟩
abbrev S512x704 : Shape := ⟨2, ![512, 704]⟩

abbrev nBuf : Space → Nat
  | .hbm => 7
  | .vmem => 14
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnUpIdeal.lean ====
abbrev S2048x704 : Shape := ⟨2, ![2048, 704]⟩
abbrev S512x704 : Shape := ⟨2, ![512, 704]⟩

abbrev nBuf : Space → Nat
  | .hbm => 7
  | .vmem => 14
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "c1" => some (((5463681 / 8388608)⁻¹ : ℝ) : EReal)
  | "c2" => some (((2672307 / 268435456)⁻¹ : ℝ) : EReal)
  | _ => none

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnUpRefIdeal.lean ====
abbrev S2048x704 : Shape := ⟨2, ![2048, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S_, .f32⟩
  | .hbm, ⟨5, _⟩ => ⟨S2048x704, .f32⟩
  | .hbm, ⟨6, _⟩ => ⟨S2048x704, .f32⟩
  | .hbm, ⟨7, _⟩ => ⟨S_, .f32⟩
  | .hbm, ⟨8, _⟩ => ⟨S2048x704, .f32⟩
  | .hbm, ⟨9, _⟩ => ⟨S2048x704, .f32⟩
  | .hbm, ⟨10, _⟩ => ⟨S2048x704, .f32⟩
  | .hbm, ⟨11, _⟩ => ⟨S_, .f32⟩
  | .hbm, ⟨12, _⟩ => ⟨S2048x704, .f32⟩
  | .hbm, ⟨13, _⟩ => ⟨S2048x704, .f32⟩
  | .hbm, ⟨14, _⟩ => ⟨S2048x704, .f32⟩
  | .hbm, ⟨15, _⟩ => ⟨S_, .f32⟩
  | .hbm, ⟨16, _⟩ => ⟨S2048x704, .f32⟩
  | .hbm, ⟨17, _⟩ => ⟨S2048x704, .f32⟩
  | .hbm, ⟨18, _⟩ => ⟨S2048x704, .f32⟩
  | .hbm, ⟨19, _⟩ => ⟨S_, .f32⟩
  | .hbm, ⟨20, _⟩ => ⟨S2048x704, .f32⟩
  | .hbm, ⟨21, _⟩ => ⟨S2048x704, .f32⟩
  | .hbm, ⟨22, _⟩ => ⟨S_, .f32⟩
  | .hbm, ⟨23, _⟩ => ⟨S2048x704, .f32⟩
  | .hbm, ⟨24, _⟩ => ⟨S2048x704, .f32⟩
  | .hbm, ⟨25, _⟩ => ⟨S2048x704, .f32⟩
  | .hbm, ⟨26, _⟩ => ⟨S_, .f32⟩
  | .hbm, ⟨27, _⟩ => ⟨S2048x704, .f32⟩
  | .hbm, ⟨28, _⟩ => ⟨S2048x704, .f32⟩
  | .hbm, ⟨29, _⟩ => ⟨S2048x704, .f32⟩
  | .hbm, ⟨30, _⟩ => ⟨S_, .f32⟩
  | .hbm, ⟨31, _⟩ => ⟨S2048x704, .f32⟩
  | .hbm, ⟨32, _⟩ => ⟨S2048x704, .f32⟩
  | .hbm, ⟨33, _⟩ => ⟨S2048x704, .f32⟩
  | .hbm, ⟨34, _⟩ => ⟨S_, .f32⟩
  | .hbm, ⟨35, _⟩ => ⟨S2048x704, .f32⟩
  | .hbm, ⟨36, _⟩ => ⟨S2048x704, .f32⟩
  | _, _ => ⟨S2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfnDown.lean ====
abbrev S704x1024 : Shape := ⟨2, ![704, 1024]⟩
abbrev S64x1024 : Shape := ⟨2, ![64, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnDownIdeal.lean ====
abbrev S704x1024 : Shape := ⟨2, ![704, 1024]⟩
abbrev S64x1024 : Shape := ⟨2, ![64, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "c1" => some (((5463681 / 8388608)⁻¹ : ℝ) : EReal)
  | "c2" => some (((2672307 / 268435456)⁻¹ : ℝ) : EReal)
  | _ => none

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnDownRefIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPleProj.lean ====
abbrev S512x128 : Shape := ⟨2, ![512, 128]⟩

abbrev nBuf : Space → Nat
  | .hbm => 7
  | .vmem => 7
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPleProjIdeal.lean ====
abbrev S512x128 : Shape := ⟨2, ![512, 128]⟩

abbrev nBuf : Space → Nat
  | .hbm => 7
  | .vmem => 7
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c1" => some (((5463681 / 8388608)⁻¹ : ℝ) : EReal)
  | "c2" => some (((2672307 / 268435456)⁻¹ : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPleProjRefIdeal.lean ====
abbrev S512x128 : Shape := ⟨2, ![512, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== AdamSmallRefIdeal.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.KernelIdealFrame.lean ====
/-
  The run of the idealized kernel: every grid point is run through its loops, what the outputs hold is not followed.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim
public import Idealize.ShloMosaic.Lib.LoopRemainder

@[expose] public section

set_option maxRecDepth 16384

noncomputable section

namespace Cert.Proof.KernelIdealFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- One grid point: from the input blocks at `x2 … x8` and the outputs and scratch at anything, the body ends with the
    input blocks as they were. -/
theorem sound_kernel (c : Dev nD) (E : Set ℕ) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S2x256x1 .f32) (harg5 : arg5.IsWhole) (arg6 : Memref sig .tc .vmem S2x1x8192 .f32) (harg6 : arg6.IsWhole) (arg7 : Memref sig .tc .vmem S2x256x1 .f32) (harg7 : arg7.IsWhole) (arg8 : Memref sig .tc .vmem S256x128 .bf16) (harg8 : arg8.IsWhole) (arg9 : Memref sig .tc .vmem S256x128 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S2x1x8192 .f32) (harg12 : arg12.IsWhole) (arg13 : Memref sig .tc .vmem S16x256x512 .f32) (harg13 : arg13.IsWhole) (arg14 : Memref sig .tc .vmem S16x256x512 .f32) (harg14 : arg14.IsWhole)
    (x2 : Vec F S256x128 .bf16) (x3 : Vec F S8192x128 .bf16) (x4 : Vec F S8192x128 .bf16) (x5 : Vec F S2x256x1 .f32) (x6 : Vec F S2x1x8192 .f32) (x7 : Vec F S2x256x1 .f32) (x8 : Vec F S256x128 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14) K := by
  simp only [cc0_attn_bwd_eq_skeleton]; unfold cc0_attn_bwd_skel
  simp only [k0_part5_eq_skeleton, k0_part6_eq_skeleton, k0_part7_eq_skeleton, k0_part8_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  subst hf2 hf3 hf4 hf5 hf6 hf7 hf8
  by_cases h1 : Scalar.cmpi .ne (Scalar.extui (Scalar.cmpi .eq (BitVec.ofNat 32 (i 1).val) 0#32)) 0#32 = 1#1 <;>
    by_cases h2 : Scalar.cmpi .ne (Scalar.extui (Scalar.cmpi .eq (BitVec.ofNat 32 (i 1).val) 31#32)) 0#32 = 1#1
  all_goals
    sl_exec
    sl_step
    iapply Hk
    isplitl [H2]
    · iexists f2; isplitr
      · ipureintro; rfl
      · iexact H2
    isplitl [H3]
    · iexists f3; isplitr
      · ipureintro; rfl
      · iexact H3
    isplitl [H4]
    · iexists f4; isplitr
      · ipureintro; rfl
      · iexact H4
    isplitl [H5]
    · iexists f5; isplitr
      · ipureintro; rfl
      · iexact H5
    isplitl [H6]
    · iexists f6; isplitr
      · ipureintro; rfl
      · iexact H6
    isplitl [H7]
    · iexists f7; isplitr
      · ipureintro; rfl
      · iexact H7
    isplitl [H8]
    · iexists f8; isplitr
      · ipureintro; rfl
      · iexact H8
    isplitl [H9]
    · iexists _; iexists _; isplitr
      swap
      · iexact H9
      · ipureintro; rfl
    isplitl [H10]
    · iexists _; iexists _; isplitr
      swap
      · iexact H10
      · ipureintro; rfl
    isplitl [H11]
    · iexists _; iexists _; isplitr
      swap
      · iexact H11
      · ipureintro; rfl
    isplitl [H12]
    · iexists _; iexists _; isplitr
      swap
      · iexact H12
      · ipureintro; rfl
    isplitl [H13]
    · iexists _; iexists _; isplitr
      swap
      · iexact H13
      · ipureintro; rfl
    iexists _; iexists _; isplitr
    swap
    · iexact H14
    · ipureintro; rfl

/-- The proof data: the arrays as the region finds them, each input's buffer at its block after every point. What the
    outputs hold is left open. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
  Φ _ := Pipeline.ΦA spec0 c
  q w := Pipeline.shareOf spec0 w
  owed _ := 0

/-- The outputs, whose contents the frame does not follow. -/
def outs : Fin 11 → Bool := ![false, false, false, false, false, false, false, true, true, true, true]

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl]
  unfold Pipeline.ΦA
  rw [scopedRest0_eq]
  iintro ⟨⟨⟨⟨%s0, S0⟩, ⟨%s1, S1⟩⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [S0]; · iexists _; rw [owns_whole]; iexact S0
  isplitl [S1]; · iexists _; rw [owns_whole]; iexact S1
  iintro ⟨H0, H1, H2, H3, H4, H5, H6, H7, H8, H9, H10, ⟨%e0, S0⟩, ⟨%e1, S1⟩⟩
  isplitl [HR S0 S1]
  · isplitr [HR]
    · isplitl [S0]
      · iexists e0; rw [← owns_whole]; iexact S0
      · iexists e1; rw [← owns_whole]; iexact S1
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligationLoose (dats (F := F) m 0 c) (defs₀ (F := F)) Variants.none () Set.univ outs := fun t => by
  rw [bigSep_W0, bigSep_W0, defs₀_row]
  exact triple_restated (sound_body m c t) rfl .rfl fun _ => .rfl

set_option backward.isDefEq.respectTransparency.types false in
/-- The run: every input array as the region finds it, every other buffer untouched, every counter at zero. -/
theorem run_main_quiescent : θ_run defs (onTc (τ := τ) (main (F := F))) (s₀ m ρ)
    (fun r => RDat.FramePost cfg0 (fun c => (dats m 0 c).toRForget outs) (V m) r ∧ r.2.sem = fun _ => 0) :=
  Pipeline.θ_run_frame_forget_shared (Q' := _) cfgs (dats m) (0 : Fin 1) launch₀0 defs₀ Variants.none outs m ρ main
    (hbody := fun c => body_obligation m c) (hq := fun _ _ _ => rfl)
    (howed := fun _ _ => rfl) (V := V m) (hmain := hmain m Variants.none) (hA := A_eq m) (hΦ := fun _ _ => rfl)

/-- The frame: the arguments end as they began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((h.1 c).2 main_arg0 (Pipeline.mem_restRefs_of main_arg0 (by decide) (by decide))).trans (V_main_arg0 m c),
     ((h.1 c).2 main_arg1 (Pipeline.mem_restRefs_of main_arg1 (by decide) (by decide))).trans (V_main_arg1 m c),
     ((h.1 c).2 main_arg2 (Pipeline.mem_restRefs_of main_arg2 (by decide) (by decide))).trans (V_main_arg2 m c),
     ((h.1 c).2 main_arg3 (Pipeline.mem_restRefs_of main_arg3 (by decide) (by decide))).trans (V_main_arg3 m c),
     ((h.1 c).2 main_arg4 (Pipeline.mem_restRefs_of main_arg4 (by decide) (by decide))).trans (V_main_arg4 m c)⟩, h.2⟩)
    (run_main_quiescent m ρ)

end Cert.Proof.KernelIdealFrame

end
-- ==== Proof.Pays.lean ====
/-
  What the kernel's payloads compute on blocks of real numbers: one grid point's scores, probabilities and gradients.
-/
module

public import proofs.«01_k».proof.Proof.Gen.KernelIdeal.Skeleton
public import Idealize.ShloMosaic.Lib.Pointwise

@[expose] public section

set_option maxRecDepth 16384

noncomputable section

namespace Cert.Proof.Pays

open Cert.KernelIdeal Cert.KernelIdeal.Gen
open Idealize.ShloMosaic

/-- A matrix of real numbers, its entries named by naturals. -/
def mat {n m : ℕ} (f : ℕ → ℕ → ℝ) : (⟨2, ![n, m]⟩ : Shape).Idx → EReal := fun j => ((f (j 0).val (j 1).val : ℝ) : EReal)

/-- A box of real numbers of three axes. -/
def box {n m l : ℕ} (f : ℕ → ℕ → ℕ → ℝ) : (⟨3, ![n, m, l]⟩ : Shape).Idx → EReal :=
  fun j => ((f (j 0).val (j 1).val (j 2).val : ℝ) : EReal)

theorem mat_at {n m : ℕ} (f : ℕ → ℕ → ℝ) (a : Fin n) (b : Fin m) : mat f (ix2 a b) = ((f a.val b.val : ℝ) : EReal) := rfl

theorem box_at {n m l : ℕ} (f : ℕ → ℕ → ℕ → ℝ) (a : Fin n) (b : Fin m) (c : Fin l) :
    box f (ix3 a b c) = ((f a.val b.val c.val : ℝ) : EReal) := rfl

/-- One grid point's operands: a block of query rows with the incoming gradient, the forget sums and the log-sum-exp of
    its two heads, and all keys, values and forget sums; `o` is the block's first row. -/
structure Blk where
  q : ℕ → ℕ → ℝ
  g : ℕ → ℕ → ℝ
  k : ℕ → ℕ → ℝ
  v : ℕ → ℕ → ℝ
  fq : ℕ → ℕ → ℝ
  fk : ℕ → ℕ → ℝ
  ls : ℕ → ℕ → ℝ
  o : ℕ

namespace Blk
variable (b : Blk)

/-- The query rows with the other head's lanes at zero. -/
def mq (e r l : ℕ) : ℝ := if l / 64 = e then b.q r l else 0
/-- The incoming gradient with the other head's lanes at zero. -/
def mg (e r l : ℕ) : ℝ := if l / 64 = e then b.g r l else 0
/-- The score of row `r` and column `s`. -/
def sq (e r s : ℕ) : ℝ := (∑ x : Fin 128, b.mq e r x * b.k s x) * (1 / 8) + (b.fq e r - b.fk e s)
/-- The probability of column `s` in row `r`: none after the row's own position. -/
def pr (e r s : ℕ) : ℝ := if s ≤ b.o + r then Real.exp (b.sq e r s - b.ls e r) else 0
/-- The gradient of the probability. -/
def dp (e r s : ℕ) : ℝ := ∑ x : Fin 128, b.mg e r x * b.v s x
/-- The row's sum of gradient times probability, over the first `n` columns. -/
def dl (e n r : ℕ) : ℝ := ∑ s ∈ Finset.range n, b.pr e r s * b.dp e r s
/-- The gradient of the score, the row's sum over `n` columns taken off. -/
def ds (e n r s : ℕ) : ℝ := b.pr e r s * (b.dp e r s - b.dl e n r)

end Blk

theorem coe_sum {n : ℕ} (f : Fin n → ℝ) : ((∑ i, f i : ℝ) : EReal) = ∑ i, ((f i : ℝ) : EReal) := by
  induction n with
  | zero => simp
  | succ n ih => rw [Fin.sum_univ_succ, Fin.sum_univ_succ, EReal.coe_add, ih]

theorem eighth : Ideal.ofBits FTy.f32 1040187392#32 = ((1 / 8 : ℝ) : EReal) := by
  have h : Ideal.ofBits FTy.f32 1040187392#32 = ((2 : ℝ) ^ (-3 : ℤ) : ℝ) := by
    simp [Ideal.ofBits, Ideal.ieee]
    rw [show (((8388608 : ℝ) : EReal)) * (((2 ^ 26 : ℝ)⁻¹ : ℝ) : EReal) = (((8388608 : ℝ) * (2 ^ 26 : ℝ)⁻¹ : ℝ) : EReal) from (EReal.coe_mul _ _).symm]
    congr 1; norm_num
  rw [h]; norm_num

theorem zero_word : (((0#32 : BitVec 32).toInt : ℝ) : EReal) = ((0 : ℝ) : EReal) := by norm_num

theorem sel0 (x : Fin 128) (a z : EReal) :
    Scalar.select (IntOp.andi (IntOp.cmpi CmpIPredicate.sge (BitVec.ofNat 32 ↑x) 0#32)
      (IntOp.cmpi CmpIPredicate.slt (BitVec.ofNat 32 ↑x) 64#32)) a z = if x.val / 64 = 0 then a else z := by
  have h : ∀ x : Fin 128, IntOp.andi (IntOp.cmpi CmpIPredicate.sge (BitVec.ofNat 32 ↑x) 0#32)
      (IntOp.cmpi CmpIPredicate.slt (BitVec.ofNat 32 ↑x) 64#32) = if x.val / 64 = 0 then 1#1 else 0#1 := by decide +kernel
  rw [h]; split <;> rfl

theorem sel1 (x : Fin 128) (a z : EReal) :
    Scalar.select (IntOp.andi (IntOp.cmpi CmpIPredicate.sge (BitVec.ofNat 32 ↑x) 64#32)
      (IntOp.cmpi CmpIPredicate.slt (BitVec.ofNat 32 ↑x) 128#32)) a z = if x.val / 64 = 1 then a else z := by
  have h : ∀ x : Fin 128, IntOp.andi (IntOp.cmpi CmpIPredicate.sge (BitVec.ofNat 32 ↑x) 64#32)
      (IntOp.cmpi CmpIPredicate.slt (BitVec.ofNat 32 ↑x) 128#32) = if x.val / 64 = 1 then 1#1 else 0#1 := by decide +kernel
  rw [h]; split <;> rfl

theorem coe_ite (p : Prop) [Decidable p] (a c : ℝ) : (if p then (a : EReal) else (c : EReal)) = ((if p then a else c : ℝ) : EReal) := by
  split <;> rfl

theorem pr_tile (b : Blk) (t : ℕ) (ht : t + 512 ≤ b.o) (e r c : ℕ) (hc : c < 512) :
    Real.exp (b.sq e r (t + c) - b.ls e r) = b.pr e r (t + c) := by
  unfold Blk.pr; rw [if_pos (by omega)]

theorem sum_tile (f : ℕ → ℝ) (t : ℕ) :
    ∑ s ∈ Finset.range (t + 512), f s = ∑ s ∈ Finset.range t, f s + ∑ c : Fin 512, f (t + c) := by
  rw [Finset.sum_range_add, Fin.sum_univ_eq_sum_range (fun c => f (t + c))]

theorem dl_tile (b : Blk) (e t r : ℕ) :
    b.dl e t r + ∑ c : Fin 512, b.pr e r (t + c) * b.dp e r (t + c) = b.dl e (t + 512) r :=
  (sum_tile (fun s => b.pr e r s * b.dp e r s) t).symm

theorem diag_mask' (b : Blk) (t : ℕ) (ht : t ≤ b.o) (ho : b.o < 8192) (r : Fin 256) (c : Fin 512) (hr : r.val < 256) :
    IntOp.cmpi .sle (BitVec.ofNat 32 c.val) (IntOp.addi (BitVec.ofNat 32 r.val) (BitVec.ofNat 32 b.o - BitVec.ofNat 32 t))
      = if t + c.val ≤ b.o + r.val then 1#1 else 0#1 := by
  have hc := c.isLt
  have e1 : BitVec.ofNat 32 r.val + (BitVec.ofNat 32 b.o - BitVec.ofNat 32 t) = BitVec.ofNat 32 (r.val + (b.o - t)) := by
    apply BitVec.eq_of_toNat_eq
    simp only [BitVec.toNat_add, BitVec.toNat_sub, BitVec.toNat_ofNat]
    omega
  show BitVec.ofBool ((BitVec.ofNat 32 c.val).sle (BitVec.ofNat 32 r.val + (BitVec.ofNat 32 b.o - BitVec.ofNat 32 t))) = _
  rw [e1, BitVec.sle_eq_decide]
  have t1 : (BitVec.ofNat 32 c.val).toInt = c.val := by rw [BitVec.toInt_eq_toNat_of_lt (by rw [BitVec.toNat_ofNat]; omega), BitVec.toNat_ofNat]; omega
  have t2 : (BitVec.ofNat 32 (r.val + (b.o - t))).toInt = (r.val + (b.o - t) : ℕ) := by rw [BitVec.toInt_eq_toNat_of_lt (by rw [BitVec.toNat_ofNat]; omega), BitVec.toNat_ofNat]; omega
  rw [t1, t2]
  by_cases h : t + c.val ≤ b.o + r.val
  · rw [if_pos h, decide_eq_true (by omega)]; rfl
  · rw [if_neg h, decide_eq_false (by omega)]; rfl

theorem diag_mask (b : Blk) (t : ℕ) (ht : t ≤ b.o) (ho : b.o < 8192) (w35 w36 : BitVec 32) (h35 : w35 * 512#32 = BitVec.ofNat 32 t)
    (h36 : w36 = BitVec.ofNat 32 b.o) (r : Fin 256) (c : Fin 512) (hr : r.val < 256) :
    IntOp.cmpi .sle (BitVec.ofNat 32 c.val) (IntOp.addi (BitVec.ofNat 32 r.val) (Scalar.subi w36 (Scalar.muli w35 512#32)))
      = if t + c.val ≤ b.o + r.val then 1#1 else 0#1 := by
  rw [← diag_mask' b t ht ho r c hr, ← h35, ← h36]; rfl

theorem mask_exp (b : Blk) (e t r c : ℕ) :
    Ideal.exp (Scalar.select (if t + c ≤ b.o + r then 1#1 else 0#1) ((b.sq e r (t + c) : ℝ) : EReal) (Named.named (F := Ideal) κ "mask" (φ := .f32) 0xF149F2CA#32) - ((b.ls e r : ℝ) : EReal))
      = ((b.pr e r (t + c) : ℝ) : EReal) := by
  unfold Blk.pr
  split
  · show Ideal.exp (((b.sq e r (t + c) : ℝ) : EReal) - ((b.ls e r : ℝ) : EReal)) = _
    rw [← EReal.coe_sub]; rfl
  · show Ideal.exp ((⊥ : EReal) - ((b.ls e r : ℝ) : EReal)) = _
    rw [EReal.bot_sub]; rfl

variable [facts : Facts] (b : Blk)

/-- The block with the other head at zero. -/
theorem pay41 : k0_pay41 (F := Ideal) k0_pay36 (mat b.q) = mat (b.mq 0) := by
  funext j
  idx_vars j
  pointwise [k0_pay41, k0_pay36, mat_at, box_at]
  all_goals try simp only [mat_at, box_at, sel0, sel1, eighth, zero_word, Ideal.exp_coe, coe_ite, ← EReal.coe_mul, ← EReal.coe_add, ← EReal.coe_sub, ← coe_sum]
  all_goals rfl

/-- The block with the other head at zero. -/
theorem pay42 : k0_pay42 (F := Ideal) k0_pay36 (mat b.g) = mat (b.mg 0) := by
  funext j
  idx_vars j
  pointwise [k0_pay42, k0_pay36, mat_at, box_at]
  all_goals try simp only [mat_at, box_at, sel0, sel1, eighth, zero_word, Ideal.exp_coe, coe_ite, ← EReal.coe_mul, ← EReal.coe_add, ← EReal.coe_sub, ← coe_sum]
  all_goals rfl

/-- The block with the other head at zero. -/
theorem pay67 : k0_pay67 (F := Ideal) k0_pay37 (mat b.q) = mat (b.mq 1) := by
  funext j
  idx_vars j
  pointwise [k0_pay67, k0_pay37, mat_at, box_at]
  all_goals try simp only [mat_at, box_at, sel0, sel1, eighth, zero_word, Ideal.exp_coe, coe_ite, ← EReal.coe_mul, ← EReal.coe_add, ← EReal.coe_sub, ← coe_sum]
  all_goals rfl

/-- The block with the other head at zero. -/
theorem pay68 : k0_pay68 (F := Ideal) k0_pay37 (mat b.g) = mat (b.mg 1) := by
  funext j
  idx_vars j
  pointwise [k0_pay68, k0_pay37, mat_at, box_at]
  all_goals try simp only [mat_at, box_at, sel0, sel1, eighth, zero_word, Ideal.exp_coe, coe_ite, ← EReal.coe_mul, ← EReal.coe_add, ← EReal.coe_sub, ← coe_sum]
  all_goals rfl

/-- The block as loaded. -/
theorem pay38 : k0_pay38 (F := Ideal) (mat b.q) = mat b.q := by
  funext j
  idx_vars j
  pointwise [k0_pay38, mat_at, box_at]
  all_goals try simp only [mat_at, box_at, sel0, sel1, eighth, zero_word, Ideal.exp_coe, coe_ite, ← EReal.coe_mul, ← EReal.coe_add, ← EReal.coe_sub, ← coe_sum]
  all_goals rfl

/-- The block as loaded. -/
theorem pay39 : k0_pay39 (F := Ideal) (mat b.g) = mat b.g := by
  funext j
  idx_vars j
  pointwise [k0_pay39, mat_at, box_at]
  all_goals try simp only [mat_at, box_at, sel0, sel1, eighth, zero_word, Ideal.exp_coe, coe_ite, ← EReal.coe_mul, ← EReal.coe_add, ← EReal.coe_sub, ← coe_sum]
  all_goals rfl

/-- Zeros. -/
theorem pay33 : k0_pay33 (F := Ideal) = mat fun _ _ => 0 := by
  funext j
  idx_vars j
  pointwise [k0_pay33, mat_at, box_at]
  all_goals try simp only [mat_at, box_at, sel0, sel1, eighth, zero_word, Ideal.exp_coe, coe_ite, ← EReal.coe_mul, ← EReal.coe_add, ← EReal.coe_sub, ← coe_sum]
  all_goals rfl

/-- Zeros. -/
theorem pay34 : k0_pay34 (F := Ideal) = mat fun _ _ => 0 := by
  funext j
  idx_vars j
  pointwise [k0_pay34, mat_at, box_at]
  all_goals try simp only [mat_at, box_at, sel0, sel1, eighth, zero_word, Ideal.exp_coe, coe_ite, ← EReal.coe_mul, ← EReal.coe_add, ← EReal.coe_sub, ← coe_sum]
  all_goals rfl

/-- Zeros. -/
theorem pay35 : k0_pay35 (F := Ideal) = box fun _ _ _ => 0 := by
  funext j
  idx_vars j
  pointwise [k0_pay35, mat_at, box_at]
  all_goals try simp only [mat_at, box_at, sel0, sel1, eighth, zero_word, Ideal.exp_coe, coe_ite, ← EReal.coe_mul, ← EReal.coe_add, ← EReal.coe_sub, ← coe_sum]
  all_goals rfl

/-- Zeros. -/
theorem pay40 : k0_pay40 (F := Ideal) = mat fun _ _ => 0 := by
  funext j
  idx_vars j
  pointwise [k0_pay40, mat_at, box_at]
  all_goals try simp only [mat_at, box_at, sel0, sel1, eighth, zero_word, Ideal.exp_coe, coe_ite, ← EReal.coe_mul, ← EReal.coe_add, ← EReal.coe_sub, ← coe_sum]
  all_goals rfl

/-- Zeros. -/
theorem pay63 : k0_pay63 (F := Ideal) = mat fun _ _ => 0 := by
  funext j
  idx_vars j
  pointwise [k0_pay63, mat_at, box_at]
  all_goals try simp only [mat_at, box_at, sel0, sel1, eighth, zero_word, Ideal.exp_coe, coe_ite, ← EReal.coe_mul, ← EReal.coe_add, ← EReal.coe_sub, ← coe_sum]
  all_goals rfl

/-- Zeros. -/
theorem pay4 : k0_pay4 (F := Ideal) = mat fun _ _ => 0 := by
  funext j
  idx_vars j
  pointwise [k0_pay4, mat_at, box_at]
  all_goals try simp only [mat_at, box_at, sel0, sel1, eighth, zero_word, Ideal.exp_coe, coe_ite, ← EReal.coe_mul, ← EReal.coe_add, ← EReal.coe_sub, ← coe_sum]
  all_goals rfl

/-- No column yet. -/
theorem pay45 : k0_pay45 (F := Ideal) = mat fun r _ => b.dl 0 0 r := by
  funext j
  idx_vars j
  pointwise [k0_pay45, mat_at, box_at]
  all_goals try simp only [mat_at, box_at, sel0, sel1, eighth, zero_word, Ideal.exp_coe, coe_ite, ← EReal.coe_mul, ← EReal.coe_add, ← EReal.coe_sub, ← coe_sum]
  all_goals simp [Blk.dl]

/-- No column yet. -/
theorem pay71 : k0_pay71 (F := Ideal) = mat fun r _ => b.dl 1 0 r := by
  funext j
  idx_vars j
  pointwise [k0_pay71, mat_at, box_at]
  all_goals try simp only [mat_at, box_at, sel0, sel1, eighth, zero_word, Ideal.exp_coe, coe_ite, ← EReal.coe_mul, ← EReal.coe_add, ← EReal.coe_sub, ← coe_sum]
  all_goals simp [Blk.dl]

/-- A tile of probabilities before the diagonal. -/
theorem pay46 (t : ℕ) (ht : t + 512 ≤ b.o) : k0_pay46 (F := Ideal) k0_pay36 (mat b.q) (box fun _ r _ => b.fq 0 r) (box fun _ r _ => b.ls 0 r) (mat fun c x => b.k (t + c) x) (box fun _ _ c => b.fk 0 (t + c)) = mat fun r c => b.pr 0 r (t + c) := by
  funext j
  idx_vars j
  pointwise [k0_pay46, k0_pay41, k0_pay36, k0_pay43, k0_pay44, mat_at, box_at]
  all_goals try simp only [mat_at, box_at, sel0, sel1, eighth, zero_word, Ideal.exp_coe, coe_ite, ← EReal.coe_mul, ← EReal.coe_add, ← EReal.coe_sub, ← coe_sum]
  all_goals exact congrArg _ (pr_tile b t ht 0 _ _ j1.isLt)

/-- A tile of gradients of the probabilities. -/
theorem pay47 (t : ℕ) : k0_pay47 (F := Ideal) k0_pay36 (mat b.g) (mat fun c x => b.v (t + c) x) = mat fun r c => b.dp 0 r (t + c) := by
  funext j
  idx_vars j
  pointwise [k0_pay47, k0_pay42, k0_pay36, mat_at, box_at]
  all_goals try simp only [mat_at, box_at, sel0, sel1, eighth, zero_word, Ideal.exp_coe, coe_ite, ← EReal.coe_mul, ← EReal.coe_add, ← EReal.coe_sub, ← coe_sum]
  all_goals rfl

/-- A tile of probabilities before the diagonal. -/
theorem pay72 (t : ℕ) (ht : t + 512 ≤ b.o) : k0_pay72 (F := Ideal) (mat (b.mq 1)) (box fun _ r _ => b.fq 1 r) (box fun _ r _ => b.ls 1 r) (mat fun c x => b.k (t + c) x) (box fun _ _ c => b.fk 1 (t + c)) = mat fun r c => b.pr 1 r (t + c) := by
  funext j
  idx_vars j
  pointwise [k0_pay72, k0_pay69, k0_pay70, mat_at, box_at]
  all_goals try simp only [mat_at, box_at, sel0, sel1, eighth, zero_word, Ideal.exp_coe, coe_ite, ← EReal.coe_mul, ← EReal.coe_add, ← EReal.coe_sub, ← coe_sum]
  all_goals exact congrArg _ (pr_tile b t ht 1 _ _ j1.isLt)

/-- A tile of gradients of the probabilities. -/
theorem pay73 (t : ℕ) : k0_pay73 (F := Ideal) (mat (b.mg 1)) (mat fun c x => b.v (t + c) x) = mat fun r c => b.dp 1 r (t + c) := by
  funext j
  idx_vars j
  pointwise [k0_pay73, mat_at, box_at]
  all_goals try simp only [mat_at, box_at, sel0, sel1, eighth, zero_word, Ideal.exp_coe, coe_ite, ← EReal.coe_mul, ← EReal.coe_add, ← EReal.coe_sub, ← coe_sum]
  all_goals rfl

/-- A tile of probabilities before the diagonal. -/
theorem pay77 (t : ℕ) (ht : t + 512 ≤ b.o) : k0_pay77 (F := Ideal) (mat (b.mq 1)) (box fun _ r _ => b.fq 1 r) (box fun _ r _ => b.ls 1 r) (mat fun c x => b.k (t + c) x) (box fun _ _ c => b.fk 1 (t + c)) = mat fun r c => b.pr 1 r (t + c) := by
  funext j
  idx_vars j
  pointwise [k0_pay77, k0_pay69, k0_pay70, mat_at, box_at]
  all_goals try simp only [mat_at, box_at, sel0, sel1, eighth, zero_word, Ideal.exp_coe, coe_ite, ← EReal.coe_mul, ← EReal.coe_add, ← EReal.coe_sub, ← coe_sum]
  all_goals exact congrArg _ (pr_tile b t ht 1 _ _ j1.isLt)

/-- A tile of gradients of the probabilities. -/
theorem pay78 (t : ℕ) : k0_pay78 (F := Ideal) (mat (b.mg 1)) (mat fun c x => b.v (t + c) x) = mat fun r c => b.dp 1 r (t + c) := by
  funext j
  idx_vars j
  pointwise [k0_pay78, mat_at, box_at]
  all_goals try simp only [mat_at, box_at, sel0, sel1, eighth, zero_word, Ideal.exp_coe, coe_ite, ← EReal.coe_mul, ← EReal.coe_add, ← EReal.coe_sub, ← coe_sum]
  all_goals rfl

/-- The tile of probabilities, stored. -/
theorem pay48 (t : ℕ) (ht : t + 512 ≤ b.o) : k0_pay48 (F := Ideal) k0_pay36 (mat b.q) (box fun _ r _ => b.fq 0 r) (box fun _ r _ => b.ls 0 r) (mat fun c x => b.k (t + c) x) (box fun _ _ c => b.fk 0 (t + c)) = box fun _ r c => b.pr 0 r (t + c) := by
  unfold k0_pay48
  rw [pay46 b t ht]
  funext j
  idx_vars j
  pointwise [mat_at, box_at]
  all_goals try simp only [mat_at, box_at, sel0, sel1, eighth, zero_word, Ideal.exp_coe, coe_ite, ← EReal.coe_mul, ← EReal.coe_add, ← EReal.coe_sub, ← coe_sum]
  all_goals rfl

/-- The tile of gradients, stored. -/
theorem pay49 (t : ℕ) : k0_pay49 (F := Ideal) k0_pay36 (mat b.g) (mat fun c x => b.v (t + c) x) = box fun _ r c => b.dp 0 r (t + c) := by
  unfold k0_pay49
  rw [pay47 b t]
  funext j
  idx_vars j
  pointwise [mat_at, box_at]
  all_goals try simp only [mat_at, box_at, sel0, sel1, eighth, zero_word, Ideal.exp_coe, coe_ite, ← EReal.coe_mul, ← EReal.coe_add, ← EReal.coe_sub, ← coe_sum]
  all_goals rfl

/-- The tile of probabilities, stored. -/
theorem pay74 (t : ℕ) (ht : t + 512 ≤ b.o) : k0_pay74 (F := Ideal) (mat (b.mq 1)) (box fun _ r _ => b.fq 1 r) (box fun _ r _ => b.ls 1 r) (mat fun c x => b.k (t + c) x) (box fun _ _ c => b.fk 1 (t + c)) = box fun _ r c => b.pr 1 r (t + c) := by
  unfold k0_pay74
  rw [pay72 b t ht]
  funext j
  idx_vars j
  pointwise [mat_at, box_at]
  all_goals try simp only [mat_at, box_at, sel0, sel1, eighth, zero_word, Ideal.exp_coe, coe_ite, ← EReal.coe_mul, ← EReal.coe_add, ← EReal.coe_sub, ← coe_sum]
  all_goals rfl

/-- The tile of gradients, stored. -/
theorem pay75 (t : ℕ) : k0_pay75 (F := Ideal) (mat (b.mg 1)) (mat fun c x => b.v (t + c) x) = box fun _ r c => b.dp 1 r (t + c) := by
  unfold k0_pay75
  rw [pay73 b t]
  funext j
  idx_vars j
  pointwise [mat_at, box_at]
  all_goals try simp only [mat_at, box_at, sel0, sel1, eighth, zero_word, Ideal.exp_coe, coe_ite, ← EReal.coe_mul, ← EReal.coe_add, ← EReal.coe_sub, ← coe_sum]
  all_goals rfl

/-- The row sums, a tile further. -/
theorem pay50 (t : ℕ) (ht : t + 512 ≤ b.o) : k0_pay50 (F := Ideal) k0_pay36 (mat b.q) (mat b.g) (box fun _ r _ => b.fq 0 r) (box fun _ r _ => b.ls 0 r) (mat fun r _ => b.dl 0 t r) (mat fun c x => b.k (t + c) x) (box fun _ _ c => b.fk 0 (t + c)) (mat fun c x => b.v (t + c) x) = mat fun r _ => b.dl 0 (t + 512) r := by
  unfold k0_pay50
  rw [pay46 b t ht, pay47 b t]
  funext j
  idx_vars j
  pointwise [mat_at, box_at]
  all_goals try simp only [mat_at, box_at, sel0, sel1, eighth, zero_word, Ideal.exp_coe, coe_ite, ← EReal.coe_mul, ← EReal.coe_add, ← EReal.coe_sub, ← coe_sum]
  all_goals exact congrArg _ (dl_tile b 0 t _)

/-- The row sums, a tile further. -/
theorem pay76 (t : ℕ) (ht : t + 512 ≤ b.o) : k0_pay76 (F := Ideal) (mat (b.mq 1)) (mat (b.mg 1)) (box fun _ r _ => b.fq 1 r) (box fun _ r _ => b.ls 1 r) (mat fun r _ => b.dl 1 t r) (mat fun c x => b.k (t + c) x) (box fun _ _ c => b.fk 1 (t + c)) (mat fun c x => b.v (t + c) x) = mat fun r _ => b.dl 1 (t + 512) r := by
  unfold k0_pay76
  rw [pay72 b t ht, pay73 b t]
  funext j
  idx_vars j
  pointwise [mat_at, box_at]
  all_goals try simp only [mat_at, box_at, sel0, sel1, eighth, zero_word, Ideal.exp_coe, coe_ite, ← EReal.coe_mul, ← EReal.coe_add, ← EReal.coe_sub, ← coe_sum]
  all_goals exact congrArg _ (dl_tile b 1 t _)

/-- The log-sum-exp as a column. -/
theorem pay44 : k0_pay44 (F := Ideal) (box fun _ r _ => b.ls 0 r) = mat fun r _ => b.ls 0 r := by
  funext j
  idx_vars j
  pointwise [k0_pay44, mat_at, box_at]
  all_goals try simp only [mat_at, box_at, sel0, sel1, eighth, zero_word, Ideal.exp_coe, coe_ite, ← EReal.coe_mul, ← EReal.coe_add, ← EReal.coe_sub, ← coe_sum]
  all_goals rfl

/-- A tile of scores. -/
theorem pay56 (t : ℕ) : k0_pay56 (F := Ideal) k0_pay36 (mat b.q) (box fun _ r _ => b.fq 0 r) (mat fun c x => b.k (t + c) x) (box fun _ _ c => b.fk 0 (t + c)) = mat fun r c => b.sq 0 r (t + c) := by
  funext j
  idx_vars j
  pointwise [k0_pay56, k0_pay41, k0_pay36, k0_pay43, mat_at, box_at]
  all_goals try simp only [mat_at, box_at, sel0, sel1, eighth, zero_word, Ideal.exp_coe, coe_ite, ← EReal.coe_mul, ← EReal.coe_add, ← EReal.coe_sub, ← coe_sum]
  all_goals rfl

/-- The tile of probabilities on the diagonal. -/
theorem pay58 (t : ℕ) (ht : t ≤ b.o) (ho : b.o < 8192) (w35 w36 : BitVec 32) (h35 : w35 * 512#32 = BitVec.ofNat 32 t) (h36 : w36 = BitVec.ofNat 32 b.o) : k0_pay58 (F := Ideal) (mat fun r _ => b.ls 0 r) (mat fun r c => b.sq 0 r (t + c)) (k0_pay57 w35 w36 512#32) (iota .tc S256x512 32 [1] iota_S256x512_d1_w32) = mat fun r c => b.pr 0 r (t + c) := by
  funext j
  idx_vars j
  pointwise [k0_pay58, k0_pay57, mat_at, box_at]
  all_goals try simp only [mat_at, box_at, sel0, sel1, eighth, zero_word, Ideal.exp_coe, coe_ite, ← EReal.coe_mul, ← EReal.coe_add, ← EReal.coe_sub, ← coe_sum]
  all_goals (rw [diag_mask b t ht ho w35 w36 h35 h36 j0 j1 (by have := j0.isLt; omega)]; exact mask_exp b 0 t _ _)

/-- The tile of gradients on the diagonal. -/
theorem pay59 (t : ℕ) : k0_pay59 (F := Ideal) (mat (b.mg 0)) (mat fun c x => b.v (t + c) x) = mat fun r c => b.dp 0 r (t + c) := by
  funext j
  idx_vars j
  pointwise [k0_pay59, mat_at, box_at]
  all_goals try simp only [mat_at, box_at, sel0, sel1, eighth, zero_word, Ideal.exp_coe, coe_ite, ← EReal.coe_mul, ← EReal.coe_add, ← EReal.coe_sub, ← coe_sum]
  all_goals rfl

/-- The diagonal tile of probabilities, stored. -/
theorem pay60 (t : ℕ) (ht : t ≤ b.o) (ho : b.o < 8192) (w35 w36 : BitVec 32) (h35 : w35 * 512#32 = BitVec.ofNat 32 t) (h36 : w36 = BitVec.ofNat 32 b.o) : k0_pay60 (F := Ideal) (mat fun r _ => b.ls 0 r) (mat fun r c => b.sq 0 r (t + c)) (k0_pay57 w35 w36 512#32) (iota .tc S256x512 32 [1] iota_S256x512_d1_w32) = box fun _ r c => b.pr 0 r (t + c) := by
  unfold k0_pay60
  rw [pay58 b t ht ho w35 w36 h35 h36]
  funext j
  idx_vars j
  pointwise [mat_at, box_at]
  all_goals try simp only [mat_at, box_at, sel0, sel1, eighth, zero_word, Ideal.exp_coe, coe_ite, ← EReal.coe_mul, ← EReal.coe_add, ← EReal.coe_sub, ← coe_sum]
  all_goals rfl

/-- The diagonal tile of gradients, stored. -/
theorem pay61 (t : ℕ) : k0_pay61 (F := Ideal) (mat (b.mg 0)) (mat fun c x => b.v (t + c) x) = box fun _ r c => b.dp 0 r (t + c) := by
  unfold k0_pay61
  rw [pay59 b t]
  funext j
  idx_vars j
  pointwise [mat_at, box_at]
  all_goals try simp only [mat_at, box_at, sel0, sel1, eighth, zero_word, Ideal.exp_coe, coe_ite, ← EReal.coe_mul, ← EReal.coe_add, ← EReal.coe_sub, ← coe_sum]
  all_goals rfl

/-- The row sums with the diagonal tile. -/
theorem pay62 (t : ℕ) (ht : t ≤ b.o) (ho : b.o < 8192) (w35 w36 : BitVec 32) (h35 : w35 * 512#32 = BitVec.ofNat 32 t) (h36 : w36 = BitVec.ofNat 32 b.o) : k0_pay62 (F := Ideal) (mat (b.mg 0)) (mat fun r _ => b.ls 0 r) (mat fun r _ => b.dl 0 t r) (mat fun r c => b.sq 0 r (t + c)) (k0_pay57 w35 w36 512#32) (iota .tc S256x512 32 [1] iota_S256x512_d1_w32) (mat fun c x => b.v (t + c) x) = mat fun r _ => b.dl 0 (t + 512) r := by
  unfold k0_pay62
  rw [pay58 b t ht ho w35 w36 h35 h36, pay59 b t]
  funext j
  idx_vars j
  pointwise [mat_at, box_at]
  all_goals try simp only [mat_at, box_at, sel0, sel1, eighth, zero_word, Ideal.exp_coe, coe_ite, ← EReal.coe_mul, ← EReal.coe_add, ← EReal.coe_sub, ← coe_sum]
  all_goals exact congrArg _ (dl_tile b 0 t _)

/-- The tile of probabilities on the diagonal. -/
theorem pay82 (t : ℕ) (ht : t ≤ b.o) (ho : b.o < 8192) (w38 : BitVec 32) (h38 : w38 = BitVec.ofNat 32 b.o - BitVec.ofNat 32 t) : k0_pay82 (F := Ideal) w38 (mat (b.mq 1)) (box fun _ r _ => b.fq 1 r) (box fun _ r _ => b.ls 1 r) (mat fun c x => b.k (t + c) x) (box fun _ _ c => b.fk 1 (t + c)) = mat fun r c => b.pr 1 r (t + c) := by
  funext j
  idx_vars j
  pointwise [k0_pay82, k0_pay69, k0_pay70, mat_at, box_at]
  all_goals try simp only [mat_at, box_at, sel0, sel1, eighth, zero_word, Ideal.exp_coe, coe_ite, ← EReal.coe_mul, ← EReal.coe_add, ← EReal.coe_sub, ← coe_sum]
  all_goals (rw [h38, diag_mask' b t ht ho j0 j1 (by have := j0.isLt; omega)]; exact mask_exp b 1 t _ _)

/-- The tile of gradients on the diagonal. -/
theorem pay83 (t : ℕ) : k0_pay83 (F := Ideal) (mat (b.mg 1)) (mat fun c x => b.v (t + c) x) = mat fun r c => b.dp 1 r (t + c) := by
  funext j
  idx_vars j
  pointwise [k0_pay83, mat_at, box_at]
  all_goals try simp only [mat_at, box_at, sel0, sel1, eighth, zero_word, Ideal.exp_coe, coe_ite, ← EReal.coe_mul, ← EReal.coe_add, ← EReal.coe_sub, ← coe_sum]
  all_goals rfl

/-- A tile, stored. -/
theorem pay1 (f : ℕ → ℕ → ℝ) : k0_pay1 (F := Ideal) (mat f) = box fun _ r c => f r c := by
  funext j
  idx_vars j
  pointwise [k0_pay1, mat_at, box_at]
  all_goals try simp only [mat_at, box_at, sel0, sel1, eighth, zero_word, Ideal.exp_coe, coe_ite, ← EReal.coe_mul, ← EReal.coe_add, ← EReal.coe_sub, ← coe_sum]
  all_goals rfl

/-- A tile, stored. -/
theorem pay2 (f : ℕ → ℕ → ℝ) : k0_pay2 (F := Ideal) (mat f) = box fun _ r c => f r c := by
  funext j
  idx_vars j
  pointwise [k0_pay2, mat_at, box_at]
  all_goals try simp only [mat_at, box_at, sel0, sel1, eighth, zero_word, Ideal.exp_coe, coe_ite, ← EReal.coe_mul, ← EReal.coe_add, ← EReal.coe_sub, ← coe_sum]
  all_goals rfl

/-- The row sums with the diagonal tile. -/
theorem pay3 (t : ℕ) : k0_pay3 (F := Ideal) (mat fun r _ => b.dl 1 t r) (mat fun r c => b.pr 1 r (t + c)) (mat fun r c => b.dp 1 r (t + c)) = mat fun r _ => b.dl 1 (t + 512) r := by
  funext j
  idx_vars j
  pointwise [k0_pay3, mat_at, box_at]
  all_goals try simp only [mat_at, box_at, sel0, sel1, eighth, zero_word, Ideal.exp_coe, coe_ite, ← EReal.coe_mul, ← EReal.coe_add, ← EReal.coe_sub, ← coe_sum]
  all_goals exact congrArg _ (dl_tile b 1 t _)

/-- A tile of gradients of the scores. -/
theorem pay11 (n t : ℕ) : k0_pay11 (F := Ideal) (mat fun r _ => b.dl 0 n r) (box fun _ r c => b.pr 0 r (t + c)) (box fun _ r c => b.dp 0 r (t + c)) = mat fun r c => b.ds 0 n r (t + c) := by
  funext j
  idx_vars j
  pointwise [k0_pay9, k0_pay10, k0_pay11, mat_at, box_at]
  all_goals try simp only [mat_at, box_at, sel0, sel1, eighth, zero_word, Ideal.exp_coe, coe_ite, ← EReal.coe_mul, ← EReal.coe_add, ← EReal.coe_sub, ← coe_sum]
  all_goals rfl

/-- The keys' gradient, a tile of rows added to. -/
theorem pay12 (n t : ℕ) (old : ℕ → ℕ → ℝ) : k0_pay12 (F := Ideal) (mat (b.mq 0)) (mat fun r _ => b.dl 0 n r) (box fun _ r c => b.pr 0 r (t + c)) (box fun _ r c => b.dp 0 r (t + c)) (mat old) = mat fun c l => old c l + ∑ r : Fin 256, b.ds 0 n r (t + c) * b.mq 0 r l := by
  funext j
  idx_vars j
  pointwise [k0_pay9, k0_pay10, k0_pay11, k0_pay12, mat_at, box_at]
  all_goals try simp only [mat_at, box_at, sel0, sel1, eighth, zero_word, Ideal.exp_coe, coe_ite, ← EReal.coe_mul, ← EReal.coe_add, ← EReal.coe_sub, ← coe_sum]
  all_goals rfl

/-- The values' gradient, a tile of rows added to. -/
theorem pay13 (t : ℕ) (old : ℕ → ℕ → ℝ) : k0_pay13 (F := Ideal) (mat (b.mg 0)) (box fun _ r c => b.pr 0 r (t + c)) (mat old) = mat fun c l => old c l + ∑ r : Fin 256, b.pr 0 r (t + c) * b.mg 0 r l := by
  funext j
  idx_vars j
  pointwise [k0_pay9, k0_pay10, k0_pay11, k0_pay13, mat_at, box_at]
  all_goals try simp only [mat_at, box_at, sel0, sel1, eighth, zero_word, Ideal.exp_coe, coe_ite, ← EReal.coe_mul, ← EReal.coe_add, ← EReal.coe_sub, ← coe_sum]
  all_goals rfl

/-- The forget sums' gradient, a tile of columns taken from. -/
theorem pay14 (n t : ℕ) (old : ℕ → ℝ) : k0_pay14 (F := Ideal) (mat fun r _ => b.dl 0 n r) (box fun _ r c => b.pr 0 r (t + c)) (box fun _ r c => b.dp 0 r (t + c)) (box fun _ _ c => old c) = box fun _ _ c => old c - ∑ r : Fin 256, b.ds 0 n r (t + c) := by
  funext j
  idx_vars j
  pointwise [k0_pay9, k0_pay10, k0_pay11, k0_pay14, mat_at, box_at]
  all_goals try simp only [mat_at, box_at, sel0, sel1, eighth, zero_word, Ideal.exp_coe, coe_ite, ← EReal.coe_mul, ← EReal.coe_add, ← EReal.coe_sub, ← coe_sum]
  all_goals rfl

/-- The queries' gradient, a tile of columns added. -/
theorem pay64 (n t : ℕ) : k0_pay64 (F := Ideal) (mat fun r l => ∑ s ∈ Finset.range t, b.ds 0 n r s * b.k s l) (mat fun r c => b.ds 0 n r (t + c)) (mat fun c x => b.k (t + c) x) = mat fun r l => ∑ s ∈ Finset.range (t + 512), b.ds 0 n r s * b.k s l := by
  funext j
  idx_vars j
  pointwise [k0_pay64, mat_at, box_at]
  all_goals try simp only [mat_at, box_at, sel0, sel1, eighth, zero_word, Ideal.exp_coe, coe_ite, ← EReal.coe_mul, ← EReal.coe_add, ← EReal.coe_sub, ← coe_sum]
  all_goals exact congrArg _ (sum_tile (fun s => b.ds 0 n _ s * b.k s _) t).symm

/-- A tile of gradients of the scores. -/
theorem pay23 (n t : ℕ) : k0_pay23 (F := Ideal) (mat fun r _ => b.dl 1 n r) (box fun _ r c => b.pr 1 r (t + c)) (box fun _ r c => b.dp 1 r (t + c)) = mat fun r c => b.ds 1 n r (t + c) := by
  funext j
  idx_vars j
  pointwise [k0_pay21, k0_pay22, k0_pay23, mat_at, box_at]
  all_goals try simp only [mat_at, box_at, sel0, sel1, eighth, zero_word, Ideal.exp_coe, coe_ite, ← EReal.coe_mul, ← EReal.coe_add, ← EReal.coe_sub, ← coe_sum]
  all_goals rfl

/-- The keys' gradient, a tile of rows added to. -/
theorem pay24 (n t : ℕ) (old : ℕ → ℕ → ℝ) : k0_pay24 (F := Ideal) (mat (b.mq 1)) (mat fun r _ => b.dl 1 n r) (box fun _ r c => b.pr 1 r (t + c)) (box fun _ r c => b.dp 1 r (t + c)) (mat old) = mat fun c l => old c l + ∑ r : Fin 256, b.ds 1 n r (t + c) * b.mq 1 r l := by
  funext j
  idx_vars j
  pointwise [k0_pay21, k0_pay22, k0_pay23, k0_pay24, mat_at, box_at]
  all_goals try simp only [mat_at, box_at, sel0, sel1, eighth, zero_word, Ideal.exp_coe, coe_ite, ← EReal.coe_mul, ← EReal.coe_add, ← EReal.coe_sub, ← coe_sum]
  all_goals rfl

/-- The values' gradient, a tile of rows added to. -/
theorem pay25 (t : ℕ) (old : ℕ → ℕ → ℝ) : k0_pay25 (F := Ideal) (mat (b.mg 1)) (box fun _ r c => b.pr 1 r (t + c)) (mat old) = mat fun c l => old c l + ∑ r : Fin 256, b.pr 1 r (t + c) * b.mg 1 r l := by
  funext j
  idx_vars j
  pointwise [k0_pay21, k0_pay22, k0_pay23, k0_pay25, mat_at, box_at]
  all_goals try simp only [mat_at, box_at, sel0, sel1, eighth, zero_word, Ideal.exp_coe, coe_ite, ← EReal.coe_mul, ← EReal.coe_add, ← EReal.coe_sub, ← coe_sum]
  all_goals rfl

/-- The forget sums' gradient, a tile of columns taken from. -/
theorem pay26 (n t : ℕ) (old : ℕ → ℝ) : k0_pay26 (F := Ideal) (mat fun r _ => b.dl 1 n r) (box fun _ r c => b.pr 1 r (t + c)) (box fun _ r c => b.dp 1 r (t + c)) (box fun _ _ c => old c) = box fun _ _ c => old c - ∑ r : Fin 256, b.ds 1 n r (t + c) := by
  funext j
  idx_vars j
  pointwise [k0_pay21, k0_pay22, k0_pay23, k0_pay26, mat_at, box_at]
  all_goals try simp only [mat_at, box_at, sel0, sel1, eighth, zero_word, Ideal.exp_coe, coe_ite, ← EReal.coe_mul, ← EReal.coe_add, ← EReal.coe_sub, ← coe_sum]
  all_goals rfl

/-- The queries' gradient, a tile of columns added. -/
theorem pay5 (n t : ℕ) : k0_pay5 (F := Ideal) (mat fun r l => ∑ s ∈ Finset.range t, b.ds 1 n r s * b.k s l) (mat fun r c => b.ds 1 n r (t + c)) (mat fun c x => b.k (t + c) x) = mat fun r l => ∑ s ∈ Finset.range (t + 512), b.ds 1 n r s * b.k s l := by
  funext j
  idx_vars j
  pointwise [k0_pay5, mat_at, box_at]
  all_goals try simp only [mat_at, box_at, sel0, sel1, eighth, zero_word, Ideal.exp_coe, coe_ite, ← EReal.coe_mul, ← EReal.coe_add, ← EReal.coe_sub, ← coe_sum]
  all_goals exact congrArg _ (sum_tile (fun s => b.ds 1 n _ s * b.k s _) t).symm

/-- The first head's lanes. -/
theorem pay66 (a : ℕ → ℕ → ℝ) : k0_pay66 (F := Ideal) k0_pay36 (mat fun _ _ => 0) (mat a) = mat fun r l => if l / 64 = 0 then a r l else 0 := by
  funext j
  idx_vars j
  pointwise [k0_pay66, k0_pay36, mat_at, box_at]
  all_goals try simp only [mat_at, box_at, sel0, sel1, eighth, zero_word, Ideal.exp_coe, coe_ite, ← EReal.coe_mul, ← EReal.coe_add, ← EReal.coe_sub, ← coe_sum]
  all_goals rfl

/-- The two heads' lanes, scaled. -/
theorem pay7 (a c : ℕ → ℕ → ℝ) : k0_pay7 (F := Ideal) k0_pay37 (mat a) (mat c) = mat fun r l => (if l / 64 = 1 then c r l else a r l) * (1 / 8) := by
  funext j
  idx_vars j
  pointwise [k0_pay7, k0_pay37, mat_at, box_at]
  all_goals try simp only [mat_at, box_at, sel0, sel1, eighth, zero_word, Ideal.exp_coe, coe_ite, ← EReal.coe_mul, ← EReal.coe_add, ← EReal.coe_sub, ← coe_sum]
  all_goals rfl

/-- Scaled. -/
theorem pay8 (a : ℕ → ℕ → ℝ) : k0_pay8 (F := Ideal) (mat a) = mat fun r l => a r l * (1 / 8) := by
  funext j
  idx_vars j
  pointwise [k0_pay8, mat_at, box_at]
  all_goals try simp only [mat_at, box_at, sel0, sel1, eighth, zero_word, Ideal.exp_coe, coe_ite, ← EReal.coe_mul, ← EReal.coe_add, ← EReal.coe_sub, ← coe_sum]
  all_goals rfl

end Cert.Proof.Pays

end
-- ==== Proof.Mem.lean ====
/-
  Loads and stores of a tile, of buffers that hold real numbers.
-/
module

public import proofs.«01_k».proof.Proof.Pays
public import Idealize.ShloMosaic.Lib.WritesUnit
public import Idealize.ShloMosaic.Lib.VecWindow

@[expose] public section

set_option maxRecDepth 16384

noncomputable section

namespace Cert.Proof.Mem

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Pays

/-- A load of a window of a matrix. -/
theorem ld2_f32 {N M n m : ℕ} (v : View sig .tc .vmem ⟨2, ![N, M]⟩ .f32) (f : v.ty.Contents (Elt Ideal)) (g : ℕ → ℕ → ℝ)
    (hf : v.read (Elt Ideal) f = mat g) {off : Fin 2 → ℕ} (t : ℕ) (h : off = ![t, 0]) (inb : ∀ a, off a + (![n, m] : Fin 2 → ℕ) a ≤ (![N, M] : Fin 2 → ℕ) a) :
    v.readAt (Elt Ideal) (Rect.unit (s := ⟨2, ![N, M]⟩) off ![n, m] inb).toLoadRect f = mat (n := n) (m := m) fun r l => g (t + r) l := by
  subst h
  funext y
  show v.read (Elt Ideal) f ((Rect.unit (s := ⟨2, ![N, M]⟩) ![t, 0] ![n, m] inb).emb y) = _
  rw [hf]
  show ((g (t + 1 * (y 0).val) (0 + 1 * (y 1).val) : ℝ) : EReal) = ((g (t + (y 0).val) (y 1).val : ℝ) : EReal)
  rw [Nat.one_mul, Nat.one_mul, Nat.zero_add]

/-- A load of a window of a matrix. -/
theorem ld2_bf16 {N M n m : ℕ} (v : View sig .tc .vmem ⟨2, ![N, M]⟩ .bf16) (f : v.ty.Contents (Elt Ideal)) (g : ℕ → ℕ → ℝ)
    (hf : v.read (Elt Ideal) f = mat g) {off : Fin 2 → ℕ} (t : ℕ) (h : off = ![t, 0]) (inb : ∀ a, off a + (![n, m] : Fin 2 → ℕ) a ≤ (![N, M] : Fin 2 → ℕ) a) :
    v.readAt (Elt Ideal) (Rect.unit (s := ⟨2, ![N, M]⟩) off ![n, m] inb).toLoadRect f = mat (n := n) (m := m) fun r l => g (t + r) l := by
  subst h
  funext y
  show v.read (Elt Ideal) f ((Rect.unit (s := ⟨2, ![N, M]⟩) ![t, 0] ![n, m] inb).emb y) = _
  rw [hf]
  show ((g (t + 1 * (y 0).val) (0 + 1 * (y 1).val) : ℝ) : EReal) = ((g (t + (y 0).val) (y 1).val : ℝ) : EReal)
  rw [Nat.one_mul, Nat.one_mul, Nat.zero_add]

/-- A load of a window of a box. -/
theorem ld3 {N M L n m l : ℕ} (v : View sig .tc .vmem ⟨3, ![N, M, L]⟩ .f32) (f : v.ty.Contents (Elt Ideal)) (g : ℕ → ℕ → ℕ → ℝ)
    (hf : v.read (Elt Ideal) f = box g) {off : Fin 3 → ℕ} (e t : ℕ) (h : off = ![e, 0, t])
    (inb : ∀ a, off a + (![n, m, l] : Fin 3 → ℕ) a ≤ (![N, M, L] : Fin 3 → ℕ) a) :
    v.readAt (Elt Ideal) (Rect.unit (s := ⟨3, ![N, M, L]⟩) off ![n, m, l] inb).toLoadRect f = box (n := n) (m := m) (l := l) fun a b c => g (e + a) b (t + c) := by
  subst h
  funext y
  show v.read (Elt Ideal) f ((Rect.unit (s := ⟨3, ![N, M, L]⟩) ![e, 0, t] ![n, m, l] inb).emb y) = _
  rw [hf]
  show ((g (e + 1 * (y 0).val) (0 + 1 * (y 1).val) (t + 1 * (y 2).val) : ℝ) : EReal) = ((g (e + (y 0).val) (y 1).val (t + (y 2).val) : ℝ) : EReal)
  rw [Nat.one_mul, Nat.one_mul, Nat.one_mul, Nat.zero_add]

/-- A load of one plane of a box. -/
theorem ld3_plane {N M L m l : ℕ} (v : View sig .tc .vmem ⟨3, ![N, M, L]⟩ .f32) (f : v.ty.Contents (Elt Ideal)) (g : ℕ → ℕ → ℕ → ℝ)
    (hf : v.read (Elt Ideal) f = box g) {off : Fin 3 → ℕ} (e t : ℕ) (h : off = ![e, 0, t])
    (inb : ∀ a, off a + (![1, m, l] : Fin 3 → ℕ) a ≤ (![N, M, L] : Fin 3 → ℕ) a) :
    v.readAt (Elt Ideal) (Rect.unit (s := ⟨3, ![N, M, L]⟩) off ![1, m, l] inb).toLoadRect f = box (n := 1) (m := m) (l := l) fun _ b c => g e b (t + c) := by
  rw [ld3 v f g hf e t h inb]
  funext y
  show ((g (e + (y 0).val) (y 1).val (t + (y 2).val) : ℝ) : EReal) = ((g e (y 1).val (t + (y 2).val) : ℝ) : EReal)
  have h0 : (y 0).val < 1 := (y 0).isLt
  rw [show (y 0).val = 0 by omega]; rfl

/-- A store of rows of a matrix. -/
theorem st2 {N M n : ℕ} (v : View sig .tc .vmem ⟨2, ![N, M]⟩ .f32) (f : v.ty.Contents (Elt Ideal)) (g g' w : ℕ → ℕ → ℝ)
    (hf : v.read (Elt Ideal) f = mat g) {off : Fin 2 → ℕ} (t : ℕ) (h : off = ![t, 0]) (inb : ∀ a, off a + (![n, M] : Fin 2 → ℕ) a ≤ (![N, M] : Fin 2 → ℕ) a)
    (p : (Rect.unit (s := ⟨2, ![N, M]⟩) off ![n, M] inb).shape.Idx → EReal) (hp : p = mat (n := n) (m := M) w)
    (hw : ∀ c l, c < n → w c l = g' (t + c) l) (hg : ∀ s l, s < t ∨ t + n ≤ s → g s l = g' s l) :
    v.read (Elt Ideal) (v.writes (Elt Ideal) f [⟨Rect.unit (s := ⟨2, ![N, M]⟩) off ![n, M] inb, p⟩]) = mat g' := by
  funext y
  by_cases hy : t ≤ (y 0).val ∧ (y 0).val < t + n
  · refine (View.read_writes_cons_unit_of_mem v f inb p [] y (ix2 ⟨(y 0).val - t, by omega⟩ (y 1)) h ?_).trans ?_
    · intro a
      match a with
      | ⟨0, _⟩ => show (y 0).val = t + ((y 0).val - t); omega
      | ⟨1, _⟩ => show (y 1).val = 0 + (y 1).val; omega
    · rw [hp]
      show ((w ((y 0).val - t) (y 1).val : ℝ) : EReal) = ((g' (y 0).val (y 1).val : ℝ) : EReal)
      rw [hw _ _ (by omega), show t + ((y 0).val - t) = (y 0).val by omega]
  · refine (View.read_writes_cons_unit_of_not_mem v f inb p [] y h 0 ?_).trans ?_
    · show (y 0).val < t ∨ t + n ≤ (y 0).val; omega
    · rw [View.writes_nil, hf]
      show ((g (y 0).val (y 1).val : ℝ) : EReal) = ((g' (y 0).val (y 1).val : ℝ) : EReal)
      rw [hg _ _ (by omega)]

/-- A store of columns of one plane of a box of single rows. -/
theorem st3 {N L l : ℕ} (v : View sig .tc .vmem ⟨3, ![N, 1, L]⟩ .f32) (f : v.ty.Contents (Elt Ideal)) (g g' w : ℕ → ℕ → ℕ → ℝ)
    (hf : v.read (Elt Ideal) f = box g) {off : Fin 3 → ℕ} (e t : ℕ) (h : off = ![e, 0, t])
    (inb : ∀ a, off a + (![1, 1, l] : Fin 3 → ℕ) a ≤ (![N, 1, L] : Fin 3 → ℕ) a)
    (p : (Rect.unit (s := ⟨3, ![N, 1, L]⟩) off ![1, 1, l] inb).shape.Idx → EReal) (hp : p = box (n := 1) (m := 1) (l := l) w)
    (hw : ∀ c, c < l → w 0 0 c = g' e 0 (t + c)) (hg : ∀ a s, a ≠ e ∨ s < t ∨ t + l ≤ s → g a 0 s = g' a 0 s) :
    v.read (Elt Ideal) (v.writes (Elt Ideal) f [⟨Rect.unit (s := ⟨3, ![N, 1, L]⟩) off ![1, 1, l] inb, p⟩]) = box g' := by
  funext y
  have h1 : (y 1).val < 1 := (y 1).isLt
  have h10 : (y 1).val = 0 := by omega
  by_cases hy : (y 0).val = e ∧ t ≤ (y 2).val ∧ (y 2).val < t + l
  · refine (View.read_writes_cons_unit_of_mem v f inb p [] y (ix3 0 0 ⟨(y 2).val - t, by omega⟩) h ?_).trans ?_
    · intro a
      match a with
      | ⟨0, _⟩ => show (y 0).val = e + 0; omega
      | ⟨1, _⟩ => show (y 1).val = 0 + 0; omega
      | ⟨2, _⟩ => show (y 2).val = t + ((y 2).val - t); omega
    · rw [hp]
      show ((w 0 0 ((y 2).val - t) : ℝ) : EReal) = ((g' (y 0).val (y 1).val (y 2).val : ℝ) : EReal)
      rw [hw _ (by omega), show t + ((y 2).val - t) = (y 2).val by omega, h10, hy.1]
  · have hn : v.read (Elt Ideal) (v.writes (Elt Ideal) f [⟨Rect.unit (s := ⟨3, ![N, 1, L]⟩) off ![1, 1, l] inb, p⟩]) y = v.read (Elt Ideal) (v.writes (Elt Ideal) f []) y := by
      by_cases he : (y 0).val = e
      · refine View.read_writes_cons_unit_of_not_mem v f inb p [] y h 2 ?_
        show (y 2).val < t ∨ t + l ≤ (y 2).val; omega
      · refine View.read_writes_cons_unit_of_not_mem v f inb p [] y h 0 ?_
        show (y 0).val < e ∨ e + 1 ≤ (y 0).val; omega
    rw [hn, View.writes_nil, hf]
    show ((g (y 0).val (y 1).val (y 2).val : ℝ) : EReal) = ((g' (y 0).val (y 1).val (y 2).val : ℝ) : EReal)
    rw [h10, hg _ _ (by omega)]

/-- The first `n` planes of the scratch hold the columns' tiles of `g`. -/
def Holds (v : View sig .tc .vmem S16x256x512 .f32) (f : v.ty.Contents (Elt Ideal)) (n : ℕ) (g : ℕ → ℕ → ℝ) : Prop :=
  ∀ y : (⟨3, ![16, 256, 512]⟩ : Shape).Idx, (y 0).val < n → v.read (Elt Ideal) f y = ((g (y 1).val (512 * (y 0).val + (y 2).val) : ℝ) : EReal)

/-- A plane of the scratch, loaded. -/
theorem ldH (v : View sig .tc .vmem S16x256x512 .f32) (f : v.ty.Contents (Elt Ideal)) (n : ℕ) (g : ℕ → ℕ → ℝ) (hf : Holds v f n g)
    {off : Fin 3 → ℕ} (k : ℕ) (hk : k < n) (h : off = ![k, 0, 0]) (inb : ∀ a, off a + S1x256x512.size a ≤ S16x256x512.size a) :
    v.readAt (Elt Ideal) (Rect.unit (s := S16x256x512) off S1x256x512.size inb).toLoadRect f = box (n := 1) (m := 256) (l := 512) fun _ r c => g r (512 * k + c) := by
  subst h
  funext y
  have h0 : (y 0).val < 1 := (y 0).isLt
  have e0 : ((Rect.unit (s := S16x256x512) ![k, 0, 0] S1x256x512.size inb).emb y 0).val = k := by
    show k + 1 * (y 0).val = k; omega
  refine (hf ((Rect.unit (s := S16x256x512) ![k, 0, 0] S1x256x512.size inb).emb y) (by rw [e0]; exact hk)).trans ?_
  rw [e0]
  show ((g (0 + 1 * (y 1).val) (512 * k + (0 + 1 * (y 2).val)) : ℝ) : EReal) = ((g (y 1).val (512 * k + (y 2).val) : ℝ) : EReal)
  rw [Nat.one_mul, Nat.one_mul, Nat.zero_add, Nat.zero_add]

/-- A plane of the scratch, stored. -/
theorem stH (v : View sig .tc .vmem S16x256x512 .f32) (f : v.ty.Contents (Elt Ideal)) (k : ℕ) (g : ℕ → ℕ → ℝ) (hf : Holds v f k g)
    {off : Fin 3 → ℕ} (h : off = ![k, 0, 0]) (inb : ∀ a, off a + S1x256x512.size a ≤ S16x256x512.size a)
    (p : (Rect.unit (s := S16x256x512) off S1x256x512.size inb).shape.Idx → EReal) (hp : p = box (n := 1) (m := 256) (l := 512) fun _ r c => g r (512 * k + c)) :
    Holds v (v.writes (Elt Ideal) f [⟨Rect.unit (s := S16x256x512) off S1x256x512.size inb, p⟩]) (k + 1) g := by
  intro y hy
  by_cases e : (y 0).val = k
  · refine (View.read_writes_cons_unit_of_mem v f inb p [] y (ix3 0 (y 1) (y 2)) h ?_).trans ?_
    · intro a
      match a with
      | ⟨0, _⟩ => show (y 0).val = k + 0; omega
      | ⟨1, _⟩ => show (y 1).val = 0 + (y 1).val; omega
      | ⟨2, _⟩ => show (y 2).val = 0 + (y 2).val; omega
    · rw [hp, e]; rfl
  · refine (View.read_writes_cons_unit_of_not_mem v f inb p [] y h 0 ?_).trans ?_
    · show (y 0).val < k ∨ k + 1 ≤ (y 0).val; omega
    · rw [View.writes_nil]; exact hf y (by omega)

end Cert.Proof.Mem

end
-- ==== Proof.Offs.lean ====
/-
  The loops' trip counts and the rectangles' offsets, over the grid.
-/
module

public import proofs.«01_k».proof.Proof.Gen.KernelIdeal

@[expose] public section

set_option maxRecDepth 16384

noncomputable section

namespace Cert.Proof.Offs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem off1 : ∀ (i : grid0.Coords) (k : Fin (k0_t1_loop i).trips), k0_off1 i k = ![512 * k.val, 0] := by decide +kernel

theorem off2 : ∀ (i : grid0.Coords) (k : Fin (k0_t1_loop i).trips), k0_off2 i k = ![0, 0, 512 * k.val] := by decide +kernel

theorem off3 : ∀ (i : grid0.Coords) (k : Fin (k0_t1_loop i).trips), k0_off3 i k = ![k.val, 0, 0] := by decide +kernel

theorem off10 : ∀ (i : grid0.Coords) (k : Fin (k0_t3_loop i).trips), k0_off10 i k = ![k.val, 0, 0] := by decide +kernel

theorem off11 : ∀ (i : grid0.Coords) (k : Fin (k0_t3_loop i).trips), k0_off11 i k = ![512 * k.val, 0] := by decide +kernel

theorem off12 : ∀ (i : grid0.Coords) (k : Fin (k0_t3_loop i).trips), k0_off12 i k = ![0, 0, 512 * k.val] := by decide +kernel

theorem off16 : ∀ (i : grid0.Coords) (k : Fin (k0_t5_loop i).trips), k0_off16 i k = ![512 * k.val, 0] := by decide +kernel

theorem off17 : ∀ (i : grid0.Coords) (k : Fin (k0_t5_loop i).trips), k0_off17 i k = ![1, 0, 512 * k.val] := by decide +kernel

theorem off18 : ∀ (i : grid0.Coords) (k : Fin (k0_t5_loop i).trips), k0_off18 i k = ![k.val, 0, 0] := by decide +kernel

theorem off23 : ∀ (i : grid0.Coords) (k : Fin (k0_t7_loop i).trips), k0_off23 i k = ![k.val, 0, 0] := by decide +kernel

theorem off24 : ∀ (i : grid0.Coords) (k : Fin (k0_t7_loop i).trips), k0_off24 i k = ![512 * k.val, 0] := by decide +kernel

theorem off25 : ∀ (i : grid0.Coords) (k : Fin (k0_t7_loop i).trips), k0_off25 i k = ![1, 0, 512 * k.val] := by decide +kernel

theorem off7 : ∀ i : grid0.Coords, k0_off7 i = ![512 * ((i 1).val / 2), 0] := by decide +kernel

theorem off8 : ∀ i : grid0.Coords, k0_off8 i = ![0, 0, 512 * ((i 1).val / 2)] := by decide +kernel

theorem off22 : ∀ i : grid0.Coords, k0_off22 i = ![1, 0, 512 * ((i 1).val / 2)] := by decide +kernel

theorem off9 : ∀ i : grid0.Coords, k0_off9 i = ![(i 1).val / 2, 0, 0] := by decide +kernel

theorem trips1 : ∀ i : grid0.Coords, (k0_t1_loop i).trips = (i 1).val / 2 := by decide +kernel

theorem trips5 : ∀ i : grid0.Coords, (k0_t5_loop i).trips = (i 1).val / 2 := by decide +kernel

theorem trips3 : ∀ i : grid0.Coords, (k0_t3_loop i).trips = (i 1).val / 2 + 1 := by decide +kernel

theorem trips7 : ∀ i : grid0.Coords, (k0_t7_loop i).trips = (i 1).val / 2 + 1 := by decide +kernel

theorem trips2 : ∀ i : grid0.Coords, (k0_t2_loop i).trips = 0 := by decide +kernel

theorem trips4 : ∀ i : grid0.Coords, (k0_t4_loop i).trips = 0 := by decide +kernel

theorem trips6 : ∀ i : grid0.Coords, (k0_t6_loop i).trips = 0 := by decide +kernel

theorem trips8 : ∀ i : grid0.Coords, (k0_t8_loop i).trips = 0 := by decide +kernel

end Cert.Proof.Offs

end
-- ==== Proof.Trips.lean ====
/-
  One trip of each loop: the first sweep stores a tile and adds to the row sums, the second adds a tile's gradients.
-/
module

public import proofs.«01_k».proof.Proof.Gen.KernelIdeal.Frame
public import proofs.«01_k».proof.Proof.Mem
public import proofs.«01_k».proof.Proof.Offs
public import Idealize.ShloMosaic.Lib.Claim
public import Idealize.ShloMosaic.Lib.LoopRemainder

@[expose] public section

set_option maxRecDepth 16384

noncomputable section

namespace Cert.Proof.Trips

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Pays Cert.Proof.Mem

local notation "𝕄" => MT nD τ sig Unit (Elt Ideal) ℕ (UR sig nD τ) ℕ

/-- Before trip `k` of head `e`'s first sweep: `k` tiles are in the scratch, and the row sums are over them. -/
def inv1 (c : Dev nD) (arg3 : Memref sig .tc .vmem S8192x128 .bf16) (arg4 : Memref sig .tc .vmem S8192x128 .bf16) (arg6 : Memref sig .tc .vmem S2x1x8192 .f32) (arg13 : Memref sig .tc .vmem S16x256x512 .f32) (arg14 : Memref sig .tc .vmem S16x256x512 .f32) (f3 : BufTy.Contents (Elt Ideal) arg3.view.ty) (f4 : BufTy.Contents (Elt Ideal) arg4.view.ty) (f6 : BufTy.Contents (Elt Ideal) arg6.view.ty) (b : Blk) (e k : ℕ) (acc : FVec Ideal S256x1 .f32) : sProp 𝕄 :=
  iprop((arg3.view.loc (c : Thread nD τ) ↦[arg3.view.set]{fullShare} f3) ∗ (arg4.view.loc (c : Thread nD τ) ↦[arg4.view.set]{fullShare} f4) ∗ (arg6.view.loc (c : Thread nD τ) ↦[arg6.view.set]{fullShare} f6) ∗ ∃ f13 f14, (arg13.view.loc (c : Thread nD τ) ↦[arg13.view.set]{fullShare} f13) ∗ (arg14.view.loc (c : Thread nD τ) ↦[arg14.view.set]{fullShare} f14) ∗ ⌜Holds arg13.view f13 k (b.pr e) ∧ Holds arg14.view f14 k (b.dp e) ∧ acc = mat fun r _ => b.dl e (512 * k) r⌝)

/-- Before trip `k` of head `e`'s second sweep: the first `512 k` rows of the keys' and values' gradients have this head's share. -/
def inv3 (c : Dev nD) (arg3 : Memref sig .tc .vmem S8192x128 .bf16) (arg10 : Memref sig .tc .vmem S8192x128 .f32) (arg11 : Memref sig .tc .vmem S8192x128 .f32) (arg12 : Memref sig .tc .vmem S2x1x8192 .f32) (arg13 : Memref sig .tc .vmem S16x256x512 .f32) (arg14 : Memref sig .tc .vmem S16x256x512 .f32) (f3 : BufTy.Contents (Elt Ideal) arg3.view.ty) (b : Blk) (A10 A11 : ℕ → ℕ → ℝ) (A12 : ℕ → ℕ → ℝ) (e n N k : ℕ) (acc : FVec Ideal S256x128 .f32) : sProp 𝕄 :=
  iprop((arg3.view.loc (c : Thread nD τ) ↦[arg3.view.set]{fullShare} f3) ∗ ∃ f13 f14 f10 f11 f12, (arg13.view.loc (c : Thread nD τ) ↦[arg13.view.set]{fullShare} f13) ∗ (arg14.view.loc (c : Thread nD τ) ↦[arg14.view.set]{fullShare} f14) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ ⌜Holds arg13.view f13 N (b.pr e) ∧ Holds arg14.view f14 N (b.dp e) ∧ arg10.view.read (Elt Ideal) f10 = (mat fun s l => A10 s l + if s < 512 * k then ∑ r : Fin 256, b.ds e n r s * b.mq e r l else 0)
    ∧ arg11.view.read (Elt Ideal) f11 = (mat fun s l => A11 s l + if s < 512 * k then ∑ r : Fin 256, b.pr e r s * b.mg e r l else 0)
    ∧ arg12.view.read (Elt Ideal) f12 = (box fun h _ s => A12 h s - if h = e ∧ s < 512 * k then ∑ r : Fin 256, b.ds e n r s else 0)
    ∧ acc = mat fun r l => ∑ s ∈ Finset.range (512 * k), b.ds e n r s * b.k s l⌝)

set_option maxHeartbeats 4000000 in
theorem trip1 (c : Dev nD) (E : Set ℕ) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S2x256x1 .f32) (harg5 : arg5.IsWhole) (arg6 : Memref sig .tc .vmem S2x1x8192 .f32) (harg6 : arg6.IsWhole) (arg7 : Memref sig .tc .vmem S2x256x1 .f32) (harg7 : arg7.IsWhole) (arg8 : Memref sig .tc .vmem S256x128 .bf16) (harg8 : arg8.IsWhole) (arg9 : Memref sig .tc .vmem S256x128 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S2x1x8192 .f32) (harg12 : arg12.IsWhole) (arg13 : Memref sig .tc .vmem S16x256x512 .f32) (harg13 : arg13.IsWhole) (arg14 : Memref sig .tc .vmem S16x256x512 .f32) (harg14 : arg14.IsWhole) (b : Blk) (v35 v36 c512 : BitVec 32) (v8 : IVec S256x128 1) (v15 v17 : FVec Ideal S256x128 .bf16) (v46 v48 : Vec Ideal S1x256x1 .f32) (h8 : v8 = k0_pay36) (h15 : v15 = mat b.q) (h17 : v17 = mat b.g)
    (h46 : v46 = box fun _ r _ => b.fq 0 r) (h48 : v48 = box fun _ r _ => b.ls 0 r) (ho : b.o = 256 * (i 1).val) (f3 : BufTy.Contents (Elt Ideal) arg3.view.ty) (f4 : BufTy.Contents (Elt Ideal) arg4.view.ty) (f6 : BufTy.Contents (Elt Ideal) arg6.view.ty)
    (hf3 : arg3.view.read (Elt Ideal) f3 = mat b.k) (hf4 : arg4.view.read (Elt Ideal) f4 = mat b.v) (hf6 : arg6.view.read (Elt Ideal) f6 = box fun h _ s => b.fk h s)
    (k : Fin (k0_t1_loop i).trips) (acc : FVec Ideal S256x1 .f32) :
    inv1 c arg3 arg4 arg6 arg13 arg14 f3 f4 f6 b 0 k.val acc ⊢ wp frame (wpE (defs₀ (F := Ideal)) Variants.none (c : Thread nD τ) none) E (k0_t1_body (F := Ideal) i arg2 harg2 arg3 harg3 arg4 harg4 arg5 harg5 arg6 harg6 arg7 harg7 arg8 harg8 arg9 harg9 arg10 harg10 arg11 harg11 arg12 harg12 arg13 harg13 arg14 harg14 v8 v15 v17 v35 v36 c512 v46 v48 k acc)
      (inv1 c arg3 arg4 arg6 arg13 arg14 f3 f4 f6 b 0 (k.val + 1)) := by
  have hk : k.val < (i 1).val / 2 := lt_of_lt_of_eq k.isLt (Offs.trips1 i)
  have ht : 512 * k.val + 512 ≤ b.o := by omega
  have l3 := ld2_bf16 arg3.view f3 b.k hf3 (n := 512) (512 * k.val) (Offs.off1 i k) (k0_off1_inb i k)
  have l4 := ld2_bf16 arg4.view f4 b.v hf4 (n := 512) (512 * k.val) (Offs.off1 i k) (k0_off1_inb i k)
  have l6 := ld3_plane arg6.view f6 (fun h _ s => b.fk h s) hf6 (m := 1) (l := 512) 0 (512 * k.val) (Offs.off2 i k) (k0_off2_inb i k)
  unfold inv1 k0_t1_body
  iintro ⟨H3, H4, H6, %f13, %f14, H13, H14, %hh⟩
  obtain ⟨h13, h14, hacc⟩ := hh
  sl_exec
  sl_step
  isplitl [H3]; · iexact H3
  isplitl [H4]; · iexact H4
  isplitl [H6]; · iexact H6
  iexists _; iexists _
  isplitl [H13]; · iexact H13
  isplitl [H14]; · iexact H14
  ipureintro
  refine ⟨stH arg13.view f13 k.val (b.pr 0) h13 (Offs.off3 i k) (k0_off3_inb i k) _ ?_, stH arg14.view f14 k.val (b.dp 0) h14 (Offs.off3 i k) (k0_off3_inb i k) _ ?_, ?_⟩
  · rw [h8, h15, h46, h48]; exact pay48 b _ ht
  · rw [h8, h17]; exact pay49 b _
  · rw [h8, h15, h17, h46, h48, hacc]; exact pay50 b _ ht

set_option maxHeartbeats 4000000 in
theorem trip5 (c : Dev nD) (E : Set ℕ) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S2x256x1 .f32) (harg5 : arg5.IsWhole) (arg6 : Memref sig .tc .vmem S2x1x8192 .f32) (harg6 : arg6.IsWhole) (arg7 : Memref sig .tc .vmem S2x256x1 .f32) (harg7 : arg7.IsWhole) (arg8 : Memref sig .tc .vmem S256x128 .bf16) (harg8 : arg8.IsWhole) (arg9 : Memref sig .tc .vmem S256x128 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S2x1x8192 .f32) (harg12 : arg12.IsWhole) (arg13 : Memref sig .tc .vmem S16x256x512 .f32) (harg13 : arg13.IsWhole) (arg14 : Memref sig .tc .vmem S16x256x512 .f32) (harg14 : arg14.IsWhole) (b : Blk) (v35 v38 : BitVec 32) (v15 v17 : FVec Ideal S256x128 .bf16) (v46 v48 : Vec Ideal S1x256x1 .f32) (h15 : v15 = mat (b.mq 1)) (h17 : v17 = mat (b.mg 1))
    (h46 : v46 = box fun _ r _ => b.fq 1 r) (h48 : v48 = box fun _ r _ => b.ls 1 r) (ho : b.o = 256 * (i 1).val) (f3 : BufTy.Contents (Elt Ideal) arg3.view.ty) (f4 : BufTy.Contents (Elt Ideal) arg4.view.ty) (f6 : BufTy.Contents (Elt Ideal) arg6.view.ty)
    (hf3 : arg3.view.read (Elt Ideal) f3 = mat b.k) (hf4 : arg4.view.read (Elt Ideal) f4 = mat b.v) (hf6 : arg6.view.read (Elt Ideal) f6 = box fun h _ s => b.fk h s)
    (k : Fin (k0_t5_loop i).trips) (acc : FVec Ideal S256x1 .f32) :
    inv1 c arg3 arg4 arg6 arg13 arg14 f3 f4 f6 b 1 k.val acc ⊢ wp frame (wpE (defs₀ (F := Ideal)) Variants.none (c : Thread nD τ) none) E (k0_t5_body (F := Ideal) i arg2 harg2 arg3 harg3 arg4 harg4 arg5 harg5 arg6 harg6 arg7 harg7 arg8 harg8 arg9 harg9 arg10 harg10 arg11 harg11 arg12 harg12 arg13 harg13 arg14 harg14 v35 v38 v15 v17 v46 v48 k acc)
      (inv1 c arg3 arg4 arg6 arg13 arg14 f3 f4 f6 b 1 (k.val + 1)) := by
  have hk : k.val < (i 1).val / 2 := lt_of_lt_of_eq k.isLt (Offs.trips5 i)
  have ht : 512 * k.val + 512 ≤ b.o := by omega
  have l3 := ld2_bf16 arg3.view f3 b.k hf3 (n := 512) (512 * k.val) (Offs.off16 i k) (k0_off16_inb i k)
  have l4 := ld2_bf16 arg4.view f4 b.v hf4 (n := 512) (512 * k.val) (Offs.off16 i k) (k0_off16_inb i k)
  have l6 := ld3_plane arg6.view f6 (fun h _ s => b.fk h s) hf6 (m := 1) (l := 512) 1 (512 * k.val) (Offs.off17 i k) (k0_off17_inb i k)
  unfold inv1 k0_t5_body
  iintro ⟨H3, H4, H6, %f13, %f14, H13, H14, %hh⟩
  obtain ⟨h13, h14, hacc⟩ := hh
  sl_exec
  sl_step
  isplitl [H3]; · iexact H3
  isplitl [H4]; · iexact H4
  isplitl [H6]; · iexact H6
  iexists _; iexists _
  isplitl [H13]; · iexact H13
  isplitl [H14]; · iexact H14
  ipureintro
  refine ⟨stH arg13.view f13 k.val (b.pr 1) h13 (Offs.off18 i k) (k0_off18_inb i k) _ ?_, stH arg14.view f14 k.val (b.dp 1) h14 (Offs.off18 i k) (k0_off18_inb i k) _ ?_, ?_⟩
  · rw [h15, h46, h48]; exact pay74 b _ ht
  · rw [h17]; exact pay75 b _
  · rw [h15, h17, h46, h48, hacc]; exact pay76 b _ ht

set_option maxHeartbeats 4000000 in
theorem trip3 (c : Dev nD) (E : Set ℕ) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S2x256x1 .f32) (harg5 : arg5.IsWhole) (arg6 : Memref sig .tc .vmem S2x1x8192 .f32) (harg6 : arg6.IsWhole) (arg7 : Memref sig .tc .vmem S2x256x1 .f32) (harg7 : arg7.IsWhole) (arg8 : Memref sig .tc .vmem S256x128 .bf16) (harg8 : arg8.IsWhole) (arg9 : Memref sig .tc .vmem S256x128 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S2x1x8192 .f32) (harg12 : arg12.IsWhole) (arg13 : Memref sig .tc .vmem S16x256x512 .f32) (harg13 : arg13.IsWhole) (arg14 : Memref sig .tc .vmem S16x256x512 .f32) (harg14 : arg14.IsWhole) (b : Blk) (v8 v13 : IVec S256x128 1) (v15 v17 : FVec Ideal S256x128 .bf16) (v35 : BitVec 32) (v39 : FVec Ideal S256x128 .f32) (v42 v45 : FVec Ideal S256x128 .bf16) (v49 v57 : FVec Ideal S256x1 .f32) (v59 : BitVec 32) (v72 : FVec Ideal S256x512 .f32) (v75 v76 : IVec S256x512 32) (v84 : Vec Ideal S512x128 .bf16) (n : ℕ)
    (hd : k0_pay62 v45 v49 v57 v72 v75 v76 v84 = mat fun r _ => b.dl 0 n r)
    (h42 : v42 = mat (b.mq 0)) (h45 : v45 = mat (b.mg 0)) (f3 : BufTy.Contents (Elt Ideal) arg3.view.ty)
    (hf3 : arg3.view.read (Elt Ideal) f3 = mat b.k) (N : ℕ) (hN : (k0_t3_loop i).trips = N)
    (A10 A11 A12 : ℕ → ℕ → ℝ)
    (k : Fin (k0_t3_loop i).trips) (acc : FVec Ideal S256x128 .f32) :
    inv3 c arg3 arg10 arg11 arg12 arg13 arg14 f3 b A10 A11 A12 0 n N k.val acc ⊢ wp frame (wpE (defs₀ (F := Ideal)) Variants.none (c : Thread nD τ) none) E (k0_t3_body (F := Ideal) i arg2 harg2 arg3 harg3 arg4 harg4 arg5 harg5 arg6 harg6 arg7 harg7 arg8 harg8 arg9 harg9 arg10 harg10 arg11 harg11 arg12 harg12 arg13 harg13 arg14 harg14 v8 v13 v15 v17 v35 v39 v42 v45 v49 v57 v59 v72 v75 v76 v84 k acc)
      (inv3 c arg3 arg10 arg11 arg12 arg13 arg14 f3 b A10 A11 A12 0 n N (k.val + 1)) := by
  have l3 := ld2_bf16 arg3.view f3 b.k hf3 (n := 512) (512 * k.val) (Offs.off11 i k) (k0_off11_inb i k)
  unfold inv3 k0_t3_body
  simp only [k0_part1_eq_skeleton]
  iintro ⟨H3, %f13, %f14, %f10, %f11, %f12, H13, H14, H10, H11, H12, %hh⟩
  obtain ⟨h13, h14, h10, h11, h12, hacc⟩ := hh
  have l13 := ldH arg13.view f13 _ (b.pr 0) h13 k.val (hN ▸ k.isLt) (Offs.off10 i k) (k0_off10_inb i k)
  have l14 := ldH arg14.view f14 _ (b.dp 0) h14 k.val (hN ▸ k.isLt) (Offs.off10 i k) (k0_off10_inb i k)
  have l10 := ld2_f32 arg10.view f10 _ h10 (n := 512) (512 * k.val) (Offs.off11 i k) (k0_off11_inb i k)
  have l11 := ld2_f32 arg11.view f11 _ h11 (n := 512) (512 * k.val) (Offs.off11 i k) (k0_off11_inb i k)
  have l12 := ld3_plane arg12.view f12 _ h12 (m := 1) (l := 512) 0 (512 * k.val) (Offs.off12 i k) (k0_off12_inb i k)
  sl_exec
  sl_step
  isplitl [H3]; · iexact H3
  iexists f13; iexists f14; iexists _; iexists _; iexists _
  isplitl [H13]; · iexact H13
  isplitl [H14]; · iexact H14
  isplitl [H10]; · iexact H10
  isplitl [H11]; · iexact H11
  isplitl [H12]; · iexact H12
  ipureintro
  refine ⟨h13, h14, st2 arg10.view f10 _ _ _ h10 (512 * k.val) (Offs.off11 i k) (k0_off11_inb i k) _ (by rw [h42, hd]; exact pay12 b n (512 * k.val) _) ?_ ?_, st2 arg11.view f11 _ _ _ h11 (512 * k.val) (Offs.off11 i k) (k0_off11_inb i k) _ (by rw [h45]; exact pay13 b (512 * k.val) _) ?_ ?_,
    st3 arg12.view f12 _ _ _ h12 0 (512 * k.val) (Offs.off12 i k) (k0_off12_inb i k) _ (by rw [hd]; exact pay14 b n (512 * k.val) _) ?_ ?_, ?_⟩
  · intro s l hs
    rw [if_neg (by omega), if_pos (by omega), add_zero]
  · intro s l hs
    by_cases hlt : s < 512 * k.val
    · rw [if_pos hlt, if_pos (by omega)]
    · rw [if_neg hlt, if_neg (by omega)]
  · intro s l hs
    rw [if_neg (by omega), if_pos (by omega), add_zero]
  · intro s l hs
    by_cases hlt : s < 512 * k.val
    · rw [if_pos hlt, if_pos (by omega)]
    · rw [if_neg hlt, if_neg (by omega)]
  · intro s hs
    rw [if_neg (by omega), if_pos (by omega), sub_zero]
  · intro a s hs
    by_cases hlt : a = 0 ∧ s < 512 * k.val
    · rw [if_pos hlt, if_pos (by omega)]
    · rw [if_neg hlt, if_neg (by omega)]
  · delta trip3.sl.r trip3.sl.r_1
    rw [hd, hacc]
    exact (congrArg (fun x => k0_pay64 _ x (mat fun r l => b.k (512 * k.val + r) l)) (pay11 b n (512 * k.val))).trans (pay64 b n (512 * k.val))

set_option maxHeartbeats 4000000 in
theorem trip7 (c : Dev nD) (E : Set ℕ) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S2x256x1 .f32) (harg5 : arg5.IsWhole) (arg6 : Memref sig .tc .vmem S2x1x8192 .f32) (harg6 : arg6.IsWhole) (arg7 : Memref sig .tc .vmem S2x256x1 .f32) (harg7 : arg7.IsWhole) (arg8 : Memref sig .tc .vmem S256x128 .bf16) (harg8 : arg8.IsWhole) (arg9 : Memref sig .tc .vmem S256x128 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S2x1x8192 .f32) (harg12 : arg12.IsWhole) (arg13 : Memref sig .tc .vmem S16x256x512 .f32) (harg13 : arg13.IsWhole) (arg14 : Memref sig .tc .vmem S16x256x512 .f32) (harg14 : arg14.IsWhole) (b : Blk) (v42 v45 : FVec Ideal S256x128 .bf16) (v126 : FVec Ideal S256x1 .f32) (v151 v155 : FVec Ideal S256x512 .f32) (n : ℕ)
    (hd : k0_pay3 v126 v151 v155 = mat fun r _ => b.dl 1 n r)
    (h42 : v42 = mat (b.mq 1)) (h45 : v45 = mat (b.mg 1)) (f3 : BufTy.Contents (Elt Ideal) arg3.view.ty)
    (hf3 : arg3.view.read (Elt Ideal) f3 = mat b.k) (N : ℕ) (hN : (k0_t7_loop i).trips = N)
    (A10 A11 A12 : ℕ → ℕ → ℝ)
    (k : Fin (k0_t7_loop i).trips) (acc : FVec Ideal S256x128 .f32) :
    inv3 c arg3 arg10 arg11 arg12 arg13 arg14 f3 b A10 A11 A12 1 n N k.val acc ⊢ wp frame (wpE (defs₀ (F := Ideal)) Variants.none (c : Thread nD τ) none) E (k0_t7_body (F := Ideal) i arg2 harg2 arg3 harg3 arg4 harg4 arg5 harg5 arg6 harg6 arg7 harg7 arg8 harg8 arg9 harg9 arg10 harg10 arg11 harg11 arg12 harg12 arg13 harg13 arg14 harg14 v42 v45 v126 v151 v155 k acc)
      (inv3 c arg3 arg10 arg11 arg12 arg13 arg14 f3 b A10 A11 A12 1 n N (k.val + 1)) := by
  have l3 := ld2_bf16 arg3.view f3 b.k hf3 (n := 512) (512 * k.val) (Offs.off24 i k) (k0_off24_inb i k)
  unfold inv3 k0_t7_body
  simp only [k0_part3_eq_skeleton]
  iintro ⟨H3, %f13, %f14, %f10, %f11, %f12, H13, H14, H10, H11, H12, %hh⟩
  obtain ⟨h13, h14, h10, h11, h12, hacc⟩ := hh
  have l13 := ldH arg13.view f13 _ (b.pr 1) h13 k.val (hN ▸ k.isLt) (Offs.off23 i k) (k0_off23_inb i k)
  have l14 := ldH arg14.view f14 _ (b.dp 1) h14 k.val (hN ▸ k.isLt) (Offs.off23 i k) (k0_off23_inb i k)
  have l10 := ld2_f32 arg10.view f10 _ h10 (n := 512) (512 * k.val) (Offs.off24 i k) (k0_off24_inb i k)
  have l11 := ld2_f32 arg11.view f11 _ h11 (n := 512) (512 * k.val) (Offs.off24 i k) (k0_off24_inb i k)
  have l12 := ld3_plane arg12.view f12 _ h12 (m := 1) (l := 512) 1 (512 * k.val) (Offs.off25 i k) (k0_off25_inb i k)
  sl_exec
  sl_step
  isplitl [H3]; · iexact H3
  iexists f13; iexists f14; iexists _; iexists _; iexists _
  isplitl [H13]; · iexact H13
  isplitl [H14]; · iexact H14
  isplitl [H10]; · iexact H10
  isplitl [H11]; · iexact H11
  isplitl [H12]; · iexact H12
  ipureintro
  refine ⟨h13, h14, st2 arg10.view f10 _ _ _ h10 (512 * k.val) (Offs.off24 i k) (k0_off24_inb i k) _ (by rw [h42, hd]; exact pay24 b n (512 * k.val) _) ?_ ?_, st2 arg11.view f11 _ _ _ h11 (512 * k.val) (Offs.off24 i k) (k0_off24_inb i k) _ (by rw [h45]; exact pay25 b (512 * k.val) _) ?_ ?_,
    st3 arg12.view f12 _ _ _ h12 1 (512 * k.val) (Offs.off25 i k) (k0_off25_inb i k) _ (by rw [hd]; exact pay26 b n (512 * k.val) _) ?_ ?_, ?_⟩
  · intro s l hs
    rw [if_neg (by omega), if_pos (by omega), add_zero]
  · intro s l hs
    by_cases hlt : s < 512 * k.val
    · rw [if_pos hlt, if_pos (by omega)]
    · rw [if_neg hlt, if_neg (by omega)]
  · intro s l hs
    rw [if_neg (by omega), if_pos (by omega), add_zero]
  · intro s l hs
    by_cases hlt : s < 512 * k.val
    · rw [if_pos hlt, if_pos (by omega)]
    · rw [if_neg hlt, if_neg (by omega)]
  · intro s hs
    rw [if_neg (by omega), if_pos (by omega), sub_zero]
  · intro a s hs
    by_cases hlt : a = 1 ∧ s < 512 * k.val
    · rw [if_pos hlt, if_pos (by omega)]
    · rw [if_neg hlt, if_neg (by omega)]
  · delta trip7.sl.r trip7.sl.r_1
    rw [hd, hacc]
    exact (congrArg (fun x => k0_pay5 _ x (mat fun r l => b.k (512 * k.val + r) l)) (pay23 b n (512 * k.val))).trans (pay5 b n (512 * k.val))

end Cert.Proof.Trips

end
-- ==== Proof.Body.lean ====
/-
  One grid point, its values followed: what the four outputs hold after it, from what they held before.
-/
module

public import proofs.«01_k».proof.Proof.Trips

@[expose] public section

set_option maxRecDepth 16384

noncomputable section

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Pays Cert.Proof.Mem Cert.Proof.Trips

local notation "𝕄" => MT nD τ sig Unit (Elt Ideal) ℕ (UR sig nD τ) ℕ

namespace Gr
variable (b : Blk)

/-- What a grid point leaves in the gradient of its queries: over the first `n` columns. -/
def dq (n r l : ℕ) : ℝ :=
  (if l / 64 = 1 then ∑ s ∈ Finset.range n, b.ds 1 n r s * b.k s l
    else if l / 64 = 0 then ∑ s ∈ Finset.range n, b.ds 0 n r s * b.k s l else 0) * (1 / 8)

/-- What it leaves in the gradient of the keys, from `A`. -/
def dk (A : ℕ → ℕ → ℝ) (n s l : ℕ) : ℝ :=
  (A s l + if s < n then ∑ r : Fin 256, b.ds 0 n r s * b.mq 0 r l else 0) + if s < n then ∑ r : Fin 256, b.ds 1 n r s * b.mq 1 r l else 0

/-- What it leaves in the gradient of the values, from `A`. -/
def dv (A : ℕ → ℕ → ℝ) (n s l : ℕ) : ℝ :=
  (A s l + if s < n then ∑ r : Fin 256, b.pr 0 r s * b.mg 0 r l else 0) + if s < n then ∑ r : Fin 256, b.pr 1 r s * b.mg 1 r l else 0

/-- What it leaves in the gradient of the forget sums, from `A`. -/
def df (A : ℕ → ℕ → ℝ) (n h s : ℕ) : ℝ :=
  (A h s - if h = 0 ∧ s < n then ∑ r : Fin 256, b.ds 0 n r s else 0) - if h = 1 ∧ s < n then ∑ r : Fin 256, b.ds 1 n r s else 0

end Gr

/-- The number of the key tile the diagonal meets, as the kernel computes it. -/
theorem word35 : ∀ j : Fin 32, Scalar.select (Scalar.andi (Scalar.cmpi .ne (Scalar.subi (Scalar.extui (Scalar.cmpi .sgt (Scalar.muli (BitVec.ofNat 32 j.val) 256#32) 0#32)) (Scalar.extui (Scalar.cmpi .slt (Scalar.muli (BitVec.ofNat 32 j.val) 256#32) 0#32))) (Scalar.subi (Scalar.extui (Scalar.cmpi .sgt 512#32 0#32)) (Scalar.extui (Scalar.cmpi .slt 512#32 0#32)))) (Scalar.cmpi .ne (Scalar.remsi (Scalar.muli (BitVec.ofNat 32 j.val) 256#32) 512#32) 0#32)) (Scalar.subi (Scalar.divsi (Scalar.muli (BitVec.ofNat 32 j.val) 256#32) 512#32) 1#32) (Scalar.divsi (Scalar.muli (BitVec.ofNat 32 j.val) 256#32) 512#32)
    = BitVec.ofNat 32 (j.val / 2) := by decide +kernel

theorem word36 : ∀ j : Fin 32, Scalar.muli (BitVec.ofNat 32 j.val) 256#32 = BitVec.ofNat 32 (256 * j.val) := by decide +kernel

theorem word35' : ∀ j : Fin 32, BitVec.ofNat 32 (j.val / 2) * 512#32 = BitVec.ofNat 32 (512 * (j.val / 2)) := by decide +kernel

theorem first_iff : ∀ j : Fin 32, Scalar.cmpi .ne (Scalar.extui (Scalar.cmpi .eq (BitVec.ofNat 32 j.val) 0#32)) 0#32 = 1#1 ↔ j.val = 0 := by decide +kernel
theorem last_iff : ∀ j : Fin 32, Scalar.cmpi .ne (Scalar.extui (Scalar.cmpi .eq (BitVec.ofNat 32 j.val) 31#32)) 0#32 = 1#1 ↔ j.val = 31 := by decide +kernel

theorem none_yet (A X : ℕ → ℕ → ℝ) {n m : ℕ} : (mat A : (⟨2, ![n, m]⟩ : Shape).Idx → EReal) = mat fun s l => A s l + if s < 512 * 0 then X s l else 0 := by
  simp
theorem none_yet' (A : ℕ → ℕ → ℝ) (X : ℕ → ℝ) (e : ℕ) {n m l : ℕ} : (box (fun h _ s => A h s) : (⟨3, ![n, m, l]⟩ : Shape).Idx → EReal) = box fun h _ s => A h s - if h = e ∧ s < 512 * 0 then X s else 0 := by
  simp

section
variable (b : Blk) (t : ℕ) (ht : t ≤ b.o) (ho : b.o < 8192) (w35 w36 : BitVec 32) (h35 : w35 * 512#32 = BitVec.ofNat 32 t) (h36 : w36 = BitVec.ofNat 32 b.o)
include ht ho h35 h36

theorem tile60 : k0_pay60 (F := Ideal) (k0_pay44 (box fun _ r _ => b.ls 0 r)) (k0_pay56 k0_pay36 (k0_pay38 (mat b.q)) (box fun _ r _ => b.fq 0 r) (mat fun c x => b.k (t + c) x) (box fun _ _ c => b.fk 0 (t + c)))
    (k0_pay57 w35 w36 512#32) (iota .tc S256x512 32 [1] iota_S256x512_d1_w32) = box fun _ r c => b.pr 0 r (t + c) := by
  rw [pay44 b, pay38 b, pay56 b t, pay60 b t ht ho w35 w36 h35 h36]

theorem sum62 (acc : FVec Ideal S256x1 .f32) (ha : acc = mat fun r _ => b.dl 0 t r) :
    k0_pay62 (F := Ideal) (k0_pay42 k0_pay36 (k0_pay39 (mat b.g))) (k0_pay44 (box fun _ r _ => b.ls 0 r)) acc
      (k0_pay56 k0_pay36 (k0_pay38 (mat b.q)) (box fun _ r _ => b.fq 0 r) (mat fun c x => b.k (t + c) x) (box fun _ _ c => b.fk 0 (t + c)))
      (k0_pay57 w35 w36 512#32) (iota .tc S256x512 32 [1] iota_S256x512_d1_w32) (mat fun c x => b.v (t + c) x) = mat fun r _ => b.dl 0 (t + 512) r := by
  rw [ha, pay39 b, pay42 b, pay44 b, pay38 b, pay56 b t, pay62 b t ht ho w35 w36 h35 h36]

theorem tile82 : k0_pay82 (F := Ideal) (Scalar.subi w36 (Scalar.muli w35 512#32)) (k0_pay67 k0_pay37 (k0_pay38 (mat b.q))) (box fun _ r _ => b.fq 1 r) (box fun _ r _ => b.ls 1 r)
    (mat fun c x => b.k (t + c) x) (box fun _ _ c => b.fk 1 (t + c)) = mat fun r c => b.pr 1 r (t + c) := by
  rw [pay38 b, pay67 b, pay82 b t ht ho _ (show Scalar.subi w36 (Scalar.muli w35 512#32) = _ by rw [← h35, ← h36]; rfl)]

theorem sum3 (acc : FVec Ideal S256x1 .f32) (ha : acc = mat fun r _ => b.dl 1 t r) :
    k0_pay3 (F := Ideal) acc (k0_pay82 (F := Ideal) (Scalar.subi w36 (Scalar.muli w35 512#32)) (k0_pay67 k0_pay37 (k0_pay38 (mat b.q))) (box fun _ r _ => b.fq 1 r) (box fun _ r _ => b.ls 1 r)
      (mat fun c x => b.k (t + c) x) (box fun _ _ c => b.fk 1 (t + c))) (k0_pay83 (k0_pay68 k0_pay37 (k0_pay39 (mat b.g))) (mat fun c x => b.v (t + c) x)) = mat fun r _ => b.dl 1 (t + 512) r := by
  rw [ha, tile82 b t ht ho w35 w36 h35 h36, pay39 b, pay68 b, pay83 b t, pay3 b t]

theorem tile1 : k0_pay1 (F := Ideal) (k0_pay82 (F := Ideal) (Scalar.subi w36 (Scalar.muli w35 512#32)) (k0_pay67 k0_pay37 (k0_pay38 (mat b.q))) (box fun _ r _ => b.fq 1 r) (box fun _ r _ => b.ls 1 r)
    (mat fun c x => b.k (t + c) x) (box fun _ _ c => b.fk 1 (t + c))) = box fun _ r c => b.pr 1 r (t + c) := by
  rw [tile82 b t ht ho w35 w36 h35 h36, pay1]

end

theorem tile61 (b : Blk) (t : ℕ) : k0_pay61 (F := Ideal) (k0_pay42 k0_pay36 (k0_pay39 (mat b.g))) (mat fun c x => b.v (t + c) x) = box fun _ r c => b.dp 0 r (t + c) := by
  rw [pay39 b, pay42 b, pay61 b t]

theorem tile2 (b : Blk) (t : ℕ) : k0_pay2 (F := Ideal) (k0_pay83 (k0_pay68 k0_pay37 (k0_pay39 (mat b.g))) (mat fun c x => b.v (t + c) x)) = box fun _ r c => b.dp 1 r (t + c) := by
  rw [pay39 b, pay68 b, pay83 b t, pay2]

theorem last7 (b : Blk) (n : ℕ) (a0 a1 : FVec Ideal S256x128 .f32) (h0 : a0 = mat fun r l => ∑ s ∈ Finset.range n, b.ds 0 n r s * b.k s l)
    (h1 : a1 = mat fun r l => ∑ s ∈ Finset.range n, b.ds 1 n r s * b.k s l) :
    k0_pay7 (F := Ideal) k0_pay37 (k0_pay66 k0_pay36 k0_pay40 a0) a1 = mat (Gr.dq b n) := by
  rw [h0, h1, pay40, pay66, pay7]; rfl

set_option maxHeartbeats 4000000 in
theorem sound_value (c : Dev nD) (E : Set ℕ) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S2x256x1 .f32) (harg5 : arg5.IsWhole) (arg6 : Memref sig .tc .vmem S2x1x8192 .f32) (harg6 : arg6.IsWhole) (arg7 : Memref sig .tc .vmem S2x256x1 .f32) (harg7 : arg7.IsWhole) (arg8 : Memref sig .tc .vmem S256x128 .bf16) (harg8 : arg8.IsWhole) (arg9 : Memref sig .tc .vmem S256x128 .bf16) (harg9 : arg9.IsWhole) (arg10 : Memref sig .tc .vmem S8192x128 .f32) (harg10 : arg10.IsWhole) (arg11 : Memref sig .tc .vmem S8192x128 .f32) (harg11 : arg11.IsWhole) (arg12 : Memref sig .tc .vmem S2x1x8192 .f32) (harg12 : arg12.IsWhole) (arg13 : Memref sig .tc .vmem S16x256x512 .f32) (harg13 : arg13.IsWhole) (arg14 : Memref sig .tc .vmem S16x256x512 .f32) (harg14 : arg14.IsWhole) (b : Blk) (ho : b.o = 256 * (i 1).val)
    (A10 A11 A12 : ℕ → ℕ → ℝ) (x10 x11 : Vec Ideal S8192x128 .f32) (x12 : Vec Ideal S2x1x8192 .f32)
    (hx : (i 1).val ≠ 0 → x10 = mat A10 ∧ x11 = mat A11 ∧ x12 = box fun h _ s => A12 h s)
    (hz : (i 1).val = 0 → A10 = (fun _ _ => 0) ∧ A11 = (fun _ _ => 0) ∧ A12 = (fun _ _ => 0)) (K : PUnit → sProp 𝕄) :
    iprop(owns (c : Thread nD τ) arg2 fullShare (mat b.q) ∗ owns (c : Thread nD τ) arg3 fullShare (mat b.k) ∗ owns (c : Thread nD τ) arg4 fullShare (mat b.v) ∗ owns (c : Thread nD τ) arg5 fullShare (box fun h r _ => b.fq h r) ∗ owns (c : Thread nD τ) arg6 fullShare (box fun h _ s => b.fk h s) ∗ owns (c : Thread nD τ) arg7 fullShare (box fun h r _ => b.ls h r) ∗ owns (c : Thread nD τ) arg8 fullShare (mat b.g)
        ∗ (∃ d, owns (c : Thread nD τ) arg9 fullShare d) ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d)
        ∗ (iprop(owns (c : Thread nD τ) arg2 fullShare (mat b.q) ∗ owns (c : Thread nD τ) arg3 fullShare (mat b.k) ∗ owns (c : Thread nD τ) arg4 fullShare (mat b.v) ∗ owns (c : Thread nD τ) arg5 fullShare (box fun h r _ => b.fq h r) ∗ owns (c : Thread nD τ) arg6 fullShare (box fun h _ s => b.fk h s) ∗ owns (c : Thread nD τ) arg7 fullShare (box fun h r _ => b.ls h r) ∗ owns (c : Thread nD τ) arg8 fullShare (mat b.g) ∗ owns (c : Thread nD τ) arg9 fullShare (mat (Gr.dq b (512 * ((i 1).val / 2) + 512))) ∗ owns (c : Thread nD τ) arg10 fullShare (mat fun s l => Gr.dk b A10 (512 * ((i 1).val / 2) + 512) s l * if (i 1).val = 31 then 1 / 8 else 1) ∗ owns (c : Thread nD τ) arg11 fullShare (mat (Gr.dv b A11 (512 * ((i 1).val / 2) + 512))) ∗ owns (c : Thread nD τ) arg12 fullShare (box fun h _ s => Gr.df b A12 (512 * ((i 1).val / 2) + 512) h s) ∗ (∃ d, owns (c : Thread nD τ) arg13 fullShare d) ∗ (∃ d, owns (c : Thread nD τ) arg14 fullShare d)) -∗ K ⟨⟩))
      ⊢ wp frame (wpE (defs₀ (F := Ideal)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14) K := by
  have hi : (i 1).val < 32 := (i 1).isLt
  have ht : 512 * ((i 1).val / 2) ≤ b.o := by omega
  have ho' : b.o < 8192 := by omega
  simp only [cc0_attn_bwd_eq_skeleton]; unfold cc0_attn_bwd_skel
  simp only [k0_part5_eq_skeleton, k0_part6_eq_skeleton, k0_part7_eq_skeleton, k0_part8_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, ⟨%d13, %f13, -, H13⟩, ⟨%d14, %f14, -, H14⟩, Hk⟩
  have l2 := (View.readAt_full arg2.view f2 inb_S256x128_S256x128_0_0).trans hf2
  have l8 := (View.readAt_full arg8.view f8 inb_S256x128_S256x128_0_0).trans hf8
  have l50 := ld3_plane arg5.view f5 (fun h r _ => b.fq h r) hf5 (m := 256) (l := 1) 0 0 rfl inb_S2x256x1_S1x256x1_0_0_0
  have l51 := ld3_plane arg5.view f5 (fun h r _ => b.fq h r) hf5 (m := 256) (l := 1) 1 0 rfl inb_S2x256x1_S1x256x1_1_0_0
  have l70 := ld3_plane arg7.view f7 (fun h r _ => b.ls h r) hf7 (m := 256) (l := 1) 0 0 rfl inb_S2x256x1_S1x256x1_0_0_0
  have l71 := ld3_plane arg7.view f7 (fun h r _ => b.ls h r) hf7 (m := 256) (l := 1) 1 0 rfl inb_S2x256x1_S1x256x1_1_0_0
  have l3 := ld2_bf16 arg3.view f3 b.k hf3 (n := 512) _ (Offs.off7 i) (k0_off7_inb i)
  have l4 := ld2_bf16 arg4.view f4 b.v hf4 (n := 512) _ (Offs.off7 i) (k0_off7_inb i)
  have l60 := ld3_plane arg6.view f6 (fun h _ s => b.fk h s) hf6 (m := 1) (l := 512) 0 _ (Offs.off8 i) (k0_off8_inb i)
  have l61 := ld3_plane arg6.view f6 (fun h _ s => b.fk h s) hf6 (m := 1) (l := 512) 1 _ (Offs.off22 i) (k0_off22_inb i)
  have w35 := (congrArg (fun w : BitVec 32 => w * 512#32) (word35 ⟨(i 1).val, hi⟩)).trans (word35' ⟨(i 1).val, hi⟩)
  have w36 := (word36 ⟨(i 1).val, hi⟩).trans (congrArg (BitVec.ofNat 32) ho.symm)
  have e1 : (k0_t1_loop i).trips = (i 1).val / 2 := Offs.trips1 i
  have e5 : (k0_t5_loop i).trips = (i 1).val / 2 := Offs.trips5 i
  have e3 : 512 * (k0_t3_loop i).trips = 512 * ((i 1).val / 2) + 512 := by rw [Offs.trips3 i]; omega
  have e7 : 512 * (k0_t7_loop i).trips = 512 * ((i 1).val / 2) + 512 := by rw [Offs.trips7 i]; omega
  by_cases h1 : Scalar.cmpi .ne (Scalar.extui (Scalar.cmpi .eq (BitVec.ofNat 32 (i 1).val) 0#32)) 0#32 = 1#1
  have hi0 := (first_iff ⟨(i 1).val, hi⟩).mp h1
  rotate_left
  have hi0 := fun h => h1 ((first_iff ⟨(i 1).val, hi⟩).mpr h)
  all_goals
    sl_exec
    sl_for (inv1 c arg3 arg4 arg6 arg13 arg14 f3 f4 f6 b 0) $$ [H3 H4 H6 H13 H14]
    case region =>
      intro k acc
      refine trip1 c E i arg2 harg2 arg3 harg3 arg4 harg4 arg5 harg5 arg6 harg6 arg7 harg7 arg8 harg8 arg9 harg9 arg10 harg10 arg11 harg11 arg12 harg12 arg13 harg13 arg14 harg14 b _ _ _ _ _ _ _ _ rfl (pay38 b) (pay39 b) rfl rfl ho f3 f4 f6 hf3 hf4 hf6 k acc
    · unfold inv1
      isplitl [H3]; · iexact H3
      isplitl [H4]; · iexact H4
      isplitl [H6]; · iexact H6
      iexists f13; iexists f14
      isplitl [H13]; · iexact H13
      isplitl [H14]; · iexact H14
      ipureintro
      exact ⟨fun y hy => absurd hy (Nat.not_lt_zero _), fun y hy => absurd hy (Nat.not_lt_zero _), pay45 b⟩
    iintro %acc HI
    unfold inv1
    icases HI with ⟨H3, H4, H6, %g13, %g14, H13, H14, %hh⟩
    obtain ⟨h13, h14, hacc⟩ := hh
    replace h13 := (congrArg (fun n => Holds arg13.view g13 n (b.pr 0)) e1).mp h13
    replace h14 := (congrArg (fun n => Holds arg14.view g14 n (b.dp 0)) e1).mp h14
    replace hacc := hacc.trans (congrArg (fun n : ℕ => (mat fun r _ => b.dl 0 (512 * n) r : FVec Ideal S256x1 .f32)) e1)
    sl_exec
    sl_for (inv3 c arg3 arg10 arg11 arg12 arg13 arg14 f3 b A10 A11 A12 0 (512 * ((i 1).val / 2) + 512) ((i 1).val / 2 + 1)) $$ [H3 H10 H11 H12 H13 H14]
    case region =>
      intro k acc'
      refine trip3 c E i arg2 harg2 arg3 harg3 arg4 harg4 arg5 harg5 arg6 harg6 arg7 harg7 arg8 harg8 arg9 harg9 arg10 harg10 arg11 harg11 arg12 harg12 arg13 harg13 arg14 harg14 b _ _ _ _ _ _ _ _ _ _ _ _ _ _ _ _ (sum62 b _ ht ho' _ _ w35 w36 acc hacc) ((congrArg (k0_pay41 k0_pay36) (pay38 b)).trans (pay41 b)) ((congrArg (k0_pay42 k0_pay36) (pay39 b)).trans (pay42 b)) f3 hf3 _ (Offs.trips3 i) A10 A11 A12 k acc'
    · unfold inv3
      isplitl [H3]; · iexact H3
      iexists _; iexists _; iexists _; iexists _; iexists _
      isplitl [H13]; · iexact H13
      isplitl [H14]; · iexact H14
      isplitl [H10]; · iexact H10
      isplitl [H11]; · iexact H11
      isplitl [H12]; · iexact H12
      ipureintro
      refine ⟨stH arg13.view g13 _ (b.pr 0) h13 (Offs.off9 i) (k0_off9_inb i) _ (tile60 b _ ht ho' _ _ w35 w36), stH arg14.view g14 _ (b.dp 0) h14 (Offs.off9 i) (k0_off9_inb i) _ (tile61 b _), ?_, ?_, ?_, ?_⟩
      focus
        first
        | exact (View.read_writes_full arg10.view _ inb_S8192x128_S8192x128_0_0 _ _).trans (pay33.trans ((congrArg mat (hz hi0).1.symm).trans (none_yet A10 _)))
        | exact hf10.trans ((hx hi0).1.trans (none_yet A10 _))
      focus
        first
        | exact (View.read_writes_full arg11.view _ inb_S8192x128_S8192x128_0_0 _ _).trans (pay34.trans ((congrArg mat (hz hi0).2.1.symm).trans (none_yet A11 _)))
        | exact hf11.trans ((hx hi0).2.1.trans (none_yet A11 _))
      focus
        first
        | exact (View.read_writes_full arg12.view _ inb_S2x1x8192_S2x1x8192_0_0_0 _ _).trans (pay35.trans ((congrArg (fun A : ℕ → ℕ → ℝ => box fun h _ s => A h s) (hz hi0).2.2.symm).trans (none_yet' A12 _ 0)))
        | exact hf12.trans ((hx hi0).2.2.trans (none_yet' A12 _ 0))
      · rw [pay63]; simp
    iintro %acc0 HI
    unfold inv3
    icases HI with ⟨H3, %d13, %d14, %g10, %g11, %g12, H13, H14, H10, H11, H12, %hh⟩
    obtain ⟨-, -, h10, h11, h12, hacc0⟩ := hh
    replace h10 := h10.trans (congrArg (fun n : ℕ => (mat fun s l => A10 s l + if s < n then ∑ r : Fin 256, b.ds 0 (512 * ((i 1).val / 2) + 512) r s * b.mq 0 r l else 0 : FVec Ideal S8192x128 .f32)) e3)
    replace h11 := h11.trans (congrArg (fun n : ℕ => (mat fun s l => A11 s l + if s < n then ∑ r : Fin 256, b.pr 0 r s * b.mg 0 r l else 0 : FVec Ideal S8192x128 .f32)) e3)
    replace h12 := h12.trans (congrArg (fun n : ℕ => (box fun h _ s => A12 h s - if h = 0 ∧ s < n then ∑ r : Fin 256, b.ds 0 (512 * ((i 1).val / 2) + 512) r s else 0 : FVec Ideal S2x1x8192 .f32)) e3)
    replace hacc0 := hacc0.trans (congrArg (fun n : ℕ => (mat fun r l => ∑ s ∈ Finset.range n, b.ds 0 (512 * ((i 1).val / 2) + 512) r s * b.k s l : FVec Ideal S256x128 .f32)) e3)
    sl_exec
    sl_for (inv1 c arg3 arg4 arg6 arg13 arg14 f3 f4 f6 b 1) $$ [H3 H4 H6 H13 H14]
    case region =>
      intro k acc'
      refine trip5 c E i arg2 harg2 arg3 harg3 arg4 harg4 arg5 harg5 arg6 harg6 arg7 harg7 arg8 harg8 arg9 harg9 arg10 harg10 arg11 harg11 arg12 harg12 arg13 harg13 arg14 harg14 b _ _ _ _ _ _ ((congrArg (k0_pay67 k0_pay37) (pay38 b)).trans (pay67 b)) ((congrArg (k0_pay68 k0_pay37) (pay39 b)).trans (pay68 b)) rfl rfl ho f3 f4 f6 hf3 hf4 hf6 k acc'
    · unfold inv1
      isplitl [H3]; · iexact H3
      isplitl [H4]; · iexact H4
      isplitl [H6]; · iexact H6
      iexists _; iexists _
      isplitl [H13]; · iexact H13
      isplitl [H14]; · iexact H14
      ipureintro
      exact ⟨fun y hy => absurd hy (Nat.not_lt_zero _), fun y hy => absurd hy (Nat.not_lt_zero _), pay71 b⟩
    iintro %acc1 HI
    unfold inv1
    icases HI with ⟨H3, H4, H6, %k13, %k14, H13, H14, %hh⟩
    obtain ⟨h13', h14', hacc1⟩ := hh
    replace h13' := (congrArg (fun n => Holds arg13.view k13 n (b.pr 1)) e5).mp h13'
    replace h14' := (congrArg (fun n => Holds arg14.view k14 n (b.dp 1)) e5).mp h14'
    replace hacc1 := hacc1.trans (congrArg (fun n : ℕ => (mat fun r _ => b.dl 1 (512 * n) r : FVec Ideal S256x1 .f32)) e5)
    sl_exec
    sl_for (inv3 c arg3 arg10 arg11 arg12 arg13 arg14 f3 b (fun s l => A10 s l + if s < (512 * ((i 1).val / 2) + 512) then ∑ r : Fin 256, b.ds 0 (512 * ((i 1).val / 2) + 512) r s * b.mq 0 r l else 0) (fun s l => A11 s l + if s < (512 * ((i 1).val / 2) + 512) then ∑ r : Fin 256, b.pr 0 r s * b.mg 0 r l else 0) (fun h s => A12 h s - if h = 0 ∧ s < (512 * ((i 1).val / 2) + 512) then ∑ r : Fin 256, b.ds 0 (512 * ((i 1).val / 2) + 512) r s else 0) 1 (512 * ((i 1).val / 2) + 512) ((i 1).val / 2 + 1)) $$ [H3 H10 H11 H12 H13 H14]
    case region =>
      intro k acc'
      refine trip7 c E i arg2 harg2 arg3 harg3 arg4 harg4 arg5 harg5 arg6 harg6 arg7 harg7 arg8 harg8 arg9 harg9 arg10 harg10 arg11 harg11 arg12 harg12 arg13 harg13 arg14 harg14 b _ _ _ _ _ _ (sum3 b _ ht ho' _ _ w35 w36 acc1 hacc1) ((congrArg (k0_pay67 k0_pay37) (pay38 b)).trans (pay67 b)) ((congrArg (k0_pay68 k0_pay37) (pay39 b)).trans (pay68 b)) f3 hf3 _ (Offs.trips7 i) _ _ _ k acc'
    · unfold inv3
      isplitl [H3]; · iexact H3
      iexists _; iexists _; iexists _; iexists _; iexists _
      isplitl [H13]; · iexact H13
      isplitl [H14]; · iexact H14
      isplitl [H10]; · iexact H10
      isplitl [H11]; · iexact H11
      isplitl [H12]; · iexact H12
      ipureintro
      refine ⟨stH arg13.view k13 _ (b.pr 1) h13' (Offs.off9 i) (k0_off9_inb i) _ (tile1 b _ ht ho' _ _ w35 w36), stH arg14.view k14 _ (b.dp 1) h14' (Offs.off9 i) (k0_off9_inb i) _ (tile2 b _), ?_, ?_, ?_, ?_⟩
      · exact h10.trans (none_yet (fun s l => A10 s l + if s < (512 * ((i 1).val / 2) + 512) then ∑ r : Fin 256, b.ds 0 (512 * ((i 1).val / 2) + 512) r s * b.mq 0 r l else 0) _)
      · exact h11.trans (none_yet (fun s l => A11 s l + if s < (512 * ((i 1).val / 2) + 512) then ∑ r : Fin 256, b.pr 0 r s * b.mg 0 r l else 0) _)
      · exact h12.trans (none_yet' (fun h s => A12 h s - if h = 0 ∧ s < (512 * ((i 1).val / 2) + 512) then ∑ r : Fin 256, b.ds 0 (512 * ((i 1).val / 2) + 512) r s else 0) _ 1)
      · rw [pay4]; simp
    iintro %acc2 HI
    unfold inv3
    icases HI with ⟨H3, %u13, %u14, %u10, %u11, %u12, H13, H14, H10, H11, H12, %hh⟩
    obtain ⟨-, -, k10, k11, k12, hacc2⟩ := hh
    replace k10 : arg10.view.read (Elt Ideal) u10 = mat (Gr.dk b A10 (512 * ((i 1).val / 2) + 512)) := k10.trans (congrArg (fun n : ℕ => (mat fun s l => (fun s l => A10 s l + if s < (512 * ((i 1).val / 2) + 512) then ∑ r : Fin 256, b.ds 0 (512 * ((i 1).val / 2) + 512) r s * b.mq 0 r l else 0) s l + if s < n then ∑ r : Fin 256, b.ds 1 (512 * ((i 1).val / 2) + 512) r s * b.mq 1 r l else 0 : FVec Ideal S8192x128 .f32)) e7)
    replace k11 : arg11.view.read (Elt Ideal) u11 = mat (Gr.dv b A11 (512 * ((i 1).val / 2) + 512)) := k11.trans (congrArg (fun n : ℕ => (mat fun s l => (fun s l => A11 s l + if s < (512 * ((i 1).val / 2) + 512) then ∑ r : Fin 256, b.pr 0 r s * b.mg 0 r l else 0) s l + if s < n then ∑ r : Fin 256, b.pr 1 r s * b.mg 1 r l else 0 : FVec Ideal S8192x128 .f32)) e7)
    replace k12 : arg12.view.read (Elt Ideal) u12 = box fun h _ s => Gr.df b A12 (512 * ((i 1).val / 2) + 512) h s := k12.trans (congrArg (fun n : ℕ => (box fun h _ s => (fun h s => A12 h s - if h = 0 ∧ s < (512 * ((i 1).val / 2) + 512) then ∑ r : Fin 256, b.ds 0 (512 * ((i 1).val / 2) + 512) r s else 0) h s - if h = 1 ∧ s < n then ∑ r : Fin 256, b.ds 1 (512 * ((i 1).val / 2) + 512) r s else 0 : FVec Ideal S2x1x8192 .f32)) e7)
    replace hacc2 := hacc2.trans (congrArg (fun n : ℕ => (mat fun r l => ∑ s ∈ Finset.range n, b.ds 1 (512 * ((i 1).val / 2) + 512) r s * b.k s l : FVec Ideal S256x128 .f32)) e7)
    have l10 := (View.readAt_full arg10.view u10 inb_S8192x128_S8192x128_0_0).trans k10
    by_cases h2 : Scalar.cmpi .ne (Scalar.extui (Scalar.cmpi .eq (BitVec.ofNat 32 (i 1).val) 31#32)) 0#32 = 1#1
    all_goals
      sl_exec
      sl_step
      iapply Hk
      isplitl [H2]; · (iexists f2; isplitr; · (ipureintro; exact hf2)); iexact H2
      isplitl [H3]; · (iexists f3; isplitr; · (ipureintro; exact hf3)); iexact H3
      isplitl [H4]; · (iexists f4; isplitr; · (ipureintro; exact hf4)); iexact H4
      isplitl [H5]; · (iexists f5; isplitr; · (ipureintro; exact hf5)); iexact H5
      isplitl [H6]; · (iexists f6; isplitr; · (ipureintro; exact hf6)); iexact H6
      isplitl [H7]; · (iexists f7; isplitr; · (ipureintro; exact hf7)); iexact H7
      isplitl [H8]; · (iexists f8; isplitr; · (ipureintro; exact hf8)); iexact H8
      isplitl [H9]
      · iexists _; isplitr
        swap
        · iexact H9
        · ipureintro
          exact (View.read_writes_full arg9.view _ inb_S256x128_S256x128_0_0 _ _).trans (last7 b (512 * ((i 1).val / 2) + 512) acc0 acc2 hacc0 hacc2)
      isplitl [H10]
      · iexists _; isplitr
        swap
        · iexact H10
        · ipureintro
          first
          | exact (View.read_writes_full arg10.view _ inb_S8192x128_S8192x128_0_0 _ _).trans ((pay8 _).trans (by rw [if_pos ((last_iff ⟨(i 1).val, hi⟩).mp h2)]))
          | exact k10.trans (by rw [if_neg (fun h => h2 ((last_iff ⟨(i 1).val, hi⟩).mpr h))]; simp)
      isplitl [H11]; · (iexists u11; isplitr; · (ipureintro; exact k11)); iexact H11
      isplitl [H12]; · (iexists u12; isplitr; · (ipureintro; exact k12)); iexact H12
      isplitl [H13]
      · iexists _; iexists _; isplitr
        swap
        · iexact H13
        · ipureintro; rfl
      iexists _; iexists _; isplitr
      swap
      · iexact H14
      · ipureintro; rfl

end Cert.Proof.Body

end
-- ==== Proof.Run.lean ====
/-
  The run of the idealized kernel with its values followed: what the four result arrays hold after all grid points.
-/
module

public import proofs.«01_k».proof.Proof.Body
public import Idealize.ShloMosaic.Lib.Claim
public import Idealize.ShloMosaic.Lib.Pipeline.ValueKit

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Proof.Pays Cert.Proof.Mem Cert.Proof.Trips Cert.Proof.Body

local notation "𝕄" => MT nD τ sig Unit (Elt Ideal) ℕ (UR sig nD τ) ℕ

/-- The arrays the kernel is called with: queries, keys and values side by side, the incoming gradient, the forget sums
    and the log-sum-exp. -/
structure Glob where
  X : ℕ → ℕ → ℝ
  G : ℕ → ℕ → ℝ
  F : ℕ → ℕ → ℝ
  Ls : ℕ → ℕ → ℝ

namespace Glob
variable (D : Glob)

/-- The operands of the grid point of head pair `g` and query block `i`. -/
def blk (g i : ℕ) : Blk where
  q r l := D.X (i * 256 + r) (g * 128 + l)
  g r l := D.G (i * 256 + r) (g * 128 + l)
  k s l := D.X s ((g + 4) * 128 + l)
  v s l := D.X s ((g + 8) * 128 + l)
  fq e r := D.F (g * 2 + e) (i * 256 + r)
  fk e s := D.F (g * 2 + e) s
  ls e r := D.Ls (g * 2 + e) (i * 256 + r)
  o := 256 * i

/-- The columns grid point `i` looks at. -/
def len (i : ℕ) : ℕ := 512 * (i / 2) + 512

/-- The gradient of the keys of head pair `g` after `i` query blocks, unscaled. -/
def dk (g : ℕ) : ℕ → ℕ → ℕ → ℝ
  | 0 => fun _ _ => 0
  | i + 1 => Gr.dk (D.blk g i) (dk g i) (len i)

/-- The gradient of the values of head pair `g` after `i` query blocks. -/
def dv (g : ℕ) : ℕ → ℕ → ℕ → ℝ
  | 0 => fun _ _ => 0
  | i + 1 => Gr.dv (D.blk g i) (dv g i) (len i)

/-- The gradient of the forget sums of head pair `g` after `i` query blocks. -/
def df (g : ℕ) : ℕ → ℕ → ℕ → ℝ
  | 0 => fun _ _ => 0
  | i + 1 => Gr.df (D.blk g i) (df g i) (len i)

end Glob

variable (m : (ℓ : Loc nD τ sig) → Buf (Elt Ideal) ℓ) (ρ : Dev nD → PrngReg) (D : Dev nD → Glob)

/-- The arrays the region finds are the real arrays `D`. -/
structure Finds : Prop where
  x : ∀ c, V m c main_v1 = (mat (D c).X : FVec Ideal S8192x1536 .bf16)
  fq : ∀ c, V m c main_v31 = (box fun h r _ => (D c).F h r : FVec Ideal S8x8192x1 .f32)
  fk : ∀ c, V m c main_v32 = (box fun h _ s => (D c).F h s : FVec Ideal S8x1x8192 .f32)
  ls : ∀ c, V m c main_v30 = (box fun h r _ => (D c).Ls h r : FVec Ideal S8x8192x1 .f32)
  g : ∀ c, V m c main_v33 = (mat (D c).G : FVec Ideal S8192x512 .bf16)

/-- The head pair of a grid point. -/
abbrev hp (t : Fin cfg0.N) : ℕ := (grid0.coords t 0).val
/-- The query block of a grid point. -/
abbrev qb (t : Fin cfg0.N) : ℕ := (grid0.coords t 1).val

theorem hp_eq : ∀ t : Fin cfg0.N, hp t = t.val / 32 :=
  (by decide +kernel : ∀ t : Fin grid0.N, (grid0.coords t 0).val = t.val / 32)
theorem qb_eq : ∀ t : Fin cfg0.N, qb t = t.val % 32 :=
  (by decide +kernel : ∀ t : Fin grid0.N, (grid0.coords t 1).val = t.val % 32)

/-- The operands of grid point `t`. -/
abbrev pt (c : Dev nD) (t : Fin cfg0.N) : Blk := (D c).blk (hp t) (qb t)

/-- The gradient of the queries the point leaves. -/
def o7 (c : Dev nD) (t : Fin cfg0.N) : FVec Ideal S256x128 .bf16 := mat (Gr.dq (pt D c t) (512 * (qb t / 2) + 512))
/-- The gradient of the keys so far; scaled at the last query block. -/
def o8 (c : Dev nD) (t : Fin cfg0.N) : FVec Ideal S8192x128 .f32 :=
  mat fun s l => (D c).dk (hp t) (qb t + 1) s l * if qb t = 31 then 1 / 8 else 1
/-- The gradient of the values so far. -/
def o9 (c : Dev nD) (t : Fin cfg0.N) : FVec Ideal S8192x128 .f32 := mat ((D c).dv (hp t) (qb t + 1))
/-- The gradient of the forget sums so far. -/
def o10 (c : Dev nD) (t : Fin cfg0.N) : FVec Ideal S2x1x8192 .f32 := box fun h _ s => (D c).df (hp t) (qb t + 1) h s

/-- The proof data: the arrays as the region finds them, each input's buffer at its block after every point, each output's
    at its value so far. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => o7 D c t
    | ⟨8, _⟩ => o8 D c t
    | ⟨9, _⟩ => o9 D c t
    | ⟨10, _⟩ => o10 D c t
  Φ _ := Pipeline.ΦA spec0 c
  q w := Pipeline.shareOf spec0 w
  owed _ := 0

theorem A_eq (c : Dev nD) (w : Fin cfg0.W) : (dats m D 0 c).A w = V m c (Pipeline.arrRef spec0 w) := by
  dsimp only [dats]

theorem after0_0 (c : Dev nD) (t : Fin cfg0.N) : (dats m D 0 c).after 0 t = iblk m c 0 t := by dsimp only [dats]
theorem before0_0 (c : Dev nD) (t : Fin cfg0.N) (d) : (dats m D 0 c).before 0 t d = iblk m c 0 t :=
  before0_0_of m (dats m D 0 c) (A_eq m D c 0) (after0_0 m D c) t d
theorem after0_1 (c : Dev nD) (t : Fin cfg0.N) : (dats m D 0 c).after 1 t = iblk m c 1 t := by dsimp only [dats]
theorem before0_1 (c : Dev nD) (t : Fin cfg0.N) (d) : (dats m D 0 c).before 1 t d = iblk m c 1 t :=
  before0_1_of m (dats m D 0 c) (A_eq m D c 1) (after0_1 m D c) t d
theorem after0_2 (c : Dev nD) (t : Fin cfg0.N) : (dats m D 0 c).after 2 t = iblk m c 2 t := by dsimp only [dats]
theorem before0_2 (c : Dev nD) (t : Fin cfg0.N) (d) : (dats m D 0 c).before 2 t d = iblk m c 2 t :=
  before0_2_of m (dats m D 0 c) (A_eq m D c 2) (after0_2 m D c) t d
theorem after0_3 (c : Dev nD) (t : Fin cfg0.N) : (dats m D 0 c).after 3 t = iblk m c 3 t := by dsimp only [dats]
theorem before0_3 (c : Dev nD) (t : Fin cfg0.N) (d) : (dats m D 0 c).before 3 t d = iblk m c 3 t :=
  before0_3_of m (dats m D 0 c) (A_eq m D c 3) (after0_3 m D c) t d
theorem after0_4 (c : Dev nD) (t : Fin cfg0.N) : (dats m D 0 c).after 4 t = iblk m c 4 t := by dsimp only [dats]
theorem before0_4 (c : Dev nD) (t : Fin cfg0.N) (d) : (dats m D 0 c).before 4 t d = iblk m c 4 t :=
  before0_4_of m (dats m D 0 c) (A_eq m D c 4) (after0_4 m D c) t d
theorem after0_5 (c : Dev nD) (t : Fin cfg0.N) : (dats m D 0 c).after 5 t = iblk m c 5 t := by dsimp only [dats]
theorem before0_5 (c : Dev nD) (t : Fin cfg0.N) (d) : (dats m D 0 c).before 5 t d = iblk m c 5 t :=
  before0_5_of m (dats m D 0 c) (A_eq m D c 5) (after0_5 m D c) t d
theorem after0_6 (c : Dev nD) (t : Fin cfg0.N) : (dats m D 0 c).after 6 t = iblk m c 6 t := by dsimp only [dats]
theorem before0_6 (c : Dev nD) (t : Fin cfg0.N) (d) : (dats m D 0 c).before 6 t d = iblk m c 6 t :=
  before0_6_of m (dats m D 0 c) (A_eq m D c 6) (after0_6 m D c) t d
theorem after0_7 (c : Dev nD) (t : Fin cfg0.N) : (dats m D 0 c).after 7 t = o7 D c t := by dsimp only [dats]
theorem after0_8 (c : Dev nD) (t : Fin cfg0.N) : (dats m D 0 c).after 8 t = o8 D c t := by dsimp only [dats]
theorem after0_9 (c : Dev nD) (t : Fin cfg0.N) : (dats m D 0 c).after 9 t = o9 D c t := by dsimp only [dats]
theorem after0_10 (c : Dev nD) (t : Fin cfg0.N) : (dats m D 0 c).after 10 t = o10 D c t := by dsimp only [dats]

theorem idx0_0 : ∀ t : Fin cfg0.N, win0_0.index t 0 = qb t :=
  (by decide +kernel : ∀ t : Fin grid0.N, win0_0.index t 0 = (grid0.coords t 1).val)
theorem idx0_1 : ∀ t : Fin cfg0.N, win0_0.index t 1 = hp t :=
  (by decide +kernel : ∀ t : Fin grid0.N, win0_0.index t 1 = (grid0.coords t 0).val)
theorem idx1_0 : ∀ t : Fin cfg0.N, win0_1.index t 0 = 0 :=
  (by decide +kernel : ∀ t : Fin grid0.N, win0_1.index t 0 = 0)
theorem idx1_1 : ∀ t : Fin cfg0.N, win0_1.index t 1 = hp t + 4 :=
  (by decide +kernel : ∀ t : Fin grid0.N, win0_1.index t 1 = (grid0.coords t 0).val + 4)
theorem idx2_0 : ∀ t : Fin cfg0.N, win0_2.index t 0 = 0 :=
  (by decide +kernel : ∀ t : Fin grid0.N, win0_2.index t 0 = 0)
theorem idx2_1 : ∀ t : Fin cfg0.N, win0_2.index t 1 = hp t + 8 :=
  (by decide +kernel : ∀ t : Fin grid0.N, win0_2.index t 1 = (grid0.coords t 0).val + 8)
theorem idx3_0 : ∀ t : Fin cfg0.N, win0_3.index t 0 = hp t :=
  (by decide +kernel : ∀ t : Fin grid0.N, win0_3.index t 0 = (grid0.coords t 0).val)
theorem idx3_1 : ∀ t : Fin cfg0.N, win0_3.index t 1 = qb t :=
  (by decide +kernel : ∀ t : Fin grid0.N, win0_3.index t 1 = (grid0.coords t 1).val)
theorem idx3_2 : ∀ t : Fin cfg0.N, win0_3.index t 2 = 0 :=
  (by decide +kernel : ∀ t : Fin grid0.N, win0_3.index t 2 = 0)
theorem idx4_0 : ∀ t : Fin cfg0.N, win0_4.index t 0 = hp t :=
  (by decide +kernel : ∀ t : Fin grid0.N, win0_4.index t 0 = (grid0.coords t 0).val)
theorem idx4_1 : ∀ t : Fin cfg0.N, win0_4.index t 1 = 0 :=
  (by decide +kernel : ∀ t : Fin grid0.N, win0_4.index t 1 = 0)
theorem idx4_2 : ∀ t : Fin cfg0.N, win0_4.index t 2 = 0 :=
  (by decide +kernel : ∀ t : Fin grid0.N, win0_4.index t 2 = 0)
theorem idx5_0 : ∀ t : Fin cfg0.N, win0_5.index t 0 = hp t :=
  (by decide +kernel : ∀ t : Fin grid0.N, win0_5.index t 0 = (grid0.coords t 0).val)
theorem idx5_1 : ∀ t : Fin cfg0.N, win0_5.index t 1 = qb t :=
  (by decide +kernel : ∀ t : Fin grid0.N, win0_5.index t 1 = (grid0.coords t 1).val)
theorem idx5_2 : ∀ t : Fin cfg0.N, win0_5.index t 2 = 0 :=
  (by decide +kernel : ∀ t : Fin grid0.N, win0_5.index t 2 = 0)
theorem idx6_0 : ∀ t : Fin cfg0.N, win0_6.index t 0 = qb t :=
  (by decide +kernel : ∀ t : Fin grid0.N, win0_6.index t 0 = (grid0.coords t 1).val)
theorem idx6_1 : ∀ t : Fin cfg0.N, win0_6.index t 1 = hp t :=
  (by decide +kernel : ∀ t : Fin grid0.N, win0_6.index t 1 = (grid0.coords t 0).val)
theorem idx7_0 : ∀ t : Fin cfg0.N, win0_7.index t 0 = qb t :=
  (by decide +kernel : ∀ t : Fin grid0.N, win0_7.index t 0 = (grid0.coords t 1).val)
theorem idx7_1 : ∀ t : Fin cfg0.N, win0_7.index t 1 = hp t :=
  (by decide +kernel : ∀ t : Fin grid0.N, win0_7.index t 1 = (grid0.coords t 0).val)
theorem idx8_0 : ∀ t : Fin cfg0.N, win0_8.index t 0 = 0 :=
  (by decide +kernel : ∀ t : Fin grid0.N, win0_8.index t 0 = 0)
theorem idx8_1 : ∀ t : Fin cfg0.N, win0_8.index t 1 = hp t :=
  (by decide +kernel : ∀ t : Fin grid0.N, win0_8.index t 1 = (grid0.coords t 0).val)
theorem idx9_0 : ∀ t : Fin cfg0.N, win0_9.index t 0 = 0 :=
  (by decide +kernel : ∀ t : Fin grid0.N, win0_9.index t 0 = 0)
theorem idx9_1 : ∀ t : Fin cfg0.N, win0_9.index t 1 = hp t :=
  (by decide +kernel : ∀ t : Fin grid0.N, win0_9.index t 1 = (grid0.coords t 0).val)
theorem idx10_0 : ∀ t : Fin cfg0.N, win0_10.index t 0 = hp t :=
  (by decide +kernel : ∀ t : Fin grid0.N, win0_10.index t 0 = (grid0.coords t 0).val)
theorem idx10_1 : ∀ t : Fin cfg0.N, win0_10.index t 1 = 0 :=
  (by decide +kernel : ∀ t : Fin grid0.N, win0_10.index t 1 = 0)
theorem idx10_2 : ∀ t : Fin cfg0.N, win0_10.index t 2 = 0 :=
  (by decide +kernel : ∀ t : Fin grid0.N, win0_10.index t 2 = 0)

theorem blk_q (h : Finds m D) (c : Dev nD) (t : Fin cfg0.N) : iblk m c 0 t = (mat (pt D c t).q : FVec Ideal S256x128 .bf16) := by
  unfold iblk; rw [show V m c (Pipeline.arrRef spec0 0) = _ from h.x c]; funext y; blk_simp; refine congrArg (fun x : ℝ => (x : EReal)) (congrArg₂ (D c).X ?_ ?_)
  all_goals (try blk_simp)
  all_goals (try simp only [idx0_0, idx0_1, Nat.zero_mul, Nat.zero_add])
  all_goals rfl
theorem blk_k (h : Finds m D) (c : Dev nD) (t : Fin cfg0.N) : iblk m c 1 t = (mat (pt D c t).k : FVec Ideal S8192x128 .bf16) := by
  unfold iblk; rw [show V m c (Pipeline.arrRef spec0 1) = _ from h.x c]; funext y; blk_simp; refine congrArg (fun x : ℝ => (x : EReal)) (congrArg₂ (D c).X ?_ ?_)
  all_goals (try blk_simp)
  all_goals (try simp only [idx1_0, idx1_1, Nat.zero_mul, Nat.zero_add])
  all_goals rfl
theorem blk_v (h : Finds m D) (c : Dev nD) (t : Fin cfg0.N) : iblk m c 2 t = (mat (pt D c t).v : FVec Ideal S8192x128 .bf16) := by
  unfold iblk; rw [show V m c (Pipeline.arrRef spec0 2) = _ from h.x c]; funext y; blk_simp; refine congrArg (fun x : ℝ => (x : EReal)) (congrArg₂ (D c).X ?_ ?_)
  all_goals (try blk_simp)
  all_goals (try simp only [idx2_0, idx2_1, Nat.zero_mul, Nat.zero_add])
  all_goals rfl
theorem blk_fq (h : Finds m D) (c : Dev nD) (t : Fin cfg0.N) : iblk m c 3 t = (box fun h r _ => (pt D c t).fq h r : FVec Ideal S2x256x1 .f32) := by
  unfold iblk; rw [show V m c (Pipeline.arrRef spec0 3) = _ from h.fq c]; funext y; blk_simp; refine congrArg (fun x : ℝ => (x : EReal)) (congrArg₂ (D c).F ?_ ?_)
  all_goals (try blk_simp)
  all_goals (try simp only [idx3_0, idx3_1, idx3_2, Nat.zero_mul, Nat.zero_add])
  all_goals rfl
theorem blk_fk (h : Finds m D) (c : Dev nD) (t : Fin cfg0.N) : iblk m c 4 t = (box fun h _ s => (pt D c t).fk h s : FVec Ideal S2x1x8192 .f32) := by
  unfold iblk; rw [show V m c (Pipeline.arrRef spec0 4) = _ from h.fk c]; funext y; blk_simp; refine congrArg (fun x : ℝ => (x : EReal)) (congrArg₂ (D c).F ?_ ?_)
  all_goals (try blk_simp)
  all_goals (try simp only [idx4_0, idx4_1, idx4_2, Nat.zero_mul, Nat.zero_add])
  all_goals rfl
theorem blk_ls (h : Finds m D) (c : Dev nD) (t : Fin cfg0.N) : iblk m c 5 t = (box fun h r _ => (pt D c t).ls h r : FVec Ideal S2x256x1 .f32) := by
  unfold iblk; rw [show V m c (Pipeline.arrRef spec0 5) = _ from h.ls c]; funext y; blk_simp; refine congrArg (fun x : ℝ => (x : EReal)) (congrArg₂ (D c).Ls ?_ ?_)
  all_goals (try blk_simp)
  all_goals (try simp only [idx5_0, idx5_1, idx5_2, Nat.zero_mul, Nat.zero_add])
  all_goals rfl
theorem blk_g (h : Finds m D) (c : Dev nD) (t : Fin cfg0.N) : iblk m c 6 t = (mat (pt D c t).g : FVec Ideal S256x128 .bf16) := by
  unfold iblk; rw [show V m c (Pipeline.arrRef spec0 6) = _ from h.g c]; funext y; blk_simp; refine congrArg (fun x : ℝ => (x : EReal)) (congrArg₂ (D c).G ?_ ?_)
  all_goals (try blk_simp)
  all_goals (try simp only [idx6_0, idx6_1, Nat.zero_mul, Nat.zero_add])
  all_goals rfl

theorem kept (w : Fin cfg0.W) (hw : (cfg0.win w).isOut = true) (hfl : ∀ t : Fin cfg0.N, (cfg0.win w).flush t = true ↔ t.val % 32 = 31)
    (hclip : ∀ (i : cfg0.grid.Coords) a, (cfg0.win w).clip i a = none) (c : Dev nD) (t : Fin cfg0.N) (h : qb t ≠ 0) (d) :
    ∃ t' : Fin cfg0.N, hp t' = hp t ∧ qb t' + 1 = qb t ∧ (dats m D 0 c).before w t d = (dats m D 0 c).after w t' := by
  rw [qb_eq] at h
  have h0 : t.val ≠ 0 := by omega
  refine ⟨⟨t.val - 1, Nat.lt_of_le_of_lt (Nat.sub_le _ _) t.isLt⟩, ?_, ?_, ?_⟩
  · rw [hp_eq, hp_eq]; show (t.val - 1) / 32 = _; omega
  · rw [qb_eq, qb_eq]; show (t.val - 1) % 32 + 1 = _; omega
  · refine Dat.before_out_kept _ w hw t h0 ?_ (fun _ => rfl) hclip d
    refine Bool.eq_false_iff.mpr fun hf => ?_
    have := (hfl _).mp hf
    replace this : (t.val - 1) % 32 = 31 := this
    omega

theorem before0_8 (c : Dev nD) (t : Fin cfg0.N) (h : qb t ≠ 0) (d) :
    (dats m D 0 c).before 8 t d = (mat ((D c).dk (hp t) (qb t)) : FVec Ideal S8192x128 .f32) := by
  obtain ⟨t', e1, e2, e3⟩ := kept m D 8 rfl flush0_8 (fun _ _ => rfl) c t h d
  have hb : qb t < 32 := (grid0.coords t 1).isLt
  rw [e3, after0_8]; unfold o8
  rw [e1, e2, if_neg (by omega)]; simp only [mul_one]

theorem before0_9 (c : Dev nD) (t : Fin cfg0.N) (h : qb t ≠ 0) (d) :
    (dats m D 0 c).before 9 t d = (mat ((D c).dv (hp t) (qb t)) : FVec Ideal S8192x128 .f32) := by
  obtain ⟨t', e1, e2, e3⟩ := kept m D 9 rfl flush0_9 (fun _ _ => rfl) c t h d
  rw [e3, after0_9]; unfold o9
  rw [e1, e2]

theorem before0_10 (c : Dev nD) (t : Fin cfg0.N) (h : qb t ≠ 0) (d) :
    (dats m D 0 c).before 10 t d = (box fun h _ s => (D c).df (hp t) (qb t) h s : FVec Ideal S2x1x8192 .f32) := by
  obtain ⟨t', e1, e2, e3⟩ := kept m D 10 rfl flush0_10 (fun _ _ => rfl) c t h d
  rw [e3, after0_10]; unfold o10
  rw [e1, e2]

def bodyPre (c : Dev nD) (t : Fin cfg0.N) : sProp 𝕄 :=
  iprop((dats m D 0 c).Φ t.castSucc ∗ (dats m D 0 c).owesAt () t.castSucc
    ∗ (∃ d, owns (c : Thread nD τ) (st0_0 t) fullShare ((dats m D 0 c).before 0 t d)) ∗ (∃ d, owns (c : Thread nD τ) (st0_1 t) fullShare ((dats m D 0 c).before 1 t d)) ∗ (∃ d, owns (c : Thread nD τ) (st0_2 t) fullShare ((dats m D 0 c).before 2 t d)) ∗ (∃ d, owns (c : Thread nD τ) (st0_3 t) fullShare ((dats m D 0 c).before 3 t d)) ∗ (∃ d, owns (c : Thread nD τ) (st0_4 t) fullShare ((dats m D 0 c).before 4 t d)) ∗ (∃ d, owns (c : Thread nD τ) (st0_5 t) fullShare ((dats m D 0 c).before 5 t d)) ∗ (∃ d, owns (c : Thread nD τ) (st0_6 t) fullShare ((dats m D 0 c).before 6 t d)) ∗ (∃ d, owns (c : Thread nD τ) (st0_7 t) fullShare ((dats m D 0 c).before 7 t d)) ∗ (∃ d, owns (c : Thread nD τ) (st0_8 t) fullShare ((dats m D 0 c).before 8 t d)) ∗ (∃ d, owns (c : Thread nD τ) (st0_9 t) fullShare ((dats m D 0 c).before 9 t d)) ∗ (∃ d, owns (c : Thread nD τ) (st0_10 t) fullShare ((dats m D 0 c).before 10 t d)))

def bodyPost (c : Dev nD) (t : Fin cfg0.N) : sProp 𝕄 :=
  iprop((dats m D 0 c).Φ t.succ ∗ (dats m D 0 c).owesAt () t.succ
    ∗ owns (c : Thread nD τ) (st0_0 t) fullShare ((dats m D 0 c).after 0 t) ∗ owns (c : Thread nD τ) (st0_1 t) fullShare ((dats m D 0 c).after 1 t) ∗ owns (c : Thread nD τ) (st0_2 t) fullShare ((dats m D 0 c).after 2 t) ∗ owns (c : Thread nD τ) (st0_3 t) fullShare ((dats m D 0 c).after 3 t) ∗ owns (c : Thread nD τ) (st0_4 t) fullShare ((dats m D 0 c).after 4 t) ∗ owns (c : Thread nD τ) (st0_5 t) fullShare ((dats m D 0 c).after 5 t) ∗ owns (c : Thread nD τ) (st0_6 t) fullShare ((dats m D 0 c).after 6 t) ∗ owns (c : Thread nD τ) (st0_7 t) fullShare ((dats m D 0 c).after 7 t) ∗ owns (c : Thread nD τ) (st0_8 t) fullShare ((dats m D 0 c).after 8 t) ∗ owns (c : Thread nD τ) (st0_9 t) fullShare ((dats m D 0 c).after 9 t) ∗ owns (c : Thread nD τ) (st0_10 t) fullShare ((dats m D 0 c).after 10 t))

theorem sound_body (hD : Finds m D) (c : Dev nD) (t : Fin cfg0.N) :
    bodyPre m D c t ⊢ wp frame (wpE (defs₀ (F := Ideal)) Variants.none c none) Set.univ (bodyAt0 t) (fun _ => bodyPost m D c t) := by
  unfold bodyPre bodyPost bodyAt0
  simp only [before0_0, before0_1, before0_2, before0_3, before0_4, before0_5, before0_6]
  rw [show (dats m D 0 c).Φ t.succ = (dats m D 0 c).Φ t.castSucc from rfl,
    show (dats m D 0 c).owesAt () t.succ = (dats m D 0 c).owesAt () t.castSucc from rfl,
    after0_0, after0_1, after0_2, after0_3, after0_4, after0_5, after0_6, after0_7, after0_8, after0_9, after0_10,
    blk_q m D hD, blk_k m D hD, blk_v m D hD, blk_fq m D hD, blk_fk m D hD, blk_ls m D hD, blk_g m D hD]
  rw [show (dats m D 0 c).Φ t.castSucc = Pipeline.ΦA spec0 c from rfl]
  unfold Pipeline.ΦA
  rw [scopedRest0_eq]
  iintro ⟨⟨⟨⟨%s0, S0⟩, ⟨%s1, S1⟩⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_value c Set.univ (grid0.coords t) _ _ _ _ _ _ _ _ _ _ _ _ _ _ _ _ _ _ _ _ _ _ _ _ _ _ (pt D c t) rfl
    ((D c).dk (hp t) (qb t)) ((D c).dv (hp t) (qb t)) ((D c).df (hp t) (qb t))
    ((dats m D 0 c).before 8 t d8) ((dats m D 0 c).before 9 t d9) ((dats m D 0 c).before 10 t d10)
    (fun h => ⟨before0_8 m D c t h d8, before0_9 m D c t h d9, before0_10 m D c t h d10⟩)
    (fun h => by rw [show qb t = 0 from h]; exact ⟨rfl, rfl, rfl⟩) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexact H10
  isplitl [S0]; · iexists _; rw [owns_whole]; iexact S0
  isplitl [S1]; · iexists _; rw [owns_whole]; iexact S1
  iintro ⟨H0, H1, H2, H3, H4, H5, H6, H7, H8, H9, H10, ⟨%e0, S0⟩, ⟨%e1, S1⟩⟩
  isplitl [HR S0 S1]
  · isplitr [HR]
    · isplitl [S0]
      · iexists e0; rw [← owns_whole]; iexact S0
      · iexists e1; rw [← owns_whole]; iexact S1
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := Ideal) .tc cfg0.body (cfg0.bodyArgs t (cfg0.slots t)) = bodyAt0 t := by
  unfold defs₀; rw [Defs.onTc_tc]

theorem body_obligation (hD : Finds m D) (c : Dev nD) :
    BodyObligationLoose (dats m D 0 c) (defs₀ (F := Ideal)) Variants.none () Set.univ := fun t => by
  rw [bigSep_W0, bigSep_W0, defs₀_row]
  exact triple_restated (sound_body m D hD c t) rfl .rfl fun _ => .rfl

set_option backward.isDefEq.respectTransparency.types false in
/-- The run: every array at its value, every other buffer untouched. -/
theorem run_main (hD : Finds m D) : θ_run defs (onTc (τ := τ) (main (F := Ideal))) (s₀ m ρ)
    (Pipeline.FramePost cfgs (dats m D) 0 (V m)) :=
  Pipeline.θ_run_frame_shared (Q' := _) cfgs (dats m D) (0 : Fin 1) launch₀0 defs₀ Variants.none m ρ main
    (hbody := fun c => body_obligation m D hD c) (hq := fun _ _ _ => rfl)
    (howed := fun _ _ => rfl) (V := V m) (hmain := hmain m Variants.none) (hA := A_eq m D) (hΦ := fun _ _ => rfl)

/-- The gradient of the queries, entry by entry. -/
def dqAll (D : Glob) (r l : ℕ) : ℝ := Gr.dq (D.blk (l / 128) (r / 256)) (512 * (r / 256 / 2) + 512) (r % 256) (l % 128)

theorem arr7 (c : Dev nD) : (dats m D 0 c).arrAt 7 (cfgs 0).N = (mat (dqAll (D c)) : FVec Ideal S8192x512 .bf16) := by
  refine (dats m D 0 c).arrAt_eq_of_covers 7 _ (by decide +kernel) fun t hf y => ?_
  blk_simp; rw [after0_7]; unfold o7
  have h0 : (y 0).val < 256 := (y 0).isLt
  have h1 : (y 1).val < 128 := (y 1).isLt
  show ((Gr.dq _ _ (y 0).val (y 1).val : ℝ) : EReal) = ((dqAll (D c) _ _ : ℝ) : EReal)
  unfold dqAll
  blk_simp; simp only [idx7_0, idx7_1, Nat.zero_mul, Nat.zero_add]
  rw [show (qb t * 256 + (y 0).val) / 256 = qb t by omega, show (qb t * 256 + (y 0).val) % 256 = (y 0).val by omega,
    show (hp t * 128 + (y 1).val) / 128 = hp t by omega, show (hp t * 128 + (y 1).val) % 128 = (y 1).val by omega]

theorem arr8 (c : Dev nD) : (dats m D 0 c).arrAt 8 (cfgs 0).N
    = (mat fun s l => (D c).dk (l / 128) 32 s (l % 128) * (1 / 8) : FVec Ideal S8192x512 .f32) := by
  refine (dats m D 0 c).arrAt_eq_of_covers 8 _ (by decide +kernel) fun t hf y => ?_
  have hq := (flush0_8 t).mp hf; rw [← qb_eq] at hq
  blk_simp; rw [after0_8]; unfold o8
  have h1 : (y 1).val < 128 := (y 1).isLt
  show (((D c).dk _ _ (y 0).val (y 1).val * (if qb t = 31 then 1 / 8 else 1) : ℝ) : EReal) = (((D c).dk _ _ _ _ * (1 / 8) : ℝ) : EReal)
  rw [hq, if_pos rfl]
  blk_simp; simp only [idx8_0, idx8_1, Nat.zero_mul, Nat.zero_add]
  rw [show (hp t * 128 + (y 1).val) / 128 = hp t by omega, show (hp t * 128 + (y 1).val) % 128 = (y 1).val by omega]

theorem arr9 (c : Dev nD) : (dats m D 0 c).arrAt 9 (cfgs 0).N
    = (mat fun s l => (D c).dv (l / 128) 32 s (l % 128) : FVec Ideal S8192x512 .f32) := by
  refine (dats m D 0 c).arrAt_eq_of_covers 9 _ (by decide +kernel) fun t hf y => ?_
  have hq := (flush0_9 t).mp hf; rw [← qb_eq] at hq
  blk_simp; rw [after0_9]; unfold o9
  have h1 : (y 1).val < 128 := (y 1).isLt
  show (((D c).dv _ _ (y 0).val (y 1).val : ℝ) : EReal) = (((D c).dv _ _ _ _ : ℝ) : EReal)
  rw [hq]
  blk_simp; simp only [idx9_0, idx9_1, Nat.zero_mul, Nat.zero_add]
  rw [show (hp t * 128 + (y 1).val) / 128 = hp t by omega, show (hp t * 128 + (y 1).val) % 128 = (y 1).val by omega]

theorem arr10 (c : Dev nD) : (dats m D 0 c).arrAt 10 (cfgs 0).N
    = (box fun h _ s => (D c).df (h / 2) 32 (h % 2) s : FVec Ideal S8x1x8192 .f32) := by
  refine (dats m D 0 c).arrAt_eq_of_covers 10 _ (by decide +kernel) fun t hf y => ?_
  have hq := (flush0_10 t).mp hf; rw [← qb_eq] at hq
  blk_simp; rw [after0_10]; unfold o10
  have h1 : (y 0).val < 2 := (y 0).isLt
  show (((D c).df _ _ (y 0).val (y 2).val : ℝ) : EReal) = (((D c).df _ _ _ _ : ℝ) : EReal)
  rw [hq]
  blk_simp; simp only [idx10_0, idx10_1, idx10_2, Nat.zero_mul, Nat.zero_add]
  rw [show (hp t * 2 + (y 0).val) / 2 = hp t by omega, show (hp t * 2 + (y 0).val) % 2 = (y 0).val by omega]

end Cert.Proof.Run

end
-- ==== Proof.Host.lean ====
/-
  The reference's operations in stages, and what each stage holds of real arguments.
-/
module

public import proofs.«01_k».proof.Proof.Gen.ReferenceIdeal.Run
public import proofs.«01_k».proof.Proof.Pays

@[expose] public section

set_option maxRecDepth 16384
set_option pp.maxSteps 600

noncomputable section

namespace Cert.Proof.Host

open Cert.ReferenceIdeal Cert.ReferenceIdeal.Gen
open Idealize.ShloMosaic Idealize.ShloMosaic.TcCoe Idealize.ShloMosaic.Tactic
open Cert.Proof.Pays (mat box mat_at box_at coe_sum eighth coe_ite)

/-- The heads of a matrix: head, row, lane. -/
def tHeads (x : FVec Ideal S8192x512 .f32) : FVec Ideal S8x8192x64 .f32 :=
  transpose S8x8192x64 [1, 0, 2] (shapeCast S8192x8x64 x shapeCasts_S8192x512_S8192x8x64) transposes_S8192x8x64_S8x8192x64_1_0_2

/-- Whether a column is at or before its row. -/
def tMask : IVec S8x8192x8192 1 :=
  broadcastInDim S8x8192x8192 ![1, 2] bcast_S8192x8192_S8x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- The masked scores. -/
def tS (q k : FVec Ideal S8x8192x64 .f32) (f : FVec Ideal S8x8192 .f32) : FVec Ideal S8x8192x8192 .f32 :=
  select tMask (subf (addf (mulf (Host.dotGeneral dot_S8x8192x64_S8x8192x64_S8x8192x8192_2_2_1_1_0_0 none q k) (broadcastInDim S8x8192x8192 ![] bcast_S_S8x8192x8192 (constant S_ .f32 0x3E000000#32))) (broadcastInDim S8x8192x8192 ![0, 1, 2] bcast_S8x8192x1_S8x8192x8192_0_1_2 (broadcastInDim S8x8192x1 ![0, 1] bcast_S8x8192_S8x8192x1_0_1 f))) (broadcastInDim S8x8192x8192 ![0, 1, 2] bcast_S8x1x8192_S8x8192x8192_0_1_2 (broadcastInDim S8x1x8192 ![0, 2] bcast_S8x8192_S8x1x8192_0_2 f))) (broadcastInDim S8x8192x8192 ![] bcast_S_S8x8192x8192 (id (constant S_ .f32 0xFF800000#32)))

/-- The greatest score of each row. -/
def tM (s : FVec Ideal S8x8192x8192 .f32) : FVec Ideal S8x8192 .f32 :=
  Host.reduce FloatOps.maximumf s (constant S_ .f32 0xFF800000#32) reducesTo_S8x8192x8192_S8x8192_d2 h_S_

/-- The exponential of each score less its row's greatest. -/
def tE (s : FVec Ideal S8x8192x8192 .f32) (M : FVec Ideal S8x8192 .f32) : FVec Ideal S8x8192x8192 .f32 :=
  Host.exp (subf s (broadcastInDim S8x8192x8192 ![0, 1, 2] bcast_S8x8192x1_S8x8192x8192_0_1_2 (broadcastInDim S8x8192x1 ![0, 1] bcast_S8x8192_S8x8192x1_0_1 M)))

/-- The greatest score once more compared with minus infinity. -/
def tM' (s : FVec Ideal S8x8192x8192 .f32) : FVec Ideal S8x8192 .f32 :=
  maximumf (broadcastInDim S8x8192 ![] bcast_S_S8x8192 (constant S_ .f32 0xFF800000#32)) (tM s)

/-- The sum of each row. -/
def tZ (e : FVec Ideal S8x8192x8192 .f32) : FVec Ideal S8x8192x1 .f32 :=
  broadcastInDim S8x8192x1 ![0, 1] bcast_S8x8192_S8x8192x1_0_1 (Host.reduceAdd e (constant S_ .f32 0x00000000#32) reducesTo_S8x8192x8192_S8x8192_d2 h_S_)

/-- Each entry over its row's number. -/
def tOver (e : FVec Ideal S8x8192x8192 .f32) (z : FVec Ideal S8x8192x1 .f32) : FVec Ideal S8x8192x8192 .f32 :=
  Host.divf e (broadcastInDim S8x8192x8192 ![0, 1, 2] bcast_S8x8192x1_S8x8192x8192_0_1_2 z)

/-- The product of every row of one with every row of the other, head by head. -/
def tDot (g v : FVec Ideal S8x8192x64 .f32) : FVec Ideal S8x8192x8192 .f32 :=
  Host.dotGeneral dot_S8x8192x64_S8x8192x64_S8x8192x8192_2_2_1_1_0_0 none g v

/-- The row sums of the gradient of the denominators. -/
def tR (ct e : FVec Ideal S8x8192x8192 .f32) (z : FVec Ideal S8x8192x1 .f32) : FVec Ideal S8x8192 .f32 :=
  Host.reduceAdd (Host.negf (shapeCast S8x8192x1 (Host.reduceAdd (mulf (mulf ct (broadcastInDim S8x8192x8192 ![0, 1, 2] bcast_S8x8192x1_S8x8192x8192_0_1_2 (Host.divf (broadcastInDim S8x8192x1 ![] bcast_S_S8x8192x1 (constant S_ .f32 0x3F800000#32)) (mulf z z)))) e) (constant S_ .f32 0x00000000#32) reducesTo_S8x8192x8192_S8x8192_d2 h_S_) shapeCasts_S8x8192_S8x8192x1)) (constant S_ .f32 0x00000000#32) reducesTo_S8x8192x1_S8x8192_d2 h_S_

/-- The gradient of the scores. -/
def tDs (ct e : FVec Ideal S8x8192x8192 .f32) (z : FVec Ideal S8x8192x1 .f32) : FVec Ideal S8x8192x8192 .f32 :=
  select tMask (mulf (addf (tOver ct z) (broadcastInDim S8x8192x8192 ![0, 1] bcast_S8x8192_S8x8192x8192_0_1 (tR ct e z))) e) (broadcastInDim S8x8192x8192 ![] bcast_S_S8x8192x8192 (constant S_ .f32 0x00000000#32))

/-- The gradient of the values. -/
def tDv (g : FVec Ideal S8x8192x64 .f32) (y : FVec Ideal S8x8192x8192 .f32) : FVec Ideal S8192x512 .f32 :=
  shapeCast S8192x512 (transpose S8192x8x64 [1, 0, 2] (transpose S8x8192x64 [0, 2, 1] (Host.dotGeneral dot_S8x8192x64_S8x8192x8192_S8x64x8192_1_1_2_2_0_0 none g y) transposes_S8x64x8192_S8x8192x64_0_2_1) transposes_S8x8192x64_S8192x8x64_1_0_2) shapeCasts_S8192x8x64_S8192x512

/-- The scaled gradient of the scores. -/
def tSc (ds : FVec Ideal S8x8192x8192 .f32) : FVec Ideal S8x8192x8192 .f32 :=
  mulf ds (broadcastInDim S8x8192x8192 ![] bcast_S_S8x8192x8192 (constant S_ .f32 0x3E000000#32))

/-- The gradient of the keys. -/
def tDk (ds : FVec Ideal S8x8192x8192 .f32) (q : FVec Ideal S8x8192x64 .f32) : FVec Ideal S8192x512 .f32 :=
  shapeCast S8192x512 (transpose S8192x8x64 [1, 0, 2] (Host.dotGeneral dot_S8x8192x8192_S8x8192x64_S8x8192x64_1_1_2_2_0_0 none ds q) transposes_S8x8192x64_S8192x8x64_1_0_2) shapeCasts_S8192x8x64_S8192x512

/-- The gradient of the queries. -/
def tDq (ds : FVec Ideal S8x8192x8192 .f32) (k : FVec Ideal S8x8192x64 .f32) : FVec Ideal S8192x512 .bf16 :=
  truncf .bf16 (shapeCast S8192x512 (transpose S8192x8x64 [1, 0, 2] (Host.dotGeneral dot_S8x8192x8192_S8x8192x64_S8x8192x64_2_1_1_2_0_0 none ds k) transposes_S8x8192x64_S8192x8x64_1_0_2) shapeCasts_S8192x8x64_S8192x512) bitsLt_bf16_f32

/-- The gradient of the forget sums. -/
def tDf (ds : FVec Ideal S8x8192x8192 .f32) : FVec Ideal S8x1x8192 .f32 :=
  broadcastInDim S8x1x8192 ![0, 2] bcast_S8x8192_S8x1x8192_0_2 (addf (Host.reduceAdd (shapeCast S8x1x8192 (Host.reduceAdd (Host.negf ds) (constant S_ .f32 0x00000000#32) reducesTo_S8x8192x8192_S8x8192_d1 h_S_) shapeCasts_S8x8192_S8x1x8192) (constant S_ .f32 0x00000000#32) reducesTo_S8x1x8192_S8x8192_d1 h_S_) (Host.reduceAdd (shapeCast S8x8192x1 (Host.reduceAdd ds (constant S_ .f32 0x00000000#32) reducesTo_S8x8192x8192_S8x8192_d2 h_S_) shapeCasts_S8x8192_S8x8192x1) (constant S_ .f32 0x00000000#32) reducesTo_S8x8192x1_S8x8192_d2 h_S_))

/-- The log-sum-exp of each row, as the forward pass saves it. -/
def tLs (s : FVec Ideal S8x8192x8192 .f32) : FVec Ideal S8x8192x1 .f32 :=
  addf (broadcastInDim S8x8192x1 ![0, 1] bcast_S8x8192_S8x8192x1_0_1 (tM s)) (Host.log (tZ (tE s (tM s))))

section
variable (m : (ℓ : Loc nD τ sig) → Buf (Elt Ideal) ℓ) (c : Dev nD)

abbrev aS := tS (tHeads (m ((c.tc : Thread nD τ).loc main_arg0))) (tHeads (m ((c.tc : Thread nD τ).loc main_arg1))) (m ((c.tc : Thread nD τ).loc main_arg3))
abbrev aE := tE (aS m c) (tM' (aS m c))
abbrev aDs := tDs (tDot (tHeads (m ((c.tc : Thread nD τ).loc main_arg4))) (tHeads (m ((c.tc : Thread nD τ).loc main_arg2)))) (aE m c) (tZ (aE m c))

theorem res0 : Cert.ReferenceIdeal.Value.res_main_v89 m c = tDq (tSc (aDs m c)) (tHeads (m ((c.tc : Thread nD τ).loc main_arg1))) := rfl
theorem res1 : Cert.ReferenceIdeal.Value.res_main_v86 m c = tDk (tSc (aDs m c)) (tHeads (m ((c.tc : Thread nD τ).loc main_arg0))) := rfl
theorem res2 : Cert.ReferenceIdeal.Value.res_main_v84 m c = tDv (tHeads (m ((c.tc : Thread nD τ).loc main_arg4))) (tOver (aE m c) (tZ (aE m c))) := rfl
theorem res3 : Cert.ReferenceIdeal.Value.res_main_v90 m c = tDf (aDs m c) := rfl
end

theorem idx3 {a b c : ℕ} (j : (⟨3, ![a, b, c]⟩ : Shape).Idx) : j = ix3 (j 0) (j 1) (j 2) := by
  funext i; fin_cases i <;> rfl

theorem idx2 {a b : ℕ} (j : (⟨2, ![a, b]⟩ : Shape).Idx) : j = ix2 (j 0) (j 1) := by
  funext i; fin_cases i <;> rfl

theorem ext3 {a b c : ℕ} {α : Type} {x y : (⟨3, ![a, b, c]⟩ : Shape).Idx → α}
    (h : ∀ (i : Fin a) (j : Fin b) (k : Fin c), x (ix3 i j k) = y (ix3 i j k)) : x = y := by
  funext j; rw [idx3 j]; exact h _ _ _

theorem ext2 {a b : ℕ} {α : Type} {x y : (⟨2, ![a, b]⟩ : Shape).Idx → α}
    (h : ∀ (i : Fin a) (j : Fin b), x (ix2 i j) = y (ix2 i j)) : x = y := by
  funext j; rw [idx2 j]; exact h _ _

theorem le_word (a b : ℕ) (ha : a < 8192) (hb : b < 8192) :
    IntOp.cmpi .sle (BitVec.ofNat 32 a) (BitVec.ofNat 32 b) = if a ≤ b then 1#1 else 0#1 := by
  show BitVec.ofBool ((BitVec.ofNat 32 a).sle (BitVec.ofNat 32 b)) = _
  rw [BitVec.sle_eq_decide]
  have t1 : (BitVec.ofNat 32 a).toInt = a := by rw [BitVec.toInt_eq_toNat_of_lt (by rw [BitVec.toNat_ofNat]; omega), BitVec.toNat_ofNat]; omega
  have t2 : (BitVec.ofNat 32 b).toInt = b := by rw [BitVec.toInt_eq_toNat_of_lt (by rw [BitVec.toNat_ofNat]; omega), BitVec.toNat_ofNat]; omega
  rw [t1, t2]
  by_cases h : a ≤ b
  · rw [if_pos h, decide_eq_true (by omega)]; rfl
  · rw [if_neg h, decide_eq_false (by omega)]; rfl

theorem bot_word : Ideal.ofBits FTy.f32 4286578688#32 = ⊥ := by
  simp [Ideal.ofBits, Ideal.ieee]

theorem zero_word : Ideal.ofBits FTy.f32 0#32 = ((0 : ℝ) : EReal) := by
  simp [Ideal.ofBits, Ideal.ieee]

theorem one_word : Ideal.ofBits FTy.f32 1065353216#32 = ((1 : ℝ) : EReal) := by
  simp [Ideal.ofBits, Ideal.ieee]
  rw [show (((8388608 : ℝ) : EReal)) * (((2 ^ 23 : ℝ)⁻¹ : ℝ) : EReal) = (((8388608 : ℝ) * (2 ^ 23 : ℝ)⁻¹ : ℝ) : EReal) from (EReal.coe_mul _ _).symm]
  norm_num

theorem heads_eq (Q : ℕ → ℕ → ℝ) : tHeads (mat Q) = box fun h r x => Q r (h * 64 + x) := by
  refine ext3 fun a b d => ?_
  unfold tHeads; pointwise; rfl

theorem mask_eq (a : Fin 8) (r s : Fin 8192) : tMask (ix3 a r s) = if s.val ≤ r.val then 1#1 else 0#1 := by
  unfold tMask; pointwise
  exact le_word _ _ s.isLt r.isLt

theorem sel_mask {α : Type} (p : Prop) [Decidable p] (x y : α) : Scalar.select (if p then 1#1 else 0#1) x y = if p then x else y := by
  split <;> rfl

/-- The scores, minus infinity after the row's own position. -/
def inf (p : ℕ → ℕ → ℕ → ℝ) : FVec Ideal S8x8192x8192 .f32 :=
  fun j => if (j 2).val ≤ (j 1).val then ((p (j 0).val (j 1).val (j 2).val : ℝ) : EReal) else ⊥

/-- The score of row `r` and column `s`. -/
def sc (f g : ℕ → ℕ → ℕ → ℝ) (F : ℕ → ℕ → ℝ) (a r s : ℕ) : ℝ :=
  (∑ x : Fin 64, f a r x * g a s x) * (1 / 8) + F a r - F a s

theorem s_eq (f g : ℕ → ℕ → ℕ → ℝ) (F : ℕ → ℕ → ℝ) : tS (box f) (box g) (mat F) = inf (sc f g F) := by
  refine ext3 fun a r s => ?_
  unfold tS; pointwise
  rw [mask_eq, sel_mask]
  show _ = if s.val ≤ r.val then _ else _
  refine if_congr Iff.rfl ?_ ?_
  · simp only [box_at, mat_at, eighth, ← EReal.coe_mul, ← coe_sum, ← EReal.coe_add, ← EReal.coe_sub]; rfl
  · exact bot_word

/-- The greatest score of a row. -/
def mx (p : ℕ → ℕ → ℕ → ℝ) (a r : ℕ) : ℝ :=
  (Finset.univ.sup fun s : Fin 8192 => if s.val ≤ r then ((p a r s.val : ℝ) : EReal) else ⊥).toReal

theorem m_eq (p : ℕ → ℕ → ℕ → ℝ) : tM (inf p) = mat (mx p) := by
  refine ext2 fun a r => ?_
  unfold tM; pointwise
  rw [bot_word]
  show Finset.univ.sup (fun s : Fin 8192 => if s.val ≤ r.val then ((p a.val r.val s.val : ℝ) : EReal) else ⊥) = ((mx p a.val r.val : ℝ) : EReal)
  unfold mx
  refine (EReal.coe_toReal ?_ ?_).symm
  · refine ne_of_lt ((Finset.sup_lt_iff (by exact bot_lt_top)).mpr fun s _ => ?_)
    split
    · exact EReal.coe_lt_top _
    · exact bot_lt_top
  · refine ne_of_gt (lt_of_lt_of_le (EReal.bot_lt_coe (p a.val r.val r.val)) ?_)
    refine le_trans (le_of_eq ?_) (Finset.le_sup (Finset.mem_univ r))
    rw [if_pos le_rfl]

theorem m'_eq (p : ℕ → ℕ → ℕ → ℝ) : tM' (inf p) = mat (mx p) := by
  unfold tM'; rw [m_eq]
  refine ext2 fun a r => ?_
  pointwise
  rw [bot_word]; exact max_eq_right bot_le

/-- The exponential of a score less its row's greatest; zero after the row's own position. -/
def ex (p : ℕ → ℕ → ℕ → ℝ) (a r s : ℕ) : ℝ := if s ≤ r then Real.exp (p a r s - mx p a r) else 0

theorem e_eq (p : ℕ → ℕ → ℕ → ℝ) : tE (inf p) (mat (mx p)) = box (ex p) := by
  refine ext3 fun a r s => ?_
  unfold tE; pointwise
  show Ideal.exp ((if s.val ≤ r.val then ((p a.val r.val s.val : ℝ) : EReal) else ⊥) - ((mx p a.val r.val : ℝ) : EReal)) = ((ex p a.val r.val s.val : ℝ) : EReal)
  unfold ex
  split
  · rw [← EReal.coe_sub, Ideal.exp_coe]
  · rw [EReal.bot_sub, Ideal.exp_bot]; rfl

theorem z_eq (f : ℕ → ℕ → ℕ → ℝ) : tZ (box f) = box fun a r _ => ∑ s : Fin 8192, f a r s := by
  refine ext3 fun a r s => ?_
  unfold tZ; pointwise
  simp only [zero_word, box_at, ← coe_sum, ← EReal.coe_add, zero_add]

theorem over_eq (f : ℕ → ℕ → ℕ → ℝ) (z : ℕ → ℕ → ℕ → ℝ) (hz : ∀ a r, z a r 0 ≠ 0) : tOver (box f) (box z) = box fun a r s => f a r s / z a r 0 := by
  refine ext3 fun a r s => ?_
  unfold tOver; pointwise
  show Ideal.div ((f a r s : ℝ) : EReal) ((z a r 0 : ℝ) : EReal) = _
  rw [Ideal.div_coe (hz _ _), ← EReal.coe_mul, mul_one_div]; rfl

theorem dot_eq (f g : ℕ → ℕ → ℕ → ℝ) : tDot (box f) (box g) = box fun a r s => ∑ x : Fin 64, f a r x * g a s x := by
  refine ext3 fun a r s => ?_
  unfold tDot; pointwise
  simp only [box_at, ← EReal.coe_mul, ← coe_sum]

theorem r_eq (ct e z : ℕ → ℕ → ℕ → ℝ) (hz : ∀ a r, z a r 0 ≠ 0) :
    tR (box ct) (box e) (box z) = mat fun a r => -∑ s : Fin 8192, ct a r s * (1 / (z a r 0 * z a r 0)) * e a r s := by
  refine ext2 fun a r => ?_
  unfold tR; pointwise
  have h1 : (1 : EReal) = ((1 : ℝ) : EReal) := rfl
  have h : ∀ x : Fin 8192, box ct (ix3 a r x) * Ideal.div 1 (box z (ix3 a r (0 : Fin 1)) * box z (ix3 a r (0 : Fin 1))) * box e (ix3 a r x)
      = ((ct a r x * (1 / (z a r 0 * z a r 0)) * e a r x : ℝ) : EReal) := fun x => by
    rw [box_at, box_at, box_at, ← EReal.coe_mul]
    refine (congrArg (fun t => ((ct a r x : ℝ) : EReal) * t * ((e a r x : ℝ) : EReal)) (Ideal.div_coe (mul_ne_zero (hz _ _) (hz _ _)) 1)).trans ?_
    rw [one_mul, ← EReal.coe_mul, ← EReal.coe_mul]
  rw [Fin.sum_univ_one, Finset.sum_congr rfl fun x _ => h x, ← coe_sum (fun x : Fin 8192 => ct a r x * (1 / (z a r 0 * z a r 0)) * e a r x), ← EReal.coe_neg]
  rfl

theorem ds_eq (ct e z : ℕ → ℕ → ℕ → ℝ) (hz : ∀ a r, z a r 0 ≠ 0) :
    tDs (box ct) (box e) (box z) = box fun a r s => if s ≤ r then (ct a r s / z a r 0 + -∑ s' : Fin 8192, ct a r s' * (1 / (z a r 0 * z a r 0)) * e a r s') * e a r s else 0 := by
  unfold tDs; rw [over_eq _ _ hz, r_eq _ _ _ hz]
  refine ext3 fun a r s => ?_
  pointwise
  rw [mask_eq, sel_mask]
  simp only [zero_word, box_at, mat_at, ← EReal.coe_add, ← EReal.coe_mul]
  exact coe_ite (s.val ≤ r.val) _ 0

theorem sc_eq (f : ℕ → ℕ → ℕ → ℝ) : tSc (box f) = box fun a r s => f a r s * (1 / 8) := by
  refine ext3 fun a r s => ?_
  unfold tSc; pointwise
  simp only [box_at, eighth, ← EReal.coe_mul]

theorem dv_eq (g y : ℕ → ℕ → ℕ → ℝ) : tDv (box g) (box y) = mat fun s l => ∑ r : Fin 8192, g (l / 64) r (l % 64) * y (l / 64) r s := by
  refine ext2 fun s l => ?_
  unfold tDv; pointwise
  simp only [box_at, mat_at, ← EReal.coe_mul, ← coe_sum]

theorem dk_eq (d q : ℕ → ℕ → ℕ → ℝ) : tDk (box d) (box q) = mat fun s l => ∑ r : Fin 8192, d (l / 64) r s * q (l / 64) r (l % 64) := by
  refine ext2 fun s l => ?_
  unfold tDk; pointwise
  simp only [box_at, mat_at, ← EReal.coe_mul, ← coe_sum]

theorem dq_eq (d k : ℕ → ℕ → ℕ → ℝ) : tDq (box d) (box k) = mat fun r l => ∑ s : Fin 8192, d (l / 64) r s * k (l / 64) s (l % 64) := by
  refine ext2 fun s l => ?_
  unfold tDq; pointwise
  simp only [box_at, mat_at, ← EReal.coe_mul, ← coe_sum]

theorem df_eq (d : ℕ → ℕ → ℕ → ℝ) : tDf (box d) = box fun a _ s => ∑ r : Fin 8192, -d a r s + ∑ s' : Fin 8192, d a s s' := by
  refine ext3 fun a o s => ?_
  unfold tDf; pointwise
  rw [Fin.sum_univ_one, Fin.sum_univ_one]
  simp only [box_at, ← EReal.coe_neg, ← coe_sum, ← EReal.coe_add]

theorem ls_eq (p : ℕ → ℕ → ℕ → ℝ) (hz : ∀ a r : ℕ, 0 < ∑ s : Fin 8192, ex p a r s) : tLs (inf p) = box fun a r _ => mx p a r + Real.log (∑ s : Fin 8192, ex p a r s) := by
  unfold tLs; rw [m_eq, e_eq, z_eq]
  refine ext3 fun a r o => ?_
  pointwise
  show ((mx p a r : ℝ) : EReal) + Ideal.log ((∑ s : Fin 8192, ex p a r s : ℝ) : EReal) = _
  rw [Ideal.log_coe, if_neg (not_le.mpr (hz _ _)), ← EReal.coe_add]
  rfl

end Cert.Proof.Host

end
-- ==== Proof.Entry.lean ====
/-
  What the kernel's call is entered with when the arguments are real arrays, and that the precondition makes them real.
-/
module

public import proofs.«01_k».proof.Defs
public import proofs.«01_k».proof.Proof.Run
public import proofs.«01_k».proof.Proof.Host
public import Idealize.ShloMosaic.Lib.ReduceAll

@[expose] public section

set_option maxRecDepth 16384
set_option pp.maxSteps 600

noncomputable section

namespace Cert.Proof.Entry

open Cert.KernelIdeal Cert.KernelIdeal.Gen
open Idealize.ShloMosaic Idealize.ShloMosaic.TcCoe Idealize.ShloMosaic.Tactic
open Cert.Proof.Pays (mat box mat_at box_at coe_sum eighth coe_ite)
open Cert.Proof.Host (ext2 ext3)

/-- The precondition's side conditions. -/
theorem preFacts : Cert.Pre_finite_arguments.Facts where
  bcast_S_S8192x512 := by decide
  reducesTo_S8192x512_S_d0_1 := by decide
  h_S_ := by decide
  bcast_S_S8x8192 := by decide
  reducesTo_S8x8192_S_d0_1 := by decide

section
variable (m : (ℓ : Loc nD τ sig) → Buf (Elt Ideal) ℓ) (c : Dev nD)

set_option maxHeartbeats 1600000 in
theorem v_x : V m c main_v1 = truncf (F := Ideal) .bf16 (concatenate S8192x1536 1 [⟨S8192x512, (m ((c : Thread nD τ).loc main_arg0) : FVec Ideal S8192x512 .f32)⟩, ⟨S8192x512, (m ((c : Thread nD τ).loc main_arg1) : FVec Ideal S8192x512 .f32)⟩, ⟨S8192x512, (m ((c : Thread nD τ).loc main_arg2) : FVec Ideal S8192x512 .f32)⟩] concatenates_S8192x512_S8192x512_S8192x512_S8192x1536_d1 : FVec Ideal S8192x1536 .f32) bitsLt_bf16_f32 := by
  unfold V
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl

set_option maxHeartbeats 1600000 in
theorem v_fq : V m c main_v31 = shapeCast S8x8192x1 (m ((c : Thread nD τ).loc main_arg3) : FVec Ideal S8x8192 .f32) shapeCasts_S8x8192_S8x8192x1 := by
  unfold V
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl

set_option maxHeartbeats 1600000 in
theorem v_fk : V m c main_v32 = shapeCast S8x1x8192 (m ((c : Thread nD τ).loc main_arg3) : FVec Ideal S8x8192 .f32) shapeCasts_S8x8192_S8x1x8192 := by
  unfold V
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl

set_option maxHeartbeats 1600000 in
theorem v_g : V m c main_v33 = truncf (F := Ideal) .bf16 (m ((c : Thread nD τ).loc main_arg4) : FVec Ideal S8192x512 .f32) bitsLt_bf16_f32 := by
  unfold V
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl

set_option maxHeartbeats 1600000 in
theorem v_ls : V m c main_v30 = Host.tLs (Host.tS (Host.tHeads (m ((c : Thread nD τ).loc main_arg0))) (Host.tHeads (m ((c : Thread nD τ).loc main_arg1))) (m ((c : Thread nD τ).loc main_arg3))) := by
  unfold V
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl
end

/-- Real arguments. -/
structure Args where
  Q : ℕ → ℕ → ℝ
  K : ℕ → ℕ → ℝ
  W : ℕ → ℕ → ℝ
  F : ℕ → ℕ → ℝ
  G : ℕ → ℕ → ℝ

namespace Args
variable (A : Args)
/-- The heads of the queries, of the keys, of the values and of the incoming gradient. -/
def q (a r x : ℕ) : ℝ := A.Q r (a * 64 + x)
def k (a r x : ℕ) : ℝ := A.K r (a * 64 + x)
def w (a r x : ℕ) : ℝ := A.W r (a * 64 + x)
def g (a r x : ℕ) : ℝ := A.G r (a * 64 + x)
/-- The scores. -/
def p : ℕ → ℕ → ℕ → ℝ := Host.sc A.q A.k A.F
/-- The arrays the kernel is called with. -/
def glob : Run.Glob where
  X r l := if l < 512 then A.Q r l else if l - 512 < 512 then A.K r (l - 512) else A.W r (l - 512 - 512)
  G := A.G
  F := A.F
  Ls a r := Host.mx A.p a r + Real.log (∑ s : Fin 8192, Host.ex A.p a r s)
end Args

/-- Every row's exponentials have a positive sum: the first column is never masked. -/
theorem ex_pos (p : ℕ → ℕ → ℕ → ℝ) (a r : ℕ) : 0 < ∑ s : Fin 8192, Host.ex p a r s := by
  refine Finset.sum_pos' (fun s _ => ?_) ⟨⟨0, by norm_num⟩, Finset.mem_univ _, ?_⟩
  · unfold Host.ex; split
    · exact (Real.exp_pos _).le
    · exact le_rfl
  · unfold Host.ex; rw [if_pos (Nat.zero_le r)]; exact Real.exp_pos _

theorem x_eq (A : Args) : truncf (F := Ideal) .bf16 (concatenate S8192x1536 1 [⟨S8192x512, (mat A.Q : FVec Ideal S8192x512 .f32)⟩, ⟨S8192x512, (mat A.K : FVec Ideal S8192x512 .f32)⟩, ⟨S8192x512, (mat A.W : FVec Ideal S8192x512 .f32)⟩] concatenates_S8192x512_S8192x512_S8192x512_S8192x1536_d1 : FVec Ideal S8192x1536 .f32) bitsLt_bf16_f32
    = (mat A.glob.X : FVec Ideal S8192x1536 .bf16) := by
  refine ext2 fun r l => ?_
  pointwise
  unfold Args.glob; simp only [mat_at]
  split
  · rfl
  · split
    · rfl
    · rfl

theorem fq_eq (f : ℕ → ℕ → ℝ) : shapeCast S8x8192x1 (mat f : FVec Ideal S8x8192 .f32) shapeCasts_S8x8192_S8x8192x1 = (box fun h r _ => f h r : FVec Ideal S8x8192x1 .f32) := by
  refine ext3 fun a r s => ?_
  pointwise
  rfl

theorem fk_eq (f : ℕ → ℕ → ℝ) : shapeCast S8x1x8192 (mat f : FVec Ideal S8x8192 .f32) shapeCasts_S8x8192_S8x1x8192 = (box fun h _ s => f h s : FVec Ideal S8x1x8192 .f32) := by
  refine ext3 fun a r s => ?_
  pointwise
  rfl

theorem g_eq (f : ℕ → ℕ → ℝ) : truncf (F := Ideal) .bf16 (mat f : FVec Ideal S8192x512 .f32) bitsLt_bf16_f32 = (mat f : FVec Ideal S8192x512 .bf16) := rfl

/-- The arguments are real arrays. -/
structure Reals (m : (ℓ : Loc nD τ sig) → Buf (Elt Ideal) ℓ) (A : Dev nD → Args) : Prop where
  q : ∀ c : Dev nD, m ((c : Thread nD τ).loc main_arg0) = (mat (A c).Q : FVec Ideal S8192x512 .f32)
  k : ∀ c : Dev nD, m ((c : Thread nD τ).loc main_arg1) = (mat (A c).K : FVec Ideal S8192x512 .f32)
  w : ∀ c : Dev nD, m ((c : Thread nD τ).loc main_arg2) = (mat (A c).W : FVec Ideal S8192x512 .f32)
  f : ∀ c : Dev nD, m ((c : Thread nD τ).loc main_arg3) = (mat (A c).F : FVec Ideal S8x8192 .f32)
  g : ∀ c : Dev nD, m ((c : Thread nD τ).loc main_arg4) = (mat (A c).G : FVec Ideal S8192x512 .f32)

theorem finds (m : (ℓ : Loc nD τ sig) → Buf (Elt Ideal) ℓ) (A : Dev nD → Args) (h : Reals m A) : Run.Finds m fun c => (A c).glob where
  x c := by rw [v_x, h.q c, h.k c, h.w c]; exact x_eq (A c)
  fq c := by rw [v_fq, h.f c]; exact fq_eq _
  fk c := by rw [v_fk, h.f c]; exact fk_eq _
  ls c := by
    rw [v_ls, h.q c, h.k c, h.f c]
    refine (congrArg Host.tLs ?_).trans (Host.ls_eq (A c).p (ex_pos _))
    rw [Host.heads_eq, Host.heads_eq]
    exact Host.s_eq _ _ _
  g c := by rw [v_g, h.g c]; exact g_eq _

theorem inf_word : Ideal.ofBits FTy.f32 0x7F800000#32 = ⊤ := by simp [Ideal.ofBits, Ideal.ieee]

/-- A number below infinity in size is real. -/
theorem real_of_lt (x : EReal) (h : Ideal.cmp .olt (max x (-x)) (Ideal.ofBits FTy.f32 0x7F800000#32) = 1#1) : ((x.toReal : ℝ) : EReal) = x := by
  have h' : max x (-x) < ⊤ := by rw [← inf_word]; exact (Ideal.cmp_olt_eq_one ..).mp h
  refine EReal.coe_toReal (fun e => ?_) fun e => ?_
  · subst e; simp at h'
  · subst e; simp at h'

theorem real_mat {n k : ℕ} (x : (⟨2, ![n, k]⟩ : Shape).Idx → EReal) (h : ∀ j, ((x j).toReal : EReal) = x j) :
    ∃ f : ℕ → ℕ → ℝ, x = mat f := by
  refine ⟨fun r l => if hr : r < n then if hl : l < k then (x (ix2 ⟨r, hr⟩ ⟨l, hl⟩)).toReal else 0 else 0, ext2 fun a b => ?_⟩
  rw [mat_at, dif_pos a.isLt, dif_pos b.isLt]
  exact (h _).symm

theorem and1 {a b : BitVec 1} (h : IntOp.andi a b = 1#1) : a = 1#1 ∧ b = 1#1 := by
  revert a b; decide

theorem decode (x0 x1 x2 x4 : FVec Ideal S8192x512 .f32) (x3 : FVec Ideal S8x8192 .f32)
    (h : letI := preFacts; Cert.Pre_finite_arguments.fn (F := Ideal) x0 x1 x2 x3 x4 = fun _ => 1#1) :
    ∃ A : Args, x0 = mat A.Q ∧ x1 = mat A.K ∧ x2 = mat A.W ∧ x3 = mat A.F ∧ x4 = mat A.G := by
  letI := preFacts
  have h0 := congrFun h (fun i => i.elim0)
  dsimp only [Cert.Pre_finite_arguments.fn, Cert.Pre_finite_arguments.fn_part1] at h0
  obtain ⟨h0, e4⟩ := and1 h0
  obtain ⟨h0, e3⟩ := and1 h0
  obtain ⟨h0, e2⟩ := and1 h0
  obtain ⟨e0, e1⟩ := and1 h0
  haveI : Subsingleton Cert.Pre_finite_arguments.S_.Idx := ⟨fun a b => funext fun i => i.elim0⟩
  obtain ⟨Q, hQ⟩ := real_mat x0 fun j => real_of_lt _ (Host.reduce_andi_all _ _ _ _ _ e0 j)
  obtain ⟨K, hK⟩ := real_mat x1 fun j => real_of_lt _ (Host.reduce_andi_all _ _ _ _ _ e1 j)
  obtain ⟨W, hW⟩ := real_mat x2 fun j => real_of_lt _ (Host.reduce_andi_all _ _ _ _ _ e2 j)
  obtain ⟨F, hF⟩ := real_mat x3 fun j => real_of_lt _ (Host.reduce_andi_all _ _ _ _ _ e3 j)
  obtain ⟨G, hG⟩ := real_mat x4 fun j => real_of_lt _ (Host.reduce_andi_all _ _ _ _ _ e4 j)
  exact ⟨⟨Q, K, W, F, G⟩, hQ, hK, hW, hF, hG⟩

end Cert.Proof.Entry

end
-- ==== Proof.Algebra.lean ====
/-
  The kernel's sums over query blocks and lanes are the reference's sums over rows, columns and heads: real numbers only.
-/
module

public import proofs.«01_k».proof.Proof.Entry

@[expose] public section

set_option pp.maxSteps 600

noncomputable section

namespace Cert.Proof.Algebra

open Cert.Proof.Pays Cert.Proof.Body Cert.Proof.Entry
open Cert.Proof.Host (ex mx sc)
open Finset (range sum_congr)

/-- A sum over the lanes of head `e` of a pair. -/
theorem lanes (f : ℕ → ℝ) (e : ℕ) (he : e < 2) : ∑ x : Fin 128, (if x.val / 64 = e then f x.val else 0) = ∑ x : Fin 64, f (e * 64 + x.val) := by
  rw [Fin.sum_univ_eq_sum_range (fun x => if x / 64 = e then f x else 0) 128, Fin.sum_univ_eq_sum_range (fun x => f (e * 64 + x)) 64,
    show (128 : ℕ) = 64 + 64 from rfl, Finset.sum_range_add]
  have h0 : ∑ x ∈ range 64, (if x / 64 = e then f x else 0) = if e = 0 then ∑ x ∈ range 64, f x else 0 := by
    split
    · rename_i h; subst h; exact sum_congr rfl fun x hx => if_pos (by have := Finset.mem_range.mp hx; omega)
    · exact Finset.sum_eq_zero fun x hx => if_neg (by have := Finset.mem_range.mp hx; omega)
  have h1 : ∑ x ∈ range 64, (if (64 + x) / 64 = e then f (64 + x) else 0) = if e = 1 then ∑ x ∈ range 64, f (64 + x) else 0 := by
    split
    · rename_i h; subst h; exact sum_congr rfl fun x hx => if_pos (by have := Finset.mem_range.mp hx; omega)
    · exact Finset.sum_eq_zero fun x hx => if_neg (by have := Finset.mem_range.mp hx; omega)
  rw [h0, h1]
  obtain rfl | rfl : e = 0 ∨ e = 1 := by omega
  · simp
  · simp

variable (A : Args)

/-- A row's sum of exponentials. -/
def Z (a r : ℕ) : ℝ := ∑ s : Fin 8192, ex A.p a r s
theorem Z_pos (a r : ℕ) : 0 < Z A a r := ex_pos _ a r
theorem Z_ne (a r : ℕ) : Z A a r ≠ 0 := (Z_pos A a r).ne'
/-- The probabilities. -/
def y (a r s : ℕ) : ℝ := ex A.p a r s / Z A a r
/-- The gradient of the probabilities. -/
def ct (a r s : ℕ) : ℝ := ∑ x : Fin 64, A.g a r x * A.w a s x
/-- A row's sum of probability times its gradient. -/
def dl (a r : ℕ) : ℝ := ∑ s : Fin 8192, y A a r s * ct A a r s
/-- The gradient of the scores. -/
def dr (a r s : ℕ) : ℝ := y A a r s * (ct A a r s - dl A a r)

theorem ex_late {a r s : ℕ} (h : r < s) : ex A.p a r s = 0 := by unfold ex; rw [if_neg (by omega)]
theorem y_late {a r s : ℕ} (h : r < s) : y A a r s = 0 := by unfold y; rw [ex_late A h, zero_div]
theorem dr_late {a r s : ℕ} (h : r < s) : dr A a r s = 0 := by unfold dr; rw [y_late A h, zero_mul]

theorem y_sum (a r : ℕ) : ∑ s : Fin 8192, y A a r s = 1 := by
  unfold y; rw [← Finset.sum_div]; exact div_self (Z_ne A a r)

theorem dr_sum (a r : ℕ) : ∑ s : Fin 8192, dr A a r s = 0 := by
  unfold dr
  simp only [mul_sub, Finset.sum_sub_distrib]
  rw [← Finset.sum_mul, y_sum, one_mul]; exact sub_self _

/-- The reference's spelling of the gradient of the scores. -/
theorem dr_ref (a r s : ℕ) : (if s ≤ r then (ct A a r s / Z A a r + -∑ s' : Fin 8192, ct A a r s' * (1 / (Z A a r * Z A a r)) * ex A.p a r s') * ex A.p a r s else 0) = dr A a r s := by
  split
  · unfold dr
    have h : ∑ s' : Fin 8192, ct A a r s' * (1 / (Z A a r * Z A a r)) * ex A.p a r s' = dl A a r / Z A a r := by
      unfold dl; rw [Finset.sum_div]
      refine sum_congr rfl fun s' _ => ?_
      unfold y; have := Z_ne A a r; field_simp
    rw [h]; unfold y; have := Z_ne A a r; field_simp; ring
  · exact (dr_late A (by omega)).symm

section point
variable (g i : ℕ) (hg : g < 4) (e : ℕ) (he : e < 2)
include hg he

theorem q_at (r x : ℕ) (hx : x < 128) : (A.glob.blk g i).q r x = A.Q (i * 256 + r) (g * 128 + x) := by
  show (if g * 128 + x < 512 then _ else _) = _
  rw [if_pos (by omega)]
theorem k_at (s x : ℕ) (hx : x < 128) : (A.glob.blk g i).k s x = A.K s (g * 128 + x) := by
  show (if (g + 4) * 128 + x < 512 then _ else if (g + 4) * 128 + x - 512 < 512 then _ else _) = _
  rw [if_neg (by omega), if_pos (by omega), show (g + 4) * 128 + x - 512 = g * 128 + x by omega]
theorem v_at (s x : ℕ) (hx : x < 128) : (A.glob.blk g i).v s x = A.W s (g * 128 + x) := by
  show (if (g + 8) * 128 + x < 512 then _ else if (g + 8) * 128 + x - 512 < 512 then _ else _) = _
  rw [if_neg (by omega), if_neg (by omega), show (g + 8) * 128 + x - 512 - 512 = g * 128 + x by omega]

theorem sq_eq (r s : ℕ) : (A.glob.blk g i).sq e r s = A.p (g * 2 + e) (i * 256 + r) s := by
  have h : ∑ x : Fin 128, (A.glob.blk g i).mq e r x * (A.glob.blk g i).k s x = ∑ x : Fin 64, A.q (g * 2 + e) (i * 256 + r) x * A.k (g * 2 + e) s x := by
    refine Eq.trans (sum_congr rfl fun x _ => ?_) ((lanes (fun x => A.Q (i * 256 + r) (g * 128 + x) * A.K s (g * 128 + x)) e he).trans (sum_congr rfl fun x _ => ?_))
    · unfold Blk.mq; rw [q_at A g i hg e he r x x.isLt, k_at A g i hg e he s x x.isLt]; split
      · rfl
      · rw [zero_mul]
    · unfold Args.q Args.k; rw [show g * 128 + (e * 64 + x.val) = (g * 2 + e) * 64 + x.val by omega]
  unfold Blk.sq; rw [h]
  show _ + (A.F (g * 2 + e) (i * 256 + r) - A.F (g * 2 + e) s) = _
  unfold Args.p sc; ring

theorem pr_eq (r s : ℕ) : (A.glob.blk g i).pr e r s = y A (g * 2 + e) (i * 256 + r) s := by
  unfold Blk.pr
  rw [sq_eq A g i hg e he]
  show (if s ≤ 256 * i + r then Real.exp (A.p (g * 2 + e) (i * 256 + r) s - (mx A.p (g * 2 + e) (i * 256 + r) + Real.log (Z A (g * 2 + e) (i * 256 + r)))) else 0) = _
  unfold y ex
  by_cases h : s ≤ i * 256 + r
  · rw [if_pos (by omega), if_pos h, ← sub_sub, Real.exp_sub, Real.exp_log (Z_pos A _ _)]
  · rw [if_neg (by omega), if_neg h, zero_div]

theorem dp_eq (r s : ℕ) : (A.glob.blk g i).dp e r s = ct A (g * 2 + e) (i * 256 + r) s := by
  unfold Blk.dp ct
  refine Eq.trans (sum_congr rfl fun x _ => ?_) ((lanes (fun x => A.G (i * 256 + r) (g * 128 + x) * A.W s (g * 128 + x)) e he).trans (sum_congr rfl fun x _ => ?_))
  · unfold Blk.mg; rw [v_at A g i hg e he s x x.isLt]; split
    · rfl
    · rw [zero_mul]
  · unfold Args.g Args.w; rw [show g * 128 + (e * 64 + x.val) = (g * 2 + e) * 64 + x.val by omega]

/-- A sum over all columns of what ends at column `n`. -/
theorem upto (f : ℕ → ℝ) (n : ℕ) (hn : n ≤ 8192) (h : ∀ s, n ≤ s → f s = 0) : ∑ s ∈ range n, f s = ∑ s : Fin 8192, f s := by
  rw [Fin.sum_univ_eq_sum_range f 8192]
  exact Finset.sum_subset (fun x hx => Finset.mem_range.mpr (by have := Finset.mem_range.mp hx; omega))
    fun x _ hx => h x (by rw [Finset.mem_range] at hx; omega)

theorem dl_eq (n r : ℕ) (hn : n ≤ 8192) (hr : i * 256 + r < n) : (A.glob.blk g i).dl e n r = dl A (g * 2 + e) (i * 256 + r) := by
  unfold Blk.dl dl
  simp only [pr_eq A g i hg e he, dp_eq A g i hg e he]
  exact upto g hg e he (fun s => y A (g * 2 + e) (i * 256 + r) s * ct A (g * 2 + e) (i * 256 + r) s) n hn
    fun s hs => by show y A _ _ s * _ = 0; rw [y_late A (by omega), zero_mul]

theorem ds_eq (n r s : ℕ) (hn : n ≤ 8192) (hr : i * 256 + r < n) : (A.glob.blk g i).ds e n r s = dr A (g * 2 + e) (i * 256 + r) s := by
  unfold Blk.ds dr
  rw [pr_eq A g i hg e he, dp_eq A g i hg e he, dl_eq A g i hg e he n r hn hr]
end point

theorem len_le {i : ℕ} (h : i < 32) : Run.Glob.len i ≤ 8192 := by unfold Run.Glob.len; omega
theorem len_gt {i r : ℕ} (h : r < 256) : i * 256 + r < Run.Glob.len i := by unfold Run.Glob.len; omega

/-- A block's rows added to one column, masked by the columns it looks at. -/
theorem part (f h : ℕ → ℝ) (s n : ℕ) (hf : ∀ r < 256, f r = h r) (h0 : n ≤ s → ∀ r < 256, h r = 0) :
    (if s < n then ∑ r : Fin 256, f r else 0) = ∑ r ∈ range 256, h r := by
  rw [← Fin.sum_univ_eq_sum_range h 256]
  split
  · exact sum_congr rfl fun (r : Fin 256) _ => hf r.val r.isLt
  · exact (Finset.sum_eq_zero fun (r : Fin 256) _ => h0 (by omega) r.val r.isLt).symm

theorem next (f : ℕ → ℝ) (i : ℕ) : ∑ r ∈ range ((i + 1) * 256), f r = ∑ r ∈ range (i * 256), f r + ∑ r ∈ range 256, f (i * 256 + r) := by
  rw [show (i + 1) * 256 = i * 256 + 256 by ring, Finset.sum_range_add]

theorem two (l : ℕ) (hl : l < 128) (f : ℕ → ℝ) (a : ℝ) : (a + if l / 64 = 0 then f 0 else 0) + (if l / 64 = 1 then f 1 else 0) = a + f (l / 64) := by
  obtain h | h : l / 64 = 0 ∨ l / 64 = 1 := by omega
  · rw [h]; simp
  · rw [h]; simp

/-- One head's part of a block's sum for a lane. -/
theorem lane_part (a b : ℕ → ℝ) (c d : ℕ → ℝ) (e l s n : ℕ) (ha : ∀ r < 256, a r = c r) (hb : ∀ r < 256, b r = if l / 64 = e then d r else 0)
    (h0 : n ≤ s → ∀ r < 256, c r = 0) :
    (if s < n then ∑ r : Fin 256, a r * b r else 0) = if l / 64 = e then ∑ r ∈ range 256, c r * d r else 0 := by
  refine (part (fun r => a r * b r) (fun r => if l / 64 = e then c r * d r else 0) s n (fun r hr => ?_) fun hs r hr => ?_).trans ?_
  · show a r * b r = _
    rw [ha r hr, hb r hr]; split
    · rfl
    · rw [mul_zero]
  · show (if l / 64 = e then c r * d r else 0) = 0
    rw [h0 hs r hr, zero_mul, ite_self]
  · split
    · rfl
    · exact Finset.sum_const_zero

theorem dk_sum (g : ℕ) (hg : g < 4) (s l : ℕ) (hl : l < 128) : ∀ i, i ≤ 32 → A.glob.dk g i s l = ∑ r ∈ range (i * 256), dr A (g * 2 + l / 64) r s * A.Q r (g * 128 + l)
  | 0, _ => by rw [Nat.zero_mul, Finset.sum_range_zero]; rfl
  | i + 1, hi => by
    have key : ∀ e, e < 2 → (if s < Run.Glob.len i then ∑ r : Fin 256, (A.glob.blk g i).ds e (Run.Glob.len i) r s * (A.glob.blk g i).mq e r l else 0)
        = if l / 64 = e then ∑ r ∈ range 256, dr A (g * 2 + e) (i * 256 + r) s * A.Q (i * 256 + r) (g * 128 + l) else 0 := fun e he =>
      lane_part (fun r => (A.glob.blk g i).ds e (Run.Glob.len i) r s) (fun r => (A.glob.blk g i).mq e r l) (fun r => dr A (g * 2 + e) (i * 256 + r) s)
        (fun r => A.Q (i * 256 + r) (g * 128 + l)) e l s _ (fun r hr => ds_eq A g i hg e he _ r s (len_le (by omega)) (len_gt hr))
        (fun r hr => by show (if _ then _ else _) = _; rw [q_at A g i hg e he r l hl])
        (fun hs r hr => dr_late A (by have := @len_gt i r hr; omega))
    show Gr.dk (A.glob.blk g i) (A.glob.dk g i) (Run.Glob.len i) s l = _
    unfold Gr.dk
    rw [key 0 (by omega), key 1 (by omega), dk_sum g hg s l hl i (by omega), next]
    exact two l hl (fun e => ∑ r ∈ range 256, dr A (g * 2 + e) (i * 256 + r) s * A.Q (i * 256 + r) (g * 128 + l)) _

theorem dv_sum (g : ℕ) (hg : g < 4) (s l : ℕ) (hl : l < 128) : ∀ i, i ≤ 32 → A.glob.dv g i s l = ∑ r ∈ range (i * 256), y A (g * 2 + l / 64) r s * A.G r (g * 128 + l)
  | 0, _ => by rw [Nat.zero_mul, Finset.sum_range_zero]; rfl
  | i + 1, hi => by
    have key : ∀ e, e < 2 → (if s < Run.Glob.len i then ∑ r : Fin 256, (A.glob.blk g i).pr e r s * (A.glob.blk g i).mg e r l else 0)
        = if l / 64 = e then ∑ r ∈ range 256, y A (g * 2 + e) (i * 256 + r) s * A.G (i * 256 + r) (g * 128 + l) else 0 := fun e he =>
      lane_part (fun r => (A.glob.blk g i).pr e r s) (fun r => (A.glob.blk g i).mg e r l) (fun r => y A (g * 2 + e) (i * 256 + r) s)
        (fun r => A.G (i * 256 + r) (g * 128 + l)) e l s _ (fun r hr => pr_eq A g i hg e he r s)
        (fun r hr => rfl)
        (fun hs r hr => y_late A (by have := @len_gt i r hr; omega))
    show Gr.dv (A.glob.blk g i) (A.glob.dv g i) (Run.Glob.len i) s l = _
    unfold Gr.dv
    rw [key 0 (by omega), key 1 (by omega), dv_sum g hg s l hl i (by omega), next]
    exact two l hl (fun e => ∑ r ∈ range 256, y A (g * 2 + e) (i * 256 + r) s * A.G (i * 256 + r) (g * 128 + l)) _

theorem df_sum (g : ℕ) (hg : g < 4) (s h : ℕ) (hh : h < 2) : ∀ i, i ≤ 32 → A.glob.df g i h s = -∑ r ∈ range (i * 256), dr A (g * 2 + h) r s
  | 0, _ => by rw [Nat.zero_mul, Finset.sum_range_zero, neg_zero]; rfl
  | i + 1, hi => by
    have key : ∀ e, e < 2 → (if h = e ∧ s < Run.Glob.len i then ∑ r : Fin 256, (A.glob.blk g i).ds e (Run.Glob.len i) r s else 0)
        = if h = e then ∑ r ∈ range 256, dr A (g * 2 + h) (i * 256 + r) s else 0 := fun e he => by
      by_cases hE : h = e
      · subst hE
        rw [if_pos rfl]
        refine Eq.trans ?_ (part (fun r => (A.glob.blk g i).ds h (Run.Glob.len i) r s) (fun r => dr A (g * 2 + h) (i * 256 + r) s) s (Run.Glob.len i)
          (fun r hr => ds_eq A g i hg h he _ r s (len_le (by omega)) (len_gt hr)) (fun hs r hr => dr_late A (by have := @len_gt i r hr; omega)))
        exact if_congr (and_iff_right rfl) rfl rfl
      · rw [if_neg hE, if_neg fun h' => hE h'.1]
    show Gr.df (A.glob.blk g i) (A.glob.df g i) (Run.Glob.len i) h s = _
    unfold Gr.df
    rw [key 0 (by omega), key 1 (by omega), df_sum g hg s h hh i (by omega), next]
    obtain rfl | rfl : h = 0 ∨ h = 1 := by omega
    · simp; ring
    · simp; ring

theorem dq_sum (r l : ℕ) (hr : r < 8192) (hl : l < 512) : Run.dqAll A.glob r l = ∑ s : Fin 8192, dr A (l / 64) r s * (1 / 8) * A.k (l / 64) s (l % 64) := by
  have key : ∀ e, e < 2 → l % 128 / 64 = e → ∑ s ∈ range (Run.Glob.len (r / 256)), (A.glob.blk (l / 128) (r / 256)).ds e (Run.Glob.len (r / 256)) (r % 256) s * (A.glob.blk (l / 128) (r / 256)).k s (l % 128)
      = ∑ s : Fin 8192, dr A (l / 64) r s * A.k (l / 64) s (l % 64) := fun e he hE => by
    rw [← upto 0 (by omega) 0 (by omega) (fun s => dr A (l / 64) r s * A.k (l / 64) s (l % 64)) (Run.Glob.len (r / 256)) (len_le (by omega))
      fun s hs => by show dr A _ r s * _ = 0; rw [dr_late A (by have := @len_gt (r / 256) (r % 256) (by omega); omega), zero_mul]]
    refine sum_congr rfl fun s _ => ?_
    rw [ds_eq A (l / 128) (r / 256) (by omega) e he _ (r % 256) s (len_le (by omega)) (len_gt (by omega)), k_at A _ _ (by omega) e he s _ (by omega)]
    unfold Args.k
    rw [show l / 128 * 2 + e = l / 64 by omega, show r / 256 * 256 + r % 256 = r by omega, show l / 128 * 128 + l % 128 = l / 64 * 64 + l % 64 by omega]
  unfold Run.dqAll Gr.dq
  rw [show 512 * (r / 256 / 2) + 512 = Run.Glob.len (r / 256) from rfl]
  have fin : (∑ s : Fin 8192, dr A (l / 64) r s * A.k (l / 64) s (l % 64)) * (1 / 8) = ∑ s : Fin 8192, dr A (l / 64) r s * (1 / 8) * A.k (l / 64) s (l % 64) := by
    rw [Finset.sum_mul]; exact sum_congr rfl fun s _ => by ring
  obtain h | h : l % 128 / 64 = 1 ∨ l % 128 / 64 = 0 := by omega
  · rw [if_pos h, key 1 (by omega) h]; exact fin
  · rw [if_neg (by omega), if_pos h, key 0 (by omega) h]; exact fin

theorem dk_all (s l : ℕ) (hl : l < 512) : A.glob.dk (l / 128) 32 s (l % 128) * (1 / 8) = ∑ r : Fin 8192, dr A (l / 64) r s * (1 / 8) * A.q (l / 64) r (l % 64) := by
  rw [dk_sum A (l / 128) (by omega) s (l % 128) (by omega) 32 le_rfl, Finset.sum_mul,
    Fin.sum_univ_eq_sum_range (fun r => dr A (l / 64) r s * (1 / 8) * A.q (l / 64) r (l % 64)) 8192]
  refine sum_congr rfl fun r _ => ?_
  unfold Args.q
  rw [show l / 128 * 2 + l % 128 / 64 = l / 64 by omega, show l / 128 * 128 + l % 128 = l / 64 * 64 + l % 64 by omega]; ring

theorem dv_all (s l : ℕ) (hl : l < 512) : A.glob.dv (l / 128) 32 s (l % 128) = ∑ r : Fin 8192, A.g (l / 64) r (l % 64) * y A (l / 64) r s := by
  rw [dv_sum A (l / 128) (by omega) s (l % 128) (by omega) 32 le_rfl,
    Fin.sum_univ_eq_sum_range (fun r => A.g (l / 64) r (l % 64) * y A (l / 64) r s) 8192]
  refine sum_congr rfl fun r _ => ?_
  unfold Args.g
  rw [show l / 128 * 2 + l % 128 / 64 = l / 64 by omega, show l / 128 * 128 + l % 128 = l / 64 * 64 + l % 64 by omega]; ring

theorem df_all (a s : ℕ) (ha : a < 8) : A.glob.df (a / 2) 32 (a % 2) s = ∑ r : Fin 8192, -dr A a r s + ∑ s' : Fin 8192, dr A a s s' := by
  rw [df_sum A (a / 2) (by omega) s (a % 2) (by omega) 32 le_rfl, dr_sum, add_zero, Finset.sum_neg_distrib,
    Fin.sum_univ_eq_sum_range (fun r => dr A a r s) 8192, show a / 2 * 2 + a % 2 = a by omega]

end Cert.Proof.Algebra

end
-- ==== Proof.Products.lean ====
/-
  A product computed block by block over its inner dimension: the sum of the blocks' sums is the whole sum.
-/
module

public import Idealize.ShloMosaic.Lib.Pointwise

@[expose] public section

noncomputable section

namespace Cert.Proof.Products

open Idealize.ShloMosaic

/-- A function of a bounded index read at any natural number: zero outside the bound. -/
def ext {K : ℕ} (g : Fin K → EReal) (n : ℕ) : EReal := if h : n < K then g ⟨n, h⟩ else 0

theorem ext_of_lt {K : ℕ} (g : Fin K → EReal) {n : ℕ} (h : n < K) : ext g n = g ⟨n, h⟩ := dif_pos h

/-- The sum of `n` blocks of `b` terms each is the sum of all the terms. -/
theorem sum_blocks_range (b : ℕ) (f : ℕ → EReal) : ∀ n : ℕ,
    ∑ s ∈ Finset.range n, ∑ k : Fin b, f (b * s + k.val) = ∑ k ∈ Finset.range (b * n), f k
  | 0 => by simp
  | n + 1 => by
    rw [Finset.sum_range_succ, sum_blocks_range b f n, Nat.mul_succ, Finset.sum_range_add, ← Fin.sum_univ_eq_sum_range (fun k => f (b * n + k)) b]

/-- The sum over `K` indices, `n` blocks of `b` at a time. -/
theorem sum_blocks {K : ℕ} (b n : ℕ) (hK : b * n = K) (g : Fin K → EReal) :
    ∑ s ∈ Finset.range n, ∑ k : Fin b, ext g (b * s + k.val) = ∑ k : Fin K, g k := by
  rw [sum_blocks_range b (ext g) n, hK, Finset.sum_range]
  exact Finset.sum_congr rfl fun k _ => ext_of_lt g k.isLt

end Cert.Proof.Products

end
-- ==== Proof.DownGrad.lean ====
/-
  The gradient of the ConvFFN's down projection: the kernel's blocked product is the transposed product of the whole
  activations with the whole incoming gradient.
-/
module

public import proofs.«01_k».proof.Defs
public import proofs.«01_k».proof.Proof.Products
public import proofs.«01_k».proof.Proof.Gen.DownGradIdeal.Value
public import proofs.«01_k».proof.Proof.Gen.DownGradRefIdeal.Run

@[expose] public section

set_option maxRecDepth 16384
set_option pp.maxSteps 800

noncomputable section

namespace Cert.Proof.DownGrad

open Cert.DownGradIdeal Cert.DownGradIdeal.Gen Cert.DownGradIdeal.Value
open Idealize.ShloMosaic Idealize.ShloMosaic.TcCoe Idealize.ShloMosaic.Tactic Idealize.SL.Sem
open Cert.Proof.Products

theorem hz : (![0, 0] : Fin 2 → Nat) = fun _ => 0 := funext fun a => by fin_cases a <;> rfl

section
variable {F : FTy → Type} [FloatOps F]
variable (c : Dev nD) (i : grid0.Coords) (a3 : Memref sig .tc .vmem S1024x1408 .bf16) (h3 : a3.IsWhole)
  (a4 : Memref sig .tc .vmem S1024x1024 .bf16) (h4 : a4.IsWhole) (a5 : Memref sig .tc .vmem S1408x1024 .f32) (h5 : a5.IsWhole)
  (a6 : Memref sig .tc .vmem S1408x1024 .f32) (h6 : a6.IsWhole)
  (x : Vec F S1024x1408 .bf16) (y : Vec F S1024x1024 .bf16) (acc : Vec F S1408x1024 .f32)

/-- The first block of a run leaves its product in the accumulator. -/
theorem acc_A (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz]
  simp only [View.readAt_eq_ld, h3.read_unread, h4.read_unread, View.ld_unit_zero (S := S1024x1408) hz, View.ld_unit_zero (S := S1024x1024) hz]

/-- A middle block adds its product to the accumulator. -/
theorem acc_B (hc0 : ¬cond0_0 i) (hc1 : cond0_1 i) (hc2 : ¬cond0_2 i) :
    sout0_B_0 c i a3 h3 a4 h4 a5 h5 a6 h6 hc0 hc1 hc2 x y acc = k0_pay3 x y acc := by
  unfold sout0_B_0
  rw [View.read_writes_eq_canon _ _ _ (scover0_B_0 c i a3 h3 a4 h4 a5 h5 a6 h6 hc0 hc1 hc2 x y acc)]
  unfold kernelRun0_B
  dsimp only
  rw [View.canon_unit_zero hz]
  simp only [View.readAt_eq_ld, h3.read_unread, h4.read_unread, h6.read_unread, View.ld_unit_zero (S := S1024x1408) hz, View.ld_unit_zero (S := S1024x1024) hz, View.ld_unit_zero (S := S1408x1024) hz]

/-- The last block of a run leaves the accumulator with its product added in the output. -/
theorem out_C (hc0 : ¬cond0_0 i) (hc1 : cond0_1 i) (hc2 : cond0_2 i) :
    out0_C_2 c i a3 h3 a4 h4 a5 h5 a6 h6 hc0 hc1 hc2 x y acc = k0_pay3 x y acc := by
  unfold out0_C_2
  rw [View.read_writes_eq_canon _ _ _ (cover0_C_2 c i a3 h3 a4 h4 a5 h5 a6 h6 hc0 hc1 hc2 x y acc)]
  unfold kernelRun0_C
  dsimp only
  sl_unfold_words
  rw [View.canon_unit_zero hz, View.readCov_unit_zero (S := S1408x1024) _ hz]
  simp only [View.readAt_eq_ld, h3.read_unread, h4.read_unread, h6.read_unread, View.ld_unit_zero (S := S1024x1408) hz, View.ld_unit_zero (S := S1024x1024) hz, View.ld_unit_zero (S := S1408x1024) hz]

end

/-! ## At the extended reals -/

/-- A block's product. -/
theorem pay1 (x : Vec Ideal S1024x1408 .bf16) (y : Vec Ideal S1024x1024 .bf16) (p : Fin 1408) (q : Fin 1024) :
    k0_pay1 x y (ix2 p q) = ∑ k : Fin 1024, x (ix2 k p) * y (ix2 k q) := by
  pointwise [k0_pay1]

theorem pay2 (x : Vec Ideal S1024x1408 .bf16) (y : Vec Ideal S1024x1024 .bf16) : k0_pay2 x y = k0_pay1 x y := by
  unfold k0_pay2; simp only [shapeCast_self]

theorem pay3 (x : Vec Ideal S1024x1408 .bf16) (y : Vec Ideal S1024x1024 .bf16) (acc : Vec Ideal S1408x1024 .f32) (j : S1408x1024.Idx) :
    k0_pay3 x y acc j = acc j + k0_pay1 x y j := by
  unfold k0_pay3; simp only [shapeCast_self]; rfl

variable (m : (ℓ : Loc nD τ sig) → Buf (Elt Ideal) ℓ) (c : Dev nD)

/-- The two arguments. -/
abbrev S : S8192x2816.Idx → EReal := m ((c : Thread nD τ).loc main_arg0)
abbrev G : S8192x1024.Idx → EReal := m ((c : Thread nD τ).loc main_arg1)

/-- The terms of the product's entry `p`, `q`. -/
def term (p : Fin 2816) (q : Fin 1024) (k : Fin 8192) : EReal := S m c (ix2 k p) * G m c (ix2 k q)

theorem index0 : ∀ t : Fin cfg0.N, win0_0.index t 0 = t.val % 8 ∧ win0_0.index t 1 = t.val / 8 :=
  (by decide +kernel : ∀ t : Fin grid0.N, _)
theorem index1 : ∀ t : Fin cfg0.N, win0_1.index t 0 = t.val % 8 ∧ win0_1.index t 1 = 0 :=
  (by decide +kernel : ∀ t : Fin grid0.N, _)

theorem block0 (t : Fin cfg0.N) (k : Fin 1024) (p : Fin 1408) (K : Fin 8192) (P : Fin 2816)
    (hK : K.val = 1024 * (t.val % 8) + k.val) (hP : P.val = 1408 * (t.val / 8) + p.val) :
    (iblk m c 0 t : Vec Ideal S1024x1408 .bf16) (ix2 k p) = S m c (ix2 K P) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * k.val = K.val; rw [(index0 t).1]; omega
  | ⟨1, _⟩ => show win0_0.index t 1 * 1408 + 1 * p.val = P.val; rw [(index0 t).2]; omega

theorem block1 (t : Fin cfg0.N) (k : Fin 1024) (q : Fin 1024) (K : Fin 8192) (hK : K.val = 1024 * (t.val % 8) + k.val) :
    (iblk m c 1 t : Vec Ideal S1024x1024 .bf16) (ix2 k q) = G m c (ix2 K q) := by
  unfold iblk
  rw [View.read_apply]
  show V m c main_arg1 _ = m (c.tc.loc main_arg1) _
  rw [V_main_arg1]
  congr 1
  funext a
  apply Fin.ext
  match a with
  | ⟨0, _⟩ => show win0_1.index t 0 * 1024 + 1 * k.val = K.val; rw [(index1 t).1]; omega
  | ⟨1, _⟩ => show win0_1.index t 1 * 1024 + 1 * q.val = q.val; rw [(index1 t).2]; omega

/-- A grid point's product is its block of the terms. -/
theorem point (t : Fin cfg0.N) (p : Fin 1408) (q : Fin 1024) (P : Fin 2816) (hP : P.val = 1408 * (t.val / 8) + p.val) :
    k0_pay1 (iblk m c 0 t : Vec Ideal S1024x1408 .bf16) (iblk m c 1 t) (ix2 p q)
      = ∑ k : Fin 1024, ext (term m c P q) (1024 * (t.val % 8) + k.val) := by
  rw [pay1]
  refine Finset.sum_congr rfl fun k _ => ?_
  have hk : 1024 * (t.val % 8) + k.val < 8192 := by omega
  rw [ext_of_lt _ hk, term, block0 m c t k p ⟨_, hk⟩ P rfl hP, block1 m c t k q ⟨_, hk⟩ rfl]

/-- What the accumulator holds after a point before the last of its run: the blocks so far. -/
theorem acc_eq (r : ℕ) (p : Fin 1408) (q : Fin 1024) (P : Fin 2816) (hP : P.val = 1408 * r + p.val) :
    ∀ (j : ℕ) (hj : j < 7) (h : 8 * r + j < cfg0.N), (outsAt0 m c (8 * r + j) h).2 (ix2 p q)
      = ∑ s ∈ Finset.range (j + 1), ∑ k : Fin 1024, ext (term m c P q) (1024 * s + k.val)
  | 0, hj, h => by
    rw [outsAt0_A m c ⟨8 * r + 0, h⟩ (by dsimp only; omega) (by dsimp only; omega) (by dsimp only; omega)]
    dsimp only
    rw [acc_A, pay2, point m c ⟨8 * r + 0, h⟩ p q P (by dsimp only; omega), Finset.sum_range_one]
    rw [show (8 * r + 0) % 8 = 0 from by omega]
  | j + 1, hj, h => by
    rw [outsAt0_B m c ⟨8 * r + (j + 1), h⟩ (by dsimp only; omega) (by dsimp only; omega) (by dsimp only; omega)]
    dsimp only
    rw [acc_B, pay3, point m c ⟨8 * r + (j + 1), h⟩ p q P (by dsimp only; omega), Finset.sum_range_succ _ (j + 1)]
    rw [show (8 * r + (j + 1)) % 8 = j + 1 from by omega]
    exact congrArg (· + _) (acc_eq r p q P hP j (by omega) (by omega))

/-- What the output holds after the last point of a run: the whole sum. -/
theorem out_eq (r : ℕ) (p : Fin 1408) (q : Fin 1024) (P : Fin 2816) (hP : P.val = 1408 * r + p.val) (h : 8 * r + 7 < cfg0.N) :
    (outsAt0 m c (8 * r + 7) h).1 (ix2 p q) = ∑ k : Fin 8192, term m c P q k := by
  rw [outsAt0_C m c ⟨8 * r + 7, h⟩ (by dsimp only; omega) (by dsimp only; omega) (by dsimp only; omega)]
  dsimp only
  rw [out_C, pay3, point m c ⟨8 * r + 7, h⟩ p q P (by dsimp only; omega), ← sum_blocks 1024 8 rfl (term m c P q), Finset.sum_range_succ _ 7]
  rw [show (8 * r + 7) % 8 = 7 from by omega]
  exact congrArg (· + _) (acc_eq m c r p q P hP 6 (by omega) (by omega))

/-- The array after the run. -/
theorem array_eq (P : Fin 2816) (q : Fin 1024) : G2 m c (ix2 P q) = ∑ k : Fin 8192, term m c P q k := by
  have hN : cfg0.N = 16 := N_0
  have hr : run2Of (ix2 P q) = P.val / 1408 := by
    show 1 * (P.val / 1408 - 0) + 1 * (q.val / 1024 - 0) = _; omega
  have hl : loc2Of (ix2 P q) = ix2 (⟨P.val % 1408, Nat.mod_lt _ (by decide)⟩ : Fin 1408) q := by
    funext a; apply Fin.ext
    match a with
    | ⟨0, _⟩ => rfl
    | ⟨1, _⟩ => show q.val % 1024 = q.val; omega
  have hp : pt2Of (ix2 P q) < cfg0.N := by show 8 * run2Of (ix2 P q) + 7 < _; rw [hr, hN]; omega
  unfold G2
  rw [dif_pos hp, ← outsAt0_sweep m c _ hp, hl]
  exact out_eq m c (run2Of (ix2 P q)) _ q P (by rw [hr]; dsimp only; omega) hp

/-! ## The reference -/

/-- The reference's product, entry by entry. -/
theorem ref_eq (s : FVec Ideal Cert.DownGradRefIdeal.S8192x2816 .bf16) (g : FVec Ideal Cert.DownGradRefIdeal.S8192x1024 .bf16) (P : Fin 2816) (q : Fin 1024) :
    transpose Cert.DownGradRefIdeal.S2816x1024 [1, 0] (Host.dotGeneral Cert.DownGradRefIdeal.dot_S8192x1024_S8192x2816_S1024x2816_0_0_1_1_n_n none
        (extf .f32 g Cert.DownGradRefIdeal.Facts₀.bitsLt_bf16_f32) (extf .f32 s Cert.DownGradRefIdeal.Facts₀.bitsLt_bf16_f32)) Cert.DownGradRefIdeal.Facts₀.transposes_S1024x2816_S2816x1024_1_0 (ix2 P q)
      = ∑ k : Fin 8192, s (ix2 k P) * g (ix2 k q) := by
  pointwise
  exact Finset.sum_congr rfl fun k _ => mul_comm _ _

theorem reference_frame : Cert.quiescent_DownGradRefIdeal := by
  intro m ρ _
  exact (θ_run Cert.DownGradRefIdeal.defs _ _).mono
    (fun r h => ⟨fun c => (h c).2, sem_eq_zero_of_no_sems (by decide) r.2⟩) (Cert.DownGradRefIdeal.Value.run (F := Ideal) m ρ)

/-- The kernel and the reference end with the same gradient. -/
theorem value : Cert.algebraic_DownGradIdeal_DownGradRefIdeal := by
  intro m g m' g' _ ha
  refine ⟨G2 m, run m g, ?_⟩
  refine (θ_run Cert.DownGradRefIdeal.defs _ _).mono (fun r H c => ⟨(H c).1.trans ?_, (H c).2⟩) (Cert.DownGradRefIdeal.Value.run (F := Ideal) m' g')
  rw [(ha c).1, (ha c).2]
  funext j
  idx_vars j
  rw [ref_eq, array_eq]
  rfl

end Cert.Proof.DownGrad

end
-- ==== Proof.DownBack.lean ====
/-
  The gradient of the down projection's operand: the kernel's product, tile by tile, is the product of the whole incoming
  gradient with the transposed weights.
-/
module

public import proofs.«01_k».proof.Defs
public import proofs.«01_k».proof.Proof.Products
public import proofs.«01_k».proof.Proof.Gen.DownBackIdeal.Value
public import proofs.«01_k».proof.Proof.Gen.DownBackRefIdeal.Run

@[expose] public section

set_option maxRecDepth 16384
set_option pp.maxSteps 800

noncomputable section

namespace Cert.Proof.DownBack

open Cert.DownBackIdeal Cert.DownBackIdeal.Gen Cert.DownBackIdeal.Value
open Idealize.ShloMosaic Idealize.ShloMosaic.TcCoe Idealize.ShloMosaic.Tactic Idealize.SL.Sem

theorem hz : (![0, 0] : Fin 2 → Nat) = fun _ => 0 := funext fun a => by fin_cases a <;> rfl

/-- A point leaves its tile's product in the output. -/
theorem out_eq {F : FTy → Type} [FloatOps F] (x : Vec F S1024x1024 .bf16) (y : Vec F S1408x1024 .bf16) : out0_2 x y = k0_pay1 x y := by
  unfold out0_2
  rw [View.canon_unit_zero hz, View.ld_unit_zero (S := S1024x1024) hz, View.ld_unit_zero (S := S1408x1024) hz]

/-- A tile's product. -/
theorem pay1 (x : Vec Ideal S1024x1024 .bf16) (y : Vec Ideal S1408x1024 .bf16) (p : Fin 1024) (q : Fin 1408) :
    k0_pay1 x y (ix2 p q) = ∑ k : Fin 1024, x (ix2 p k) * y (ix2 q k) := by
  pointwise [k0_pay1]

variable (m : (ℓ : Loc nD τ sig) → Buf (Elt Ideal) ℓ) (c : Dev nD)

/-- The two arguments. -/
abbrev G : S8192x1024.Idx → EReal := m ((c : Thread nD τ).loc main_arg0)
abbrev W : S2816x1024.Idx → EReal := m ((c : Thread nD τ).loc main_arg1)

/-- The product of the whole arguments. -/
def prod : S8192x2816.Idx → EReal := fun j => ∑ k : Fin 1024, G m c (ix2 (j 0) k) * W m c (ix2 (j 1) k)

theorem index0 : ∀ t : Fin cfg0.N, win0_0.index t 0 = t.val / 2 ∧ win0_0.index t 1 = 0 :=
  (by decide +kernel : ∀ t : Fin grid0.N, _)
theorem index1 : ∀ t : Fin cfg0.N, win0_1.index t 0 = t.val % 2 ∧ win0_1.index t 1 = 0 :=
  (by decide +kernel : ∀ t : Fin grid0.N, _)
theorem index2 : ∀ t : Fin cfg0.N, win0_2.index t 0 = t.val / 2 ∧ win0_2.index t 1 = t.val % 2 :=
  (by decide +kernel : ∀ t : Fin grid0.N, _)
theorem flush2 : ∀ t : Fin cfg0.N, (cfg0.win 2).flush t = true :=
  (by decide +kernel : ∀ t : Fin grid0.N, win0_2.flush t = true)

theorem block0 (t : Fin cfg0.N) (p : Fin 1024) (k : Fin 1024) (P : Fin 8192) (hP : P.val = 1024 * (t.val / 2) + p.val) :
    (iblk m c 0 t : Vec Ideal S1024x1024 .bf16) (ix2 p k) = G m c (ix2 P k) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * p.val = P.val; rw [(index0 t).1]; omega
  | ⟨1, _⟩ => show win0_0.index t 1 * 1024 + 1 * k.val = k.val; rw [(index0 t).2]; omega

theorem block1 (t : Fin cfg0.N) (q : Fin 1408) (k : Fin 1024) (Q : Fin 2816) (hQ : Q.val = 1408 * (t.val % 2) + q.val) :
    (iblk m c 1 t : Vec Ideal S1408x1024 .bf16) (ix2 q k) = W m c (ix2 Q k) := by
  unfold iblk
  rw [View.read_apply]
  show V m c main_arg1 _ = m (c.tc.loc main_arg1) _
  rw [V_main_arg1]
  congr 1
  funext a
  apply Fin.ext
  match a with
  | ⟨0, _⟩ => show win0_1.index t 0 * 1408 + 1 * q.val = Q.val; rw [(index1 t).1]; omega
  | ⟨1, _⟩ => show win0_1.index t 1 * 1024 + 1 * k.val = k.val; rw [(index1 t).2]; omega

/-- A grid point writes back its tile of the whole product. -/
theorem flushed_eq (t : Fin cfg0.N) : (dats m 0 c).flushed 2 t = ((cfg0.win 2).blk t).view.read (Elt Ideal) (prod m c) := by
  rw [flushed2, out_eq]
  have ht : t.val < 16 := lt_of_lt_of_eq t.isLt N_0
  funext y
  rw [View.read_apply]
  have h0 : (y 0).val < 1024 := (y 0).isLt
  have h1 : (y 1).val < 1408 := (y 1).isLt
  have e0 : (((cfg0.win 2).blk t).view.emb y 0).val = 1024 * (t.val / 2) + (y 0).val := by
    show win0_2.index t 0 * 1024 + 1 * (y 0).val = _; rw [(index2 t).1]; omega
  have e1 : (((cfg0.win 2).blk t).view.emb y 1).val = 1408 * (t.val % 2) + (y 1).val := by
    show win0_2.index t 1 * 1408 + 1 * (y 1).val = _; rw [(index2 t).2]; omega
  show k0_pay1 (iblk m c 0 t) (iblk m c 1 t) ((cfg0.win 2).xinj (grid0.coords t) y) = prod m c (((cfg0.win 2).blk t).view.emb y)
  rw [show (cfg0.win 2).xinj (grid0.coords t) y = ix2 (⟨(y 0).val, h0⟩ : Fin 1024) (⟨(y 1).val, h1⟩ : Fin 1408) from by
    funext a; apply Fin.ext
    match a with
    | ⟨0, _⟩ => rfl
    | ⟨1, _⟩ => rfl]
  rw [pay1]
  refine Finset.sum_congr rfl fun k _ => ?_
  exact congrArg₂ (· * ·) (block0 m c t _ k _ e0) (block1 m c t _ k _ e1)

/-- The tiles fill the array. -/
theorem final_eq : (dats m 0 c).arrAt 2 cfg0.N = prod m c :=
  (dats m 0 c).arrAt_eq_of_cover 2 _ (fun t _ => flushed_eq m c t) fun i => by
    have hN : cfg0.N = 16 := N_0
    have h0 : (i 0).val < 8192 := (i 0).isLt
    have h1 : (i 1).val < 2816 := (i 1).isLt
    have ht : 2 * ((i 0).val / 1024) + (i 1).val / 1408 < cfg0.N := by omega
    refine ⟨⟨_, ht⟩, flush2 _, ?_⟩
    show i ∈ ((View.whole main_v0).slice (win0_2.rect ⟨_, ht⟩)).set
    rw [View.set_slice_whole, Rect.mem_set_unit]
    intro a
    match a with
    | ⟨0, _⟩ =>
      show win0_2.index ⟨_, ht⟩ 0 * 1024 ≤ (i 0).val ∧ (i 0).val < win0_2.index ⟨_, ht⟩ 0 * 1024 + 1024
      rw [(index2 _).1]; dsimp only; omega
    | ⟨1, _⟩ =>
      show win0_2.index ⟨_, ht⟩ 1 * 1408 ≤ (i 1).val ∧ (i 1).val < win0_2.index ⟨_, ht⟩ 1 * 1408 + 1408
      rw [(index2 _).2]; dsimp only; omega

/-! ## The reference -/

/-- The reference's product, entry by entry. -/
theorem ref_eq (g : FVec Ideal Cert.DownBackRefIdeal.S8192x1024 .bf16) (w : FVec Ideal Cert.DownBackRefIdeal.S2816x1024 .bf16) (P : Fin 8192) (Q : Fin 2816) :
    truncf .bf16 (Host.dotGeneral Cert.DownBackRefIdeal.dot_S8192x1024_S2816x1024_S8192x2816_1_1_0_0_n_n none
        (extf .f32 g Cert.DownBackRefIdeal.Facts₀.bitsLt_bf16_f32) (extf .f32 w Cert.DownBackRefIdeal.Facts₀.bitsLt_bf16_f32)) Cert.DownBackRefIdeal.Facts₀.bitsLt_bf16_f32 (ix2 P Q)
      = ∑ k : Fin 1024, g (ix2 P k) * w (ix2 Q k) := by
  pointwise

theorem reference_frame : Cert.quiescent_DownBackRefIdeal := by
  intro m ρ _
  exact (θ_run Cert.DownBackRefIdeal.defs _ _).mono
    (fun r h => ⟨fun c => (h c).2, sem_eq_zero_of_no_sems (by decide) r.2⟩) (Cert.DownBackRefIdeal.Value.run (F := Ideal) m ρ)

/-- The kernel and the reference end with the same gradient. -/
theorem value : Cert.algebraic_DownBackIdeal_DownBackRefIdeal := by
  intro m g m' g' _ ha
  refine ⟨prod m, (θ_run Cert.DownBackIdeal.defs _ _).mono (fun r H c => ⟨(H c).1.trans (final_eq m c), (H c).2⟩) (run_blocks m g), ?_⟩
  refine (θ_run Cert.DownBackRefIdeal.defs _ _).mono (fun r H c => ⟨(H c).1.trans ?_, (H c).2⟩) (Cert.DownBackRefIdeal.Value.run (F := Ideal) m' g')
  rw [(ha c).1, (ha c).2]
  funext j
  idx_vars j
  rw [ref_eq]
  rfl

end Cert.Proof.DownBack

end
-- ==== Proof.UpGrad.lean ====
/-
  The gradient of the ConvFFN's up projection (one half of its columns): the kernel's blocked product is the transposed
  product of the whole activations with the whole incoming gradient.
-/
module

public import proofs.«01_k».proof.Defs
public import proofs.«01_k».proof.Proof.Products
public import proofs.«01_k».proof.Proof.Gen.UpGradIdeal.Value
public import proofs.«01_k».proof.Proof.Gen.UpGradRefIdeal.Run

@[expose] public section

set_option maxRecDepth 16384
set_option pp.maxSteps 800

noncomputable section

namespace Cert.Proof.UpGrad

open Cert.UpGradIdeal Cert.UpGradIdeal.Gen Cert.UpGradIdeal.Value
open Idealize.ShloMosaic Idealize.ShloMosaic.TcCoe Idealize.ShloMosaic.Tactic Idealize.SL.Sem
open Cert.Proof.Products

theorem hz : (![0, 0] : Fin 2 → Nat) = fun _ => 0 := funext fun a => by fin_cases a <;> rfl

section
variable {F : FTy → Type} [FloatOps F]
variable (c : Dev nD) (i : grid0.Coords) (a3 : Memref sig .tc .vmem S1024x1024 .bf16) (h3 : a3.IsWhole)
  (a4 : Memref sig .tc .vmem S1024x1408 .bf16) (h4 : a4.IsWhole) (a5 : Memref sig .tc .vmem S1024x1408 .f32) (h5 : a5.IsWhole)
  (a6 : Memref sig .tc .vmem S1024x1408 .f32) (h6 : a6.IsWhole)
  (x : Vec F S1024x1024 .bf16) (y : Vec F S1024x1408 .bf16) (acc : Vec F S1024x1408 .f32)

/-- The first block of a run leaves its product in the accumulator. -/
theorem acc_A (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz]
  simp only [View.readAt_eq_ld, h3.read_unread, h4.read_unread, View.ld_unit_zero (S := S1024x1024) hz, View.ld_unit_zero (S := S1024x1408) hz]

/-- A middle block adds its product to the accumulator. -/
theorem acc_B (hc0 : ¬cond0_0 i) (hc1 : cond0_1 i) (hc2 : ¬cond0_2 i) :
    sout0_B_0 c i a3 h3 a4 h4 a5 h5 a6 h6 hc0 hc1 hc2 x y acc = k0_pay3 x y acc := by
  unfold sout0_B_0
  rw [View.read_writes_eq_canon _ _ _ (scover0_B_0 c i a3 h3 a4 h4 a5 h5 a6 h6 hc0 hc1 hc2 x y acc)]
  unfold kernelRun0_B
  dsimp only
  rw [View.canon_unit_zero hz]
  simp only [View.readAt_eq_ld, h3.read_unread, h4.read_unread, h6.read_unread, View.ld_unit_zero (S := S1024x1024) hz, View.ld_unit_zero (S := S1024x1408) hz, View.ld_unit_zero (S := S1024x1408) hz]

/-- The last block of a run leaves the accumulator with its product added in the output. -/
theorem out_C (hc0 : ¬cond0_0 i) (hc1 : cond0_1 i) (hc2 : cond0_2 i) :
    out0_C_2 c i a3 h3 a4 h4 a5 h5 a6 h6 hc0 hc1 hc2 x y acc = k0_pay3 x y acc := by
  unfold out0_C_2
  rw [View.read_writes_eq_canon _ _ _ (cover0_C_2 c i a3 h3 a4 h4 a5 h5 a6 h6 hc0 hc1 hc2 x y acc)]
  unfold kernelRun0_C
  dsimp only
  sl_unfold_words
  rw [View.canon_unit_zero hz, View.readCov_unit_zero (S := S1024x1408) _ hz]
  simp only [View.readAt_eq_ld, h3.read_unread, h4.read_unread, h6.read_unread, View.ld_unit_zero (S := S1024x1024) hz, View.ld_unit_zero (S := S1024x1408) hz, View.ld_unit_zero (S := S1024x1408) hz]

end

/-! ## At the extended reals -/

/-- A block's product. -/
theorem pay1 (x : Vec Ideal S1024x1024 .bf16) (y : Vec Ideal S1024x1408 .bf16) (p : Fin 1024) (q : Fin 1408) :
    k0_pay1 x y (ix2 p q) = ∑ k : Fin 1024, x (ix2 k p) * y (ix2 k q) := by
  pointwise [k0_pay1]

theorem pay2 (x : Vec Ideal S1024x1024 .bf16) (y : Vec Ideal S1024x1408 .bf16) : k0_pay2 x y = k0_pay1 x y := by
  unfold k0_pay2; simp only [shapeCast_self]

theorem pay3 (x : Vec Ideal S1024x1024 .bf16) (y : Vec Ideal S1024x1408 .bf16) (acc : Vec Ideal S1024x1408 .f32) (j : S1024x1408.Idx) :
    k0_pay3 x y acc j = acc j + k0_pay1 x y j := by
  unfold k0_pay3; simp only [shapeCast_self]; rfl

variable (m : (ℓ : Loc nD τ sig) → Buf (Elt Ideal) ℓ) (c : Dev nD)

/-- The two arguments. -/
abbrev S : S8192x1024.Idx → EReal := m ((c : Thread nD τ).loc main_arg0)
abbrev G : S8192x2816.Idx → EReal := m ((c : Thread nD τ).loc main_arg1)

/-- The terms of the product's entry `p`, `q`. -/
def term (p : Fin 1024) (q : Fin 2816) (k : Fin 8192) : EReal := S m c (ix2 k p) * G m c (ix2 k q)

theorem index0 : ∀ t : Fin cfg0.N, win0_0.index t 0 = t.val % 8 ∧ win0_0.index t 1 = 0 :=
  (by decide +kernel : ∀ t : Fin grid0.N, _)
theorem index1 : ∀ t : Fin cfg0.N, win0_1.index t 0 = t.val % 8 ∧ win0_1.index t 1 = t.val / 8 :=
  (by decide +kernel : ∀ t : Fin grid0.N, _)

theorem block0 (t : Fin cfg0.N) (k : Fin 1024) (p : Fin 1024) (K : Fin 8192) (hK : K.val = 1024 * (t.val % 8) + k.val) :
    (iblk m c 0 t : Vec Ideal S1024x1024 .bf16) (ix2 k p) = S m c (ix2 K p) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * k.val = K.val; rw [(index0 t).1]; omega
  | ⟨1, _⟩ => show win0_0.index t 1 * 1024 + 1 * p.val = p.val; rw [(index0 t).2]; omega

theorem block1 (t : Fin cfg0.N) (k : Fin 1024) (q : Fin 1408) (K : Fin 8192) (Q : Fin 2816)
    (hK : K.val = 1024 * (t.val % 8) + k.val) (hQ : Q.val = 1408 * (t.val / 8) + q.val) :
    (iblk m c 1 t : Vec Ideal S1024x1408 .bf16) (ix2 k q) = G m c (ix2 K Q) := by
  unfold iblk
  rw [View.read_apply]
  show V m c main_arg1 _ = m (c.tc.loc main_arg1) _
  rw [V_main_arg1]
  congr 1
  funext a
  apply Fin.ext
  match a with
  | ⟨0, _⟩ => show win0_1.index t 0 * 1024 + 1 * k.val = K.val; rw [(index1 t).1]; omega
  | ⟨1, _⟩ => show win0_1.index t 1 * 1408 + 1 * q.val = Q.val; rw [(index1 t).2]; omega

/-- A grid point's product is its block of the terms. -/
theorem point (t : Fin cfg0.N) (p : Fin 1024) (q : Fin 1408) (Q : Fin 2816) (hQ : Q.val = 1408 * (t.val / 8) + q.val) :
    k0_pay1 (iblk m c 0 t : Vec Ideal S1024x1024 .bf16) (iblk m c 1 t) (ix2 p q)
      = ∑ k : Fin 1024, ext (term m c p Q) (1024 * (t.val % 8) + k.val) := by
  rw [pay1]
  refine Finset.sum_congr rfl fun k _ => ?_
  have hk : 1024 * (t.val % 8) + k.val < 8192 := by omega
  rw [ext_of_lt _ hk, term, block0 m c t k p ⟨_, hk⟩ rfl, block1 m c t k q ⟨_, hk⟩ Q rfl hQ]

/-- What the accumulator holds after a point before the last of its run: the blocks so far. -/
theorem acc_eq (r : ℕ) (p : Fin 1024) (q : Fin 1408) (Q : Fin 2816) (hQ : Q.val = 1408 * r + q.val) :
    ∀ (j : ℕ) (hj : j < 7) (h : 8 * r + j < cfg0.N), (outsAt0 m c (8 * r + j) h).2 (ix2 p q)
      = ∑ s ∈ Finset.range (j + 1), ∑ k : Fin 1024, ext (term m c p Q) (1024 * s + k.val)
  | 0, hj, h => by
    rw [outsAt0_A m c ⟨8 * r + 0, h⟩ (by dsimp only; omega) (by dsimp only; omega) (by dsimp only; omega)]
    dsimp only
    rw [acc_A, pay2, point m c ⟨8 * r + 0, h⟩ p q Q (by dsimp only; omega), Finset.sum_range_one]
    rw [show (8 * r + 0) % 8 = 0 from by omega]
  | j + 1, hj, h => by
    rw [outsAt0_B m c ⟨8 * r + (j + 1), h⟩ (by dsimp only; omega) (by dsimp only; omega) (by dsimp only; omega)]
    dsimp only
    rw [acc_B, pay3, point m c ⟨8 * r + (j + 1), h⟩ p q Q (by dsimp only; omega), Finset.sum_range_succ _ (j + 1)]
    rw [show (8 * r + (j + 1)) % 8 = j + 1 from by omega]
    exact congrArg (· + _) (acc_eq r p q Q hQ j (by omega) (by omega))

/-- What the output holds after the last point of a run: the whole sum. -/
theorem out_eq (r : ℕ) (p : Fin 1024) (q : Fin 1408) (Q : Fin 2816) (hQ : Q.val = 1408 * r + q.val) (h : 8 * r + 7 < cfg0.N) :
    (outsAt0 m c (8 * r + 7) h).1 (ix2 p q) = ∑ k : Fin 8192, term m c p Q k := by
  rw [outsAt0_C m c ⟨8 * r + 7, h⟩ (by dsimp only; omega) (by dsimp only; omega) (by dsimp only; omega)]
  dsimp only
  rw [out_C, pay3, point m c ⟨8 * r + 7, h⟩ p q Q (by dsimp only; omega), ← sum_blocks 1024 8 rfl (term m c p Q), Finset.sum_range_succ _ 7]
  rw [show (8 * r + 7) % 8 = 7 from by omega]
  exact congrArg (· + _) (acc_eq m c r p q Q hQ 6 (by omega) (by omega))

/-- The array after the run. -/
theorem array_eq (p : Fin 1024) (Q : Fin 2816) : G2 m c (ix2 p Q) = ∑ k : Fin 8192, term m c p Q k := by
  have hN : cfg0.N = 16 := N_0
  have hr : run2Of (ix2 p Q) = Q.val / 1408 := by
    show 2 * (p.val / 1024 - 0) + 1 * (Q.val / 1408 - 0) = _; omega
  have hl : loc2Of (ix2 p Q) = ix2 p (⟨Q.val % 1408, Nat.mod_lt _ (by decide)⟩ : Fin 1408) := by
    funext a; apply Fin.ext
    match a with
    | ⟨0, _⟩ => show p.val % 1024 = p.val; omega
    | ⟨1, _⟩ => rfl
  have hp : pt2Of (ix2 p Q) < cfg0.N := by show 8 * run2Of (ix2 p Q) + 7 < _; rw [hr, hN]; omega
  unfold G2
  rw [dif_pos hp, ← outsAt0_sweep m c _ hp, hl]
  exact out_eq m c (run2Of (ix2 p Q)) p _ Q (by rw [hr]; dsimp only; omega) hp

/-! ## The reference -/

/-- The reference's product, entry by entry. -/
theorem ref_eq (s : FVec Ideal Cert.UpGradRefIdeal.S8192x1024 .bf16) (g : FVec Ideal Cert.UpGradRefIdeal.S8192x2816 .bf16) (p : Fin 1024) (Q : Fin 2816) :
    transpose Cert.UpGradRefIdeal.S1024x2816 [1, 0] (Host.dotGeneral Cert.UpGradRefIdeal.dot_S8192x2816_S8192x1024_S2816x1024_0_0_1_1_n_n none
        (extf .f32 g Cert.UpGradRefIdeal.Facts₀.bitsLt_bf16_f32) (extf .f32 s Cert.UpGradRefIdeal.Facts₀.bitsLt_bf16_f32)) Cert.UpGradRefIdeal.Facts₀.transposes_S2816x1024_S1024x2816_1_0 (ix2 p Q)
      = ∑ k : Fin 8192, s (ix2 k p) * g (ix2 k Q) := by
  pointwise
  exact Finset.sum_congr rfl fun k _ => mul_comm _ _

theorem reference_frame : Cert.quiescent_UpGradRefIdeal := by
  intro m ρ _
  exact (θ_run Cert.UpGradRefIdeal.defs _ _).mono
    (fun r h => ⟨fun c => (h c).2, sem_eq_zero_of_no_sems (by decide) r.2⟩) (Cert.UpGradRefIdeal.Value.run (F := Ideal) m ρ)

/-- The kernel and the reference end with the same gradient. -/
theorem value : Cert.algebraic_UpGradIdeal_UpGradRefIdeal := by
  intro m g m' g' _ ha
  refine ⟨G2 m, run m g, ?_⟩
  refine (θ_run Cert.UpGradRefIdeal.defs _ _).mono (fun r H c => ⟨(H c).1.trans ?_, (H c).2⟩) (Cert.UpGradRefIdeal.Value.run (F := Ideal) m' g')
  rw [(ha c).1, (ha c).2]
  funext j
  idx_vars j
  rw [ref_eq, array_eq]
  rfl

end Cert.Proof.UpGrad

end
-- ==== Proof.UpBackG.lean ====
/-
  The gradient of the up projection's operand, from the first half of its columns: the kernel's blocked product, added to
  the scaled gradient it takes, is the product of the whole incoming gradient with the transposed weights so added.
-/
module

public import proofs.«01_k».proof.Defs
public import proofs.«01_k».proof.Proof.Products
public import proofs.«01_k».proof.Proof.Gen.UpBackGIdeal.Value
public import proofs.«01_k».proof.Proof.Gen.UpBackGRefIdeal.Run

@[expose] public section

set_option maxRecDepth 16384
set_option pp.maxSteps 800

noncomputable section

namespace Cert.Proof.UpBackG

open Cert.UpBackGIdeal Cert.UpBackGIdeal.Gen Cert.UpBackGIdeal.Value
open Idealize.ShloMosaic Idealize.ShloMosaic.TcCoe Idealize.ShloMosaic.Tactic Idealize.SL.Sem
open Cert.Proof.Products

theorem hz : (![0, 0] : Fin 2 → Nat) = fun _ => 0 := funext fun a => by fin_cases a <;> rfl

section
variable {F : FTy → Type} [FloatOps F]
variable (c : Dev nD) (i : grid0.Coords) (a3 : Memref sig .tc .vmem S1024x1408 .bf16) (h3 : a3.IsWhole)
  (a4 : Memref sig .tc .vmem S1024x1408 .bf16) (h4 : a4.IsWhole) (a5 : Memref sig .tc .vmem S1024x1024 .f32) (h5 : a5.IsWhole)
  (a6 : Memref sig .tc .vmem S1024x1024 .f32) (h6 : a6.IsWhole) (a7 : Memref sig .tc .vmem S1024x1024 .f32) (h7 : a7.IsWhole)
  (x y : Vec F S1024x1408 .bf16) (d acc : Vec F S1024x1024 .f32)

/-- The first block leaves its product and the scaled gradient in the accumulator. -/
theorem acc_A (hc0 : cond0_0 i) (hc1 : ¬cond0_1 i) (hc2 : ¬cond0_2 i) :
    sout0_A_0 c i a3 h3 a4 h4 a5 h5 a6 h6 a7 h7 hc0 hc1 hc2 x y d = k0_pay2 x y d := by
  unfold sout0_A_0
  rw [View.read_writes_eq_canon _ _ _ (scover0_A_0 c i a3 h3 a4 h4 a5 h5 a6 h6 a7 h7 hc0 hc1 hc2 x y d)]
  unfold kernelRun0_A
  dsimp only
  rw [View.canon_unit_zero hz]
  simp only [View.readAt_eq_ld, h3.read_unread, h4.read_unread, h5.read_unread, View.ld_unit_zero (S := S1024x1408) hz, View.ld_unit_zero (S := S1024x1024) hz]

/-- The last block leaves the accumulator with its product added in the output. -/
theorem out_B (hc0 : ¬cond0_0 i) (hc1 : cond0_1 i) (hc2 : cond0_2 i) :
    out0_B_3 c i a3 h3 a4 h4 a5 h5 a6 h6 a7 h7 hc0 hc1 hc2 x y d acc = k0_pay3 x y acc := by
  unfold out0_B_3
  rw [View.read_writes_eq_canon _ _ _ (cover0_B_3 c i a3 h3 a4 h4 a5 h5 a6 h6 a7 h7 hc0 hc1 hc2 x y d acc)]
  unfold kernelRun0_B
  dsimp only
  sl_unfold_words
  rw [View.canon_unit_zero hz, View.readCov_unit_zero (S := S1024x1024) _ hz]
  simp only [View.readAt_eq_ld, h3.read_unread, h4.read_unread, h7.read_unread, View.ld_unit_zero (S := S1024x1408) hz, View.ld_unit_zero (S := S1024x1024) hz]

end

/-! ## At the extended reals -/

/-- The scale of the added gradient. -/
def scale : EReal := Ideal.ofBits .f32 0x3FB504F3#32

/-- A block's product. -/
theorem pay1 (x y : Vec Ideal S1024x1408 .bf16) (p q : Fin 1024) :
    k0_pay1 x y (ix2 p q) = ∑ k : Fin 1408, x (ix2 p k) * y (ix2 q k) := by
  pointwise [k0_pay1]

theorem pay2 (x y : Vec Ideal S1024x1408 .bf16) (d : Vec Ideal S1024x1024 .f32) (j : S1024x1024.Idx) :
    k0_pay2 x y d j = k0_pay1 x y j + scale * d j := by
  unfold k0_pay2; simp only [shapeCast_self]; rfl

theorem pay3 (x y : Vec Ideal S1024x1408 .bf16) (acc : Vec Ideal S1024x1024 .f32) (j : S1024x1024.Idx) :
    k0_pay3 x y acc j = acc j + k0_pay1 x y j := by
  unfold k0_pay3; simp only [shapeCast_self]; rfl

variable (m : (ℓ : Loc nD τ sig) → Buf (Elt Ideal) ℓ) (c : Dev nD)

/-- The three arguments. -/
abbrev G : S8192x2816.Idx → EReal := m ((c : Thread nD τ).loc main_arg0)
abbrev W : S1024x5632.Idx → EReal := m ((c : Thread nD τ).loc main_arg1)
abbrev D : S8192x1024.Idx → EReal := m ((c : Thread nD τ).loc main_arg2)

/-- A column of the weights' half. -/
abbrev col (k : Fin 2816) : Fin 5632 := ⟨0 + k.val, by omega⟩

/-- The terms of the product's entry `p`, `q`. -/
def term (p : Fin 8192) (q : Fin 1024) (k : Fin 2816) : EReal := G m c (ix2 p k) * W m c (ix2 q (col k))

theorem index0 : ∀ t : Fin cfg0.N, win0_0.index t 0 = t.val / 2 ∧ win0_0.index t 1 = t.val % 2 :=
  (by decide +kernel : ∀ t : Fin grid0.N, _)
theorem index1 : ∀ t : Fin cfg0.N, win0_1.index t 0 = 0 ∧ win0_1.index t 1 = t.val % 2 + 0 :=
  (by decide +kernel : ∀ t : Fin grid0.N, _)
theorem index2 : ∀ t : Fin cfg0.N, win0_2.index t 0 = t.val / 2 ∧ win0_2.index t 1 = 0 :=
  (by decide +kernel : ∀ t : Fin grid0.N, _)

theorem block0 (t : Fin cfg0.N) (p : Fin 1024) (k : Fin 1408) (P : Fin 8192) (K : Fin 2816)
    (hP : P.val = 1024 * (t.val / 2) + p.val) (hK : K.val = 1408 * (t.val % 2) + k.val) :
    (iblk m c 0 t : Vec Ideal S1024x1408 .bf16) (ix2 p k) = G m c (ix2 P K) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * p.val = P.val; rw [(index0 t).1]; omega
  | ⟨1, _⟩ => show win0_0.index t 1 * 1408 + 1 * k.val = K.val; rw [(index0 t).2]; omega

theorem block1 (t : Fin cfg0.N) (q : Fin 1024) (k : Fin 1408) (K : Fin 2816) (hK : K.val = 1408 * (t.val % 2) + k.val) :
    (iblk m c 1 t : Vec Ideal S1024x1408 .bf16) (ix2 q k) = W m c (ix2 q (col K)) := by
  unfold iblk
  rw [View.read_apply]
  show V m c main_arg1 _ = m (c.tc.loc main_arg1) _
  rw [V_main_arg1]
  congr 1
  funext a
  apply Fin.ext
  match a with
  | ⟨0, _⟩ => show win0_1.index t 0 * 1024 + 1 * q.val = q.val; rw [(index1 t).1]; omega
  | ⟨1, _⟩ => show win0_1.index t 1 * 1408 + 1 * k.val = 0 + K.val; rw [(index1 t).2]; omega

theorem block2 (t : Fin cfg0.N) (p : Fin 1024) (q : Fin 1024) (P : Fin 8192) (hP : P.val = 1024 * (t.val / 2) + p.val) :
    (iblk m c 2 t : Vec Ideal S1024x1024 .f32) (ix2 p q) = D m c (ix2 P q) := by
  unfold iblk
  rw [View.read_apply]
  show V m c main_arg2 _ = m (c.tc.loc main_arg2) _
  rw [V_main_arg2]
  congr 1
  funext a
  apply Fin.ext
  match a with
  | ⟨0, _⟩ => show win0_2.index t 0 * 1024 + 1 * p.val = P.val; rw [(index2 t).1]; omega
  | ⟨1, _⟩ => show win0_2.index t 1 * 1024 + 1 * q.val = q.val; rw [(index2 t).2]; omega

/-- A grid point's product is its block of the terms. -/
theorem point (t : Fin cfg0.N) (p q : Fin 1024) (P : Fin 8192) (hP : P.val = 1024 * (t.val / 2) + p.val) :
    k0_pay1 (iblk m c 0 t : Vec Ideal S1024x1408 .bf16) (iblk m c 1 t) (ix2 p q)
      = ∑ k : Fin 1408, ext (term m c P q) (1408 * (t.val % 2) + k.val) := by
  rw [pay1]
  refine Finset.sum_congr rfl fun k _ => ?_
  have hk : 1408 * (t.val % 2) + k.val < 2816 := by omega
  rw [ext_of_lt _ hk, term, block0 m c t p k P ⟨_, hk⟩ hP rfl, block1 m c t q k ⟨_, hk⟩ rfl]

/-- What the accumulator holds after the first block of a run. -/
theorem acc_eq (r : ℕ) (p q : Fin 1024) (P : Fin 8192) (hP : P.val = 1024 * r + p.val) (h : 2 * r < cfg0.N) :
    (outsAt0 m c (2 * r) h).2 (ix2 p q) = ∑ k : Fin 1408, ext (term m c P q) (1408 * 0 + k.val) + scale * D m c (ix2 P q) := by
  rw [outsAt0_A m c ⟨2 * r, h⟩ (by dsimp only; omega) (by dsimp only; omega) (by dsimp only; omega)]
  dsimp only
  rw [acc_A, pay2, point m c ⟨2 * r, h⟩ p q P (by dsimp only; omega), block2 m c ⟨2 * r, h⟩ p q P (by dsimp only; omega)]
  rw [show 2 * r % 2 = 0 from by omega]

/-- What the output holds after the last block of a run: the whole sum and the scaled gradient. -/
theorem out_eq (r : ℕ) (p q : Fin 1024) (P : Fin 8192) (hP : P.val = 1024 * r + p.val) (h : 2 * r + 1 < cfg0.N) :
    (outsAt0 m c (2 * r + 1) h).1 (ix2 p q) = scale * D m c (ix2 P q) + ∑ k : Fin 2816, term m c P q k := by
  rw [outsAt0_B m c ⟨2 * r + 1, h⟩ (by dsimp only; omega) (by dsimp only; omega) (by dsimp only; omega)]
  dsimp only
  rw [out_B, pay3, point m c ⟨2 * r + 1, h⟩ p q P (by dsimp only; omega), ← sum_blocks 1408 2 rfl (term m c P q), Finset.sum_range_succ _ 1,
    Finset.sum_range_one]
  rw [show (2 * r + 1) % 2 = 1 from by omega]
  rw [← add_assoc, add_comm (scale * D m c (ix2 P q))]
  exact congrArg (· + _) (acc_eq m c r p q P hP (by omega))

/-- The array after the run. -/
theorem array_eq (P : Fin 8192) (q : Fin 1024) : G3 m c (ix2 P q) = scale * D m c (ix2 P q) + ∑ k : Fin 2816, term m c P q k := by
  have hN : cfg0.N = 16 := N_0
  have hr : run3Of (ix2 P q) = P.val / 1024 := by
    show 1 * (P.val / 1024 - 0) + 1 * (q.val / 1024 - 0) = _; omega
  have hl : loc3Of (ix2 P q) = ix2 (⟨P.val % 1024, Nat.mod_lt _ (by decide)⟩ : Fin 1024) q := by
    funext a; apply Fin.ext
    match a with
    | ⟨0, _⟩ => rfl
    | ⟨1, _⟩ => show q.val % 1024 = q.val; omega
  have hp : pt3Of (ix2 P q) < cfg0.N := by show 2 * run3Of (ix2 P q) + 1 < _; rw [hr, hN]; omega
  unfold G3
  rw [dif_pos hp, ← outsAt0_sweep m c _ hp, hl]
  exact out_eq m c (run3Of (ix2 P q)) _ q P (by rw [hr]; dsimp only; omega) hp

/-! ## The reference -/

/-- The reference's sum, entry by entry. -/
theorem ref_eq (g : FVec Ideal Cert.UpBackGRefIdeal.S8192x2816 .bf16) (w : FVec Ideal Cert.UpBackGRefIdeal.S1024x5632 .bf16)
    (d : FVec Ideal Cert.UpBackGRefIdeal.S8192x1024 .f32) (P : Fin 8192) (q : Fin 1024) :
    addf (mulf (broadcastInDim Cert.UpBackGRefIdeal.S8192x1024 ![] Cert.UpBackGRefIdeal.Facts₀.bcast_S_S8192x1024 (constant Cert.UpBackGRefIdeal.S_ .f32 0x3FB504F3#32)) d)
        (Host.dotGeneral Cert.UpBackGRefIdeal.dot_S8192x2816_S1024x2816_S8192x1024_1_1_0_0_n_n none
          (extf .f32 g Cert.UpBackGRefIdeal.Facts₀.bitsLt_bf16_f32)
          (extractStridedSlice Cert.UpBackGRefIdeal.S1024x2816 ![0, 0] (extf .f32 w Cert.UpBackGRefIdeal.Facts₀.bitsLt_bf16_f32) Cert.UpBackGRefIdeal.Facts₀.slices_S1024x5632_S1024x2816_0_0)) (ix2 P q)
      = scale * d (ix2 P q) + ∑ k : Fin 2816, g (ix2 P k) * w (ix2 q (col k)) := by
  pointwise
  rfl

theorem reference_frame : Cert.quiescent_UpBackGRefIdeal := by
  intro m ρ _
  exact (θ_run Cert.UpBackGRefIdeal.defs _ _).mono
    (fun r h => ⟨fun c => (h c).2, sem_eq_zero_of_no_sems (by decide) r.2⟩) (Cert.UpBackGRefIdeal.Value.run (F := Ideal) m ρ)

/-- The kernel and the reference end with the same gradient. -/
theorem value : Cert.algebraic_UpBackGIdeal_UpBackGRefIdeal := by
  intro m g m' g' _ ha
  refine ⟨G3 m, run m g, ?_⟩
  refine (θ_run Cert.UpBackGRefIdeal.defs _ _).mono (fun r H c => ⟨(H c).1.trans ?_, (H c).2⟩) (Cert.UpBackGRefIdeal.Value.run (F := Ideal) m' g')
  rw [(ha c).1, (ha c).2.1, (ha c).2.2]
  funext j
  idx_vars j
  rw [ref_eq, array_eq]
  rfl

end Cert.Proof.UpBackG

end
-- ==== Proof.UpBackV.lean ====
/-
  The gradient of the up projection's operand, from the second half of its columns: the kernel's blocked product, added to
  the gradient it takes, is the product of the whole incoming gradient with the transposed weights so added.
-/
module

public import proofs.«01_k».proof.Defs
public import proofs.«01_k».proof.Proof.Products
public import proofs.«01_k».proof.Proof.Gen.UpBackVIdeal.Value
public import proofs.«01_k».proof.Proof.Gen.UpBackVRefIdeal.Run

@[expose] public section

set_option maxRecDepth 16384
set_option pp.maxSteps 800

noncomputable section

namespace Cert.Proof.UpBackV

open Cert.UpBackVIdeal Cert.UpBackVIdeal.Gen Cert.UpBackVIdeal.Value
open Idealize.ShloMosaic Idealize.ShloMosaic.TcCoe Idealize.ShloMosaic.Tactic Idealize.SL.Sem
open Cert.Proof.Products

theorem hz : (![0, 0] : Fin 2 → Nat) = fun _ => 0 := funext fun a => by fin_cases a <;> rfl

section
variable {F : FTy → Type} [FloatOps F]
variable (c : Dev nD) (i : grid0.Coords) (a3 : Memref sig .tc .vmem S1024x1408 .bf16) (h3 : a3.IsWhole)
  (a4 : Memref sig .tc .vmem S1024x1408 .bf16) (h4 : a4.IsWhole) (a5 : Memref sig .tc .vmem S1024x1024 .f32) (h5 : a5.IsWhole)
  (a6 : Memref sig .tc .vmem S1024x1024 .f32) (h6 : a6.IsWhole) (a7 : Memref sig .tc .vmem S1024x1024 .f32) (h7 : a7.IsWhole)
  (x y : Vec F S1024x1408 .bf16) (d acc : Vec F S1024x1024 .f32)

/-- The first block leaves its product and the gradient it takes in the accumulator. -/
theorem acc_A (hc0 : cond0_0 i) (hc1 : ¬cond0_1 i) (hc2 : ¬cond0_2 i) :
    sout0_A_0 c i a3 h3 a4 h4 a5 h5 a6 h6 a7 h7 hc0 hc1 hc2 x y d = k0_pay2 x y d := by
  unfold sout0_A_0
  rw [View.read_writes_eq_canon _ _ _ (scover0_A_0 c i a3 h3 a4 h4 a5 h5 a6 h6 a7 h7 hc0 hc1 hc2 x y d)]
  unfold kernelRun0_A
  dsimp only
  rw [View.canon_unit_zero hz]
  simp only [View.readAt_eq_ld, h3.read_unread, h4.read_unread, h5.read_unread, View.ld_unit_zero (S := S1024x1408) hz, View.ld_unit_zero (S := S1024x1024) hz]

/-- The last block leaves the accumulator with its product added in the output. -/
theorem out_B (hc0 : ¬cond0_0 i) (hc1 : cond0_1 i) (hc2 : cond0_2 i) :
    out0_B_3 c i a3 h3 a4 h4 a5 h5 a6 h6 a7 h7 hc0 hc1 hc2 x y d acc = k0_pay3 x y acc := by
  unfold out0_B_3
  rw [View.read_writes_eq_canon _ _ _ (cover0_B_3 c i a3 h3 a4 h4 a5 h5 a6 h6 a7 h7 hc0 hc1 hc2 x y d acc)]
  unfold kernelRun0_B
  dsimp only
  sl_unfold_words
  rw [View.canon_unit_zero hz, View.readCov_unit_zero (S := S1024x1024) _ hz]
  simp only [View.readAt_eq_ld, h3.read_unread, h4.read_unread, h7.read_unread, View.ld_unit_zero (S := S1024x1408) hz, View.ld_unit_zero (S := S1024x1024) hz]

end

/-! ## At the extended reals -/

/-- A block's product. -/
theorem pay1 (x y : Vec Ideal S1024x1408 .bf16) (p q : Fin 1024) :
    k0_pay1 x y (ix2 p q) = ∑ k : Fin 1408, x (ix2 p k) * y (ix2 q k) := by
  pointwise [k0_pay1]

theorem pay2 (x y : Vec Ideal S1024x1408 .bf16) (d : Vec Ideal S1024x1024 .f32) (j : S1024x1024.Idx) :
    k0_pay2 x y d j = k0_pay1 x y j + d j := by
  unfold k0_pay2; simp only [shapeCast_self]
  pointwise

theorem pay3 (x y : Vec Ideal S1024x1408 .bf16) (acc : Vec Ideal S1024x1024 .f32) (j : S1024x1024.Idx) :
    k0_pay3 x y acc j = acc j + k0_pay1 x y j := by
  unfold k0_pay3; simp only [shapeCast_self]; rfl

variable (m : (ℓ : Loc nD τ sig) → Buf (Elt Ideal) ℓ) (c : Dev nD)

/-- The three arguments. -/
abbrev G : S8192x2816.Idx → EReal := m ((c : Thread nD τ).loc main_arg0)
abbrev W : S1024x5632.Idx → EReal := m ((c : Thread nD τ).loc main_arg1)
abbrev D : S8192x1024.Idx → EReal := m ((c : Thread nD τ).loc main_arg2)

/-- A column of the weights' half. -/
abbrev col (k : Fin 2816) : Fin 5632 := ⟨2816 + k.val, by omega⟩

/-- The terms of the product's entry `p`, `q`. -/
def term (p : Fin 8192) (q : Fin 1024) (k : Fin 2816) : EReal := G m c (ix2 p k) * W m c (ix2 q (col k))

theorem index0 : ∀ t : Fin cfg0.N, win0_0.index t 0 = t.val / 2 ∧ win0_0.index t 1 = t.val % 2 :=
  (by decide +kernel : ∀ t : Fin grid0.N, _)
theorem index1 : ∀ t : Fin cfg0.N, win0_1.index t 0 = 0 ∧ win0_1.index t 1 = t.val % 2 + 2 :=
  (by decide +kernel : ∀ t : Fin grid0.N, _)
theorem index2 : ∀ t : Fin cfg0.N, win0_2.index t 0 = t.val / 2 ∧ win0_2.index t 1 = 0 :=
  (by decide +kernel : ∀ t : Fin grid0.N, _)

theorem block0 (t : Fin cfg0.N) (p : Fin 1024) (k : Fin 1408) (P : Fin 8192) (K : Fin 2816)
    (hP : P.val = 1024 * (t.val / 2) + p.val) (hK : K.val = 1408 * (t.val % 2) + k.val) :
    (iblk m c 0 t : Vec Ideal S1024x1408 .bf16) (ix2 p k) = G m c (ix2 P K) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * p.val = P.val; rw [(index0 t).1]; omega
  | ⟨1, _⟩ => show win0_0.index t 1 * 1408 + 1 * k.val = K.val; rw [(index0 t).2]; omega

theorem block1 (t : Fin cfg0.N) (q : Fin 1024) (k : Fin 1408) (K : Fin 2816) (hK : K.val = 1408 * (t.val % 2) + k.val) :
    (iblk m c 1 t : Vec Ideal S1024x1408 .bf16) (ix2 q k) = W m c (ix2 q (col K)) := by
  unfold iblk
  rw [View.read_apply]
  show V m c main_arg1 _ = m (c.tc.loc main_arg1) _
  rw [V_main_arg1]
  congr 1
  funext a
  apply Fin.ext
  match a with
  | ⟨0, _⟩ => show win0_1.index t 0 * 1024 + 1 * q.val = q.val; rw [(index1 t).1]; omega
  | ⟨1, _⟩ => show win0_1.index t 1 * 1408 + 1 * k.val = 2816 + K.val; rw [(index1 t).2]; omega

theorem block2 (t : Fin cfg0.N) (p : Fin 1024) (q : Fin 1024) (P : Fin 8192) (hP : P.val = 1024 * (t.val / 2) + p.val) :
    (iblk m c 2 t : Vec Ideal S1024x1024 .f32) (ix2 p q) = D m c (ix2 P q) := by
  unfold iblk
  rw [View.read_apply]
  show V m c main_arg2 _ = m (c.tc.loc main_arg2) _
  rw [V_main_arg2]
  congr 1
  funext a
  apply Fin.ext
  match a with
  | ⟨0, _⟩ => show win0_2.index t 0 * 1024 + 1 * p.val = P.val; rw [(index2 t).1]; omega
  | ⟨1, _⟩ => show win0_2.index t 1 * 1024 + 1 * q.val = q.val; rw [(index2 t).2]; omega

/-- A grid point's product is its block of the terms. -/
theorem point (t : Fin cfg0.N) (p q : Fin 1024) (P : Fin 8192) (hP : P.val = 1024 * (t.val / 2) + p.val) :
    k0_pay1 (iblk m c 0 t : Vec Ideal S1024x1408 .bf16) (iblk m c 1 t) (ix2 p q)
      = ∑ k : Fin 1408, ext (term m c P q) (1408 * (t.val % 2) + k.val) := by
  rw [pay1]
  refine Finset.sum_congr rfl fun k _ => ?_
  have hk : 1408 * (t.val % 2) + k.val < 2816 := by omega
  rw [ext_of_lt _ hk, term, block0 m c t p k P ⟨_, hk⟩ hP rfl, block1 m c t q k ⟨_, hk⟩ rfl]

/-- What the accumulator holds after the first block of a run. -/
theorem acc_eq (r : ℕ) (p q : Fin 1024) (P : Fin 8192) (hP : P.val = 1024 * r + p.val) (h : 2 * r < cfg0.N) :
    (outsAt0 m c (2 * r) h).2 (ix2 p q) = ∑ k : Fin 1408, ext (term m c P q) (1408 * 0 + k.val) + D m c (ix2 P q) := by
  rw [outsAt0_A m c ⟨2 * r, h⟩ (by dsimp only; omega) (by dsimp only; omega) (by dsimp only; omega)]
  dsimp only
  rw [acc_A, pay2, point m c ⟨2 * r, h⟩ p q P (by dsimp only; omega), block2 m c ⟨2 * r, h⟩ p q P (by dsimp only; omega)]
  rw [show 2 * r % 2 = 0 from by omega]

/-- What the output holds after the last block of a run: the whole sum and the gradient it takes. -/
theorem out_eq (r : ℕ) (p q : Fin 1024) (P : Fin 8192) (hP : P.val = 1024 * r + p.val) (h : 2 * r + 1 < cfg0.N) :
    (outsAt0 m c (2 * r + 1) h).1 (ix2 p q) = D m c (ix2 P q) + ∑ k : Fin 2816, term m c P q k := by
  rw [outsAt0_B m c ⟨2 * r + 1, h⟩ (by dsimp only; omega) (by dsimp only; omega) (by dsimp only; omega)]
  dsimp only
  rw [out_B, pay3, point m c ⟨2 * r + 1, h⟩ p q P (by dsimp only; omega), ← sum_blocks 1408 2 rfl (term m c P q), Finset.sum_range_succ _ 1,
    Finset.sum_range_one]
  rw [show (2 * r + 1) % 2 = 1 from by omega]
  rw [← add_assoc, add_comm (D m c (ix2 P q))]
  exact congrArg (· + _) (acc_eq m c r p q P hP (by omega))

/-- The array after the run. -/
theorem array_eq (P : Fin 8192) (q : Fin 1024) : G3 m c (ix2 P q) = D m c (ix2 P q) + ∑ k : Fin 2816, term m c P q k := by
  have hN : cfg0.N = 16 := N_0
  have hr : run3Of (ix2 P q) = P.val / 1024 := by
    show 1 * (P.val / 1024 - 0) + 1 * (q.val / 1024 - 0) = _; omega
  have hl : loc3Of (ix2 P q) = ix2 (⟨P.val % 1024, Nat.mod_lt _ (by decide)⟩ : Fin 1024) q := by
    funext a; apply Fin.ext
    match a with
    | ⟨0, _⟩ => rfl
    | ⟨1, _⟩ => show q.val % 1024 = q.val; omega
  have hp : pt3Of (ix2 P q) < cfg0.N := by show 2 * run3Of (ix2 P q) + 1 < _; rw [hr, hN]; omega
  unfold G3
  rw [dif_pos hp, ← outsAt0_sweep m c _ hp, hl]
  exact out_eq m c (run3Of (ix2 P q)) _ q P (by rw [hr]; dsimp only; omega) hp

/-! ## The reference -/

/-- The reference's sum, entry by entry. -/
theorem ref_eq (g : FVec Ideal Cert.UpBackVRefIdeal.S8192x2816 .bf16) (w : FVec Ideal Cert.UpBackVRefIdeal.S1024x5632 .bf16)
    (d : FVec Ideal Cert.UpBackVRefIdeal.S8192x1024 .f32) (P : Fin 8192) (q : Fin 1024) :
    addf d
        (Host.dotGeneral Cert.UpBackVRefIdeal.dot_S8192x2816_S1024x2816_S8192x1024_1_1_0_0_n_n none
          (extf .f32 g Cert.UpBackVRefIdeal.Facts₀.bitsLt_bf16_f32)
          (extractStridedSlice Cert.UpBackVRefIdeal.S1024x2816 ![0, 2816] (extf .f32 w Cert.UpBackVRefIdeal.Facts₀.bitsLt_bf16_f32) Cert.UpBackVRefIdeal.Facts₀.slices_S1024x5632_S1024x2816_0_2816)) (ix2 P q)
      = d (ix2 P q) + ∑ k : Fin 2816, g (ix2 P k) * w (ix2 q (col k)) := by
  pointwise

theorem reference_frame : Cert.quiescent_UpBackVRefIdeal := by
  intro m ρ _
  exact (θ_run Cert.UpBackVRefIdeal.defs _ _).mono
    (fun r h => ⟨fun c => (h c).2, sem_eq_zero_of_no_sems (by decide) r.2⟩) (Cert.UpBackVRefIdeal.Value.run (F := Ideal) m ρ)

/-- The kernel and the reference end with the same gradient. -/
theorem value : Cert.algebraic_UpBackVIdeal_UpBackVRefIdeal := by
  intro m g m' g' _ ha
  refine ⟨G3 m, run m g, ?_⟩
  refine (θ_run Cert.UpBackVRefIdeal.defs _ _).mono (fun r H c => ⟨(H c).1.trans ?_, (H c).2⟩) (Cert.UpBackVRefIdeal.Value.run (F := Ideal) m' g')
  rw [(ha c).1, (ha c).2.1, (ha c).2.2]
  funext j
  idx_vars j
  rw [ref_eq, array_eq]
  rfl

end Cert.Proof.UpBackV

end
-- ==== Proof.OddXGrad.lean ====
/-
  The gradient of the SSD columns of the odd layer's input projection: the kernel's blocked product is the transposed
  product of the whole activations with the whole incoming gradient.
-/
module

public import proofs.«01_k».proof.Defs
public import proofs.«01_k».proof.Proof.Products
public import proofs.«01_k».proof.Proof.Gen.OddXGradIdeal.Value
public import proofs.«01_k».proof.Proof.Gen.OddXGradRefIdeal.Run

@[expose] public section

set_option maxRecDepth 16384
set_option pp.maxSteps 800

noncomputable section

namespace Cert.Proof.OddXGrad

open Cert.OddXGradIdeal Cert.OddXGradIdeal.Gen Cert.OddXGradIdeal.Value
open Idealize.ShloMosaic Idealize.ShloMosaic.TcCoe Idealize.ShloMosaic.Tactic Idealize.SL.Sem
open Cert.Proof.Products

theorem hz : (![0, 0] : Fin 2 → Nat) = fun _ => 0 := funext fun a => by fin_cases a <;> rfl

section
variable {F : FTy → Type} [FloatOps F]
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole)
  (x : Vec F S1024x1024 .bf16) (y : Vec F S1024x1024 .bf16) (acc : Vec F S1024x1024 .f32)

/-- The first block of a run leaves its product in the accumulator. -/
theorem acc_A (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz]
  simp only [View.readAt_eq_ld, h3.read_unread, h4.read_unread, View.ld_unit_zero (S := S1024x1024) hz, View.ld_unit_zero (S := S1024x1024) hz]

/-- A middle block adds its product to the accumulator. -/
theorem acc_B (hc0 : ¬cond0_0 i) (hc1 : cond0_1 i) (hc2 : ¬cond0_2 i) :
    sout0_B_0 c i a3 h3 a4 h4 a5 h5 a6 h6 hc0 hc1 hc2 x y acc = k0_pay3 x y acc := by
  unfold sout0_B_0
  rw [View.read_writes_eq_canon _ _ _ (scover0_B_0 c i a3 h3 a4 h4 a5 h5 a6 h6 hc0 hc1 hc2 x y acc)]
  unfold kernelRun0_B
  dsimp only
  rw [View.canon_unit_zero hz]
  simp only [View.readAt_eq_ld, h3.read_unread, h4.read_unread, h6.read_unread, View.ld_unit_zero (S := S1024x1024) hz, View.ld_unit_zero (S := S1024x1024) hz, View.ld_unit_zero (S := S1024x1024) hz]

/-- The last block of a run leaves the accumulator with its product added in the output. -/
theorem out_C (hc0 : ¬cond0_0 i) (hc1 : cond0_1 i) (hc2 : cond0_2 i) :
    out0_C_2 c i a3 h3 a4 h4 a5 h5 a6 h6 hc0 hc1 hc2 x y acc = k0_pay3 x y acc := by
  unfold out0_C_2
  rw [View.read_writes_eq_canon _ _ _ (cover0_C_2 c i a3 h3 a4 h4 a5 h5 a6 h6 hc0 hc1 hc2 x y acc)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz, View.ld_unit_zero (S := S1024x1024) hz, View.ld_unit_zero (S := S1024x1024) hz]

end

/-! ## At the extended reals -/

/-- A block's product. -/
theorem pay1 (x : Vec Ideal S1024x1024 .bf16) (y : Vec Ideal S1024x1024 .bf16) (p : Fin 1024) (q : Fin 1024) :
    k0_pay1 x y (ix2 p q) = ∑ k : Fin 1024, x (ix2 k p) * y (ix2 k q) := by
  pointwise [k0_pay1]

theorem pay2 (x : Vec Ideal S1024x1024 .bf16) (y : Vec Ideal S1024x1024 .bf16) : k0_pay2 x y = k0_pay1 x y := by
  unfold k0_pay2; simp only [shapeCast_self]

theorem pay3 (x : Vec Ideal S1024x1024 .bf16) (y : Vec Ideal S1024x1024 .bf16) (acc : Vec Ideal S1024x1024 .f32) (j : S1024x1024.Idx) :
    k0_pay3 x y acc j = acc j + k0_pay1 x y j := by
  unfold k0_pay3; simp only [shapeCast_self]; rfl

variable (m : (ℓ : Loc nD τ sig) → Buf (Elt Ideal) ℓ) (c : Dev nD)

/-- The two arguments. -/
abbrev S : S8192x1024.Idx → EReal := m ((c : Thread nD τ).loc main_arg0)
abbrev G : S8192x3072.Idx → EReal := m ((c : Thread nD τ).loc main_arg1)

/-- The terms of the product's entry `p`, `q`. -/
def term (p : Fin 1024) (q : Fin 3072) (k : Fin 8192) : EReal := S m c (ix2 k p) * G m c (ix2 k q)

theorem index0 : ∀ t : Fin cfg0.N, win0_0.index t 0 = t.val % 8 ∧ win0_0.index t 1 = 0 :=
  (by decide +kernel : ∀ t : Fin grid0.N, _)
theorem index1 : ∀ t : Fin cfg0.N, win0_1.index t 0 = t.val % 8 ∧ win0_1.index t 1 = t.val / 8 :=
  (by decide +kernel : ∀ t : Fin grid0.N, _)

theorem block0 (t : Fin cfg0.N) (k : Fin 1024) (p : Fin 1024) (K : Fin 8192) (hK : K.val = 1024 * (t.val % 8) + k.val) :
    (iblk m c 0 t : Vec Ideal S1024x1024 .bf16) (ix2 k p) = S m c (ix2 K p) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * k.val = K.val; rw [(index0 t).1]; omega
  | ⟨1, _⟩ => show win0_0.index t 1 * 1024 + 1 * p.val = p.val; rw [(index0 t).2]; omega

theorem block1 (t : Fin cfg0.N) (k : Fin 1024) (q : Fin 1024) (K : Fin 8192) (Q : Fin 3072)
    (hK : K.val = 1024 * (t.val % 8) + k.val) (hQ : Q.val = 1024 * (t.val / 8) + q.val) :
    (iblk m c 1 t : Vec Ideal S1024x1024 .bf16) (ix2 k q) = G m c (ix2 K Q) := by
  unfold iblk
  rw [View.read_apply]
  show V m c main_arg1 _ = m (c.tc.loc main_arg1) _
  rw [V_main_arg1]
  congr 1
  funext a
  apply Fin.ext
  match a with
  | ⟨0, _⟩ => show win0_1.index t 0 * 1024 + 1 * k.val = K.val; rw [(index1 t).1]; omega
  | ⟨1, _⟩ => show win0_1.index t 1 * 1024 + 1 * q.val = Q.val; rw [(index1 t).2]; omega

/-- A grid point's product is its block of the terms. -/
theorem point (t : Fin cfg0.N) (p : Fin 1024) (q : Fin 1024) (Q : Fin 3072) (hQ : Q.val = 1024 * (t.val / 8) + q.val) :
    k0_pay1 (iblk m c 0 t : Vec Ideal S1024x1024 .bf16) (iblk m c 1 t) (ix2 p q)
      = ∑ k : Fin 1024, ext (term m c p Q) (1024 * (t.val % 8) + k.val) := by
  rw [pay1]
  refine Finset.sum_congr rfl fun k _ => ?_
  have hk : 1024 * (t.val % 8) + k.val < 8192 := by omega
  rw [ext_of_lt _ hk, term, block0 m c t k p ⟨_, hk⟩ rfl, block1 m c t k q ⟨_, hk⟩ Q rfl hQ]

/-- What the accumulator holds after a point before the last of its run: the blocks so far. -/
theorem acc_eq (r : ℕ) (p : Fin 1024) (q : Fin 1024) (Q : Fin 3072) (hQ : Q.val = 1024 * r + q.val) :
    ∀ (j : ℕ) (hj : j < 7) (h : 8 * r + j < cfg0.N), (outsAt0 m c (8 * r + j) h).2 (ix2 p q)
      = ∑ s ∈ Finset.range (j + 1), ∑ k : Fin 1024, ext (term m c p Q) (1024 * s + k.val)
  | 0, hj, h => by
    rw [outsAt0_A m c ⟨8 * r + 0, h⟩ (by dsimp only; omega) (by dsimp only; omega) (by dsimp only; omega)]
    dsimp only
    rw [acc_A, pay2, point m c ⟨8 * r + 0, h⟩ p q Q (by dsimp only; omega), Finset.sum_range_one]
    rw [show (8 * r + 0) % 8 = 0 from by omega]
  | j + 1, hj, h => by
    rw [outsAt0_B m c ⟨8 * r + (j + 1), h⟩ (by dsimp only; omega) (by dsimp only; omega) (by dsimp only; omega)]
    dsimp only
    rw [acc_B, pay3, point m c ⟨8 * r + (j + 1), h⟩ p q Q (by dsimp only; omega), Finset.sum_range_succ _ (j + 1)]
    rw [show (8 * r + (j + 1)) % 8 = j + 1 from by omega]
    exact congrArg (· + _) (acc_eq r p q Q hQ j (by omega) (by omega))

/-- What the output holds after the last point of a run: the whole sum. -/
theorem out_eq (r : ℕ) (p : Fin 1024) (q : Fin 1024) (Q : Fin 3072) (hQ : Q.val = 1024 * r + q.val) (h : 8 * r + 7 < cfg0.N) :
    (outsAt0 m c (8 * r + 7) h).1 (ix2 p q) = ∑ k : Fin 8192, term m c p Q k := by
  rw [outsAt0_C m c ⟨8 * r + 7, h⟩ (by dsimp only; omega) (by dsimp only; omega) (by dsimp only; omega)]
  dsimp only
  rw [out_C, pay3, point m c ⟨8 * r + 7, h⟩ p q Q (by dsimp only; omega), ← sum_blocks 1024 8 rfl (term m c p Q), Finset.sum_range_succ _ 7]
  rw [show (8 * r + 7) % 8 = 7 from by omega]
  exact congrArg (· + _) (acc_eq m c r p q Q hQ 6 (by omega) (by omega))

/-- The array after the run. -/
theorem array_eq (p : Fin 1024) (Q : Fin 3072) : G2 m c (ix2 p Q) = ∑ k : Fin 8192, term m c p Q k := by
  have hN : cfg0.N = 24 := N_0
  have hr : run2Of (ix2 p Q) = Q.val / 1024 := by
    show 3 * (p.val / 1024 - 0) + 1 * (Q.val / 1024 - 0) = _; omega
  have hl : loc2Of (ix2 p Q) = ix2 p (⟨Q.val % 1024, Nat.mod_lt _ (by decide)⟩ : Fin 1024) := by
    funext a; apply Fin.ext
    match a with
    | ⟨0, _⟩ => show p.val % 1024 = p.val; omega
    | ⟨1, _⟩ => rfl
  have hp : pt2Of (ix2 p Q) < cfg0.N := by show 8 * run2Of (ix2 p Q) + 7 < _; rw [hr, hN]; omega
  unfold G2
  rw [dif_pos hp, ← outsAt0_sweep m c _ hp, hl]
  exact out_eq m c (run2Of (ix2 p Q)) p _ Q (by rw [hr]; dsimp only; omega) hp

/-! ## The reference -/

/-- The reference's product, entry by entry. -/
theorem ref_eq (s : FVec Ideal Cert.OddXGradRefIdeal.S8192x1024 .bf16) (g : FVec Ideal Cert.OddXGradRefIdeal.S8192x3072 .bf16) (p : Fin 1024) (Q : Fin 3072) :
    transpose Cert.OddXGradRefIdeal.S1024x3072 [1, 0] (Host.dotGeneral Cert.OddXGradRefIdeal.dot_S8192x3072_S8192x1024_S3072x1024_0_0_1_1_n_n none
        (extf .f32 g Cert.OddXGradRefIdeal.Facts₀.bitsLt_bf16_f32) (extf .f32 s Cert.OddXGradRefIdeal.Facts₀.bitsLt_bf16_f32)) Cert.OddXGradRefIdeal.Facts₀.transposes_S3072x1024_S1024x3072_1_0 (ix2 p Q)
      = ∑ k : Fin 8192, s (ix2 k p) * g (ix2 k Q) := by
  pointwise
  exact Finset.sum_congr rfl fun k _ => mul_comm _ _

theorem reference_frame : Cert.quiescent_OddXGradRefIdeal := by
  intro m ρ _
  exact (θ_run Cert.OddXGradRefIdeal.defs _ _).mono
    (fun r h => ⟨fun c => (h c).2, sem_eq_zero_of_no_sems (by decide) r.2⟩) (Cert.OddXGradRefIdeal.Value.run (F := Ideal) m ρ)

/-- The kernel and the reference end with the same gradient. -/
theorem value : Cert.algebraic_OddXGradIdeal_OddXGradRefIdeal := by
  intro m g m' g' _ ha
  refine ⟨G2 m, run m g, ?_⟩
  refine (θ_run Cert.OddXGradRefIdeal.defs _ _).mono (fun r H c => ⟨(H c).1.trans ?_, (H c).2⟩) (Cert.OddXGradRefIdeal.Value.run (F := Ideal) m' g')
  rw [(ha c).1, (ha c).2]
  funext j
  idx_vars j
  rw [ref_eq, array_eq]
  rfl

end Cert.Proof.OddXGrad

end
-- ==== Proof.OddXBack.lean ====
/-
  The gradient of the odd input projection's operand, from the SSD columns: the kernel's product, block by block, added to the gradient it takes, is the product of the
  whole incoming gradient with the transposed weights, so added.
-/
module

public import proofs.«01_k».proof.Defs
public import proofs.«01_k».proof.Proof.Products
public import proofs.«01_k».proof.Proof.Gen.OddXBackIdeal.Value
public import proofs.«01_k».proof.Proof.Gen.OddXBackRefIdeal.Run

@[expose] public section

set_option maxRecDepth 16384
set_option pp.maxSteps 800

noncomputable section

namespace Cert.Proof.OddXBack

open Cert.OddXBackIdeal Cert.OddXBackIdeal.Gen Cert.OddXBackIdeal.Value
open Idealize.ShloMosaic Idealize.ShloMosaic.TcCoe Idealize.ShloMosaic.Tactic Idealize.SL.Sem
open Cert.Proof.Products

theorem hz : (![0, 0] : Fin 2 → Nat) = fun _ => 0 := funext fun a => by fin_cases a <;> rfl

section
variable {F : FTy → Type} [FloatOps F]
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole) (a7 : Memref sig .tc .vmem S1024x1024 .f32) (h7 : a7.IsWhole)
  (x y : Vec F S1024x1024 .bf16) (d acc : Vec F S1024x1024 .f32)

/-- The first block leaves its product and the gradient it takes in the accumulator. -/
theorem acc_A (hc0 : cond0_0 i) (hc1 : ¬cond0_1 i) (hc2 : ¬cond0_2 i) :
    sout0_A_0 c i a3 h3 a4 h4 a5 h5 a6 h6 a7 h7 hc0 hc1 hc2 x y d = k0_pay2 x y d := by
  unfold sout0_A_0
  rw [View.read_writes_eq_canon _ _ _ (scover0_A_0 c i a3 h3 a4 h4 a5 h5 a6 h6 a7 h7 hc0 hc1 hc2 x y d)]
  unfold kernelRun0_A
  dsimp only
  rw [View.canon_unit_zero hz]
  simp only [View.readAt_eq_ld, h3.read_unread, h4.read_unread, h5.read_unread, View.ld_unit_zero (S := S1024x1024) hz, View.ld_unit_zero (S := S1024x1024) hz]

/-- A middle block adds its product to the accumulator. -/
theorem acc_B (hc0 : ¬cond0_0 i) (hc1 : cond0_1 i) (hc2 : ¬cond0_2 i) :
    sout0_B_0 c i a3 h3 a4 h4 a5 h5 a6 h6 a7 h7 hc0 hc1 hc2 x y d acc = k0_pay3 x y acc := by
  unfold sout0_B_0
  rw [View.read_writes_eq_canon _ _ _ (scover0_B_0 c i a3 h3 a4 h4 a5 h5 a6 h6 a7 h7 hc0 hc1 hc2 x y d acc)]
  unfold kernelRun0_B
  dsimp only
  rw [View.canon_unit_zero hz]
  simp only [View.readAt_eq_ld, h3.read_unread, h4.read_unread, h7.read_unread, View.ld_unit_zero (S := S1024x1024) hz]

/-- The last block leaves the accumulator with its product added in the output. -/
theorem out_C (hc0 : ¬cond0_0 i) (hc1 : cond0_1 i) (hc2 : cond0_2 i) :
    out0_C_3 c i a3 h3 a4 h4 a5 h5 a6 h6 a7 h7 hc0 hc1 hc2 x y d acc = k0_pay3 x y acc := by
  unfold out0_C_3
  rw [View.read_writes_eq_canon _ _ _ (cover0_C_3 c i a3 h3 a4 h4 a5 h5 a6 h6 a7 h7 hc0 hc1 hc2 x y d acc)]
  unfold kernelRun0_C
  dsimp only
  sl_unfold_words
  rw [View.canon_unit_zero hz, View.readCov_unit_zero (S := S1024x1024) _ hz]
  simp only [View.readAt_eq_ld, h3.read_unread, h4.read_unread, h7.read_unread, View.ld_unit_zero (S := S1024x1024) hz]

end

/-! ## At the extended reals -/

/-- A block's product. -/
theorem pay1 (x y : Vec Ideal S1024x1024 .bf16) (p q : Fin 1024) :
    k0_pay1 x y (ix2 p q) = ∑ k : Fin 1024, x (ix2 p k) * y (ix2 q k) := by
  pointwise [k0_pay1]

theorem pay2 (x y : Vec Ideal S1024x1024 .bf16) (d : Vec Ideal S1024x1024 .f32) (j : S1024x1024.Idx) :
    k0_pay2 x y d j = k0_pay1 x y j + d j := by
  unfold k0_pay2; simp only [shapeCast_self]
  pointwise

theorem pay3 (x y : Vec Ideal S1024x1024 .bf16) (acc : Vec Ideal S1024x1024 .f32) (j : S1024x1024.Idx) :
    k0_pay3 x y acc j = acc j + k0_pay1 x y j := by
  unfold k0_pay3; simp only [shapeCast_self]; rfl

variable (m : (ℓ : Loc nD τ sig) → Buf (Elt Ideal) ℓ) (c : Dev nD)

/-- The three arguments. -/
abbrev G : S8192x3072.Idx → EReal := m ((c : Thread nD τ).loc main_arg0)
abbrev W : S1024x3072.Idx → EReal := m ((c : Thread nD τ).loc main_arg1)
abbrev D : S8192x1024.Idx → EReal := m ((c : Thread nD τ).loc main_arg2)

/-- The terms of the product's entry `p`, `q`. -/
def term (p : Fin 8192) (q : Fin 1024) (k : Fin 3072) : EReal := G m c (ix2 p k) * W m c (ix2 q k)

theorem index0 : ∀ t : Fin cfg0.N, win0_0.index t 0 = t.val / 3 ∧ win0_0.index t 1 = t.val % 3 :=
  (by decide +kernel : ∀ t : Fin grid0.N, _)
theorem index1 : ∀ t : Fin cfg0.N, win0_1.index t 0 = 0 ∧ win0_1.index t 1 = t.val % 3 :=
  (by decide +kernel : ∀ t : Fin grid0.N, _)
theorem index2 : ∀ t : Fin cfg0.N, win0_2.index t 0 = t.val / 3 ∧ win0_2.index t 1 = 0 :=
  (by decide +kernel : ∀ t : Fin grid0.N, _)

theorem block0 (t : Fin cfg0.N) (p : Fin 1024) (k : Fin 1024) (P : Fin 8192) (K : Fin 3072)
    (hP : P.val = 1024 * (t.val / 3) + p.val) (hK : K.val = 1024 * (t.val % 3) + k.val) :
    (iblk m c 0 t : Vec Ideal S1024x1024 .bf16) (ix2 p k) = G m c (ix2 P K) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * p.val = P.val; rw [(index0 t).1]; omega
  | ⟨1, _⟩ => show win0_0.index t 1 * 1024 + 1 * k.val = K.val; rw [(index0 t).2]; omega

theorem block1 (t : Fin cfg0.N) (q : Fin 1024) (k : Fin 1024) (K : Fin 3072) (hK : K.val = 1024 * (t.val % 3) + k.val) :
    (iblk m c 1 t : Vec Ideal S1024x1024 .bf16) (ix2 q k) = W m c (ix2 q K) := by
  unfold iblk
  rw [View.read_apply]
  show V m c main_arg1 _ = m (c.tc.loc main_arg1) _
  rw [V_main_arg1]
  congr 1
  funext a
  apply Fin.ext
  match a with
  | ⟨0, _⟩ => show win0_1.index t 0 * 1024 + 1 * q.val = q.val; rw [(index1 t).1]; omega
  | ⟨1, _⟩ => show win0_1.index t 1 * 1024 + 1 * k.val = K.val; rw [(index1 t).2]; omega

theorem block2 (t : Fin cfg0.N) (p : Fin 1024) (q : Fin 1024) (P : Fin 8192) (hP : P.val = 1024 * (t.val / 3) + p.val) :
    (iblk m c 2 t : Vec Ideal S1024x1024 .f32) (ix2 p q) = D m c (ix2 P q) := by
  unfold iblk
  rw [View.read_apply]
  show V m c main_arg2 _ = m (c.tc.loc main_arg2) _
  rw [V_main_arg2]
  congr 1
  funext a
  apply Fin.ext
  match a with
  | ⟨0, _⟩ => show win0_2.index t 0 * 1024 + 1 * p.val = P.val; rw [(index2 t).1]; omega
  | ⟨1, _⟩ => show win0_2.index t 1 * 1024 + 1 * q.val = q.val; rw [(index2 t).2]; omega

/-- A grid point's product is its block of the terms. -/
theorem point (t : Fin cfg0.N) (p q : Fin 1024) (P : Fin 8192) (hP : P.val = 1024 * (t.val / 3) + p.val) :
    k0_pay1 (iblk m c 0 t : Vec Ideal S1024x1024 .bf16) (iblk m c 1 t) (ix2 p q)
      = ∑ k : Fin 1024, ext (term m c P q) (1024 * (t.val % 3) + k.val) := by
  rw [pay1]
  refine Finset.sum_congr rfl fun k _ => ?_
  have hk : 1024 * (t.val % 3) + k.val < 3072 := by omega
  rw [ext_of_lt _ hk, term, block0 m c t p k P ⟨_, hk⟩ hP rfl, block1 m c t q k ⟨_, hk⟩ rfl]

/-- What the accumulator holds after a block before the last of its run: the blocks so far and the gradient it takes. -/
theorem acc_eq (r : ℕ) (p q : Fin 1024) (P : Fin 8192) (hP : P.val = 1024 * r + p.val) :
    ∀ (j : ℕ) (hj : j < 2) (h : 3 * r + j < cfg0.N), (outsAt0 m c (3 * r + j) h).2 (ix2 p q)
      = D m c (ix2 P q) + ∑ s ∈ Finset.range (j + 1), ∑ k : Fin 1024, ext (term m c P q) (1024 * s + k.val)
  | 0, hj, h => by
    rw [outsAt0_A m c ⟨3 * r + 0, h⟩ (by dsimp only; omega) (by dsimp only; omega) (by dsimp only; omega)]
    dsimp only
    rw [acc_A, pay2, point m c ⟨3 * r + 0, h⟩ p q P (by dsimp only; omega), block2 m c ⟨3 * r + 0, h⟩ p q P (by dsimp only; omega), Finset.sum_range_one]
    rw [show (3 * r + 0) % 3 = 0 from by omega]
    exact add_comm _ _
  | j + 1, hj, h => by
    rw [outsAt0_B m c ⟨3 * r + (j + 1), h⟩ (by dsimp only; omega) (by dsimp only; omega) (by dsimp only; omega)]
    dsimp only
    rw [acc_B, pay3, point m c ⟨3 * r + (j + 1), h⟩ p q P (by dsimp only; omega), Finset.sum_range_succ _ (j + 1), ← add_assoc (D m c (ix2 P q))]
    rw [show (3 * r + (j + 1)) % 3 = j + 1 from by omega]
    exact congrArg (· + _) (acc_eq r p q P hP j (by omega) (by omega))

/-- What the output holds after the last block of a run: the whole sum and the gradient it takes. -/
theorem out_eq (r : ℕ) (p q : Fin 1024) (P : Fin 8192) (hP : P.val = 1024 * r + p.val) (h : 3 * r + 2 < cfg0.N) :
    (outsAt0 m c (3 * r + 2) h).1 (ix2 p q) = D m c (ix2 P q) + ∑ k : Fin 3072, term m c P q k := by
  rw [outsAt0_C m c ⟨3 * r + 2, h⟩ (by dsimp only; omega) (by dsimp only; omega) (by dsimp only; omega)]
  dsimp only
  rw [out_C, pay3, point m c ⟨3 * r + 2, h⟩ p q P (by dsimp only; omega), ← sum_blocks 1024 3 rfl (term m c P q), Finset.sum_range_succ _ 2, ← add_assoc (D m c (ix2 P q))]
  rw [show (3 * r + 2) % 3 = 2 from by omega]
  exact congrArg (· + _) (acc_eq m c r p q P hP 1 (by omega) (by omega))

/-- The array after the run. -/
theorem array_eq (P : Fin 8192) (q : Fin 1024) : G3 m c (ix2 P q) = D m c (ix2 P q) + ∑ k : Fin 3072, term m c P q k := by
  have hN : cfg0.N = 24 := N_0
  have hr : run3Of (ix2 P q) = P.val / 1024 := by
    show 1 * (P.val / 1024 - 0) + 1 * (q.val / 1024 - 0) = _; omega
  have hl : loc3Of (ix2 P q) = ix2 (⟨P.val % 1024, Nat.mod_lt _ (by decide)⟩ : Fin 1024) q := by
    funext a; apply Fin.ext
    match a with
    | ⟨0, _⟩ => rfl
    | ⟨1, _⟩ => show q.val % 1024 = q.val; omega
  have hp : pt3Of (ix2 P q) < cfg0.N := by show 3 * run3Of (ix2 P q) + 2 < _; rw [hr, hN]; omega
  unfold G3
  rw [dif_pos hp, ← outsAt0_sweep m c _ hp, hl]
  exact out_eq m c (run3Of (ix2 P q)) _ q P (by rw [hr]; dsimp only; omega) hp

/-! ## The reference -/

/-- The reference's sum, entry by entry. -/
theorem ref_eq (g : FVec Ideal Cert.OddXBackRefIdeal.S8192x3072 .bf16) (w : FVec Ideal Cert.OddXBackRefIdeal.S1024x3072 .bf16)
    (d : FVec Ideal Cert.OddXBackRefIdeal.S8192x1024 .f32) (P : Fin 8192) (q : Fin 1024) :
    (addf d (Host.dotGeneral Cert.OddXBackRefIdeal.dot_S8192x3072_S1024x3072_S8192x1024_1_1_0_0_n_n none
        (extf .f32 g Cert.OddXBackRefIdeal.Facts₀.bitsLt_bf16_f32) (extf .f32 w Cert.OddXBackRefIdeal.Facts₀.bitsLt_bf16_f32))) (ix2 P q)
      = d (ix2 P q) + ∑ k : Fin 3072, g (ix2 P k) * w (ix2 q k) := by
  pointwise

theorem reference_frame : Cert.quiescent_OddXBackRefIdeal := by
  intro m ρ _
  exact (θ_run Cert.OddXBackRefIdeal.defs _ _).mono
    (fun r h => ⟨fun c => (h c).2, sem_eq_zero_of_no_sems (by decide) r.2⟩) (Cert.OddXBackRefIdeal.Value.run (F := Ideal) m ρ)

/-- The kernel and the reference end with the same gradient. -/
theorem value : Cert.algebraic_OddXBackIdeal_OddXBackRefIdeal := by
  intro m g m' g' _ ha
  refine ⟨G3 m, run m g, ?_⟩
  refine (θ_run Cert.OddXBackRefIdeal.defs _ _).mono (fun r H c => ⟨(H c).1.trans ?_, (H c).2⟩) (Cert.OddXBackRefIdeal.Value.run (F := Ideal) m' g')
  rw [(ha c).1, (ha c).2.1, (ha c).2.2]
  funext j
  idx_vars j
  rw [ref_eq, array_eq]
  rfl

end Cert.Proof.OddXBack

end
-- ==== Proof.OddOutGrad.lean ====
/-
  The gradient of the odd layer's output projection: the kernel's blocked product is the transposed
  product of the whole activations with the whole incoming gradient.
-/
module

public import proofs.«01_k».proof.Defs
public import proofs.«01_k».proof.Proof.Products
public import proofs.«01_k».proof.Proof.Gen.OddOutGradIdeal.Value
public import proofs.«01_k».proof.Proof.Gen.OddOutGradRefIdeal.Run

@[expose] public section

set_option maxRecDepth 16384
set_option pp.maxSteps 800

noncomputable section

namespace Cert.Proof.OddOutGrad

open Cert.OddOutGradIdeal Cert.OddOutGradIdeal.Gen Cert.OddOutGradIdeal.Value
open Idealize.ShloMosaic Idealize.ShloMosaic.TcCoe Idealize.ShloMosaic.Tactic Idealize.SL.Sem
open Cert.Proof.Products

theorem hz : (![0, 0] : Fin 2 → Nat) = fun _ => 0 := funext fun a => by fin_cases a <;> rfl

section
variable {F : FTy → Type} [FloatOps F]
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole)
  (x : Vec F S1024x1024 .bf16) (y : Vec F S1024x1024 .bf16) (acc : Vec F S1024x1024 .f32)

/-- The first block of a run leaves its product in the accumulator. -/
theorem acc_A (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz]
  simp only [View.readAt_eq_ld, h3.read_unread, h4.read_unread, View.ld_unit_zero (S := S1024x1024) hz, View.ld_unit_zero (S := S1024x1024) hz]

/-- A middle block adds its product to the accumulator. -/
theorem acc_B (hc0 : ¬cond0_0 i) (hc1 : cond0_1 i) (hc2 : ¬cond0_2 i) :
    sout0_B_0 c i a3 h3 a4 h4 a5 h5 a6 h6 hc0 hc1 hc2 x y acc = k0_pay3 x y acc := by
  unfold sout0_B_0
  rw [View.read_writes_eq_canon _ _ _ (scover0_B_0 c i a3 h3 a4 h4 a5 h5 a6 h6 hc0 hc1 hc2 x y acc)]
  unfold kernelRun0_B
  dsimp only
  rw [View.canon_unit_zero hz]
  simp only [View.readAt_eq_ld, h3.read_unread, h4.read_unread, h6.read_unread, View.ld_unit_zero (S := S1024x1024) hz, View.ld_unit_zero (S := S1024x1024) hz, View.ld_unit_zero (S := S1024x1024) hz]

/-- The last block of a run leaves the accumulator with its product added in the output. -/
theorem out_C (hc0 : ¬cond0_0 i) (hc1 : cond0_1 i) (hc2 : cond0_2 i) :
    out0_C_2 c i a3 h3 a4 h4 a5 h5 a6 h6 hc0 hc1 hc2 x y acc = k0_pay3 x y acc := by
  unfold out0_C_2
  rw [View.read_writes_eq_canon _ _ _ (cover0_C_2 c i a3 h3 a4 h4 a5 h5 a6 h6 hc0 hc1 hc2 x y acc)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz, View.ld_unit_zero (S := S1024x1024) hz, View.ld_unit_zero (S := S1024x1024) hz]

end

/-! ## At the extended reals -/

/-- A block's product. -/
theorem pay1 (x : Vec Ideal S1024x1024 .bf16) (y : Vec Ideal S1024x1024 .bf16) (p : Fin 1024) (q : Fin 1024) :
    k0_pay1 x y (ix2 p q) = ∑ k : Fin 1024, x (ix2 k p) * y (ix2 k q) := by
  pointwise [k0_pay1]

theorem pay2 (x : Vec Ideal S1024x1024 .bf16) (y : Vec Ideal S1024x1024 .bf16) : k0_pay2 x y = k0_pay1 x y := by
  unfold k0_pay2; simp only [shapeCast_self]

theorem pay3 (x : Vec Ideal S1024x1024 .bf16) (y : Vec Ideal S1024x1024 .bf16) (acc : Vec Ideal S1024x1024 .f32) (j : S1024x1024.Idx) :
    k0_pay3 x y acc j = acc j + k0_pay1 x y j := by
  unfold k0_pay3; simp only [shapeCast_self]; rfl

variable (m : (ℓ : Loc nD τ sig) → Buf (Elt Ideal) ℓ) (c : Dev nD)

/-- The two arguments. -/
abbrev S : S8192x2048.Idx → EReal := m ((c : Thread nD τ).loc main_arg0)
abbrev G : S8192x1024.Idx → EReal := m ((c : Thread nD τ).loc main_arg1)

/-- The terms of the product's entry `p`, `q`. -/
def term (p : Fin 2048) (q : Fin 1024) (k : Fin 8192) : EReal := S m c (ix2 k p) * G m c (ix2 k q)

theorem index0 : ∀ t : Fin cfg0.N, win0_0.index t 0 = t.val % 8 ∧ win0_0.index t 1 = t.val / 8 :=
  (by decide +kernel : ∀ t : Fin grid0.N, _)
theorem index1 : ∀ t : Fin cfg0.N, win0_1.index t 0 = t.val % 8 ∧ win0_1.index t 1 = 0 :=
  (by decide +kernel : ∀ t : Fin grid0.N, _)

theorem block0 (t : Fin cfg0.N) (k : Fin 1024) (p : Fin 1024) (K : Fin 8192) (P : Fin 2048)
    (hK : K.val = 1024 * (t.val % 8) + k.val) (hP : P.val = 1024 * (t.val / 8) + p.val) :
    (iblk m c 0 t : Vec Ideal S1024x1024 .bf16) (ix2 k p) = S m c (ix2 K P) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * k.val = K.val; rw [(index0 t).1]; omega
  | ⟨1, _⟩ => show win0_0.index t 1 * 1024 + 1 * p.val = P.val; rw [(index0 t).2]; omega

theorem block1 (t : Fin cfg0.N) (k : Fin 1024) (q : Fin 1024) (K : Fin 8192) (hK : K.val = 1024 * (t.val % 8) + k.val) :
    (iblk m c 1 t : Vec Ideal S1024x1024 .bf16) (ix2 k q) = G m c (ix2 K q) := by
  unfold iblk
  rw [View.read_apply]
  show V m c main_arg1 _ = m (c.tc.loc main_arg1) _
  rw [V_main_arg1]
  congr 1
  funext a
  apply Fin.ext
  match a with
  | ⟨0, _⟩ => show win0_1.index t 0 * 1024 + 1 * k.val = K.val; rw [(index1 t).1]; omega
  | ⟨1, _⟩ => show win0_1.index t 1 * 1024 + 1 * q.val = q.val; rw [(index1 t).2]; omega

/-- A grid point's product is its block of the terms. -/
theorem point (t : Fin cfg0.N) (p : Fin 1024) (q : Fin 1024) (P : Fin 2048) (hP : P.val = 1024 * (t.val / 8) + p.val) :
    k0_pay1 (iblk m c 0 t : Vec Ideal S1024x1024 .bf16) (iblk m c 1 t) (ix2 p q)
      = ∑ k : Fin 1024, ext (term m c P q) (1024 * (t.val % 8) + k.val) := by
  rw [pay1]
  refine Finset.sum_congr rfl fun k _ => ?_
  have hk : 1024 * (t.val % 8) + k.val < 8192 := by omega
  rw [ext_of_lt _ hk, term, block0 m c t k p ⟨_, hk⟩ P rfl hP, block1 m c t k q ⟨_, hk⟩ rfl]

/-- What the accumulator holds after a point before the last of its run: the blocks so far. -/
theorem acc_eq (r : ℕ) (p : Fin 1024) (q : Fin 1024) (P : Fin 2048) (hP : P.val = 1024 * r + p.val) :
    ∀ (j : ℕ) (hj : j < 7) (h : 8 * r + j < cfg0.N), (outsAt0 m c (8 * r + j) h).2 (ix2 p q)
      = ∑ s ∈ Finset.range (j + 1), ∑ k : Fin 1024, ext (term m c P q) (1024 * s + k.val)
  | 0, hj, h => by
    rw [outsAt0_A m c ⟨8 * r + 0, h⟩ (by dsimp only; omega) (by dsimp only; omega) (by dsimp only; omega)]
    dsimp only
    rw [acc_A, pay2, point m c ⟨8 * r + 0, h⟩ p q P (by dsimp only; omega), Finset.sum_range_one]
    rw [show (8 * r + 0) % 8 = 0 from by omega]
  | j + 1, hj, h => by
    rw [outsAt0_B m c ⟨8 * r + (j + 1), h⟩ (by dsimp only; omega) (by dsimp only; omega) (by dsimp only; omega)]
    dsimp only
    rw [acc_B, pay3, point m c ⟨8 * r + (j + 1), h⟩ p q P (by dsimp only; omega), Finset.sum_range_succ _ (j + 1)]
    rw [show (8 * r + (j + 1)) % 8 = j + 1 from by omega]
    exact congrArg (· + _) (acc_eq r p q P hP j (by omega) (by omega))

/-- What the output holds after the last point of a run: the whole sum. -/
theorem out_eq (r : ℕ) (p : Fin 1024) (q : Fin 1024) (P : Fin 2048) (hP : P.val = 1024 * r + p.val) (h : 8 * r + 7 < cfg0.N) :
    (outsAt0 m c (8 * r + 7) h).1 (ix2 p q) = ∑ k : Fin 8192, term m c P q k := by
  rw [outsAt0_C m c ⟨8 * r + 7, h⟩ (by dsimp only; omega) (by dsimp only; omega) (by dsimp only; omega)]
  dsimp only
  rw [out_C, pay3, point m c ⟨8 * r + 7, h⟩ p q P (by dsimp only; omega), ← sum_blocks 1024 8 rfl (term m c P q), Finset.sum_range_succ _ 7]
  rw [show (8 * r + 7) % 8 = 7 from by omega]
  exact congrArg (· + _) (acc_eq m c r p q P hP 6 (by omega) (by omega))

/-- The array after the run. -/
theorem array_eq (P : Fin 2048) (q : Fin 1024) : G2 m c (ix2 P q) = ∑ k : Fin 8192, term m c P q k := by
  have hN : cfg0.N = 16 := N_0
  have hr : run2Of (ix2 P q) = P.val / 1024 := by
    show 1 * (P.val / 1024 - 0) + 1 * (q.val / 1024 - 0) = _; omega
  have hl : loc2Of (ix2 P q) = ix2 (⟨P.val % 1024, Nat.mod_lt _ (by decide)⟩ : Fin 1024) q := by
    funext a; apply Fin.ext
    match a with
    | ⟨0, _⟩ => rfl
    | ⟨1, _⟩ => show q.val % 1024 = q.val; omega
  have hp : pt2Of (ix2 P q) < cfg0.N := by show 8 * run2Of (ix2 P q) + 7 < _; rw [hr, hN]; omega
  unfold G2
  rw [dif_pos hp, ← outsAt0_sweep m c _ hp, hl]
  exact out_eq m c (run2Of (ix2 P q)) _ q P (by rw [hr]; dsimp only; omega) hp

/-! ## The reference -/

/-- The reference's product, entry by entry. -/
theorem ref_eq (s : FVec Ideal Cert.OddOutGradRefIdeal.S8192x2048 .bf16) (g : FVec Ideal Cert.OddOutGradRefIdeal.S8192x1024 .bf16) (P : Fin 2048) (q : Fin 1024) :
    transpose Cert.OddOutGradRefIdeal.S2048x1024 [1, 0] (Host.dotGeneral Cert.OddOutGradRefIdeal.dot_S8192x1024_S8192x2048_S1024x2048_0_0_1_1_n_n none
        (extf .f32 g Cert.OddOutGradRefIdeal.Facts₀.bitsLt_bf16_f32) (extf .f32 s Cert.OddOutGradRefIdeal.Facts₀.bitsLt_bf16_f32)) Cert.OddOutGradRefIdeal.Facts₀.transposes_S1024x2048_S2048x1024_1_0 (ix2 P q)
      = ∑ k : Fin 8192, s (ix2 k P) * g (ix2 k q) := by
  pointwise
  exact Finset.sum_congr rfl fun k _ => mul_comm _ _

theorem reference_frame : Cert.quiescent_OddOutGradRefIdeal := by
  intro m ρ _
  exact (θ_run Cert.OddOutGradRefIdeal.defs _ _).mono
    (fun r h => ⟨fun c => (h c).2, sem_eq_zero_of_no_sems (by decide) r.2⟩) (Cert.OddOutGradRefIdeal.Value.run (F := Ideal) m ρ)

/-- The kernel and the reference end with the same gradient. -/
theorem value : Cert.algebraic_OddOutGradIdeal_OddOutGradRefIdeal := by
  intro m g m' g' _ ha
  refine ⟨G2 m, run m g, ?_⟩
  refine (θ_run Cert.OddOutGradRefIdeal.defs _ _).mono (fun r H c => ⟨(H c).1.trans ?_, (H c).2⟩) (Cert.OddOutGradRefIdeal.Value.run (F := Ideal) m' g')
  rw [(ha c).1, (ha c).2]
  funext j
  idx_vars j
  rw [ref_eq, array_eq]
  rfl

end Cert.Proof.OddOutGrad

end
-- ==== Proof.OddOutBack.lean ====
/-
  The gradient of the odd output projection's operand: the kernel's product, tile by tile, is the product of the
  whole incoming gradient with the transposed weights.
-/
module

public import proofs.«01_k».proof.Defs
public import proofs.«01_k».proof.Proof.Products
public import proofs.«01_k».proof.Proof.Gen.OddOutBackIdeal.Value
public import proofs.«01_k».proof.Proof.Gen.OddOutBackRefIdeal.Run

@[expose] public section

set_option maxRecDepth 16384
set_option pp.maxSteps 800

noncomputable section

namespace Cert.Proof.OddOutBack

open Cert.OddOutBackIdeal Cert.OddOutBackIdeal.Gen Cert.OddOutBackIdeal.Value
open Idealize.ShloMosaic Idealize.ShloMosaic.TcCoe Idealize.ShloMosaic.Tactic Idealize.SL.Sem

theorem hz : (![0, 0] : Fin 2 → Nat) = fun _ => 0 := funext fun a => by fin_cases a <;> rfl

/-- A point leaves its tile's product in the output. -/
theorem out_eq {F : FTy → Type} [FloatOps F] (x : Vec F S1024x1024 .bf16) (y : Vec F S1024x1024 .bf16) : out0_2 x y = k0_pay1 x y := by
  unfold out0_2
  rw [View.canon_unit_zero hz, View.ld_unit_zero (S := S1024x1024) hz, View.ld_unit_zero (S := S1024x1024) hz]

/-- A tile's product. -/
theorem pay1 (x : Vec Ideal S1024x1024 .bf16) (y : Vec Ideal S1024x1024 .bf16) (p : Fin 1024) (q : Fin 1024) :
    k0_pay1 x y (ix2 p q) = ∑ k : Fin 1024, x (ix2 p k) * y (ix2 q k) := by
  pointwise [k0_pay1]

variable (m : (ℓ : Loc nD τ sig) → Buf (Elt Ideal) ℓ) (c : Dev nD)

/-- The two arguments. -/
abbrev G : S8192x1024.Idx → EReal := m ((c : Thread nD τ).loc main_arg0)
abbrev W : S2048x1024.Idx → EReal := m ((c : Thread nD τ).loc main_arg1)

/-- The product of the whole arguments. -/
def prod : S8192x2048.Idx → EReal := fun j => ∑ k : Fin 1024, G m c (ix2 (j 0) k) * W m c (ix2 (j 1) k)

theorem index0 : ∀ t : Fin cfg0.N, win0_0.index t 0 = t.val / 2 ∧ win0_0.index t 1 = 0 :=
  (by decide +kernel : ∀ t : Fin grid0.N, _)
theorem index1 : ∀ t : Fin cfg0.N, win0_1.index t 0 = t.val % 2 ∧ win0_1.index t 1 = 0 :=
  (by decide +kernel : ∀ t : Fin grid0.N, _)
theorem index2 : ∀ t : Fin cfg0.N, win0_2.index t 0 = t.val / 2 ∧ win0_2.index t 1 = t.val % 2 :=
  (by decide +kernel : ∀ t : Fin grid0.N, _)
theorem flush2 : ∀ t : Fin cfg0.N, (cfg0.win 2).flush t = true :=
  (by decide +kernel : ∀ t : Fin grid0.N, win0_2.flush t = true)

theorem block0 (t : Fin cfg0.N) (p : Fin 1024) (k : Fin 1024) (P : Fin 8192) (hP : P.val = 1024 * (t.val / 2) + p.val) :
    (iblk m c 0 t : Vec Ideal S1024x1024 .bf16) (ix2 p k) = G m c (ix2 P k) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * p.val = P.val; rw [(index0 t).1]; omega
  | ⟨1, _⟩ => show win0_0.index t 1 * 1024 + 1 * k.val = k.val; rw [(index0 t).2]; omega

theorem block1 (t : Fin cfg0.N) (q : Fin 1024) (k : Fin 1024) (Q : Fin 2048) (hQ : Q.val = 1024 * (t.val % 2) + q.val) :
    (iblk m c 1 t : Vec Ideal S1024x1024 .bf16) (ix2 q k) = W m c (ix2 Q k) := by
  unfold iblk
  rw [View.read_apply]
  show V m c main_arg1 _ = m (c.tc.loc main_arg1) _
  rw [V_main_arg1]
  congr 1
  funext a
  apply Fin.ext
  match a with
  | ⟨0, _⟩ => show win0_1.index t 0 * 1024 + 1 * q.val = Q.val; rw [(index1 t).1]; omega
  | ⟨1, _⟩ => show win0_1.index t 1 * 1024 + 1 * k.val = k.val; rw [(index1 t).2]; omega

/-- A grid point writes back its tile of the whole product. -/
theorem flushed_eq (t : Fin cfg0.N) : (dats m 0 c).flushed 2 t = ((cfg0.win 2).blk t).view.read (Elt Ideal) (prod m c) := by
  rw [flushed2, out_eq]
  have ht : t.val < 16 := lt_of_lt_of_eq t.isLt N_0
  funext y
  rw [View.read_apply]
  have h0 : (y 0).val < 1024 := (y 0).isLt
  have h1 : (y 1).val < 1024 := (y 1).isLt
  have e0 : (((cfg0.win 2).blk t).view.emb y 0).val = 1024 * (t.val / 2) + (y 0).val := by
    show win0_2.index t 0 * 1024 + 1 * (y 0).val = _; rw [(index2 t).1]; omega
  have e1 : (((cfg0.win 2).blk t).view.emb y 1).val = 1024 * (t.val % 2) + (y 1).val := by
    show win0_2.index t 1 * 1024 + 1 * (y 1).val = _; rw [(index2 t).2]; omega
  show k0_pay1 (iblk m c 0 t) (iblk m c 1 t) ((cfg0.win 2).xinj (grid0.coords t) y) = prod m c (((cfg0.win 2).blk t).view.emb y)
  rw [show (cfg0.win 2).xinj (grid0.coords t) y = ix2 (⟨(y 0).val, h0⟩ : Fin 1024) (⟨(y 1).val, h1⟩ : Fin 1024) from by
    funext a; apply Fin.ext
    match a with
    | ⟨0, _⟩ => rfl
    | ⟨1, _⟩ => rfl]
  rw [pay1]
  refine Finset.sum_congr rfl fun k _ => ?_
  exact congrArg₂ (· * ·) (block0 m c t _ k _ e0) (block1 m c t _ k _ e1)

/-- The tiles fill the array. -/
theorem final_eq : (dats m 0 c).arrAt 2 cfg0.N = prod m c :=
  (dats m 0 c).arrAt_eq_of_cover 2 _ (fun t _ => flushed_eq m c t) fun i => by
    have hN : cfg0.N = 16 := N_0
    have h0 : (i 0).val < 8192 := (i 0).isLt
    have h1 : (i 1).val < 2048 := (i 1).isLt
    have ht : 2 * ((i 0).val / 1024) + (i 1).val / 1024 < cfg0.N := by omega
    refine ⟨⟨_, ht⟩, flush2 _, ?_⟩
    show i ∈ ((View.whole main_v0).slice (win0_2.rect ⟨_, ht⟩)).set
    rw [View.set_slice_whole, Rect.mem_set_unit]
    intro a
    match a with
    | ⟨0, _⟩ =>
      show win0_2.index ⟨_, ht⟩ 0 * 1024 ≤ (i 0).val ∧ (i 0).val < win0_2.index ⟨_, ht⟩ 0 * 1024 + 1024
      rw [(index2 _).1]; dsimp only; omega
    | ⟨1, _⟩ =>
      show win0_2.index ⟨_, ht⟩ 1 * 1024 ≤ (i 1).val ∧ (i 1).val < win0_2.index ⟨_, ht⟩ 1 * 1024 + 1024
      rw [(index2 _).2]; dsimp only; omega

/-! ## The reference -/

/-- The reference's product, entry by entry. -/
theorem ref_eq (g : FVec Ideal Cert.OddOutBackRefIdeal.S8192x1024 .bf16) (w : FVec Ideal Cert.OddOutBackRefIdeal.S2048x1024 .bf16) (P : Fin 8192) (Q : Fin 2048) :
    truncf .bf16 (Host.dotGeneral Cert.OddOutBackRefIdeal.dot_S8192x1024_S2048x1024_S8192x2048_1_1_0_0_n_n none
        (extf .f32 g Cert.OddOutBackRefIdeal.Facts₀.bitsLt_bf16_f32) (extf .f32 w Cert.OddOutBackRefIdeal.Facts₀.bitsLt_bf16_f32)) Cert.OddOutBackRefIdeal.Facts₀.bitsLt_bf16_f32 (ix2 P Q)
      = ∑ k : Fin 1024, g (ix2 P k) * w (ix2 Q k) := by
  pointwise

theorem reference_frame : Cert.quiescent_OddOutBackRefIdeal := by
  intro m ρ _
  exact (θ_run Cert.OddOutBackRefIdeal.defs _ _).mono
    (fun r h => ⟨fun c => (h c).2, sem_eq_zero_of_no_sems (by decide) r.2⟩) (Cert.OddOutBackRefIdeal.Value.run (F := Ideal) m ρ)

/-- The kernel and the reference end with the same gradient. -/
theorem value : Cert.algebraic_OddOutBackIdeal_OddOutBackRefIdeal := by
  intro m g m' g' _ ha
  refine ⟨prod m, (θ_run Cert.OddOutBackIdeal.defs _ _).mono (fun r H c => ⟨(H c).1.trans (final_eq m c), (H c).2⟩) (run_blocks m g), ?_⟩
  refine (θ_run Cert.OddOutBackRefIdeal.defs _ _).mono (fun r H c => ⟨(H c).1.trans ?_, (H c).2⟩) (Cert.OddOutBackRefIdeal.Value.run (F := Ideal) m' g')
  rw [(ha c).1, (ha c).2]
  funext j
  idx_vars j
  rw [ref_eq]
  rfl

end Cert.Proof.OddOutBack

end
-- ==== Proof.OddZGrad.lean ====
/-
  The gradient of the gate columns of the odd layer's input projection: the kernel's blocked product is the transposed
  product of the whole activations with the whole incoming gradient.
-/
module

public import proofs.«01_k».proof.Defs
public import proofs.«01_k».proof.Proof.Products
public import proofs.«01_k».proof.Proof.Gen.OddZGradIdeal.Value
public import proofs.«01_k».proof.Proof.Gen.OddZGradRefIdeal.Run

@[expose] public section

set_option maxRecDepth 16384
set_option pp.maxSteps 800

noncomputable section

namespace Cert.Proof.OddZGrad

open Cert.OddZGradIdeal Cert.OddZGradIdeal.Gen Cert.OddZGradIdeal.Value
open Idealize.ShloMosaic Idealize.ShloMosaic.TcCoe Idealize.ShloMosaic.Tactic Idealize.SL.Sem
open Cert.Proof.Products

theorem hz : (![0, 0] : Fin 2 → Nat) = fun _ => 0 := funext fun a => by fin_cases a <;> rfl

section
variable {F : FTy → Type} [FloatOps F]
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole)
  (x : Vec F S1024x1024 .bf16) (y : Vec F S1024x1024 .bf16) (acc : Vec F S1024x1024 .f32)

/-- The first block of a run leaves its product in the accumulator. -/
theorem acc_A (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz]
  simp only [View.readAt_eq_ld, h3.read_unread, h4.read_unread, View.ld_unit_zero (S := S1024x1024) hz, View.ld_unit_zero (S := S1024x1024) hz]

/-- A middle block adds its product to the accumulator. -/
theorem acc_B (hc0 : ¬cond0_0 i) (hc1 : cond0_1 i) (hc2 : ¬cond0_2 i) :
    sout0_B_0 c i a3 h3 a4 h4 a5 h5 a6 h6 hc0 hc1 hc2 x y acc = k0_pay3 x y acc := by
  unfold sout0_B_0
  rw [View.read_writes_eq_canon _ _ _ (scover0_B_0 c i a3 h3 a4 h4 a5 h5 a6 h6 hc0 hc1 hc2 x y acc)]
  unfold kernelRun0_B
  dsimp only
  rw [View.canon_unit_zero hz]
  simp only [View.readAt_eq_ld, h3.read_unread, h4.read_unread, h6.read_unread, View.ld_unit_zero (S := S1024x1024) hz, View.ld_unit_zero (S := S1024x1024) hz, View.ld_unit_zero (S := S1024x1024) hz]

/-- The last block of a run leaves the accumulator with its product added in the output. -/
theorem out_C (hc0 : ¬cond0_0 i) (hc1 : cond0_1 i) (hc2 : cond0_2 i) :
    out0_C_2 c i a3 h3 a4 h4 a5 h5 a6 h6 hc0 hc1 hc2 x y acc = k0_pay3 x y acc := by
  unfold out0_C_2
  rw [View.read_writes_eq_canon _ _ _ (cover0_C_2 c i a3 h3 a4 h4 a5 h5 a6 h6 hc0 hc1 hc2 x y acc)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz, View.ld_unit_zero (S := S1024x1024) hz, View.ld_unit_zero (S := S1024x1024) hz]

end

/-! ## At the extended reals -/

/-- A block's product. -/
theorem pay1 (x : Vec Ideal S1024x1024 .bf16) (y : Vec Ideal S1024x1024 .bf16) (p : Fin 1024) (q : Fin 1024) :
    k0_pay1 x y (ix2 p q) = ∑ k : Fin 1024, x (ix2 k p) * y (ix2 k q) := by
  pointwise [k0_pay1]

theorem pay2 (x : Vec Ideal S1024x1024 .bf16) (y : Vec Ideal S1024x1024 .bf16) : k0_pay2 x y = k0_pay1 x y := by
  unfold k0_pay2; simp only [shapeCast_self]

theorem pay3 (x : Vec Ideal S1024x1024 .bf16) (y : Vec Ideal S1024x1024 .bf16) (acc : Vec Ideal S1024x1024 .f32) (j : S1024x1024.Idx) :
    k0_pay3 x y acc j = acc j + k0_pay1 x y j := by
  unfold k0_pay3; simp only [shapeCast_self]; rfl

variable (m : (ℓ : Loc nD τ sig) → Buf (Elt Ideal) ℓ) (c : Dev nD)

/-- The two arguments. -/
abbrev S : S8192x1024.Idx → EReal := m ((c : Thread nD τ).loc main_arg0)
abbrev G : S8192x2048.Idx → EReal := m ((c : Thread nD τ).loc main_arg1)

/-- The terms of the product's entry `p`, `q`. -/
def term (p : Fin 1024) (q : Fin 2048) (k : Fin 8192) : EReal := S m c (ix2 k p) * G m c (ix2 k q)

theorem index0 : ∀ t : Fin cfg0.N, win0_0.index t 0 = t.val % 8 ∧ win0_0.index t 1 = 0 :=
  (by decide +kernel : ∀ t : Fin grid0.N, _)
theorem index1 : ∀ t : Fin cfg0.N, win0_1.index t 0 = t.val % 8 ∧ win0_1.index t 1 = t.val / 8 :=
  (by decide +kernel : ∀ t : Fin grid0.N, _)

theorem block0 (t : Fin cfg0.N) (k : Fin 1024) (p : Fin 1024) (K : Fin 8192) (hK : K.val = 1024 * (t.val % 8) + k.val) :
    (iblk m c 0 t : Vec Ideal S1024x1024 .bf16) (ix2 k p) = S m c (ix2 K p) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * k.val = K.val; rw [(index0 t).1]; omega
  | ⟨1, _⟩ => show win0_0.index t 1 * 1024 + 1 * p.val = p.val; rw [(index0 t).2]; omega

theorem block1 (t : Fin cfg0.N) (k : Fin 1024) (q : Fin 1024) (K : Fin 8192) (Q : Fin 2048)
    (hK : K.val = 1024 * (t.val % 8) + k.val) (hQ : Q.val = 1024 * (t.val / 8) + q.val) :
    (iblk m c 1 t : Vec Ideal S1024x1024 .bf16) (ix2 k q) = G m c (ix2 K Q) := by
  unfold iblk
  rw [View.read_apply]
  show V m c main_arg1 _ = m (c.tc.loc main_arg1) _
  rw [V_main_arg1]
  congr 1
  funext a
  apply Fin.ext
  match a with
  | ⟨0, _⟩ => show win0_1.index t 0 * 1024 + 1 * k.val = K.val; rw [(index1 t).1]; omega
  | ⟨1, _⟩ => show win0_1.index t 1 * 1024 + 1 * q.val = Q.val; rw [(index1 t).2]; omega

/-- A grid point's product is its block of the terms. -/
theorem point (t : Fin cfg0.N) (p : Fin 1024) (q : Fin 1024) (Q : Fin 2048) (hQ : Q.val = 1024 * (t.val / 8) + q.val) :
    k0_pay1 (iblk m c 0 t : Vec Ideal S1024x1024 .bf16) (iblk m c 1 t) (ix2 p q)
      = ∑ k : Fin 1024, ext (term m c p Q) (1024 * (t.val % 8) + k.val) := by
  rw [pay1]
  refine Finset.sum_congr rfl fun k _ => ?_
  have hk : 1024 * (t.val % 8) + k.val < 8192 := by omega
  rw [ext_of_lt _ hk, term, block0 m c t k p ⟨_, hk⟩ rfl, block1 m c t k q ⟨_, hk⟩ Q rfl hQ]

/-- What the accumulator holds after a point before the last of its run: the blocks so far. -/
theorem acc_eq (r : ℕ) (p : Fin 1024) (q : Fin 1024) (Q : Fin 2048) (hQ : Q.val = 1024 * r + q.val) :
    ∀ (j : ℕ) (hj : j < 7) (h : 8 * r + j < cfg0.N), (outsAt0 m c (8 * r + j) h).2 (ix2 p q)
      = ∑ s ∈ Finset.range (j + 1), ∑ k : Fin 1024, ext (term m c p Q) (1024 * s + k.val)
  | 0, hj, h => by
    rw [outsAt0_A m c ⟨8 * r + 0, h⟩ (by dsimp only; omega) (by dsimp only; omega) (by dsimp only; omega)]
    dsimp only
    rw [acc_A, pay2, point m c ⟨8 * r + 0, h⟩ p q Q (by dsimp only; omega), Finset.sum_range_one]
    rw [show (8 * r + 0) % 8 = 0 from by omega]
  | j + 1, hj, h => by
    rw [outsAt0_B m c ⟨8 * r + (j + 1), h⟩ (by dsimp only; omega) (by dsimp only; omega) (by dsimp only; omega)]
    dsimp only
    rw [acc_B, pay3, point m c ⟨8 * r + (j + 1), h⟩ p q Q (by dsimp only; omega), Finset.sum_range_succ _ (j + 1)]
    rw [show (8 * r + (j + 1)) % 8 = j + 1 from by omega]
    exact congrArg (· + _) (acc_eq r p q Q hQ j (by omega) (by omega))

/-- What the output holds after the last point of a run: the whole sum. -/
theorem out_eq (r : ℕ) (p : Fin 1024) (q : Fin 1024) (Q : Fin 2048) (hQ : Q.val = 1024 * r + q.val) (h : 8 * r + 7 < cfg0.N) :
    (outsAt0 m c (8 * r + 7) h).1 (ix2 p q) = ∑ k : Fin 8192, term m c p Q k := by
  rw [outsAt0_C m c ⟨8 * r + 7, h⟩ (by dsimp only; omega) (by dsimp only; omega) (by dsimp only; omega)]
  dsimp only
  rw [out_C, pay3, point m c ⟨8 * r + 7, h⟩ p q Q (by dsimp only; omega), ← sum_blocks 1024 8 rfl (term m c p Q), Finset.sum_range_succ _ 7]
  rw [show (8 * r + 7) % 8 = 7 from by omega]
  exact congrArg (· + _) (acc_eq m c r p q Q hQ 6 (by omega) (by omega))

/-- The array after the run. -/
theorem array_eq (p : Fin 1024) (Q : Fin 2048) : G2 m c (ix2 p Q) = ∑ k : Fin 8192, term m c p Q k := by
  have hN : cfg0.N = 16 := N_0
  have hr : run2Of (ix2 p Q) = Q.val / 1024 := by
    show 2 * (p.val / 1024 - 0) + 1 * (Q.val / 1024 - 0) = _; omega
  have hl : loc2Of (ix2 p Q) = ix2 p (⟨Q.val % 1024, Nat.mod_lt _ (by decide)⟩ : Fin 1024) := by
    funext a; apply Fin.ext
    match a with
    | ⟨0, _⟩ => show p.val % 1024 = p.val; omega
    | ⟨1, _⟩ => rfl
  have hp : pt2Of (ix2 p Q) < cfg0.N := by show 8 * run2Of (ix2 p Q) + 7 < _; rw [hr, hN]; omega
  unfold G2
  rw [dif_pos hp, ← outsAt0_sweep m c _ hp, hl]
  exact out_eq m c (run2Of (ix2 p Q)) p _ Q (by rw [hr]; dsimp only; omega) hp

/-! ## The reference -/

/-- The reference's product, entry by entry. -/
theorem ref_eq (s : FVec Ideal Cert.OddZGradRefIdeal.S8192x1024 .bf16) (g : FVec Ideal Cert.OddZGradRefIdeal.S8192x2048 .bf16) (p : Fin 1024) (Q : Fin 2048) :
    transpose Cert.OddZGradRefIdeal.S1024x2048 [1, 0] (Host.dotGeneral Cert.OddZGradRefIdeal.dot_S8192x2048_S8192x1024_S2048x1024_0_0_1_1_n_n none
        (extf .f32 g Cert.OddZGradRefIdeal.Facts₀.bitsLt_bf16_f32) (extf .f32 s Cert.OddZGradRefIdeal.Facts₀.bitsLt_bf16_f32)) Cert.OddZGradRefIdeal.Facts₀.transposes_S2048x1024_S1024x2048_1_0 (ix2 p Q)
      = ∑ k : Fin 8192, s (ix2 k p) * g (ix2 k Q) := by
  pointwise
  exact Finset.sum_congr rfl fun k _ => mul_comm _ _

theorem reference_frame : Cert.quiescent_OddZGradRefIdeal := by
  intro m ρ _
  exact (θ_run Cert.OddZGradRefIdeal.defs _ _).mono
    (fun r h => ⟨fun c => (h c).2, sem_eq_zero_of_no_sems (by decide) r.2⟩) (Cert.OddZGradRefIdeal.Value.run (F := Ideal) m ρ)

/-- The kernel and the reference end with the same gradient. -/
theorem value : Cert.algebraic_OddZGradIdeal_OddZGradRefIdeal := by
  intro m g m' g' _ ha
  refine ⟨G2 m, run m g, ?_⟩
  refine (θ_run Cert.OddZGradRefIdeal.defs _ _).mono (fun r H c => ⟨(H c).1.trans ?_, (H c).2⟩) (Cert.OddZGradRefIdeal.Value.run (F := Ideal) m' g')
  rw [(ha c).1, (ha c).2]
  funext j
  idx_vars j
  rw [ref_eq, array_eq]
  rfl

end Cert.Proof.OddZGrad

end
-- ==== Proof.OddZBack.lean ====
/-
  The gradient of the odd input projection's operand, from the gate columns: the kernel's product, tile by tile, added to the scaled gradient it takes, is the product of the
  whole incoming gradient with the transposed weights, so added.
-/
module

public import proofs.«01_k».proof.Defs
public import proofs.«01_k».proof.Proof.Products
public import proofs.«01_k».proof.Proof.Gen.OddZBackIdeal.Value
public import proofs.«01_k».proof.Proof.Gen.OddZBackRefIdeal.Run

@[expose] public section

set_option maxRecDepth 16384
set_option pp.maxSteps 800

noncomputable section

namespace Cert.Proof.OddZBack

open Cert.OddZBackIdeal Cert.OddZBackIdeal.Gen Cert.OddZBackIdeal.Value
open Idealize.ShloMosaic Idealize.ShloMosaic.TcCoe Idealize.ShloMosaic.Tactic Idealize.SL.Sem

theorem hz : (![0, 0] : Fin 2 → Nat) = fun _ => 0 := funext fun a => by fin_cases a <;> rfl

/-- A point leaves its tile's product, with the tile it adds, in the output. -/
theorem out_eq {F : FTy → Type} [FloatOps F] (x : Vec F S1024x2048 .bf16) (y : Vec F S1024x2048 .bf16) (d : Vec F S1024x1024 .f32) : out0_3 x y d = k0_pay1 x y d := by
  unfold out0_3
  rw [View.canon_unit_zero hz]
  simp only [View.ld_unit_zero (S := S1024x2048) hz, View.ld_unit_zero (S := S1024x2048) hz, View.ld_unit_zero (S := S1024x1024) hz]

/-- The scale of the added gradient. -/
def scale : EReal := Ideal.ofBits .f32 0x3FB504F3#32

/-- A tile's product, with the tile it adds. -/
theorem pay1 (x : Vec Ideal S1024x2048 .bf16) (y : Vec Ideal S1024x2048 .bf16) (d : Vec Ideal S1024x1024 .f32) (p : Fin 1024) (q : Fin 1024) :
    k0_pay1 x y d (ix2 p q) = scale * d (ix2 p q) + ∑ k : Fin 2048, x (ix2 p k) * y (ix2 q k) := by
  pointwise [k0_pay1]
  exact add_comm _ _

variable (m : (ℓ : Loc nD τ sig) → Buf (Elt Ideal) ℓ) (c : Dev nD)

/-- The three arguments. -/
abbrev G : S8192x2048.Idx → EReal := m ((c : Thread nD τ).loc main_arg0)
abbrev W : S1024x2048.Idx → EReal := m ((c : Thread nD τ).loc main_arg1)
abbrev D : S8192x1024.Idx → EReal := m ((c : Thread nD τ).loc main_arg2)

/-- The product of the whole arguments, with the array added. -/
def prod : S8192x1024.Idx → EReal := fun j => scale * D m c (ix2 (j 0) (j 1)) + ∑ k : Fin 2048, G m c (ix2 (j 0) k) * W m c (ix2 (j 1) k)

theorem index0 : ∀ t : Fin cfg0.N, win0_0.index t 0 = t.val / 1 ∧ win0_0.index t 1 = 0 :=
  (by decide +kernel : ∀ t : Fin grid0.N, _)
theorem index1 : ∀ t : Fin cfg0.N, win0_1.index t 0 = t.val % 1 ∧ win0_1.index t 1 = 0 :=
  (by decide +kernel : ∀ t : Fin grid0.N, _)
theorem index2 : ∀ t : Fin cfg0.N, win0_2.index t 0 = t.val / 1 ∧ win0_2.index t 1 = t.val % 1 :=
  (by decide +kernel : ∀ t : Fin grid0.N, _)
theorem index3 : ∀ t : Fin cfg0.N, win0_3.index t 0 = t.val / 1 ∧ win0_3.index t 1 = t.val % 1 :=
  (by decide +kernel : ∀ t : Fin grid0.N, _)
theorem flush3 : ∀ t : Fin cfg0.N, (cfg0.win 3).flush t = true :=
  (by decide +kernel : ∀ t : Fin grid0.N, win0_3.flush t = true)

theorem block0 (t : Fin cfg0.N) (p : Fin 1024) (k : Fin 2048) (P : Fin 8192) (hP : P.val = 1024 * (t.val / 1) + p.val) :
    (iblk m c 0 t : Vec Ideal S1024x2048 .bf16) (ix2 p k) = G m c (ix2 P k) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * p.val = P.val; rw [(index0 t).1]; omega
  | ⟨1, _⟩ => show win0_0.index t 1 * 2048 + 1 * k.val = k.val; rw [(index0 t).2]; omega

theorem block1 (t : Fin cfg0.N) (q : Fin 1024) (k : Fin 2048) (Q : Fin 1024) (hQ : Q.val = 1024 * (t.val % 1) + q.val) :
    (iblk m c 1 t : Vec Ideal S1024x2048 .bf16) (ix2 q k) = W m c (ix2 Q k) := by
  unfold iblk
  rw [View.read_apply]
  show V m c main_arg1 _ = m (c.tc.loc main_arg1) _
  rw [V_main_arg1]
  congr 1
  funext a
  apply Fin.ext
  match a with
  | ⟨0, _⟩ => show win0_1.index t 0 * 1024 + 1 * q.val = Q.val; rw [(index1 t).1]; omega
  | ⟨1, _⟩ => show win0_1.index t 1 * 2048 + 1 * k.val = k.val; rw [(index1 t).2]; omega

theorem block2 (t : Fin cfg0.N) (p : Fin 1024) (q : Fin 1024) (P : Fin 8192) (Q : Fin 1024)
    (hP : P.val = 1024 * (t.val / 1) + p.val) (hQ : Q.val = 1024 * (t.val % 1) + q.val) :
    (iblk m c 2 t : Vec Ideal S1024x1024 .f32) (ix2 p q) = D m c (ix2 P Q) := by
  unfold iblk
  rw [View.read_apply]
  show V m c main_arg2 _ = m (c.tc.loc main_arg2) _
  rw [V_main_arg2]
  congr 1
  funext a
  apply Fin.ext
  match a with
  | ⟨0, _⟩ => show win0_2.index t 0 * 1024 + 1 * p.val = P.val; rw [(index2 t).1]; omega
  | ⟨1, _⟩ => show win0_2.index t 1 * 1024 + 1 * q.val = Q.val; rw [(index2 t).2]; omega

/-- A grid point writes back its tile of the whole product. -/
theorem flushed_eq (t : Fin cfg0.N) : (dats m 0 c).flushed 3 t = ((cfg0.win 3).blk t).view.read (Elt Ideal) (prod m c) := by
  rw [flushed3, out_eq]
  have ht : t.val < 8 := lt_of_lt_of_eq t.isLt N_0
  funext y
  rw [View.read_apply]
  have h0 : (y 0).val < 1024 := (y 0).isLt
  have h1 : (y 1).val < 1024 := (y 1).isLt
  have e0 : (((cfg0.win 3).blk t).view.emb y 0).val = 1024 * (t.val / 1) + (y 0).val := by
    show win0_3.index t 0 * 1024 + 1 * (y 0).val = _; rw [(index3 t).1]; omega
  have e1 : (((cfg0.win 3).blk t).view.emb y 1).val = 1024 * (t.val % 1) + (y 1).val := by
    show win0_3.index t 1 * 1024 + 1 * (y 1).val = _; rw [(index3 t).2]; omega
  show k0_pay1 (iblk m c 0 t) (iblk m c 1 t) (iblk m c 2 t) ((cfg0.win 3).xinj (grid0.coords t) y) = prod m c (((cfg0.win 3).blk t).view.emb y)
  rw [show (cfg0.win 3).xinj (grid0.coords t) y = ix2 (⟨(y 0).val, h0⟩ : Fin 1024) (⟨(y 1).val, h1⟩ : Fin 1024) from by
    funext a; apply Fin.ext
    match a with
    | ⟨0, _⟩ => rfl
    | ⟨1, _⟩ => rfl]
  rw [pay1]
  refine congrArg₂ (· + ·) (congrArg (scale * ·) (block2 m c t _ _ _ _ e0 e1)) (Finset.sum_congr rfl fun k _ => ?_)
  exact congrArg₂ (· * ·) (block0 m c t _ k _ e0) (block1 m c t _ k _ e1)

/-- The tiles fill the array. -/
theorem final_eq : (dats m 0 c).arrAt 3 cfg0.N = prod m c :=
  (dats m 0 c).arrAt_eq_of_cover 3 _ (fun t _ => flushed_eq m c t) fun i => by
    have hN : cfg0.N = 8 := N_0
    have h0 : (i 0).val < 8192 := (i 0).isLt
    have h1 : (i 1).val < 1024 := (i 1).isLt
    have ht : 1 * ((i 0).val / 1024) + (i 1).val / 1024 < cfg0.N := by omega
    refine ⟨⟨_, ht⟩, flush3 _, ?_⟩
    show i ∈ ((View.whole main_v0).slice (win0_3.rect ⟨_, ht⟩)).set
    rw [View.set_slice_whole, Rect.mem_set_unit]
    intro a
    match a with
    | ⟨0, _⟩ =>
      show win0_3.index ⟨_, ht⟩ 0 * 1024 ≤ (i 0).val ∧ (i 0).val < win0_3.index ⟨_, ht⟩ 0 * 1024 + 1024
      rw [(index3 _).1]; dsimp only; omega
    | ⟨1, _⟩ =>
      show win0_3.index ⟨_, ht⟩ 1 * 1024 ≤ (i 1).val ∧ (i 1).val < win0_3.index ⟨_, ht⟩ 1 * 1024 + 1024
      rw [(index3 _).2]; dsimp only; omega

/-! ## The reference -/

/-- The reference's sum, entry by entry. -/
theorem ref_eq (g : FVec Ideal Cert.OddZBackRefIdeal.S8192x2048 .bf16) (w : FVec Ideal Cert.OddZBackRefIdeal.S1024x2048 .bf16)
    (d : FVec Ideal Cert.OddZBackRefIdeal.S8192x1024 .f32) (P : Fin 8192) (Q : Fin 1024) :
    (addf (mulf (broadcastInDim Cert.OddZBackRefIdeal.S8192x1024 ![] Cert.OddZBackRefIdeal.Facts₀.bcast_S_S8192x1024 (constant Cert.OddZBackRefIdeal.S_ .f32 0x3FB504F3#32)) d) (Host.dotGeneral Cert.OddZBackRefIdeal.dot_S8192x2048_S1024x2048_S8192x1024_1_1_0_0_n_n none
        (extf .f32 g Cert.OddZBackRefIdeal.Facts₀.bitsLt_bf16_f32) (extf .f32 w Cert.OddZBackRefIdeal.Facts₀.bitsLt_bf16_f32))) (ix2 P Q)
      = scale * d (ix2 P Q) + ∑ k : Fin 2048, g (ix2 P k) * w (ix2 Q k) := by
  pointwise
  rfl

theorem reference_frame : Cert.quiescent_OddZBackRefIdeal := by
  intro m ρ _
  exact (θ_run Cert.OddZBackRefIdeal.defs _ _).mono
    (fun r h => ⟨fun c => (h c).2, sem_eq_zero_of_no_sems (by decide) r.2⟩) (Cert.OddZBackRefIdeal.Value.run (F := Ideal) m ρ)

/-- The kernel and the reference end with the same gradient. -/
theorem value : Cert.algebraic_OddZBackIdeal_OddZBackRefIdeal := by
  intro m g m' g' _ ha
  refine ⟨prod m, (θ_run Cert.OddZBackIdeal.defs _ _).mono (fun r H c => ⟨(H c).1.trans (final_eq m c), (H c).2⟩) (run_blocks m g), ?_⟩
  refine (θ_run Cert.OddZBackRefIdeal.defs _ _).mono (fun r H c => ⟨(H c).1.trans ?_, (H c).2⟩) (Cert.OddZBackRefIdeal.Value.run (F := Ideal) m' g')
  rw [(ha c).1, (ha c).2.1, (ha c).2.2]
  funext j
  idx_vars j
  rw [ref_eq]
  rfl

end Cert.Proof.OddZBack

end
-- ==== Proof.EvenInGrad.lean ====
/-
  The gradient of the even layer's input projection (its convolution columns, or those of q, k and v): the kernel's blocked product is the transposed
  product of the whole activations with the whole incoming gradient.
-/
module

public import proofs.«01_k».proof.Defs
public import proofs.«01_k».proof.Proof.Products
public import proofs.«01_k».proof.Proof.Gen.EvenInGradIdeal.Value
public import proofs.«01_k».proof.Proof.Gen.EvenInGradRefIdeal.Run

@[expose] public section

set_option maxRecDepth 16384
set_option pp.maxSteps 800

noncomputable section

namespace Cert.Proof.EvenInGrad

open Cert.EvenInGradIdeal Cert.EvenInGradIdeal.Gen Cert.EvenInGradIdeal.Value
open Idealize.ShloMosaic Idealize.ShloMosaic.TcCoe Idealize.ShloMosaic.Tactic Idealize.SL.Sem
open Cert.Proof.Products

theorem hz : (![0, 0] : Fin 2 → Nat) = fun _ => 0 := funext fun a => by fin_cases a <;> rfl

section
variable {F : FTy → Type} [FloatOps F]
variable (c : Dev nD) (i : grid0.Coords) (a3 : Memref sig .tc .vmem S1024x1024 .bf16) (h3 : a3.IsWhole)
  (a4 : Memref sig .tc .vmem S1024x768 .bf16) (h4 : a4.IsWhole) (a5 : Memref sig .tc .vmem S1024x768 .f32) (h5 : a5.IsWhole)
  (a6 : Memref sig .tc .vmem S1024x768 .f32) (h6 : a6.IsWhole)
  (x : Vec F S1024x1024 .bf16) (y : Vec F S1024x768 .bf16) (acc : Vec F S1024x768 .f32)

/-- The first block of a run leaves its product in the accumulator. -/
theorem acc_A (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz]
  simp only [View.readAt_eq_ld, h3.read_unread, h4.read_unread, View.ld_unit_zero (S := S1024x1024) hz, View.ld_unit_zero (S := S1024x768) hz]

/-- A middle block adds its product to the accumulator. -/
theorem acc_B (hc0 : ¬cond0_0 i) (hc1 : cond0_1 i) (hc2 : ¬cond0_2 i) :
    sout0_B_0 c i a3 h3 a4 h4 a5 h5 a6 h6 hc0 hc1 hc2 x y acc = k0_pay3 x y acc := by
  unfold sout0_B_0
  rw [View.read_writes_eq_canon _ _ _ (scover0_B_0 c i a3 h3 a4 h4 a5 h5 a6 h6 hc0 hc1 hc2 x y acc)]
  unfold kernelRun0_B
  dsimp only
  rw [View.canon_unit_zero hz]
  simp only [View.readAt_eq_ld, h3.read_unread, h4.read_unread, h6.read_unread, View.ld_unit_zero (S := S1024x1024) hz, View.ld_unit_zero (S := S1024x768) hz, View.ld_unit_zero (S := S1024x768) hz]

/-- The last block of a run leaves the accumulator with its product added in the output. -/
theorem out_C (hc0 : ¬cond0_0 i) (hc1 : cond0_1 i) (hc2 : cond0_2 i) :
    out0_C_2 c i a3 h3 a4 h4 a5 h5 a6 h6 hc0 hc1 hc2 x y acc = k0_pay3 x y acc := by
  unfold out0_C_2
  rw [View.read_writes_eq_canon _ _ _ (cover0_C_2 c i a3 h3 a4 h4 a5 h5 a6 h6 hc0 hc1 hc2 x y acc)]
  unfold kernelRun0_C
  dsimp only
  sl_unfold_words
  rw [View.canon_unit_zero hz, View.readCov_unit_zero (S := S1024x768) _ hz]
  simp only [View.readAt_eq_ld, h3.read_unread, h4.read_unread, h6.read_unread, View.ld_unit_zero (S := S1024x1024) hz, View.ld_unit_zero (S := S1024x768) hz, View.ld_unit_zero (S := S1024x768) hz]

end

/-! ## At the extended reals -/

/-- A block's product. -/
theorem pay1 (x : Vec Ideal S1024x1024 .bf16) (y : Vec Ideal S1024x768 .bf16) (p : Fin 1024) (q : Fin 768) :
    k0_pay1 x y (ix2 p q) = ∑ k : Fin 1024, x (ix2 k p) * y (ix2 k q) := by
  pointwise [k0_pay1]

theorem pay2 (x : Vec Ideal S1024x1024 .bf16) (y : Vec Ideal S1024x768 .bf16) : k0_pay2 x y = k0_pay1 x y := by
  unfold k0_pay2; simp only [shapeCast_self]

theorem pay3 (x : Vec Ideal S1024x1024 .bf16) (y : Vec Ideal S1024x768 .bf16) (acc : Vec Ideal S1024x768 .f32) (j : S1024x768.Idx) :
    k0_pay3 x y acc j = acc j + k0_pay1 x y j := by
  unfold k0_pay3; simp only [shapeCast_self]; rfl

variable (m : (ℓ : Loc nD τ sig) → Buf (Elt Ideal) ℓ) (c : Dev nD)

/-- The two arguments. -/
abbrev S : S8192x1024.Idx → EReal := m ((c : Thread nD τ).loc main_arg0)
abbrev G : S8192x1536.Idx → EReal := m ((c : Thread nD τ).loc main_arg1)

/-- The terms of the product's entry `p`, `q`. -/
def term (p : Fin 1024) (q : Fin 1536) (k : Fin 8192) : EReal := S m c (ix2 k p) * G m c (ix2 k q)

theorem index0 : ∀ t : Fin cfg0.N, win0_0.index t 0 = t.val % 8 ∧ win0_0.index t 1 = 0 :=
  (by decide +kernel : ∀ t : Fin grid0.N, _)
theorem index1 : ∀ t : Fin cfg0.N, win0_1.index t 0 = t.val % 8 ∧ win0_1.index t 1 = t.val / 8 :=
  (by decide +kernel : ∀ t : Fin grid0.N, _)

theorem block0 (t : Fin cfg0.N) (k : Fin 1024) (p : Fin 1024) (K : Fin 8192) (hK : K.val = 1024 * (t.val % 8) + k.val) :
    (iblk m c 0 t : Vec Ideal S1024x1024 .bf16) (ix2 k p) = S m c (ix2 K p) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * k.val = K.val; rw [(index0 t).1]; omega
  | ⟨1, _⟩ => show win0_0.index t 1 * 1024 + 1 * p.val = p.val; rw [(index0 t).2]; omega

theorem block1 (t : Fin cfg0.N) (k : Fin 1024) (q : Fin 768) (K : Fin 8192) (Q : Fin 1536)
    (hK : K.val = 1024 * (t.val % 8) + k.val) (hQ : Q.val = 768 * (t.val / 8) + q.val) :
    (iblk m c 1 t : Vec Ideal S1024x768 .bf16) (ix2 k q) = G m c (ix2 K Q) := by
  unfold iblk
  rw [View.read_apply]
  show V m c main_arg1 _ = m (c.tc.loc main_arg1) _
  rw [V_main_arg1]
  congr 1
  funext a
  apply Fin.ext
  match a with
  | ⟨0, _⟩ => show win0_1.index t 0 * 1024 + 1 * k.val = K.val; rw [(index1 t).1]; omega
  | ⟨1, _⟩ => show win0_1.index t 1 * 768 + 1 * q.val = Q.val; rw [(index1 t).2]; omega

/-- A grid point's product is its block of the terms. -/
theorem point (t : Fin cfg0.N) (p : Fin 1024) (q : Fin 768) (Q : Fin 1536) (hQ : Q.val = 768 * (t.val / 8) + q.val) :
    k0_pay1 (iblk m c 0 t : Vec Ideal S1024x1024 .bf16) (iblk m c 1 t) (ix2 p q)
      = ∑ k : Fin 1024, ext (term m c p Q) (1024 * (t.val % 8) + k.val) := by
  rw [pay1]
  refine Finset.sum_congr rfl fun k _ => ?_
  have hk : 1024 * (t.val % 8) + k.val < 8192 := by omega
  rw [ext_of_lt _ hk, term, block0 m c t k p ⟨_, hk⟩ rfl, block1 m c t k q ⟨_, hk⟩ Q rfl hQ]

/-- What the accumulator holds after a point before the last of its run: the blocks so far. -/
theorem acc_eq (r : ℕ) (p : Fin 1024) (q : Fin 768) (Q : Fin 1536) (hQ : Q.val = 768 * r + q.val) :
    ∀ (j : ℕ) (hj : j < 7) (h : 8 * r + j < cfg0.N), (outsAt0 m c (8 * r + j) h).2 (ix2 p q)
      = ∑ s ∈ Finset.range (j + 1), ∑ k : Fin 1024, ext (term m c p Q) (1024 * s + k.val)
  | 0, hj, h => by
    rw [outsAt0_A m c ⟨8 * r + 0, h⟩ (by dsimp only; omega) (by dsimp only; omega) (by dsimp only; omega)]
    dsimp only
    rw [acc_A, pay2, point m c ⟨8 * r + 0, h⟩ p q Q (by dsimp only; omega), Finset.sum_range_one]
    rw [show (8 * r + 0) % 8 = 0 from by omega]
  | j + 1, hj, h => by
    rw [outsAt0_B m c ⟨8 * r + (j + 1), h⟩ (by dsimp only; omega) (by dsimp only; omega) (by dsimp only; omega)]
    dsimp only
    rw [acc_B, pay3, point m c ⟨8 * r + (j + 1), h⟩ p q Q (by dsimp only; omega), Finset.sum_range_succ _ (j + 1)]
    rw [show (8 * r + (j + 1)) % 8 = j + 1 from by omega]
    exact congrArg (· + _) (acc_eq r p q Q hQ j (by omega) (by omega))

/-- What the output holds after the last point of a run: the whole sum. -/
theorem out_eq (r : ℕ) (p : Fin 1024) (q : Fin 768) (Q : Fin 1536) (hQ : Q.val = 768 * r + q.val) (h : 8 * r + 7 < cfg0.N) :
    (outsAt0 m c (8 * r + 7) h).1 (ix2 p q) = ∑ k : Fin 8192, term m c p Q k := by
  rw [outsAt0_C m c ⟨8 * r + 7, h⟩ (by dsimp only; omega) (by dsimp only; omega) (by dsimp only; omega)]
  dsimp only
  rw [out_C, pay3, point m c ⟨8 * r + 7, h⟩ p q Q (by dsimp only; omega), ← sum_blocks 1024 8 rfl (term m c p Q), Finset.sum_range_succ _ 7]
  rw [show (8 * r + 7) % 8 = 7 from by omega]
  exact congrArg (· + _) (acc_eq m c r p q Q hQ 6 (by omega) (by omega))

/-- The array after the run. -/
theorem array_eq (p : Fin 1024) (Q : Fin 1536) : G2 m c (ix2 p Q) = ∑ k : Fin 8192, term m c p Q k := by
  have hN : cfg0.N = 16 := N_0
  have hr : run2Of (ix2 p Q) = Q.val / 768 := by
    show 2 * (p.val / 1024 - 0) + 1 * (Q.val / 768 - 0) = _; omega
  have hl : loc2Of (ix2 p Q) = ix2 p (⟨Q.val % 768, Nat.mod_lt _ (by decide)⟩ : Fin 768) := by
    funext a; apply Fin.ext
    match a with
    | ⟨0, _⟩ => show p.val % 1024 = p.val; omega
    | ⟨1, _⟩ => rfl
  have hp : pt2Of (ix2 p Q) < cfg0.N := by show 8 * run2Of (ix2 p Q) + 7 < _; rw [hr, hN]; omega
  unfold G2
  rw [dif_pos hp, ← outsAt0_sweep m c _ hp, hl]
  exact out_eq m c (run2Of (ix2 p Q)) p _ Q (by rw [hr]; dsimp only; omega) hp

/-! ## The reference -/

/-- The reference's product, entry by entry. -/
theorem ref_eq (s : FVec Ideal Cert.EvenInGradRefIdeal.S8192x1024 .bf16) (g : FVec Ideal Cert.EvenInGradRefIdeal.S8192x1536 .bf16) (p : Fin 1024) (Q : Fin 1536) :
    transpose Cert.EvenInGradRefIdeal.S1024x1536 [1, 0] (Host.dotGeneral Cert.EvenInGradRefIdeal.dot_S8192x1536_S8192x1024_S1536x1024_0_0_1_1_n_n none
        (extf .f32 g Cert.EvenInGradRefIdeal.Facts₀.bitsLt_bf16_f32) (extf .f32 s Cert.EvenInGradRefIdeal.Facts₀.bitsLt_bf16_f32)) Cert.EvenInGradRefIdeal.Facts₀.transposes_S1536x1024_S1024x1536_1_0 (ix2 p Q)
      = ∑ k : Fin 8192, s (ix2 k p) * g (ix2 k Q) := by
  pointwise
  exact Finset.sum_congr rfl fun k _ => mul_comm _ _

theorem reference_frame : Cert.quiescent_EvenInGradRefIdeal := by
  intro m ρ _
  exact (θ_run Cert.EvenInGradRefIdeal.defs _ _).mono
    (fun r h => ⟨fun c => (h c).2, sem_eq_zero_of_no_sems (by decide) r.2⟩) (Cert.EvenInGradRefIdeal.Value.run (F := Ideal) m ρ)

/-- The kernel and the reference end with the same gradient. -/
theorem value : Cert.algebraic_EvenInGradIdeal_EvenInGradRefIdeal := by
  intro m g m' g' _ ha
  refine ⟨G2 m, run m g, ?_⟩
  refine (θ_run Cert.EvenInGradRefIdeal.defs _ _).mono (fun r H c => ⟨(H c).1.trans ?_, (H c).2⟩) (Cert.EvenInGradRefIdeal.Value.run (F := Ideal) m' g')
  rw [(ha c).1, (ha c).2]
  funext j
  idx_vars j
  rw [ref_eq, array_eq]
  rfl

end Cert.Proof.EvenInGrad

end
-- ==== Proof.ConvBack.lean ====
/-
  The gradient of the even input projection's operand, from the convolution columns: the kernel's product, tile by tile, added to the scaled gradient it takes, is the product of the
  whole incoming gradient with the transposed weights, so added.
-/
module

public import proofs.«01_k».proof.Defs
public import proofs.«01_k».proof.Proof.Products
public import proofs.«01_k».proof.Proof.Gen.ConvBackIdeal.Value
public import proofs.«01_k».proof.Proof.Gen.ConvBackRefIdeal.Run

@[expose] public section

set_option maxRecDepth 16384
set_option pp.maxSteps 800

noncomputable section

namespace Cert.Proof.ConvBack

open Cert.ConvBackIdeal Cert.ConvBackIdeal.Gen Cert.ConvBackIdeal.Value
open Idealize.ShloMosaic Idealize.ShloMosaic.TcCoe Idealize.ShloMosaic.Tactic Idealize.SL.Sem

theorem hz : (![0, 0] : Fin 2 → Nat) = fun _ => 0 := funext fun a => by fin_cases a <;> rfl

/-- A point leaves its tile's product, with the tile it adds, in the output. -/
theorem out_eq {F : FTy → Type} [FloatOps F] (x : Vec F S1024x1536 .bf16) (y : Vec F S1024x1536 .bf16) (d : Vec F S1024x1024 .f32) : out0_3 x y d = k0_pay1 x y d := by
  unfold out0_3
  rw [View.canon_unit_zero hz]
  simp only [View.ld_unit_zero (S := S1024x1536) hz, View.ld_unit_zero (S := S1024x1536) hz, View.ld_unit_zero (S := S1024x1024) hz]

/-- The scale of the added gradient. -/
def scale : EReal := Ideal.ofBits .f32 0x3FB504F3#32

/-- A tile's product, with the tile it adds. -/
theorem pay1 (x : Vec Ideal S1024x1536 .bf16) (y : Vec Ideal S1024x1536 .bf16) (d : Vec Ideal S1024x1024 .f32) (p : Fin 1024) (q : Fin 1024) :
    k0_pay1 x y d (ix2 p q) = scale * d (ix2 p q) + ∑ k : Fin 1536, x (ix2 p k) * y (ix2 q k) := by
  pointwise [k0_pay1]
  exact add_comm _ _

variable (m : (ℓ : Loc nD τ sig) → Buf (Elt Ideal) ℓ) (c : Dev nD)

/-- The three arguments. -/
abbrev G : S8192x1536.Idx → EReal := m ((c : Thread nD τ).loc main_arg0)
abbrev W : S1024x1536.Idx → EReal := m ((c : Thread nD τ).loc main_arg1)
abbrev D : S8192x1024.Idx → EReal := m ((c : Thread nD τ).loc main_arg2)

/-- The product of the whole arguments, with the array added. -/
def prod : S8192x1024.Idx → EReal := fun j => scale * D m c (ix2 (j 0) (j 1)) + ∑ k : Fin 1536, G m c (ix2 (j 0) k) * W m c (ix2 (j 1) k)

theorem index0 : ∀ t : Fin cfg0.N, win0_0.index t 0 = t.val / 1 ∧ win0_0.index t 1 = 0 :=
  (by decide +kernel : ∀ t : Fin grid0.N, _)
theorem index1 : ∀ t : Fin cfg0.N, win0_1.index t 0 = t.val % 1 ∧ win0_1.index t 1 = 0 :=
  (by decide +kernel : ∀ t : Fin grid0.N, _)
theorem index2 : ∀ t : Fin cfg0.N, win0_2.index t 0 = t.val / 1 ∧ win0_2.index t 1 = t.val % 1 :=
  (by decide +kernel : ∀ t : Fin grid0.N, _)
theorem index3 : ∀ t : Fin cfg0.N, win0_3.index t 0 = t.val / 1 ∧ win0_3.index t 1 = t.val % 1 :=
  (by decide +kernel : ∀ t : Fin grid0.N, _)
theorem flush3 : ∀ t : Fin cfg0.N, (cfg0.win 3).flush t = true :=
  (by decide +kernel : ∀ t : Fin grid0.N, win0_3.flush t = true)

theorem block0 (t : Fin cfg0.N) (p : Fin 1024) (k : Fin 1536) (P : Fin 8192) (hP : P.val = 1024 * (t.val / 1) + p.val) :
    (iblk m c 0 t : Vec Ideal S1024x1536 .bf16) (ix2 p k) = G m c (ix2 P k) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * p.val = P.val; rw [(index0 t).1]; omega
  | ⟨1, _⟩ => show win0_0.index t 1 * 1536 + 1 * k.val = k.val; rw [(index0 t).2]; omega

theorem block1 (t : Fin cfg0.N) (q : Fin 1024) (k : Fin 1536) (Q : Fin 1024) (hQ : Q.val = 1024 * (t.val % 1) + q.val) :
    (iblk m c 1 t : Vec Ideal S1024x1536 .bf16) (ix2 q k) = W m c (ix2 Q k) := by
  unfold iblk
  rw [View.read_apply]
  show V m c main_arg1 _ = m (c.tc.loc main_arg1) _
  rw [V_main_arg1]
  congr 1
  funext a
  apply Fin.ext
  match a with
  | ⟨0, _⟩ => show win0_1.index t 0 * 1024 + 1 * q.val = Q.val; rw [(index1 t).1]; omega
  | ⟨1, _⟩ => show win0_1.index t 1 * 1536 + 1 * k.val = k.val; rw [(index1 t).2]; omega

theorem block2 (t : Fin cfg0.N) (p : Fin 1024) (q : Fin 1024) (P : Fin 8192) (Q : Fin 1024)
    (hP : P.val = 1024 * (t.val / 1) + p.val) (hQ : Q.val = 1024 * (t.val % 1) + q.val) :
    (iblk m c 2 t : Vec Ideal S1024x1024 .f32) (ix2 p q) = D m c (ix2 P Q) := by
  unfold iblk
  rw [View.read_apply]
  show V m c main_arg2 _ = m (c.tc.loc main_arg2) _
  rw [V_main_arg2]
  congr 1
  funext a
  apply Fin.ext
  match a with
  | ⟨0, _⟩ => show win0_2.index t 0 * 1024 + 1 * p.val = P.val; rw [(index2 t).1]; omega
  | ⟨1, _⟩ => show win0_2.index t 1 * 1024 + 1 * q.val = Q.val; rw [(index2 t).2]; omega

/-- A grid point writes back its tile of the whole product. -/
theorem flushed_eq (t : Fin cfg0.N) : (dats m 0 c).flushed 3 t = ((cfg0.win 3).blk t).view.read (Elt Ideal) (prod m c) := by
  rw [flushed3, out_eq]
  have ht : t.val < 8 := lt_of_lt_of_eq t.isLt N_0
  funext y
  rw [View.read_apply]
  have h0 : (y 0).val < 1024 := (y 0).isLt
  have h1 : (y 1).val < 1024 := (y 1).isLt
  have e0 : (((cfg0.win 3).blk t).view.emb y 0).val = 1024 * (t.val / 1) + (y 0).val := by
    show win0_3.index t 0 * 1024 + 1 * (y 0).val = _; rw [(index3 t).1]; omega
  have e1 : (((cfg0.win 3).blk t).view.emb y 1).val = 1024 * (t.val % 1) + (y 1).val := by
    show win0_3.index t 1 * 1024 + 1 * (y 1).val = _; rw [(index3 t).2]; omega
  show k0_pay1 (iblk m c 0 t) (iblk m c 1 t) (iblk m c 2 t) ((cfg0.win 3).xinj (grid0.coords t) y) = prod m c (((cfg0.win 3).blk t).view.emb y)
  rw [show (cfg0.win 3).xinj (grid0.coords t) y = ix2 (⟨(y 0).val, h0⟩ : Fin 1024) (⟨(y 1).val, h1⟩ : Fin 1024) from by
    funext a; apply Fin.ext
    match a with
    | ⟨0, _⟩ => rfl
    | ⟨1, _⟩ => rfl]
  rw [pay1]
  refine congrArg₂ (· + ·) (congrArg (scale * ·) (block2 m c t _ _ _ _ e0 e1)) (Finset.sum_congr rfl fun k _ => ?_)
  exact congrArg₂ (· * ·) (block0 m c t _ k _ e0) (block1 m c t _ k _ e1)

/-- The tiles fill the array. -/
theorem final_eq : (dats m 0 c).arrAt 3 cfg0.N = prod m c :=
  (dats m 0 c).arrAt_eq_of_cover 3 _ (fun t _ => flushed_eq m c t) fun i => by
    have hN : cfg0.N = 8 := N_0
    have h0 : (i 0).val < 8192 := (i 0).isLt
    have h1 : (i 1).val < 1024 := (i 1).isLt
    have ht : 1 * ((i 0).val / 1024) + (i 1).val / 1024 < cfg0.N := by omega
    refine ⟨⟨_, ht⟩, flush3 _, ?_⟩
    show i ∈ ((View.whole main_v0).slice (win0_3.rect ⟨_, ht⟩)).set
    rw [View.set_slice_whole, Rect.mem_set_unit]
    intro a
    match a with
    | ⟨0, _⟩ =>
      show win0_3.index ⟨_, ht⟩ 0 * 1024 ≤ (i 0).val ∧ (i 0).val < win0_3.index ⟨_, ht⟩ 0 * 1024 + 1024
      rw [(index3 _).1]; dsimp only; omega
    | ⟨1, _⟩ =>
      show win0_3.index ⟨_, ht⟩ 1 * 1024 ≤ (i 1).val ∧ (i 1).val < win0_3.index ⟨_, ht⟩ 1 * 1024 + 1024
      rw [(index3 _).2]; dsimp only; omega

/-! ## The reference -/

/-- The reference's sum, entry by entry. -/
theorem ref_eq (g : FVec Ideal Cert.ConvBackRefIdeal.S8192x1536 .bf16) (w : FVec Ideal Cert.ConvBackRefIdeal.S1024x1536 .bf16)
    (d : FVec Ideal Cert.ConvBackRefIdeal.S8192x1024 .f32) (P : Fin 8192) (Q : Fin 1024) :
    (addf (mulf (broadcastInDim Cert.ConvBackRefIdeal.S8192x1024 ![] Cert.ConvBackRefIdeal.Facts₀.bcast_S_S8192x1024 (constant Cert.ConvBackRefIdeal.S_ .f32 0x3FB504F3#32)) d) (Host.dotGeneral Cert.ConvBackRefIdeal.dot_S8192x1536_S1024x1536_S8192x1024_1_1_0_0_n_n none
        (extf .f32 g Cert.ConvBackRefIdeal.Facts₀.bitsLt_bf16_f32) (extf .f32 w Cert.ConvBackRefIdeal.Facts₀.bitsLt_bf16_f32))) (ix2 P Q)
      = scale * d (ix2 P Q) + ∑ k : Fin 1536, g (ix2 P k) * w (ix2 Q k) := by
  pointwise
  rfl

theorem reference_frame : Cert.quiescent_ConvBackRefIdeal := by
  intro m ρ _
  exact (θ_run Cert.ConvBackRefIdeal.defs _ _).mono
    (fun r h => ⟨fun c => (h c).2, sem_eq_zero_of_no_sems (by decide) r.2⟩) (Cert.ConvBackRefIdeal.Value.run (F := Ideal) m ρ)

/-- The kernel and the reference end with the same gradient. -/
theorem value : Cert.algebraic_ConvBackIdeal_ConvBackRefIdeal := by
  intro m g m' g' _ ha
  refine ⟨prod m, (θ_run Cert.ConvBackIdeal.defs _ _).mono (fun r H c => ⟨(H c).1.trans (final_eq m c), (H c).2⟩) (run_blocks m g), ?_⟩
  refine (θ_run Cert.ConvBackRefIdeal.defs _ _).mono (fun r H c => ⟨(H c).1.trans ?_, (H c).2⟩) (Cert.ConvBackRefIdeal.Value.run (F := Ideal) m' g')
  rw [(ha c).1, (ha c).2.1, (ha c).2.2]
  funext j
  idx_vars j
  rw [ref_eq]
  rfl

end Cert.Proof.ConvBack

end
-- ==== Proof.QkvBack.lean ====
/-
  The gradient of the even input projection's operand, from the columns of q, k and v: the kernel's product, tile by tile, added to the gradient it takes, is the product of the
  whole incoming gradient with the transposed weights, so added.
-/
module

public import proofs.«01_k».proof.Defs
public import proofs.«01_k».proof.Proof.Products
public import proofs.«01_k».proof.Proof.Gen.QkvBackIdeal.Value
public import proofs.«01_k».proof.Proof.Gen.QkvBackRefIdeal.Run

@[expose] public section

set_option maxRecDepth 16384
set_option pp.maxSteps 800

noncomputable section

namespace Cert.Proof.QkvBack

open Cert.QkvBackIdeal Cert.QkvBackIdeal.Gen Cert.QkvBackIdeal.Value
open Idealize.ShloMosaic Idealize.ShloMosaic.TcCoe Idealize.ShloMosaic.Tactic Idealize.SL.Sem

theorem hz : (![0, 0] : Fin 2 → Nat) = fun _ => 0 := funext fun a => by fin_cases a <;> rfl

/-- A point leaves its tile's product, with the tile it adds, in the output. -/
theorem out_eq {F : FTy → Type} [FloatOps F] (x : Vec F S1024x1536 .bf16) (y : Vec F S1024x1536 .bf16) (d : Vec F S1024x1024 .f32) : out0_3 x y d = k0_pay1 x y d := by
  unfold out0_3
  rw [View.canon_unit_zero hz]
  simp only [View.ld_unit_zero (S := S1024x1536) hz, View.ld_unit_zero (S := S1024x1536) hz, View.ld_unit_zero (S := S1024x1024) hz]

/-- A tile's product, with the tile it adds. -/
theorem pay1 (x : Vec Ideal S1024x1536 .bf16) (y : Vec Ideal S1024x1536 .bf16) (d : Vec Ideal S1024x1024 .f32) (p : Fin 1024) (q : Fin 1024) :
    k0_pay1 x y d (ix2 p q) = d (ix2 p q) + ∑ k : Fin 1536, x (ix2 p k) * y (ix2 q k) := by
  pointwise [k0_pay1]
  exact add_comm _ _

variable (m : (ℓ : Loc nD τ sig) → Buf (Elt Ideal) ℓ) (c : Dev nD)

/-- The three arguments. -/
abbrev G : S8192x1536.Idx → EReal := m ((c : Thread nD τ).loc main_arg0)
abbrev W : S1024x1536.Idx → EReal := m ((c : Thread nD τ).loc main_arg1)
abbrev D : S8192x1024.Idx → EReal := m ((c : Thread nD τ).loc main_arg2)

/-- The product of the whole arguments, with the array added. -/
def prod : S8192x1024.Idx → EReal := fun j => D m c (ix2 (j 0) (j 1)) + ∑ k : Fin 1536, G m c (ix2 (j 0) k) * W m c (ix2 (j 1) k)

theorem index0 : ∀ t : Fin cfg0.N, win0_0.index t 0 = t.val / 1 ∧ win0_0.index t 1 = 0 :=
  (by decide +kernel : ∀ t : Fin grid0.N, _)
theorem index1 : ∀ t : Fin cfg0.N, win0_1.index t 0 = t.val % 1 ∧ win0_1.index t 1 = 0 :=
  (by decide +kernel : ∀ t : Fin grid0.N, _)
theorem index2 : ∀ t : Fin cfg0.N, win0_2.index t 0 = t.val / 1 ∧ win0_2.index t 1 = t.val % 1 :=
  (by decide +kernel : ∀ t : Fin grid0.N, _)
theorem index3 : ∀ t : Fin cfg0.N, win0_3.index t 0 = t.val / 1 ∧ win0_3.index t 1 = t.val % 1 :=
  (by decide +kernel : ∀ t : Fin grid0.N, _)
theorem flush3 : ∀ t : Fin cfg0.N, (cfg0.win 3).flush t = true :=
  (by decide +kernel : ∀ t : Fin grid0.N, win0_3.flush t = true)

theorem block0 (t : Fin cfg0.N) (p : Fin 1024) (k : Fin 1536) (P : Fin 8192) (hP : P.val = 1024 * (t.val / 1) + p.val) :
    (iblk m c 0 t : Vec Ideal S1024x1536 .bf16) (ix2 p k) = G m c (ix2 P k) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * p.val = P.val; rw [(index0 t).1]; omega
  | ⟨1, _⟩ => show win0_0.index t 1 * 1536 + 1 * k.val = k.val; rw [(index0 t).2]; omega

theorem block1 (t : Fin cfg0.N) (q : Fin 1024) (k : Fin 1536) (Q : Fin 1024) (hQ : Q.val = 1024 * (t.val % 1) + q.val) :
    (iblk m c 1 t : Vec Ideal S1024x1536 .bf16) (ix2 q k) = W m c (ix2 Q k) := by
  unfold iblk
  rw [View.read_apply]
  show V m c main_arg1 _ = m (c.tc.loc main_arg1) _
  rw [V_main_arg1]
  congr 1
  funext a
  apply Fin.ext
  match a with
  | ⟨0, _⟩ => show win0_1.index t 0 * 1024 + 1 * q.val = Q.val; rw [(index1 t).1]; omega
  | ⟨1, _⟩ => show win0_1.index t 1 * 1536 + 1 * k.val = k.val; rw [(index1 t).2]; omega

theorem block2 (t : Fin cfg0.N) (p : Fin 1024) (q : Fin 1024) (P : Fin 8192) (Q : Fin 1024)
    (hP : P.val = 1024 * (t.val / 1) + p.val) (hQ : Q.val = 1024 * (t.val % 1) + q.val) :
    (iblk m c 2 t : Vec Ideal S1024x1024 .f32) (ix2 p q) = D m c (ix2 P Q) := by
  unfold iblk
  rw [View.read_apply]
  show V m c main_arg2 _ = m (c.tc.loc main_arg2) _
  rw [V_main_arg2]
  congr 1
  funext a
  apply Fin.ext
  match a with
  | ⟨0, _⟩ => show win0_2.index t 0 * 1024 + 1 * p.val = P.val; rw [(index2 t).1]; omega
  | ⟨1, _⟩ => show win0_2.index t 1 * 1024 + 1 * q.val = Q.val; rw [(index2 t).2]; omega

/-- A grid point writes back its tile of the whole product. -/
theorem flushed_eq (t : Fin cfg0.N) : (dats m 0 c).flushed 3 t = ((cfg0.win 3).blk t).view.read (Elt Ideal) (prod m c) := by
  rw [flushed3, out_eq]
  have ht : t.val < 8 := lt_of_lt_of_eq t.isLt N_0
  funext y
  rw [View.read_apply]
  have h0 : (y 0).val < 1024 := (y 0).isLt
  have h1 : (y 1).val < 1024 := (y 1).isLt
  have e0 : (((cfg0.win 3).blk t).view.emb y 0).val = 1024 * (t.val / 1) + (y 0).val := by
    show win0_3.index t 0 * 1024 + 1 * (y 0).val = _; rw [(index3 t).1]; omega
  have e1 : (((cfg0.win 3).blk t).view.emb y 1).val = 1024 * (t.val % 1) + (y 1).val := by
    show win0_3.index t 1 * 1024 + 1 * (y 1).val = _; rw [(index3 t).2]; omega
  show k0_pay1 (iblk m c 0 t) (iblk m c 1 t) (iblk m c 2 t) ((cfg0.win 3).xinj (grid0.coords t) y) = prod m c (((cfg0.win 3).blk t).view.emb y)
  rw [show (cfg0.win 3).xinj (grid0.coords t) y = ix2 (⟨(y 0).val, h0⟩ : Fin 1024) (⟨(y 1).val, h1⟩ : Fin 1024) from by
    funext a; apply Fin.ext
    match a with
    | ⟨0, _⟩ => rfl
    | ⟨1, _⟩ => rfl]
  rw [pay1]
  refine congrArg₂ (· + ·) ((block2 m c t _ _ _ _ e0 e1)) (Finset.sum_congr rfl fun k _ => ?_)
  exact congrArg₂ (· * ·) (block0 m c t _ k _ e0) (block1 m c t _ k _ e1)

/-- The tiles fill the array. -/
theorem final_eq : (dats m 0 c).arrAt 3 cfg0.N = prod m c :=
  (dats m 0 c).arrAt_eq_of_cover 3 _ (fun t _ => flushed_eq m c t) fun i => by
    have hN : cfg0.N = 8 := N_0
    have h0 : (i 0).val < 8192 := (i 0).isLt
    have h1 : (i 1).val < 1024 := (i 1).isLt
    have ht : 1 * ((i 0).val / 1024) + (i 1).val / 1024 < cfg0.N := by omega
    refine ⟨⟨_, ht⟩, flush3 _, ?_⟩
    show i ∈ ((View.whole main_v0).slice (win0_3.rect ⟨_, ht⟩)).set
    rw [View.set_slice_whole, Rect.mem_set_unit]
    intro a
    match a with
    | ⟨0, _⟩ =>
      show win0_3.index ⟨_, ht⟩ 0 * 1024 ≤ (i 0).val ∧ (i 0).val < win0_3.index ⟨_, ht⟩ 0 * 1024 + 1024
      rw [(index3 _).1]; dsimp only; omega
    | ⟨1, _⟩ =>
      show win0_3.index ⟨_, ht⟩ 1 * 1024 ≤ (i 1).val ∧ (i 1).val < win0_3.index ⟨_, ht⟩ 1 * 1024 + 1024
      rw [(index3 _).2]; dsimp only; omega

/-! ## The reference -/

/-- The reference's sum, entry by entry. -/
theorem ref_eq (g : FVec Ideal Cert.QkvBackRefIdeal.S8192x1536 .bf16) (w : FVec Ideal Cert.QkvBackRefIdeal.S1024x1536 .bf16)
    (d : FVec Ideal Cert.QkvBackRefIdeal.S8192x1024 .f32) (P : Fin 8192) (Q : Fin 1024) :
    (addf d (Host.dotGeneral Cert.QkvBackRefIdeal.dot_S8192x1536_S1024x1536_S8192x1024_1_1_0_0_n_n none
        (extf .f32 g Cert.QkvBackRefIdeal.Facts₀.bitsLt_bf16_f32) (extf .f32 w Cert.QkvBackRefIdeal.Facts₀.bitsLt_bf16_f32))) (ix2 P Q)
      = d (ix2 P Q) + ∑ k : Fin 1536, g (ix2 P k) * w (ix2 Q k) := by
  pointwise

theorem reference_frame : Cert.quiescent_QkvBackRefIdeal := by
  intro m ρ _
  exact (θ_run Cert.QkvBackRefIdeal.defs _ _).mono
    (fun r h => ⟨fun c => (h c).2, sem_eq_zero_of_no_sems (by decide) r.2⟩) (Cert.QkvBackRefIdeal.Value.run (F := Ideal) m ρ)

/-- The kernel and the reference end with the same gradient. -/
theorem value : Cert.algebraic_QkvBackIdeal_QkvBackRefIdeal := by
  intro m g m' g' _ ha
  refine ⟨prod m, (θ_run Cert.QkvBackIdeal.defs _ _).mono (fun r H c => ⟨(H c).1.trans (final_eq m c), (H c).2⟩) (run_blocks m g), ?_⟩
  refine (θ_run Cert.QkvBackRefIdeal.defs _ _).mono (fun r H c => ⟨(H c).1.trans ?_, (H c).2⟩) (Cert.QkvBackRefIdeal.Value.run (F := Ideal) m' g')
  rw [(ha c).1, (ha c).2.1, (ha c).2.2]
  funext j
  idx_vars j
  rw [ref_eq]
  rfl

end Cert.Proof.QkvBack

end
-- ==== Proof.GateGrad.lean ====
/-
  The gradient of the PLE's gate, or of the even layer's output projection: the kernel's blocked product is the transposed
  product of the whole activations with the whole incoming gradient.
-/
module

public import proofs.«01_k».proof.Defs
public import proofs.«01_k».proof.Proof.Products
public import proofs.«01_k».proof.Proof.Gen.GateGradIdeal.Value
public import proofs.«01_k».proof.Proof.Gen.GateGradRefIdeal.Run

@[expose] public section

set_option maxRecDepth 16384
set_option pp.maxSteps 800

noncomputable section

namespace Cert.Proof.GateGrad

open Cert.GateGradIdeal Cert.GateGradIdeal.Gen Cert.GateGradIdeal.Value
open Idealize.ShloMosaic Idealize.ShloMosaic.TcCoe Idealize.ShloMosaic.Tactic Idealize.SL.Sem
open Cert.Proof.Products

theorem hz : (![0, 0] : Fin 2 → Nat) = fun _ => 0 := funext fun a => by fin_cases a <;> rfl

section
variable {F : FTy → Type} [FloatOps F]
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole)
  (x : Vec F S1024x1024 .bf16) (y : Vec F S1024x1024 .bf16) (acc : Vec F S1024x1024 .f32)

/-- The first block of a run leaves its product in the accumulator. -/
theorem acc_A (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz]
  simp only [View.readAt_eq_ld, h3.read_unread, h4.read_unread, View.ld_unit_zero (S := S1024x1024) hz, View.ld_unit_zero (S := S1024x1024) hz]

/-- A middle block adds its product to the accumulator. -/
theorem acc_B (hc0 : ¬cond0_0 i) (hc1 : cond0_1 i) (hc2 : ¬cond0_2 i) :
    sout0_B_0 c i a3 h3 a4 h4 a5 h5 a6 h6 hc0 hc1 hc2 x y acc = k0_pay3 x y acc := by
  unfold sout0_B_0
  rw [View.read_writes_eq_canon _ _ _ (scover0_B_0 c i a3 h3 a4 h4 a5 h5 a6 h6 hc0 hc1 hc2 x y acc)]
  unfold kernelRun0_B
  dsimp only
  rw [View.canon_unit_zero hz]
  simp only [View.readAt_eq_ld, h3.read_unread, h4.read_unread, h6.read_unread, View.ld_unit_zero (S := S1024x1024) hz, View.ld_unit_zero (S := S1024x1024) hz, View.ld_unit_zero (S := S1024x1024) hz]

/-- The last block of a run leaves the accumulator with its product added in the output. -/
theorem out_C (hc0 : ¬cond0_0 i) (hc1 : cond0_1 i) (hc2 : cond0_2 i) :
    out0_C_2 c i a3 h3 a4 h4 a5 h5 a6 h6 hc0 hc1 hc2 x y acc = k0_pay3 x y acc := by
  unfold out0_C_2
  rw [View.read_writes_eq_canon _ _ _ (cover0_C_2 c i a3 h3 a4 h4 a5 h5 a6 h6 hc0 hc1 hc2 x y acc)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz, View.ld_unit_zero (S := S1024x1024) hz, View.ld_unit_zero (S := S1024x1024) hz]

end

/-! ## At the extended reals -/

/-- A block's product. -/
theorem pay1 (x : Vec Ideal S1024x1024 .bf16) (y : Vec Ideal S1024x1024 .bf16) (p : Fin 1024) (q : Fin 1024) :
    k0_pay1 x y (ix2 p q) = ∑ k : Fin 1024, x (ix2 k p) * y (ix2 k q) := by
  pointwise [k0_pay1]

theorem pay2 (x : Vec Ideal S1024x1024 .bf16) (y : Vec Ideal S1024x1024 .bf16) : k0_pay2 x y = k0_pay1 x y := by
  unfold k0_pay2; simp only [shapeCast_self]

theorem pay3 (x : Vec Ideal S1024x1024 .bf16) (y : Vec Ideal S1024x1024 .bf16) (acc : Vec Ideal S1024x1024 .f32) (j : S1024x1024.Idx) :
    k0_pay3 x y acc j = acc j + k0_pay1 x y j := by
  unfold k0_pay3; simp only [shapeCast_self]; rfl

variable (m : (ℓ : Loc nD τ sig) → Buf (Elt Ideal) ℓ) (c : Dev nD)

/-- The two arguments. -/
abbrev S : S8192x1024.Idx → EReal := m ((c : Thread nD τ).loc main_arg0)
abbrev G : S8192x1024.Idx → EReal := m ((c : Thread nD τ).loc main_arg1)

/-- The terms of the product's entry `p`, `q`. -/
def term (p : Fin 1024) (q : Fin 1024) (k : Fin 8192) : EReal := S m c (ix2 k p) * G m c (ix2 k q)

theorem index0 : ∀ t : Fin cfg0.N, win0_0.index t 0 = t.val % 8 ∧ win0_0.index t 1 = t.val / 8 :=
  (by decide +kernel : ∀ t : Fin grid0.N, _)
theorem index1 : ∀ t : Fin cfg0.N, win0_1.index t 0 = t.val % 8 ∧ win0_1.index t 1 = 0 :=
  (by decide +kernel : ∀ t : Fin grid0.N, _)

theorem block0 (t : Fin cfg0.N) (k : Fin 1024) (p : Fin 1024) (K : Fin 8192) (P : Fin 1024)
    (hK : K.val = 1024 * (t.val % 8) + k.val) (hP : P.val = 1024 * (t.val / 8) + p.val) :
    (iblk m c 0 t : Vec Ideal S1024x1024 .bf16) (ix2 k p) = S m c (ix2 K P) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * k.val = K.val; rw [(index0 t).1]; omega
  | ⟨1, _⟩ => show win0_0.index t 1 * 1024 + 1 * p.val = P.val; rw [(index0 t).2]; omega

theorem block1 (t : Fin cfg0.N) (k : Fin 1024) (q : Fin 1024) (K : Fin 8192) (hK : K.val = 1024 * (t.val % 8) + k.val) :
    (iblk m c 1 t : Vec Ideal S1024x1024 .bf16) (ix2 k q) = G m c (ix2 K q) := by
  unfold iblk
  rw [View.read_apply]
  show V m c main_arg1 _ = m (c.tc.loc main_arg1) _
  rw [V_main_arg1]
  congr 1
  funext a
  apply Fin.ext
  match a with
  | ⟨0, _⟩ => show win0_1.index t 0 * 1024 + 1 * k.val = K.val; rw [(index1 t).1]; omega
  | ⟨1, _⟩ => show win0_1.index t 1 * 1024 + 1 * q.val = q.val; rw [(index1 t).2]; omega

/-- A grid point's product is its block of the terms. -/
theorem point (t : Fin cfg0.N) (p : Fin 1024) (q : Fin 1024) (P : Fin 1024) (hP : P.val = 1024 * (t.val / 8) + p.val) :
    k0_pay1 (iblk m c 0 t : Vec Ideal S1024x1024 .bf16) (iblk m c 1 t) (ix2 p q)
      = ∑ k : Fin 1024, ext (term m c P q) (1024 * (t.val % 8) + k.val) := by
  rw [pay1]
  refine Finset.sum_congr rfl fun k _ => ?_
  have hk : 1024 * (t.val % 8) + k.val < 8192 := by omega
  rw [ext_of_lt _ hk, term, block0 m c t k p ⟨_, hk⟩ P rfl hP, block1 m c t k q ⟨_, hk⟩ rfl]

/-- What the accumulator holds after a point before the last of its run: the blocks so far. -/
theorem acc_eq (r : ℕ) (p : Fin 1024) (q : Fin 1024) (P : Fin 1024) (hP : P.val = 1024 * r + p.val) :
    ∀ (j : ℕ) (hj : j < 7) (h : 8 * r + j < cfg0.N), (outsAt0 m c (8 * r + j) h).2 (ix2 p q)
      = ∑ s ∈ Finset.range (j + 1), ∑ k : Fin 1024, ext (term m c P q) (1024 * s + k.val)
  | 0, hj, h => by
    rw [outsAt0_A m c ⟨8 * r + 0, h⟩ (by dsimp only; omega) (by dsimp only; omega) (by dsimp only; omega)]
    dsimp only
    rw [acc_A, pay2, point m c ⟨8 * r + 0, h⟩ p q P (by dsimp only; omega), Finset.sum_range_one]
    rw [show (8 * r + 0) % 8 = 0 from by omega]
  | j + 1, hj, h => by
    rw [outsAt0_B m c ⟨8 * r + (j + 1), h⟩ (by dsimp only; omega) (by dsimp only; omega) (by dsimp only; omega)]
    dsimp only
    rw [acc_B, pay3, point m c ⟨8 * r + (j + 1), h⟩ p q P (by dsimp only; omega), Finset.sum_range_succ _ (j + 1)]
    rw [show (8 * r + (j + 1)) % 8 = j + 1 from by omega]
    exact congrArg (· + _) (acc_eq r p q P hP j (by omega) (by omega))

/-- What the output holds after the last point of a run: the whole sum. -/
theorem out_eq (r : ℕ) (p : Fin 1024) (q : Fin 1024) (P : Fin 1024) (hP : P.val = 1024 * r + p.val) (h : 8 * r + 7 < cfg0.N) :
    (outsAt0 m c (8 * r + 7) h).1 (ix2 p q) = ∑ k : Fin 8192, term m c P q k := by
  rw [outsAt0_C m c ⟨8 * r + 7, h⟩ (by dsimp only; omega) (by dsimp only; omega) (by dsimp only; omega)]
  dsimp only
  rw [out_C, pay3, point m c ⟨8 * r + 7, h⟩ p q P (by dsimp only; omega), ← sum_blocks 1024 8 rfl (term m c P q), Finset.sum_range_succ _ 7]
  rw [show (8 * r + 7) % 8 = 7 from by omega]
  exact congrArg (· + _) (acc_eq m c r p q P hP 6 (by omega) (by omega))

/-- The array after the run. -/
theorem array_eq (P : Fin 1024) (q : Fin 1024) : G2 m c (ix2 P q) = ∑ k : Fin 8192, term m c P q k := by
  have hN : cfg0.N = 8 := N_0
  have hr : run2Of (ix2 P q) = P.val / 1024 := by
    show 1 * (P.val / 1024 - 0) + 1 * (q.val / 1024 - 0) = _; omega
  have hl : loc2Of (ix2 P q) = ix2 (⟨P.val % 1024, Nat.mod_lt _ (by decide)⟩ : Fin 1024) q := by
    funext a; apply Fin.ext
    match a with
    | ⟨0, _⟩ => rfl
    | ⟨1, _⟩ => show q.val % 1024 = q.val; omega
  have hp : pt2Of (ix2 P q) < cfg0.N := by show 8 * run2Of (ix2 P q) + 7 < _; rw [hr, hN]; omega
  unfold G2
  rw [dif_pos hp, ← outsAt0_sweep m c _ hp, hl]
  exact out_eq m c (run2Of (ix2 P q)) _ q P (by rw [hr]; dsimp only; omega) hp

/-! ## The reference -/

/-- The reference's product, entry by entry. -/
theorem ref_eq (s : FVec Ideal Cert.GateGradRefIdeal.S8192x1024 .bf16) (g : FVec Ideal Cert.GateGradRefIdeal.S8192x1024 .bf16) (P : Fin 1024) (q : Fin 1024) :
    transpose Cert.GateGradRefIdeal.S1024x1024 [1, 0] (Host.dotGeneral Cert.GateGradRefIdeal.dot_S8192x1024_S8192x1024_S1024x1024_0_0_1_1_n_n none
        (extf .f32 g Cert.GateGradRefIdeal.Facts₀.bitsLt_bf16_f32) (extf .f32 s Cert.GateGradRefIdeal.Facts₀.bitsLt_bf16_f32)) Cert.GateGradRefIdeal.Facts₀.transposes_S1024x1024_S1024x1024_1_0 (ix2 P q)
      = ∑ k : Fin 8192, s (ix2 k P) * g (ix2 k q) := by
  pointwise
  exact Finset.sum_congr rfl fun k _ => mul_comm _ _

theorem reference_frame : Cert.quiescent_GateGradRefIdeal := by
  intro m ρ _
  exact (θ_run Cert.GateGradRefIdeal.defs _ _).mono
    (fun r h => ⟨fun c => (h c).2, sem_eq_zero_of_no_sems (by decide) r.2⟩) (Cert.GateGradRefIdeal.Value.run (F := Ideal) m ρ)

/-- The kernel and the reference end with the same gradient. -/
theorem value : Cert.algebraic_GateGradIdeal_GateGradRefIdeal := by
  intro m g m' g' _ ha
  refine ⟨G2 m, run m g, ?_⟩
  refine (θ_run Cert.GateGradRefIdeal.defs _ _).mono (fun r H c => ⟨(H c).1.trans ?_, (H c).2⟩) (Cert.GateGradRefIdeal.Value.run (F := Ideal) m' g')
  rw [(ha c).1, (ha c).2]
  funext j
  idx_vars j
  rw [ref_eq, array_eq]
  rfl

end Cert.Proof.GateGrad

end
-- ==== Proof.GateBack.lean ====
/-
  The gradient of the PLE gate's operand: the kernel's product, tile by tile, added to the gradient it takes, is the product of the
  whole incoming gradient with the transposed weights, so added.
-/
module

public import proofs.«01_k».proof.Defs
public import proofs.«01_k».proof.Proof.Products
public import proofs.«01_k».proof.Proof.Gen.GateBackIdeal.Value
public import proofs.«01_k».proof.Proof.Gen.GateBackRefIdeal.Run

@[expose] public section

set_option maxRecDepth 16384
set_option pp.maxSteps 800

noncomputable section

namespace Cert.Proof.GateBack

open Cert.GateBackIdeal Cert.GateBackIdeal.Gen Cert.GateBackIdeal.Value
open Idealize.ShloMosaic Idealize.ShloMosaic.TcCoe Idealize.ShloMosaic.Tactic Idealize.SL.Sem

theorem hz : (![0, 0] : Fin 2 → Nat) = fun _ => 0 := funext fun a => by fin_cases a <;> rfl

/-- A point leaves its tile's product, with the tile it adds, in the output. -/
theorem out_eq {F : FTy → Type} [FloatOps F] (x : Vec F S1024x1024 .bf16) (y : Vec F S1024x1024 .bf16) (d : Vec F S1024x1024 .f32) : out0_3 x y d = k0_pay1 x y d := by
  unfold out0_3
  rw [View.canon_unit_zero hz]
  simp only [View.ld_unit_zero (S := S1024x1024) hz, View.ld_unit_zero (S := S1024x1024) hz, View.ld_unit_zero (S := S1024x1024) hz]

/-- A tile's product, with the tile it adds. -/
theorem pay1 (x : Vec Ideal S1024x1024 .bf16) (y : Vec Ideal S1024x1024 .bf16) (d : Vec Ideal S1024x1024 .f32) (p : Fin 1024) (q : Fin 1024) :
    k0_pay1 x y d (ix2 p q) = d (ix2 p q) + ∑ k : Fin 1024, x (ix2 p k) * y (ix2 q k) := by
  pointwise [k0_pay1]
  exact add_comm _ _

variable (m : (ℓ : Loc nD τ sig) → Buf (Elt Ideal) ℓ) (c : Dev nD)

/-- The three arguments. -/
abbrev G : S8192x1024.Idx → EReal := m ((c : Thread nD τ).loc main_arg0)
abbrev W : S1024x1024.Idx → EReal := m ((c : Thread nD τ).loc main_arg1)
abbrev D : S8192x1024.Idx → EReal := m ((c : Thread nD τ).loc main_arg2)

/-- The product of the whole arguments, with the array added. -/
def prod : S8192x1024.Idx → EReal := fun j => D m c (ix2 (j 0) (j 1)) + ∑ k : Fin 1024, G m c (ix2 (j 0) k) * W m c (ix2 (j 1) k)

theorem index0 : ∀ t : Fin cfg0.N, win0_0.index t 0 = t.val / 1 ∧ win0_0.index t 1 = 0 :=
  (by decide +kernel : ∀ t : Fin grid0.N, _)
theorem index1 : ∀ t : Fin cfg0.N, win0_1.index t 0 = t.val % 1 ∧ win0_1.index t 1 = 0 :=
  (by decide +kernel : ∀ t : Fin grid0.N, _)
theorem index2 : ∀ t : Fin cfg0.N, win0_2.index t 0 = t.val / 1 ∧ win0_2.index t 1 = t.val % 1 :=
  (by decide +kernel : ∀ t : Fin grid0.N, _)
theorem index3 : ∀ t : Fin cfg0.N, win0_3.index t 0 = t.val / 1 ∧ win0_3.index t 1 = t.val % 1 :=
  (by decide +kernel : ∀ t : Fin grid0.N, _)
theorem flush3 : ∀ t : Fin cfg0.N, (cfg0.win 3).flush t = true :=
  (by decide +kernel : ∀ t : Fin grid0.N, win0_3.flush t = true)

theorem block0 (t : Fin cfg0.N) (p : Fin 1024) (k : Fin 1024) (P : Fin 8192) (hP : P.val = 1024 * (t.val / 1) + p.val) :
    (iblk m c 0 t : Vec Ideal S1024x1024 .bf16) (ix2 p k) = G m c (ix2 P k) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * p.val = P.val; rw [(index0 t).1]; omega
  | ⟨1, _⟩ => show win0_0.index t 1 * 1024 + 1 * k.val = k.val; rw [(index0 t).2]; omega

theorem block1 (t : Fin cfg0.N) (q : Fin 1024) (k : Fin 1024) (Q : Fin 1024) (hQ : Q.val = 1024 * (t.val % 1) + q.val) :
    (iblk m c 1 t : Vec Ideal S1024x1024 .bf16) (ix2 q k) = W m c (ix2 Q k) := by
  unfold iblk
  rw [View.read_apply]
  show V m c main_arg1 _ = m (c.tc.loc main_arg1) _
  rw [V_main_arg1]
  congr 1
  funext a
  apply Fin.ext
  match a with
  | ⟨0, _⟩ => show win0_1.index t 0 * 1024 + 1 * q.val = Q.val; rw [(index1 t).1]; omega
  | ⟨1, _⟩ => show win0_1.index t 1 * 1024 + 1 * k.val = k.val; rw [(index1 t).2]; omega

theorem block2 (t : Fin cfg0.N) (p : Fin 1024) (q : Fin 1024) (P : Fin 8192) (Q : Fin 1024)
    (hP : P.val = 1024 * (t.val / 1) + p.val) (hQ : Q.val = 1024 * (t.val % 1) + q.val) :
    (iblk m c 2 t : Vec Ideal S1024x1024 .f32) (ix2 p q) = D m c (ix2 P Q) := by
  unfold iblk
  rw [View.read_apply]
  show V m c main_arg2 _ = m (c.tc.loc main_arg2) _
  rw [V_main_arg2]
  congr 1
  funext a
  apply Fin.ext
  match a with
  | ⟨0, _⟩ => show win0_2.index t 0 * 1024 + 1 * p.val = P.val; rw [(index2 t).1]; omega
  | ⟨1, _⟩ => show win0_2.index t 1 * 1024 + 1 * q.val = Q.val; rw [(index2 t).2]; omega

/-- A grid point writes back its tile of the whole product. -/
theorem flushed_eq (t : Fin cfg0.N) : (dats m 0 c).flushed 3 t = ((cfg0.win 3).blk t).view.read (Elt Ideal) (prod m c) := by
  rw [flushed3, out_eq]
  have ht : t.val < 8 := lt_of_lt_of_eq t.isLt N_0
  funext y
  rw [View.read_apply]
  have h0 : (y 0).val < 1024 := (y 0).isLt
  have h1 : (y 1).val < 1024 := (y 1).isLt
  have e0 : (((cfg0.win 3).blk t).view.emb y 0).val = 1024 * (t.val / 1) + (y 0).val := by
    show win0_3.index t 0 * 1024 + 1 * (y 0).val = _; rw [(index3 t).1]; omega
  have e1 : (((cfg0.win 3).blk t).view.emb y 1).val = 1024 * (t.val % 1) + (y 1).val := by
    show win0_3.index t 1 * 1024 + 1 * (y 1).val = _; rw [(index3 t).2]; omega
  show k0_pay1 (iblk m c 0 t) (iblk m c 1 t) (iblk m c 2 t) ((cfg0.win 3).xinj (grid0.coords t) y) = prod m c (((cfg0.win 3).blk t).view.emb y)
  rw [show (cfg0.win 3).xinj (grid0.coords t) y = ix2 (⟨(y 0).val, h0⟩ : Fin 1024) (⟨(y 1).val, h1⟩ : Fin 1024) from by
    funext a; apply Fin.ext
    match a with
    | ⟨0, _⟩ => rfl
    | ⟨1, _⟩ => rfl]
  rw [pay1]
  refine congrArg₂ (· + ·) ((block2 m c t _ _ _ _ e0 e1)) (Finset.sum_congr rfl fun k _ => ?_)
  exact congrArg₂ (· * ·) (block0 m c t _ k _ e0) (block1 m c t _ k _ e1)

/-- The tiles fill the array. -/
theorem final_eq : (dats m 0 c).arrAt 3 cfg0.N = prod m c :=
  (dats m 0 c).arrAt_eq_of_cover 3 _ (fun t _ => flushed_eq m c t) fun i => by
    have hN : cfg0.N = 8 := N_0
    have h0 : (i 0).val < 8192 := (i 0).isLt
    have h1 : (i 1).val < 1024 := (i 1).isLt
    have ht : 1 * ((i 0).val / 1024) + (i 1).val / 1024 < cfg0.N := by omega
    refine ⟨⟨_, ht⟩, flush3 _, ?_⟩
    show i ∈ ((View.whole main_v0).slice (win0_3.rect ⟨_, ht⟩)).set
    rw [View.set_slice_whole, Rect.mem_set_unit]
    intro a
    match a with
    | ⟨0, _⟩ =>
      show win0_3.index ⟨_, ht⟩ 0 * 1024 ≤ (i 0).val ∧ (i 0).val < win0_3.index ⟨_, ht⟩ 0 * 1024 + 1024
      rw [(index3 _).1]; dsimp only; omega
    | ⟨1, _⟩ =>
      show win0_3.index ⟨_, ht⟩ 1 * 1024 ≤ (i 1).val ∧ (i 1).val < win0_3.index ⟨_, ht⟩ 1 * 1024 + 1024
      rw [(index3 _).2]; dsimp only; omega

/-! ## The reference -/

/-- The reference's sum, entry by entry. -/
theorem ref_eq (g : FVec Ideal Cert.GateBackRefIdeal.S8192x1024 .bf16) (w : FVec Ideal Cert.GateBackRefIdeal.S1024x1024 .bf16)
    (d : FVec Ideal Cert.GateBackRefIdeal.S8192x1024 .f32) (P : Fin 8192) (Q : Fin 1024) :
    (addf d (Host.dotGeneral Cert.GateBackRefIdeal.dot_S8192x1024_S1024x1024_S8192x1024_1_1_0_0_n_n none
        (extf .f32 g Cert.GateBackRefIdeal.Facts₀.bitsLt_bf16_f32) (extf .f32 w Cert.GateBackRefIdeal.Facts₀.bitsLt_bf16_f32))) (ix2 P Q)
      = d (ix2 P Q) + ∑ k : Fin 1024, g (ix2 P k) * w (ix2 Q k) := by
  pointwise

theorem reference_frame : Cert.quiescent_GateBackRefIdeal := by
  intro m ρ _
  exact (θ_run Cert.GateBackRefIdeal.defs _ _).mono
    (fun r h => ⟨fun c => (h c).2, sem_eq_zero_of_no_sems (by decide) r.2⟩) (Cert.GateBackRefIdeal.Value.run (F := Ideal) m ρ)

/-- The kernel and the reference end with the same gradient. -/
theorem value : Cert.algebraic_GateBackIdeal_GateBackRefIdeal := by
  intro m g m' g' _ ha
  refine ⟨prod m, (θ_run Cert.GateBackIdeal.defs _ _).mono (fun r H c => ⟨(H c).1.trans (final_eq m c), (H c).2⟩) (run_blocks m g), ?_⟩
  refine (θ_run Cert.GateBackRefIdeal.defs _ _).mono (fun r H c => ⟨(H c).1.trans ?_, (H c).2⟩) (Cert.GateBackRefIdeal.Value.run (F := Ideal) m' g')
  rw [(ha c).1, (ha c).2.1, (ha c).2.2]
  funext j
  idx_vars j
  rw [ref_eq]
  rfl

end Cert.Proof.GateBack

end
-- ==== Proof.ProjGrad.lean ====
/-
  The gradient of the PLE's projection: the kernel's blocked product is the transposed
  product of the whole activations with the whole incoming gradient.
-/
module

public import proofs.«01_k».proof.Defs
public import proofs.«01_k».proof.Proof.Products
public import proofs.«01_k».proof.Proof.Gen.ProjGradIdeal.Value
public import proofs.«01_k».proof.Proof.Gen.ProjGradRefIdeal.Run

@[expose] public section

set_option maxRecDepth 16384
set_option pp.maxSteps 800

noncomputable section

namespace Cert.Proof.ProjGrad

open Cert.ProjGradIdeal Cert.ProjGradIdeal.Gen Cert.ProjGradIdeal.Value
open Idealize.ShloMosaic Idealize.ShloMosaic.TcCoe Idealize.ShloMosaic.Tactic Idealize.SL.Sem
open Cert.Proof.Products

theorem hz : (![0, 0] : Fin 2 → Nat) = fun _ => 0 := funext fun a => by fin_cases a <;> rfl

section
variable {F : FTy → Type} [FloatOps F]
variable (c : Dev nD) (i : grid0.Coords) (a3 : Memref sig .tc .vmem S1024x256 .bf16) (h3 : a3.IsWhole)
  (a4 : Memref sig .tc .vmem S1024x1024 .bf16) (h4 : a4.IsWhole) (a5 : Memref sig .tc .vmem S256x1024 .f32) (h5 : a5.IsWhole)
  (a6 : Memref sig .tc .vmem S256x1024 .f32) (h6 : a6.IsWhole)
  (x : Vec F S1024x256 .bf16) (y : Vec F S1024x1024 .bf16) (acc : Vec F S256x1024 .f32)

/-- The first block of a run leaves its product in the accumulator. -/
theorem acc_A (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz]
  simp only [View.readAt_eq_ld, h3.read_unread, h4.read_unread, View.ld_unit_zero (S := S1024x256) hz, View.ld_unit_zero (S := S1024x1024) hz]

/-- A middle block adds its product to the accumulator. -/
theorem acc_B (hc0 : ¬cond0_0 i) (hc1 : cond0_1 i) (hc2 : ¬cond0_2 i) :
    sout0_B_0 c i a3 h3 a4 h4 a5 h5 a6 h6 hc0 hc1 hc2 x y acc = k0_pay3 x y acc := by
  unfold sout0_B_0
  rw [View.read_writes_eq_canon _ _ _ (scover0_B_0 c i a3 h3 a4 h4 a5 h5 a6 h6 hc0 hc1 hc2 x y acc)]
  unfold kernelRun0_B
  dsimp only
  rw [View.canon_unit_zero hz]
  simp only [View.readAt_eq_ld, h3.read_unread, h4.read_unread, h6.read_unread, View.ld_unit_zero (S := S1024x256) hz, View.ld_unit_zero (S := S1024x1024) hz, View.ld_unit_zero (S := S256x1024) hz]

/-- The last block of a run leaves the accumulator with its product added in the output. -/
theorem out_C (hc0 : ¬cond0_0 i) (hc1 : cond0_1 i) (hc2 : cond0_2 i) :
    out0_C_2 c i a3 h3 a4 h4 a5 h5 a6 h6 hc0 hc1 hc2 x y acc = k0_pay3 x y acc := by
  unfold out0_C_2
  rw [View.read_writes_eq_canon _ _ _ (cover0_C_2 c i a3 h3 a4 h4 a5 h5 a6 h6 hc0 hc1 hc2 x y acc)]
  unfold kernelRun0_C
  dsimp only
  sl_unfold_words
  rw [View.canon_unit_zero hz, View.readCov_unit_zero (S := S256x1024) _ hz]
  simp only [View.readAt_eq_ld, h3.read_unread, h4.read_unread, h6.read_unread, View.ld_unit_zero (S := S1024x256) hz, View.ld_unit_zero (S := S1024x1024) hz, View.ld_unit_zero (S := S256x1024) hz]

end

/-! ## At the extended reals -/

/-- A block's product. -/
theorem pay1 (x : Vec Ideal S1024x256 .bf16) (y : Vec Ideal S1024x1024 .bf16) (p : Fin 256) (q : Fin 1024) :
    k0_pay1 x y (ix2 p q) = ∑ k : Fin 1024, x (ix2 k p) * y (ix2 k q) := by
  pointwise [k0_pay1]

theorem pay2 (x : Vec Ideal S1024x256 .bf16) (y : Vec Ideal S1024x1024 .bf16) : k0_pay2 x y = k0_pay1 x y := by
  unfold k0_pay2; simp only [shapeCast_self]

theorem pay3 (x : Vec Ideal S1024x256 .bf16) (y : Vec Ideal S1024x1024 .bf16) (acc : Vec Ideal S256x1024 .f32) (j : S256x1024.Idx) :
    k0_pay3 x y acc j = acc j + k0_pay1 x y j := by
  unfold k0_pay3; simp only [shapeCast_self]; rfl

variable (m : (ℓ : Loc nD τ sig) → Buf (Elt Ideal) ℓ) (c : Dev nD)

/-- The two arguments. -/
abbrev S : S8192x256.Idx → EReal := m ((c : Thread nD τ).loc main_arg0)
abbrev G : S8192x1024.Idx → EReal := m ((c : Thread nD τ).loc main_arg1)

/-- The terms of the product's entry `p`, `q`. -/
def term (p : Fin 256) (q : Fin 1024) (k : Fin 8192) : EReal := S m c (ix2 k p) * G m c (ix2 k q)

theorem index0 : ∀ t : Fin cfg0.N, win0_0.index t 0 = t.val % 8 ∧ win0_0.index t 1 = t.val / 8 :=
  (by decide +kernel : ∀ t : Fin grid0.N, _)
theorem index1 : ∀ t : Fin cfg0.N, win0_1.index t 0 = t.val % 8 ∧ win0_1.index t 1 = 0 :=
  (by decide +kernel : ∀ t : Fin grid0.N, _)

theorem block0 (t : Fin cfg0.N) (k : Fin 1024) (p : Fin 256) (K : Fin 8192) (P : Fin 256)
    (hK : K.val = 1024 * (t.val % 8) + k.val) (hP : P.val = 256 * (t.val / 8) + p.val) :
    (iblk m c 0 t : Vec Ideal S1024x256 .bf16) (ix2 k p) = S m c (ix2 K P) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * k.val = K.val; rw [(index0 t).1]; omega
  | ⟨1, _⟩ => show win0_0.index t 1 * 256 + 1 * p.val = P.val; rw [(index0 t).2]; omega

theorem block1 (t : Fin cfg0.N) (k : Fin 1024) (q : Fin 1024) (K : Fin 8192) (hK : K.val = 1024 * (t.val % 8) + k.val) :
    (iblk m c 1 t : Vec Ideal S1024x1024 .bf16) (ix2 k q) = G m c (ix2 K q) := by
  unfold iblk
  rw [View.read_apply]
  show V m c main_arg1 _ = m (c.tc.loc main_arg1) _
  rw [V_main_arg1]
  congr 1
  funext a
  apply Fin.ext
  match a with
  | ⟨0, _⟩ => show win0_1.index t 0 * 1024 + 1 * k.val = K.val; rw [(index1 t).1]; omega
  | ⟨1, _⟩ => show win0_1.index t 1 * 1024 + 1 * q.val = q.val; rw [(index1 t).2]; omega

/-- A grid point's product is its block of the terms. -/
theorem point (t : Fin cfg0.N) (p : Fin 256) (q : Fin 1024) (P : Fin 256) (hP : P.val = 256 * (t.val / 8) + p.val) :
    k0_pay1 (iblk m c 0 t : Vec Ideal S1024x256 .bf16) (iblk m c 1 t) (ix2 p q)
      = ∑ k : Fin 1024, ext (term m c P q) (1024 * (t.val % 8) + k.val) := by
  rw [pay1]
  refine Finset.sum_congr rfl fun k _ => ?_
  have hk : 1024 * (t.val % 8) + k.val < 8192 := by omega
  rw [ext_of_lt _ hk, term, block0 m c t k p ⟨_, hk⟩ P rfl hP, block1 m c t k q ⟨_, hk⟩ rfl]

/-- What the accumulator holds after a point before the last of its run: the blocks so far. -/
theorem acc_eq (r : ℕ) (p : Fin 256) (q : Fin 1024) (P : Fin 256) (hP : P.val = 256 * r + p.val) :
    ∀ (j : ℕ) (hj : j < 7) (h : 8 * r + j < cfg0.N), (outsAt0 m c (8 * r + j) h).2 (ix2 p q)
      = ∑ s ∈ Finset.range (j + 1), ∑ k : Fin 1024, ext (term m c P q) (1024 * s + k.val)
  | 0, hj, h => by
    rw [outsAt0_A m c ⟨8 * r + 0, h⟩ (by dsimp only; omega) (by dsimp only; omega) (by dsimp only; omega)]
    dsimp only
    rw [acc_A, pay2, point m c ⟨8 * r + 0, h⟩ p q P (by dsimp only; omega), Finset.sum_range_one]
    rw [show (8 * r + 0) % 8 = 0 from by omega]
  | j + 1, hj, h => by
    rw [outsAt0_B m c ⟨8 * r + (j + 1), h⟩ (by dsimp only; omega) (by dsimp only; omega) (by dsimp only; omega)]
    dsimp only
    rw [acc_B, pay3, point m c ⟨8 * r + (j + 1), h⟩ p q P (by dsimp only; omega), Finset.sum_range_succ _ (j + 1)]
    rw [show (8 * r + (j + 1)) % 8 = j + 1 from by omega]
    exact congrArg (· + _) (acc_eq r p q P hP j (by omega) (by omega))

/-- What the output holds after the last point of a run: the whole sum. -/
theorem out_eq (r : ℕ) (p : Fin 256) (q : Fin 1024) (P : Fin 256) (hP : P.val = 256 * r + p.val) (h : 8 * r + 7 < cfg0.N) :
    (outsAt0 m c (8 * r + 7) h).1 (ix2 p q) = ∑ k : Fin 8192, term m c P q k := by
  rw [outsAt0_C m c ⟨8 * r + 7, h⟩ (by dsimp only; omega) (by dsimp only; omega) (by dsimp only; omega)]
  dsimp only
  rw [out_C, pay3, point m c ⟨8 * r + 7, h⟩ p q P (by dsimp only; omega), ← sum_blocks 1024 8 rfl (term m c P q), Finset.sum_range_succ _ 7]
  rw [show (8 * r + 7) % 8 = 7 from by omega]
  exact congrArg (· + _) (acc_eq m c r p q P hP 6 (by omega) (by omega))

/-- The array after the run. -/
theorem array_eq (P : Fin 256) (q : Fin 1024) : G2 m c (ix2 P q) = ∑ k : Fin 8192, term m c P q k := by
  have hN : cfg0.N = 8 := N_0
  have hr : run2Of (ix2 P q) = P.val / 256 := by
    show 1 * (P.val / 256 - 0) + 1 * (q.val / 1024 - 0) = _; omega
  have hl : loc2Of (ix2 P q) = ix2 (⟨P.val % 256, Nat.mod_lt _ (by decide)⟩ : Fin 256) q := by
    funext a; apply Fin.ext
    match a with
    | ⟨0, _⟩ => rfl
    | ⟨1, _⟩ => show q.val % 1024 = q.val; omega
  have hp : pt2Of (ix2 P q) < cfg0.N := by show 8 * run2Of (ix2 P q) + 7 < _; rw [hr, hN]; omega
  unfold G2
  rw [dif_pos hp, ← outsAt0_sweep m c _ hp, hl]
  exact out_eq m c (run2Of (ix2 P q)) _ q P (by rw [hr]; dsimp only; omega) hp

/-! ## The reference -/

/-- The reference's product, entry by entry. -/
theorem ref_eq (s : FVec Ideal Cert.ProjGradRefIdeal.S8192x256 .bf16) (g : FVec Ideal Cert.ProjGradRefIdeal.S8192x1024 .bf16) (P : Fin 256) (q : Fin 1024) :
    transpose Cert.ProjGradRefIdeal.S256x1024 [1, 0] (Host.dotGeneral Cert.ProjGradRefIdeal.dot_S8192x1024_S8192x256_S1024x256_0_0_1_1_n_n none
        (extf .f32 g Cert.ProjGradRefIdeal.Facts₀.bitsLt_bf16_f32) (extf .f32 s Cert.ProjGradRefIdeal.Facts₀.bitsLt_bf16_f32)) Cert.ProjGradRefIdeal.Facts₀.transposes_S1024x256_S256x1024_1_0 (ix2 P q)
      = ∑ k : Fin 8192, s (ix2 k P) * g (ix2 k q) := by
  pointwise
  exact Finset.sum_congr rfl fun k _ => mul_comm _ _

theorem reference_frame : Cert.quiescent_ProjGradRefIdeal := by
  intro m ρ _
  exact (θ_run Cert.ProjGradRefIdeal.defs _ _).mono
    (fun r h => ⟨fun c => (h c).2, sem_eq_zero_of_no_sems (by decide) r.2⟩) (Cert.ProjGradRefIdeal.Value.run (F := Ideal) m ρ)

/-- The kernel and the reference end with the same gradient. -/
theorem value : Cert.algebraic_ProjGradIdeal_ProjGradRefIdeal := by
  intro m g m' g' _ ha
  refine ⟨G2 m, run m g, ?_⟩
  refine (θ_run Cert.ProjGradRefIdeal.defs _ _).mono (fun r H c => ⟨(H c).1.trans ?_, (H c).2⟩) (Cert.ProjGradRefIdeal.Value.run (F := Ideal) m' g')
  rw [(ha c).1, (ha c).2]
  funext j
  idx_vars j
  rw [ref_eq, array_eq]
  rfl

end Cert.Proof.ProjGrad

end
-- ==== Proof.EvenOutBack.lean ====
/-
  The gradient of the even output projection's operand: the kernel's product, tile by tile, is the product of the
  whole incoming gradient with the transposed weights.
-/
module

public import proofs.«01_k».proof.Defs
public import proofs.«01_k».proof.Proof.Products
public import proofs.«01_k».proof.Proof.Gen.EvenOutBackIdeal.Value
public import proofs.«01_k».proof.Proof.Gen.EvenOutBackRefIdeal.Run

@[expose] public section

set_option maxRecDepth 16384
set_option pp.maxSteps 800

noncomputable section

namespace Cert.Proof.EvenOutBack

open Cert.EvenOutBackIdeal Cert.EvenOutBackIdeal.Gen Cert.EvenOutBackIdeal.Value
open Idealize.ShloMosaic Idealize.ShloMosaic.TcCoe Idealize.ShloMosaic.Tactic Idealize.SL.Sem

theorem hz : (![0, 0] : Fin 2 → Nat) = fun _ => 0 := funext fun a => by fin_cases a <;> rfl

/-- A point leaves its tile's product in the output. -/
theorem out_eq {F : FTy → Type} [FloatOps F] (x : Vec F S1024x1024 .bf16) (y : Vec F S1024x1024 .bf16) : out0_2 x y = k0_pay1 x y := by
  unfold out0_2
  rw [View.canon_unit_zero hz, View.ld_unit_zero (S := S1024x1024) hz, View.ld_unit_zero (S := S1024x1024) hz]

/-- A tile's product. -/
theorem pay1 (x : Vec Ideal S1024x1024 .bf16) (y : Vec Ideal S1024x1024 .bf16) (p : Fin 1024) (q : Fin 1024) :
    k0_pay1 x y (ix2 p q) = ∑ k : Fin 1024, x (ix2 p k) * y (ix2 q k) := by
  pointwise [k0_pay1]

variable (m : (ℓ : Loc nD τ sig) → Buf (Elt Ideal) ℓ) (c : Dev nD)

/-- The two arguments. -/
abbrev G : S8192x1024.Idx → EReal := m ((c : Thread nD τ).loc main_arg0)
abbrev W : S1024x1024.Idx → EReal := m ((c : Thread nD τ).loc main_arg1)

/-- The product of the whole arguments. -/
def prod : S8192x1024.Idx → EReal := fun j => ∑ k : Fin 1024, G m c (ix2 (j 0) k) * W m c (ix2 (j 1) k)

theorem index0 : ∀ t : Fin cfg0.N, win0_0.index t 0 = t.val / 1 ∧ win0_0.index t 1 = 0 :=
  (by decide +kernel : ∀ t : Fin grid0.N, _)
theorem index1 : ∀ t : Fin cfg0.N, win0_1.index t 0 = t.val % 1 ∧ win0_1.index t 1 = 0 :=
  (by decide +kernel : ∀ t : Fin grid0.N, _)
theorem index2 : ∀ t : Fin cfg0.N, win0_2.index t 0 = t.val / 1 ∧ win0_2.index t 1 = t.val % 1 :=
  (by decide +kernel : ∀ t : Fin grid0.N, _)
theorem flush2 : ∀ t : Fin cfg0.N, (cfg0.win 2).flush t = true :=
  (by decide +kernel : ∀ t : Fin grid0.N, win0_2.flush t = true)

theorem block0 (t : Fin cfg0.N) (p : Fin 1024) (k : Fin 1024) (P : Fin 8192) (hP : P.val = 1024 * (t.val / 1) + p.val) :
    (iblk m c 0 t : Vec Ideal S1024x1024 .bf16) (ix2 p k) = G m c (ix2 P k) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * p.val = P.val; rw [(index0 t).1]; omega
  | ⟨1, _⟩ => show win0_0.index t 1 * 1024 + 1 * k.val = k.val; rw [(index0 t).2]; omega

theorem block1 (t : Fin cfg0.N) (q : Fin 1024) (k : Fin 1024) (Q : Fin 1024) (hQ : Q.val = 1024 * (t.val % 1) + q.val) :
    (iblk m c 1 t : Vec Ideal S1024x1024 .bf16) (ix2 q k) = W m c (ix2 Q k) := by
  unfold iblk
  rw [View.read_apply]
  show V m c main_arg1 _ = m (c.tc.loc main_arg1) _
  rw [V_main_arg1]
  congr 1
  funext a
  apply Fin.ext
  match a with
  | ⟨0, _⟩ => show win0_1.index t 0 * 1024 + 1 * q.val = Q.val; rw [(index1 t).1]; omega
  | ⟨1, _⟩ => show win0_1.index t 1 * 1024 + 1 * k.val = k.val; rw [(index1 t).2]; omega

/-- A grid point writes back its tile of the whole product. -/
theorem flushed_eq (t : Fin cfg0.N) : (dats m 0 c).flushed 2 t = ((cfg0.win 2).blk t).view.read (Elt Ideal) (prod m c) := by
  rw [flushed2, out_eq]
  have ht : t.val < 8 := lt_of_lt_of_eq t.isLt N_0
  funext y
  rw [View.read_apply]
  have h0 : (y 0).val < 1024 := (y 0).isLt
  have h1 : (y 1).val < 1024 := (y 1).isLt
  have e0 : (((cfg0.win 2).blk t).view.emb y 0).val = 1024 * (t.val / 1) + (y 0).val := by
    show win0_2.index t 0 * 1024 + 1 * (y 0).val = _; rw [(index2 t).1]; omega
  have e1 : (((cfg0.win 2).blk t).view.emb y 1).val = 1024 * (t.val % 1) + (y 1).val := by
    show win0_2.index t 1 * 1024 + 1 * (y 1).val = _; rw [(index2 t).2]; omega
  show k0_pay1 (iblk m c 0 t) (iblk m c 1 t) ((cfg0.win 2).xinj (grid0.coords t) y) = prod m c (((cfg0.win 2).blk t).view.emb y)
  rw [show (cfg0.win 2).xinj (grid0.coords t) y = ix2 (⟨(y 0).val, h0⟩ : Fin 1024) (⟨(y 1).val, h1⟩ : Fin 1024) from by
    funext a; apply Fin.ext
    match a with
    | ⟨0, _⟩ => rfl
    | ⟨1, _⟩ => rfl]
  rw [pay1]
  refine Finset.sum_congr rfl fun k _ => ?_
  exact congrArg₂ (· * ·) (block0 m c t _ k _ e0) (block1 m c t _ k _ e1)

/-- The tiles fill the array. -/
theorem final_eq : (dats m 0 c).arrAt 2 cfg0.N = prod m c :=
  (dats m 0 c).arrAt_eq_of_cover 2 _ (fun t _ => flushed_eq m c t) fun i => by
    have hN : cfg0.N = 8 := N_0
    have h0 : (i 0).val < 8192 := (i 0).isLt
    have h1 : (i 1).val < 1024 := (i 1).isLt
    have ht : 1 * ((i 0).val / 1024) + (i 1).val / 1024 < cfg0.N := by omega
    refine ⟨⟨_, ht⟩, flush2 _, ?_⟩
    show i ∈ ((View.whole main_v0).slice (win0_2.rect ⟨_, ht⟩)).set
    rw [View.set_slice_whole, Rect.mem_set_unit]
    intro a
    match a with
    | ⟨0, _⟩ =>
      show win0_2.index ⟨_, ht⟩ 0 * 1024 ≤ (i 0).val ∧ (i 0).val < win0_2.index ⟨_, ht⟩ 0 * 1024 + 1024
      rw [(index2 _).1]; dsimp only; omega
    | ⟨1, _⟩ =>
      show win0_2.index ⟨_, ht⟩ 1 * 1024 ≤ (i 1).val ∧ (i 1).val < win0_2.index ⟨_, ht⟩ 1 * 1024 + 1024
      rw [(index2 _).2]; dsimp only; omega

/-! ## The reference -/

/-- The reference's product, entry by entry. -/
theorem ref_eq (g : FVec Ideal Cert.EvenOutBackRefIdeal.S8192x1024 .bf16) (w : FVec Ideal Cert.EvenOutBackRefIdeal.S1024x1024 .bf16) (P : Fin 8192) (Q : Fin 1024) :
    (Host.dotGeneral Cert.EvenOutBackRefIdeal.dot_S8192x1024_S1024x1024_S8192x1024_1_1_0_0_n_n none
        (extf .f32 g Cert.EvenOutBackRefIdeal.Facts₀.bitsLt_bf16_f32) (extf .f32 w Cert.EvenOutBackRefIdeal.Facts₀.bitsLt_bf16_f32)) (ix2 P Q)
      = ∑ k : Fin 1024, g (ix2 P k) * w (ix2 Q k) := by
  pointwise

theorem reference_frame : Cert.quiescent_EvenOutBackRefIdeal := by
  intro m ρ _
  exact (θ_run Cert.EvenOutBackRefIdeal.defs _ _).mono
    (fun r h => ⟨fun c => (h c).2, sem_eq_zero_of_no_sems (by decide) r.2⟩) (Cert.EvenOutBackRefIdeal.Value.run (F := Ideal) m ρ)

/-- The kernel and the reference end with the same gradient. -/
theorem value : Cert.algebraic_EvenOutBackIdeal_EvenOutBackRefIdeal := by
  intro m g m' g' _ ha
  refine ⟨prod m, (θ_run Cert.EvenOutBackIdeal.defs _ _).mono (fun r H c => ⟨(H c).1.trans (final_eq m c), (H c).2⟩) (run_blocks m g), ?_⟩
  refine (θ_run Cert.EvenOutBackRefIdeal.defs _ _).mono (fun r H c => ⟨(H c).1.trans ?_, (H c).2⟩) (Cert.EvenOutBackRefIdeal.Value.run (F := Ideal) m' g')
  rw [(ha c).1, (ha c).2]
  funext j
  idx_vars j
  rw [ref_eq]
  rfl

end Cert.Proof.EvenOutBack

end
-- ==== Proof.FfnUp.lean ====
/-
  The ConvFFN's up projection: the kernel's product, tile by tile, is the product of the whole arguments.
-/
module

public import proofs.«01_k».proof.Defs
public import proofs.«01_k».proof.Proof.Products
public import proofs.«01_k».proof.Proof.Gen.FfnUpIdeal.Value
public import proofs.«01_k».proof.Proof.Gen.FfnUpRefIdeal.Run

@[expose] public section

set_option maxRecDepth 16384
set_option pp.maxSteps 800

noncomputable section

namespace Cert.Proof.FfnUp

open Cert.FfnUpIdeal Cert.FfnUpIdeal.Gen Cert.FfnUpIdeal.Value
open Idealize.ShloMosaic Idealize.ShloMosaic.TcCoe Idealize.ShloMosaic.Tactic Idealize.SL.Sem

theorem hz : (![0, 0] : Fin 2 → Nat) = fun _ => 0 := funext fun a => by fin_cases a <;> rfl

/-- A point leaves its tile's product in the output. -/
theorem out_eq {F : FTy → Type} [FloatOps F] (x : Vec F S1024x1024 .bf16) (y : Vec F S1024x1408 .bf16) : out0_2 x y = k0_pay1 x y := by
  unfold out0_2
  rw [View.canon_unit_zero hz, View.ld_unit_zero (S := S1024x1024) hz, View.ld_unit_zero (S := S1024x1408) hz]

/-- A tile's product. -/
theorem pay1 (x : Vec Ideal S1024x1024 .bf16) (y : Vec Ideal S1024x1408 .bf16) (p : Fin 1024) (q : Fin 1408) :
    k0_pay1 x y (ix2 p q) = ∑ k : Fin 1024, x (ix2 p k) * y (ix2 k q) := by
  pointwise [k0_pay1]

variable (m : (ℓ : Loc nD τ sig) → Buf (Elt Ideal) ℓ) (c : Dev nD)

/-- The two arguments. -/
abbrev G : S8192x1024.Idx → EReal := m ((c : Thread nD τ).loc main_arg0)
abbrev W : S1024x5632.Idx → EReal := m ((c : Thread nD τ).loc main_arg1)

/-- The product of the whole arguments. -/
def prod : S8192x5632.Idx → EReal := fun j => ∑ k : Fin 1024, G m c (ix2 (j 0) k) * W m c (ix2 k (j 1))

theorem index0 : ∀ t : Fin cfg0.N, win0_0.index t 0 = t.val / 4 ∧ win0_0.index t 1 = 0 :=
  (by decide +kernel : ∀ t : Fin grid0.N, _)
theorem index1 : ∀ t : Fin cfg0.N, win0_1.index t 1 = t.val % 4 ∧ win0_1.index t 0 = 0 :=
  (by decide +kernel : ∀ t : Fin grid0.N, _)
theorem index2 : ∀ t : Fin cfg0.N, win0_2.index t 0 = t.val / 4 ∧ win0_2.index t 1 = t.val % 4 :=
  (by decide +kernel : ∀ t : Fin grid0.N, _)
theorem flush2 : ∀ t : Fin cfg0.N, (cfg0.win 2).flush t = true :=
  (by decide +kernel : ∀ t : Fin grid0.N, win0_2.flush t = true)

theorem block0 (t : Fin cfg0.N) (p : Fin 1024) (k : Fin 1024) (P : Fin 8192) (hP : P.val = 1024 * (t.val / 4) + p.val) :
    (iblk m c 0 t : Vec Ideal S1024x1024 .bf16) (ix2 p k) = G m c (ix2 P k) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * p.val = P.val; rw [(index0 t).1]; omega
  | ⟨1, _⟩ => show win0_0.index t 1 * 1024 + 1 * k.val = k.val; rw [(index0 t).2]; omega

theorem block1 (t : Fin cfg0.N) (q : Fin 1408) (k : Fin 1024) (Q : Fin 5632) (hQ : Q.val = 1408 * (t.val % 4) + q.val) :
    (iblk m c 1 t : Vec Ideal S1024x1408 .bf16) (ix2 k q) = W m c (ix2 k Q) := by
  unfold iblk
  rw [View.read_apply]
  show V m c main_arg1 _ = m (c.tc.loc main_arg1) _
  rw [V_main_arg1]
  congr 1
  funext a
  apply Fin.ext
  match a with
  | ⟨0, _⟩ => show win0_1.index t 0 * 1024 + 1 * k.val = k.val; rw [(index1 t).2]; omega
  | ⟨1, _⟩ => show win0_1.index t 1 * 1408 + 1 * q.val = Q.val; rw [(index1 t).1]; omega

/-- A grid point writes back its tile of the whole product. -/
theorem flushed_eq (t : Fin cfg0.N) : (dats m 0 c).flushed 2 t = ((cfg0.win 2).blk t).view.read (Elt Ideal) (prod m c) := by
  rw [flushed2, out_eq]
  have ht : t.val < 32 := lt_of_lt_of_eq t.isLt N_0
  funext y
  rw [View.read_apply]
  have h0 : (y 0).val < 1024 := (y 0).isLt
  have h1 : (y 1).val < 1408 := (y 1).isLt
  have e0 : (((cfg0.win 2).blk t).view.emb y 0).val = 1024 * (t.val / 4) + (y 0).val := by
    show win0_2.index t 0 * 1024 + 1 * (y 0).val = _; rw [(index2 t).1]; omega
  have e1 : (((cfg0.win 2).blk t).view.emb y 1).val = 1408 * (t.val % 4) + (y 1).val := by
    show win0_2.index t 1 * 1408 + 1 * (y 1).val = _; rw [(index2 t).2]; omega
  show k0_pay1 (iblk m c 0 t) (iblk m c 1 t) ((cfg0.win 2).xinj (grid0.coords t) y) = prod m c (((cfg0.win 2).blk t).view.emb y)
  rw [show (cfg0.win 2).xinj (grid0.coords t) y = ix2 (⟨(y 0).val, h0⟩ : Fin 1024) (⟨(y 1).val, h1⟩ : Fin 1408) from by
    funext a; apply Fin.ext
    match a with
    | ⟨0, _⟩ => rfl
    | ⟨1, _⟩ => rfl]
  rw [pay1]
  refine Finset.sum_congr rfl fun k _ => ?_
  exact congrArg₂ (· * ·) (block0 m c t _ k _ e0) (block1 m c t _ k _ e1)

/-- The tiles fill the array. -/
theorem final_eq : (dats m 0 c).arrAt 2 cfg0.N = prod m c :=
  (dats m 0 c).arrAt_eq_of_cover 2 _ (fun t _ => flushed_eq m c t) fun i => by
    have hN : cfg0.N = 32 := N_0
    have h0 : (i 0).val < 8192 := (i 0).isLt
    have h1 : (i 1).val < 5632 := (i 1).isLt
    have ht : 4 * ((i 0).val / 1024) + (i 1).val / 1408 < cfg0.N := by omega
    refine ⟨⟨_, ht⟩, flush2 _, ?_⟩
    show i ∈ ((View.whole main_v0).slice (win0_2.rect ⟨_, ht⟩)).set
    rw [View.set_slice_whole, Rect.mem_set_unit]
    intro a
    match a with
    | ⟨0, _⟩ =>
      show win0_2.index ⟨_, ht⟩ 0 * 1024 ≤ (i 0).val ∧ (i 0).val < win0_2.index ⟨_, ht⟩ 0 * 1024 + 1024
      rw [(index2 _).1]; dsimp only; omega
    | ⟨1, _⟩ =>
      show win0_2.index ⟨_, ht⟩ 1 * 1408 ≤ (i 1).val ∧ (i 1).val < win0_2.index ⟨_, ht⟩ 1 * 1408 + 1408
      rw [(index2 _).2]; dsimp only; omega

/-! ## The reference -/

/-- The reference's product, entry by entry. -/
theorem ref_eq (g : FVec Ideal Cert.FfnUpRefIdeal.S8192x1024 .bf16) (w : FVec Ideal Cert.FfnUpRefIdeal.S1024x5632 .bf16) (P : Fin 8192) (Q : Fin 5632) :
    (Host.dotGeneral Cert.FfnUpRefIdeal.dot_S8192x1024_S1024x5632_S8192x5632_1_0_0_1_n_n none
        (extf .f32 g Cert.FfnUpRefIdeal.Facts₀.bitsLt_bf16_f32) (extf .f32 w Cert.FfnUpRefIdeal.Facts₀.bitsLt_bf16_f32)) (ix2 P Q)
      = ∑ k : Fin 1024, g (ix2 P k) * w (ix2 k Q) := by
  pointwise

theorem reference_frame : Cert.quiescent_FfnUpRefIdeal := by
  intro m ρ _
  exact (θ_run Cert.FfnUpRefIdeal.defs _ _).mono
    (fun r h => ⟨fun c => (h c).2, sem_eq_zero_of_no_sems (by decide) r.2⟩) (Cert.FfnUpRefIdeal.Value.run (F := Ideal) m ρ)

/-- The kernel and the reference end with the same product. -/
theorem value : Cert.algebraic_FfnUpIdeal_FfnUpRefIdeal := by
  intro m g m' g' _ ha
  refine ⟨prod m, (θ_run Cert.FfnUpIdeal.defs _ _).mono (fun r H c => ⟨(H c).1.trans (final_eq m c), (H c).2⟩) (run_blocks m g), ?_⟩
  refine (θ_run Cert.FfnUpRefIdeal.defs _ _).mono (fun r H c => ⟨(H c).1.trans ?_, (H c).2⟩) (Cert.FfnUpRefIdeal.Value.run (F := Ideal) m' g')
  rw [(ha c).1, (ha c).2]
  funext j
  idx_vars j
  rw [ref_eq]
  rfl

end Cert.Proof.FfnUp

end
-- ==== Proof.FfnDown.lean ====
/-
  The ConvFFN's down projection: the kernel's product, block by block, is the product of the whole arguments.
-/
module

public import proofs.«01_k».proof.Defs
public import proofs.«01_k».proof.Proof.Products
public import proofs.«01_k».proof.Proof.Gen.FfnDownIdeal.Value
public import proofs.«01_k».proof.Proof.Gen.FfnDownRefIdeal.Run

@[expose] public section

set_option maxRecDepth 16384
set_option pp.maxSteps 800

noncomputable section

namespace Cert.Proof.FfnDown

open Cert.FfnDownIdeal Cert.FfnDownIdeal.Gen Cert.FfnDownIdeal.Value
open Idealize.ShloMosaic Idealize.ShloMosaic.TcCoe Idealize.ShloMosaic.Tactic Idealize.SL.Sem
open Cert.Proof.Products

theorem hz : (![0, 0] : Fin 2 → Nat) = fun _ => 0 := funext fun a => by fin_cases a <;> rfl

section
variable {F : FTy → Type} [FloatOps F]
variable (c : Dev nD) (i : grid0.Coords) (a3 : Memref sig .tc .vmem S1024x1408 .bf16) (h3 : a3.IsWhole)
  (a4 : Memref sig .tc .vmem S1408x1024 .bf16) (h4 : a4.IsWhole) (a5 : Memref sig .tc .vmem S1024x1024 .f32) (h5 : a5.IsWhole)
  (a6 : Memref sig .tc .vmem S1024x1024 .f32) (h6 : a6.IsWhole)
  (x : Vec F S1024x1408 .bf16) (y : Vec F S1408x1024 .bf16) (acc : Vec F S1024x1024 .f32)

/-- The first block leaves its product in the accumulator. -/
theorem acc_A (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz]
  simp only [View.readAt_eq_ld, h3.read_unread, h4.read_unread, View.ld_unit_zero (S := S1024x1408) hz, View.ld_unit_zero (S := S1408x1024) hz]

/-- The last block leaves the accumulator with its product added in the output. -/
theorem out_B (hc0 : ¬cond0_0 i) (hc1 : cond0_1 i) (hc2 : cond0_2 i) :
    out0_B_2 c i a3 h3 a4 h4 a5 h5 a6 h6 hc0 hc1 hc2 x y acc = k0_pay3 x y acc := by
  unfold out0_B_2
  rw [View.read_writes_eq_canon _ _ _ (cover0_B_2 c i a3 h3 a4 h4 a5 h5 a6 h6 hc0 hc1 hc2 x y acc)]
  unfold kernelRun0_B
  dsimp only
  sl_unfold_words
  rw [View.canon_unit_zero hz, View.readCov_unit_zero (S := S1024x1024) _ hz]
  simp only [View.readAt_eq_ld, h3.read_unread, h4.read_unread, h6.read_unread, View.ld_unit_zero (S := S1024x1408) hz, View.ld_unit_zero (S := S1408x1024) hz, View.ld_unit_zero (S := S1024x1024) hz]

end

/-! ## At the extended reals -/

/-- A block's product. -/
theorem pay1 (x : Vec Ideal S1024x1408 .bf16) (y : Vec Ideal S1408x1024 .bf16) (p q : Fin 1024) :
    k0_pay1 x y (ix2 p q) = ∑ k : Fin 1408, x (ix2 p k) * y (ix2 k q) := by
  pointwise [k0_pay1]

theorem pay2 (x : Vec Ideal S1024x1408 .bf16) (y : Vec Ideal S1408x1024 .bf16) : k0_pay2 x y = k0_pay1 x y := by
  unfold k0_pay2; simp only [shapeCast_self]

theorem pay3 (x : Vec Ideal S1024x1408 .bf16) (y : Vec Ideal S1408x1024 .bf16) (acc : Vec Ideal S1024x1024 .f32) (j : S1024x1024.Idx) :
    k0_pay3 x y acc j = acc j + k0_pay1 x y j := by
  unfold k0_pay3; simp only [shapeCast_self]; rfl

variable (m : (ℓ : Loc nD τ sig) → Buf (Elt Ideal) ℓ) (c : Dev nD)

/-- The two arguments. -/
abbrev G : S8192x2816.Idx → EReal := m ((c : Thread nD τ).loc main_arg0)
abbrev W : S2816x1024.Idx → EReal := m ((c : Thread nD τ).loc main_arg1)

/-- The terms of the product's entry `p`, `q`. -/
def term (p : Fin 8192) (q : Fin 1024) (k : Fin 2816) : EReal := G m c (ix2 p k) * W m c (ix2 k q)

theorem index0 : ∀ t : Fin cfg0.N, win0_0.index t 0 = t.val / 2 ∧ win0_0.index t 1 = t.val % 2 :=
  (by decide +kernel : ∀ t : Fin grid0.N, _)
theorem index1 : ∀ t : Fin cfg0.N, win0_1.index t 0 = t.val % 2 ∧ win0_1.index t 1 = 0 :=
  (by decide +kernel : ∀ t : Fin grid0.N, _)

theorem block0 (t : Fin cfg0.N) (p : Fin 1024) (k : Fin 1408) (P : Fin 8192) (K : Fin 2816)
    (hP : P.val = 1024 * (t.val / 2) + p.val) (hK : K.val = 1408 * (t.val % 2) + k.val) :
    (iblk m c 0 t : Vec Ideal S1024x1408 .bf16) (ix2 p k) = G m c (ix2 P K) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * p.val = P.val; rw [(index0 t).1]; omega
  | ⟨1, _⟩ => show win0_0.index t 1 * 1408 + 1 * k.val = K.val; rw [(index0 t).2]; omega

theorem block1 (t : Fin cfg0.N) (q : Fin 1024) (k : Fin 1408) (K : Fin 2816) (hK : K.val = 1408 * (t.val % 2) + k.val) :
    (iblk m c 1 t : Vec Ideal S1408x1024 .bf16) (ix2 k q) = W m c (ix2 K q) := by
  unfold iblk
  rw [View.read_apply]
  show V m c main_arg1 _ = m (c.tc.loc main_arg1) _
  rw [V_main_arg1]
  congr 1
  funext a
  apply Fin.ext
  match a with
  | ⟨0, _⟩ => show win0_1.index t 0 * 1408 + 1 * k.val = K.val; rw [(index1 t).1]; omega
  | ⟨1, _⟩ => show win0_1.index t 1 * 1024 + 1 * q.val = q.val; rw [(index1 t).2]; omega

/-- A grid point's product is its block of the terms. -/
theorem point (t : Fin cfg0.N) (p q : Fin 1024) (P : Fin 8192) (hP : P.val = 1024 * (t.val / 2) + p.val) :
    k0_pay1 (iblk m c 0 t : Vec Ideal S1024x1408 .bf16) (iblk m c 1 t) (ix2 p q)
      = ∑ k : Fin 1408, ext (term m c P q) (1408 * (t.val % 2) + k.val) := by
  rw [pay1]
  refine Finset.sum_congr rfl fun k _ => ?_
  have hk : 1408 * (t.val % 2) + k.val < 2816 := by omega
  rw [ext_of_lt _ hk, term, block0 m c t p k P ⟨_, hk⟩ hP rfl, block1 m c t q k ⟨_, hk⟩ rfl]

/-- What the accumulator holds after the first block of a run. -/
theorem acc_eq (r : ℕ) (p q : Fin 1024) (P : Fin 8192) (hP : P.val = 1024 * r + p.val) (h : 2 * r < cfg0.N) :
    (outsAt0 m c (2 * r) h).2 (ix2 p q) = ∑ k : Fin 1408, ext (term m c P q) (1408 * 0 + k.val) := by
  rw [outsAt0_A m c ⟨2 * r, h⟩ (by dsimp only; omega) (by dsimp only; omega) (by dsimp only; omega)]
  dsimp only
  rw [acc_A, pay2, point m c ⟨2 * r, h⟩ p q P (by dsimp only; omega)]
  rw [show 2 * r % 2 = 0 from by omega]

/-- What the output holds after the last block of a run: the whole sum. -/
theorem out_eq (r : ℕ) (p q : Fin 1024) (P : Fin 8192) (hP : P.val = 1024 * r + p.val) (h : 2 * r + 1 < cfg0.N) :
    (outsAt0 m c (2 * r + 1) h).1 (ix2 p q) = ∑ k : Fin 2816, term m c P q k := by
  rw [outsAt0_B m c ⟨2 * r + 1, h⟩ (by dsimp only; omega) (by dsimp only; omega) (by dsimp only; omega)]
  dsimp only
  rw [out_B, pay3, point m c ⟨2 * r + 1, h⟩ p q P (by dsimp only; omega), ← sum_blocks 1408 2 rfl (term m c P q), Finset.sum_range_succ _ 1,
    Finset.sum_range_one]
  rw [show (2 * r + 1) % 2 = 1 from by omega]
  exact congrArg (· + _) (acc_eq m c r p q P hP (by omega))

/-- The array after the run. -/
theorem array_eq (P : Fin 8192) (q : Fin 1024) : G2 m c (ix2 P q) = ∑ k : Fin 2816, term m c P q k := by
  have hN : cfg0.N = 16 := N_0
  have hr : run2Of (ix2 P q) = P.val / 1024 := by
    show 1 * (P.val / 1024 - 0) + 1 * (q.val / 1024 - 0) = _; omega
  have hl : loc2Of (ix2 P q) = ix2 (⟨P.val % 1024, Nat.mod_lt _ (by decide)⟩ : Fin 1024) q := by
    funext a; apply Fin.ext
    match a with
    | ⟨0, _⟩ => rfl
    | ⟨1, _⟩ => show q.val % 1024 = q.val; omega
  have hp : pt2Of (ix2 P q) < cfg0.N := by show 2 * run2Of (ix2 P q) + 1 < _; rw [hr, hN]; omega
  unfold G2
  rw [dif_pos hp, ← outsAt0_sweep m c _ hp, hl]
  exact out_eq m c (run2Of (ix2 P q)) _ q P (by rw [hr]; dsimp only; omega) hp

/-! ## The reference -/

/-- The reference's product, entry by entry. -/
theorem ref_eq (g : FVec Ideal Cert.FfnDownRefIdeal.S8192x2816 .bf16) (w : FVec Ideal Cert.FfnDownRefIdeal.S2816x1024 .bf16) (P : Fin 8192) (Q : Fin 1024) :
    (Host.dotGeneral Cert.FfnDownRefIdeal.dot_S8192x2816_S2816x1024_S8192x1024_1_0_0_1_n_n none
        (extf .f32 g Cert.FfnDownRefIdeal.Facts₀.bitsLt_bf16_f32) (extf .f32 w Cert.FfnDownRefIdeal.Facts₀.bitsLt_bf16_f32)) (ix2 P Q)
      = ∑ k : Fin 2816, g (ix2 P k) * w (ix2 k Q) := by
  pointwise

theorem reference_frame : Cert.quiescent_FfnDownRefIdeal := by
  intro m ρ _
  exact (θ_run Cert.FfnDownRefIdeal.defs _ _).mono
    (fun r h => ⟨fun c => (h c).2, sem_eq_zero_of_no_sems (by decide) r.2⟩) (Cert.FfnDownRefIdeal.Value.run (F := Ideal) m ρ)

/-- The kernel and the reference end with the same product. -/
theorem value : Cert.algebraic_FfnDownIdeal_FfnDownRefIdeal := by
  intro m g m' g' _ ha
  refine ⟨G2 m, run m g, ?_⟩
  refine (θ_run Cert.FfnDownRefIdeal.defs _ _).mono (fun r H c => ⟨(H c).1.trans ?_, (H c).2⟩) (Cert.FfnDownRefIdeal.Value.run (F := Ideal) m' g')
  rw [(ha c).1, (ha c).2]
  funext j
  idx_vars j
  rw [ref_eq, array_eq]
  rfl

end Cert.Proof.FfnDown

end
-- ==== Proof.OddX.lean ====
/-
  The SSD columns of the odd layer's input projection: the kernel's product, tile by tile, is the product of the whole arguments.
-/
module

public import proofs.«01_k».proof.Defs
public import proofs.«01_k».proof.Proof.Products
public import proofs.«01_k».proof.Proof.Gen.OddXIdeal.Value
public import proofs.«01_k».proof.Proof.Gen.OddXRefIdeal.Run

@[expose] public section

set_option maxRecDepth 16384
set_option pp.maxSteps 800

noncomputable section

namespace Cert.Proof.OddX

open Cert.OddXIdeal Cert.OddXIdeal.Gen Cert.OddXIdeal.Value
open Idealize.ShloMosaic Idealize.ShloMosaic.TcCoe Idealize.ShloMosaic.Tactic Idealize.SL.Sem

theorem hz : (![0, 0] : Fin 2 → Nat) = fun _ => 0 := funext fun a => by fin_cases a <;> rfl

/-- A point leaves its tile's product in the output. -/
theorem out_eq {F : FTy → Type} [FloatOps F] (x : Vec F S1024x1024 .bf16) (y : Vec F S1024x1024 .bf16) : out0_2 x y = k0_pay1 x y := by
  unfold out0_2
  rw [View.canon_unit_zero hz, View.ld_unit_zero (S := S1024x1024) hz, View.ld_unit_zero (S := S1024x1024) hz]

/-- A tile's product. -/
theorem pay1 (x : Vec Ideal S1024x1024 .bf16) (y : Vec Ideal S1024x1024 .bf16) (p : Fin 1024) (q : Fin 1024) :
    k0_pay1 x y (ix2 p q) = ∑ k : Fin 1024, x (ix2 p k) * y (ix2 k q) := by
  pointwise [k0_pay1]

variable (m : (ℓ : Loc nD τ sig) → Buf (Elt Ideal) ℓ) (c : Dev nD)

/-- The two arguments. -/
abbrev G : S8192x1024.Idx → EReal := m ((c : Thread nD τ).loc main_arg0)
abbrev W : S1024x3072.Idx → EReal := m ((c : Thread nD τ).loc main_arg1)

/-- The product of the whole arguments. -/
def prod : S8192x3072.Idx → EReal := fun j => ∑ k : Fin 1024, G m c (ix2 (j 0) k) * W m c (ix2 k (j 1))

theorem index0 : ∀ t : Fin cfg0.N, win0_0.index t 0 = t.val / 3 ∧ win0_0.index t 1 = 0 :=
  (by decide +kernel : ∀ t : Fin grid0.N, _)
theorem index1 : ∀ t : Fin cfg0.N, win0_1.index t 1 = t.val % 3 ∧ win0_1.index t 0 = 0 :=
  (by decide +kernel : ∀ t : Fin grid0.N, _)
theorem index2 : ∀ t : Fin cfg0.N, win0_2.index t 0 = t.val / 3 ∧ win0_2.index t 1 = t.val % 3 :=
  (by decide +kernel : ∀ t : Fin grid0.N, _)
theorem flush2 : ∀ t : Fin cfg0.N, (cfg0.win 2).flush t = true :=
  (by decide +kernel : ∀ t : Fin grid0.N, win0_2.flush t = true)

theorem block0 (t : Fin cfg0.N) (p : Fin 1024) (k : Fin 1024) (P : Fin 8192) (hP : P.val = 1024 * (t.val / 3) + p.val) :
    (iblk m c 0 t : Vec Ideal S1024x1024 .bf16) (ix2 p k) = G m c (ix2 P k) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * p.val = P.val; rw [(index0 t).1]; omega
  | ⟨1, _⟩ => show win0_0.index t 1 * 1024 + 1 * k.val = k.val; rw [(index0 t).2]; omega

theorem block1 (t : Fin cfg0.N) (q : Fin 1024) (k : Fin 1024) (Q : Fin 3072) (hQ : Q.val = 1024 * (t.val % 3) + q.val) :
    (iblk m c 1 t : Vec Ideal S1024x1024 .bf16) (ix2 k q) = W m c (ix2 k Q) := by
  unfold iblk
  rw [View.read_apply]
  show V m c main_arg1 _ = m (c.tc.loc main_arg1) _
  rw [V_main_arg1]
  congr 1
  funext a
  apply Fin.ext
  match a with
  | ⟨0, _⟩ => show win0_1.index t 0 * 1024 + 1 * k.val = k.val; rw [(index1 t).2]; omega
  | ⟨1, _⟩ => show win0_1.index t 1 * 1024 + 1 * q.val = Q.val; rw [(index1 t).1]; omega

/-- A grid point writes back its tile of the whole product. -/
theorem flushed_eq (t : Fin cfg0.N) : (dats m 0 c).flushed 2 t = ((cfg0.win 2).blk t).view.read (Elt Ideal) (prod m c) := by
  rw [flushed2, out_eq]
  have ht : t.val < 24 := lt_of_lt_of_eq t.isLt N_0
  funext y
  rw [View.read_apply]
  have h0 : (y 0).val < 1024 := (y 0).isLt
  have h1 : (y 1).val < 1024 := (y 1).isLt
  have e0 : (((cfg0.win 2).blk t).view.emb y 0).val = 1024 * (t.val / 3) + (y 0).val := by
    show win0_2.index t 0 * 1024 + 1 * (y 0).val = _; rw [(index2 t).1]; omega
  have e1 : (((cfg0.win 2).blk t).view.emb y 1).val = 1024 * (t.val % 3) + (y 1).val := by
    show win0_2.index t 1 * 1024 + 1 * (y 1).val = _; rw [(index2 t).2]; omega
  show k0_pay1 (iblk m c 0 t) (iblk m c 1 t) ((cfg0.win 2).xinj (grid0.coords t) y) = prod m c (((cfg0.win 2).blk t).view.emb y)
  rw [show (cfg0.win 2).xinj (grid0.coords t) y = ix2 (⟨(y 0).val, h0⟩ : Fin 1024) (⟨(y 1).val, h1⟩ : Fin 1024) from by
    funext a; apply Fin.ext
    match a with
    | ⟨0, _⟩ => rfl
    | ⟨1, _⟩ => rfl]
  rw [pay1]
  refine Finset.sum_congr rfl fun k _ => ?_
  exact congrArg₂ (· * ·) (block0 m c t _ k _ e0) (block1 m c t _ k _ e1)

/-- The tiles fill the array. -/
theorem final_eq : (dats m 0 c).arrAt 2 cfg0.N = prod m c :=
  (dats m 0 c).arrAt_eq_of_cover 2 _ (fun t _ => flushed_eq m c t) fun i => by
    have hN : cfg0.N = 24 := N_0
    have h0 : (i 0).val < 8192 := (i 0).isLt
    have h1 : (i 1).val < 3072 := (i 1).isLt
    have ht : 3 * ((i 0).val / 1024) + (i 1).val / 1024 < cfg0.N := by omega
    refine ⟨⟨_, ht⟩, flush2 _, ?_⟩
    show i ∈ ((View.whole main_v0).slice (win0_2.rect ⟨_, ht⟩)).set
    rw [View.set_slice_whole, Rect.mem_set_unit]
    intro a
    match a with
    | ⟨0, _⟩ =>
      show win0_2.index ⟨_, ht⟩ 0 * 1024 ≤ (i 0).val ∧ (i 0).val < win0_2.index ⟨_, ht⟩ 0 * 1024 + 1024
      rw [(index2 _).1]; dsimp only; omega
    | ⟨1, _⟩ =>
      show win0_2.index ⟨_, ht⟩ 1 * 1024 ≤ (i 1).val ∧ (i 1).val < win0_2.index ⟨_, ht⟩ 1 * 1024 + 1024
      rw [(index2 _).2]; dsimp only; omega

/-! ## The reference -/

/-- The reference's product, entry by entry. -/
theorem ref_eq (g : FVec Ideal Cert.OddXRefIdeal.S8192x1024 .bf16) (w : FVec Ideal Cert.OddXRefIdeal.S1024x3072 .bf16) (P : Fin 8192) (Q : Fin 3072) :
    (Host.dotGeneral Cert.OddXRefIdeal.dot_S8192x1024_S1024x3072_S8192x3072_1_0_0_1_n_n none
        (extf .f32 g Cert.OddXRefIdeal.Facts₀.bitsLt_bf16_f32) (extf .f32 w Cert.OddXRefIdeal.Facts₀.bitsLt_bf16_f32)) (ix2 P Q)
      = ∑ k : Fin 1024, g (ix2 P k) * w (ix2 k Q) := by
  pointwise

theorem reference_frame : Cert.quiescent_OddXRefIdeal := by
  intro m ρ _
  exact (θ_run Cert.OddXRefIdeal.defs _ _).mono
    (fun r h => ⟨fun c => (h c).2, sem_eq_zero_of_no_sems (by decide) r.2⟩) (Cert.OddXRefIdeal.Value.run (F := Ideal) m ρ)

/-- The kernel and the reference end with the same product. -/
theorem value : Cert.algebraic_OddXIdeal_OddXRefIdeal := by
  intro m g m' g' _ ha
  refine ⟨prod m, (θ_run Cert.OddXIdeal.defs _ _).mono (fun r H c => ⟨(H c).1.trans (final_eq m c), (H c).2⟩) (run_blocks m g), ?_⟩
  refine (θ_run Cert.OddXRefIdeal.defs _ _).mono (fun r H c => ⟨(H c).1.trans ?_, (H c).2⟩) (Cert.OddXRefIdeal.Value.run (F := Ideal) m' g')
  rw [(ha c).1, (ha c).2]
  funext j
  idx_vars j
  rw [ref_eq]
  rfl

end Cert.Proof.OddX

end
-- ==== Proof.OddZ.lean ====
/-
  The gate columns of the odd layer's input projection: the kernel's product, tile by tile, is the product of the whole arguments.
-/
module

public import proofs.«01_k».proof.Defs
public import proofs.«01_k».proof.Proof.Products
public import proofs.«01_k».proof.Proof.Gen.OddZIdeal.Value
public import proofs.«01_k».proof.Proof.Gen.OddZRefIdeal.Run

@[expose] public section

set_option maxRecDepth 16384
set_option pp.maxSteps 800

noncomputable section

namespace Cert.Proof.OddZ

open Cert.OddZIdeal Cert.OddZIdeal.Gen Cert.OddZIdeal.Value
open Idealize.ShloMosaic Idealize.ShloMosaic.TcCoe Idealize.ShloMosaic.Tactic Idealize.SL.Sem

theorem hz : (![0, 0] : Fin 2 → Nat) = fun _ => 0 := funext fun a => by fin_cases a <;> rfl

/-- A point leaves its tile's product in the output. -/
theorem out_eq {F : FTy → Type} [FloatOps F] (x : Vec F S1024x1024 .bf16) (y : Vec F S1024x1024 .bf16) : out0_2 x y = k0_pay1 x y := by
  unfold out0_2
  rw [View.canon_unit_zero hz, View.ld_unit_zero (S := S1024x1024) hz, View.ld_unit_zero (S := S1024x1024) hz]

/-- A tile's product. -/
theorem pay1 (x : Vec Ideal S1024x1024 .bf16) (y : Vec Ideal S1024x1024 .bf16) (p : Fin 1024) (q : Fin 1024) :
    k0_pay1 x y (ix2 p q) = ∑ k : Fin 1024, x (ix2 p k) * y (ix2 k q) := by
  pointwise [k0_pay1]

variable (m : (ℓ : Loc nD τ sig) → Buf (Elt Ideal) ℓ) (c : Dev nD)

/-- The two arguments. -/
abbrev G : S8192x1024.Idx → EReal := m ((c : Thread nD τ).loc main_arg0)
abbrev W : S1024x2048.Idx → EReal := m ((c : Thread nD τ).loc main_arg1)

/-- The product of the whole arguments. -/
def prod : S8192x2048.Idx → EReal := fun j => ∑ k : Fin 1024, G m c (ix2 (j 0) k) * W m c (ix2 k (j 1))

theorem index0 : ∀ t : Fin cfg0.N, win0_0.index t 0 = t.val / 2 ∧ win0_0.index t 1 = 0 :=
  (by decide +kernel : ∀ t : Fin grid0.N, _)
theorem index1 : ∀ t : Fin cfg0.N, win0_1.index t 1 = t.val % 2 ∧ win0_1.index t 0 = 0 :=
  (by decide +kernel : ∀ t : Fin grid0.N, _)
theorem index2 : ∀ t : Fin cfg0.N, win0_2.index t 0 = t.val / 2 ∧ win0_2.index t 1 = t.val % 2 :=
  (by decide +kernel : ∀ t : Fin grid0.N, _)
theorem flush2 : ∀ t : Fin cfg0.N, (cfg0.win 2).flush t = true :=
  (by decide +kernel : ∀ t : Fin grid0.N, win0_2.flush t = true)

theorem block0 (t : Fin cfg0.N) (p : Fin 1024) (k : Fin 1024) (P : Fin 8192) (hP : P.val = 1024 * (t.val / 2) + p.val) :
    (iblk m c 0 t : Vec Ideal S1024x1024 .bf16) (ix2 p k) = G m c (ix2 P k) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * p.val = P.val; rw [(index0 t).1]; omega
  | ⟨1, _⟩ => show win0_0.index t 1 * 1024 + 1 * k.val = k.val; rw [(index0 t).2]; omega

theorem block1 (t : Fin cfg0.N) (q : Fin 1024) (k : Fin 1024) (Q : Fin 2048) (hQ : Q.val = 1024 * (t.val % 2) + q.val) :
    (iblk m c 1 t : Vec Ideal S1024x1024 .bf16) (ix2 k q) = W m c (ix2 k Q) := by
  unfold iblk
  rw [View.read_apply]
  show V m c main_arg1 _ = m (c.tc.loc main_arg1) _
  rw [V_main_arg1]
  congr 1
  funext a
  apply Fin.ext
  match a with
  | ⟨0, _⟩ => show win0_1.index t 0 * 1024 + 1 * k.val = k.val; rw [(index1 t).2]; omega
  | ⟨1, _⟩ => show win0_1.index t 1 * 1024 + 1 * q.val = Q.val; rw [(index1 t).1]; omega

/-- A grid point writes back its tile of the whole product. -/
theorem flushed_eq (t : Fin cfg0.N) : (dats m 0 c).flushed 2 t = ((cfg0.win 2).blk t).view.read (Elt Ideal) (prod m c) := by
  rw [flushed2, out_eq]
  have ht : t.val < 16 := lt_of_lt_of_eq t.isLt N_0
  funext y
  rw [View.read_apply]
  have h0 : (y 0).val < 1024 := (y 0).isLt
  have h1 : (y 1).val < 1024 := (y 1).isLt
  have e0 : (((cfg0.win 2).blk t).view.emb y 0).val = 1024 * (t.val / 2) + (y 0).val := by
    show win0_2.index t 0 * 1024 + 1 * (y 0).val = _; rw [(index2 t).1]; omega
  have e1 : (((cfg0.win 2).blk t).view.emb y 1).val = 1024 * (t.val % 2) + (y 1).val := by
    show win0_2.index t 1 * 1024 + 1 * (y 1).val = _; rw [(index2 t).2]; omega
  show k0_pay1 (iblk m c 0 t) (iblk m c 1 t) ((cfg0.win 2).xinj (grid0.coords t) y) = prod m c (((cfg0.win 2).blk t).view.emb y)
  rw [show (cfg0.win 2).xinj (grid0.coords t) y = ix2 (⟨(y 0).val, h0⟩ : Fin 1024) (⟨(y 1).val, h1⟩ : Fin 1024) from by
    funext a; apply Fin.ext
    match a with
    | ⟨0, _⟩ => rfl
    | ⟨1, _⟩ => rfl]
  rw [pay1]
  refine Finset.sum_congr rfl fun k _ => ?_
  exact congrArg₂ (· * ·) (block0 m c t _ k _ e0) (block1 m c t _ k _ e1)

/-- The tiles fill the array. -/
theorem final_eq : (dats m 0 c).arrAt 2 cfg0.N = prod m c :=
  (dats m 0 c).arrAt_eq_of_cover 2 _ (fun t _ => flushed_eq m c t) fun i => by
    have hN : cfg0.N = 16 := N_0
    have h0 : (i 0).val < 8192 := (i 0).isLt
    have h1 : (i 1).val < 2048 := (i 1).isLt
    have ht : 2 * ((i 0).val / 1024) + (i 1).val / 1024 < cfg0.N := by omega
    refine ⟨⟨_, ht⟩, flush2 _, ?_⟩
    show i ∈ ((View.whole main_v0).slice (win0_2.rect ⟨_, ht⟩)).set
    rw [View.set_slice_whole, Rect.mem_set_unit]
    intro a
    match a with
    | ⟨0, _⟩ =>
      show win0_2.index ⟨_, ht⟩ 0 * 1024 ≤ (i 0).val ∧ (i 0).val < win0_2.index ⟨_, ht⟩ 0 * 1024 + 1024
      rw [(index2 _).1]; dsimp only; omega
    | ⟨1, _⟩ =>
      show win0_2.index ⟨_, ht⟩ 1 * 1024 ≤ (i 1).val ∧ (i 1).val < win0_2.index ⟨_, ht⟩ 1 * 1024 + 1024
      rw [(index2 _).2]; dsimp only; omega

/-! ## The reference -/

/-- The reference's product, entry by entry. -/
theorem ref_eq (g : FVec Ideal Cert.OddZRefIdeal.S8192x1024 .bf16) (w : FVec Ideal Cert.OddZRefIdeal.S1024x2048 .bf16) (P : Fin 8192) (Q : Fin 2048) :
    (Host.dotGeneral Cert.OddZRefIdeal.dot_S8192x1024_S1024x2048_S8192x2048_1_0_0_1_n_n none
        (extf .f32 g Cert.OddZRefIdeal.Facts₀.bitsLt_bf16_f32) (extf .f32 w Cert.OddZRefIdeal.Facts₀.bitsLt_bf16_f32)) (ix2 P Q)
      = ∑ k : Fin 1024, g (ix2 P k) * w (ix2 k Q) := by
  pointwise

theorem reference_frame : Cert.quiescent_OddZRefIdeal := by
  intro m ρ _
  exact (θ_run Cert.OddZRefIdeal.defs _ _).mono
    (fun r h => ⟨fun c => (h c).2, sem_eq_zero_of_no_sems (by decide) r.2⟩) (Cert.OddZRefIdeal.Value.run (F := Ideal) m ρ)

/-- The kernel and the reference end with the same product. -/
theorem value : Cert.algebraic_OddZIdeal_OddZRefIdeal := by
  intro m g m' g' _ ha
  refine ⟨prod m, (θ_run Cert.OddZIdeal.defs _ _).mono (fun r H c => ⟨(H c).1.trans (final_eq m c), (H c).2⟩) (run_blocks m g), ?_⟩
  refine (θ_run Cert.OddZRefIdeal.defs _ _).mono (fun r H c => ⟨(H c).1.trans ?_, (H c).2⟩) (Cert.OddZRefIdeal.Value.run (F := Ideal) m' g')
  rw [(ha c).1, (ha c).2]
  funext j
  idx_vars j
  rw [ref_eq]
  rfl

end Cert.Proof.OddZ

end
-- ==== Proof.OddOut.lean ====
/-
  The odd layer's output projection: the kernel's product, tile by tile, is the product of the whole arguments.
-/
module

public import proofs.«01_k».proof.Defs
public import proofs.«01_k».proof.Proof.Products
public import proofs.«01_k».proof.Proof.Gen.OddOutIdeal.Value
public import proofs.«01_k».proof.Proof.Gen.OddOutRefIdeal.Run

@[expose] public section

set_option maxRecDepth 16384
set_option pp.maxSteps 800

noncomputable section

namespace Cert.Proof.OddOut

open Cert.OddOutIdeal Cert.OddOutIdeal.Gen Cert.OddOutIdeal.Value
open Idealize.ShloMosaic Idealize.ShloMosaic.TcCoe Idealize.ShloMosaic.Tactic Idealize.SL.Sem

theorem hz : (![0, 0] : Fin 2 → Nat) = fun _ => 0 := funext fun a => by fin_cases a <;> rfl

/-- A point leaves its tile's product in the output. -/
theorem out_eq {F : FTy → Type} [FloatOps F] (x : Vec F S1024x2048 .bf16) (y : Vec F S2048x1024 .bf16) : out0_2 x y = k0_pay1 x y := by
  unfold out0_2
  rw [View.canon_unit_zero hz, View.ld_unit_zero (S := S1024x2048) hz, View.ld_unit_zero (S := S2048x1024) hz]

/-- A tile's product. -/
theorem pay1 (x : Vec Ideal S1024x2048 .bf16) (y : Vec Ideal S2048x1024 .bf16) (p : Fin 1024) (q : Fin 1024) :
    k0_pay1 x y (ix2 p q) = ∑ k : Fin 2048, x (ix2 p k) * y (ix2 k q) := by
  pointwise [k0_pay1]

variable (m : (ℓ : Loc nD τ sig) → Buf (Elt Ideal) ℓ) (c : Dev nD)

/-- The two arguments. -/
abbrev G : S8192x2048.Idx → EReal := m ((c : Thread nD τ).loc main_arg0)
abbrev W : S2048x1024.Idx → EReal := m ((c : Thread nD τ).loc main_arg1)

/-- The product of the whole arguments. -/
def prod : S8192x1024.Idx → EReal := fun j => ∑ k : Fin 2048, G m c (ix2 (j 0) k) * W m c (ix2 k (j 1))

theorem index0 : ∀ t : Fin cfg0.N, win0_0.index t 0 = t.val / 1 ∧ win0_0.index t 1 = 0 :=
  (by decide +kernel : ∀ t : Fin grid0.N, _)
theorem index1 : ∀ t : Fin cfg0.N, win0_1.index t 1 = t.val % 1 ∧ win0_1.index t 0 = 0 :=
  (by decide +kernel : ∀ t : Fin grid0.N, _)
theorem index2 : ∀ t : Fin cfg0.N, win0_2.index t 0 = t.val / 1 ∧ win0_2.index t 1 = t.val % 1 :=
  (by decide +kernel : ∀ t : Fin grid0.N, _)
theorem flush2 : ∀ t : Fin cfg0.N, (cfg0.win 2).flush t = true :=
  (by decide +kernel : ∀ t : Fin grid0.N, win0_2.flush t = true)

theorem block0 (t : Fin cfg0.N) (p : Fin 1024) (k : Fin 2048) (P : Fin 8192) (hP : P.val = 1024 * (t.val / 1) + p.val) :
    (iblk m c 0 t : Vec Ideal S1024x2048 .bf16) (ix2 p k) = G m c (ix2 P k) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * p.val = P.val; rw [(index0 t).1]; omega
  | ⟨1, _⟩ => show win0_0.index t 1 * 2048 + 1 * k.val = k.val; rw [(index0 t).2]; omega

theorem block1 (t : Fin cfg0.N) (q : Fin 1024) (k : Fin 2048) (Q : Fin 1024) (hQ : Q.val = 1024 * (t.val % 1) + q.val) :
    (iblk m c 1 t : Vec Ideal S2048x1024 .bf16) (ix2 k q) = W m c (ix2 k Q) := by
  unfold iblk
  rw [View.read_apply]
  show V m c main_arg1 _ = m (c.tc.loc main_arg1) _
  rw [V_main_arg1]
  congr 1
  funext a
  apply Fin.ext
  match a with
  | ⟨0, _⟩ => show win0_1.index t 0 * 2048 + 1 * k.val = k.val; rw [(index1 t).2]; omega
  | ⟨1, _⟩ => show win0_1.index t 1 * 1024 + 1 * q.val = Q.val; rw [(index1 t).1]; omega

/-- A grid point writes back its tile of the whole product. -/
theorem flushed_eq (t : Fin cfg0.N) : (dats m 0 c).flushed 2 t = ((cfg0.win 2).blk t).view.read (Elt Ideal) (prod m c) := by
  rw [flushed2, out_eq]
  have ht : t.val < 8 := lt_of_lt_of_eq t.isLt N_0
  funext y
  rw [View.read_apply]
  have h0 : (y 0).val < 1024 := (y 0).isLt
  have h1 : (y 1).val < 1024 := (y 1).isLt
  have e0 : (((cfg0.win 2).blk t).view.emb y 0).val = 1024 * (t.val / 1) + (y 0).val := by
    show win0_2.index t 0 * 1024 + 1 * (y 0).val = _; rw [(index2 t).1]; omega
  have e1 : (((cfg0.win 2).blk t).view.emb y 1).val = 1024 * (t.val % 1) + (y 1).val := by
    show win0_2.index t 1 * 1024 + 1 * (y 1).val = _; rw [(index2 t).2]; omega
  show k0_pay1 (iblk m c 0 t) (iblk m c 1 t) ((cfg0.win 2).xinj (grid0.coords t) y) = prod m c (((cfg0.win 2).blk t).view.emb y)
  rw [show (cfg0.win 2).xinj (grid0.coords t) y = ix2 (⟨(y 0).val, h0⟩ : Fin 1024) (⟨(y 1).val, h1⟩ : Fin 1024) from by
    funext a; apply Fin.ext
    match a with
    | ⟨0, _⟩ => rfl
    | ⟨1, _⟩ => rfl]
  rw [pay1]
  refine Finset.sum_congr rfl fun k _ => ?_
  exact congrArg₂ (· * ·) (block0 m c t _ k _ e0) (block1 m c t _ k _ e1)

/-- The tiles fill the array. -/
theorem final_eq : (dats m 0 c).arrAt 2 cfg0.N = prod m c :=
  (dats m 0 c).arrAt_eq_of_cover 2 _ (fun t _ => flushed_eq m c t) fun i => by
    have hN : cfg0.N = 8 := N_0
    have h0 : (i 0).val < 8192 := (i 0).isLt
    have h1 : (i 1).val < 1024 := (i 1).isLt
    have ht : 1 * ((i 0).val / 1024) + (i 1).val / 1024 < cfg0.N := by omega
    refine ⟨⟨_, ht⟩, flush2 _, ?_⟩
    show i ∈ ((View.whole main_v0).slice (win0_2.rect ⟨_, ht⟩)).set
    rw [View.set_slice_whole, Rect.mem_set_unit]
    intro a
    match a with
    | ⟨0, _⟩ =>
      show win0_2.index ⟨_, ht⟩ 0 * 1024 ≤ (i 0).val ∧ (i 0).val < win0_2.index ⟨_, ht⟩ 0 * 1024 + 1024
      rw [(index2 _).1]; dsimp only; omega
    | ⟨1, _⟩ =>
      show win0_2.index ⟨_, ht⟩ 1 * 1024 ≤ (i 1).val ∧ (i 1).val < win0_2.index ⟨_, ht⟩ 1 * 1024 + 1024
      rw [(index2 _).2]; dsimp only; omega

/-! ## The reference -/

/-- The reference's product, entry by entry. -/
theorem ref_eq (g : FVec Ideal Cert.OddOutRefIdeal.S8192x2048 .bf16) (w : FVec Ideal Cert.OddOutRefIdeal.S2048x1024 .bf16) (P : Fin 8192) (Q : Fin 1024) :
    (Host.dotGeneral Cert.OddOutRefIdeal.dot_S8192x2048_S2048x1024_S8192x1024_1_0_0_1_n_n none
        (extf .f32 g Cert.OddOutRefIdeal.Facts₀.bitsLt_bf16_f32) (extf .f32 w Cert.OddOutRefIdeal.Facts₀.bitsLt_bf16_f32)) (ix2 P Q)
      = ∑ k : Fin 2048, g (ix2 P k) * w (ix2 k Q) := by
  pointwise

theorem reference_frame : Cert.quiescent_OddOutRefIdeal := by
  intro m ρ _
  exact (θ_run Cert.OddOutRefIdeal.defs _ _).mono
    (fun r h => ⟨fun c => (h c).2, sem_eq_zero_of_no_sems (by decide) r.2⟩) (Cert.OddOutRefIdeal.Value.run (F := Ideal) m ρ)

/-- The kernel and the reference end with the same product. -/
theorem value : Cert.algebraic_OddOutIdeal_OddOutRefIdeal := by
  intro m g m' g' _ ha
  refine ⟨prod m, (θ_run Cert.OddOutIdeal.defs _ _).mono (fun r H c => ⟨(H c).1.trans (final_eq m c), (H c).2⟩) (run_blocks m g), ?_⟩
  refine (θ_run Cert.OddOutRefIdeal.defs _ _).mono (fun r H c => ⟨(H c).1.trans ?_, (H c).2⟩) (Cert.OddOutRefIdeal.Value.run (F := Ideal) m' g')
  rw [(ha c).1, (ha c).2]
  funext j
  idx_vars j
  rw [ref_eq]
  rfl

end Cert.Proof.OddOut

end
-- ==== Proof.EvenConv.lean ====
/-
  The convolution columns of the even layer's input projection: the kernel's product, tile by tile, is the product of the whole arguments.
-/
module

public import proofs.«01_k».proof.Defs
public import proofs.«01_k».proof.Proof.Products
public import proofs.«01_k».proof.Proof.Gen.EvenConvIdeal.Value
public import proofs.«01_k».proof.Proof.Gen.EvenConvRefIdeal.Run

@[expose] public section

set_option maxRecDepth 16384
set_option pp.maxSteps 800

noncomputable section

namespace Cert.Proof.EvenConv

open Cert.EvenConvIdeal Cert.EvenConvIdeal.Gen Cert.EvenConvIdeal.Value
open Idealize.ShloMosaic Idealize.ShloMosaic.TcCoe Idealize.ShloMosaic.Tactic Idealize.SL.Sem

theorem hz : (![0, 0] : Fin 2 → Nat) = fun _ => 0 := funext fun a => by fin_cases a <;> rfl

/-- A point leaves its tile's product in the output. -/
theorem out_eq {F : FTy → Type} [FloatOps F] (x : Vec F S1024x1024 .bf16) (y : Vec F S1024x768 .bf16) : out0_2 x y = k0_pay1 x y := by
  unfold out0_2
  rw [View.canon_unit_zero hz, View.ld_unit_zero (S := S1024x1024) hz, View.ld_unit_zero (S := S1024x768) hz]

/-- A tile's product. -/
theorem pay1 (x : Vec Ideal S1024x1024 .bf16) (y : Vec Ideal S1024x768 .bf16) (p : Fin 1024) (q : Fin 768) :
    k0_pay1 x y (ix2 p q) = ∑ k : Fin 1024, x (ix2 p k) * y (ix2 k q) := by
  pointwise [k0_pay1]

variable (m : (ℓ : Loc nD τ sig) → Buf (Elt Ideal) ℓ) (c : Dev nD)

/-- The two arguments. -/
abbrev G : S8192x1024.Idx → EReal := m ((c : Thread nD τ).loc main_arg0)
abbrev W : S1024x1536.Idx → EReal := m ((c : Thread nD τ).loc main_arg1)

/-- The product of the whole arguments. -/
def prod : S8192x1536.Idx → EReal := fun j => ∑ k : Fin 1024, G m c (ix2 (j 0) k) * W m c (ix2 k (j 1))

theorem index0 : ∀ t : Fin cfg0.N, win0_0.index t 0 = t.val / 2 ∧ win0_0.index t 1 = 0 :=
  (by decide +kernel : ∀ t : Fin grid0.N, _)
theorem index1 : ∀ t : Fin cfg0.N, win0_1.index t 1 = t.val % 2 ∧ win0_1.index t 0 = 0 :=
  (by decide +kernel : ∀ t : Fin grid0.N, _)
theorem index2 : ∀ t : Fin cfg0.N, win0_2.index t 0 = t.val / 2 ∧ win0_2.index t 1 = t.val % 2 :=
  (by decide +kernel : ∀ t : Fin grid0.N, _)
theorem flush2 : ∀ t : Fin cfg0.N, (cfg0.win 2).flush t = true :=
  (by decide +kernel : ∀ t : Fin grid0.N, win0_2.flush t = true)

theorem block0 (t : Fin cfg0.N) (p : Fin 1024) (k : Fin 1024) (P : Fin 8192) (hP : P.val = 1024 * (t.val / 2) + p.val) :
    (iblk m c 0 t : Vec Ideal S1024x1024 .bf16) (ix2 p k) = G m c (ix2 P k) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * p.val = P.val; rw [(index0 t).1]; omega
  | ⟨1, _⟩ => show win0_0.index t 1 * 1024 + 1 * k.val = k.val; rw [(index0 t).2]; omega

theorem block1 (t : Fin cfg0.N) (q : Fin 768) (k : Fin 1024) (Q : Fin 1536) (hQ : Q.val = 768 * (t.val % 2) + q.val) :
    (iblk m c 1 t : Vec Ideal S1024x768 .bf16) (ix2 k q) = W m c (ix2 k Q) := by
  unfold iblk
  rw [View.read_apply]
  show V m c main_arg1 _ = m (c.tc.loc main_arg1) _
  rw [V_main_arg1]
  congr 1
  funext a
  apply Fin.ext
  match a with
  | ⟨0, _⟩ => show win0_1.index t 0 * 1024 + 1 * k.val = k.val; rw [(index1 t).2]; omega
  | ⟨1, _⟩ => show win0_1.index t 1 * 768 + 1 * q.val = Q.val; rw [(index1 t).1]; omega

/-- A grid point writes back its tile of the whole product. -/
theorem flushed_eq (t : Fin cfg0.N) : (dats m 0 c).flushed 2 t = ((cfg0.win 2).blk t).view.read (Elt Ideal) (prod m c) := by
  rw [flushed2, out_eq]
  have ht : t.val < 16 := lt_of_lt_of_eq t.isLt N_0
  funext y
  rw [View.read_apply]
  have h0 : (y 0).val < 1024 := (y 0).isLt
  have h1 : (y 1).val < 768 := (y 1).isLt
  have e0 : (((cfg0.win 2).blk t).view.emb y 0).val = 1024 * (t.val / 2) + (y 0).val := by
    show win0_2.index t 0 * 1024 + 1 * (y 0).val = _; rw [(index2 t).1]; omega
  have e1 : (((cfg0.win 2).blk t).view.emb y 1).val = 768 * (t.val % 2) + (y 1).val := by
    show win0_2.index t 1 * 768 + 1 * (y 1).val = _; rw [(index2 t).2]; omega
  show k0_pay1 (iblk m c 0 t) (iblk m c 1 t) ((cfg0.win 2).xinj (grid0.coords t) y) = prod m c (((cfg0.win 2).blk t).view.emb y)
  rw [show (cfg0.win 2).xinj (grid0.coords t) y = ix2 (⟨(y 0).val, h0⟩ : Fin 1024) (⟨(y 1).val, h1⟩ : Fin 768) from by
    funext a; apply Fin.ext
    match a with
    | ⟨0, _⟩ => rfl
    | ⟨1, _⟩ => rfl]
  rw [pay1]
  refine Finset.sum_congr rfl fun k _ => ?_
  exact congrArg₂ (· * ·) (block0 m c t _ k _ e0) (block1 m c t _ k _ e1)

/-- The tiles fill the array. -/
theorem final_eq : (dats m 0 c).arrAt 2 cfg0.N = prod m c :=
  (dats m 0 c).arrAt_eq_of_cover 2 _ (fun t _ => flushed_eq m c t) fun i => by
    have hN : cfg0.N = 16 := N_0
    have h0 : (i 0).val < 8192 := (i 0).isLt
    have h1 : (i 1).val < 1536 := (i 1).isLt
    have ht : 2 * ((i 0).val / 1024) + (i 1).val / 768 < cfg0.N := by omega
    refine ⟨⟨_, ht⟩, flush2 _, ?_⟩
    show i ∈ ((View.whole main_v0).slice (win0_2.rect ⟨_, ht⟩)).set
    rw [View.set_slice_whole, Rect.mem_set_unit]
    intro a
    match a with
    | ⟨0, _⟩ =>
      show win0_2.index ⟨_, ht⟩ 0 * 1024 ≤ (i 0).val ∧ (i 0).val < win0_2.index ⟨_, ht⟩ 0 * 1024 + 1024
      rw [(index2 _).1]; dsimp only; omega
    | ⟨1, _⟩ =>
      show win0_2.index ⟨_, ht⟩ 1 * 768 ≤ (i 1).val ∧ (i 1).val < win0_2.index ⟨_, ht⟩ 1 * 768 + 768
      rw [(index2 _).2]; dsimp only; omega

/-! ## The reference -/

/-- The reference's product, entry by entry. -/
theorem ref_eq (g : FVec Ideal Cert.EvenConvRefIdeal.S8192x1024 .bf16) (w : FVec Ideal Cert.EvenConvRefIdeal.S1024x1536 .bf16) (P : Fin 8192) (Q : Fin 1536) :
    (Host.dotGeneral Cert.EvenConvRefIdeal.dot_S8192x1024_S1024x1536_S8192x1536_1_0_0_1_n_n none
        (extf .f32 g Cert.EvenConvRefIdeal.Facts₀.bitsLt_bf16_f32) (extf .f32 w Cert.EvenConvRefIdeal.Facts₀.bitsLt_bf16_f32)) (ix2 P Q)
      = ∑ k : Fin 1024, g (ix2 P k) * w (ix2 k Q) := by
  pointwise

theorem reference_frame : Cert.quiescent_EvenConvRefIdeal := by
  intro m ρ _
  exact (θ_run Cert.EvenConvRefIdeal.defs _ _).mono
    (fun r h => ⟨fun c => (h c).2, sem_eq_zero_of_no_sems (by decide) r.2⟩) (Cert.EvenConvRefIdeal.Value.run (F := Ideal) m ρ)

/-- The kernel and the reference end with the same product. -/
theorem value : Cert.algebraic_EvenConvIdeal_EvenConvRefIdeal := by
  intro m g m' g' _ ha
  refine ⟨prod m, (θ_run Cert.EvenConvIdeal.defs _ _).mono (fun r H c => ⟨(H c).1.trans (final_eq m c), (H c).2⟩) (run_blocks m g), ?_⟩
  refine (θ_run Cert.EvenConvRefIdeal.defs _ _).mono (fun r H c => ⟨(H c).1.trans ?_, (H c).2⟩) (Cert.EvenConvRefIdeal.Value.run (F := Ideal) m' g')
  rw [(ha c).1, (ha c).2]
  funext j
  idx_vars j
  rw [ref_eq]
  rfl

end Cert.Proof.EvenConv

end
-- ==== Proof.EvenQkv.lean ====
/-
  The columns of q, k and v of the even layer's input projection: the kernel's product, tile by tile, is the product of the whole arguments.
-/
module

public import proofs.«01_k».proof.Defs
public import proofs.«01_k».proof.Proof.Products
public import proofs.«01_k».proof.Proof.Gen.EvenQkvIdeal.Value
public import proofs.«01_k».proof.Proof.Gen.EvenQkvRefIdeal.Run

@[expose] public section

set_option maxRecDepth 16384
set_option pp.maxSteps 800

noncomputable section

namespace Cert.Proof.EvenQkv

open Cert.EvenQkvIdeal Cert.EvenQkvIdeal.Gen Cert.EvenQkvIdeal.Value
open Idealize.ShloMosaic Idealize.ShloMosaic.TcCoe Idealize.ShloMosaic.Tactic Idealize.SL.Sem

theorem hz : (![0, 0] : Fin 2 → Nat) = fun _ => 0 := funext fun a => by fin_cases a <;> rfl

/-- A point leaves its tile's product in the output. -/
theorem out_eq {F : FTy → Type} [FloatOps F] (x : Vec F S1024x1024 .bf16) (y : Vec F S1024x768 .bf16) : out0_2 x y = k0_pay1 x y := by
  unfold out0_2
  rw [View.canon_unit_zero hz, View.ld_unit_zero (S := S1024x1024) hz, View.ld_unit_zero (S := S1024x768) hz]

/-- A tile's product. -/
theorem pay1 (x : Vec Ideal S1024x1024 .bf16) (y : Vec Ideal S1024x768 .bf16) (p : Fin 1024) (q : Fin 768) :
    k0_pay1 x y (ix2 p q) = ∑ k : Fin 1024, x (ix2 p k) * y (ix2 k q) := by
  pointwise [k0_pay1]

variable (m : (ℓ : Loc nD τ sig) → Buf (Elt Ideal) ℓ) (c : Dev nD)

/-- The two arguments. -/
abbrev G : S8192x1024.Idx → EReal := m ((c : Thread nD τ).loc main_arg0)
abbrev W : S1024x1536.Idx → EReal := m ((c : Thread nD τ).loc main_arg1)

/-- The product of the whole arguments. -/
def prod : S8192x1536.Idx → EReal := fun j => ∑ k : Fin 1024, G m c (ix2 (j 0) k) * W m c (ix2 k (j 1))

theorem index0 : ∀ t : Fin cfg0.N, win0_0.index t 0 = t.val / 2 ∧ win0_0.index t 1 = 0 :=
  (by decide +kernel : ∀ t : Fin grid0.N, _)
theorem index1 : ∀ t : Fin cfg0.N, win0_1.index t 1 = t.val % 2 ∧ win0_1.index t 0 = 0 :=
  (by decide +kernel : ∀ t : Fin grid0.N, _)
theorem index2 : ∀ t : Fin cfg0.N, win0_2.index t 0 = t.val / 2 ∧ win0_2.index t 1 = t.val % 2 :=
  (by decide +kernel : ∀ t : Fin grid0.N, _)
theorem flush2 : ∀ t : Fin cfg0.N, (cfg0.win 2).flush t = true :=
  (by decide +kernel : ∀ t : Fin grid0.N, win0_2.flush t = true)

theorem block0 (t : Fin cfg0.N) (p : Fin 1024) (k : Fin 1024) (P : Fin 8192) (hP : P.val = 1024 * (t.val / 2) + p.val) :
    (iblk m c 0 t : Vec Ideal S1024x1024 .bf16) (ix2 p k) = G m c (ix2 P k) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * p.val = P.val; rw [(index0 t).1]; omega
  | ⟨1, _⟩ => show win0_0.index t 1 * 1024 + 1 * k.val = k.val; rw [(index0 t).2]; omega

theorem block1 (t : Fin cfg0.N) (q : Fin 768) (k : Fin 1024) (Q : Fin 1536) (hQ : Q.val = 768 * (t.val % 2) + q.val) :
    (iblk m c 1 t : Vec Ideal S1024x768 .bf16) (ix2 k q) = W m c (ix2 k Q) := by
  unfold iblk
  rw [View.read_apply]
  show V m c main_arg1 _ = m (c.tc.loc main_arg1) _
  rw [V_main_arg1]
  congr 1
  funext a
  apply Fin.ext
  match a with
  | ⟨0, _⟩ => show win0_1.index t 0 * 1024 + 1 * k.val = k.val; rw [(index1 t).2]; omega
  | ⟨1, _⟩ => show win0_1.index t 1 * 768 + 1 * q.val = Q.val; rw [(index1 t).1]; omega

/-- A grid point writes back its tile of the whole product. -/
theorem flushed_eq (t : Fin cfg0.N) : (dats m 0 c).flushed 2 t = ((cfg0.win 2).blk t).view.read (Elt Ideal) (prod m c) := by
  rw [flushed2, out_eq]
  have ht : t.val < 16 := lt_of_lt_of_eq t.isLt N_0
  funext y
  rw [View.read_apply]
  have h0 : (y 0).val < 1024 := (y 0).isLt
  have h1 : (y 1).val < 768 := (y 1).isLt
  have e0 : (((cfg0.win 2).blk t).view.emb y 0).val = 1024 * (t.val / 2) + (y 0).val := by
    show win0_2.index t 0 * 1024 + 1 * (y 0).val = _; rw [(index2 t).1]; omega
  have e1 : (((cfg0.win 2).blk t).view.emb y 1).val = 768 * (t.val % 2) + (y 1).val := by
    show win0_2.index t 1 * 768 + 1 * (y 1).val = _; rw [(index2 t).2]; omega
  show k0_pay1 (iblk m c 0 t) (iblk m c 1 t) ((cfg0.win 2).xinj (grid0.coords t) y) = prod m c (((cfg0.win 2).blk t).view.emb y)
  rw [show (cfg0.win 2).xinj (grid0.coords t) y = ix2 (⟨(y 0).val, h0⟩ : Fin 1024) (⟨(y 1).val, h1⟩ : Fin 768) from by
    funext a; apply Fin.ext
    match a with
    | ⟨0, _⟩ => rfl
    | ⟨1, _⟩ => rfl]
  rw [pay1]
  refine Finset.sum_congr rfl fun k _ => ?_
  exact congrArg₂ (· * ·) (block0 m c t _ k _ e0) (block1 m c t _ k _ e1)

/-- The tiles fill the array. -/
theorem final_eq : (dats m 0 c).arrAt 2 cfg0.N = prod m c :=
  (dats m 0 c).arrAt_eq_of_cover 2 _ (fun t _ => flushed_eq m c t) fun i => by
    have hN : cfg0.N = 16 := N_0
    have h0 : (i 0).val < 8192 := (i 0).isLt
    have h1 : (i 1).val < 1536 := (i 1).isLt
    have ht : 2 * ((i 0).val / 1024) + (i 1).val / 768 < cfg0.N := by omega
    refine ⟨⟨_, ht⟩, flush2 _, ?_⟩
    show i ∈ ((View.whole main_v0).slice (win0_2.rect ⟨_, ht⟩)).set
    rw [View.set_slice_whole, Rect.mem_set_unit]
    intro a
    match a with
    | ⟨0, _⟩ =>
      show win0_2.index ⟨_, ht⟩ 0 * 1024 ≤ (i 0).val ∧ (i 0).val < win0_2.index ⟨_, ht⟩ 0 * 1024 + 1024
      rw [(index2 _).1]; dsimp only; omega
    | ⟨1, _⟩ =>
      show win0_2.index ⟨_, ht⟩ 1 * 768 ≤ (i 1).val ∧ (i 1).val < win0_2.index ⟨_, ht⟩ 1 * 768 + 768
      rw [(index2 _).2]; dsimp only; omega

/-! ## The reference -/

/-- The reference's product, entry by entry. -/
theorem ref_eq (g : FVec Ideal Cert.EvenQkvRefIdeal.S8192x1024 .bf16) (w : FVec Ideal Cert.EvenQkvRefIdeal.S1024x1536 .bf16) (P : Fin 8192) (Q : Fin 1536) :
    truncf .bf16 (Host.dotGeneral Cert.EvenQkvRefIdeal.dot_S8192x1024_S1024x1536_S8192x1536_1_0_0_1_n_n none
        (extf .f32 g Cert.EvenQkvRefIdeal.Facts₀.bitsLt_bf16_f32) (extf .f32 w Cert.EvenQkvRefIdeal.Facts₀.bitsLt_bf16_f32)) Cert.EvenQkvRefIdeal.Facts₀.bitsLt_bf16_f32 (ix2 P Q)
      = ∑ k : Fin 1024, g (ix2 P k) * w (ix2 k Q) := by
  pointwise

theorem reference_frame : Cert.quiescent_EvenQkvRefIdeal := by
  intro m ρ _
  exact (θ_run Cert.EvenQkvRefIdeal.defs _ _).mono
    (fun r h => ⟨fun c => (h c).2, sem_eq_zero_of_no_sems (by decide) r.2⟩) (Cert.EvenQkvRefIdeal.Value.run (F := Ideal) m ρ)

/-- The kernel and the reference end with the same product. -/
theorem value : Cert.algebraic_EvenQkvIdeal_EvenQkvRefIdeal := by
  intro m g m' g' _ ha
  refine ⟨prod m, (θ_run Cert.EvenQkvIdeal.defs _ _).mono (fun r H c => ⟨(H c).1.trans (final_eq m c), (H c).2⟩) (run_blocks m g), ?_⟩
  refine (θ_run Cert.EvenQkvRefIdeal.defs _ _).mono (fun r H c => ⟨(H c).1.trans ?_, (H c).2⟩) (Cert.EvenQkvRefIdeal.Value.run (F := Ideal) m' g')
  rw [(ha c).1, (ha c).2]
  funext j
  idx_vars j
  rw [ref_eq]
  rfl

end Cert.Proof.EvenQkv

end
-- ==== Proof.PleGate.lean ====
/-
  The PLE's gate, and the even layer's output projection: the kernel's product, tile by tile, is the product of the whole arguments.
-/
module

public import proofs.«01_k».proof.Defs
public import proofs.«01_k».proof.Proof.Products
public import proofs.«01_k».proof.Proof.Gen.PleGateIdeal.Value
public import proofs.«01_k».proof.Proof.Gen.PleGateRefIdeal.Run

@[expose] public section

set_option maxRecDepth 16384
set_option pp.maxSteps 800

noncomputable section

namespace Cert.Proof.PleGate

open Cert.PleGateIdeal Cert.PleGateIdeal.Gen Cert.PleGateIdeal.Value
open Idealize.ShloMosaic Idealize.ShloMosaic.TcCoe Idealize.ShloMosaic.Tactic Idealize.SL.Sem

theorem hz : (![0, 0] : Fin 2 → Nat) = fun _ => 0 := funext fun a => by fin_cases a <;> rfl

/-- A point leaves its tile's product in the output. -/
theorem out_eq {F : FTy → Type} [FloatOps F] (x : Vec F S1024x1024 .bf16) (y : Vec F S1024x1024 .bf16) : out0_2 x y = k0_pay1 x y := by
  unfold out0_2
  rw [View.canon_unit_zero hz, View.ld_unit_zero (S := S1024x1024) hz, View.ld_unit_zero (S := S1024x1024) hz]

/-- A tile's product. -/
theorem pay1 (x : Vec Ideal S1024x1024 .bf16) (y : Vec Ideal S1024x1024 .bf16) (p : Fin 1024) (q : Fin 1024) :
    k0_pay1 x y (ix2 p q) = ∑ k : Fin 1024, x (ix2 p k) * y (ix2 k q) := by
  pointwise [k0_pay1]

variable (m : (ℓ : Loc nD τ sig) → Buf (Elt Ideal) ℓ) (c : Dev nD)

/-- The two arguments. -/
abbrev G : S8192x1024.Idx → EReal := m ((c : Thread nD τ).loc main_arg0)
abbrev W : S1024x1024.Idx → EReal := m ((c : Thread nD τ).loc main_arg1)

/-- The product of the whole arguments. -/
def prod : S8192x1024.Idx → EReal := fun j => ∑ k : Fin 1024, G m c (ix2 (j 0) k) * W m c (ix2 k (j 1))

theorem index0 : ∀ t : Fin cfg0.N, win0_0.index t 0 = t.val / 1 ∧ win0_0.index t 1 = 0 :=
  (by decide +kernel : ∀ t : Fin grid0.N, _)
theorem index1 : ∀ t : Fin cfg0.N, win0_1.index t 1 = t.val % 1 ∧ win0_1.index t 0 = 0 :=
  (by decide +kernel : ∀ t : Fin grid0.N, _)
theorem index2 : ∀ t : Fin cfg0.N, win0_2.index t 0 = t.val / 1 ∧ win0_2.index t 1 = t.val % 1 :=
  (by decide +kernel : ∀ t : Fin grid0.N, _)
theorem flush2 : ∀ t : Fin cfg0.N, (cfg0.win 2).flush t = true :=
  (by decide +kernel : ∀ t : Fin grid0.N, win0_2.flush t = true)

theorem block0 (t : Fin cfg0.N) (p : Fin 1024) (k : Fin 1024) (P : Fin 8192) (hP : P.val = 1024 * (t.val / 1) + p.val) :
    (iblk m c 0 t : Vec Ideal S1024x1024 .bf16) (ix2 p k) = G m c (ix2 P k) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * p.val = P.val; rw [(index0 t).1]; omega
  | ⟨1, _⟩ => show win0_0.index t 1 * 1024 + 1 * k.val = k.val; rw [(index0 t).2]; omega

theorem block1 (t : Fin cfg0.N) (q : Fin 1024) (k : Fin 1024) (Q : Fin 1024) (hQ : Q.val = 1024 * (t.val % 1) + q.val) :
    (iblk m c 1 t : Vec Ideal S1024x1024 .bf16) (ix2 k q) = W m c (ix2 k Q) := by
  unfold iblk
  rw [View.read_apply]
  show V m c main_arg1 _ = m (c.tc.loc main_arg1) _
  rw [V_main_arg1]
  congr 1
  funext a
  apply Fin.ext
  match a with
  | ⟨0, _⟩ => show win0_1.index t 0 * 1024 + 1 * k.val = k.val; rw [(index1 t).2]; omega
  | ⟨1, _⟩ => show win0_1.index t 1 * 1024 + 1 * q.val = Q.val; rw [(index1 t).1]; omega

/-- A grid point writes back its tile of the whole product. -/
theorem flushed_eq (t : Fin cfg0.N) : (dats m 0 c).flushed 2 t = ((cfg0.win 2).blk t).view.read (Elt Ideal) (prod m c) := by
  rw [flushed2, out_eq]
  have ht : t.val < 8 := lt_of_lt_of_eq t.isLt N_0
  funext y
  rw [View.read_apply]
  have h0 : (y 0).val < 1024 := (y 0).isLt
  have h1 : (y 1).val < 1024 := (y 1).isLt
  have e0 : (((cfg0.win 2).blk t).view.emb y 0).val = 1024 * (t.val / 1) + (y 0).val := by
    show win0_2.index t 0 * 1024 + 1 * (y 0).val = _; rw [(index2 t).1]; omega
  have e1 : (((cfg0.win 2).blk t).view.emb y 1).val = 1024 * (t.val % 1) + (y 1).val := by
    show win0_2.index t 1 * 1024 + 1 * (y 1).val = _; rw [(index2 t).2]; omega
  show k0_pay1 (iblk m c 0 t) (iblk m c 1 t) ((cfg0.win 2).xinj (grid0.coords t) y) = prod m c (((cfg0.win 2).blk t).view.emb y)
  rw [show (cfg0.win 2).xinj (grid0.coords t) y = ix2 (⟨(y 0).val, h0⟩ : Fin 1024) (⟨(y 1).val, h1⟩ : Fin 1024) from by
    funext a; apply Fin.ext
    match a with
    | ⟨0, _⟩ => rfl
    | ⟨1, _⟩ => rfl]
  rw [pay1]
  refine Finset.sum_congr rfl fun k _ => ?_
  exact congrArg₂ (· * ·) (block0 m c t _ k _ e0) (block1 m c t _ k _ e1)

/-- The tiles fill the array. -/
theorem final_eq : (dats m 0 c).arrAt 2 cfg0.N = prod m c :=
  (dats m 0 c).arrAt_eq_of_cover 2 _ (fun t _ => flushed_eq m c t) fun i => by
    have hN : cfg0.N = 8 := N_0
    have h0 : (i 0).val < 8192 := (i 0).isLt
    have h1 : (i 1).val < 1024 := (i 1).isLt
    have ht : 1 * ((i 0).val / 1024) + (i 1).val / 1024 < cfg0.N := by omega
    refine ⟨⟨_, ht⟩, flush2 _, ?_⟩
    show i ∈ ((View.whole main_v0).slice (win0_2.rect ⟨_, ht⟩)).set
    rw [View.set_slice_whole, Rect.mem_set_unit]
    intro a
    match a with
    | ⟨0, _⟩ =>
      show win0_2.index ⟨_, ht⟩ 0 * 1024 ≤ (i 0).val ∧ (i 0).val < win0_2.index ⟨_, ht⟩ 0 * 1024 + 1024
      rw [(index2 _).1]; dsimp only; omega
    | ⟨1, _⟩ =>
      show win0_2.index ⟨_, ht⟩ 1 * 1024 ≤ (i 1).val ∧ (i 1).val < win0_2.index ⟨_, ht⟩ 1 * 1024 + 1024
      rw [(index2 _).2]; dsimp only; omega

/-! ## The reference -/

/-- The reference's product, entry by entry. -/
theorem ref_eq (g : FVec Ideal Cert.PleGateRefIdeal.S8192x1024 .bf16) (w : FVec Ideal Cert.PleGateRefIdeal.S1024x1024 .bf16) (P : Fin 8192) (Q : Fin 1024) :
    (Host.dotGeneral Cert.PleGateRefIdeal.dot_S8192x1024_S1024x1024_S8192x1024_1_0_0_1_n_n none
        (extf .f32 g Cert.PleGateRefIdeal.Facts₀.bitsLt_bf16_f32) (extf .f32 w Cert.PleGateRefIdeal.Facts₀.bitsLt_bf16_f32)) (ix2 P Q)
      = ∑ k : Fin 1024, g (ix2 P k) * w (ix2 k Q) := by
  pointwise

theorem reference_frame : Cert.quiescent_PleGateRefIdeal := by
  intro m ρ _
  exact (θ_run Cert.PleGateRefIdeal.defs _ _).mono
    (fun r h => ⟨fun c => (h c).2, sem_eq_zero_of_no_sems (by decide) r.2⟩) (Cert.PleGateRefIdeal.Value.run (F := Ideal) m ρ)

/-- The kernel and the reference end with the same product. -/
theorem value : Cert.algebraic_PleGateIdeal_PleGateRefIdeal := by
  intro m g m' g' _ ha
  refine ⟨prod m, (θ_run Cert.PleGateIdeal.defs _ _).mono (fun r H c => ⟨(H c).1.trans (final_eq m c), (H c).2⟩) (run_blocks m g), ?_⟩
  refine (θ_run Cert.PleGateRefIdeal.defs _ _).mono (fun r H c => ⟨(H c).1.trans ?_, (H c).2⟩) (Cert.PleGateRefIdeal.Value.run (F := Ideal) m' g')
  rw [(ha c).1, (ha c).2]
  funext j
  idx_vars j
  rw [ref_eq]
  rfl

end Cert.Proof.PleGate

end
-- ==== Proof.PleProj.lean ====
/-
  The PLE's projection: the kernel's product, tile by tile, is the product of the whole arguments.
-/
module

public import proofs.«01_k».proof.Defs
public import proofs.«01_k».proof.Proof.Products
public import proofs.«01_k».proof.Proof.Gen.PleProjIdeal.Value
public import proofs.«01_k».proof.Proof.Gen.PleProjRefIdeal.Run

@[expose] public section

set_option maxRecDepth 16384
set_option pp.maxSteps 800

noncomputable section

namespace Cert.Proof.PleProj

open Cert.PleProjIdeal Cert.PleProjIdeal.Gen Cert.PleProjIdeal.Value
open Idealize.ShloMosaic Idealize.ShloMosaic.TcCoe Idealize.ShloMosaic.Tactic Idealize.SL.Sem

theorem hz : (![0, 0] : Fin 2 → Nat) = fun _ => 0 := funext fun a => by fin_cases a <;> rfl

/-- A point leaves its tile's product in the output. -/
theorem out_eq {F : FTy → Type} [FloatOps F] (x : Vec F S1024x256 .bf16) (y : Vec F S256x1024 .bf16) : out0_2 x y = k0_pay1 x y := by
  unfold out0_2
  rw [View.canon_unit_zero hz, View.ld_unit_zero (S := S1024x256) hz, View.ld_unit_zero (S := S256x1024) hz]

/-- A tile's product. -/
theorem pay1 (x : Vec Ideal S1024x256 .bf16) (y : Vec Ideal S256x1024 .bf16) (p : Fin 1024) (q : Fin 1024) :
    k0_pay1 x y (ix2 p q) = ∑ k : Fin 256, x (ix2 p k) * y (ix2 k q) := by
  pointwise [k0_pay1]

variable (m : (ℓ : Loc nD τ sig) → Buf (Elt Ideal) ℓ) (c : Dev nD)

/-- The two arguments. -/
abbrev G : S8192x256.Idx → EReal := m ((c : Thread nD τ).loc main_arg0)
abbrev W : S256x1024.Idx → EReal := m ((c : Thread nD τ).loc main_arg1)

/-- The product of the whole arguments. -/
def prod : S8192x1024.Idx → EReal := fun j => ∑ k : Fin 256, G m c (ix2 (j 0) k) * W m c (ix2 k (j 1))

theorem index0 : ∀ t : Fin cfg0.N, win0_0.index t 0 = t.val / 1 ∧ win0_0.index t 1 = 0 :=
  (by decide +kernel : ∀ t : Fin grid0.N, _)
theorem index1 : ∀ t : Fin cfg0.N, win0_1.index t 1 = t.val % 1 ∧ win0_1.index t 0 = 0 :=
  (by decide +kernel : ∀ t : Fin grid0.N, _)
theorem index2 : ∀ t : Fin cfg0.N, win0_2.index t 0 = t.val / 1 ∧ win0_2.index t 1 = t.val % 1 :=
  (by decide +kernel : ∀ t : Fin grid0.N, _)
theorem flush2 : ∀ t : Fin cfg0.N, (cfg0.win 2).flush t = true :=
  (by decide +kernel : ∀ t : Fin grid0.N, win0_2.flush t = true)

theorem block0 (t : Fin cfg0.N) (p : Fin 1024) (k : Fin 256) (P : Fin 8192) (hP : P.val = 1024 * (t.val / 1) + p.val) :
    (iblk m c 0 t : Vec Ideal S1024x256 .bf16) (ix2 p k) = G m c (ix2 P k) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * p.val = P.val; rw [(index0 t).1]; omega
  | ⟨1, _⟩ => show win0_0.index t 1 * 256 + 1 * k.val = k.val; rw [(index0 t).2]; omega

theorem block1 (t : Fin cfg0.N) (q : Fin 1024) (k : Fin 256) (Q : Fin 1024) (hQ : Q.val = 1024 * (t.val % 1) + q.val) :
    (iblk m c 1 t : Vec Ideal S256x1024 .bf16) (ix2 k q) = W m c (ix2 k Q) := by
  unfold iblk
  rw [View.read_apply]
  show V m c main_arg1 _ = m (c.tc.loc main_arg1) _
  rw [V_main_arg1]
  congr 1
  funext a
  apply Fin.ext
  match a with
  | ⟨0, _⟩ => show win0_1.index t 0 * 256 + 1 * k.val = k.val; rw [(index1 t).2]; omega
  | ⟨1, _⟩ => show win0_1.index t 1 * 1024 + 1 * q.val = Q.val; rw [(index1 t).1]; omega

/-- A grid point writes back its tile of the whole product. -/
theorem flushed_eq (t : Fin cfg0.N) : (dats m 0 c).flushed 2 t = ((cfg0.win 2).blk t).view.read (Elt Ideal) (prod m c) := by
  rw [flushed2, out_eq]
  have ht : t.val < 8 := lt_of_lt_of_eq t.isLt N_0
  funext y
  rw [View.read_apply]
  have h0 : (y 0).val < 1024 := (y 0).isLt
  have h1 : (y 1).val < 1024 := (y 1).isLt
  have e0 : (((cfg0.win 2).blk t).view.emb y 0).val = 1024 * (t.val / 1) + (y 0).val := by
    show win0_2.index t 0 * 1024 + 1 * (y 0).val = _; rw [(index2 t).1]; omega
  have e1 : (((cfg0.win 2).blk t).view.emb y 1).val = 1024 * (t.val % 1) + (y 1).val := by
    show win0_2.index t 1 * 1024 + 1 * (y 1).val = _; rw [(index2 t).2]; omega
  show k0_pay1 (iblk m c 0 t) (iblk m c 1 t) ((cfg0.win 2).xinj (grid0.coords t) y) = prod m c (((cfg0.win 2).blk t).view.emb y)
  rw [show (cfg0.win 2).xinj (grid0.coords t) y = ix2 (⟨(y 0).val, h0⟩ : Fin 1024) (⟨(y 1).val, h1⟩ : Fin 1024) from by
    funext a; apply Fin.ext
    match a with
    | ⟨0, _⟩ => rfl
    | ⟨1, _⟩ => rfl]
  rw [pay1]
  refine Finset.sum_congr rfl fun k _ => ?_
  exact congrArg₂ (· * ·) (block0 m c t _ k _ e0) (block1 m c t _ k _ e1)

/-- The tiles fill the array. -/
theorem final_eq : (dats m 0 c).arrAt 2 cfg0.N = prod m c :=
  (dats m 0 c).arrAt_eq_of_cover 2 _ (fun t _ => flushed_eq m c t) fun i => by
    have hN : cfg0.N = 8 := N_0
    have h0 : (i 0).val < 8192 := (i 0).isLt
    have h1 : (i 1).val < 1024 := (i 1).isLt
    have ht : 1 * ((i 0).val / 1024) + (i 1).val / 1024 < cfg0.N := by omega
    refine ⟨⟨_, ht⟩, flush2 _, ?_⟩
    show i ∈ ((View.whole main_v0).slice (win0_2.rect ⟨_, ht⟩)).set
    rw [View.set_slice_whole, Rect.mem_set_unit]
    intro a
    match a with
    | ⟨0, _⟩ =>
      show win0_2.index ⟨_, ht⟩ 0 * 1024 ≤ (i 0).val ∧ (i 0).val < win0_2.index ⟨_, ht⟩ 0 * 1024 + 1024
      rw [(index2 _).1]; dsimp only; omega
    | ⟨1, _⟩ =>
      show win0_2.index ⟨_, ht⟩ 1 * 1024 ≤ (i 1).val ∧ (i 1).val < win0_2.index ⟨_, ht⟩ 1 * 1024 + 1024
      rw [(index2 _).2]; dsimp only; omega

/-! ## The reference -/

/-- The reference's product, entry by entry. -/
theorem ref_eq (g : FVec Ideal Cert.PleProjRefIdeal.S8192x256 .bf16) (w : FVec Ideal Cert.PleProjRefIdeal.S256x1024 .bf16) (P : Fin 8192) (Q : Fin 1024) :
    (Host.dotGeneral Cert.PleProjRefIdeal.dot_S8192x256_S256x1024_S8192x1024_1_0_0_1_n_n none
        (extf .f32 g Cert.PleProjRefIdeal.Facts₀.bitsLt_bf16_f32) (extf .f32 w Cert.PleProjRefIdeal.Facts₀.bitsLt_bf16_f32)) (ix2 P Q)
      = ∑ k : Fin 256, g (ix2 P k) * w (ix2 k Q) := by
  pointwise

theorem reference_frame : Cert.quiescent_PleProjRefIdeal := by
  intro m ρ _
  exact (θ_run Cert.PleProjRefIdeal.defs _ _).mono
    (fun r h => ⟨fun c => (h c).2, sem_eq_zero_of_no_sems (by decide) r.2⟩) (Cert.PleProjRefIdeal.Value.run (F := Ideal) m ρ)

/-- The kernel and the reference end with the same product. -/
theorem value : Cert.algebraic_PleProjIdeal_PleProjRefIdeal := by
  intro m g m' g' _ ha
  refine ⟨prod m, (θ_run Cert.PleProjIdeal.defs _ _).mono (fun r H c => ⟨(H c).1.trans (final_eq m c), (H c).2⟩) (run_blocks m g), ?_⟩
  refine (θ_run Cert.PleProjRefIdeal.defs _ _).mono (fun r H c => ⟨(H c).1.trans ?_, (H c).2⟩) (Cert.PleProjRefIdeal.Value.run (F := Ideal) m' g')
  rw [(ha c).1, (ha c).2]
  funext j
  idx_vars j
  rw [ref_eq]
  rfl

end Cert.Proof.PleProj

end
-- ==== Proof.Adam.lean ====
/-
  One entry of an optimiser step at the extended reals. The kernel multiplies the two moments by the named constants `c1` and
  `c2`, the reference divides them by the numbers whose reciprocals these are: the same, on every extended real.
-/
module

public import Idealize.ShloMosaic.PureOps.Ideal
public import Idealize.ShloMosaic.PureOps.IdealRules

@[expose] public section

noncomputable section

namespace Cert.Proof.Adam

open Idealize.ShloMosaic

/-- The two numbers that the reference divides by. -/
theorem ofBits_d1 : Ideal.ofBits .f32 0x3F26BD02#32 = ((5463681 / 8388608 : ℝ) : EReal) := by
  simp [Ideal.ofBits, Ideal.ieee, -EReal.coe_mul]; norm_num

theorem ofBits_d2 : Ideal.ofBits .f32 0x3C231ACC#32 = ((2672307 / 268435456 : ℝ) : EReal) := by
  simp [Ideal.ofBits, Ideal.ieee, -EReal.coe_mul]; norm_num

/-- Division by the first is the product with `c1`. -/
theorem div_d1 (κ : String → Option EReal) (h : κ "c1" = some (((5463681 / 8388608)⁻¹ : ℝ) : EReal)) (x : EReal) :
    Ideal.div x (Ideal.ofBits .f32 0x3F26BD02#32) = x * Named.named (F := Ideal) κ "c1" (φ := .f32) 0x3FC48605#32 := by
  rw [IdealRules.named_const.ideal_named_scalar _ _ _ _ h, ofBits_d1, Ideal.div_coe (by norm_num), one_div]

/-- Division by the second is the product with `c2`. -/
theorem div_d2 (κ : String → Option EReal) (h : κ "c2" = some (((2672307 / 268435456)⁻¹ : ℝ) : EReal)) (x : EReal) :
    Ideal.div x (Ideal.ofBits .f32 0x3C231ACC#32) = x * Named.named (F := Ideal) κ "c2" (φ := .f32) 0x42C8E6D3#32 := by
  rw [IdealRules.named_const.ideal_named_scalar _ _ _ _ h, ofBits_d2, Ideal.div_coe (by norm_num), one_div]

/-- The step of a weight `w` from its new moments `m` and `v`: the reference's is the kernel's. -/
theorem delta_eq (κ : String → Option EReal) (h1 : κ "c1" = some (((5463681 / 8388608)⁻¹ : ℝ) : EReal))
    (h2 : κ "c2" = some (((2672307 / 268435456)⁻¹ : ℝ) : EReal)) (lr eps wd w m v : EReal) :
    lr * (Ideal.div (Ideal.div m (Ideal.ofBits .f32 0x3F26BD02#32))
        (Ideal.sqrt (Ideal.div v (Ideal.ofBits .f32 0x3C231ACC#32)) + eps) + wd * w)
      = lr * (Ideal.div (m * Named.named (F := Ideal) κ "c1" (φ := .f32) 0x3FC48605#32)
        (Ideal.sqrt (v * Named.named (F := Ideal) κ "c2" (φ := .f32) 0x42C8E6D3#32) + eps) + wd * w) := by
  rw [div_d1 κ h1, div_d2 κ h2]

end Cert.Proof.Adam

end
-- ==== Proof.AdamSteps.lean ====
/-
  The optimiser's steps, one namespace for each shape of weight. What the kernel and the reference leave in their arrays is
  entrywise the same arithmetic but for the named constants, which `Proof/Adam.lean` reads.
-/
module

public import proofs.«01_k».proof.Defs
public import proofs.«01_k».proof.Proof.Adam
public import proofs.«01_k».proof.Proof.Gen.AdamEvenInIdeal.Value
public import proofs.«01_k».proof.Proof.Gen.AdamEvenInRefIdeal.Run
public import proofs.«01_k».proof.Proof.Gen.AdamEvenOutIdeal.Value
public import proofs.«01_k».proof.Proof.Gen.AdamEvenOutRefIdeal.Run
public import proofs.«01_k».proof.Proof.Gen.AdamOddInIdeal.Value
public import proofs.«01_k».proof.Proof.Gen.AdamOddInRefIdeal.Run
public import proofs.«01_k».proof.Proof.Gen.AdamOddOutIdeal.Value
public import proofs.«01_k».proof.Proof.Gen.AdamOddOutRefIdeal.Run
public import proofs.«01_k».proof.Proof.Gen.AdamFfnUpIdeal.Value
public import proofs.«01_k».proof.Proof.Gen.AdamFfnUpRefIdeal.Run
public import proofs.«01_k».proof.Proof.Gen.AdamFfnDownIdeal.Value
public import proofs.«01_k».proof.Proof.Gen.AdamFfnDownRefIdeal.Run
public import proofs.«01_k».proof.Proof.Gen.AdamPleProjIdeal.Value
public import proofs.«01_k».proof.Proof.Gen.AdamPleProjRefIdeal.Run
public import proofs.«01_k».proof.Proof.Gen.AdamSmallIdeal.Value
public import proofs.«01_k».proof.Proof.Gen.AdamSmallRefIdeal.Run

@[expose] public section

noncomputable section

open Idealize.ShloMosaic Idealize.ShloMosaic.TcCoe Idealize.SL.Sem

/-! ## The even input projection. -/

namespace Cert.Proof.AdamEvenIn

theorem reference_frame : Cert.quiescent_AdamEvenInRefIdeal := by
  intro m ρ _
  exact (θ_run Cert.AdamEvenInRefIdeal.defs _ _).mono
    (fun r h => ⟨fun c => (h c).2.2.2, sem_eq_zero_of_no_sems (by decide) r.2⟩) (Cert.AdamEvenInRefIdeal.Value.run (F := Ideal) m ρ)

theorem names : Cert.preserves_AdamEvenIn_AdamEvenInIdeal :=
  ⟨IdealRules.named_const.statement Cert.AdamEvenInIdeal.κ "c1" .f32 0x3FC48605#32 _ rfl,
    IdealRules.named_const.statement Cert.AdamEvenInIdeal.κ "c2" .f32 0x42C8E6D3#32 _ rfl⟩

/-- The kernel and the reference end with the same step and the same moments. -/
theorem value : Cert.algebraic_AdamEvenInIdeal_AdamEvenInRefIdeal := by
  intro m g m' g' _ ha
  refine ⟨_, _, _, Cert.AdamEvenInIdeal.Value.run (F := Ideal) m g, ?_⟩
  refine (θ_run Cert.AdamEvenInRefIdeal.defs _ _).mono
    (fun r H c => ⟨(H c).1.trans ?_, (H c).2.1.trans ?_, (H c).2.2.1.trans ?_, (H c).2.2.2⟩)
    (Cert.AdamEvenInRefIdeal.Value.run (F := Ideal) m' g')
  · rw [(ha c).1, (ha c).2.1, (ha c).2.2.1, (ha c).2.2.2]
    funext i
    exact Adam.delta_eq Cert.AdamEvenInIdeal.κ rfl rfl _ _ _ _ _ _
  · rw [(ha c).2.1, (ha c).2.2.1]
    rfl
  · rw [(ha c).2.1, (ha c).2.2.2]
    rfl

end Cert.Proof.AdamEvenIn

/-! ## The even output projection. -/

namespace Cert.Proof.AdamEvenOut

theorem reference_frame : Cert.quiescent_AdamEvenOutRefIdeal := by
  intro m ρ _
  exact (θ_run Cert.AdamEvenOutRefIdeal.defs _ _).mono
    (fun r h => ⟨fun c => (h c).2.2.2, sem_eq_zero_of_no_sems (by decide) r.2⟩) (Cert.AdamEvenOutRefIdeal.Value.run (F := Ideal) m ρ)

theorem names : Cert.preserves_AdamEvenOut_AdamEvenOutIdeal :=
  ⟨IdealRules.named_const.statement Cert.AdamEvenOutIdeal.κ "c1" .f32 0x3FC48605#32 _ rfl,
    IdealRules.named_const.statement Cert.AdamEvenOutIdeal.κ "c2" .f32 0x42C8E6D3#32 _ rfl⟩

/-- The kernel and the reference end with the same step and the same moments. -/
theorem value : Cert.algebraic_AdamEvenOutIdeal_AdamEvenOutRefIdeal := by
  intro m g m' g' _ ha
  refine ⟨_, _, _, Cert.AdamEvenOutIdeal.Value.run (F := Ideal) m g, ?_⟩
  refine (θ_run Cert.AdamEvenOutRefIdeal.defs _ _).mono
    (fun r H c => ⟨(H c).1.trans ?_, (H c).2.1.trans ?_, (H c).2.2.1.trans ?_, (H c).2.2.2⟩)
    (Cert.AdamEvenOutRefIdeal.Value.run (F := Ideal) m' g')
  · rw [(ha c).1, (ha c).2.1, (ha c).2.2.1, (ha c).2.2.2]
    funext i
    exact Adam.delta_eq Cert.AdamEvenOutIdeal.κ rfl rfl _ _ _ _ _ _
  · rw [(ha c).2.1, (ha c).2.2.1]
    rfl
  · rw [(ha c).2.1, (ha c).2.2.2]
    rfl

end Cert.Proof.AdamEvenOut

/-! ## The odd input projection. -/

namespace Cert.Proof.AdamOddIn

theorem reference_frame : Cert.quiescent_AdamOddInRefIdeal := by
  intro m ρ _
  exact (θ_run Cert.AdamOddInRefIdeal.defs _ _).mono
    (fun r h => ⟨fun c => (h c).2.2.2, sem_eq_zero_of_no_sems (by decide) r.2⟩) (Cert.AdamOddInRefIdeal.Value.run (F := Ideal) m ρ)

theorem names : Cert.preserves_AdamOddIn_AdamOddInIdeal :=
  ⟨IdealRules.named_const.statement Cert.AdamOddInIdeal.κ "c1" .f32 0x3FC48605#32 _ rfl,
    IdealRules.named_const.statement Cert.AdamOddInIdeal.κ "c2" .f32 0x42C8E6D3#32 _ rfl⟩

/-- The kernel and the reference end with the same step and the same moments. -/
theorem value : Cert.algebraic_AdamOddInIdeal_AdamOddInRefIdeal := by
  intro m g m' g' _ ha
  refine ⟨_, _, _, Cert.AdamOddInIdeal.Value.run (F := Ideal) m g, ?_⟩
  refine (θ_run Cert.AdamOddInRefIdeal.defs _ _).mono
    (fun r H c => ⟨(H c).1.trans ?_, (H c).2.1.trans ?_, (H c).2.2.1.trans ?_, (H c).2.2.2⟩)
    (Cert.AdamOddInRefIdeal.Value.run (F := Ideal) m' g')
  · rw [(ha c).1, (ha c).2.1, (ha c).2.2.1, (ha c).2.2.2]
    funext i
    exact Adam.delta_eq Cert.AdamOddInIdeal.κ rfl rfl _ _ _ _ _ _
  · rw [(ha c).2.1, (ha c).2.2.1]
    rfl
  · rw [(ha c).2.1, (ha c).2.2.2]
    rfl

end Cert.Proof.AdamOddIn

/-! ## The odd output projection, and the embedding's gate, which has its shape. -/

namespace Cert.Proof.AdamOddOut

theorem reference_frame : Cert.quiescent_AdamOddOutRefIdeal := by
  intro m ρ _
  exact (θ_run Cert.AdamOddOutRefIdeal.defs _ _).mono
    (fun r h => ⟨fun c => (h c).2.2.2, sem_eq_zero_of_no_sems (by decide) r.2⟩) (Cert.AdamOddOutRefIdeal.Value.run (F := Ideal) m ρ)

theorem names : Cert.preserves_AdamOddOut_AdamOddOutIdeal :=
  ⟨IdealRules.named_const.statement Cert.AdamOddOutIdeal.κ "c1" .f32 0x3FC48605#32 _ rfl,
    IdealRules.named_const.statement Cert.AdamOddOutIdeal.κ "c2" .f32 0x42C8E6D3#32 _ rfl⟩

/-- The kernel and the reference end with the same step and the same moments. -/
theorem value : Cert.algebraic_AdamOddOutIdeal_AdamOddOutRefIdeal := by
  intro m g m' g' _ ha
  refine ⟨_, _, _, Cert.AdamOddOutIdeal.Value.run (F := Ideal) m g, ?_⟩
  refine (θ_run Cert.AdamOddOutRefIdeal.defs _ _).mono
    (fun r H c => ⟨(H c).1.trans ?_, (H c).2.1.trans ?_, (H c).2.2.1.trans ?_, (H c).2.2.2⟩)
    (Cert.AdamOddOutRefIdeal.Value.run (F := Ideal) m' g')
  · rw [(ha c).1, (ha c).2.1, (ha c).2.2.1, (ha c).2.2.2]
    funext i
    exact Adam.delta_eq Cert.AdamOddOutIdeal.κ rfl rfl _ _ _ _ _ _
  · rw [(ha c).2.1, (ha c).2.2.1]
    rfl
  · rw [(ha c).2.1, (ha c).2.2.2]
    rfl

end Cert.Proof.AdamOddOut

/-! ## The ConvFFN's up projection. -/

namespace Cert.Proof.AdamFfnUp

theorem reference_frame : Cert.quiescent_AdamFfnUpRefIdeal := by
  intro m ρ _
  exact (θ_run Cert.AdamFfnUpRefIdeal.defs _ _).mono
    (fun r h => ⟨fun c => (h c).2.2.2, sem_eq_zero_of_no_sems (by decide) r.2⟩) (Cert.AdamFfnUpRefIdeal.Value.run (F := Ideal) m ρ)

theorem names : Cert.preserves_AdamFfnUp_AdamFfnUpIdeal :=
  ⟨IdealRules.named_const.statement Cert.AdamFfnUpIdeal.κ "c1" .f32 0x3FC48605#32 _ rfl,
    IdealRules.named_const.statement Cert.AdamFfnUpIdeal.κ "c2" .f32 0x42C8E6D3#32 _ rfl⟩

/-- The kernel and the reference end with the same step and the same moments. -/
theorem value : Cert.algebraic_AdamFfnUpIdeal_AdamFfnUpRefIdeal := by
  intro m g m' g' _ ha
  refine ⟨_, _, _, Cert.AdamFfnUpIdeal.Value.run (F := Ideal) m g, ?_⟩
  refine (θ_run Cert.AdamFfnUpRefIdeal.defs _ _).mono
    (fun r H c => ⟨(H c).1.trans ?_, (H c).2.1.trans ?_, (H c).2.2.1.trans ?_, (H c).2.2.2⟩)
    (Cert.AdamFfnUpRefIdeal.Value.run (F := Ideal) m' g')
  · rw [(ha c).1, (ha c).2.1, (ha c).2.2.1, (ha c).2.2.2]
    funext i
    exact Adam.delta_eq Cert.AdamFfnUpIdeal.κ rfl rfl _ _ _ _ _ _
  · rw [(ha c).2.1, (ha c).2.2.1]
    rfl
  · rw [(ha c).2.1, (ha c).2.2.2]
    rfl

end Cert.Proof.AdamFfnUp

/-! ## The ConvFFN's down projection. -/

namespace Cert.Proof.AdamFfnDown

theorem reference_frame : Cert.quiescent_AdamFfnDownRefIdeal := by
  intro m ρ _
  exact (θ_run Cert.AdamFfnDownRefIdeal.defs _ _).mono
    (fun r h => ⟨fun c => (h c).2.2.2, sem_eq_zero_of_no_sems (by decide) r.2⟩) (Cert.AdamFfnDownRefIdeal.Value.run (F := Ideal) m ρ)

theorem names : Cert.preserves_AdamFfnDown_AdamFfnDownIdeal :=
  ⟨IdealRules.named_const.statement Cert.AdamFfnDownIdeal.κ "c1" .f32 0x3FC48605#32 _ rfl,
    IdealRules.named_const.statement Cert.AdamFfnDownIdeal.κ "c2" .f32 0x42C8E6D3#32 _ rfl⟩

/-- The kernel and the reference end with the same step and the same moments. -/
theorem value : Cert.algebraic_AdamFfnDownIdeal_AdamFfnDownRefIdeal := by
  intro m g m' g' _ ha
  refine ⟨_, _, _, Cert.AdamFfnDownIdeal.Value.run (F := Ideal) m g, ?_⟩
  refine (θ_run Cert.AdamFfnDownRefIdeal.defs _ _).mono
    (fun r H c => ⟨(H c).1.trans ?_, (H c).2.1.trans ?_, (H c).2.2.1.trans ?_, (H c).2.2.2⟩)
    (Cert.AdamFfnDownRefIdeal.Value.run (F := Ideal) m' g')
  · rw [(ha c).1, (ha c).2.1, (ha c).2.2.1, (ha c).2.2.2]
    funext i
    exact Adam.delta_eq Cert.AdamFfnDownIdeal.κ rfl rfl _ _ _ _ _ _
  · rw [(ha c).2.1, (ha c).2.2.1]
    rfl
  · rw [(ha c).2.1, (ha c).2.2.2]
    rfl

end Cert.Proof.AdamFfnDown

/-! ## The embedding's projection. -/

namespace Cert.Proof.AdamPleProj

theorem reference_frame : Cert.quiescent_AdamPleProjRefIdeal := by
  intro m ρ _
  exact (θ_run Cert.AdamPleProjRefIdeal.defs _ _).mono
    (fun r h => ⟨fun c => (h c).2.2.2, sem_eq_zero_of_no_sems (by decide) r.2⟩) (Cert.AdamPleProjRefIdeal.Value.run (F := Ideal) m ρ)

theorem names : Cert.preserves_AdamPleProj_AdamPleProjIdeal :=
  ⟨IdealRules.named_const.statement Cert.AdamPleProjIdeal.κ "c1" .f32 0x3FC48605#32 _ rfl,
    IdealRules.named_const.statement Cert.AdamPleProjIdeal.κ "c2" .f32 0x42C8E6D3#32 _ rfl⟩

/-- The kernel and the reference end with the same step and the same moments. -/
theorem value : Cert.algebraic_AdamPleProjIdeal_AdamPleProjRefIdeal := by
  intro m g m' g' _ ha
  refine ⟨_, _, _, Cert.AdamPleProjIdeal.Value.run (F := Ideal) m g, ?_⟩
  refine (θ_run Cert.AdamPleProjRefIdeal.defs _ _).mono
    (fun r H c => ⟨(H c).1.trans ?_, (H c).2.1.trans ?_, (H c).2.2.1.trans ?_, (H c).2.2.2⟩)
    (Cert.AdamPleProjRefIdeal.Value.run (F := Ideal) m' g')
  · rw [(ha c).1, (ha c).2.1, (ha c).2.2.1, (ha c).2.2.2]
    funext i
    exact Adam.delta_eq Cert.AdamPleProjIdeal.κ rfl rfl _ _ _ _ _ _
  · rw [(ha c).2.1, (ha c).2.2.1]
    rfl
  · rw [(ha c).2.1, (ha c).2.2.2]
    rfl

end Cert.Proof.AdamPleProj

/-! ## The fifteen small weights, packed. -/

namespace Cert.Proof.AdamSmall

theorem reference_frame : Cert.quiescent_AdamSmallRefIdeal := by
  intro m ρ _
  exact (θ_run Cert.AdamSmallRefIdeal.defs _ _).mono
    (fun r h => ⟨fun c => (h c).2.2.2, sem_eq_zero_of_no_sems (by decide) r.2⟩) (Cert.AdamSmallRefIdeal.Value.run (F := Ideal) m ρ)

theorem names : Cert.preserves_AdamSmall_AdamSmallIdeal :=
  ⟨IdealRules.named_const.statement Cert.AdamSmallIdeal.κ "c1" .f32 0x3FC48605#32 _ rfl,
    IdealRules.named_const.statement Cert.AdamSmallIdeal.κ "c2" .f32 0x42C8E6D3#32 _ rfl⟩

/-- The kernel and the reference end with the same step and the same moments. -/
theorem value : Cert.algebraic_AdamSmallIdeal_AdamSmallRefIdeal := by
  intro m g m' g' _ ha
  refine ⟨_, _, _, Cert.AdamSmallIdeal.Value.run (F := Ideal) m g, ?_⟩
  refine (θ_run Cert.AdamSmallRefIdeal.defs _ _).mono
    (fun r H c => ⟨(H c).1.trans ?_, (H c).2.1.trans ?_, (H c).2.2.1.trans ?_, (H c).2.2.2⟩)
    (Cert.AdamSmallRefIdeal.Value.run (F := Ideal) m' g')
  · rw [(ha c).1, (ha c).2.1, (ha c).2.2.1, (ha c).2.2.2]
    funext i
    exact Adam.delta_eq Cert.AdamSmallIdeal.κ rfl rfl _ _ _ _ _ _
  · rw [(ha c).2.1, (ha c).2.2.1]
    rfl
  · rw [(ha c).2.1, (ha c).2.2.2]
    rfl

end Cert.Proof.AdamSmall

end
-- ==== Proof.lean ====
module

public import proofs.«01_k».proof.Defs
public import proofs.«01_k».proof.Proof.KernelFrame
public import proofs.«01_k».proof.Proof.KernelIdealFrame
public import proofs.«01_k».proof.Proof.Algebra
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.DownGrad
public import proofs.«01_k».proof.Proof.Gen.DownGrad.Frame
public import proofs.«01_k».proof.Proof.DownGrad
public import proofs.«01_k».proof.Proof.Gen.DownBack
public import proofs.«01_k».proof.Proof.Gen.DownBack.Frame
public import proofs.«01_k».proof.Proof.DownBack
public import proofs.«01_k».proof.Proof.Gen.UpGrad
public import proofs.«01_k».proof.Proof.Gen.UpGrad.Frame
public import proofs.«01_k».proof.Proof.UpGrad
public import proofs.«01_k».proof.Proof.Gen.UpBackG
public import proofs.«01_k».proof.Proof.Gen.UpBackG.Frame
public import proofs.«01_k».proof.Proof.UpBackG
public import proofs.«01_k».proof.Proof.Gen.UpBackV
public import proofs.«01_k».proof.Proof.Gen.UpBackV.Frame
public import proofs.«01_k».proof.Proof.UpBackV
public import proofs.«01_k».proof.Proof.Gen.OddXGrad
public import proofs.«01_k».proof.Proof.Gen.OddXGrad.Frame
public import proofs.«01_k».proof.Proof.OddXGrad
public import proofs.«01_k».proof.Proof.Gen.OddXBack
public import proofs.«01_k».proof.Proof.Gen.OddXBack.Frame
public import proofs.«01_k».proof.Proof.OddXBack
public import proofs.«01_k».proof.Proof.Gen.OddOutGrad
public import proofs.«01_k».proof.Proof.Gen.OddOutGrad.Frame
public import proofs.«01_k».proof.Proof.OddOutGrad
public import proofs.«01_k».proof.Proof.Gen.OddOutBack
public import proofs.«01_k».proof.Proof.Gen.OddOutBack.Frame
public import proofs.«01_k».proof.Proof.OddOutBack
public import proofs.«01_k».proof.Proof.Gen.OddZGrad
public import proofs.«01_k».proof.Proof.Gen.OddZGrad.Frame
public import proofs.«01_k».proof.Proof.OddZGrad
public import proofs.«01_k».proof.Proof.Gen.OddZBack
public import proofs.«01_k».proof.Proof.Gen.OddZBack.Frame
public import proofs.«01_k».proof.Proof.OddZBack
public import proofs.«01_k».proof.Proof.Gen.EvenInGrad
public import proofs.«01_k».proof.Proof.Gen.EvenInGrad.Frame
public import proofs.«01_k».proof.Proof.EvenInGrad
public import proofs.«01_k».proof.Proof.Gen.ConvBack
public import proofs.«01_k».proof.Proof.Gen.ConvBack.Frame
public import proofs.«01_k».proof.Proof.ConvBack
public import proofs.«01_k».proof.Proof.Gen.QkvBack
public import proofs.«01_k».proof.Proof.Gen.QkvBack.Frame
public import proofs.«01_k».proof.Proof.QkvBack
public import proofs.«01_k».proof.Proof.Gen.GateGrad
public import proofs.«01_k».proof.Proof.Gen.GateGrad.Frame
public import proofs.«01_k».proof.Proof.GateGrad
public import proofs.«01_k».proof.Proof.Gen.GateBack
public import proofs.«01_k».proof.Proof.Gen.GateBack.Frame
public import proofs.«01_k».proof.Proof.GateBack
public import proofs.«01_k».proof.Proof.Gen.ProjGrad
public import proofs.«01_k».proof.Proof.Gen.ProjGrad.Frame
public import proofs.«01_k».proof.Proof.ProjGrad
public import proofs.«01_k».proof.Proof.Gen.EvenOutBack
public import proofs.«01_k».proof.Proof.Gen.EvenOutBack.Frame
public import proofs.«01_k».proof.Proof.EvenOutBack
public import proofs.«01_k».proof.Proof.Gen.FfnUp
public import proofs.«01_k».proof.Proof.Gen.FfnUp.Frame
public import proofs.«01_k».proof.Proof.FfnUp
public import proofs.«01_k».proof.Proof.Gen.FfnDown
public import proofs.«01_k».proof.Proof.Gen.FfnDown.Frame
public import proofs.«01_k».proof.Proof.FfnDown
public import proofs.«01_k».proof.Proof.Gen.OddX
public import proofs.«01_k».proof.Proof.Gen.OddX.Frame
public import proofs.«01_k».proof.Proof.OddX
public import proofs.«01_k».proof.Proof.Gen.OddZ
public import proofs.«01_k».proof.Proof.Gen.OddZ.Frame
public import proofs.«01_k».proof.Proof.OddZ
public import proofs.«01_k».proof.Proof.Gen.OddOut
public import proofs.«01_k».proof.Proof.Gen.OddOut.Frame
public import proofs.«01_k».proof.Proof.OddOut
public import proofs.«01_k».proof.Proof.Gen.EvenConv
public import proofs.«01_k».proof.Proof.Gen.EvenConv.Frame
public import proofs.«01_k».proof.Proof.EvenConv
public import proofs.«01_k».proof.Proof.Gen.EvenQkv
public import proofs.«01_k».proof.Proof.Gen.EvenQkv.Frame
public import proofs.«01_k».proof.Proof.EvenQkv
public import proofs.«01_k».proof.Proof.Gen.PleGate
public import proofs.«01_k».proof.Proof.Gen.PleGate.Frame
public import proofs.«01_k».proof.Proof.PleGate
public import proofs.«01_k».proof.Proof.Gen.PleProj
public import proofs.«01_k».proof.Proof.Gen.PleProj.Frame
public import proofs.«01_k».proof.Proof.PleProj
public import Idealize.ShloMosaic.Adequacy
public import Idealize.ShloMosaic.Init
public import proofs.«01_k».proof.Proof.Gen.AdamEvenIn
public import proofs.«01_k».proof.Proof.Gen.AdamEvenIn.Frame
public import proofs.«01_k».proof.Proof.Gen.AdamEvenOut
public import proofs.«01_k».proof.Proof.Gen.AdamEvenOut.Frame
public import proofs.«01_k».proof.Proof.Gen.AdamOddIn
public import proofs.«01_k».proof.Proof.Gen.AdamOddIn.Frame
public import proofs.«01_k».proof.Proof.Gen.AdamOddOut
public import proofs.«01_k».proof.Proof.Gen.AdamOddOut.Frame
public import proofs.«01_k».proof.Proof.Gen.AdamFfnUp
public import proofs.«01_k».proof.Proof.Gen.AdamFfnUp.Frame
public import proofs.«01_k».proof.Proof.Gen.AdamFfnDown
public import proofs.«01_k».proof.Proof.Gen.AdamFfnDown.Frame
public import proofs.«01_k».proof.Proof.Gen.AdamPleProj
public import proofs.«01_k».proof.Proof.Gen.AdamPleProj.Frame
public import proofs.«01_k».proof.Proof.Gen.AdamSmall
public import proofs.«01_k».proof.Proof.Gen.AdamSmall.Frame
public import proofs.«01_k».proof.Proof.AdamSteps

@[expose] public section

set_option maxRecDepth 16384

noncomputable section

namespace Cert.Proof

open Idealize.ShloMosaic Idealize.SL.Sem Idealize.ShloMosaic.TcCoe
open Cert.Proof.Pays (mat box)

/-- The reference ends with its arguments unchanged and every counter at zero: it has no semaphores. -/
theorem reference_frame :
    (letI := Cert.ReferenceIdeal.Gen.facts; Cert.quiescent_ReferenceIdeal) := by
  letI := Cert.ReferenceIdeal.Gen.facts
  intro m ρ _
  exact (θ_run Cert.ReferenceIdeal.defs _ _).mono
    (fun r h => ⟨fun c => (h c).2.2.2.2, sem_eq_zero_of_no_sems (by decide) r.2⟩) (Cert.ReferenceIdeal.Value.run (F := Ideal) m ρ)

/-- The four gradients of real arguments. -/
abbrev gq (A : Entry.Args) : FVec Ideal ⟨2, ![8192, 512]⟩ .bf16 := mat (Run.dqAll A.glob)
abbrev gk (A : Entry.Args) : FVec Ideal ⟨2, ![8192, 512]⟩ .f32 := mat fun s l => A.glob.dk (l / 128) 32 s (l % 128) * (1 / 8)
abbrev gv (A : Entry.Args) : FVec Ideal ⟨2, ![8192, 512]⟩ .f32 := mat fun s l => A.glob.dv (l / 128) 32 s (l % 128)
abbrev gf (A : Entry.Args) : FVec Ideal ⟨3, ![8, 1, 8192]⟩ .f32 := box fun h _ s => A.glob.df (h / 2) 32 (h % 2) s

section reference
variable (A : Entry.Args)

theorem ref_e : Host.tE (Host.tS (Host.tHeads (mat A.Q)) (Host.tHeads (mat A.K)) (mat A.F)) (Host.tM' (Host.tS (Host.tHeads (mat A.Q)) (Host.tHeads (mat A.K)) (mat A.F)))
    = box (Host.ex A.p) := by
  rw [Host.heads_eq, Host.heads_eq, Host.s_eq]
  exact (congrArg (Host.tE _) (Host.m'_eq A.p)).trans (Host.e_eq A.p)

theorem ref_ds : Host.tDs (Host.tDot (Host.tHeads (mat A.G)) (Host.tHeads (mat A.W))) (box (Host.ex A.p)) (Host.tZ (box (Host.ex A.p)))
    = box (Algebra.dr A) := by
  rw [Host.heads_eq, Host.heads_eq, Host.dot_eq, Host.z_eq, Host.ds_eq _ _ _ fun a r => (Entry.ex_pos A.p a r).ne']
  exact congrArg box (funext fun a => funext fun r => funext fun s => Algebra.dr_ref A a r s)

theorem ref_q : Host.tDq (Host.tSc (box (Algebra.dr A))) (Host.tHeads (mat A.K)) = gq A := by
  rw [Host.heads_eq, Host.sc_eq, Host.dq_eq]
  exact Host.ext2 fun r l => congrArg (fun x : ℝ => (x : EReal)) (Algebra.dq_sum A r.val l.val r.isLt l.isLt).symm

theorem ref_k : Host.tDk (Host.tSc (box (Algebra.dr A))) (Host.tHeads (mat A.Q)) = gk A := by
  rw [Host.heads_eq, Host.sc_eq, Host.dk_eq]
  exact Host.ext2 fun r l => congrArg (fun x : ℝ => (x : EReal)) (Algebra.dk_all A r.val l.val l.isLt).symm

theorem ref_v : Host.tDv (Host.tHeads (mat A.G)) (Host.tOver (box (Host.ex A.p)) (Host.tZ (box (Host.ex A.p)))) = gv A := by
  rw [Host.heads_eq, Host.z_eq, Host.over_eq _ _ fun a r => (Entry.ex_pos A.p a r).ne', Host.dv_eq]
  exact Host.ext2 fun r l => congrArg (fun x : ℝ => (x : EReal)) (Algebra.dv_all A r.val l.val l.isLt).symm

theorem ref_f : Host.tDf (box (Algebra.dr A)) = gf A := by
  rw [Host.df_eq]
  exact Host.ext3 fun a o s => congrArg (fun x : ℝ => (x : EReal)) (Algebra.df_all A a.val s.val a.isLt).symm
end reference

/-- The kernel's run over real arguments. -/
theorem kernel_run (m : (ℓ : Loc Cert.KernelIdeal.nD Cert.KernelIdeal.τ Cert.KernelIdeal.sig) → Buf (Elt Ideal) ℓ) (ρ : Dev Cert.KernelIdeal.nD → PrngReg)
    (A : Dev Cert.KernelIdeal.nD → Entry.Args) (h : Entry.Reals m A) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v34_0) = gq (A c)
      ∧ r.2.mem ((c.tc : Thread Cert.KernelIdeal.nD Cert.KernelIdeal.τ).loc Cert.KernelIdeal.main_v34_1) = gk (A c)
      ∧ r.2.mem ((c.tc : Thread Cert.KernelIdeal.nD Cert.KernelIdeal.τ).loc Cert.KernelIdeal.main_v34_2) = gv (A c)
      ∧ r.2.mem ((c.tc : Thread Cert.KernelIdeal.nD Cert.KernelIdeal.τ).loc Cert.KernelIdeal.main_v34_3) = gf (A c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono
    (fun r H c => ⟨((H c).1 7).trans (Run.arr7 m (fun c => (A c).glob) c), ((H c).1 8).trans (Run.arr8 m (fun c => (A c).glob) c),
      ((H c).1 9).trans (Run.arr9 m (fun c => (A c).glob) c), ((H c).1 10).trans (Run.arr10 m (fun c => (A c).glob) c),
      ((H c).2 Cert.KernelIdeal.main_arg0 (Pipeline.mem_restRefs_of Cert.KernelIdeal.main_arg0 (by decide) (by decide))).trans (Cert.KernelIdeal.Gen.V_main_arg0 m c),
      ((H c).2 Cert.KernelIdeal.main_arg1 (Pipeline.mem_restRefs_of Cert.KernelIdeal.main_arg1 (by decide) (by decide))).trans (Cert.KernelIdeal.Gen.V_main_arg1 m c),
      ((H c).2 Cert.KernelIdeal.main_arg2 (Pipeline.mem_restRefs_of Cert.KernelIdeal.main_arg2 (by decide) (by decide))).trans (Cert.KernelIdeal.Gen.V_main_arg2 m c),
      ((H c).2 Cert.KernelIdeal.main_arg3 (Pipeline.mem_restRefs_of Cert.KernelIdeal.main_arg3 (by decide) (by decide))).trans (Cert.KernelIdeal.Gen.V_main_arg3 m c),
      ((H c).2 Cert.KernelIdeal.main_arg4 (Pipeline.mem_restRefs_of Cert.KernelIdeal.main_arg4 (by decide) (by decide))).trans (Cert.KernelIdeal.Gen.V_main_arg4 m c)⟩)
    (Run.run_main m ρ (fun c => (A c).glob) (Entry.finds m A h))

theorem value : (letI := Cert.KernelIdeal.Gen.facts; letI := Cert.ReferenceIdeal.Gen.facts; letI := Entry.preFacts
    Cert.algebraic_KernelIdeal_ReferenceIdeal_pre_finite_arguments) := by
  letI := Cert.KernelIdeal.Gen.facts
  letI := Cert.ReferenceIdeal.Gen.facts
  letI := Entry.preFacts
  intro m g m' g' hp ha
  choose A hA using fun c => Entry.decode _ _ _ _ _ (hp c)
  refine ⟨fun c => gq (A c), fun c => gk (A c), fun c => gv (A c), fun c => gf (A c),
    kernel_run m g A ⟨fun c => (hA c).1, fun c => (hA c).2.1, fun c => (hA c).2.2.1, fun c => (hA c).2.2.2.1, fun c => (hA c).2.2.2.2⟩, ?_⟩
  refine (θ_run Cert.ReferenceIdeal.defs _ _).mono (fun r H c => ?_) (Cert.ReferenceIdeal.Value.run (F := Ideal) m' g')
  have a0 := (ha c).1.trans (hA c).1
  have a1 := (ha c).2.1.trans (hA c).2.1
  have a2 := (ha c).2.2.1.trans (hA c).2.2.1
  have a3 := (ha c).2.2.2.1.trans (hA c).2.2.2.1
  have a4 := (ha c).2.2.2.2.trans (hA c).2.2.2.2
  have e : Host.aE m' c = box (Host.ex (A c).p) := by
    unfold Host.aE Host.aS; rw [a0, a1, a3]; exact ref_e (A c)
  have d : Host.aDs m' c = box (Algebra.dr (A c)) := by
    unfold Host.aDs; rw [e, a4, a2]; exact ref_ds (A c)
  refine ⟨(H c).1.trans ?_, (H c).2.1.trans ?_, (H c).2.2.1.trans ?_, (H c).2.2.2.1.trans ?_, (H c).2.2.2.2⟩
  · rw [Host.res0, d, a1]; exact ref_q (A c)
  · rw [Host.res1, d, a0]; exact ref_k (A c)
  · rw [Host.res2, e, a4]; exact ref_v (A c)
  · rw [Host.res3, d]; exact ref_f (A c)

theorem claim : Cert.Claim := ⟨Cert.Kernel.Gen.facts, Cert.KernelIdeal.Gen.facts, Cert.ReferenceIdeal.Gen.facts,
  Cert.DownGrad.Gen.facts, Cert.DownGradIdeal.Gen.facts, Cert.DownGradRefIdeal.Gen.facts,
  Cert.DownBack.Gen.facts, Cert.DownBackIdeal.Gen.facts, Cert.DownBackRefIdeal.Gen.facts,
  Cert.UpGrad.Gen.facts, Cert.UpGradIdeal.Gen.facts, Cert.UpGradRefIdeal.Gen.facts,
  Cert.UpBackG.Gen.facts, Cert.UpBackGIdeal.Gen.facts, Cert.UpBackGRefIdeal.Gen.facts,
  Cert.UpBackV.Gen.facts, Cert.UpBackVIdeal.Gen.facts, Cert.UpBackVRefIdeal.Gen.facts,
  Cert.OddXGrad.Gen.facts, Cert.OddXGradIdeal.Gen.facts, Cert.OddXGradRefIdeal.Gen.facts,
  Cert.OddXBack.Gen.facts, Cert.OddXBackIdeal.Gen.facts, Cert.OddXBackRefIdeal.Gen.facts,
  Cert.OddOutGrad.Gen.facts, Cert.OddOutGradIdeal.Gen.facts, Cert.OddOutGradRefIdeal.Gen.facts,
  Cert.OddOutBack.Gen.facts, Cert.OddOutBackIdeal.Gen.facts, Cert.OddOutBackRefIdeal.Gen.facts,
  Cert.OddZGrad.Gen.facts, Cert.OddZGradIdeal.Gen.facts, Cert.OddZGradRefIdeal.Gen.facts,
  Cert.OddZBack.Gen.facts, Cert.OddZBackIdeal.Gen.facts, Cert.OddZBackRefIdeal.Gen.facts,
  Cert.EvenInGrad.Gen.facts, Cert.EvenInGradIdeal.Gen.facts, Cert.EvenInGradRefIdeal.Gen.facts,
  Cert.ConvBack.Gen.facts, Cert.ConvBackIdeal.Gen.facts, Cert.ConvBackRefIdeal.Gen.facts,
  Cert.QkvBack.Gen.facts, Cert.QkvBackIdeal.Gen.facts, Cert.QkvBackRefIdeal.Gen.facts,
  Cert.GateGrad.Gen.facts, Cert.GateGradIdeal.Gen.facts, Cert.GateGradRefIdeal.Gen.facts,
  Cert.GateBack.Gen.facts, Cert.GateBackIdeal.Gen.facts, Cert.GateBackRefIdeal.Gen.facts,
  Cert.ProjGrad.Gen.facts, Cert.ProjGradIdeal.Gen.facts, Cert.ProjGradRefIdeal.Gen.facts,
  Cert.EvenOutBack.Gen.facts, Cert.EvenOutBackIdeal.Gen.facts, Cert.EvenOutBackRefIdeal.Gen.facts,
  Cert.FfnUp.Gen.facts, Cert.FfnUpIdeal.Gen.facts, Cert.FfnUpRefIdeal.Gen.facts,
  Cert.FfnDown.Gen.facts, Cert.FfnDownIdeal.Gen.facts, Cert.FfnDownRefIdeal.Gen.facts,
  Cert.OddX.Gen.facts, Cert.OddXIdeal.Gen.facts, Cert.OddXRefIdeal.Gen.facts,
  Cert.OddZ.Gen.facts, Cert.OddZIdeal.Gen.facts, Cert.OddZRefIdeal.Gen.facts,
  Cert.OddOut.Gen.facts, Cert.OddOutIdeal.Gen.facts, Cert.OddOutRefIdeal.Gen.facts,
  Cert.EvenConv.Gen.facts, Cert.EvenConvIdeal.Gen.facts, Cert.EvenConvRefIdeal.Gen.facts,
  Cert.EvenQkv.Gen.facts, Cert.EvenQkvIdeal.Gen.facts, Cert.EvenQkvRefIdeal.Gen.facts,
  Cert.PleGate.Gen.facts, Cert.PleGateIdeal.Gen.facts, Cert.PleGateRefIdeal.Gen.facts,
  Cert.PleProj.Gen.facts, Cert.PleProjIdeal.Gen.facts, Cert.PleProjRefIdeal.Gen.facts,
  Cert.AdamEvenIn.Gen.facts, Cert.AdamEvenInIdeal.Gen.facts, Cert.AdamEvenInRefIdeal.Gen.facts,
  Cert.AdamEvenOut.Gen.facts, Cert.AdamEvenOutIdeal.Gen.facts, Cert.AdamEvenOutRefIdeal.Gen.facts,
  Cert.AdamOddIn.Gen.facts, Cert.AdamOddInIdeal.Gen.facts, Cert.AdamOddInRefIdeal.Gen.facts,
  Cert.AdamOddOut.Gen.facts, Cert.AdamOddOutIdeal.Gen.facts, Cert.AdamOddOutRefIdeal.Gen.facts,
  Cert.AdamFfnUp.Gen.facts, Cert.AdamFfnUpIdeal.Gen.facts, Cert.AdamFfnUpRefIdeal.Gen.facts,
  Cert.AdamFfnDown.Gen.facts, Cert.AdamFfnDownIdeal.Gen.facts, Cert.AdamFfnDownRefIdeal.Gen.facts,
  Cert.AdamPleProj.Gen.facts, Cert.AdamPleProjIdeal.Gen.facts, Cert.AdamPleProjRefIdeal.Gen.facts,
  Cert.AdamSmall.Gen.facts, Cert.AdamSmallIdeal.Gen.facts, Cert.AdamSmallRefIdeal.Gen.facts,
  Entry.preFacts,
  fun m ρ _ => Cert.Proof.KernelFrame.frame m ρ,
  fun m ρ _ => Cert.Proof.KernelIdealFrame.frame m ρ,
  fun m ρ _ => Cert.Proof.KernelIdealFrame.frame m ρ,
  reference_frame,
  fun m ρ _ => reference_frame m ρ trivial,
  fun m ρ _ => Cert.DownGrad.Gen.frame m ρ, fun m ρ _ => Cert.DownGradIdeal.Gen.frame m ρ, DownGrad.reference_frame,
  fun m ρ _ => Cert.DownBack.Gen.frame m ρ, fun m ρ _ => Cert.DownBackIdeal.Gen.frame m ρ, DownBack.reference_frame,
  fun m ρ _ => Cert.UpGrad.Gen.frame m ρ, fun m ρ _ => Cert.UpGradIdeal.Gen.frame m ρ, UpGrad.reference_frame,
  fun m ρ _ => Cert.UpBackG.Gen.frame m ρ, fun m ρ _ => Cert.UpBackGIdeal.Gen.frame m ρ, UpBackG.reference_frame,
  fun m ρ _ => Cert.UpBackV.Gen.frame m ρ, fun m ρ _ => Cert.UpBackVIdeal.Gen.frame m ρ, UpBackV.reference_frame,
  fun m ρ _ => Cert.OddXGrad.Gen.frame m ρ, fun m ρ _ => Cert.OddXGradIdeal.Gen.frame m ρ, OddXGrad.reference_frame,
  fun m ρ _ => Cert.OddXBack.Gen.frame m ρ, fun m ρ _ => Cert.OddXBackIdeal.Gen.frame m ρ, OddXBack.reference_frame,
  fun m ρ _ => Cert.OddOutGrad.Gen.frame m ρ, fun m ρ _ => Cert.OddOutGradIdeal.Gen.frame m ρ, OddOutGrad.reference_frame,
  fun m ρ _ => Cert.OddOutBack.Gen.frame m ρ, fun m ρ _ => Cert.OddOutBackIdeal.Gen.frame m ρ, OddOutBack.reference_frame,
  fun m ρ _ => Cert.OddZGrad.Gen.frame m ρ, fun m ρ _ => Cert.OddZGradIdeal.Gen.frame m ρ, OddZGrad.reference_frame,
  fun m ρ _ => Cert.OddZBack.Gen.frame m ρ, fun m ρ _ => Cert.OddZBackIdeal.Gen.frame m ρ, OddZBack.reference_frame,
  fun m ρ _ => Cert.EvenInGrad.Gen.frame m ρ, fun m ρ _ => Cert.EvenInGradIdeal.Gen.frame m ρ, EvenInGrad.reference_frame,
  fun m ρ _ => Cert.ConvBack.Gen.frame m ρ, fun m ρ _ => Cert.ConvBackIdeal.Gen.frame m ρ, ConvBack.reference_frame,
  fun m ρ _ => Cert.QkvBack.Gen.frame m ρ, fun m ρ _ => Cert.QkvBackIdeal.Gen.frame m ρ, QkvBack.reference_frame,
  fun m ρ _ => Cert.GateGrad.Gen.frame m ρ, fun m ρ _ => Cert.GateGradIdeal.Gen.frame m ρ, GateGrad.reference_frame,
  fun m ρ _ => Cert.GateBack.Gen.frame m ρ, fun m ρ _ => Cert.GateBackIdeal.Gen.frame m ρ, GateBack.reference_frame,
  fun m ρ _ => Cert.ProjGrad.Gen.frame m ρ, fun m ρ _ => Cert.ProjGradIdeal.Gen.frame m ρ, ProjGrad.reference_frame,
  fun m ρ _ => Cert.EvenOutBack.Gen.frame m ρ, fun m ρ _ => Cert.EvenOutBackIdeal.Gen.frame m ρ, EvenOutBack.reference_frame,
  fun m ρ _ => Cert.FfnUp.Gen.frame m ρ, fun m ρ _ => Cert.FfnUpIdeal.Gen.frame m ρ, FfnUp.reference_frame,
  fun m ρ _ => Cert.FfnDown.Gen.frame m ρ, fun m ρ _ => Cert.FfnDownIdeal.Gen.frame m ρ, FfnDown.reference_frame,
  fun m ρ _ => Cert.OddX.Gen.frame m ρ, fun m ρ _ => Cert.OddXIdeal.Gen.frame m ρ, OddX.reference_frame,
  fun m ρ _ => Cert.OddZ.Gen.frame m ρ, fun m ρ _ => Cert.OddZIdeal.Gen.frame m ρ, OddZ.reference_frame,
  fun m ρ _ => Cert.OddOut.Gen.frame m ρ, fun m ρ _ => Cert.OddOutIdeal.Gen.frame m ρ, OddOut.reference_frame,
  fun m ρ _ => Cert.EvenConv.Gen.frame m ρ, fun m ρ _ => Cert.EvenConvIdeal.Gen.frame m ρ, EvenConv.reference_frame,
  fun m ρ _ => Cert.EvenQkv.Gen.frame m ρ, fun m ρ _ => Cert.EvenQkvIdeal.Gen.frame m ρ, EvenQkv.reference_frame,
  fun m ρ _ => Cert.PleGate.Gen.frame m ρ, fun m ρ _ => Cert.PleGateIdeal.Gen.frame m ρ, PleGate.reference_frame,
  fun m ρ _ => Cert.PleProj.Gen.frame m ρ, fun m ρ _ => Cert.PleProjIdeal.Gen.frame m ρ, PleProj.reference_frame,
  fun m ρ _ => Cert.AdamEvenIn.Gen.frame m ρ, fun m ρ _ => Cert.AdamEvenInIdeal.Gen.frame m ρ, AdamEvenIn.reference_frame,
  fun m ρ _ => Cert.AdamEvenOut.Gen.frame m ρ, fun m ρ _ => Cert.AdamEvenOutIdeal.Gen.frame m ρ, AdamEvenOut.reference_frame,
  fun m ρ _ => Cert.AdamOddIn.Gen.frame m ρ, fun m ρ _ => Cert.AdamOddInIdeal.Gen.frame m ρ, AdamOddIn.reference_frame,
  fun m ρ _ => Cert.AdamOddOut.Gen.frame m ρ, fun m ρ _ => Cert.AdamOddOutIdeal.Gen.frame m ρ, AdamOddOut.reference_frame,
  fun m ρ _ => Cert.AdamFfnUp.Gen.frame m ρ, fun m ρ _ => Cert.AdamFfnUpIdeal.Gen.frame m ρ, AdamFfnUp.reference_frame,
  fun m ρ _ => Cert.AdamFfnDown.Gen.frame m ρ, fun m ρ _ => Cert.AdamFfnDownIdeal.Gen.frame m ρ, AdamFfnDown.reference_frame,
  fun m ρ _ => Cert.AdamPleProj.Gen.frame m ρ, fun m ρ _ => Cert.AdamPleProjIdeal.Gen.frame m ρ, AdamPleProj.reference_frame,
  fun m ρ _ => Cert.AdamSmall.Gen.frame m ρ, fun m ρ _ => Cert.AdamSmallIdeal.Gen.frame m ρ, AdamSmall.reference_frame,
  IdealRules.named_const.statement Cert.KernelIdeal.κ "mask" .f32 0xF149F2CA#32 ⊥ rfl,
  value,
  trivial, DownGrad.value,
  trivial, DownBack.value,
  trivial, UpGrad.value,
  trivial, UpBackG.value,
  trivial, UpBackV.value,
  trivial, OddXGrad.value,
  trivial, OddXBack.value,
  trivial, OddOutGrad.value,
  trivial, OddOutBack.value,
  trivial, OddZGrad.value,
  trivial, OddZBack.value,
  trivial, EvenInGrad.value,
  trivial, ConvBack.value,
  trivial, QkvBack.value,
  trivial, GateGrad.value,
  trivial, GateBack.value,
  trivial, ProjGrad.value,
  trivial, EvenOutBack.value,
  trivial, FfnUp.value,
  trivial, FfnDown.value,
  trivial, OddX.value,
  trivial, OddZ.value,
  trivial, OddOut.value,
  trivial, EvenConv.value,
  trivial, EvenQkv.value,
  trivial, PleGate.value,
  trivial, PleProj.value,
  AdamEvenIn.names, AdamEvenIn.value,
  AdamEvenOut.names, AdamEvenOut.value,
  AdamOddIn.names, AdamOddIn.value,
  AdamOddOut.names, AdamOddOut.value,
  AdamFfnUp.names, AdamFfnUp.value,
  AdamFfnDown.names, AdamFfnDown.value,
  AdamPleProj.names, AdamPleProj.value,
  AdamSmall.names, AdamSmall.value⟩

end Cert.Proof

end
